-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_dact [hPre_finite_dact : Cert.Pre_finite_dact.Facts] (m : (ℓ : Loc Cert.DactIdeal.nD Cert.DactIdeal.τ Cert.DactIdeal.sig) → Buf (Elt Ideal) ℓ) : Prop :=
  ∀ c : Dev Cert.DactIdeal.nD,
    (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))) = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_finite_dact [hPre_finite_dact : Cert.Pre_finite_dact.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))) = (fun _ => 1#1)

def Pre_Df (m : (ℓ : Loc Cert.Df.nD Cert.Df.τ Cert.Df.sig) → Buf (Elt Bits) ℓ) : Prop :=
  True

def Pre_DfIdeal (m : (ℓ : Loc Cert.DfIdeal.nD Cert.DfIdeal.τ Cert.DfIdeal.sig) → Buf (Elt Ideal) ℓ) : Prop :=
  True

def Pre_DfRefIdeal (m : (ℓ : Loc Cert.DfRefIdeal.nD Cert.DfRefIdeal.τ Cert.DfRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwPgate (m : (ℓ : Loc Cert.DwPgate.nD Cert.DwPgate.τ Cert.DwPgate.sig) → Buf (Elt Bits) ℓ) : Prop :=
  True

def Pre_DwPgateIdeal (m : (ℓ : Loc Cert.DwPgateIdeal.nD Cert.DwPgateIdeal.τ Cert.DwPgateIdeal.sig) → Buf (Elt Ideal) ℓ) : Prop :=
  True

def Pre_DwPgateRefIdeal (m : (ℓ : Loc Cert.DwPgateRefIdeal.nD Cert.DwPgateRefIdeal.τ Cert.DwPgateRefIdeal.sig) → Buf (Elt Ideal) ℓ) : Prop :=
  True

def Pre_DwPle (m : (ℓ : Loc Cert.DwPle.nD Cert.DwPle.τ Cert.DwPle.sig) → Buf (Elt Bits) ℓ) : Prop :=
  True

def Pre_DwPleIdeal (m : (ℓ : Loc Cert.DwPleIdeal.nD Cert.DwPleIdeal.τ Cert.DwPleIdeal.sig) → Buf (Elt Ideal) ℓ) : Prop :=
  True

def Pre_DwPleRefIdeal (m : (ℓ : Loc Cert.DwPleRefIdeal.nD Cert.DwPleRefIdeal.τ Cert.DwPleRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatRefIdeal (m : (ℓ : Loc Cert.DcatRefIdeal.nD Cert.DcatRefIdeal.τ Cert.DcatRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmGateUp (m : (ℓ : Loc Cert.MmGateUp.nD Cert.MmGateUp.τ Cert.MmGateUp.sig) → Buf (Elt Bits) ℓ) : Prop :=
  True

def Pre_MmGateUpIdeal (m : (ℓ : Loc Cert.MmGateUpIdeal.nD Cert.MmGateUpIdeal.τ Cert.MmGateUpIdeal.sig) → Buf (Elt Ideal) ℓ) : Prop :=
  True

def Pre_MmGateUpRefIdeal (m : (ℓ : Loc Cert.MmGateUpRefIdeal.nD Cert.MmGateUpRefIdeal.τ Cert.MmGateUpRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleRefIdeal (m : (ℓ : Loc Cert.AdamPleRefIdeal.nD Cert.AdamPleRefIdeal.τ Cert.AdamPleRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamHalf (m : (ℓ : Loc Cert.AdamHalf.nD Cert.AdamHalf.τ Cert.AdamHalf.sig) → Buf (Elt Bits) ℓ) : Prop :=
  True

def Pre_AdamHalfIdeal (m : (ℓ : Loc Cert.AdamHalfIdeal.nD Cert.AdamHalfIdeal.τ Cert.AdamHalfIdeal.sig) → Buf (Elt Ideal) ℓ) : Prop :=
  True

def Pre_AdamHalfRefIdeal (m : (ℓ : Loc Cert.AdamHalfRefIdeal.nD Cert.AdamHalfRefIdeal.τ Cert.AdamHalfRefIdeal.sig) → Buf (Elt Ideal) ℓ) : Prop :=
  True

def Pre_AdamDw (m : (ℓ : Loc Cert.AdamDw.nD Cert.AdamDw.τ Cert.AdamDw.sig) → Buf (Elt Bits) ℓ) : Prop :=
  True

def Pre_AdamDwIdeal (m : (ℓ : Loc Cert.AdamDwIdeal.nD Cert.AdamDwIdeal.τ Cert.AdamDwIdeal.sig) → Buf (Elt Ideal) ℓ) : Prop :=
  True

def Pre_AdamDwRefIdeal (m : (ℓ : Loc Cert.AdamDwRefIdeal.nD Cert.AdamDwRefIdeal.τ Cert.AdamDwRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_finite_dact [hDactIdeal : Cert.DactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_dact m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_finite_dact [hDactRefIdeal : Cert.DactRefIdeal.Facts] [hPre_finite_dact : Cert.Pre_finite_dact.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_finite_dact m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Df [hDf : Cert.Df.Facts] : Prop :=
  ∀ (m : (ℓ : Loc Cert.Df.nD Cert.Df.τ Cert.Df.sig) → Buf (Elt Bits) ℓ) (g : Dev Cert.Df.nD → PrngReg), Pre_Df m →
    θ_run (Cert.Df.defs (F := Bits)) (onTc (τ := Cert.Df.τ) (Cert.Df.main (F := Bits))) ⟨m, fun _ => 0, g⟩ (fun r => (∀ c : Dev Cert.Df.nD,
      r.2.mem ((c.tc : Thread Cert.Df.nD Cert.Df.τ).loc Cert.Df.main_arg0) = m ((c.tc : Thread Cert.Df.nD Cert.Df.τ).loc Cert.Df.main_arg0)
      ∧ r.2.mem ((c.tc : Thread Cert.Df.nD Cert.Df.τ).loc Cert.Df.main_arg1) = m ((c.tc : Thread Cert.Df.nD Cert.Df.τ).loc Cert.Df.main_arg1)
      ∧ r.2.mem ((c.tc : Thread Cert.Df.nD Cert.Df.τ).loc Cert.Df.main_arg2) = m ((c.tc : Thread Cert.Df.nD Cert.Df.τ).loc Cert.Df.main_arg2)
      ∧ r.2.mem ((c.tc : Thread Cert.Df.nD Cert.Df.τ).loc Cert.Df.main_arg3) = m ((c.tc : Thread Cert.Df.nD Cert.Df.τ).loc Cert.Df.main_arg3))
      ∧ r.2.sem = fun _ => 0)

def quiescent_DfIdeal [hDfIdeal : Cert.DfIdeal.Facts] : Prop :=
  ∀ (m : (ℓ : Loc Cert.DfIdeal.nD Cert.DfIdeal.τ Cert.DfIdeal.sig) → Buf (Elt Ideal) ℓ) (g : Dev Cert.DfIdeal.nD → PrngReg), Pre_DfIdeal m →
    θ_run (Cert.DfIdeal.defs (F := Ideal)) (onTc (τ := Cert.DfIdeal.τ) (Cert.DfIdeal.main (F := Ideal))) ⟨m, fun _ => 0, g⟩ (fun r => (∀ c : Dev Cert.DfIdeal.nD,
      r.2.mem ((c.tc : Thread Cert.DfIdeal.nD Cert.DfIdeal.τ).loc Cert.DfIdeal.main_arg0) = m ((c.tc : Thread Cert.DfIdeal.nD Cert.DfIdeal.τ).loc Cert.DfIdeal.main_arg0)
      ∧ r.2.mem ((c.tc : Thread Cert.DfIdeal.nD Cert.DfIdeal.τ).loc Cert.DfIdeal.main_arg1) = m ((c.tc : Thread Cert.DfIdeal.nD Cert.DfIdeal.τ).loc Cert.DfIdeal.main_arg1)
      ∧ r.2.mem ((c.tc : Thread Cert.DfIdeal.nD Cert.DfIdeal.τ).loc Cert.DfIdeal.main_arg2) = m ((c.tc : Thread Cert.DfIdeal.nD Cert.DfIdeal.τ).loc Cert.DfIdeal.main_arg2)
      ∧ r.2.mem ((c.tc : Thread Cert.DfIdeal.nD Cert.DfIdeal.τ).loc Cert.DfIdeal.main_arg3) = m ((c.tc : Thread Cert.DfIdeal.nD Cert.DfIdeal.τ).loc Cert.DfIdeal.main_arg3))
      ∧ r.2.sem = fun _ => 0)

def quiescent_DfRefIdeal [hDfRefIdeal : Cert.DfRefIdeal.Facts] : Prop :=
  ∀ (m : (ℓ : Loc Cert.DfRefIdeal.nD Cert.DfRefIdeal.τ Cert.DfRefIdeal.sig) → Buf (Elt Ideal) ℓ) (g : Dev Cert.DfRefIdeal.nD → PrngReg), Pre_DfRefIdeal m →
    θ_run (Cert.DfRefIdeal.defs (F := Ideal)) (onTc (τ := Cert.DfRefIdeal.τ) (Cert.DfRefIdeal.main (F := Ideal))) ⟨m, fun _ => 0, g⟩ (fun r => (∀ c : Dev Cert.DfRefIdeal.nD,
      r.2.mem ((c.tc : Thread Cert.DfRefIdeal.nD Cert.DfRefIdeal.τ).loc Cert.DfRefIdeal.main_arg0) = m ((c.tc : Thread Cert.DfRefIdeal.nD Cert.DfRefIdeal.τ).loc Cert.DfRefIdeal.main_arg0)
      ∧ r.2.mem ((c.tc : Thread Cert.DfRefIdeal.nD Cert.DfRefIdeal.τ).loc Cert.DfRefIdeal.main_arg1) = m ((c.tc : Thread Cert.DfRefIdeal.nD Cert.DfRefIdeal.τ).loc Cert.DfRefIdeal.main_arg1)
      ∧ r.2.mem ((c.tc : Thread Cert.DfRefIdeal.nD Cert.DfRefIdeal.τ).loc Cert.DfRefIdeal.main_arg2) = m ((c.tc : Thread Cert.DfRefIdeal.nD Cert.DfRefIdeal.τ).loc Cert.DfRefIdeal.main_arg2)
      ∧ r.2.mem ((c.tc : Thread Cert.DfRefIdeal.nD Cert.DfRefIdeal.τ).loc Cert.DfRefIdeal.main_arg3) = m ((c.tc : Thread Cert.DfRefIdeal.nD Cert.DfRefIdeal.τ).loc Cert.DfRefIdeal.main_arg3))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwPgate [hDwPgate : Cert.DwPgate.Facts] : Prop :=
  ∀ (m : (ℓ : Loc Cert.DwPgate.nD Cert.DwPgate.τ Cert.DwPgate.sig) → Buf (Elt Bits) ℓ) (g : Dev Cert.DwPgate.nD → PrngReg), Pre_DwPgate m →
    θ_run (Cert.DwPgate.defs (F := Bits)) (onTc (τ := Cert.DwPgate.τ) (Cert.DwPgate.main (F := Bits))) ⟨m, fun _ => 0, g⟩ (fun r => (∀ c : Dev Cert.DwPgate.nD,
      r.2.mem ((c.tc : Thread Cert.DwPgate.nD Cert.DwPgate.τ).loc Cert.DwPgate.main_arg0) = m ((c.tc : Thread Cert.DwPgate.nD Cert.DwPgate.τ).loc Cert.DwPgate.main_arg0)
      ∧ r.2.mem ((c.tc : Thread Cert.DwPgate.nD Cert.DwPgate.τ).loc Cert.DwPgate.main_arg1) = m ((c.tc : Thread Cert.DwPgate.nD Cert.DwPgate.τ).loc Cert.DwPgate.main_arg1))
      ∧ r.2.sem = fun _ => 0)

def quiescent_DwPgateIdeal [hDwPgateIdeal : Cert.DwPgateIdeal.Facts] : Prop :=
  ∀ (m : (ℓ : Loc Cert.DwPgateIdeal.nD Cert.DwPgateIdeal.τ Cert.DwPgateIdeal.sig) → Buf (Elt Ideal) ℓ) (g : Dev Cert.DwPgateIdeal.nD → PrngReg), Pre_DwPgateIdeal m →
    θ_run (Cert.DwPgateIdeal.defs (F := Ideal)) (onTc (τ := Cert.DwPgateIdeal.τ) (Cert.DwPgateIdeal.main (F := Ideal))) ⟨m, fun _ => 0, g⟩ (fun r => (∀ c : Dev Cert.DwPgateIdeal.nD,
      r.2.mem ((c.tc : Thread Cert.DwPgateIdeal.nD Cert.DwPgateIdeal.τ).loc Cert.DwPgateIdeal.main_arg0) = m ((c.tc : Thread Cert.DwPgateIdeal.nD Cert.DwPgateIdeal.τ).loc Cert.DwPgateIdeal.main_arg0)
      ∧ r.2.mem ((c.tc : Thread Cert.DwPgateIdeal.nD Cert.DwPgateIdeal.τ).loc Cert.DwPgateIdeal.main_arg1) = m ((c.tc : Thread Cert.DwPgateIdeal.nD Cert.DwPgateIdeal.τ).loc Cert.DwPgateIdeal.main_arg1))
      ∧ r.2.sem = fun _ => 0)

def quiescent_DwPgateRefIdeal [hDwPgateRefIdeal : Cert.DwPgateRefIdeal.Facts] : Prop :=
  ∀ (m : (ℓ : Loc Cert.DwPgateRefIdeal.nD Cert.DwPgateRefIdeal.τ Cert.DwPgateRefIdeal.sig) → Buf (Elt Ideal) ℓ) (g : Dev Cert.DwPgateRefIdeal.nD → PrngReg), Pre_DwPgateRefIdeal m →
    θ_run (Cert.DwPgateRefIdeal.defs (F := Ideal)) (onTc (τ := Cert.DwPgateRefIdeal.τ) (Cert.DwPgateRefIdeal.main (F := Ideal))) ⟨m, fun _ => 0, g⟩ (fun r => (∀ c : Dev Cert.DwPgateRefIdeal.nD,
      r.2.mem ((c.tc : Thread Cert.DwPgateRefIdeal.nD Cert.DwPgateRefIdeal.τ).loc Cert.DwPgateRefIdeal.main_arg0) = m ((c.tc : Thread Cert.DwPgateRefIdeal.nD Cert.DwPgateRefIdeal.τ).loc Cert.DwPgateRefIdeal.main_arg0)
      ∧ r.2.mem ((c.tc : Thread Cert.DwPgateRefIdeal.nD Cert.DwPgateRefIdeal.τ).loc Cert.DwPgateRefIdeal.main_arg1) = m ((c.tc : Thread Cert.DwPgateRefIdeal.nD Cert.DwPgateRefIdeal.τ).loc Cert.DwPgateRefIdeal.main_arg1))
      ∧ r.2.sem = fun _ => 0)

def quiescent_DwPle [hDwPle : Cert.DwPle.Facts] : Prop :=
  ∀ (m : (ℓ : Loc Cert.DwPle.nD Cert.DwPle.τ Cert.DwPle.sig) → Buf (Elt Bits) ℓ) (g : Dev Cert.DwPle.nD → PrngReg), Pre_DwPle m →
    θ_run (Cert.DwPle.defs (F := Bits)) (onTc (τ := Cert.DwPle.τ) (Cert.DwPle.main (F := Bits))) ⟨m, fun _ => 0, g⟩ (fun r => (∀ c : Dev Cert.DwPle.nD,
      r.2.mem ((c.tc : Thread Cert.DwPle.nD Cert.DwPle.τ).loc Cert.DwPle.main_arg0) = m ((c.tc : Thread Cert.DwPle.nD Cert.DwPle.τ).loc Cert.DwPle.main_arg0)
      ∧ r.2.mem ((c.tc : Thread Cert.DwPle.nD Cert.DwPle.τ).loc Cert.DwPle.main_arg1) = m ((c.tc : Thread Cert.DwPle.nD Cert.DwPle.τ).loc Cert.DwPle.main_arg1))
      ∧ r.2.sem = fun _ => 0)

def quiescent_DwPleIdeal [hDwPleIdeal : Cert.DwPleIdeal.Facts] : Prop :=
  ∀ (m : (ℓ : Loc Cert.DwPleIdeal.nD Cert.DwPleIdeal.τ Cert.DwPleIdeal.sig) → Buf (Elt Ideal) ℓ) (g : Dev Cert.DwPleIdeal.nD → PrngReg), Pre_DwPleIdeal m →
    θ_run (Cert.DwPleIdeal.defs (F := Ideal)) (onTc (τ := Cert.DwPleIdeal.τ) (Cert.DwPleIdeal.main (F := Ideal))) ⟨m, fun _ => 0, g⟩ (fun r => (∀ c : Dev Cert.DwPleIdeal.nD,
      r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
      ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ r.2.sem = fun _ => 0)

def quiescent_DwPleRefIdeal [hDwPleRefIdeal : Cert.DwPleRefIdeal.Facts] : Prop :=
  ∀ (m : (ℓ : Loc Cert.DwPleRefIdeal.nD Cert.DwPleRefIdeal.τ Cert.DwPleRefIdeal.sig) → Buf (Elt Ideal) ℓ) (g : Dev Cert.DwPleRefIdeal.nD → PrngReg), Pre_DwPleRefIdeal m →
    θ_run (Cert.DwPleRefIdeal.defs (F := Ideal)) (onTc (τ := Cert.DwPleRefIdeal.τ) (Cert.DwPleRefIdeal.main (F := Ideal))) ⟨m, fun _ => 0, g⟩ (fun r => (∀ c : Dev Cert.DwPleRefIdeal.nD,
      r.2.mem ((c.tc : Thread Cert.DwPleRefIdeal.nD Cert.DwPleRefIdeal.τ).loc Cert.DwPleRefIdeal.main_arg0) = m ((c.tc : Thread Cert.DwPleRefIdeal.nD Cert.DwPleRefIdeal.τ).loc Cert.DwPleRefIdeal.main_arg0)
      ∧ r.2.mem ((c.tc : Thread Cert.DwPleRefIdeal.nD Cert.DwPleRefIdeal.τ).loc Cert.DwPleRefIdeal.main_arg1) = m ((c.tc : Thread Cert.DwPleRefIdeal.nD Cert.DwPleRefIdeal.τ).loc Cert.DwPleRefIdeal.main_arg1))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatRefIdeal [hDcatRefIdeal : Cert.DcatRefIdeal.Facts] : Prop :=
  ∀ (m : (ℓ : Loc Cert.DcatRefIdeal.nD Cert.DcatRefIdeal.τ Cert.DcatRefIdeal.sig) → Buf (Elt Ideal) ℓ) (g : Dev Cert.DcatRefIdeal.nD → PrngReg), Pre_DcatRefIdeal m →
    θ_run (Cert.DcatRefIdeal.defs (F := Ideal)) (onTc (τ := Cert.DcatRefIdeal.τ) (Cert.DcatRefIdeal.main (F := Ideal))) ⟨m, fun _ => 0, g⟩ (fun r => (∀ c : Dev Cert.DcatRefIdeal.nD,
      r.2.mem ((c.tc : Thread Cert.DcatRefIdeal.nD Cert.DcatRefIdeal.τ).loc Cert.DcatRefIdeal.main_arg0) = m ((c.tc : Thread Cert.DcatRefIdeal.nD Cert.DcatRefIdeal.τ).loc Cert.DcatRefIdeal.main_arg0)
      ∧ r.2.mem ((c.tc : Thread Cert.DcatRefIdeal.nD Cert.DcatRefIdeal.τ).loc Cert.DcatRefIdeal.main_arg1) = m ((c.tc : Thread Cert.DcatRefIdeal.nD Cert.DcatRefIdeal.τ).loc Cert.DcatRefIdeal.main_arg1))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2)
      ∧ r.2.mem ((c.tc : Thread Cert.MmOut.nD Cert.MmOut.τ).loc Cert.MmOut.main_arg3) = m ((c.tc : Thread Cert.MmOut.nD Cert.MmOut.τ).loc Cert.MmOut.main_arg3))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
      ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2)
      ∧ r.2.mem ((c.tc : Thread Cert.MmOutRefIdeal.nD Cert.MmOutRefIdeal.τ).loc Cert.MmOutRefIdeal.main_arg3) = m ((c.tc : Thread Cert.MmOutRefIdeal.nD Cert.MmOutRefIdeal.τ).loc Cert.MmOutRefIdeal.main_arg3))
      ∧ r.2.sem = fun _ => 0)

def quiescent_MmGateUp [hMmGateUp : Cert.MmGateUp.Facts] : Prop :=
  ∀ (m : (ℓ : Loc Cert.MmGateUp.nD Cert.MmGateUp.τ Cert.MmGateUp.sig) → Buf (Elt Bits) ℓ) (g : Dev Cert.MmGateUp.nD → PrngReg), Pre_MmGateUp m →
    θ_run (Cert.MmGateUp.defs (F := Bits)) (onTc (τ := Cert.MmGateUp.τ) (Cert.MmGateUp.main (F := Bits))) ⟨m, fun _ => 0, g⟩ (fun r => (∀ c : Dev Cert.MmGateUp.nD,
      r.2.mem ((c.tc : Thread Cert.MmGateUp.nD Cert.MmGateUp.τ).loc Cert.MmGateUp.main_arg0) = m ((c.tc : Thread Cert.MmGateUp.nD Cert.MmGateUp.τ).loc Cert.MmGateUp.main_arg0)
      ∧ r.2.mem ((c.tc : Thread Cert.MmGateUp.nD Cert.MmGateUp.τ).loc Cert.MmGateUp.main_arg1) = m ((c.tc : Thread Cert.MmGateUp.nD Cert.MmGateUp.τ).loc Cert.MmGateUp.main_arg1)
      ∧ r.2.mem ((c.tc : Thread Cert.MmGateUp.nD Cert.MmGateUp.τ).loc Cert.MmGateUp.main_arg2) = m ((c.tc : Thread Cert.MmGateUp.nD Cert.MmGateUp.τ).loc Cert.MmGateUp.main_arg2))
      ∧ r.2.sem = fun _ => 0)

def quiescent_MmGateUpIdeal [hMmGateUpIdeal : Cert.MmGateUpIdeal.Facts] : Prop :=
  ∀ (m : (ℓ : Loc Cert.MmGateUpIdeal.nD Cert.MmGateUpIdeal.τ Cert.MmGateUpIdeal.sig) → Buf (Elt Ideal) ℓ) (g : Dev Cert.MmGateUpIdeal.nD → PrngReg), Pre_MmGateUpIdeal m →
    θ_run (Cert.MmGateUpIdeal.defs (F := Ideal)) (onTc (τ := Cert.MmGateUpIdeal.τ) (Cert.MmGateUpIdeal.main (F := Ideal))) ⟨m, fun _ => 0, g⟩ (fun r => (∀ c : Dev Cert.MmGateUpIdeal.nD,
      r.2.mem ((c.tc : Thread Cert.MmGateUpIdeal.nD Cert.MmGateUpIdeal.τ).loc Cert.MmGateUpIdeal.main_arg0) = m ((c.tc : Thread Cert.MmGateUpIdeal.nD Cert.MmGateUpIdeal.τ).loc Cert.MmGateUpIdeal.main_arg0)
      ∧ r.2.mem ((c.tc : Thread Cert.MmGateUpIdeal.nD Cert.MmGateUpIdeal.τ).loc Cert.MmGateUpIdeal.main_arg1) = m ((c.tc : Thread Cert.MmGateUpIdeal.nD Cert.MmGateUpIdeal.τ).loc Cert.MmGateUpIdeal.main_arg1)
      ∧ r.2.mem ((c.tc : Thread Cert.MmGateUpIdeal.nD Cert.MmGateUpIdeal.τ).loc Cert.MmGateUpIdeal.main_arg2) = m ((c.tc : Thread Cert.MmGateUpIdeal.nD Cert.MmGateUpIdeal.τ).loc Cert.MmGateUpIdeal.main_arg2))
      ∧ r.2.sem = fun _ => 0)

def quiescent_MmGateUpRefIdeal [hMmGateUpRefIdeal : Cert.MmGateUpRefIdeal.Facts] : Prop :=
  ∀ (m : (ℓ : Loc Cert.MmGateUpRefIdeal.nD Cert.MmGateUpRefIdeal.τ Cert.MmGateUpRefIdeal.sig) → Buf (Elt Ideal) ℓ) (g : Dev Cert.MmGateUpRefIdeal.nD → PrngReg), Pre_MmGateUpRefIdeal m →
    θ_run (Cert.MmGateUpRefIdeal.defs (F := Ideal)) (onTc (τ := Cert.MmGateUpRefIdeal.τ) (Cert.MmGateUpRefIdeal.main (F := Ideal))) ⟨m, fun _ => 0, g⟩ (fun r => (∀ c : Dev Cert.MmGateUpRefIdeal.nD,
      r.2.mem ((c.tc : Thread Cert.MmGateUpRefIdeal.nD Cert.MmGateUpRefIdeal.τ).loc Cert.MmGateUpRefIdeal.main_arg0) = m ((c.tc : Thread Cert.MmGateUpRefIdeal.nD Cert.MmGateUpRefIdeal.τ).loc Cert.MmGateUpRefIdeal.main_arg0)
      ∧ r.2.mem ((c.tc : Thread Cert.MmGateUpRefIdeal.nD Cert.MmGateUpRefIdeal.τ).loc Cert.MmGateUpRefIdeal.main_arg1) = m ((c.tc : Thread Cert.MmGateUpRefIdeal.nD Cert.MmGateUpRefIdeal.τ).loc Cert.MmGateUpRefIdeal.main_arg1)
      ∧ r.2.mem ((c.tc : Thread Cert.MmGateUpRefIdeal.nD Cert.MmGateUpRefIdeal.τ).loc Cert.MmGateUpRefIdeal.main_arg2) = m ((c.tc : Thread Cert.MmGateUpRefIdeal.nD Cert.MmGateUpRefIdeal.τ).loc Cert.MmGateUpRefIdeal.main_arg2))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1)
      ∧ r.2.mem ((c.tc : Thread Cert.MmDownRefIdeal.nD Cert.MmDownRefIdeal.τ).loc Cert.MmDownRefIdeal.main_arg2) = m ((c.tc : Thread Cert.MmDownRefIdeal.nD Cert.MmDownRefIdeal.τ).loc Cert.MmDownRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ r.2.sem = fun _ => 0)

def quiescent_AdamPleRefIdeal [hAdamPleRefIdeal : Cert.AdamPleRefIdeal.Facts] : Prop :=
  ∀ (m : (ℓ : Loc Cert.AdamPleRefIdeal.nD Cert.AdamPleRefIdeal.τ Cert.AdamPleRefIdeal.sig) → Buf (Elt Ideal) ℓ) (g : Dev Cert.AdamPleRefIdeal.nD → PrngReg), Pre_AdamPleRefIdeal m →
    θ_run (Cert.AdamPleRefIdeal.defs (F := Ideal)) (onTc (τ := Cert.AdamPleRefIdeal.τ) (Cert.AdamPleRefIdeal.main (F := Ideal))) ⟨m, fun _ => 0, g⟩ (fun r => (∀ c : Dev Cert.AdamPleRefIdeal.nD,
      r.2.mem ((c.tc : Thread Cert.AdamPleRefIdeal.nD Cert.AdamPleRefIdeal.τ).loc Cert.AdamPleRefIdeal.main_arg0) = m ((c.tc : Thread Cert.AdamPleRefIdeal.nD Cert.AdamPleRefIdeal.τ).loc Cert.AdamPleRefIdeal.main_arg0)
      ∧ r.2.mem ((c.tc : Thread Cert.AdamPleRefIdeal.nD Cert.AdamPleRefIdeal.τ).loc Cert.AdamPleRefIdeal.main_arg1) = m ((c.tc : Thread Cert.AdamPleRefIdeal.nD Cert.AdamPleRefIdeal.τ).loc Cert.AdamPleRefIdeal.main_arg1)
      ∧ r.2.mem ((c.tc : Thread Cert.AdamPleRefIdeal.nD Cert.AdamPleRefIdeal.τ).loc Cert.AdamPleRefIdeal.main_arg2) = m ((c.tc : Thread Cert.AdamPleRefIdeal.nD Cert.AdamPleRefIdeal.τ).loc Cert.AdamPleRefIdeal.main_arg2)
      ∧ r.2.mem ((c.tc : Thread Cert.AdamPleRefIdeal.nD Cert.AdamPleRefIdeal.τ).loc Cert.AdamPleRefIdeal.main_arg3) = m ((c.tc : Thread Cert.AdamPleRefIdeal.nD Cert.AdamPleRefIdeal.τ).loc Cert.AdamPleRefIdeal.main_arg3))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_AdamHalf [hAdamHalf : Cert.AdamHalf.Facts] : Prop :=
  ∀ (m : (ℓ : Loc Cert.AdamHalf.nD Cert.AdamHalf.τ Cert.AdamHalf.sig) → Buf (Elt Bits) ℓ) (g : Dev Cert.AdamHalf.nD → PrngReg), Pre_AdamHalf m →
    θ_run (Cert.AdamHalf.defs (F := Bits)) (onTc (τ := Cert.AdamHalf.τ) (Cert.AdamHalf.main (F := Bits))) ⟨m, fun _ => 0, g⟩ (fun r => (∀ c : Dev Cert.AdamHalf.nD,
      r.2.mem ((c.tc : Thread Cert.AdamHalf.nD Cert.AdamHalf.τ).loc Cert.AdamHalf.main_arg0) = m ((c.tc : Thread Cert.AdamHalf.nD Cert.AdamHalf.τ).loc Cert.AdamHalf.main_arg0)
      ∧ r.2.mem ((c.tc : Thread Cert.AdamHalf.nD Cert.AdamHalf.τ).loc Cert.AdamHalf.main_arg1) = m ((c.tc : Thread Cert.AdamHalf.nD Cert.AdamHalf.τ).loc Cert.AdamHalf.main_arg1)
      ∧ r.2.mem ((c.tc : Thread Cert.AdamHalf.nD Cert.AdamHalf.τ).loc Cert.AdamHalf.main_arg2) = m ((c.tc : Thread Cert.AdamHalf.nD Cert.AdamHalf.τ).loc Cert.AdamHalf.main_arg2)
      ∧ r.2.mem ((c.tc : Thread Cert.AdamHalf.nD Cert.AdamHalf.τ).loc Cert.AdamHalf.main_arg3) = m ((c.tc : Thread Cert.AdamHalf.nD Cert.AdamHalf.τ).loc Cert.AdamHalf.main_arg3))
      ∧ r.2.sem = fun _ => 0)

def quiescent_AdamHalfIdeal [hAdamHalfIdeal : Cert.AdamHalfIdeal.Facts] : Prop :=
  ∀ (m : (ℓ : Loc Cert.AdamHalfIdeal.nD Cert.AdamHalfIdeal.τ Cert.AdamHalfIdeal.sig) → Buf (Elt Ideal) ℓ) (g : Dev Cert.AdamHalfIdeal.nD → PrngReg), Pre_AdamHalfIdeal m →
    θ_run (Cert.AdamHalfIdeal.defs (F := Ideal)) (onTc (τ := Cert.AdamHalfIdeal.τ) (Cert.AdamHalfIdeal.main (F := Ideal))) ⟨m, fun _ => 0, g⟩ (fun r => (∀ c : Dev Cert.AdamHalfIdeal.nD,
      r.2.mem ((c.tc : Thread Cert.AdamHalfIdeal.nD Cert.AdamHalfIdeal.τ).loc Cert.AdamHalfIdeal.main_arg0) = m ((c.tc : Thread Cert.AdamHalfIdeal.nD Cert.AdamHalfIdeal.τ).loc Cert.AdamHalfIdeal.main_arg0)
      ∧ r.2.mem ((c.tc : Thread Cert.AdamHalfIdeal.nD Cert.AdamHalfIdeal.τ).loc Cert.AdamHalfIdeal.main_arg1) = m ((c.tc : Thread Cert.AdamHalfIdeal.nD Cert.AdamHalfIdeal.τ).loc Cert.AdamHalfIdeal.main_arg1)
      ∧ r.2.mem ((c.tc : Thread Cert.AdamHalfIdeal.nD Cert.AdamHalfIdeal.τ).loc Cert.AdamHalfIdeal.main_arg2) = m ((c.tc : Thread Cert.AdamHalfIdeal.nD Cert.AdamHalfIdeal.τ).loc Cert.AdamHalfIdeal.main_arg2)
      ∧ r.2.mem ((c.tc : Thread Cert.AdamHalfIdeal.nD Cert.AdamHalfIdeal.τ).loc Cert.AdamHalfIdeal.main_arg3) = m ((c.tc : Thread Cert.AdamHalfIdeal.nD Cert.AdamHalfIdeal.τ).loc Cert.AdamHalfIdeal.main_arg3))
      ∧ r.2.sem = fun _ => 0)

def quiescent_AdamHalfRefIdeal [hAdamHalfRefIdeal : Cert.AdamHalfRefIdeal.Facts] : Prop :=
  ∀ (m : (ℓ : Loc Cert.AdamHalfRefIdeal.nD Cert.AdamHalfRefIdeal.τ Cert.AdamHalfRefIdeal.sig) → Buf (Elt Ideal) ℓ) (g : Dev Cert.AdamHalfRefIdeal.nD → PrngReg), Pre_AdamHalfRefIdeal m →
    θ_run (Cert.AdamHalfRefIdeal.defs (F := Ideal)) (onTc (τ := Cert.AdamHalfRefIdeal.τ) (Cert.AdamHalfRefIdeal.main (F := Ideal))) ⟨m, fun _ => 0, g⟩ (fun r => (∀ c : Dev Cert.AdamHalfRefIdeal.nD,
      r.2.mem ((c.tc : Thread Cert.AdamHalfRefIdeal.nD Cert.AdamHalfRefIdeal.τ).loc Cert.AdamHalfRefIdeal.main_arg0) = m ((c.tc : Thread Cert.AdamHalfRefIdeal.nD Cert.AdamHalfRefIdeal.τ).loc Cert.AdamHalfRefIdeal.main_arg0)
      ∧ r.2.mem ((c.tc : Thread Cert.AdamHalfRefIdeal.nD Cert.AdamHalfRefIdeal.τ).loc Cert.AdamHalfRefIdeal.main_arg1) = m ((c.tc : Thread Cert.AdamHalfRefIdeal.nD Cert.AdamHalfRefIdeal.τ).loc Cert.AdamHalfRefIdeal.main_arg1)
      ∧ r.2.mem ((c.tc : Thread Cert.AdamHalfRefIdeal.nD Cert.AdamHalfRefIdeal.τ).loc Cert.AdamHalfRefIdeal.main_arg2) = m ((c.tc : Thread Cert.AdamHalfRefIdeal.nD Cert.AdamHalfRefIdeal.τ).loc Cert.AdamHalfRefIdeal.main_arg2)
      ∧ r.2.mem ((c.tc : Thread Cert.AdamHalfRefIdeal.nD Cert.AdamHalfRefIdeal.τ).loc Cert.AdamHalfRefIdeal.main_arg3) = m ((c.tc : Thread Cert.AdamHalfRefIdeal.nD Cert.AdamHalfRefIdeal.τ).loc Cert.AdamHalfRefIdeal.main_arg3))
      ∧ r.2.sem = fun _ => 0)

def quiescent_AdamDw [hAdamDw : Cert.AdamDw.Facts] : Prop :=
  ∀ (m : (ℓ : Loc Cert.AdamDw.nD Cert.AdamDw.τ Cert.AdamDw.sig) → Buf (Elt Bits) ℓ) (g : Dev Cert.AdamDw.nD → PrngReg), Pre_AdamDw m →
    θ_run (Cert.AdamDw.defs (F := Bits)) (onTc (τ := Cert.AdamDw.τ) (Cert.AdamDw.main (F := Bits))) ⟨m, fun _ => 0, g⟩ (fun r => (∀ c : Dev Cert.AdamDw.nD,
      r.2.mem ((c.tc : Thread Cert.AdamDw.nD Cert.AdamDw.τ).loc Cert.AdamDw.main_arg0) = m ((c.tc : Thread Cert.AdamDw.nD Cert.AdamDw.τ).loc Cert.AdamDw.main_arg0)
      ∧ r.2.mem ((c.tc : Thread Cert.AdamDw.nD Cert.AdamDw.τ).loc Cert.AdamDw.main_arg1) = m ((c.tc : Thread Cert.AdamDw.nD Cert.AdamDw.τ).loc Cert.AdamDw.main_arg1)
      ∧ r.2.mem ((c.tc : Thread Cert.AdamDw.nD Cert.AdamDw.τ).loc Cert.AdamDw.main_arg2) = m ((c.tc : Thread Cert.AdamDw.nD Cert.AdamDw.τ).loc Cert.AdamDw.main_arg2)
      ∧ r.2.mem ((c.tc : Thread Cert.AdamDw.nD Cert.AdamDw.τ).loc Cert.AdamDw.main_arg3) = m ((c.tc : Thread Cert.AdamDw.nD Cert.AdamDw.τ).loc Cert.AdamDw.main_arg3))
      ∧ r.2.sem = fun _ => 0)

def quiescent_AdamDwIdeal [hAdamDwIdeal : Cert.AdamDwIdeal.Facts] : Prop :=
  ∀ (m : (ℓ : Loc Cert.AdamDwIdeal.nD Cert.AdamDwIdeal.τ Cert.AdamDwIdeal.sig) → Buf (Elt Ideal) ℓ) (g : Dev Cert.AdamDwIdeal.nD → PrngReg), Pre_AdamDwIdeal m →
    θ_run (Cert.AdamDwIdeal.defs (F := Ideal)) (onTc (τ := Cert.AdamDwIdeal.τ) (Cert.AdamDwIdeal.main (F := Ideal))) ⟨m, fun _ => 0, g⟩ (fun r => (∀ c : Dev Cert.AdamDwIdeal.nD,
      r.2.mem ((c.tc : Thread Cert.AdamDwIdeal.nD Cert.AdamDwIdeal.τ).loc Cert.AdamDwIdeal.main_arg0) = m ((c.tc : Thread Cert.AdamDwIdeal.nD Cert.AdamDwIdeal.τ).loc Cert.AdamDwIdeal.main_arg0)
      ∧ r.2.mem ((c.tc : Thread Cert.AdamDwIdeal.nD Cert.AdamDwIdeal.τ).loc Cert.AdamDwIdeal.main_arg1) = m ((c.tc : Thread Cert.AdamDwIdeal.nD Cert.AdamDwIdeal.τ).loc Cert.AdamDwIdeal.main_arg1)
      ∧ r.2.mem ((c.tc : Thread Cert.AdamDwIdeal.nD Cert.AdamDwIdeal.τ).loc Cert.AdamDwIdeal.main_arg2) = m ((c.tc : Thread Cert.AdamDwIdeal.nD Cert.AdamDwIdeal.τ).loc Cert.AdamDwIdeal.main_arg2)
      ∧ r.2.mem ((c.tc : Thread Cert.AdamDwIdeal.nD Cert.AdamDwIdeal.τ).loc Cert.AdamDwIdeal.main_arg3) = m ((c.tc : Thread Cert.AdamDwIdeal.nD Cert.AdamDwIdeal.τ).loc Cert.AdamDwIdeal.main_arg3))
      ∧ r.2.sem = fun _ => 0)

def quiescent_AdamDwRefIdeal [hAdamDwRefIdeal : Cert.AdamDwRefIdeal.Facts] : Prop :=
  ∀ (m : (ℓ : Loc Cert.AdamDwRefIdeal.nD Cert.AdamDwRefIdeal.τ Cert.AdamDwRefIdeal.sig) → Buf (Elt Ideal) ℓ) (g : Dev Cert.AdamDwRefIdeal.nD → PrngReg), Pre_AdamDwRefIdeal m →
    θ_run (Cert.AdamDwRefIdeal.defs (F := Ideal)) (onTc (τ := Cert.AdamDwRefIdeal.τ) (Cert.AdamDwRefIdeal.main (F := Ideal))) ⟨m, fun _ => 0, g⟩ (fun r => (∀ c : Dev Cert.AdamDwRefIdeal.nD,
      r.2.mem ((c.tc : Thread Cert.AdamDwRefIdeal.nD Cert.AdamDwRefIdeal.τ).loc Cert.AdamDwRefIdeal.main_arg0) = m ((c.tc : Thread Cert.AdamDwRefIdeal.nD Cert.AdamDwRefIdeal.τ).loc Cert.AdamDwRefIdeal.main_arg0)
      ∧ r.2.mem ((c.tc : Thread Cert.AdamDwRefIdeal.nD Cert.AdamDwRefIdeal.τ).loc Cert.AdamDwRefIdeal.main_arg1) = m ((c.tc : Thread Cert.AdamDwRefIdeal.nD Cert.AdamDwRefIdeal.τ).loc Cert.AdamDwRefIdeal.main_arg1)
      ∧ r.2.mem ((c.tc : Thread Cert.AdamDwRefIdeal.nD Cert.AdamDwRefIdeal.τ).loc Cert.AdamDwRefIdeal.main_arg2) = m ((c.tc : Thread Cert.AdamDwRefIdeal.nD Cert.AdamDwRefIdeal.τ).loc Cert.AdamDwRefIdeal.main_arg2)
      ∧ r.2.mem ((c.tc : Thread Cert.AdamDwRefIdeal.nD Cert.AdamDwRefIdeal.τ).loc Cert.AdamDwRefIdeal.main_arg3) = m ((c.tc : Thread Cert.AdamDwRefIdeal.nD Cert.AdamDwRefIdeal.τ).loc Cert.AdamDwRefIdeal.main_arg3))
      ∧ r.2.sem = fun _ => 0)

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)) (v2 : (c : Dev Cert.ConvBwdIdeal.nD) → Buf (Elt Ideal) ((c.tc : Thread Cert.ConvBwdIdeal.nD Cert.ConvBwdIdeal.τ).loc Cert.ConvBwdIdeal.main_v1_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_v1_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v577) = v0 c
          ∧ r.2.mem ((c.tc : Thread Cert.ConvBwdRefIdeal.nD Cert.ConvBwdRefIdeal.τ).loc Cert.ConvBwdRefIdeal.main_v578) = v1 c
          ∧ r.2.mem ((c.tc : Thread Cert.ConvBwdRefIdeal.nD Cert.ConvBwdRefIdeal.τ).loc Cert.ConvBwdRefIdeal.main_v579) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)) →
    ∃ (v0 : (c : Dev Cert.SumSmallIdeal.nD) → Buf (Elt Ideal) ((c.tc : Thread Cert.SumSmallIdeal.nD Cert.SumSmallIdeal.τ).loc Cert.SumSmallIdeal.main_v9)) (v1 : (c : Dev Cert.SumSmallIdeal.nD) → Buf (Elt Ideal) ((c.tc : Thread Cert.SumSmallIdeal.nD Cert.SumSmallIdeal.τ).loc Cert.SumSmallIdeal.main_v10)) (v2 : (c : Dev Cert.SumSmallIdeal.nD) → Buf (Elt Ideal) ((c.tc : Thread Cert.SumSmallIdeal.nD Cert.SumSmallIdeal.τ).loc Cert.SumSmallIdeal.main_v11)) (v3 : (c : Dev Cert.SumSmallIdeal.nD) → Buf (Elt Ideal) ((c.tc : Thread Cert.SumSmallIdeal.nD Cert.SumSmallIdeal.τ).loc Cert.SumSmallIdeal.main_v12)) (v4 : (c : Dev Cert.SumSmallIdeal.nD) → Buf (Elt Ideal) ((c.tc : Thread Cert.SumSmallIdeal.nD Cert.SumSmallIdeal.τ).loc Cert.SumSmallIdeal.main_v13)) (v5 : (c : Dev Cert.SumSmallIdeal.nD) → Buf (Elt Ideal) ((c.tc : Thread Cert.SumSmallIdeal.nD Cert.SumSmallIdeal.τ).loc Cert.SumSmallIdeal.main_v14)) (v6 : (c : Dev Cert.SumSmallIdeal.nD) → Buf (Elt Ideal) ((c.tc : Thread Cert.SumSmallIdeal.nD Cert.SumSmallIdeal.τ).loc Cert.SumSmallIdeal.main_v15)) (v7 : (c : Dev Cert.SumSmallIdeal.nD) → Buf (Elt Ideal) ((c.tc : Thread Cert.SumSmallIdeal.nD Cert.SumSmallIdeal.τ).loc Cert.SumSmallIdeal.main_v16)) (v8 : (c : Dev Cert.SumSmallIdeal.nD) → Buf (Elt Ideal) ((c.tc : Thread Cert.SumSmallIdeal.nD Cert.SumSmallIdeal.τ).loc Cert.SumSmallIdeal.main_v17)) (v9 : (c : Dev Cert.SumSmallIdeal.nD) → Buf (Elt Ideal) ((c.tc : Thread Cert.SumSmallIdeal.nD Cert.SumSmallIdeal.τ).loc Cert.SumSmallIdeal.main_v7)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v9) = v0 c
          ∧ r.2.mem ((c.tc : Thread Cert.SumSmallIdeal.nD Cert.SumSmallIdeal.τ).loc Cert.SumSmallIdeal.main_v10) = v1 c
          ∧ r.2.mem ((c.tc : Thread Cert.SumSmallIdeal.nD Cert.SumSmallIdeal.τ).loc Cert.SumSmallIdeal.main_v11) = v2 c
          ∧ r.2.mem ((c.tc : Thread Cert.SumSmallIdeal.nD Cert.SumSmallIdeal.τ).loc Cert.SumSmallIdeal.main_v12) = v3 c
          ∧ r.2.mem ((c.tc : Thread Cert.SumSmallIdeal.nD Cert.SumSmallIdeal.τ).loc Cert.SumSmallIdeal.main_v13) = v4 c
          ∧ r.2.mem ((c.tc : Thread Cert.SumSmallIdeal.nD Cert.SumSmallIdeal.τ).loc Cert.SumSmallIdeal.main_v14) = v5 c
          ∧ r.2.mem ((c.tc : Thread Cert.SumSmallIdeal.nD Cert.SumSmallIdeal.τ).loc Cert.SumSmallIdeal.main_v15) = v6 c
          ∧ r.2.mem ((c.tc : Thread Cert.SumSmallIdeal.nD Cert.SumSmallIdeal.τ).loc Cert.SumSmallIdeal.main_v16) = v7 c
          ∧ r.2.mem ((c.tc : Thread Cert.SumSmallIdeal.nD Cert.SumSmallIdeal.τ).loc Cert.SumSmallIdeal.main_v17) = v8 c
          ∧ r.2.mem ((c.tc : Thread Cert.SumSmallIdeal.nD Cert.SumSmallIdeal.τ).loc Cert.SumSmallIdeal.main_v7) = v9 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v6) = v0 c
          ∧ r.2.mem ((c.tc : Thread Cert.SumSmallRefIdeal.nD Cert.SumSmallRefIdeal.τ).loc Cert.SumSmallRefIdeal.main_v10) = v1 c
          ∧ r.2.mem ((c.tc : Thread Cert.SumSmallRefIdeal.nD Cert.SumSmallRefIdeal.τ).loc Cert.SumSmallRefIdeal.main_v14) = v2 c
          ∧ r.2.mem ((c.tc : Thread Cert.SumSmallRefIdeal.nD Cert.SumSmallRefIdeal.τ).loc Cert.SumSmallRefIdeal.main_v18) = v3 c
          ∧ r.2.mem ((c.tc : Thread Cert.SumSmallRefIdeal.nD Cert.SumSmallRefIdeal.τ).loc Cert.SumSmallRefIdeal.main_v22) = v4 c
          ∧ r.2.mem ((c.tc : Thread Cert.SumSmallRefIdeal.nD Cert.SumSmallRefIdeal.τ).loc Cert.SumSmallRefIdeal.main_v26) = v5 c
          ∧ r.2.mem ((c.tc : Thread Cert.SumSmallRefIdeal.nD Cert.SumSmallRefIdeal.τ).loc Cert.SumSmallRefIdeal.main_v30) = v6 c
          ∧ r.2.mem ((c.tc : Thread Cert.SumSmallRefIdeal.nD Cert.SumSmallRefIdeal.τ).loc Cert.SumSmallRefIdeal.main_v34) = v7 c
          ∧ r.2.mem ((c.tc : Thread Cert.SumSmallRefIdeal.nD Cert.SumSmallRefIdeal.τ).loc Cert.SumSmallRefIdeal.main_v38) = v8 c
          ∧ r.2.mem ((c.tc : Thread Cert.SumSmallRefIdeal.nD Cert.SumSmallRefIdeal.τ).loc Cert.SumSmallRefIdeal.main_v43) = v9 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v35) = v0 c
          ∧ r.2.mem ((c.tc : Thread Cert.RmsBwdRefIdeal.nD Cert.RmsBwdRefIdeal.τ).loc Cert.RmsBwdRefIdeal.main_v36) = v1 c
          ∧ r.2.mem ((c.tc : Thread Cert.RmsBwdRefIdeal.nD Cert.RmsBwdRefIdeal.τ).loc Cert.RmsBwdRefIdeal.main_v18) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v13_0)) (v1 : (c : Dev Cert.PleIdeal.nD) → Buf (Elt Ideal) ((c.tc : Thread Cert.PleIdeal.nD Cert.PleIdeal.τ).loc Cert.PleIdeal.main_v13_1)) (v2 : (c : Dev Cert.PleIdeal.nD) → Buf (Elt Ideal) ((c.tc : Thread Cert.PleIdeal.nD Cert.PleIdeal.τ).loc Cert.PleIdeal.main_v13_2)) (v3 : (c : Dev Cert.PleIdeal.nD) → Buf (Elt Ideal) ((c.tc : Thread Cert.PleIdeal.nD Cert.PleIdeal.τ).loc Cert.PleIdeal.main_v13_3)) (v4 : (c : Dev Cert.PleIdeal.nD) → Buf (Elt Ideal) ((c.tc : Thread Cert.PleIdeal.nD Cert.PleIdeal.τ).loc Cert.PleIdeal.main_v13_4)) (v5 : (c : Dev Cert.PleIdeal.nD) → Buf (Elt Ideal) ((c.tc : Thread Cert.PleIdeal.nD Cert.PleIdeal.τ).loc Cert.PleIdeal.main_v13_5)) (v6 : (c : Dev Cert.PleIdeal.nD) → Buf (Elt Ideal) ((c.tc : Thread Cert.PleIdeal.nD Cert.PleIdeal.τ).loc Cert.PleIdeal.main_v13_6)) (v7 : (c : Dev Cert.PleIdeal.nD) → Buf (Elt Ideal) ((c.tc : Thread Cert.PleIdeal.nD Cert.PleIdeal.τ).loc Cert.PleIdeal.main_v13_7)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v13_0) = v0 c
          ∧ r.2.mem ((c.tc : Thread Cert.PleIdeal.nD Cert.PleIdeal.τ).loc Cert.PleIdeal.main_v13_1) = v1 c
          ∧ r.2.mem ((c.tc : Thread Cert.PleIdeal.nD Cert.PleIdeal.τ).loc Cert.PleIdeal.main_v13_2) = v2 c
          ∧ r.2.mem ((c.tc : Thread Cert.PleIdeal.nD Cert.PleIdeal.τ).loc Cert.PleIdeal.main_v13_3) = v3 c
          ∧ r.2.mem ((c.tc : Thread Cert.PleIdeal.nD Cert.PleIdeal.τ).loc Cert.PleIdeal.main_v13_4) = v4 c
          ∧ r.2.mem ((c.tc : Thread Cert.PleIdeal.nD Cert.PleIdeal.τ).loc Cert.PleIdeal.main_v13_5) = v5 c
          ∧ r.2.mem ((c.tc : Thread Cert.PleIdeal.nD Cert.PleIdeal.τ).loc Cert.PleIdeal.main_v13_6) = v6 c
          ∧ r.2.mem ((c.tc : Thread Cert.PleIdeal.nD Cert.PleIdeal.τ).loc Cert.PleIdeal.main_v13_7) = v7 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v104) = v0 c
          ∧ r.2.mem ((c.tc : Thread Cert.PleRefIdeal.nD Cert.PleRefIdeal.τ).loc Cert.PleRefIdeal.main_v105) = v1 c
          ∧ r.2.mem ((c.tc : Thread Cert.PleRefIdeal.nD Cert.PleRefIdeal.τ).loc Cert.PleRefIdeal.main_v106) = v2 c
          ∧ r.2.mem ((c.tc : Thread Cert.PleRefIdeal.nD Cert.PleRefIdeal.τ).loc Cert.PleRefIdeal.main_v107) = v3 c
          ∧ r.2.mem ((c.tc : Thread Cert.PleRefIdeal.nD Cert.PleRefIdeal.τ).loc Cert.PleRefIdeal.main_v64) = v4 c
          ∧ r.2.mem ((c.tc : Thread Cert.PleRefIdeal.nD Cert.PleRefIdeal.τ).loc Cert.PleRefIdeal.main_v109) = v5 c
          ∧ r.2.mem ((c.tc : Thread Cert.PleRefIdeal.nD Cert.PleRefIdeal.τ).loc Cert.PleRefIdeal.main_v110) = v6 c
          ∧ r.2.mem ((c.tc : Thread Cert.PleRefIdeal.nD Cert.PleRefIdeal.τ).loc Cert.PleRefIdeal.main_v87) = v7 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7))

def preserves_Dact_DactIdeal : Prop :=
  True

def algebraic_DactIdeal_DactRefIdeal_pre_finite_dact [hDactIdeal : Cert.DactIdeal.Facts] [hDactRefIdeal : Cert.DactRefIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_finite_dact m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0_0)) (v1 : (c : Dev Cert.DactIdeal.nD) → Buf (Elt Ideal) ((c.tc : Thread Cert.DactIdeal.nD Cert.DactIdeal.τ).loc Cert.DactIdeal.main_v0_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0_0) = v0 c
          ∧ r.2.mem ((c.tc : Thread Cert.DactIdeal.nD Cert.DactIdeal.τ).loc Cert.DactIdeal.main_v0_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v11) = v0 c
          ∧ r.2.mem ((c.tc : Thread Cert.DactRefIdeal.nD Cert.DactRefIdeal.τ).loc Cert.DactRefIdeal.main_v12) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Df_DfIdeal : Prop :=
  True

def algebraic_DfIdeal_DfRefIdeal [hDfIdeal : Cert.DfIdeal.Facts] [hDfRefIdeal : Cert.DfRefIdeal.Facts] : Prop :=
  ∀ (m : (ℓ : Loc Cert.DfIdeal.nD Cert.DfIdeal.τ Cert.DfIdeal.sig) → Buf (Elt Ideal) ℓ) (g : Dev Cert.DfIdeal.nD → PrngReg)
    (m' : (ℓ : Loc Cert.DfRefIdeal.nD Cert.DfRefIdeal.τ Cert.DfRefIdeal.sig) → Buf (Elt Ideal) ℓ) (g' : Dev Cert.DfRefIdeal.nD → PrngReg), Pre_DfIdeal m →
    (∀ c : Dev Cert.DfIdeal.nD,
      m' ((c.tc : Thread Cert.DfRefIdeal.nD Cert.DfRefIdeal.τ).loc Cert.DfRefIdeal.main_arg0) = m ((c.tc : Thread Cert.DfIdeal.nD Cert.DfIdeal.τ).loc Cert.DfIdeal.main_arg0)
      ∧ m' ((c.tc : Thread Cert.DfRefIdeal.nD Cert.DfRefIdeal.τ).loc Cert.DfRefIdeal.main_arg1) = m ((c.tc : Thread Cert.DfIdeal.nD Cert.DfIdeal.τ).loc Cert.DfIdeal.main_arg1)
      ∧ m' ((c.tc : Thread Cert.DfRefIdeal.nD Cert.DfRefIdeal.τ).loc Cert.DfRefIdeal.main_arg2) = m ((c.tc : Thread Cert.DfIdeal.nD Cert.DfIdeal.τ).loc Cert.DfIdeal.main_arg2)
      ∧ m' ((c.tc : Thread Cert.DfRefIdeal.nD Cert.DfRefIdeal.τ).loc Cert.DfRefIdeal.main_arg3) = m ((c.tc : Thread Cert.DfIdeal.nD Cert.DfIdeal.τ).loc Cert.DfIdeal.main_arg3)) →
    ∃ (v0 : (c : Dev Cert.DfIdeal.nD) → Buf (Elt Ideal) ((c.tc : Thread Cert.DfIdeal.nD Cert.DfIdeal.τ).loc Cert.DfIdeal.main_v0)),
      θ_run (Cert.DfIdeal.defs (F := Ideal)) (onTc (τ := Cert.DfIdeal.τ) (Cert.DfIdeal.main (F := Ideal))) ⟨m, fun _ => 0, g⟩ (fun r => ∀ c : Dev Cert.DfIdeal.nD,
          r.2.mem ((c.tc : Thread Cert.DfIdeal.nD Cert.DfIdeal.τ).loc Cert.DfIdeal.main_v0) = v0 c
          ∧ r.2.mem ((c.tc : Thread Cert.DfIdeal.nD Cert.DfIdeal.τ).loc Cert.DfIdeal.main_arg0) = m ((c.tc : Thread Cert.DfIdeal.nD Cert.DfIdeal.τ).loc Cert.DfIdeal.main_arg0)
          ∧ r.2.mem ((c.tc : Thread Cert.DfIdeal.nD Cert.DfIdeal.τ).loc Cert.DfIdeal.main_arg1) = m ((c.tc : Thread Cert.DfIdeal.nD Cert.DfIdeal.τ).loc Cert.DfIdeal.main_arg1)
          ∧ r.2.mem ((c.tc : Thread Cert.DfIdeal.nD Cert.DfIdeal.τ).loc Cert.DfIdeal.main_arg2) = m ((c.tc : Thread Cert.DfIdeal.nD Cert.DfIdeal.τ).loc Cert.DfIdeal.main_arg2)
          ∧ r.2.mem ((c.tc : Thread Cert.DfIdeal.nD Cert.DfIdeal.τ).loc Cert.DfIdeal.main_arg3) = m ((c.tc : Thread Cert.DfIdeal.nD Cert.DfIdeal.τ).loc Cert.DfIdeal.main_arg3))
      ∧ θ_run (Cert.DfRefIdeal.defs (F := Ideal)) (onTc (τ := Cert.DfRefIdeal.τ) (Cert.DfRefIdeal.main (F := Ideal))) ⟨m', fun _ => 0, g'⟩ (fun r => ∀ c : Dev Cert.DfRefIdeal.nD,
          r.2.mem ((c.tc : Thread Cert.DfRefIdeal.nD Cert.DfRefIdeal.τ).loc Cert.DfRefIdeal.main_v10) = v0 c
          ∧ r.2.mem ((c.tc : Thread Cert.DfRefIdeal.nD Cert.DfRefIdeal.τ).loc Cert.DfRefIdeal.main_arg0) = m' ((c.tc : Thread Cert.DfRefIdeal.nD Cert.DfRefIdeal.τ).loc Cert.DfRefIdeal.main_arg0)
          ∧ r.2.mem ((c.tc : Thread Cert.DfRefIdeal.nD Cert.DfRefIdeal.τ).loc Cert.DfRefIdeal.main_arg1) = m' ((c.tc : Thread Cert.DfRefIdeal.nD Cert.DfRefIdeal.τ).loc Cert.DfRefIdeal.main_arg1)
          ∧ r.2.mem ((c.tc : Thread Cert.DfRefIdeal.nD Cert.DfRefIdeal.τ).loc Cert.DfRefIdeal.main_arg2) = m' ((c.tc : Thread Cert.DfRefIdeal.nD Cert.DfRefIdeal.τ).loc Cert.DfRefIdeal.main_arg2)
          ∧ r.2.mem ((c.tc : Thread Cert.DfRefIdeal.nD Cert.DfRefIdeal.τ).loc Cert.DfRefIdeal.main_arg3) = m' ((c.tc : Thread Cert.DfRefIdeal.nD Cert.DfRefIdeal.τ).loc Cert.DfRefIdeal.main_arg3))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v6) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v6) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwPgate_DwPgateIdeal : Prop :=
  True

def algebraic_DwPgateIdeal_DwPgateRefIdeal [hDwPgateIdeal : Cert.DwPgateIdeal.Facts] [hDwPgateRefIdeal : Cert.DwPgateRefIdeal.Facts] : Prop :=
  ∀ (m : (ℓ : Loc Cert.DwPgateIdeal.nD Cert.DwPgateIdeal.τ Cert.DwPgateIdeal.sig) → Buf (Elt Ideal) ℓ) (g : Dev Cert.DwPgateIdeal.nD → PrngReg)
    (m' : (ℓ : Loc Cert.DwPgateRefIdeal.nD Cert.DwPgateRefIdeal.τ Cert.DwPgateRefIdeal.sig) → Buf (Elt Ideal) ℓ) (g' : Dev Cert.DwPgateRefIdeal.nD → PrngReg), Pre_DwPgateIdeal m →
    (∀ c : Dev Cert.DwPgateIdeal.nD,
      m' ((c.tc : Thread Cert.DwPgateRefIdeal.nD Cert.DwPgateRefIdeal.τ).loc Cert.DwPgateRefIdeal.main_arg0) = m ((c.tc : Thread Cert.DwPgateIdeal.nD Cert.DwPgateIdeal.τ).loc Cert.DwPgateIdeal.main_arg0)
      ∧ m' ((c.tc : Thread Cert.DwPgateRefIdeal.nD Cert.DwPgateRefIdeal.τ).loc Cert.DwPgateRefIdeal.main_arg1) = m ((c.tc : Thread Cert.DwPgateIdeal.nD Cert.DwPgateIdeal.τ).loc Cert.DwPgateIdeal.main_arg1)) →
    ∃ (v0 : (c : Dev Cert.DwPgateIdeal.nD) → Buf (Elt Ideal) ((c.tc : Thread Cert.DwPgateIdeal.nD Cert.DwPgateIdeal.τ).loc Cert.DwPgateIdeal.main_v0)),
      θ_run (Cert.DwPgateIdeal.defs (F := Ideal)) (onTc (τ := Cert.DwPgateIdeal.τ) (Cert.DwPgateIdeal.main (F := Ideal))) ⟨m, fun _ => 0, g⟩ (fun r => ∀ c : Dev Cert.DwPgateIdeal.nD,
          r.2.mem ((c.tc : Thread Cert.DwPgateIdeal.nD Cert.DwPgateIdeal.τ).loc Cert.DwPgateIdeal.main_v0) = v0 c
          ∧ r.2.mem ((c.tc : Thread Cert.DwPgateIdeal.nD Cert.DwPgateIdeal.τ).loc Cert.DwPgateIdeal.main_arg0) = m ((c.tc : Thread Cert.DwPgateIdeal.nD Cert.DwPgateIdeal.τ).loc Cert.DwPgateIdeal.main_arg0)
          ∧ r.2.mem ((c.tc : Thread Cert.DwPgateIdeal.nD Cert.DwPgateIdeal.τ).loc Cert.DwPgateIdeal.main_arg1) = m ((c.tc : Thread Cert.DwPgateIdeal.nD Cert.DwPgateIdeal.τ).loc Cert.DwPgateIdeal.main_arg1))
      ∧ θ_run (Cert.DwPgateRefIdeal.defs (F := Ideal)) (onTc (τ := Cert.DwPgateRefIdeal.τ) (Cert.DwPgateRefIdeal.main (F := Ideal))) ⟨m', fun _ => 0, g'⟩ (fun r => ∀ c : Dev Cert.DwPgateRefIdeal.nD,
          r.2.mem ((c.tc : Thread Cert.DwPgateRefIdeal.nD Cert.DwPgateRefIdeal.τ).loc Cert.DwPgateRefIdeal.main_v6) = v0 c
          ∧ r.2.mem ((c.tc : Thread Cert.DwPgateRefIdeal.nD Cert.DwPgateRefIdeal.τ).loc Cert.DwPgateRefIdeal.main_arg0) = m' ((c.tc : Thread Cert.DwPgateRefIdeal.nD Cert.DwPgateRefIdeal.τ).loc Cert.DwPgateRefIdeal.main_arg0)
          ∧ r.2.mem ((c.tc : Thread Cert.DwPgateRefIdeal.nD Cert.DwPgateRefIdeal.τ).loc Cert.DwPgateRefIdeal.main_arg1) = m' ((c.tc : Thread Cert.DwPgateRefIdeal.nD Cert.DwPgateRefIdeal.τ).loc Cert.DwPgateRefIdeal.main_arg1))

def preserves_DwPle_DwPleIdeal : Prop :=
  True

def algebraic_DwPleIdeal_DwPleRefIdeal [hDwPleIdeal : Cert.DwPleIdeal.Facts] [hDwPleRefIdeal : Cert.DwPleRefIdeal.Facts] : Prop :=
  ∀ (m : (ℓ : Loc Cert.DwPleIdeal.nD Cert.DwPleIdeal.τ Cert.DwPleIdeal.sig) → Buf (Elt Ideal) ℓ) (g : Dev Cert.DwPleIdeal.nD → PrngReg)
    (m' : (ℓ : Loc Cert.DwPleRefIdeal.nD Cert.DwPleRefIdeal.τ Cert.DwPleRefIdeal.sig) → Buf (Elt Ideal) ℓ) (g' : Dev Cert.DwPleRefIdeal.nD → PrngReg), Pre_DwPleIdeal m →
    (∀ c : Dev Cert.DwPleIdeal.nD,
      m' ((c.tc : Thread Cert.DwPleRefIdeal.nD Cert.DwPleRefIdeal.τ).loc Cert.DwPleRefIdeal.main_arg0) = m ((c.tc : Thread Cert.DwPleIdeal.nD Cert.DwPleIdeal.τ).loc Cert.DwPleIdeal.main_arg0)
      ∧ m' ((c.tc : Thread Cert.DwPleRefIdeal.nD Cert.DwPleRefIdeal.τ).loc Cert.DwPleRefIdeal.main_arg1) = m ((c.tc : Thread Cert.DwPleIdeal.nD Cert.DwPleIdeal.τ).loc Cert.DwPleIdeal.main_arg1)) →
    ∃ (v0 : (c : Dev Cert.DwPleIdeal.nD) → Buf (Elt Ideal) ((c.tc : Thread Cert.DwPleIdeal.nD Cert.DwPleIdeal.τ).loc Cert.DwPleIdeal.main_v0)),
      θ_run (Cert.DwPleIdeal.defs (F := Ideal)) (onTc (τ := Cert.DwPleIdeal.τ) (Cert.DwPleIdeal.main (F := Ideal))) ⟨m, fun _ => 0, g⟩ (fun r => ∀ c : Dev Cert.DwPleIdeal.nD,
          r.2.mem ((c.tc : Thread Cert.DwPleIdeal.nD Cert.DwPleIdeal.τ).loc Cert.DwPleIdeal.main_v0) = v0 c
          ∧ r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
          ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ θ_run (Cert.DwPleRefIdeal.defs (F := Ideal)) (onTc (τ := Cert.DwPleRefIdeal.τ) (Cert.DwPleRefIdeal.main (F := Ideal))) ⟨m', fun _ => 0, g'⟩ (fun r => ∀ c : Dev Cert.DwPleRefIdeal.nD,
          r.2.mem ((c.tc : Thread Cert.DwPleRefIdeal.nD Cert.DwPleRefIdeal.τ).loc Cert.DwPleRefIdeal.main_v5) = v0 c
          ∧ r.2.mem ((c.tc : Thread Cert.DwPleRefIdeal.nD Cert.DwPleRefIdeal.τ).loc Cert.DwPleRefIdeal.main_arg0) = m' ((c.tc : Thread Cert.DwPleRefIdeal.nD Cert.DwPleRefIdeal.τ).loc Cert.DwPleRefIdeal.main_arg0)
          ∧ r.2.mem ((c.tc : Thread Cert.DwPleRefIdeal.nD Cert.DwPleRefIdeal.τ).loc Cert.DwPleRefIdeal.main_arg1) = m' ((c.tc : Thread Cert.DwPleRefIdeal.nD Cert.DwPleRefIdeal.τ).loc Cert.DwPleRefIdeal.main_arg1))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)
      ∧ m' ((c.tc : Thread Cert.DaRefIdeal.nD Cert.DaRefIdeal.τ).loc Cert.DaRefIdeal.main_arg4) = m ((c.tc : Thread Cert.DaIdeal.nD Cert.DaIdeal.τ).loc Cert.DaIdeal.main_arg4)
      ∧ m' ((c.tc : Thread Cert.DaRefIdeal.nD Cert.DaRefIdeal.τ).loc Cert.DaRefIdeal.main_arg5) = m ((c.tc : Thread Cert.DaIdeal.nD Cert.DaIdeal.τ).loc Cert.DaIdeal.main_arg5)) →
    ∃ (v0 : (c : Dev Cert.DaIdeal.nD) → Buf (Elt Ideal) ((c.tc : Thread Cert.DaIdeal.nD Cert.DaIdeal.τ).loc Cert.DaIdeal.main_v0)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v0) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
          ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v26) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3)
          ∧ r.2.mem ((c.tc : Thread Cert.DaRefIdeal.nD Cert.DaRefIdeal.τ).loc Cert.DaRefIdeal.main_arg4) = m' ((c.tc : Thread Cert.DaRefIdeal.nD Cert.DaRefIdeal.τ).loc Cert.DaRefIdeal.main_arg4)
          ∧ r.2.mem ((c.tc : Thread Cert.DaRefIdeal.nD Cert.DaRefIdeal.τ).loc Cert.DaRefIdeal.main_arg5) = m' ((c.tc : Thread Cert.DaRefIdeal.nD Cert.DaRefIdeal.τ).loc Cert.DaRefIdeal.main_arg5))

def preserves_Dcat_DcatIdeal : Prop :=
  True

def algebraic_DcatIdeal_DcatRefIdeal [hDcatIdeal : Cert.DcatIdeal.Facts] [hDcatRefIdeal : Cert.DcatRefIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatRefIdeal.nD Cert.DcatRefIdeal.τ Cert.DcatRefIdeal.sig) → Buf (Elt Ideal) ℓ) (g' : Dev Cert.DcatRefIdeal.nD → PrngReg), Pre_DcatIdeal m →
    (∀ c : Dev Cert.DcatIdeal.nD,
      m' ((c.tc : Thread Cert.DcatRefIdeal.nD Cert.DcatRefIdeal.τ).loc Cert.DcatRefIdeal.main_arg0) = m ((c.tc : Thread Cert.DcatIdeal.nD Cert.DcatIdeal.τ).loc Cert.DcatIdeal.main_arg0)
      ∧ m' ((c.tc : Thread Cert.DcatRefIdeal.nD Cert.DcatRefIdeal.τ).loc Cert.DcatRefIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v0)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v0) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatRefIdeal.defs (F := Ideal)) (onTc (τ := Cert.DcatRefIdeal.τ) (Cert.DcatRefIdeal.main (F := Ideal))) ⟨m', fun _ => 0, g'⟩ (fun r => ∀ c : Dev Cert.DcatRefIdeal.nD,
          r.2.mem ((c.tc : Thread Cert.DcatRefIdeal.nD Cert.DcatRefIdeal.τ).loc Cert.DcatRefIdeal.main_v4) = v0 c
          ∧ r.2.mem ((c.tc : Thread Cert.DcatRefIdeal.nD Cert.DcatRefIdeal.τ).loc Cert.DcatRefIdeal.main_arg0) = m' ((c.tc : Thread Cert.DcatRefIdeal.nD Cert.DcatRefIdeal.τ).loc Cert.DcatRefIdeal.main_arg0)
          ∧ r.2.mem ((c.tc : Thread Cert.DcatRefIdeal.nD Cert.DcatRefIdeal.τ).loc Cert.DcatRefIdeal.main_arg1) = m' ((c.tc : Thread Cert.DcatRefIdeal.nD Cert.DcatRefIdeal.τ).loc Cert.DcatRefIdeal.main_arg1))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v2) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)
      ∧ m' ((c.tc : Thread Cert.MmOutRefIdeal.nD Cert.MmOutRefIdeal.τ).loc Cert.MmOutRefIdeal.main_arg3) = m ((c.tc : Thread Cert.MmOutIdeal.nD Cert.MmOutIdeal.τ).loc Cert.MmOutIdeal.main_arg3)) →
    ∃ (v0 : (c : Dev Cert.MmOutIdeal.nD) → Buf (Elt Ideal) ((c.tc : Thread Cert.MmOutIdeal.nD Cert.MmOutIdeal.τ).loc Cert.MmOutIdeal.main_v0_0)) (v1 : (c : Dev Cert.MmOutIdeal.nD) → Buf (Elt Ideal) ((c.tc : Thread Cert.MmOutIdeal.nD Cert.MmOutIdeal.τ).loc Cert.MmOutIdeal.main_v0_1)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0_0) = v0 c
          ∧ r.2.mem ((c.tc : Thread Cert.MmOutIdeal.nD Cert.MmOutIdeal.τ).loc Cert.MmOutIdeal.main_v0_1) = v1 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
          ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v3) = v0 c
          ∧ r.2.mem ((c.tc : Thread Cert.MmOutRefIdeal.nD Cert.MmOutRefIdeal.τ).loc Cert.MmOutRefIdeal.main_v16) = v1 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2)
          ∧ r.2.mem ((c.tc : Thread Cert.MmOutRefIdeal.nD Cert.MmOutRefIdeal.τ).loc Cert.MmOutRefIdeal.main_arg3) = m' ((c.tc : Thread Cert.MmOutRefIdeal.nD Cert.MmOutRefIdeal.τ).loc Cert.MmOutRefIdeal.main_arg3))

def preserves_MmGateUp_MmGateUpIdeal : Prop :=
  True

def algebraic_MmGateUpIdeal_MmGateUpRefIdeal [hMmGateUpIdeal : Cert.MmGateUpIdeal.Facts] [hMmGateUpRefIdeal : Cert.MmGateUpRefIdeal.Facts] : Prop :=
  ∀ (m : (ℓ : Loc Cert.MmGateUpIdeal.nD Cert.MmGateUpIdeal.τ Cert.MmGateUpIdeal.sig) → Buf (Elt Ideal) ℓ) (g : Dev Cert.MmGateUpIdeal.nD → PrngReg)
    (m' : (ℓ : Loc Cert.MmGateUpRefIdeal.nD Cert.MmGateUpRefIdeal.τ Cert.MmGateUpRefIdeal.sig) → Buf (Elt Ideal) ℓ) (g' : Dev Cert.MmGateUpRefIdeal.nD → PrngReg), Pre_MmGateUpIdeal m →
    (∀ c : Dev Cert.MmGateUpIdeal.nD,
      m' ((c.tc : Thread Cert.MmGateUpRefIdeal.nD Cert.MmGateUpRefIdeal.τ).loc Cert.MmGateUpRefIdeal.main_arg0) = m ((c.tc : Thread Cert.MmGateUpIdeal.nD Cert.MmGateUpIdeal.τ).loc Cert.MmGateUpIdeal.main_arg0)
      ∧ m' ((c.tc : Thread Cert.MmGateUpRefIdeal.nD Cert.MmGateUpRefIdeal.τ).loc Cert.MmGateUpRefIdeal.main_arg1) = m ((c.tc : Thread Cert.MmGateUpIdeal.nD Cert.MmGateUpIdeal.τ).loc Cert.MmGateUpIdeal.main_arg1)
      ∧ m' ((c.tc : Thread Cert.MmGateUpRefIdeal.nD Cert.MmGateUpRefIdeal.τ).loc Cert.MmGateUpRefIdeal.main_arg2) = m ((c.tc : Thread Cert.MmGateUpIdeal.nD Cert.MmGateUpIdeal.τ).loc Cert.MmGateUpIdeal.main_arg2)) →
    ∃ (v0 : (c : Dev Cert.MmGateUpIdeal.nD) → Buf (Elt Ideal) ((c.tc : Thread Cert.MmGateUpIdeal.nD Cert.MmGateUpIdeal.τ).loc Cert.MmGateUpIdeal.main_v0_0)) (v1 : (c : Dev Cert.MmGateUpIdeal.nD) → Buf (Elt Ideal) ((c.tc : Thread Cert.MmGateUpIdeal.nD Cert.MmGateUpIdeal.τ).loc Cert.MmGateUpIdeal.main_v0_1)) (v2 : (c : Dev Cert.MmGateUpIdeal.nD) → Buf (Elt Ideal) ((c.tc : Thread Cert.MmGateUpIdeal.nD Cert.MmGateUpIdeal.τ).loc Cert.MmGateUpIdeal.main_v0_2)),
      θ_run (Cert.MmGateUpIdeal.defs (F := Ideal)) (onTc (τ := Cert.MmGateUpIdeal.τ) (Cert.MmGateUpIdeal.main (F := Ideal))) ⟨m, fun _ => 0, g⟩ (fun r => ∀ c : Dev Cert.MmGateUpIdeal.nD,
          r.2.mem ((c.tc : Thread Cert.MmGateUpIdeal.nD Cert.MmGateUpIdeal.τ).loc Cert.MmGateUpIdeal.main_v0_0) = v0 c
          ∧ r.2.mem ((c.tc : Thread Cert.MmGateUpIdeal.nD Cert.MmGateUpIdeal.τ).loc Cert.MmGateUpIdeal.main_v0_1) = v1 c
          ∧ r.2.mem ((c.tc : Thread Cert.MmGateUpIdeal.nD Cert.MmGateUpIdeal.τ).loc Cert.MmGateUpIdeal.main_v0_2) = v2 c
          ∧ r.2.mem ((c.tc : Thread Cert.MmGateUpIdeal.nD Cert.MmGateUpIdeal.τ).loc Cert.MmGateUpIdeal.main_arg0) = m ((c.tc : Thread Cert.MmGateUpIdeal.nD Cert.MmGateUpIdeal.τ).loc Cert.MmGateUpIdeal.main_arg0)
          ∧ r.2.mem ((c.tc : Thread Cert.MmGateUpIdeal.nD Cert.MmGateUpIdeal.τ).loc Cert.MmGateUpIdeal.main_arg1) = m ((c.tc : Thread Cert.MmGateUpIdeal.nD Cert.MmGateUpIdeal.τ).loc Cert.MmGateUpIdeal.main_arg1)
          ∧ r.2.mem ((c.tc : Thread Cert.MmGateUpIdeal.nD Cert.MmGateUpIdeal.τ).loc Cert.MmGateUpIdeal.main_arg2) = m ((c.tc : Thread Cert.MmGateUpIdeal.nD Cert.MmGateUpIdeal.τ).loc Cert.MmGateUpIdeal.main_arg2))
      ∧ θ_run (Cert.MmGateUpRefIdeal.defs (F := Ideal)) (onTc (τ := Cert.MmGateUpRefIdeal.τ) (Cert.MmGateUpRefIdeal.main (F := Ideal))) ⟨m', fun _ => 0, g'⟩ (fun r => ∀ c : Dev Cert.MmGateUpRefIdeal.nD,
          r.2.mem ((c.tc : Thread Cert.MmGateUpRefIdeal.nD Cert.MmGateUpRefIdeal.τ).loc Cert.MmGateUpRefIdeal.main_v6) = v0 c
          ∧ r.2.mem ((c.tc : Thread Cert.MmGateUpRefIdeal.nD Cert.MmGateUpRefIdeal.τ).loc Cert.MmGateUpRefIdeal.main_v7) = v1 c
          ∧ r.2.mem ((c.tc : Thread Cert.MmGateUpRefIdeal.nD Cert.MmGateUpRefIdeal.τ).loc Cert.MmGateUpRefIdeal.main_v10) = v2 c
          ∧ r.2.mem ((c.tc : Thread Cert.MmGateUpRefIdeal.nD Cert.MmGateUpRefIdeal.τ).loc Cert.MmGateUpRefIdeal.main_arg0) = m' ((c.tc : Thread Cert.MmGateUpRefIdeal.nD Cert.MmGateUpRefIdeal.τ).loc Cert.MmGateUpRefIdeal.main_arg0)
          ∧ r.2.mem ((c.tc : Thread Cert.MmGateUpRefIdeal.nD Cert.MmGateUpRefIdeal.τ).loc Cert.MmGateUpRefIdeal.main_arg1) = m' ((c.tc : Thread Cert.MmGateUpRefIdeal.nD Cert.MmGateUpRefIdeal.τ).loc Cert.MmGateUpRefIdeal.main_arg1)
          ∧ r.2.mem ((c.tc : Thread Cert.MmGateUpRefIdeal.nD Cert.MmGateUpRefIdeal.τ).loc Cert.MmGateUpRefIdeal.main_arg2) = m' ((c.tc : Thread Cert.MmGateUpRefIdeal.nD Cert.MmGateUpRefIdeal.τ).loc Cert.MmGateUpRefIdeal.main_arg2))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)
      ∧ m' ((c.tc : Thread Cert.MmDownRefIdeal.nD Cert.MmDownRefIdeal.τ).loc Cert.MmDownRefIdeal.main_arg2) = m ((c.tc : Thread Cert.MmDownIdeal.nD Cert.MmDownIdeal.τ).loc Cert.MmDownIdeal.main_arg2)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v3) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1)
          ∧ r.2.mem ((c.tc : Thread Cert.MmDownRefIdeal.nD Cert.MmDownRefIdeal.τ).loc Cert.MmDownRefIdeal.main_arg2) = m' ((c.tc : Thread Cert.MmDownRefIdeal.nD Cert.MmDownRefIdeal.τ).loc Cert.MmDownRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg1) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg1) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamPle_AdamPleIdeal : Prop :=
  True

def algebraic_AdamPleIdeal_AdamPleRefIdeal [hAdamPleIdeal : Cert.AdamPleIdeal.Facts] [hAdamPleRefIdeal : Cert.AdamPleRefIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleRefIdeal.nD Cert.AdamPleRefIdeal.τ Cert.AdamPleRefIdeal.sig) → Buf (Elt Ideal) ℓ) (g' : Dev Cert.AdamPleRefIdeal.nD → PrngReg), Pre_AdamPleIdeal m →
    (∀ c : Dev Cert.AdamPleIdeal.nD,
      m' ((c.tc : Thread Cert.AdamPleRefIdeal.nD Cert.AdamPleRefIdeal.τ).loc Cert.AdamPleRefIdeal.main_arg0) = m ((c.tc : Thread Cert.AdamPleIdeal.nD Cert.AdamPleIdeal.τ).loc Cert.AdamPleIdeal.main_arg0)
      ∧ m' ((c.tc : Thread Cert.AdamPleRefIdeal.nD Cert.AdamPleRefIdeal.τ).loc Cert.AdamPleRefIdeal.main_arg1) = m ((c.tc : Thread Cert.AdamPleIdeal.nD Cert.AdamPleIdeal.τ).loc Cert.AdamPleIdeal.main_arg1)
      ∧ m' ((c.tc : Thread Cert.AdamPleRefIdeal.nD Cert.AdamPleRefIdeal.τ).loc Cert.AdamPleRefIdeal.main_arg2) = m ((c.tc : Thread Cert.AdamPleIdeal.nD Cert.AdamPleIdeal.τ).loc Cert.AdamPleIdeal.main_arg2)
      ∧ m' ((c.tc : Thread Cert.AdamPleRefIdeal.nD Cert.AdamPleRefIdeal.τ).loc Cert.AdamPleRefIdeal.main_arg3) = m ((c.tc : Thread Cert.AdamPleIdeal.nD Cert.AdamPleIdeal.τ).loc Cert.AdamPleIdeal.main_arg3)) →
    ∃ (v0 : (c : Dev Cert.AdamPleIdeal.nD) → Buf (Elt Ideal) ((c.tc : Thread Cert.AdamPleIdeal.nD Cert.AdamPleIdeal.τ).loc Cert.AdamPleIdeal.main_v0_0)) (v1 : (c : Dev Cert.AdamPleIdeal.nD) → Buf (Elt Ideal) ((c.tc : Thread Cert.AdamPleIdeal.nD Cert.AdamPleIdeal.τ).loc Cert.AdamPleIdeal.main_v0_1)) (v2 : (c : Dev Cert.AdamPleIdeal.nD) → Buf (Elt Ideal) ((c.tc : Thread Cert.AdamPleIdeal.nD Cert.AdamPleIdeal.τ).loc Cert.AdamPleIdeal.main_v0_2)) (v3 : (c : Dev Cert.AdamPleIdeal.nD) → Buf (Elt Ideal) ((c.tc : Thread Cert.AdamPleIdeal.nD Cert.AdamPleIdeal.τ).loc Cert.AdamPleIdeal.main_v0_3)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v0_0) = v0 c
          ∧ r.2.mem ((c.tc : Thread Cert.AdamPleIdeal.nD Cert.AdamPleIdeal.τ).loc Cert.AdamPleIdeal.main_v0_1) = v1 c
          ∧ r.2.mem ((c.tc : Thread Cert.AdamPleIdeal.nD Cert.AdamPleIdeal.τ).loc Cert.AdamPleIdeal.main_v0_2) = v2 c
          ∧ r.2.mem ((c.tc : Thread Cert.AdamPleIdeal.nD Cert.AdamPleIdeal.τ).loc Cert.AdamPleIdeal.main_v0_3) = v3 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ θ_run (Cert.AdamPleRefIdeal.defs (F := Ideal)) (onTc (τ := Cert.AdamPleRefIdeal.τ) (Cert.AdamPleRefIdeal.main (F := Ideal))) ⟨m', fun _ => 0, g'⟩ (fun r => ∀ c : Dev Cert.AdamPleRefIdeal.nD,
          r.2.mem ((c.tc : Thread Cert.AdamPleRefIdeal.nD Cert.AdamPleRefIdeal.τ).loc Cert.AdamPleRefIdeal.main_v23) = v0 c
          ∧ r.2.mem ((c.tc : Thread Cert.AdamPleRefIdeal.nD Cert.AdamPleRefIdeal.τ).loc Cert.AdamPleRefIdeal.main_v4) = v1 c
          ∧ r.2.mem ((c.tc : Thread Cert.AdamPleRefIdeal.nD Cert.AdamPleRefIdeal.τ).loc Cert.AdamPleRefIdeal.main_v10) = v2 c
          ∧ r.2.mem ((c.tc : Thread Cert.AdamPleRefIdeal.nD Cert.AdamPleRefIdeal.τ).loc Cert.AdamPleRefIdeal.main_arg1) = v3 c
          ∧ r.2.mem ((c.tc : Thread Cert.AdamPleRefIdeal.nD Cert.AdamPleRefIdeal.τ).loc Cert.AdamPleRefIdeal.main_arg0) = m' ((c.tc : Thread Cert.AdamPleRefIdeal.nD Cert.AdamPleRefIdeal.τ).loc Cert.AdamPleRefIdeal.main_arg0)
          ∧ r.2.mem ((c.tc : Thread Cert.AdamPleRefIdeal.nD Cert.AdamPleRefIdeal.τ).loc Cert.AdamPleRefIdeal.main_arg1) = m' ((c.tc : Thread Cert.AdamPleRefIdeal.nD Cert.AdamPleRefIdeal.τ).loc Cert.AdamPleRefIdeal.main_arg1)
          ∧ r.2.mem ((c.tc : Thread Cert.AdamPleRefIdeal.nD Cert.AdamPleRefIdeal.τ).loc Cert.AdamPleRefIdeal.main_arg2) = m' ((c.tc : Thread Cert.AdamPleRefIdeal.nD Cert.AdamPleRefIdeal.τ).loc Cert.AdamPleRefIdeal.main_arg2)
          ∧ r.2.mem ((c.tc : Thread Cert.AdamPleRefIdeal.nD Cert.AdamPleRefIdeal.τ).loc Cert.AdamPleRefIdeal.main_arg3) = m' ((c.tc : Thread Cert.AdamPleRefIdeal.nD Cert.AdamPleRefIdeal.τ).loc Cert.AdamPleRefIdeal.main_arg3))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)) (v3 : (c : Dev Cert.AdamVecIdeal.nD) → Buf (Elt Ideal) ((c.tc : Thread Cert.AdamVecIdeal.nD Cert.AdamVecIdeal.τ).loc Cert.AdamVecIdeal.main_v0_3)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_v0_3) = v3 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v23) = v0 c
          ∧ r.2.mem ((c.tc : Thread Cert.AdamVecRefIdeal.nD Cert.AdamVecRefIdeal.τ).loc Cert.AdamVecRefIdeal.main_v4) = v1 c
          ∧ r.2.mem ((c.tc : Thread Cert.AdamVecRefIdeal.nD Cert.AdamVecRefIdeal.τ).loc Cert.AdamVecRefIdeal.main_v10) = v2 c
          ∧ r.2.mem ((c.tc : Thread Cert.AdamVecRefIdeal.nD Cert.AdamVecRefIdeal.τ).loc Cert.AdamVecRefIdeal.main_arg1) = v3 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_AdamHalf_AdamHalfIdeal : Prop :=
  True

def algebraic_AdamHalfIdeal_AdamHalfRefIdeal [hAdamHalfIdeal : Cert.AdamHalfIdeal.Facts] [hAdamHalfRefIdeal : Cert.AdamHalfRefIdeal.Facts] : Prop :=
  ∀ (m : (ℓ : Loc Cert.AdamHalfIdeal.nD Cert.AdamHalfIdeal.τ Cert.AdamHalfIdeal.sig) → Buf (Elt Ideal) ℓ) (g : Dev Cert.AdamHalfIdeal.nD → PrngReg)
    (m' : (ℓ : Loc Cert.AdamHalfRefIdeal.nD Cert.AdamHalfRefIdeal.τ Cert.AdamHalfRefIdeal.sig) → Buf (Elt Ideal) ℓ) (g' : Dev Cert.AdamHalfRefIdeal.nD → PrngReg), Pre_AdamHalfIdeal m →
    (∀ c : Dev Cert.AdamHalfIdeal.nD,
      m' ((c.tc : Thread Cert.AdamHalfRefIdeal.nD Cert.AdamHalfRefIdeal.τ).loc Cert.AdamHalfRefIdeal.main_arg0) = m ((c.tc : Thread Cert.AdamHalfIdeal.nD Cert.AdamHalfIdeal.τ).loc Cert.AdamHalfIdeal.main_arg0)
      ∧ m' ((c.tc : Thread Cert.AdamHalfRefIdeal.nD Cert.AdamHalfRefIdeal.τ).loc Cert.AdamHalfRefIdeal.main_arg1) = m ((c.tc : Thread Cert.AdamHalfIdeal.nD Cert.AdamHalfIdeal.τ).loc Cert.AdamHalfIdeal.main_arg1)
      ∧ m' ((c.tc : Thread Cert.AdamHalfRefIdeal.nD Cert.AdamHalfRefIdeal.τ).loc Cert.AdamHalfRefIdeal.main_arg2) = m ((c.tc : Thread Cert.AdamHalfIdeal.nD Cert.AdamHalfIdeal.τ).loc Cert.AdamHalfIdeal.main_arg2)
      ∧ m' ((c.tc : Thread Cert.AdamHalfRefIdeal.nD Cert.AdamHalfRefIdeal.τ).loc Cert.AdamHalfRefIdeal.main_arg3) = m ((c.tc : Thread Cert.AdamHalfIdeal.nD Cert.AdamHalfIdeal.τ).loc Cert.AdamHalfIdeal.main_arg3)) →
    ∃ (v0 : (c : Dev Cert.AdamHalfIdeal.nD) → Buf (Elt Ideal) ((c.tc : Thread Cert.AdamHalfIdeal.nD Cert.AdamHalfIdeal.τ).loc Cert.AdamHalfIdeal.main_v0_0)) (v1 : (c : Dev Cert.AdamHalfIdeal.nD) → Buf (Elt Ideal) ((c.tc : Thread Cert.AdamHalfIdeal.nD Cert.AdamHalfIdeal.τ).loc Cert.AdamHalfIdeal.main_v0_1)) (v2 : (c : Dev Cert.AdamHalfIdeal.nD) → Buf (Elt Ideal) ((c.tc : Thread Cert.AdamHalfIdeal.nD Cert.AdamHalfIdeal.τ).loc Cert.AdamHalfIdeal.main_v0_2)) (v3 : (c : Dev Cert.AdamHalfIdeal.nD) → Buf (Elt Ideal) ((c.tc : Thread Cert.AdamHalfIdeal.nD Cert.AdamHalfIdeal.τ).loc Cert.AdamHalfIdeal.main_v0_3)),
      θ_run (Cert.AdamHalfIdeal.defs (F := Ideal)) (onTc (τ := Cert.AdamHalfIdeal.τ) (Cert.AdamHalfIdeal.main (F := Ideal))) ⟨m, fun _ => 0, g⟩ (fun r => ∀ c : Dev Cert.AdamHalfIdeal.nD,
          r.2.mem ((c.tc : Thread Cert.AdamHalfIdeal.nD Cert.AdamHalfIdeal.τ).loc Cert.AdamHalfIdeal.main_v0_0) = v0 c
          ∧ r.2.mem ((c.tc : Thread Cert.AdamHalfIdeal.nD Cert.AdamHalfIdeal.τ).loc Cert.AdamHalfIdeal.main_v0_1) = v1 c
          ∧ r.2.mem ((c.tc : Thread Cert.AdamHalfIdeal.nD Cert.AdamHalfIdeal.τ).loc Cert.AdamHalfIdeal.main_v0_2) = v2 c
          ∧ r.2.mem ((c.tc : Thread Cert.AdamHalfIdeal.nD Cert.AdamHalfIdeal.τ).loc Cert.AdamHalfIdeal.main_v0_3) = v3 c
          ∧ r.2.mem ((c.tc : Thread Cert.AdamHalfIdeal.nD Cert.AdamHalfIdeal.τ).loc Cert.AdamHalfIdeal.main_arg0) = m ((c.tc : Thread Cert.AdamHalfIdeal.nD Cert.AdamHalfIdeal.τ).loc Cert.AdamHalfIdeal.main_arg0)
          ∧ r.2.mem ((c.tc : Thread Cert.AdamHalfIdeal.nD Cert.AdamHalfIdeal.τ).loc Cert.AdamHalfIdeal.main_arg1) = m ((c.tc : Thread Cert.AdamHalfIdeal.nD Cert.AdamHalfIdeal.τ).loc Cert.AdamHalfIdeal.main_arg1)
          ∧ r.2.mem ((c.tc : Thread Cert.AdamHalfIdeal.nD Cert.AdamHalfIdeal.τ).loc Cert.AdamHalfIdeal.main_arg2) = m ((c.tc : Thread Cert.AdamHalfIdeal.nD Cert.AdamHalfIdeal.τ).loc Cert.AdamHalfIdeal.main_arg2)
          ∧ r.2.mem ((c.tc : Thread Cert.AdamHalfIdeal.nD Cert.AdamHalfIdeal.τ).loc Cert.AdamHalfIdeal.main_arg3) = m ((c.tc : Thread Cert.AdamHalfIdeal.nD Cert.AdamHalfIdeal.τ).loc Cert.AdamHalfIdeal.main_arg3))
      ∧ θ_run (Cert.AdamHalfRefIdeal.defs (F := Ideal)) (onTc (τ := Cert.AdamHalfRefIdeal.τ) (Cert.AdamHalfRefIdeal.main (F := Ideal))) ⟨m', fun _ => 0, g'⟩ (fun r => ∀ c : Dev Cert.AdamHalfRefIdeal.nD,
          r.2.mem ((c.tc : Thread Cert.AdamHalfRefIdeal.nD Cert.AdamHalfRefIdeal.τ).loc Cert.AdamHalfRefIdeal.main_v23) = v0 c
          ∧ r.2.mem ((c.tc : Thread Cert.AdamHalfRefIdeal.nD Cert.AdamHalfRefIdeal.τ).loc Cert.AdamHalfRefIdeal.main_v4) = v1 c
          ∧ r.2.mem ((c.tc : Thread Cert.AdamHalfRefIdeal.nD Cert.AdamHalfRefIdeal.τ).loc Cert.AdamHalfRefIdeal.main_v10) = v2 c
          ∧ r.2.mem ((c.tc : Thread Cert.AdamHalfRefIdeal.nD Cert.AdamHalfRefIdeal.τ).loc Cert.AdamHalfRefIdeal.main_arg1) = v3 c
          ∧ r.2.mem ((c.tc : Thread Cert.AdamHalfRefIdeal.nD Cert.AdamHalfRefIdeal.τ).loc Cert.AdamHalfRefIdeal.main_arg0) = m' ((c.tc : Thread Cert.AdamHalfRefIdeal.nD Cert.AdamHalfRefIdeal.τ).loc Cert.AdamHalfRefIdeal.main_arg0)
          ∧ r.2.mem ((c.tc : Thread Cert.AdamHalfRefIdeal.nD Cert.AdamHalfRefIdeal.τ).loc Cert.AdamHalfRefIdeal.main_arg1) = m' ((c.tc : Thread Cert.AdamHalfRefIdeal.nD Cert.AdamHalfRefIdeal.τ).loc Cert.AdamHalfRefIdeal.main_arg1)
          ∧ r.2.mem ((c.tc : Thread Cert.AdamHalfRefIdeal.nD Cert.AdamHalfRefIdeal.τ).loc Cert.AdamHalfRefIdeal.main_arg2) = m' ((c.tc : Thread Cert.AdamHalfRefIdeal.nD Cert.AdamHalfRefIdeal.τ).loc Cert.AdamHalfRefIdeal.main_arg2)
          ∧ r.2.mem ((c.tc : Thread Cert.AdamHalfRefIdeal.nD Cert.AdamHalfRefIdeal.τ).loc Cert.AdamHalfRefIdeal.main_arg3) = m' ((c.tc : Thread Cert.AdamHalfRefIdeal.nD Cert.AdamHalfRefIdeal.τ).loc Cert.AdamHalfRefIdeal.main_arg3))

def preserves_AdamDw_AdamDwIdeal : Prop :=
  True

def algebraic_AdamDwIdeal_AdamDwRefIdeal [hAdamDwIdeal : Cert.AdamDwIdeal.Facts] [hAdamDwRefIdeal : Cert.AdamDwRefIdeal.Facts] : Prop :=
  ∀ (m : (ℓ : Loc Cert.AdamDwIdeal.nD Cert.AdamDwIdeal.τ Cert.AdamDwIdeal.sig) → Buf (Elt Ideal) ℓ) (g : Dev Cert.AdamDwIdeal.nD → PrngReg)
    (m' : (ℓ : Loc Cert.AdamDwRefIdeal.nD Cert.AdamDwRefIdeal.τ Cert.AdamDwRefIdeal.sig) → Buf (Elt Ideal) ℓ) (g' : Dev Cert.AdamDwRefIdeal.nD → PrngReg), Pre_AdamDwIdeal m →
    (∀ c : Dev Cert.AdamDwIdeal.nD,
      m' ((c.tc : Thread Cert.AdamDwRefIdeal.nD Cert.AdamDwRefIdeal.τ).loc Cert.AdamDwRefIdeal.main_arg0) = m ((c.tc : Thread Cert.AdamDwIdeal.nD Cert.AdamDwIdeal.τ).loc Cert.AdamDwIdeal.main_arg0)
      ∧ m' ((c.tc : Thread Cert.AdamDwRefIdeal.nD Cert.AdamDwRefIdeal.τ).loc Cert.AdamDwRefIdeal.main_arg1) = m ((c.tc : Thread Cert.AdamDwIdeal.nD Cert.AdamDwIdeal.τ).loc Cert.AdamDwIdeal.main_arg1)
      ∧ m' ((c.tc : Thread Cert.AdamDwRefIdeal.nD Cert.AdamDwRefIdeal.τ).loc Cert.AdamDwRefIdeal.main_arg2) = m ((c.tc : Thread Cert.AdamDwIdeal.nD Cert.AdamDwIdeal.τ).loc Cert.AdamDwIdeal.main_arg2)
      ∧ m' ((c.tc : Thread Cert.AdamDwRefIdeal.nD Cert.AdamDwRefIdeal.τ).loc Cert.AdamDwRefIdeal.main_arg3) = m ((c.tc : Thread Cert.AdamDwIdeal.nD Cert.AdamDwIdeal.τ).loc Cert.AdamDwIdeal.main_arg3)) →
    ∃ (v0 : (c : Dev Cert.AdamDwIdeal.nD) → Buf (Elt Ideal) ((c.tc : Thread Cert.AdamDwIdeal.nD Cert.AdamDwIdeal.τ).loc Cert.AdamDwIdeal.main_v0_0)) (v1 : (c : Dev Cert.AdamDwIdeal.nD) → Buf (Elt Ideal) ((c.tc : Thread Cert.AdamDwIdeal.nD Cert.AdamDwIdeal.τ).loc Cert.AdamDwIdeal.main_v0_1)) (v2 : (c : Dev Cert.AdamDwIdeal.nD) → Buf (Elt Ideal) ((c.tc : Thread Cert.AdamDwIdeal.nD Cert.AdamDwIdeal.τ).loc Cert.AdamDwIdeal.main_v0_2)) (v3 : (c : Dev Cert.AdamDwIdeal.nD) → Buf (Elt Ideal) ((c.tc : Thread Cert.AdamDwIdeal.nD Cert.AdamDwIdeal.τ).loc Cert.AdamDwIdeal.main_v0_3)),
      θ_run (Cert.AdamDwIdeal.defs (F := Ideal)) (onTc (τ := Cert.AdamDwIdeal.τ) (Cert.AdamDwIdeal.main (F := Ideal))) ⟨m, fun _ => 0, g⟩ (fun r => ∀ c : Dev Cert.AdamDwIdeal.nD,
          r.2.mem ((c.tc : Thread Cert.AdamDwIdeal.nD Cert.AdamDwIdeal.τ).loc Cert.AdamDwIdeal.main_v0_0) = v0 c
          ∧ r.2.mem ((c.tc : Thread Cert.AdamDwIdeal.nD Cert.AdamDwIdeal.τ).loc Cert.AdamDwIdeal.main_v0_1) = v1 c
          ∧ r.2.mem ((c.tc : Thread Cert.AdamDwIdeal.nD Cert.AdamDwIdeal.τ).loc Cert.AdamDwIdeal.main_v0_2) = v2 c
          ∧ r.2.mem ((c.tc : Thread Cert.AdamDwIdeal.nD Cert.AdamDwIdeal.τ).loc Cert.AdamDwIdeal.main_v0_3) = v3 c
          ∧ r.2.mem ((c.tc : Thread Cert.AdamDwIdeal.nD Cert.AdamDwIdeal.τ).loc Cert.AdamDwIdeal.main_arg0) = m ((c.tc : Thread Cert.AdamDwIdeal.nD Cert.AdamDwIdeal.τ).loc Cert.AdamDwIdeal.main_arg0)
          ∧ r.2.mem ((c.tc : Thread Cert.AdamDwIdeal.nD Cert.AdamDwIdeal.τ).loc Cert.AdamDwIdeal.main_arg1) = m ((c.tc : Thread Cert.AdamDwIdeal.nD Cert.AdamDwIdeal.τ).loc Cert.AdamDwIdeal.main_arg1)
          ∧ r.2.mem ((c.tc : Thread Cert.AdamDwIdeal.nD Cert.AdamDwIdeal.τ).loc Cert.AdamDwIdeal.main_arg2) = m ((c.tc : Thread Cert.AdamDwIdeal.nD Cert.AdamDwIdeal.τ).loc Cert.AdamDwIdeal.main_arg2)
          ∧ r.2.mem ((c.tc : Thread Cert.AdamDwIdeal.nD Cert.AdamDwIdeal.τ).loc Cert.AdamDwIdeal.main_arg3) = m ((c.tc : Thread Cert.AdamDwIdeal.nD Cert.AdamDwIdeal.τ).loc Cert.AdamDwIdeal.main_arg3))
      ∧ θ_run (Cert.AdamDwRefIdeal.defs (F := Ideal)) (onTc (τ := Cert.AdamDwRefIdeal.τ) (Cert.AdamDwRefIdeal.main (F := Ideal))) ⟨m', fun _ => 0, g'⟩ (fun r => ∀ c : Dev Cert.AdamDwRefIdeal.nD,
          r.2.mem ((c.tc : Thread Cert.AdamDwRefIdeal.nD Cert.AdamDwRefIdeal.τ).loc Cert.AdamDwRefIdeal.main_v23) = v0 c
          ∧ r.2.mem ((c.tc : Thread Cert.AdamDwRefIdeal.nD Cert.AdamDwRefIdeal.τ).loc Cert.AdamDwRefIdeal.main_v4) = v1 c
          ∧ r.2.mem ((c.tc : Thread Cert.AdamDwRefIdeal.nD Cert.AdamDwRefIdeal.τ).loc Cert.AdamDwRefIdeal.main_v10) = v2 c
          ∧ r.2.mem ((c.tc : Thread Cert.AdamDwRefIdeal.nD Cert.AdamDwRefIdeal.τ).loc Cert.AdamDwRefIdeal.main_arg1) = v3 c
          ∧ r.2.mem ((c.tc : Thread Cert.AdamDwRefIdeal.nD Cert.AdamDwRefIdeal.τ).loc Cert.AdamDwRefIdeal.main_arg0) = m' ((c.tc : Thread Cert.AdamDwRefIdeal.nD Cert.AdamDwRefIdeal.τ).loc Cert.AdamDwRefIdeal.main_arg0)
          ∧ r.2.mem ((c.tc : Thread Cert.AdamDwRefIdeal.nD Cert.AdamDwRefIdeal.τ).loc Cert.AdamDwRefIdeal.main_arg1) = m' ((c.tc : Thread Cert.AdamDwRefIdeal.nD Cert.AdamDwRefIdeal.τ).loc Cert.AdamDwRefIdeal.main_arg1)
          ∧ r.2.mem ((c.tc : Thread Cert.AdamDwRefIdeal.nD Cert.AdamDwRefIdeal.τ).loc Cert.AdamDwRefIdeal.main_arg2) = m' ((c.tc : Thread Cert.AdamDwRefIdeal.nD Cert.AdamDwRefIdeal.τ).loc Cert.AdamDwRefIdeal.main_arg2)
          ∧ r.2.mem ((c.tc : Thread Cert.AdamDwRefIdeal.nD Cert.AdamDwRefIdeal.τ).loc Cert.AdamDwRefIdeal.main_arg3) = m' ((c.tc : Thread Cert.AdamDwRefIdeal.nD Cert.AdamDwRefIdeal.τ).loc Cert.AdamDwRefIdeal.main_arg3))

def Claim : Prop :=
  ∃ (hConvBwd : Cert.ConvBwd.Facts) (hConvBwdIdeal : Cert.ConvBwdIdeal.Facts) (hConvBwdRefIdeal : Cert.ConvBwdRefIdeal.Facts) (hSumSmall : Cert.SumSmall.Facts) (hSumSmallIdeal : Cert.SumSmallIdeal.Facts) (hSumSmallRefIdeal : Cert.SumSmallRefIdeal.Facts) (hRmsFwd : Cert.RmsFwd.Facts) (hRmsFwdIdeal : Cert.RmsFwdIdeal.Facts) (hRmsFwdRefIdeal : Cert.RmsFwdRefIdeal.Facts) (hRmsBwd : Cert.RmsBwd.Facts) (hRmsBwdIdeal : Cert.RmsBwdIdeal.Facts) (hRmsBwdRefIdeal : Cert.RmsBwdRefIdeal.Facts) (hPle : Cert.Ple.Facts) (hPleIdeal : Cert.PleIdeal.Facts) (hPleRefIdeal : Cert.PleRefIdeal.Facts) (hDact : Cert.Dact.Facts) (hDactIdeal : Cert.DactIdeal.Facts) (hDactRefIdeal : Cert.DactRefIdeal.Facts) (hDf : Cert.Df.Facts) (hDfIdeal : Cert.DfIdeal.Facts) (hDfRefIdeal : Cert.DfRefIdeal.Facts) (hDwGate : Cert.DwGate.Facts) (hDwGateIdeal : Cert.DwGateIdeal.Facts) (hDwGateRefIdeal : Cert.DwGateRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDwPgate : Cert.DwPgate.Facts) (hDwPgateIdeal : Cert.DwPgateIdeal.Facts) (hDwPgateRefIdeal : Cert.DwPgateRefIdeal.Facts) (hDwPle : Cert.DwPle.Facts) (hDwPleIdeal : Cert.DwPleIdeal.Facts) (hDwPleRefIdeal : Cert.DwPleRefIdeal.Facts) (hDa : Cert.Da.Facts) (hDaIdeal : Cert.DaIdeal.Facts) (hDaRefIdeal : Cert.DaRefIdeal.Facts) (hDcat : Cert.Dcat.Facts) (hDcatIdeal : Cert.DcatIdeal.Facts) (hDcatRefIdeal : Cert.DcatRefIdeal.Facts) (hMmIn : Cert.MmIn.Facts) (hMmInIdeal : Cert.MmInIdeal.Facts) (hMmInRefIdeal : Cert.MmInRefIdeal.Facts) (hMmOut : Cert.MmOut.Facts) (hMmOutIdeal : Cert.MmOutIdeal.Facts) (hMmOutRefIdeal : Cert.MmOutRefIdeal.Facts) (hMmGateUp : Cert.MmGateUp.Facts) (hMmGateUpIdeal : Cert.MmGateUpIdeal.Facts) (hMmGateUpRefIdeal : Cert.MmGateUpRefIdeal.Facts) (hMmDown : Cert.MmDown.Facts) (hMmDownIdeal : Cert.MmDownIdeal.Facts) (hMmDownRefIdeal : Cert.MmDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamPle : Cert.AdamPle.Facts) (hAdamPleIdeal : Cert.AdamPleIdeal.Facts) (hAdamPleRefIdeal : Cert.AdamPleRefIdeal.Facts) (hAdamVec : Cert.AdamVec.Facts) (hAdamVecIdeal : Cert.AdamVecIdeal.Facts) (hAdamVecRefIdeal : Cert.AdamVecRefIdeal.Facts) (hAdamHalf : Cert.AdamHalf.Facts) (hAdamHalfIdeal : Cert.AdamHalfIdeal.Facts) (hAdamHalfRefIdeal : Cert.AdamHalfRefIdeal.Facts) (hAdamDw : Cert.AdamDw.Facts) (hAdamDwIdeal : Cert.AdamDwIdeal.Facts) (hAdamDwRefIdeal : Cert.AdamDwRefIdeal.Facts) (hPre_finite_dact : Cert.Pre_finite_dact.Facts),
    quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_Ple (hPle := hPle)
    ∧ quiescent_PleIdeal (hPleIdeal := hPleIdeal)
    ∧ quiescent_PleRefIdeal (hPleRefIdeal := hPleRefIdeal)
    ∧ quiescent_Dact (hDact := hDact)
    ∧ quiescent_DactIdeal (hDactIdeal := hDactIdeal)
    ∧ quiescent_DactIdeal_pre_finite_dact (hDactIdeal := hDactIdeal) (hPre_finite_dact := hPre_finite_dact)
    ∧ quiescent_DactRefIdeal (hDactRefIdeal := hDactRefIdeal)
    ∧ quiescent_DactRefIdeal_pre_finite_dact (hDactRefIdeal := hDactRefIdeal) (hPre_finite_dact := hPre_finite_dact)
    ∧ quiescent_Df (hDf := hDf)
    ∧ quiescent_DfIdeal (hDfIdeal := hDfIdeal)
    ∧ quiescent_DfRefIdeal (hDfRefIdeal := hDfRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwPgate (hDwPgate := hDwPgate)
    ∧ quiescent_DwPgateIdeal (hDwPgateIdeal := hDwPgateIdeal)
    ∧ quiescent_DwPgateRefIdeal (hDwPgateRefIdeal := hDwPgateRefIdeal)
    ∧ quiescent_DwPle (hDwPle := hDwPle)
    ∧ quiescent_DwPleIdeal (hDwPleIdeal := hDwPleIdeal)
    ∧ quiescent_DwPleRefIdeal (hDwPleRefIdeal := hDwPleRefIdeal)
    ∧ quiescent_Da (hDa := hDa)
    ∧ quiescent_DaIdeal (hDaIdeal := hDaIdeal)
    ∧ quiescent_DaRefIdeal (hDaRefIdeal := hDaRefIdeal)
    ∧ quiescent_Dcat (hDcat := hDcat)
    ∧ quiescent_DcatIdeal (hDcatIdeal := hDcatIdeal)
    ∧ quiescent_DcatRefIdeal (hDcatRefIdeal := hDcatRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmGateUp (hMmGateUp := hMmGateUp)
    ∧ quiescent_MmGateUpIdeal (hMmGateUpIdeal := hMmGateUpIdeal)
    ∧ quiescent_MmGateUpRefIdeal (hMmGateUpRefIdeal := hMmGateUpRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamPle (hAdamPle := hAdamPle)
    ∧ quiescent_AdamPleIdeal (hAdamPleIdeal := hAdamPleIdeal)
    ∧ quiescent_AdamPleRefIdeal (hAdamPleRefIdeal := hAdamPleRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamHalf (hAdamHalf := hAdamHalf)
    ∧ quiescent_AdamHalfIdeal (hAdamHalfIdeal := hAdamHalfIdeal)
    ∧ quiescent_AdamHalfRefIdeal (hAdamHalfRefIdeal := hAdamHalfRefIdeal)
    ∧ quiescent_AdamDw (hAdamDw := hAdamDw)
    ∧ quiescent_AdamDwIdeal (hAdamDwIdeal := hAdamDwIdeal)
    ∧ quiescent_AdamDwRefIdeal (hAdamDwRefIdeal := hAdamDwRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_SumSmall_SumSmallIdeal
    ∧ algebraic_SumSmallIdeal_SumSmallRefIdeal (hSumSmallIdeal := hSumSmallIdeal) (hSumSmallRefIdeal := hSumSmallRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_Ple_PleIdeal
    ∧ algebraic_PleIdeal_PleRefIdeal (hPleIdeal := hPleIdeal) (hPleRefIdeal := hPleRefIdeal)
    ∧ preserves_Dact_DactIdeal
    ∧ algebraic_DactIdeal_DactRefIdeal_pre_finite_dact (hDactIdeal := hDactIdeal) (hDactRefIdeal := hDactRefIdeal) (hPre_finite_dact := hPre_finite_dact)
    ∧ preserves_Df_DfIdeal
    ∧ algebraic_DfIdeal_DfRefIdeal (hDfIdeal := hDfIdeal) (hDfRefIdeal := hDfRefIdeal)
    ∧ preserves_DwGate_DwGateIdeal
    ∧ algebraic_DwGateIdeal_DwGateRefIdeal (hDwGateIdeal := hDwGateIdeal) (hDwGateRefIdeal := hDwGateRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_DwPgate_DwPgateIdeal
    ∧ algebraic_DwPgateIdeal_DwPgateRefIdeal (hDwPgateIdeal := hDwPgateIdeal) (hDwPgateRefIdeal := hDwPgateRefIdeal)
    ∧ preserves_DwPle_DwPleIdeal
    ∧ algebraic_DwPleIdeal_DwPleRefIdeal (hDwPleIdeal := hDwPleIdeal) (hDwPleRefIdeal := hDwPleRefIdeal)
    ∧ preserves_Da_DaIdeal
    ∧ algebraic_DaIdeal_DaRefIdeal (hDaIdeal := hDaIdeal) (hDaRefIdeal := hDaRefIdeal)
    ∧ preserves_Dcat_DcatIdeal
    ∧ algebraic_DcatIdeal_DcatRefIdeal (hDcatIdeal := hDcatIdeal) (hDcatRefIdeal := hDcatRefIdeal)
    ∧ preserves_MmIn_MmInIdeal
    ∧ algebraic_MmInIdeal_MmInRefIdeal (hMmInIdeal := hMmInIdeal) (hMmInRefIdeal := hMmInRefIdeal)
    ∧ preserves_MmOut_MmOutIdeal
    ∧ algebraic_MmOutIdeal_MmOutRefIdeal (hMmOutIdeal := hMmOutIdeal) (hMmOutRefIdeal := hMmOutRefIdeal)
    ∧ preserves_MmGateUp_MmGateUpIdeal
    ∧ algebraic_MmGateUpIdeal_MmGateUpRefIdeal (hMmGateUpIdeal := hMmGateUpIdeal) (hMmGateUpRefIdeal := hMmGateUpRefIdeal)
    ∧ preserves_MmDown_MmDownIdeal
    ∧ algebraic_MmDownIdeal_MmDownRefIdeal (hMmDownIdeal := hMmDownIdeal) (hMmDownRefIdeal := hMmDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamPle_AdamPleIdeal
    ∧ algebraic_AdamPleIdeal_AdamPleRefIdeal (hAdamPleIdeal := hAdamPleIdeal) (hAdamPleRefIdeal := hAdamPleRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamHalf_AdamHalfIdeal
    ∧ algebraic_AdamHalfIdeal_AdamHalfRefIdeal (hAdamHalfIdeal := hAdamHalfIdeal) (hAdamHalfRefIdeal := hAdamHalfRefIdeal)
    ∧ preserves_AdamDw_AdamDwIdeal
    ∧ algebraic_AdamDwIdeal_AdamDwRefIdeal (hAdamDwIdeal := hAdamDwIdeal) (hAdamDwRefIdeal := hAdamDwRefIdeal)
-- ==== Pre_finite_dact.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .bf16) (main_arg1 : FVec F S5632x2048 .bf16) (main_arg2 : FVec F S8192x5632 .bf16) (main_arg3 : FVec F S8192x5632 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S8192x5632 .f32 := (extf .f32 · bitsLt_bf16_f32) main_arg3
  let main_v12 : FVec F S8192x5632 .f32 := Host.absf main_v11
  let main_cst_2 : FVec F S_ .f32 := constant S_ .f32 0x7F800000#32
  let main_v13 : FVec F S8192x5632 .f32 := broadcastInDim S8192x5632 ![] bcast_S_S8192x5632 main_cst_2
  let main_v14 : IVec S8192x5632 1 := cmpf .olt main_v12 main_v13
  let main_c_3 : IVec S_ 1 := constantI S_ 1 1#1
  let main_v15 : IVec S_ 1 := (fun x v => Host.reduce IntOp.andi x v reducesTo_S8192x5632_S_d0_1 h_S_) main_v14 main_c_3
  let main_v16 : IVec S_ 1 := andi main_v10 main_v15
  main_v16
-- ==== ConvBwd.lean ====
abbrev S8192x5120 : Shape := ⟨2, ![8192, 5120]⟩
abbrev S8192x1024 : Shape := ⟨2, ![8192, 1024]⟩
abbrev S31x1024 : Shape := ⟨2, ![31, 1024]⟩
abbrev S_ : Shape := ⟨0, ![]⟩
abbrev S32x1024 : Shape := ⟨2, ![32, 1024]⟩
abbrev S512x1024 : Shape := ⟨2, ![512, 1024]⟩
abbrev S544x1024 : Shape := ⟨2, ![544, 1024]⟩
abbrev S7x544x1024 : Shape := ⟨3, ![7, 544, 1024]⟩
abbrev S536x1024 : Shape := ⟨2, ![536, 1024]⟩
abbrev S1x536x1024 : Shape := ⟨3, ![1, 536, 1024]⟩
abbrev S1x512x1024 : Shape := ⟨3, ![1, 512, 1024]⟩
abbrev S1x1024 : Shape := ⟨2, ![1, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x5120, .f32⟩
  | .hbm, ⟨1, _⟩ => ⟨S8192x1024, .f32⟩
  | .hbm, ⟨2, _⟩ => ⟨S31x1024, .f32⟩
  | .hbm, ⟨3, _⟩ => ⟨S_, .i32⟩
  | .hbm, ⟨4, _⟩ => ⟨S_, .f32⟩
  | .hbm, ⟨5, _⟩ => ⟨S32x1024, .f32⟩
  | .hbm, ⟨6, _⟩ => ⟨S8192x1024, .bf16⟩
  | .hbm, ⟨7, _⟩ => ⟨S8192x1024, .bf16⟩
  | .hbm, ⟨8, _⟩ => ⟨S32x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S32x1024, .f32⟩
  | .local _ .vmem, ⟨14, _⟩ => ⟨S544x1024, .f32⟩
  | .local _ .vmem, ⟨15, _⟩ => ⟨S7x544x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdRefIdeal.lean ====
abbrev S8192x5120 : Shape := ⟨2, ![8192, 5120]⟩
abbrev S8192x1024 : Shape := ⟨2, ![8192, 1024]⟩
abbrev S31x1024 : Shape := ⟨2, ![31, 1024]⟩
abbrev S_ : Shape := ⟨0, ![]⟩
abbrev S30x1024 : Shape := ⟨2, ![30, 1024]⟩
abbrev S8222x1024 : Shape := ⟨2, ![8222, 1024]⟩
abbrev S1x1024 : Shape := ⟨2, ![1, 1024]⟩
abbrev S1024 : Shape := ⟨1, ![1024]⟩
abbrev S32x1024 : Shape := ⟨2, ![32, 1024]⟩

abbrev nBuf : Space → Nat
  | .hbm => 714
  | .vmem => 0
  | .smem => 0
  | _ => 0

abbrev hbmTy0_0 (i : Nat) : BufTy := match i % 128 with
  | 0 => ⟨S8192x5120, .f32⟩
  | 1 => ⟨S8192x1024, .f32⟩
  | 2 => ⟨S31x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S30x1024, .f32⟩
  | 20 => ⟨S8222x1024, .f32⟩
  | 21 => ⟨S_, .f32⟩
  | 22 => ⟨S30x1024, .f32⟩
  | 23 => ⟨S8192x1024, .f32⟩
  | 24 => ⟨S1x1024, .f32⟩
  | 25 => ⟨S1024, .f32⟩
  | 26 => ⟨S1x1024, .f32⟩
  | 27 => ⟨S8192x1024, .f32⟩
  | 28 => ⟨S8192x1024, .f32⟩
  | 29 => ⟨S8192x1024, .f32⟩
  | 30 => ⟨S1x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S1024, .f32⟩
  | 39 => ⟨S1x1024, .f32⟩
  | 40 => ⟨S8192x1024, .f32⟩
  | 41 => ⟨S8192x1024, .f32⟩
  | 42 => ⟨S8192x1024, .f32⟩
  | 43 => ⟨S8192x1024, .f32⟩
  | 44 => ⟨S1x1024, .f32⟩
  | 45 => ⟨S1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S1x1024, .f32⟩
  | 52 => ⟨S1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S1x1024, .f32⟩
  | 66 => ⟨S1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S1x1024, .f32⟩
  | 73 => ⟨S1024, .f32⟩
  | 74 => ⟨S1x1024, .f32⟩
  | 75 => ⟨S8192x1024, .f32⟩
  | 76 => ⟨S8192x1024, .f32⟩
  | 77 => ⟨S8192x1024, .f32⟩
  | 78 => ⟨S8192x1024, .f32⟩
  | 79 => ⟨S1x1024, .f32⟩
  | 80 => ⟨S1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S1x1024, .f32⟩
  | 87 => ⟨S1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S1x1024, .f32⟩
  | 94 => ⟨S1024, .f32⟩
  | 95 => ⟨S1x1024, .f32⟩
  | 96 => ⟨S8192x1024, .f32⟩
  | 97 => ⟨S8192x1024, .f32⟩
  | 98 => ⟨S8192x1024, .f32⟩
  | 99 => ⟨S8192x1024, .f32⟩
  | 100 => ⟨S1x1024, .f32⟩
  | 101 => ⟨S1024, .f32⟩
  | 102 => ⟨S1x1024, .f32⟩
  | 103 => ⟨S8192x1024, .f32⟩
  | 104 => ⟨S8192x1024, .f32⟩
  | 105 => ⟨S8192x1024, .f32⟩
  | 106 => ⟨S8192x1024, .f32⟩
  | 107 => ⟨S1x1024, .f32⟩
  | 108 => ⟨S1024, .f32⟩
  | 109 => ⟨S1x1024, .f32⟩
  | 110 => ⟨S8192x1024, .f32⟩
  | 111 => ⟨S8192x1024, .f32⟩
  | 112 => ⟨S8192x1024, .f32⟩
  | 113 => ⟨S8192x1024, .f32⟩
  | 114 => ⟨S1x1024, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S8192x1024, .f32⟩
  | 121 => ⟨S1x1024, .f32⟩
  | 122 => ⟨S1024, .f32⟩
  | 123 => ⟨S1x1024, .f32⟩
  | 124 => ⟨S8192x1024, .f32⟩
  | 125 => ⟨S8192x1024, .f32⟩
  | 126 => ⟨S8192x1024, .f32⟩
  | 127 => ⟨S8192x1024, .f32⟩
  | _ => ⟨S8192x5120, .f32⟩

abbrev hbmTy0_1 (i : Nat) : BufTy := match i % 128 with
  | 0 => ⟨S1x1024, .f32⟩
  | 1 => ⟨S1024, .f32⟩
  | 2 => ⟨S1x1024, .f32⟩
  | 3 => ⟨S8192x1024, .f32⟩
  | 4 => ⟨S8192x1024, .f32⟩
  | 5 => ⟨S8192x1024, .f32⟩
  | 6 => ⟨S8192x1024, .f32⟩
  | 7 => ⟨S1x1024, .f32⟩
  | 8 => ⟨S1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S1x1024, .f32⟩
  | 15 => ⟨S1024, .f32⟩
  | 16 => ⟨S1x1024, .f32⟩
  | 17 => ⟨S8192x1024, .f32⟩
  | 18 => ⟨S8192x1024, .f32⟩
  | 19 => ⟨S8192x1024, .f32⟩
  | 20 => ⟨S8192x1024, .f32⟩
  | 21 => ⟨S1x1024, .f32⟩
  | 22 => ⟨S1024, .f32⟩
  | 23 => ⟨S1x1024, .f32⟩
  | 24 => ⟨S8192x1024, .f32⟩
  | 25 => ⟨S8192x1024, .f32⟩
  | 26 => ⟨S8192x1024, .f32⟩
  | 27 => ⟨S8192x1024, .f32⟩
  | 28 => ⟨S1x1024, .f32⟩
  | 29 => ⟨S1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S1x1024, .f32⟩
  | 43 => ⟨S1024, .f32⟩
  | 44 => ⟨S1x1024, .f32⟩
  | 45 => ⟨S8192x1024, .f32⟩
  | 46 => ⟨S8192x1024, .f32⟩
  | 47 => ⟨S8192x1024, .f32⟩
  | 48 => ⟨S8192x1024, .f32⟩
  | 49 => ⟨S1x1024, .f32⟩
  | 50 => ⟨S1024, .f32⟩
  | 51 => ⟨S1x1024, .f32⟩
  | 52 => ⟨S8192x1024, .f32⟩
  | 53 => ⟨S8192x1024, .f32⟩
  | 54 => ⟨S8192x1024, .f32⟩
  | 55 => ⟨S8192x1024, .f32⟩
  | 56 => ⟨S1x1024, .f32⟩
  | 57 => ⟨S1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S1x1024, .f32⟩
  | 64 => ⟨S1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S1x1024, .f32⟩
  | 71 => ⟨S1024, .f32⟩
  | 72 => ⟨S1x1024, .f32⟩
  | 73 => ⟨S8192x1024, .f32⟩
  | 74 => ⟨S8192x1024, .f32⟩
  | 75 => ⟨S8192x1024, .f32⟩
  | 76 => ⟨S8192x1024, .f32⟩
  | 77 => ⟨S1x1024, .f32⟩
  | 78 => ⟨S1024, .f32⟩
  | 79 => ⟨S1x1024, .f32⟩
  | 80 => ⟨S8192x1024, .f32⟩
  | 81 => ⟨S8192x1024, .f32⟩
  | 82 => ⟨S8192x1024, .f32⟩
  | 83 => ⟨S8192x1024, .f32⟩
  | 84 => ⟨S1x1024, .f32⟩
  | 85 => ⟨S1024, .f32⟩
  | 86 => ⟨S1x1024, .f32⟩
  | 87 => ⟨S8192x1024, .f32⟩
  | 88 => ⟨S8192x1024, .f32⟩
  | 89 => ⟨S8192x1024, .f32⟩
  | 90 => ⟨S8192x1024, .f32⟩
  | 91 => ⟨S1x1024, .f32⟩
  | 92 => ⟨S1024, .f32⟩
  | 93 => ⟨S1x1024, .f32⟩
  | 94 => ⟨S8192x1024, .f32⟩
  | 95 => ⟨S8192x1024, .f32⟩
  | 96 => ⟨S8192x1024, .f32⟩
  | 97 => ⟨S8192x1024, .f32⟩
  | 98 => ⟨S1x1024, .f32⟩
  | 99 => ⟨S1024, .f32⟩
  | 100 => ⟨S1x1024, .f32⟩
  | 101 => ⟨S8192x1024, .f32⟩
  | 102 => ⟨S8192x1024, .f32⟩
  | 103 => ⟨S8192x1024, .f32⟩
  | 104 => ⟨S8192x1024, .f32⟩
  | 105 => ⟨S1x1024, .f32⟩
  | 106 => ⟨S1024, .f32⟩
  | 107 => ⟨S1x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S_, .f32⟩
  | 123 => ⟨S31x1024, .f32⟩
  | 124 => ⟨S_, .f32⟩
  | 125 => ⟨S8222x1024, .f32⟩
  | 126 => ⟨S8192x1024, .f32⟩
  | 127 => ⟨S_, .f32⟩
  | _ => ⟨S8192x5120, .f32⟩

abbrev hbmTy0_2 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S_, .f32⟩
  | 5 => ⟨S1024, .f32⟩
  | 6 => ⟨S1x1024, .f32⟩
  | 7 => ⟨S_, .f32⟩
  | 8 => ⟨S31x1024, .f32⟩
  | 9 => ⟨S31x1024, .f32⟩
  | 10 => ⟨S_, .f32⟩
  | 11 => ⟨S8222x1024, .f32⟩
  | 12 => ⟨S8222x1024, .f32⟩
  | 13 => ⟨S8192x1024, .f32⟩
  | 14 => ⟨S_, .f32⟩
  | 15 => ⟨S1024, .f32⟩
  | 16 => ⟨S1x1024, .f32⟩
  | 17 => ⟨S8192x1024, .f32⟩
  | 18 => ⟨S8192x1024, .f32⟩
  | 19 => ⟨S_, .f32⟩
  | 20 => ⟨S1024, .f32⟩
  | 21 => ⟨S1x1024, .f32⟩
  | 22 => ⟨S_, .f32⟩
  | 23 => ⟨S31x1024, .f32⟩
  | 24 => ⟨S31x1024, .f32⟩
  | 25 => ⟨S_, .f32⟩
  | 26 => ⟨S8222x1024, .f32⟩
  | 27 => ⟨S8222x1024, .f32⟩
  | 28 => ⟨S8192x1024, .f32⟩
  | 29 => ⟨S_, .f32⟩
  | 30 => ⟨S1024, .f32⟩
  | 31 => ⟨S1x1024, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S_, .f32⟩
  | 38 => ⟨S31x1024, .f32⟩
  | 39 => ⟨S31x1024, .f32⟩
  | 40 => ⟨S_, .f32⟩
  | 41 => ⟨S8222x1024, .f32⟩
  | 42 => ⟨S8222x1024, .f32⟩
  | 43 => ⟨S8192x1024, .f32⟩
  | 44 => ⟨S_, .f32⟩
  | 45 => ⟨S1024, .f32⟩
  | 46 => ⟨S1x1024, .f32⟩
  | 47 => ⟨S8192x1024, .f32⟩
  | 48 => ⟨S8192x1024, .f32⟩
  | 49 => ⟨S_, .f32⟩
  | 50 => ⟨S1024, .f32⟩
  | 51 => ⟨S1x1024, .f32⟩
  | 52 => ⟨S_, .f32⟩
  | 53 => ⟨S31x1024, .f32⟩
  | 54 => ⟨S31x1024, .f32⟩
  | 55 => ⟨S_, .f32⟩
  | 56 => ⟨S8222x1024, .f32⟩
  | 57 => ⟨S8222x1024, .f32⟩
  | 58 => ⟨S8192x1024, .f32⟩
  | 59 => ⟨S_, .f32⟩
  | 60 => ⟨S1024, .f32⟩
  | 61 => ⟨S1x1024, .f32⟩
  | 62 => ⟨S8192x1024, .f32⟩
  | 63 => ⟨S8192x1024, .f32⟩
  | 64 => ⟨S_, .f32⟩
  | 65 => ⟨S1024, .f32⟩
  | 66 => ⟨S1x1024, .f32⟩
  | 67 => ⟨S_, .f32⟩
  | 68 => ⟨S31x1024, .f32⟩
  | 69 => ⟨S31x1024, .f32⟩
  | 70 => ⟨S_, .f32⟩
  | 71 => ⟨S8222x1024, .f32⟩
  | 72 => ⟨S8222x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S1x1024, .f32⟩
  | 82 => ⟨S_, .f32⟩
  | 83 => ⟨S31x1024, .f32⟩
  | 84 => ⟨S31x1024, .f32⟩
  | 85 => ⟨S_, .f32⟩
  | 86 => ⟨S8222x1024, .f32⟩
  | 87 => ⟨S8222x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S1x1024, .f32⟩
  | 97 => ⟨S_, .f32⟩
  | 98 => ⟨S31x1024, .f32⟩
  | 99 => ⟨S31x1024, .f32⟩
  | 100 => ⟨S_, .f32⟩
  | 101 => ⟨S8222x1024, .f32⟩
  | 102 => ⟨S8222x1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S_, .f32⟩
  | 110 => ⟨S1024, .f32⟩
  | 111 => ⟨S1x1024, .f32⟩
  | 112 => ⟨S_, .f32⟩
  | 113 => ⟨S31x1024, .f32⟩
  | 114 => ⟨S31x1024, .f32⟩
  | 115 => ⟨S_, .f32⟩
  | 116 => ⟨S8222x1024, .f32⟩
  | 117 => ⟨S8222x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S_, .f32⟩
  | _ => ⟨S8192x5120, .f32⟩

abbrev hbmTy0_3 (i : Nat) : BufTy := match i % 128 with
  | 0 => ⟨S31x1024, .f32⟩
  | 1 => ⟨S31x1024, .f32⟩
  | 2 => ⟨S_, .f32⟩
  | 3 => ⟨S8222x1024, .f32⟩
  | 4 => ⟨S8222x1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S_, .f32⟩
  | 12 => ⟨S1024, .f32⟩
  | 13 => ⟨S1x1024, .f32⟩
  | 14 => ⟨S_, .f32⟩
  | 15 => ⟨S31x1024, .f32⟩
  | 16 => ⟨S31x1024, .f32⟩
  | 17 => ⟨S_, .f32⟩
  | 18 => ⟨S8222x1024, .f32⟩
  | 19 => ⟨S8222x1024, .f32⟩
  | 20 => ⟨S8192x1024, .f32⟩
  | 21 => ⟨S_, .f32⟩
  | 22 => ⟨S1024, .f32⟩
  | 23 => ⟨S1x1024, .f32⟩
  | 24 => ⟨S8192x1024, .f32⟩
  | 25 => ⟨S8192x1024, .f32⟩
  | 26 => ⟨S_, .f32⟩
  | 27 => ⟨S1024, .f32⟩
  | 28 => ⟨S1x1024, .f32⟩
  | 29 => ⟨S_, .f32⟩
  | 30 => ⟨S31x1024, .f32⟩
  | 31 => ⟨S31x1024, .f32⟩
  | 32 => ⟨S_, .f32⟩
  | 33 => ⟨S8222x1024, .f32⟩
  | 34 => ⟨S8222x1024, .f32⟩
  | 35 => ⟨S8192x1024, .f32⟩
  | 36 => ⟨S_, .f32⟩
  | 37 => ⟨S1024, .f32⟩
  | 38 => ⟨S1x1024, .f32⟩
  | 39 => ⟨S8192x1024, .f32⟩
  | 40 => ⟨S8192x1024, .f32⟩
  | 41 => ⟨S_, .f32⟩
  | 42 => ⟨S1024, .f32⟩
  | 43 => ⟨S1x1024, .f32⟩
  | 44 => ⟨S_, .f32⟩
  | 45 => ⟨S31x1024, .f32⟩
  | 46 => ⟨S31x1024, .f32⟩
  | 47 => ⟨S_, .f32⟩
  | 48 => ⟨S8222x1024, .f32⟩
  | 49 => ⟨S8222x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S_, .f32⟩
  | 60 => ⟨S31x1024, .f32⟩
  | 61 => ⟨S31x1024, .f32⟩
  | 62 => ⟨S_, .f32⟩
  | 63 => ⟨S8222x1024, .f32⟩
  | 64 => ⟨S8222x1024, .f32⟩
  | 65 => ⟨S8192x1024, .f32⟩
  | 66 => ⟨S_, .f32⟩
  | 67 => ⟨S1024, .f32⟩
  | 68 => ⟨S1x1024, .f32⟩
  | 69 => ⟨S8192x1024, .f32⟩
  | 70 => ⟨S8192x1024, .f32⟩
  | 71 => ⟨S_, .f32⟩
  | 72 => ⟨S1024, .f32⟩
  | 73 => ⟨S1x1024, .f32⟩
  | 74 => ⟨S_, .f32⟩
  | 75 => ⟨S31x1024, .f32⟩
  | 76 => ⟨S31x1024, .f32⟩
  | 77 => ⟨S_, .f32⟩
  | 78 => ⟨S8222x1024, .f32⟩
  | 79 => ⟨S8222x1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S_, .f32⟩
  | 87 => ⟨S1024, .f32⟩
  | 88 => ⟨S1x1024, .f32⟩
  | 89 => ⟨S_, .f32⟩
  | 90 => ⟨S31x1024, .f32⟩
  | 91 => ⟨S31x1024, .f32⟩
  | 92 => ⟨S_, .f32⟩
  | 93 => ⟨S8222x1024, .f32⟩
  | 94 => ⟨S8222x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S_, .f32⟩
  | 105 => ⟨S31x1024, .f32⟩
  | 106 => ⟨S31x1024, .f32⟩
  | 107 => ⟨S_, .f32⟩
  | 108 => ⟨S8222x1024, .f32⟩
  | 109 => ⟨S8222x1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S_, .f32⟩
  | 120 => ⟨S31x1024, .f32⟩
  | 121 => ⟨S31x1024, .f32⟩
  | 122 => ⟨S_, .f32⟩
  | 123 => ⟨S8222x1024, .f32⟩
  | 124 => ⟨S8222x1024, .f32⟩
  | 125 => ⟨S8192x1024, .f32⟩
  | 126 => ⟨S_, .f32⟩
  | 127 => ⟨S1024, .f32⟩
  | _ => ⟨S8192x5120, .f32⟩

abbrev hbmTy0_4 (i : Nat) : BufTy := match i % 128 with
  | 0 => ⟨S1x1024, .f32⟩
  | 1 => ⟨S8192x1024, .f32⟩
  | 2 => ⟨S8192x1024, .f32⟩
  | 3 => ⟨S_, .f32⟩
  | 4 => ⟨S1024, .f32⟩
  | 5 => ⟨S1x1024, .f32⟩
  | 6 => ⟨S_, .f32⟩
  | 7 => ⟨S31x1024, .f32⟩
  | 8 => ⟨S31x1024, .f32⟩
  | 9 => ⟨S_, .f32⟩
  | 10 => ⟨S8222x1024, .f32⟩
  | 11 => ⟨S8222x1024, .f32⟩
  | 12 => ⟨S8192x1024, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S_, .f32⟩
  | 19 => ⟨S1024, .f32⟩
  | 20 => ⟨S1x1024, .f32⟩
  | 21 => ⟨S_, .f32⟩
  | 22 => ⟨S31x1024, .f32⟩
  | 23 => ⟨S31x1024, .f32⟩
  | 24 => ⟨S_, .f32⟩
  | 25 => ⟨S8222x1024, .f32⟩
  | 26 => ⟨S8222x1024, .f32⟩
  | 27 => ⟨S8192x1024, .f32⟩
  | 28 => ⟨S_, .f32⟩
  | 29 => ⟨S1024, .f32⟩
  | 30 => ⟨S1x1024, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S_, .f32⟩
  | 37 => ⟨S31x1024, .f32⟩
  | 38 => ⟨S31x1024, .f32⟩
  | 39 => ⟨S_, .f32⟩
  | 40 => ⟨S8222x1024, .f32⟩
  | 41 => ⟨S8222x1024, .f32⟩
  | 42 => ⟨S8192x1024, .f32⟩
  | 43 => ⟨S_, .f32⟩
  | 44 => ⟨S1024, .f32⟩
  | 45 => ⟨S1x1024, .f32⟩
  | 46 => ⟨S8192x1024, .f32⟩
  | 47 => ⟨S8192x1024, .f32⟩
  | 48 => ⟨S_, .f32⟩
  | 49 => ⟨S1024, .f32⟩
  | 50 => ⟨S1x1024, .f32⟩
  | 51 => ⟨S_, .f32⟩
  | 52 => ⟨S31x1024, .f32⟩
  | 53 => ⟨S31x1024, .f32⟩
  | 54 => ⟨S_, .f32⟩
  | 55 => ⟨S8222x1024, .f32⟩
  | 56 => ⟨S8222x1024, .f32⟩
  | 57 => ⟨S8192x1024, .f32⟩
  | 58 => ⟨S_, .f32⟩
  | 59 => ⟨S1024, .f32⟩
  | 60 => ⟨S1x1024, .f32⟩
  | 61 => ⟨S8192x1024, .f32⟩
  | 62 => ⟨S8192x1024, .f32⟩
  | 63 => ⟨S_, .f32⟩
  | 64 => ⟨S1024, .f32⟩
  | 65 => ⟨S1x1024, .f32⟩
  | 66 => ⟨S_, .f32⟩
  | 67 => ⟨S31x1024, .f32⟩
  | 68 => ⟨S31x1024, .f32⟩
  | 69 => ⟨S_, .f32⟩
  | 70 => ⟨S8222x1024, .f32⟩
  | 71 => ⟨S8222x1024, .f32⟩
  | 72 => ⟨S8192x1024, .f32⟩
  | 73 => ⟨S_, .f32⟩
  | 74 => ⟨S1024, .f32⟩
  | 75 => ⟨S1x1024, .f32⟩
  | 76 => ⟨S8192x1024, .f32⟩
  | 77 => ⟨S8192x1024, .f32⟩
  | 78 => ⟨S_, .f32⟩
  | 79 => ⟨S1024, .f32⟩
  | 80 => ⟨S1x1024, .f32⟩
  | 81 => ⟨S_, .f32⟩
  | 82 => ⟨S31x1024, .f32⟩
  | 83 => ⟨S31x1024, .f32⟩
  | 84 => ⟨S_, .f32⟩
  | 85 => ⟨S8222x1024, .f32⟩
  | 86 => ⟨S8222x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S_, .f32⟩
  | 97 => ⟨S31x1024, .f32⟩
  | 98 => ⟨S31x1024, .f32⟩
  | 99 => ⟨S_, .f32⟩
  | 100 => ⟨S8222x1024, .f32⟩
  | 101 => ⟨S8222x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S_, .f32⟩
  | 109 => ⟨S1024, .f32⟩
  | 110 => ⟨S1x1024, .f32⟩
  | 111 => ⟨S_, .f32⟩
  | 112 => ⟨S31x1024, .f32⟩
  | 113 => ⟨S31x1024, .f32⟩
  | 114 => ⟨S_, .f32⟩
  | 115 => ⟨S8222x1024, .f32⟩
  | 116 => ⟨S8222x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S_, .f32⟩
  | 127 => ⟨S31x1024, .f32⟩
  | _ => ⟨S8192x5120, .f32⟩

abbrev hbmTy0_5 (i : Nat) : BufTy := match i % 128 with
  | 0 => ⟨S31x1024, .f32⟩
  | 1 => ⟨S_, .f32⟩
  | 2 => ⟨S8222x1024, .f32⟩
  | 3 => ⟨S8222x1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S_, .f32⟩
  | 11 => ⟨S1024, .f32⟩
  | 12 => ⟨S1x1024, .f32⟩
  | 13 => ⟨S_, .f32⟩
  | 14 => ⟨S31x1024, .f32⟩
  | 15 => ⟨S31x1024, .f32⟩
  | 16 => ⟨S_, .f32⟩
  | 17 => ⟨S8222x1024, .f32⟩
  | 18 => ⟨S8222x1024, .f32⟩
  | 19 => ⟨S8192x1024, .f32⟩
  | 20 => ⟨S_, .f32⟩
  | 21 => ⟨S1024, .f32⟩
  | 22 => ⟨S1x1024, .f32⟩
  | 23 => ⟨S8192x1024, .f32⟩
  | 24 => ⟨S8192x1024, .f32⟩
  | 25 => ⟨S_, .f32⟩
  | 26 => ⟨S1024, .f32⟩
  | 27 => ⟨S1x1024, .f32⟩
  | 28 => ⟨S_, .f32⟩
  | 29 => ⟨S31x1024, .f32⟩
  | 30 => ⟨S31x1024, .f32⟩
  | 31 => ⟨S_, .f32⟩
  | 32 => ⟨S8222x1024, .f32⟩
  | 33 => ⟨S8222x1024, .f32⟩
  | 34 => ⟨S8192x1024, .f32⟩
  | 35 => ⟨S_, .f32⟩
  | 36 => ⟨S1024, .f32⟩
  | 37 => ⟨S1x1024, .f32⟩
  | 38 => ⟨S8192x1024, .f32⟩
  | 39 => ⟨S8192x1024, .f32⟩
  | 40 => ⟨S_, .f32⟩
  | 41 => ⟨S1024, .f32⟩
  | 42 => ⟨S1x1024, .f32⟩
  | 43 => ⟨S_, .f32⟩
  | 44 => ⟨S31x1024, .f32⟩
  | 45 => ⟨S31x1024, .f32⟩
  | 46 => ⟨S_, .f32⟩
  | 47 => ⟨S8222x1024, .f32⟩
  | 48 => ⟨S8222x1024, .f32⟩
  | 49 => ⟨S8192x1024, .f32⟩
  | 50 => ⟨S_, .f32⟩
  | 51 => ⟨S1024, .f32⟩
  | 52 => ⟨S1x1024, .f32⟩
  | 53 => ⟨S8192x1024, .f32⟩
  | 54 => ⟨S8192x1024, .f32⟩
  | 55 => ⟨S_, .f32⟩
  | 56 => ⟨S1024, .f32⟩
  | 57 => ⟨S1x1024, .f32⟩
  | 58 => ⟨S_, .f32⟩
  | 59 => ⟨S31x1024, .f32⟩
  | 60 => ⟨S31x1024, .f32⟩
  | 61 => ⟨S_, .f32⟩
  | 62 => ⟨S8222x1024, .f32⟩
  | 63 => ⟨S8222x1024, .f32⟩
  | 64 => ⟨S30x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .bf16⟩
  | 70 => ⟨S8192x1024, .bf16⟩
  | 71 => ⟨S_, .i32⟩
  | 72 => ⟨S_, .f32⟩
  | 73 => ⟨S32x1024, .f32⟩
  | _ => ⟨S8192x5120, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_cst_4 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_cst_5 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_cst_7 : Ref sig .tc := ⟨.hbm, 252, rfl⟩
abbrev main_v241 : Ref sig .tc := ⟨.hbm, 253, rfl⟩
abbrev main_v242 : Ref sig .tc := ⟨.hbm, 254, rfl⟩
abbrev main_cst_8 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_cst_9 : Ref sig .tc := ⟨.hbm, 260, rfl⟩
abbrev main_v247 : Ref sig .tc := ⟨.hbm, 261, rfl⟩
abbrev main_v248 : Ref sig .tc := ⟨.hbm, 262, rfl⟩
abbrev main_cst_10 : Ref sig .tc := ⟨.hbm, 263, rfl⟩
abbrev main_v249 : Ref sig .tc := ⟨.hbm, 264, rfl⟩
abbrev main_v250 : Ref sig .tc := ⟨.hbm, 265, rfl⟩
abbrev main_cst_11 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_cst_12 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_13 : Ref sig .tc := ⟨.hbm, 275, rfl⟩
abbrev main_v258 : Ref sig .tc := ⟨.hbm, 276, rfl⟩
abbrev main_v259 : Ref sig .tc := ⟨.hbm, 277, rfl⟩
abbrev main_cst_14 : Ref sig .tc := ⟨.hbm, 278, rfl⟩
abbrev main_v260 : Ref sig .tc := ⟨.hbm, 279, rfl⟩
abbrev main_v261 : Ref sig .tc := ⟨.hbm, 280, rfl⟩
abbrev main_cst_15 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_cst_16 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_cst_17 : Ref sig .tc := ⟨.hbm, 290, rfl⟩
abbrev main_v269 : Ref sig .tc := ⟨.hbm, 291, rfl⟩
abbrev main_v270 : Ref sig .tc := ⟨.hbm, 292, rfl⟩
abbrev main_cst_18 : Ref sig .tc := ⟨.hbm, 293, rfl⟩
abbrev main_v271 : Ref sig .tc := ⟨.hbm, 294, rfl⟩
abbrev main_v272 : Ref sig .tc := ⟨.hbm, 295, rfl⟩
abbrev main_cst_19 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_cst_20 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_cst_21 : Ref sig .tc := ⟨.hbm, 305, rfl⟩
abbrev main_v280 : Ref sig .tc := ⟨.hbm, 306, rfl⟩
abbrev main_v281 : Ref sig .tc := ⟨.hbm, 307, rfl⟩
abbrev main_cst_22 : Ref sig .tc := ⟨.hbm, 308, rfl⟩
abbrev main_v282 : Ref sig .tc := ⟨.hbm, 309, rfl⟩
abbrev main_v283 : Ref sig .tc := ⟨.hbm, 310, rfl⟩
abbrev main_cst_23 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_cst_24 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_cst_25 : Ref sig .tc := ⟨.hbm, 320, rfl⟩
abbrev main_v291 : Ref sig .tc := ⟨.hbm, 321, rfl⟩
abbrev main_v292 : Ref sig .tc := ⟨.hbm, 322, rfl⟩
abbrev main_cst_26 : Ref sig .tc := ⟨.hbm, 323, rfl⟩
abbrev main_v293 : Ref sig .tc := ⟨.hbm, 324, rfl⟩
abbrev main_v294 : Ref sig .tc := ⟨.hbm, 325, rfl⟩
abbrev main_cst_27 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_cst_28 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_cst_29 : Ref sig .tc := ⟨.hbm, 335, rfl⟩
abbrev main_v302 : Ref sig .tc := ⟨.hbm, 336, rfl⟩
abbrev main_v303 : Ref sig .tc := ⟨.hbm, 337, rfl⟩
abbrev main_cst_30 : Ref sig .tc := ⟨.hbm, 338, rfl⟩
abbrev main_v304 : Ref sig .tc := ⟨.hbm, 339, rfl⟩
abbrev main_v305 : Ref sig .tc := ⟨.hbm, 340, rfl⟩
abbrev main_cst_31 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_cst_32 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_cst_33 : Ref sig .tc := ⟨.hbm, 350, rfl⟩
abbrev main_v313 : Ref sig .tc := ⟨.hbm, 351, rfl⟩
abbrev main_v314 : Ref sig .tc := ⟨.hbm, 352, rfl⟩
abbrev main_cst_34 : Ref sig .tc := ⟨.hbm, 353, rfl⟩
abbrev main_v315 : Ref sig .tc := ⟨.hbm, 354, rfl⟩
abbrev main_v316 : Ref sig .tc := ⟨.hbm, 355, rfl⟩
abbrev main_cst_35 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_cst_36 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_cst_37 : Ref sig .tc := ⟨.hbm, 365, rfl⟩
abbrev main_v324 : Ref sig .tc := ⟨.hbm, 366, rfl⟩
abbrev main_v325 : Ref sig .tc := ⟨.hbm, 367, rfl⟩
abbrev main_cst_38 : Ref sig .tc := ⟨.hbm, 368, rfl⟩
abbrev main_v326 : Ref sig .tc := ⟨.hbm, 369, rfl⟩
abbrev main_v327 : Ref sig .tc := ⟨.hbm, 370, rfl⟩
abbrev main_cst_39 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_cst_40 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_cst_41 : Ref sig .tc := ⟨.hbm, 380, rfl⟩
abbrev main_v335 : Ref sig .tc := ⟨.hbm, 381, rfl⟩
abbrev main_v336 : Ref sig .tc := ⟨.hbm, 382, rfl⟩
abbrev main_cst_42 : Ref sig .tc := ⟨.hbm, 383, rfl⟩
abbrev main_v337 : Ref sig .tc := ⟨.hbm, 384, rfl⟩
abbrev main_v338 : Ref sig .tc := ⟨.hbm, 385, rfl⟩
abbrev main_cst_43 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_cst_44 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_cst_45 : Ref sig .tc := ⟨.hbm, 395, rfl⟩
abbrev main_v346 : Ref sig .tc := ⟨.hbm, 396, rfl⟩
abbrev main_v347 : Ref sig .tc := ⟨.hbm, 397, rfl⟩
abbrev main_cst_46 : Ref sig .tc := ⟨.hbm, 398, rfl⟩
abbrev main_v348 : Ref sig .tc := ⟨.hbm, 399, rfl⟩
abbrev main_v349 : Ref sig .tc := ⟨.hbm, 400, rfl⟩
abbrev main_cst_47 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_cst_48 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_cst_49 : Ref sig .tc := ⟨.hbm, 410, rfl⟩
abbrev main_v357 : Ref sig .tc := ⟨.hbm, 411, rfl⟩
abbrev main_v358 : Ref sig .tc := ⟨.hbm, 412, rfl⟩
abbrev main_cst_50 : Ref sig .tc := ⟨.hbm, 413, rfl⟩
abbrev main_v359 : Ref sig .tc := ⟨.hbm, 414, rfl⟩
abbrev main_v360 : Ref sig .tc := ⟨.hbm, 415, rfl⟩
abbrev main_cst_51 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_cst_52 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_cst_53 : Ref sig .tc := ⟨.hbm, 425, rfl⟩
abbrev main_v368 : Ref sig .tc := ⟨.hbm, 426, rfl⟩
abbrev main_v369 : Ref sig .tc := ⟨.hbm, 427, rfl⟩
abbrev main_cst_54 : Ref sig .tc := ⟨.hbm, 428, rfl⟩
abbrev main_v370 : Ref sig .tc := ⟨.hbm, 429, rfl⟩
abbrev main_v371 : Ref sig .tc := ⟨.hbm, 430, rfl⟩
abbrev main_cst_55 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_cst_56 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_cst_57 : Ref sig .tc := ⟨.hbm, 440, rfl⟩
abbrev main_v379 : Ref sig .tc := ⟨.hbm, 441, rfl⟩
abbrev main_v380 : Ref sig .tc := ⟨.hbm, 442, rfl⟩
abbrev main_cst_58 : Ref sig .tc := ⟨.hbm, 443, rfl⟩
abbrev main_v381 : Ref sig .tc := ⟨.hbm, 444, rfl⟩
abbrev main_v382 : Ref sig .tc := ⟨.hbm, 445, rfl⟩
abbrev main_cst_59 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_cst_60 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_cst_61 : Ref sig .tc := ⟨.hbm, 455, rfl⟩
abbrev main_v390 : Ref sig .tc := ⟨.hbm, 456, rfl⟩
abbrev main_v391 : Ref sig .tc := ⟨.hbm, 457, rfl⟩
abbrev main_cst_62 : Ref sig .tc := ⟨.hbm, 458, rfl⟩
abbrev main_v392 : Ref sig .tc := ⟨.hbm, 459, rfl⟩
abbrev main_v393 : Ref sig .tc := ⟨.hbm, 460, rfl⟩
abbrev main_cst_63 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_cst_64 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_cst_65 : Ref sig .tc := ⟨.hbm, 470, rfl⟩
abbrev main_v401 : Ref sig .tc := ⟨.hbm, 471, rfl⟩
abbrev main_v402 : Ref sig .tc := ⟨.hbm, 472, rfl⟩
abbrev main_cst_66 : Ref sig .tc := ⟨.hbm, 473, rfl⟩
abbrev main_v403 : Ref sig .tc := ⟨.hbm, 474, rfl⟩
abbrev main_v404 : Ref sig .tc := ⟨.hbm, 475, rfl⟩
abbrev main_cst_67 : Ref sig .tc := ⟨.hbm, 476, rfl⟩
abbrev main_v405 : Ref sig .tc := ⟨.hbm, 477, rfl⟩
abbrev main_v406 : Ref sig .tc := ⟨.hbm, 478, rfl⟩
abbrev main_v407 : Ref sig .tc := ⟨.hbm, 479, rfl⟩
abbrev main_cst_68 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_cst_69 : Ref sig .tc := ⟨.hbm, 485, rfl⟩
abbrev main_v412 : Ref sig .tc := ⟨.hbm, 486, rfl⟩
abbrev main_v413 : Ref sig .tc := ⟨.hbm, 487, rfl⟩
abbrev main_cst_70 : Ref sig .tc := ⟨.hbm, 488, rfl⟩
abbrev main_v414 : Ref sig .tc := ⟨.hbm, 489, rfl⟩
abbrev main_v415 : Ref sig .tc := ⟨.hbm, 490, rfl⟩
abbrev main_cst_71 : Ref sig .tc := ⟨.hbm, 491, rfl⟩
abbrev main_v416 : Ref sig .tc := ⟨.hbm, 492, rfl⟩
abbrev main_v417 : Ref sig .tc := ⟨.hbm, 493, rfl⟩
abbrev main_v418 : Ref sig .tc := ⟨.hbm, 494, rfl⟩
abbrev main_cst_72 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_cst_73 : Ref sig .tc := ⟨.hbm, 500, rfl⟩
abbrev main_v423 : Ref sig .tc := ⟨.hbm, 501, rfl⟩
abbrev main_v424 : Ref sig .tc := ⟨.hbm, 502, rfl⟩
abbrev main_cst_74 : Ref sig .tc := ⟨.hbm, 503, rfl⟩
abbrev main_v425 : Ref sig .tc := ⟨.hbm, 504, rfl⟩
abbrev main_v426 : Ref sig .tc := ⟨.hbm, 505, rfl⟩
abbrev main_cst_75 : Ref sig .tc := ⟨.hbm, 506, rfl⟩
abbrev main_v427 : Ref sig .tc := ⟨.hbm, 507, rfl⟩
abbrev main_v428 : Ref sig .tc := ⟨.hbm, 508, rfl⟩
abbrev main_v429 : Ref sig .tc := ⟨.hbm, 509, rfl⟩
abbrev main_cst_76 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_cst_77 : Ref sig .tc := ⟨.hbm, 515, rfl⟩
abbrev main_v434 : Ref sig .tc := ⟨.hbm, 516, rfl⟩
abbrev main_v435 : Ref sig .tc := ⟨.hbm, 517, rfl⟩
abbrev main_cst_78 : Ref sig .tc := ⟨.hbm, 518, rfl⟩
abbrev main_v436 : Ref sig .tc := ⟨.hbm, 519, rfl⟩
abbrev main_v437 : Ref sig .tc := ⟨.hbm, 520, rfl⟩
abbrev main_cst_79 : Ref sig .tc := ⟨.hbm, 521, rfl⟩
abbrev main_v438 : Ref sig .tc := ⟨.hbm, 522, rfl⟩
abbrev main_v439 : Ref sig .tc := ⟨.hbm, 523, rfl⟩
abbrev main_v440 : Ref sig .tc := ⟨.hbm, 524, rfl⟩
abbrev main_cst_80 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_cst_81 : Ref sig .tc := ⟨.hbm, 530, rfl⟩
abbrev main_v445 : Ref sig .tc := ⟨.hbm, 531, rfl⟩
abbrev main_v446 : Ref sig .tc := ⟨.hbm, 532, rfl⟩
abbrev main_cst_82 : Ref sig .tc := ⟨.hbm, 533, rfl⟩
abbrev main_v447 : Ref sig .tc := ⟨.hbm, 534, rfl⟩
abbrev main_v448 : Ref sig .tc := ⟨.hbm, 535, rfl⟩
abbrev main_cst_83 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_cst_84 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_cst_85 : Ref sig .tc := ⟨.hbm, 545, rfl⟩
abbrev main_v456 : Ref sig .tc := ⟨.hbm, 546, rfl⟩
abbrev main_v457 : Ref sig .tc := ⟨.hbm, 547, rfl⟩
abbrev main_cst_86 : Ref sig .tc := ⟨.hbm, 548, rfl⟩
abbrev main_v458 : Ref sig .tc := ⟨.hbm, 549, rfl⟩
abbrev main_v459 : Ref sig .tc := ⟨.hbm, 550, rfl⟩
abbrev main_cst_87 : Ref sig .tc := ⟨.hbm, 551, rfl⟩
abbrev main_v460 : Ref sig .tc := ⟨.hbm, 552, rfl⟩
abbrev main_v461 : Ref sig .tc := ⟨.hbm, 553, rfl⟩
abbrev main_v462 : Ref sig .tc := ⟨.hbm, 554, rfl⟩
abbrev main_cst_88 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_cst_89 : Ref sig .tc := ⟨.hbm, 560, rfl⟩
abbrev main_v467 : Ref sig .tc := ⟨.hbm, 561, rfl⟩
abbrev main_v468 : Ref sig .tc := ⟨.hbm, 562, rfl⟩
abbrev main_cst_90 : Ref sig .tc := ⟨.hbm, 563, rfl⟩
abbrev main_v469 : Ref sig .tc := ⟨.hbm, 564, rfl⟩
abbrev main_v470 : Ref sig .tc := ⟨.hbm, 565, rfl⟩
abbrev main_cst_91 : Ref sig .tc := ⟨.hbm, 566, rfl⟩
abbrev main_v471 : Ref sig .tc := ⟨.hbm, 567, rfl⟩
abbrev main_v472 : Ref sig .tc := ⟨.hbm, 568, rfl⟩
abbrev main_v473 : Ref sig .tc := ⟨.hbm, 569, rfl⟩
abbrev main_cst_92 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_cst_93 : Ref sig .tc := ⟨.hbm, 575, rfl⟩
abbrev main_v478 : Ref sig .tc := ⟨.hbm, 576, rfl⟩
abbrev main_v479 : Ref sig .tc := ⟨.hbm, 577, rfl⟩
abbrev main_cst_94 : Ref sig .tc := ⟨.hbm, 578, rfl⟩
abbrev main_v480 : Ref sig .tc := ⟨.hbm, 579, rfl⟩
abbrev main_v481 : Ref sig .tc := ⟨.hbm, 580, rfl⟩
abbrev main_cst_95 : Ref sig .tc := ⟨.hbm, 581, rfl⟩
abbrev main_v482 : Ref sig .tc := ⟨.hbm, 582, rfl⟩
abbrev main_v483 : Ref sig .tc := ⟨.hbm, 583, rfl⟩
abbrev main_v484 : Ref sig .tc := ⟨.hbm, 584, rfl⟩
abbrev main_cst_96 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_v488 : Ref sig .tc := ⟨.hbm, 589, rfl⟩
abbrev main_cst_97 : Ref sig .tc := ⟨.hbm, 590, rfl⟩
abbrev main_v489 : Ref sig .tc := ⟨.hbm, 591, rfl⟩
abbrev main_v490 : Ref sig .tc := ⟨.hbm, 592, rfl⟩
abbrev main_cst_98 : Ref sig .tc := ⟨.hbm, 593, rfl⟩
abbrev main_v491 : Ref sig .tc := ⟨.hbm, 594, rfl⟩
abbrev main_v492 : Ref sig .tc := ⟨.hbm, 595, rfl⟩
abbrev main_cst_99 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_cst_100 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_cst_101 : Ref sig .tc := ⟨.hbm, 605, rfl⟩
abbrev main_v500 : Ref sig .tc := ⟨.hbm, 606, rfl⟩
abbrev main_v501 : Ref sig .tc := ⟨.hbm, 607, rfl⟩
abbrev main_cst_102 : Ref sig .tc := ⟨.hbm, 608, rfl⟩
abbrev main_v502 : Ref sig .tc := ⟨.hbm, 609, rfl⟩
abbrev main_v503 : Ref sig .tc := ⟨.hbm, 610, rfl⟩
abbrev main_cst_103 : Ref sig .tc := ⟨.hbm, 611, rfl⟩
abbrev main_v504 : Ref sig .tc := ⟨.hbm, 612, rfl⟩
abbrev main_v505 : Ref sig .tc := ⟨.hbm, 613, rfl⟩
abbrev main_v506 : Ref sig .tc := ⟨.hbm, 614, rfl⟩
abbrev main_cst_104 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_v510 : Ref sig .tc := ⟨.hbm, 619, rfl⟩
abbrev main_cst_105 : Ref sig .tc := ⟨.hbm, 620, rfl⟩
abbrev main_v511 : Ref sig .tc := ⟨.hbm, 621, rfl⟩
abbrev main_v512 : Ref sig .tc := ⟨.hbm, 622, rfl⟩
abbrev main_cst_106 : Ref sig .tc := ⟨.hbm, 623, rfl⟩
abbrev main_v513 : Ref sig .tc := ⟨.hbm, 624, rfl⟩
abbrev main_v514 : Ref sig .tc := ⟨.hbm, 625, rfl⟩
abbrev main_cst_107 : Ref sig .tc := ⟨.hbm, 626, rfl⟩
abbrev main_v515 : Ref sig .tc := ⟨.hbm, 627, rfl⟩
abbrev main_v516 : Ref sig .tc := ⟨.hbm, 628, rfl⟩
abbrev main_v517 : Ref sig .tc := ⟨.hbm, 629, rfl⟩
abbrev main_cst_108 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_v521 : Ref sig .tc := ⟨.hbm, 634, rfl⟩
abbrev main_cst_109 : Ref sig .tc := ⟨.hbm, 635, rfl⟩
abbrev main_v522 : Ref sig .tc := ⟨.hbm, 636, rfl⟩
abbrev main_v523 : Ref sig .tc := ⟨.hbm, 637, rfl⟩
abbrev main_cst_110 : Ref sig .tc := ⟨.hbm, 638, rfl⟩
abbrev main_v524 : Ref sig .tc := ⟨.hbm, 639, rfl⟩
abbrev main_v525 : Ref sig .tc := ⟨.hbm, 640, rfl⟩
abbrev main_cst_111 : Ref sig .tc := ⟨.hbm, 641, rfl⟩
abbrev main_v526 : Ref sig .tc := ⟨.hbm, 642, rfl⟩
abbrev main_v527 : Ref sig .tc := ⟨.hbm, 643, rfl⟩
abbrev main_v528 : Ref sig .tc := ⟨.hbm, 644, rfl⟩
abbrev main_cst_112 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_cst_113 : Ref sig .tc := ⟨.hbm, 650, rfl⟩
abbrev main_v533 : Ref sig .tc := ⟨.hbm, 651, rfl⟩
abbrev main_v534 : Ref sig .tc := ⟨.hbm, 652, rfl⟩
abbrev main_cst_114 : Ref sig .tc := ⟨.hbm, 653, rfl⟩
abbrev main_v535 : Ref sig .tc := ⟨.hbm, 654, rfl⟩
abbrev main_v536 : Ref sig .tc := ⟨.hbm, 655, rfl⟩
abbrev main_cst_115 : Ref sig .tc := ⟨.hbm, 656, rfl⟩
abbrev main_v537 : Ref sig .tc := ⟨.hbm, 657, rfl⟩
abbrev main_v538 : Ref sig .tc := ⟨.hbm, 658, rfl⟩
abbrev main_v539 : Ref sig .tc := ⟨.hbm, 659, rfl⟩
abbrev main_cst_116 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_cst_117 : Ref sig .tc := ⟨.hbm, 665, rfl⟩
abbrev main_v544 : Ref sig .tc := ⟨.hbm, 666, rfl⟩
abbrev main_v545 : Ref sig .tc := ⟨.hbm, 667, rfl⟩
abbrev main_cst_118 : Ref sig .tc := ⟨.hbm, 668, rfl⟩
abbrev main_v546 : Ref sig .tc := ⟨.hbm, 669, rfl⟩
abbrev main_v547 : Ref sig .tc := ⟨.hbm, 670, rfl⟩
abbrev main_cst_119 : Ref sig .tc := ⟨.hbm, 671, rfl⟩
abbrev main_v548 : Ref sig .tc := ⟨.hbm, 672, rfl⟩
abbrev main_v549 : Ref sig .tc := ⟨.hbm, 673, rfl⟩
abbrev main_v550 : Ref sig .tc := ⟨.hbm, 674, rfl⟩
abbrev main_cst_120 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_cst_121 : Ref sig .tc := ⟨.hbm, 680, rfl⟩
abbrev main_v555 : Ref sig .tc := ⟨.hbm, 681, rfl⟩
abbrev main_v556 : Ref sig .tc := ⟨.hbm, 682, rfl⟩
abbrev main_cst_122 : Ref sig .tc := ⟨.hbm, 683, rfl⟩
abbrev main_v557 : Ref sig .tc := ⟨.hbm, 684, rfl⟩
abbrev main_v558 : Ref sig .tc := ⟨.hbm, 685, rfl⟩
abbrev main_cst_123 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_cst_124 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_cst_125 : Ref sig .tc := ⟨.hbm, 695, rfl⟩
abbrev main_v566 : Ref sig .tc := ⟨.hbm, 696, rfl⟩
abbrev main_v567 : Ref sig .tc := ⟨.hbm, 697, rfl⟩
abbrev main_cst_126 : Ref sig .tc := ⟨.hbm, 698, rfl⟩
abbrev main_v568 : Ref sig .tc := ⟨.hbm, 699, rfl⟩
abbrev main_v569 : Ref sig .tc := ⟨.hbm, 700, rfl⟩
abbrev main_cst_127 : Ref sig .tc := ⟨.hbm, 701, rfl⟩
abbrev main_v570 : Ref sig .tc := ⟨.hbm, 702, rfl⟩
abbrev main_v571 : Ref sig .tc := ⟨.hbm, 703, rfl⟩
abbrev main_v572 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_v577 : Ref sig .tc := ⟨.hbm, 709, rfl⟩
abbrev main_v578 : Ref sig .tc := ⟨.hbm, 710, rfl⟩
abbrev main_c : Ref sig .tc := ⟨.hbm, 711, rfl⟩
abbrev main_call0_v0 : Ref sig .tc := ⟨.hbm, 712, rfl⟩
abbrev main_v579 : Ref sig .tc := ⟨.hbm, 713, rfl⟩

abbrev nD : Nat := 1
abbrev τ : Topo := Topo.v7x

variable {F : FTy → Type} [FloatOps F]
-- ==== SumSmall.lean ====
abbrev S8x24x2048 : Shape := ⟨3, ![8, 24, 2048]⟩
abbrev S_ : Shape := ⟨0, ![]⟩
abbrev S24x2048 : Shape := ⟨2, ![24, 2048]⟩
abbrev S1x24x2048 : Shape := ⟨3, ![1, 24, 2048]⟩
abbrev S16x2048 : Shape := ⟨2, ![16, 2048]⟩
abbrev S32x1024 : Shape := ⟨2, ![32, 1024]⟩
abbrev S31x256 : Shape := ⟨2, ![31, 256]⟩
abbrev S1x1 : Shape := ⟨2, ![1, 1]⟩
abbrev S1x2048 : Shape := ⟨2, ![1, 2048]⟩
abbrev S1x1024 : Shape := ⟨2, ![1, 1024]⟩

abbrev nBuf : Space → Nat
  | .hbm => 24
  | .vmem => 2
  | .smem => 0
  | _ => 0

abbrev bufTy : (tb : Table) → Fin (tcTables nBuf tb) → BufTy
  | .hbm, ⟨0, _⟩ => ⟨S8x24x2048, .f32⟩
  | .hbm, ⟨1, _⟩ => ⟨S_, .i32⟩
  | .hbm, ⟨2, _⟩ => ⟨S24x2048, .f32⟩
  | .hbm, ⟨3, _⟩ => ⟨S16x2048, .f32⟩
  | .hbm, ⟨4, _⟩ => ⟨S32x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S31x256, .f32⟩
  | .hbm, ⟨14, _⟩ => ⟨S1x1, .f32⟩
  | .hbm, ⟨15, _⟩ => ⟨S_, .f32⟩
  | .hbm, ⟨16, _⟩ => ⟨S1x2048, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .local _ .vmem, ⟨0, _⟩ => ⟨S8x24x2048, .f32⟩
  | .local _ .vmem, ⟨1, _⟩ => ⟨S24x2048, .f32⟩
  | _, _ => ⟨S8x24x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x24x2048 : Shape := ⟨3, ![8, 24, 2048]⟩
abbrev S_ : Shape := ⟨0, ![]⟩
abbrev S8x16x2048 : Shape := ⟨3, ![8, 16, 2048]⟩
abbrev S8x32x1024 : Shape := ⟨3, ![8, 32, 1024]⟩
abbrev S32x1024 : Shape := ⟨2, ![32, 1024]⟩
abbrev S8x1x1 : Shape := ⟨3, ![8, 1, 1]⟩
abbrev S8x1 : Shape := ⟨2, ![8, 1]⟩
abbrev S1 : Shape := ⟨1, ![1]⟩
abbrev S8x1x2048 : Shape := ⟨3, ![8, 1, 2048]⟩
abbrev S8x2048 : Shape := ⟨2, ![8, 2048]⟩
abbrev S2048 : Shape := ⟨1, ![2048]⟩
abbrev S1x2048 : Shape := ⟨2, ![1, 2048]⟩
abbrev S8x1x1024 : Shape := ⟨3, ![8, 1, 1024]⟩
abbrev S8x1024 : Shape := ⟨2, ![8, 1024]⟩
abbrev S1024 : Shape := ⟨1, ![1024]⟩
abbrev S1x1024 : Shape := ⟨2, ![1, 1024]⟩
abbrev S31x256 : Shape := ⟨2, ![31, 256]⟩

abbrev nBuf : Space → Nat
  | .hbm => 60
  | .vmem => 0
  | .smem => 0
  | _ => 0

abbrev bufTy : (tb : Table) → Fin (tcTables nBuf tb) → BufTy
  | .hbm, ⟨0, _⟩ => ⟨S8x24x2048, .f32⟩
  | .hbm, ⟨1, _⟩ => ⟨S_, .i32⟩
  | .hbm, ⟨2, _⟩ => ⟨S8x16x2048, .f32⟩
  | .hbm, ⟨3, _⟩ => ⟨S8x32x1024, .f32⟩
  | .hbm, ⟨4, _⟩ => ⟨S_, .f32⟩
  | .hbm, ⟨5, _⟩ => ⟨S32x1024, .f32⟩
  | .hbm, ⟨6, _⟩ => ⟨S8x1x1, .f32⟩
  | .hbm, ⟨7, _⟩ => ⟨S8x1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S8x1x2048, .f32⟩
  | .hbm, ⟨12, _⟩ => ⟨S8x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S8x1x1024, .f32⟩
  | .hbm, ⟨17, _⟩ => ⟨S8x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S8x1x1024, .f32⟩
  | .hbm, ⟨22, _⟩ => ⟨S8x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S8x1x1024, .f32⟩
  | .hbm, ⟨27, _⟩ => ⟨S8x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8x1x2048, .f32⟩
  | .hbm, ⟨32, _⟩ => ⟨S8x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8x1x2048, .f32⟩
  | .hbm, ⟨37, _⟩ => ⟨S8x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8x1x2048, .f32⟩
  | .hbm, ⟨42, _⟩ => ⟨S8x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8x1x2048, .f32⟩
  | .hbm, ⟨47, _⟩ => ⟨S8x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S31x256, .f32⟩
  | _, _ => ⟨S8x24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_c : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_c_10 : Ref sig .tc := ⟨.hbm, 55, rfl⟩
abbrev main_v41 : Ref sig .tc := ⟨.hbm, 56, rfl⟩
abbrev main_v42 : Ref sig .tc := ⟨.hbm, 57, rfl⟩
abbrev main_c_11 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== RmsFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsBwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_16 : BitVec 32 := 0#32
  let v37 : BitVec 1 := Scalar.cmpi .ne v36 c0_i32_16
  v37

def k0_cond2 (i : grid0.Coords) : BitVec 1 :=
  let arg0 : BitVec 32 := BitVec.ofNat 32 (i 0).val
  let c0_i32_17 : BitVec 32 := 0#32
  let v38 : BitVec 1 := Scalar.cmpi .sgt arg0 c0_i32_17
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Ple.lean ====
abbrev S8192x2048 : Shape := ⟨2, ![8192, 2048]⟩
abbrev S2048x2048 : Shape := ⟨2, ![2048, 2048]⟩
abbrev S1x2048 : Shape := ⟨2, ![1, 2048]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 32
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S1x2048, .f32⟩
  | .hbm, ⟨3, _⟩ => ⟨S8192x256, .f32⟩
  | .hbm, ⟨4, _⟩ => ⟨S256x2048, .bf16⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | .hbm, ⟨24, _⟩ => ⟨S8192x2048, .f32⟩
  | .hbm, ⟨25, _⟩ => ⟨S8192x2048, .bf16⟩
  | .hbm, ⟨26, _⟩ => ⟨S8192x2048, .bf16⟩
  | .hbm, ⟨27, _⟩ => ⟨S8192x2048, .bf16⟩
  | .hbm, ⟨28, _⟩ => ⟨S1x2048, .f32⟩
  | .hbm, ⟨29, _⟩ => ⟨S1x2048, .f32⟩
  | .hbm, ⟨30, _⟩ => ⟨S1x128, .f32⟩
  | .hbm, ⟨31, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S2048x2048, .bf16⟩
  | .local _ .vmem, ⟨9, _⟩ => ⟨S1x2048, .f32⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S1x2048, .f32⟩
  | .local _ .vmem, ⟨22, _⟩ => ⟨S1x2048, .f32⟩
  | .local _ .vmem, ⟨23, _⟩ => ⟨S1x128, .f32⟩
  | .local _ .vmem, ⟨24, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev main_v13_6 : Ref sig .tc := ⟨.hbm, 30, rfl⟩
abbrev main_v13_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v101 : BitVec 1 := Scalar.cmpi .eq arg0 c0_i32
  let v102 : BitVec 32 := Scalar.extui v101
  let c0_i32_46 : BitVec 32 := 0#32
  let v103 : BitVec 1 := Scalar.cmpi .ne v102 c0_i32_46
  v103

def k0_cond2 (i : grid0.Coords) : BitVec 1 :=
  let arg0 : BitVec 32 := BitVec.ofNat 32 (i 0).val
  let c0_i32_47 : BitVec 32 := 0#32
  let v104 : BitVec 1 := Scalar.cmpi .sgt arg0 c0_i32_47
  let v105 : BitVec 32 := Scalar.extui v104
  let c0_i32_48 : BitVec 32 := 0#32
  let v106 : BitVec 1 := Scalar.cmpi .ne v105 c0_i32_48
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== PleRefIdeal.lean ====
abbrev S8192x2048 : Shape := ⟨2, ![8192, 2048]⟩
abbrev S2048x2048 : Shape := ⟨2, ![2048, 2048]⟩
abbrev S1x2048 : Shape := ⟨2, ![1, 2048]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 147
  | .vmem => 0
  | .smem => 0
  | _ => 0

abbrev hbmTy0_0 (i : Nat) : BufTy := match i % 128 with
  | 0 => ⟨S8192x2048, .f32⟩
  | 1 => ⟨S2048x2048, .bf16⟩
  | 2 => ⟨S1x2048, .f32⟩
  | 3 => ⟨S8192x256, .f32⟩
  | 4 => ⟨S256x2048, .bf16⟩
  | 5 => ⟨S8192x2048, .f32⟩
  | 6 => ⟨S1x2048, .f32⟩
  | 7 => ⟨S1x2048, .f32⟩
  | 8 => ⟨S256x2048, .f32⟩
  | 9 => ⟨S8192x2048, .f32⟩
  | 10 => ⟨S8192x2048, .f32⟩
  | 11 => ⟨S8192x2048, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x2048, .f32⟩
  | 27 => ⟨S8192x2048, .f32⟩
  | 28 => ⟨S8192x2048, .f32⟩
  | 29 => ⟨S8192x2048, .f32⟩
  | 30 => ⟨S2048x2048, .f32⟩
  | 31 => ⟨S8192x2048, .f32⟩
  | 32 => ⟨S8192x2048, .f32⟩
  | 33 => ⟨S8192x2048, .f32⟩
  | 34 => ⟨S8192x2048, .f32⟩
  | 35 => ⟨S_, .f32⟩
  | 36 => ⟨S8192x2048, .f32⟩
  | 37 => ⟨S8192x2048, .f32⟩
  | 38 => ⟨S_, .f32⟩
  | 39 => ⟨S8192x2048, .f32⟩
  | 40 => ⟨S8192x2048, .f32⟩
  | 41 => ⟨S_, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S8192x2048, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x2048, .f32⟩
  | 63 => ⟨S8192x2048, .f32⟩
  | 64 => ⟨S8192x2048, .f32⟩
  | 65 => ⟨S8192x2048, .f32⟩
  | 66 => ⟨S8192x2048, .f32⟩
  | 67 => ⟨S8192x2048, .f32⟩
  | 68 => ⟨S_, .f32⟩
  | 69 => ⟨S8192x2048, .f32⟩
  | 70 => ⟨S8192x2048, .f32⟩
  | 71 => ⟨S_, .f32⟩
  | 72 => ⟨S8192, .f32⟩
  | 73 => ⟨S_, .f32⟩
  | 74 => ⟨S8192, .f32⟩
  | 75 => ⟨S8192, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S8192, .f32⟩
  | 84 => ⟨S_, .f32⟩
  | 85 => ⟨S8192, .f32⟩
  | 86 => ⟨S8192, .f32⟩
  | 87 => ⟨S8192x2048, .f32⟩
  | 88 => ⟨S8192x2048, .f32⟩
  | 89 => ⟨S8192x2048, .f32⟩
  | 90 => ⟨S_, .f32⟩
  | 91 => ⟨S2048, .f32⟩
  | 92 => ⟨S1x2048, .f32⟩
  | 93 => ⟨S8192x2048, .f32⟩
  | 94 => ⟨S8192x2048, .f32⟩
  | 95 => ⟨S8192x2048, .f32⟩
  | 96 => ⟨S_, .f32⟩
  | 97 => ⟨S8192, .f32⟩
  | 98 => ⟨S8192x1, .f32⟩
  | 99 => ⟨S8192x2048, .f32⟩
  | 100 => ⟨S8192x2048, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x2048, .f32⟩
  | 108 => ⟨S8192x2048, .f32⟩
  | 109 => ⟨S8192x2048, .f32⟩
  | 110 => ⟨S8192x2048, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S8192x2048, .f32⟩
  | 117 => ⟨S_, .f32⟩
  | 118 => ⟨S2048, .f32⟩
  | 119 => ⟨S1x2048, .f32⟩
  | 120 => ⟨S8192x2048, .f32⟩
  | 121 => ⟨S8192x2048, .f32⟩
  | 122 => ⟨S8192x2048, .f32⟩
  | 123 => ⟨S_, .f32⟩
  | 124 => ⟨S8192, .f32⟩
  | 125 => ⟨S8192x1, .f32⟩
  | 126 => ⟨S8192x2048, .f32⟩
  | 127 => ⟨S8192x2048, .f32⟩
  | _ => ⟨S8192x2048, .f32⟩

abbrev hbmTy0_1 (i : Nat) : BufTy := match i % 128 with
  | 0 => ⟨S8192x2048, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x2048, .f32⟩
  | 8 => ⟨S8192x2048, .f32⟩
  | 9 => ⟨S8192x2048, .f32⟩
  | 10 => ⟨S8192x2048, .f32⟩
  | 11 => ⟨S8192x2048, .f32⟩
  | 12 => ⟨S8192x2048, .bf16⟩
  | 13 => ⟨S8192x2048, .bf16⟩
  | 14 => ⟨S8192x2048, .bf16⟩
  | 15 => ⟨S_, .f32⟩
  | 16 => ⟨S2048, .f32⟩
  | 17 => ⟨S1x2048, .f32⟩
  | 18 => ⟨S1x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_cst_15 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_19 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_20 : Ref sig .tc := ⟨.hbm, 102, rfl⟩
abbrev main_v73 : Ref sig .tc := ⟨.hbm, 103, rfl⟩
abbrev main_v74 : Ref sig .tc := ⟨.hbm, 104, rfl⟩
abbrev main_cst_21 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_22 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_23 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_24 : Ref sig .tc := ⟨.hbm, 130, rfl⟩
abbrev main_v97 : Ref sig .tc := ⟨.hbm, 131, rfl⟩
abbrev main_v98 : Ref sig .tc := ⟨.hbm, 132, rfl⟩
abbrev main_cst_25 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_26 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩

abbrev nD : Nat := 1
abbrev τ : Topo := Topo.v7x

variable {F : FTy → Type} [FloatOps F]
-- ==== Dact.lean ====
abbrev S8192x2048 : Shape := ⟨2, ![8192, 2048]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DactRefIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S5632x2048, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Df.lean ====
abbrev S8192x5632 : Shape := ⟨2, ![8192, 5632]⟩
abbrev S2048x5632 : Shape := ⟨2, ![2048, 5632]⟩
abbrev S8192x2048 : Shape := ⟨2, ![8192, 2048]⟩
abbrev S1024x5632 : Shape := ⟨2, ![1024, 5632]⟩
abbrev S256x5632 : Shape := ⟨2, ![256, 5632]⟩
abbrev S1024x256 : Shape := ⟨2, ![1024, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x5632, .bf16⟩
  | .hbm, ⟨3, _⟩ => ⟨S2048x5632, .bf16⟩
  | .hbm, ⟨4, _⟩ => ⟨S8192x2048, .bf16⟩
  | .local _ .vmem, ⟨0, _⟩ => ⟨S1024x5632, .bf16⟩
  | .local _ .vmem, ⟨1, _⟩ => ⟨S1024x5632, .bf16⟩
  | .local _ .vmem, ⟨2, _⟩ => ⟨S256x5632, .bf16⟩
  | .local _ .vmem, ⟨3, _⟩ => ⟨S256x5632, .bf16⟩
  | .local _ .vmem, ⟨4, _⟩ => ⟨S1024x5632, .bf16⟩
  | .local _ .vmem, ⟨5, _⟩ => ⟨S1024x5632, .bf16⟩
  | .local _ .vmem, ⟨6, _⟩ => ⟨S256x5632, .bf16⟩
  | .local _ .vmem, ⟨7, _⟩ => ⟨S256x5632, .bf16⟩
  | .local _ .vmem, ⟨8, _⟩ => ⟨S1024x256, .bf16⟩
  | .local _ .vmem, ⟨9, _⟩ => ⟨S1024x256, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DfRefIdeal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S8192x2048, .f32⟩
  | .hbm, ⟨6, _⟩ => ⟨S2048x5632, .f32⟩
  | .hbm, ⟨7, _⟩ => ⟨S8192x5632, .f32⟩
  | .hbm, ⟨8, _⟩ => ⟨S2048x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== DwGate.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDown.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUp.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwIn.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwPgate.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwPgateRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwPle.lean ====
abbrev S8192x256 : Shape := ⟨2, ![8192, 256]⟩
abbrev S8192x2048 : Shape := ⟨2, ![8192, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S256x2048, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwPleRefIdeal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S8192x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Da.lean ====
abbrev S8192x1024 : Shape := ⟨2, ![8192, 1024]⟩
abbrev S2048x5120 : Shape := ⟨2, ![2048, 5120]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 7
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S2048x5120, .bf16⟩
  | .hbm, ⟨6, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .bf16⟩
  | .local _ .vmem, ⟨21, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== DaRefIdeal.lean ====
abbrev S8192x1024 : Shape := ⟨2, ![8192, 1024]⟩
abbrev S2048x5120 : Shape := ⟨2, ![2048, 5120]⟩
abbrev S_ : Shape := ⟨0, ![]⟩
abbrev S8192x2048 : Shape := ⟨2, ![8192, 2048]⟩
abbrev S2048x1024 : Shape := ⟨2, ![2048, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S2048x5120, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x2048, .f32⟩
  | .hbm, ⟨13, _⟩ => ⟨S2048x5120, .f32⟩
  | .hbm, ⟨14, _⟩ => ⟨S2048x1024, .f32⟩
  | .hbm, ⟨15, _⟩ => ⟨S8192x1024, .f32⟩
  | .hbm, ⟨16, _⟩ => ⟨S2048x1024, .f32⟩
  | .hbm, ⟨17, _⟩ => ⟨S8192x1024, .f32⟩
  | .hbm, ⟨18, _⟩ => ⟨S2048x1024, .f32⟩
  | .hbm, ⟨19, _⟩ => ⟨S8192x1024, .f32⟩
  | .hbm, ⟨20, _⟩ => ⟨S2048x1024, .f32⟩
  | .hbm, ⟨21, _⟩ => ⟨S8192x1024, .f32⟩
  | .hbm, ⟨22, _⟩ => ⟨S2048x1024, .f32⟩
  | .hbm, ⟨23, _⟩ => ⟨S8192x1024, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Dcat.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmIn.lean ====
abbrev S8192x2048 : Shape := ⟨2, ![8192, 2048]⟩
abbrev S2048x5120 : Shape := ⟨2, ![2048, 5120]⟩
abbrev S8192x5120 : Shape := ⟨2, ![8192, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInRefIdeal.lean ====
abbrev S8192x2048 : Shape := ⟨2, ![8192, 2048]⟩
abbrev S2048x5120 : Shape := ⟨2, ![2048, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x2048, .f32⟩
  | .hbm, ⟨3, _⟩ => ⟨S2048x5120, .f32⟩
  | .hbm, ⟨4, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmOut.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MmOutRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MmGateUp.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MmGateUpRefIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S8192x5632, .bf16⟩
  | .hbm, ⟨10, _⟩ => ⟨S8192x5632, .bf16⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== MmDown.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmDownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamIn.lean ====
abbrev S2048x1280 : Shape := ⟨2, ![2048, 1280]⟩
abbrev S256x1280 : Shape := ⟨2, ![256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x1280 : Shape := ⟨2, ![2048, 1280]⟩
abbrev S256x1280 : Shape := ⟨2, ![256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1280 : Shape := ⟨2, ![2048, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S_, .f32⟩
  | .hbm, ⟨5, _⟩ => ⟨S2048x1280, .f32⟩
  | .hbm, ⟨6, _⟩ => ⟨S2048x1280, .f32⟩
  | .hbm, ⟨7, _⟩ => ⟨S_, .f32⟩
  | .hbm, ⟨8, _⟩ => ⟨S2048x1280, .f32⟩
  | .hbm, ⟨9, _⟩ => ⟨S2048x1280, .f32⟩
  | .hbm, ⟨10, _⟩ => ⟨S2048x1280, .f32⟩
  | .hbm, ⟨11, _⟩ => ⟨S_, .f32⟩
  | .hbm, ⟨12, _⟩ => ⟨S2048x1280, .f32⟩
  | .hbm, ⟨13, _⟩ => ⟨S2048x1280, .f32⟩
  | .hbm, ⟨14, _⟩ => ⟨S2048x1280, .f32⟩
  | .hbm, ⟨15, _⟩ => ⟨S_, .f32⟩
  | .hbm, ⟨16, _⟩ => ⟨S2048x1280, .f32⟩
  | .hbm, ⟨17, _⟩ => ⟨S2048x1280, .f32⟩
  | .hbm, ⟨18, _⟩ => ⟨S2048x1280, .f32⟩
  | .hbm, ⟨19, _⟩ => ⟨S_, .f32⟩
  | .hbm, ⟨20, _⟩ => ⟨S2048x1280, .f32⟩
  | .hbm, ⟨21, _⟩ => ⟨S2048x1280, .f32⟩
  | .hbm, ⟨22, _⟩ => ⟨S_, .f32⟩
  | .hbm, ⟨23, _⟩ => ⟨S2048x1280, .f32⟩
  | .hbm, ⟨24, _⟩ => ⟨S2048x1280, .f32⟩
  | .hbm, ⟨25, _⟩ => ⟨S2048x1280, .f32⟩
  | .hbm, ⟨26, _⟩ => ⟨S_, .f32⟩
  | .hbm, ⟨27, _⟩ => ⟨S2048x1280, .f32⟩
  | .hbm, ⟨28, _⟩ => ⟨S2048x1280, .f32⟩
  | .hbm, ⟨29, _⟩ => ⟨S2048x1280, .f32⟩
  | .hbm, ⟨30, _⟩ => ⟨S_, .f32⟩
  | .hbm, ⟨31, _⟩ => ⟨S2048x1280, .f32⟩
  | .hbm, ⟨32, _⟩ => ⟨S2048x1280, .f32⟩
  | .hbm, ⟨33, _⟩ => ⟨S2048x1280, .f32⟩
  | .hbm, ⟨34, _⟩ => ⟨S_, .f32⟩
  | .hbm, ⟨35, _⟩ => ⟨S2048x1280, .f32⟩
  | .hbm, ⟨36, _⟩ => ⟨S2048x1280, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateIdeal.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPle.lean ====
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPleIdeal.lean ====
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPleRefIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamVec.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVecIdeal.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVecRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHalf.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHalfIdeal.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHalfRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDw.lean ====
abbrev S31x256 : Shape := ⟨2, ![31, 256]⟩

abbrev nBuf : Space → Nat
  | .hbm => 8
  | .vmem => 8
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S31x256, .f32⟩
  | .hbm, ⟨6, _⟩ => ⟨S31x256, .f32⟩
  | .hbm, ⟨7, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | .local _ .vmem, ⟨7, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamDwRefIdeal.lean ====
abbrev S31x256 : Shape := ⟨2, ![31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S_, .f32⟩
  | .hbm, ⟨5, _⟩ => ⟨S31x256, .f32⟩
  | .hbm, ⟨6, _⟩ => ⟨S31x256, .f32⟩
  | .hbm, ⟨7, _⟩ => ⟨S_, .f32⟩
  | .hbm, ⟨8, _⟩ => ⟨S31x256, .f32⟩
  | .hbm, ⟨9, _⟩ => ⟨S31x256, .f32⟩
  | .hbm, ⟨10, _⟩ => ⟨S31x256, .f32⟩
  | .hbm, ⟨11, _⟩ => ⟨S_, .f32⟩
  | .hbm, ⟨12, _⟩ => ⟨S31x256, .f32⟩
  | .hbm, ⟨13, _⟩ => ⟨S31x256, .f32⟩
  | .hbm, ⟨14, _⟩ => ⟨S31x256, .f32⟩
  | .hbm, ⟨15, _⟩ => ⟨S_, .f32⟩
  | .hbm, ⟨16, _⟩ => ⟨S31x256, .f32⟩
  | .hbm, ⟨17, _⟩ => ⟨S31x256, .f32⟩
  | .hbm, ⟨18, _⟩ => ⟨S31x256, .f32⟩
  | .hbm, ⟨19, _⟩ => ⟨S_, .f32⟩
  | .hbm, ⟨20, _⟩ => ⟨S31x256, .f32⟩
  | .hbm, ⟨21, _⟩ => ⟨S31x256, .f32⟩
  | .hbm, ⟨22, _⟩ => ⟨S_, .f32⟩
  | .hbm, ⟨23, _⟩ => ⟨S31x256, .f32⟩
  | .hbm, ⟨24, _⟩ => ⟨S31x256, .f32⟩
  | .hbm, ⟨25, _⟩ => ⟨S31x256, .f32⟩
  | .hbm, ⟨26, _⟩ => ⟨S_, .f32⟩
  | .hbm, ⟨27, _⟩ => ⟨S31x256, .f32⟩
  | .hbm, ⟨28, _⟩ => ⟨S31x256, .f32⟩
  | .hbm, ⟨29, _⟩ => ⟨S31x256, .f32⟩
  | .hbm, ⟨30, _⟩ => ⟨S_, .f32⟩
  | .hbm, ⟨31, _⟩ => ⟨S31x256, .f32⟩
  | .hbm, ⟨32, _⟩ => ⟨S31x256, .f32⟩
  | .hbm, ⟨33, _⟩ => ⟨S31x256, .f32⟩
  | .hbm, ⟨34, _⟩ => ⟨S_, .f32⟩
  | .hbm, ⟨35, _⟩ => ⟨S31x256, .f32⟩
  | .hbm, ⟨36, _⟩ => ⟨S31x256, .f32⟩
  | _, _ => ⟨S31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Common.lean ====
/- What several of the proofs share: arrays of two axes read at natural-number coordinates, and a sum over a long axis
   cut into equal stretches. -/
module

public import Idealize.ShloMosaic.Lib.ValueIdx
public import Idealize.ShloMosaic.Lib.Pointwise
public import Idealize.ShloMosaic.Lib.Tactic
public import Idealize.ShloMosaic.Lib.Pipeline.ValueKit
public import Idealize.ShloMosaic.Lib.Pointwise.Sums

@[expose] public section

noncomputable section

namespace Cert.Common

open Idealize.ShloMosaic

/-- The zero offsets of a rank-2 rectangle, as the constant function. -/
theorem off2 : (![0, 0] : Fin 2 → Nat) = fun _ => 0 := funext fun a => by fin_cases a <;> rfl

/-- An array of two axes read at row `r` and column `c`, both taken modulo the array's extents, so that the reading is
    defined at all natural numbers and the coordinates are plain arithmetic. -/
def rd {A B : ℕ} [NeZero A] [NeZero B] (X : (⟨2, ![A, B]⟩ : Shape).Idx → EReal) (r c : ℕ) : EReal :=
  X (ix2 (Fin.ofNat A r) (Fin.ofNat B c))

/-- An array at an index is its reading at the index's two coordinates. -/
theorem eq_rd {A B : ℕ} [NeZero A] [NeZero B] (X : (⟨2, ![A, B]⟩ : Shape).Idx → EReal) (i : (⟨2, ![A, B]⟩ : Shape).Idx)
    (r c : ℕ) (hr : (i 0).val = r) (hc : (i 1).val = c) : X i = rd X r c := by
  subst hr hc
  refine congrArg X (funext fun a => Fin.ext ?_)
  match a with
  | ⟨0, _⟩ => exact (Nat.mod_eq_of_lt (i 0).isLt).symm
  | ⟨1, _⟩ => exact (Nat.mod_eq_of_lt (i 1).isLt).symm

/-- The sum over a whole axis of length `J * T` is the sum over the `J` stretches of the sums within each. -/
theorem sum_tiles {N : ℕ} (J T : ℕ) (hN : J * T = N) (f : ℕ → EReal) :
    ∑ s ∈ Finset.range J, ∑ k : Fin T, f (T * s + k.val) = ∑ k : Fin N, f k.val := by
  rw [Fin.sum_univ_tiles J T hN, ← Fin.sum_univ_eq_sum_range (fun s => ∑ k : Fin T, f (T * s + k.val))]
  refine Finset.sum_congr rfl fun s _ => Finset.sum_congr rfl fun k _ => ?_
  rw [Nat.mul_comm]

end Cert.Common

end
-- ==== Proof.SumSmall.lean ====
/- The devices' sum of the small gradients and of the loss: what the kernel's results hold, and that the reference holds the same. -/
module

public import proofs.«01_k».proof.Proof.Common
public import proofs.«01_k».proof.Proof.Gen.SumSmallIdeal.Frame
public import proofs.«01_k».proof.Proof.Gen.SumSmallRefIdeal.Read
public import Idealize.ShloMosaic.Lib.StableHlo.RunClose

@[expose] public section

set_option maxRecDepth 16384

noncomputable section

namespace Cert.SumSmallIdeal.Prod

open Cert.SumSmallIdeal Cert.SumSmallIdeal.Gen Cert.Common
open Idealize.ShloMosaic Idealize.ShloMosaic.TcCoe Idealize.SL.Sem

/-- The sum over the eight devices. -/
def tot (X : S8x24x2048.Idx → EReal) : S24x2048.Idx → EReal := fun i => ∑ s : Fin 8, X (ix3 s (i 0) (i 1))

/-- What the body writes. -/
theorem out_apply (x : Vec Ideal S8x24x2048 .f32) (y : S24x2048.Idx) : @Eq EReal (out0_1 x y) (tot x y) := by
  obtain ⟨r, q, rfl⟩ : ∃ (r : Fin 24) (q : Fin 2048), y = ix2 r q := ⟨y 0, y 1, eq_ix2 y⟩
  unfold out0_1
  rw [View.canon_unit_zero off2]
  unfold k0_pay1 tot
  pointwise
  rw [Fin.sum_univ_eight]

variable (m : (ℓ : Loc nD τ sig) → Buf (Elt Ideal) ℓ)

/-- The operand as the launch finds it: the eight devices' rows. -/
abbrev X0 (c : Dev nD) : S8x24x2048.Idx → EReal := m ((c : Thread nD τ).loc main_arg0)

/-- The place of the device. -/
abbrev X1 (c : Dev nD) : S_.Idx → BitVec 32 := m ((c : Thread nD τ).loc main_arg1)

/-- The one grid point reads and writes everything. -/
theorem idx_facts : ∀ t : Fin cfg0.N, (win0_0.index t (0 : Fin 3) = 0 ∧ win0_0.index t (1 : Fin 3) = 0 ∧ win0_0.index t (2 : Fin 3) = 0)
    ∧ (win0_1.index t (0 : Fin 2) = 0 ∧ win0_1.index t (1 : Fin 2) = 0) :=
  (by decide +kernel : ∀ t : Fin grid0.N, _)

theorem blk0 (c : Dev nD) (t : Fin cfg0.N) (s : Fin 8) (r : Fin 24) (q : Fin 2048) :
    @Eq EReal (iblk m c 0 t (ix3 s r q)) (X0 m c (ix3 s r q)) := by
  have e := (idx_facts t).1
  refine congrArg (X0 m c) (funext fun a => Fin.ext ?_)
  match a with
  | ⟨0, _⟩ =>
    show win0_0.index t (0 : Fin 3) * 8 + 1 * s.val = s.val
    rw [e.1]; omega
  | ⟨1, _⟩ =>
    show win0_0.index t (1 : Fin 3) * 24 + 1 * r.val = r.val
    rw [e.2.1]; omega
  | ⟨2, _⟩ =>
    show win0_0.index t (2 : Fin 3) * 2048 + 1 * q.val = q.val
    rw [e.2.2]; omega

theorem arr1_eq (c : Dev nD) : (dats m 0 c).arrAt 1 cfg0.N = tot (X0 m c) := by
  refine (dats m 0 c).arrAt_eq_of_covers 1 _ (by decide +kernel) fun t hf y => ?_
  rw [after0_1]
  have e := (idx_facts t).2
  obtain ⟨r, q, rfl⟩ : ∃ (r : Fin 24) (q : Fin 2048), y = ix2 r q := ⟨y 0, y 1, eq_ix2 y⟩
  have hE : ((cfg0.win 1).blk t).view.emb (ix2 r q) = ix2 r q := by
    funext a
    apply Fin.ext
    match a with
    | ⟨0, _⟩ =>
      show win0_1.index t (0 : Fin 2) * 24 + 1 * r.val = r.val
      rw [e.1]; omega
    | ⟨1, _⟩ =>
      show win0_1.index t (1 : Fin 2) * 2048 + 1 * q.val = q.val
      rw [e.2]; omega
  have key := out_apply (iblk m c 0 t) (ix2 r q)
  replace key := key.trans (Finset.sum_congr rfl fun s _ => blk0 m c t s r q)
  rw [hE]
  generalize out0_1 (iblk m c 0 t) = Z at key ⊢
  exact key

/-! What the host cuts from the sum: the loss, and each small gradient. -/

def G9 (x : S8x24x2048.Idx → EReal) : S_.Idx → EReal := shapeCast S_ (extractStridedSlice S1x1 ![7, 0] (tot x) slices_S24x2048_S1x1_7_0) shapeCasts_S1x1_S_
def G10 (x : S8x24x2048.Idx → EReal) : S1x2048.Idx → EReal := extractStridedSlice S1x2048 ![0, 0] (tot x) slices_S24x2048_S1x2048_0_0
def G11 (x : S8x24x2048.Idx → EReal) : S1x1024.Idx → EReal := extractStridedSlice S1x1024 ![5, 0] (tot x) slices_S24x2048_S1x1024_5_0
def G12 (x : S8x24x2048.Idx → EReal) : S1x1024.Idx → EReal := extractStridedSlice S1x1024 ![5, 1024] (tot x) slices_S24x2048_S1x1024_5_1024
def G13 (x : S8x24x2048.Idx → EReal) : S1x1024.Idx → EReal := extractStridedSlice S1x1024 ![6, 0] (tot x) slices_S24x2048_S1x1024_6_0
def G14 (x : S8x24x2048.Idx → EReal) : S1x2048.Idx → EReal := extractStridedSlice S1x2048 ![1, 0] (tot x) slices_S24x2048_S1x2048_1_0
def G15 (x : S8x24x2048.Idx → EReal) : S1x2048.Idx → EReal := extractStridedSlice S1x2048 ![2, 0] (tot x) slices_S24x2048_S1x2048_2_0
def G16 (x : S8x24x2048.Idx → EReal) : S1x2048.Idx → EReal := extractStridedSlice S1x2048 ![3, 0] (tot x) slices_S24x2048_S1x2048_3_0
def G17 (x : S8x24x2048.Idx → EReal) : S1x2048.Idx → EReal := extractStridedSlice S1x2048 ![4, 0] (tot x) slices_S24x2048_S1x2048_4_0

/-- The taps' gradient: the rows from the eighth on, laid out a tap a row, and of them the columns of the device at place `p`. -/
def G7 (y : S24x2048.Idx → EReal) (p : S_.Idx → BitVec 32) : S31x256.Idx → EReal :=
  Host.dynamicSlice S31x256 (shapeCast S32x1024 (extractStridedSlice S16x2048 ![8, 0] y slices_S24x2048_S16x2048_8_0) shapeCasts_S16x2048_S32x1024)
    (fun k => ((![constantI S_ 32 0#32, select (cmpi .slt (muli p (constantI S_ 32 256#32)) (constantI S_ 32 0#32))
      (addi (muli p (constantI S_ 32 256#32)) (constantI S_ 32 1024#32)) (muli p (constantI S_ 32 256#32))] : Fin 2 → S_.Idx → BitVec 32) k (Shape.Idx.first h_S_)).toInt)
    sliceFits_S32x1024_S31x256

/-- What the host's last lines find in the memory the kernel leaves. -/
abbrev W (c : Dev nD) : Valuation τ sig (Elt Ideal) :=
  Pipeline.withArrays (cfgs 0).spec c (V0 m c) fun w => (dats m 0 c).arrAt w (cfgs 0).N

theorem W0 (c : Dev nD) : @Eq (S24x2048.Idx → EReal) (W m c (Proc.devRef .tc main_v0)) (tot (X0 m c)) :=
  (Pipeline.withArrays_arr (cfgs 0).spec (by decide) c (V0 m c) (fun w => (dats m 0 c).arrAt w (cfgs 0).N) 1).trans (arr1_eq m c)

theorem W1 (c : Dev nD) : @Eq (S_.Idx → BitVec 32) (W m c (Proc.devRef .tc main_arg1)) (X1 m c) :=
  Pipeline.withArrays_of_ne _ c (V0 m c) _ main_arg1 (by exact (by decide : ∀ w, Pipeline.arrRef spec0 w ≠ main_arg1))

theorem after7 (w : Valuation τ sig (Elt Ideal)) : StableHlo.after hostOps1 w (no_index (Proc.devRef .tc main_v7))
    = G7 (w (Proc.devRef .tc main_v0)) (w (Proc.devRef .tc main_arg1)) := by
  unfold hostOps1 G7
  after_results_simp_entrywise
  all_goals rfl

theorem tail7 (c : Dev nD) : Pipeline.afterTail₀ cfgs (dats m) 0 (V0 m) [hostOps1] c main_v7 = G7 (tot (X0 m c)) (X1 m c) := by
  rw [← W0 m c, ← W1 m c]
  exact after7 (W m c)

theorem tail9 (c : Dev nD) : Pipeline.afterTail₀ cfgs (dats m) 0 (V0 m) [hostOps1] c main_v9 = G9 (X0 m c) := by
  unfold G9
  rw [← W0 m c]
  show StableHlo.after hostOps1 (W m c) (Proc.devRef .tc main_v9) = _
  generalize W m c = w
  after_results; rfl

theorem tail10 (c : Dev nD) : Pipeline.afterTail₀ cfgs (dats m) 0 (V0 m) [hostOps1] c main_v10 = G10 (X0 m c) := by
  unfold G10
  rw [← W0 m c]
  show StableHlo.after hostOps1 (W m c) (Proc.devRef .tc main_v10) = _
  generalize W m c = w
  after_results

theorem tail11 (c : Dev nD) : Pipeline.afterTail₀ cfgs (dats m) 0 (V0 m) [hostOps1] c main_v11 = G11 (X0 m c) := by
  unfold G11
  rw [← W0 m c]
  show StableHlo.after hostOps1 (W m c) (Proc.devRef .tc main_v11) = _
  generalize W m c = w
  after_results

theorem tail12 (c : Dev nD) : Pipeline.afterTail₀ cfgs (dats m) 0 (V0 m) [hostOps1] c main_v12 = G12 (X0 m c) := by
  unfold G12
  rw [← W0 m c]
  show StableHlo.after hostOps1 (W m c) (Proc.devRef .tc main_v12) = _
  generalize W m c = w
  after_results

theorem tail13 (c : Dev nD) : Pipeline.afterTail₀ cfgs (dats m) 0 (V0 m) [hostOps1] c main_v13 = G13 (X0 m c) := by
  unfold G13
  rw [← W0 m c]
  show StableHlo.after hostOps1 (W m c) (Proc.devRef .tc main_v13) = _
  generalize W m c = w
  after_results

theorem tail14 (c : Dev nD) : Pipeline.afterTail₀ cfgs (dats m) 0 (V0 m) [hostOps1] c main_v14 = G14 (X0 m c) := by
  unfold G14
  rw [← W0 m c]
  show StableHlo.after hostOps1 (W m c) (Proc.devRef .tc main_v14) = _
  generalize W m c = w
  after_results

theorem tail15 (c : Dev nD) : Pipeline.afterTail₀ cfgs (dats m) 0 (V0 m) [hostOps1] c main_v15 = G15 (X0 m c) := by
  unfold G15
  rw [← W0 m c]
  show StableHlo.after hostOps1 (W m c) (Proc.devRef .tc main_v15) = _
  generalize W m c = w
  after_results

theorem tail16 (c : Dev nD) : Pipeline.afterTail₀ cfgs (dats m) 0 (V0 m) [hostOps1] c main_v16 = G16 (X0 m c) := by
  unfold G16
  rw [← W0 m c]
  show StableHlo.after hostOps1 (W m c) (Proc.devRef .tc main_v16) = _
  generalize W m c = w
  after_results

theorem tail17 (c : Dev nD) : Pipeline.afterTail₀ cfgs (dats m) 0 (V0 m) [hostOps1] c main_v17 = G17 (X0 m c) := by
  unfold G17
  rw [← W0 m c]
  show StableHlo.after hostOps1 (W m c) (Proc.devRef .tc main_v17) = _
  generalize W m c = w
  after_results

/-- What the run leaves: the loss, and each small gradient's slice of the sum. -/
theorem run (ρ : Dev nD → PrngReg) : θ_run defs (onTc (τ := τ) (main (F := Ideal))) ⟨m, fun _ => 0, ρ⟩ fun r => ∀ c : Dev nD,
    r.2.mem ((c.tc : Thread nD τ).loc main_v9) = G9 (X0 m c) ∧
    r.2.mem ((c.tc : Thread nD τ).loc main_v10) = G10 (X0 m c) ∧
    r.2.mem ((c.tc : Thread nD τ).loc main_v11) = G11 (X0 m c) ∧
    r.2.mem ((c.tc : Thread nD τ).loc main_v12) = G12 (X0 m c) ∧
    r.2.mem ((c.tc : Thread nD τ).loc main_v13) = G13 (X0 m c) ∧
    r.2.mem ((c.tc : Thread nD τ).loc main_v14) = G14 (X0 m c) ∧
    r.2.mem ((c.tc : Thread nD τ).loc main_v15) = G15 (X0 m c) ∧
    r.2.mem ((c.tc : Thread nD τ).loc main_v16) = G16 (X0 m c) ∧
    r.2.mem ((c.tc : Thread nD τ).loc main_v17) = G17 (X0 m c) ∧
    r.2.mem ((c.tc : Thread nD τ).loc main_v7) = G7 (tot (X0 m c)) (X1 m c) ∧
    r.2.mem ((c.tc : Thread nD τ).loc main_arg0) = m ((c.tc : Thread nD τ).loc main_arg0) ∧
    r.2.mem ((c.tc : Thread nD τ).loc main_arg1) = m ((c.tc : Thread nD τ).loc main_arg1) :=
  (θ_run defs _ _).mono (fun _ h c => ⟨((h c).2 main_v9 (by decide)).trans (tail9 m c),
    ((h c).2 main_v10 (by decide)).trans (tail10 m c),
    ((h c).2 main_v11 (by decide)).trans (tail11 m c),
    ((h c).2 main_v12 (by decide)).trans (tail12 m c),
    ((h c).2 main_v13 (by decide)).trans (tail13 m c),
    ((h c).2 main_v14 (by decide)).trans (tail14 m c),
    ((h c).2 main_v15 (by decide)).trans (tail15 m c),
    ((h c).2 main_v16 (by decide)).trans (tail16 m c),
    ((h c).2 main_v17 (by decide)).trans (tail17 m c),
    ((h c).2 main_v7 (by decide)).trans (tail7 m c),
    ((h c).1 0).trans (((dats m 0 c).arrAt_in 0 rfl _).trans ((A_eq m c 0).trans (V_main_arg0 m c))),
    (((h c).2 main_arg1 (Pipeline.mem_restRefs_of main_arg1 (by decide) (by decide))).trans (W_main_arg1 m (dats m) c))⟩) (run_main m ρ)

end Cert.SumSmallIdeal.Prod

namespace Cert.SumSmallRefIdeal.Prod

open Cert.SumSmallRefIdeal Cert.SumSmallRefIdeal.Read Cert.SumSmallIdeal.Prod
open Idealize.ShloMosaic

/-- A slice of one row of the sum, read at a place. -/
theorem row_eq (x : S8x24x2048.Idx → EReal) (n r l : ℕ) (h : Cert.SumSmallIdeal.S24x2048.Slices ![r, l] ⟨2, ![1, n]⟩)
    (i : (⟨2, ![1, n]⟩ : Shape).Idx) (f : Fin 8 → S8x24x2048.Idx)
    (hf : ∀ s, (f s 0).val = s.val ∧ (f s 1).val = r ∧ (f s 2).val = l + (i 1).val) :
    extractStridedSlice ⟨2, ![1, n]⟩ ![r, l] (tot x) h i = ∑ s, x (f s) := by
  unfold extractStridedSlice tot
  refine Finset.sum_congr rfl fun s _ => congrArg x (funext fun a => Fin.ext ?_)
  have h0 : (i 0).val < 1 := (i 0).isLt
  match a with
  | ⟨0, _⟩ => exact (hf s).1.symm
  | ⟨1, _⟩ => exact Eq.trans (show r + (i 0).val = r by omega) (hf s).2.1.symm
  | ⟨2, _⟩ => exact (hf s).2.2.symm

variable (x : S8x24x2048.Idx → EReal)

theorem ref10 : @Eq (S1x2048.Idx → EReal) (val_main_v10 (F := Ideal) x) (G10 x) := by
  funext i
  simp only [val_main_v10_apply, val_main_v9_apply, val_main_v8_apply, val_main_v7_apply, val_main_cst_1_apply, Ideal.ofBits_def, Ideal.ofBits_zero_f32, zero_add]
  have hq : (i 1).val < 2048 := (i 1).isLt
  exact (row_eq x 2048 0 0 _ i _ fun s => ⟨by show (s.val * 2048 + (i 1).val) / 2048 = s.val; omega, rfl, by show (s.val * 2048 + (i 1).val) % 2048 = 0 + (i 1).val; omega⟩).symm

theorem ref11 : @Eq (S1x1024.Idx → EReal) (val_main_v14 (F := Ideal) x) (G11 x) := by
  funext i
  simp only [val_main_v14_apply, val_main_v13_apply, val_main_v12_apply, val_main_v11_apply, val_main_cst_2_apply, Ideal.ofBits_def, Ideal.ofBits_zero_f32, zero_add]
  have hq : (i 1).val < 1024 := (i 1).isLt
  exact (row_eq x 1024 5 0 _ i _ fun s => ⟨by show (s.val * 1024 + (i 1).val) / 1024 = s.val; omega, rfl, by show (s.val * 1024 + (i 1).val) % 1024 = 0 + (i 1).val; omega⟩).symm

theorem ref12 : @Eq (S1x1024.Idx → EReal) (val_main_v18 (F := Ideal) x) (G12 x) := by
  funext i
  simp only [val_main_v18_apply, val_main_v17_apply, val_main_v16_apply, val_main_v15_apply, val_main_cst_3_apply, Ideal.ofBits_def, Ideal.ofBits_zero_f32, zero_add]
  have hq : (i 1).val < 1024 := (i 1).isLt
  exact (row_eq x 1024 5 1024 _ i _ fun s => ⟨by show (s.val * 1024 + (i 1).val) / 1024 = s.val; omega, rfl, by show 1024 + (s.val * 1024 + (i 1).val) % 1024 = 1024 + (i 1).val; omega⟩).symm

theorem ref13 : @Eq (S1x1024.Idx → EReal) (val_main_v22 (F := Ideal) x) (G13 x) := by
  funext i
  simp only [val_main_v22_apply, val_main_v21_apply, val_main_v20_apply, val_main_v19_apply, val_main_cst_4_apply, Ideal.ofBits_def, Ideal.ofBits_zero_f32, zero_add]
  have hq : (i 1).val < 1024 := (i 1).isLt
  exact (row_eq x 1024 6 0 _ i _ fun s => ⟨by show (s.val * 1024 + (i 1).val) / 1024 = s.val; omega, rfl, by show (s.val * 1024 + (i 1).val) % 1024 = 0 + (i 1).val; omega⟩).symm

theorem ref14 : @Eq (S1x2048.Idx → EReal) (val_main_v26 (F := Ideal) x) (G14 x) := by
  funext i
  simp only [val_main_v26_apply, val_main_v25_apply, val_main_v24_apply, val_main_v23_apply, val_main_cst_5_apply, Ideal.ofBits_def, Ideal.ofBits_zero_f32, zero_add]
  have hq : (i 1).val < 2048 := (i 1).isLt
  exact (row_eq x 2048 1 0 _ i _ fun s => ⟨by show (s.val * 2048 + (i 1).val) / 2048 = s.val; omega, rfl, by show (s.val * 2048 + (i 1).val) % 2048 = 0 + (i 1).val; omega⟩).symm

theorem ref15 : @Eq (S1x2048.Idx → EReal) (val_main_v30 (F := Ideal) x) (G15 x) := by
  funext i
  simp only [val_main_v30_apply, val_main_v29_apply, val_main_v28_apply, val_main_v27_apply, val_main_cst_6_apply, Ideal.ofBits_def, Ideal.ofBits_zero_f32, zero_add]
  have hq : (i 1).val < 2048 := (i 1).isLt
  exact (row_eq x 2048 2 0 _ i _ fun s => ⟨by show (s.val * 2048 + (i 1).val) / 2048 = s.val; omega, rfl, by show (s.val * 2048 + (i 1).val) % 2048 = 0 + (i 1).val; omega⟩).symm

theorem ref16 : @Eq (S1x2048.Idx → EReal) (val_main_v34 (F := Ideal) x) (G16 x) := by
  funext i
  simp only [val_main_v34_apply, val_main_v33_apply, val_main_v32_apply, val_main_v31_apply, val_main_cst_7_apply, Ideal.ofBits_def, Ideal.ofBits_zero_f32, zero_add]
  have hq : (i 1).val < 2048 := (i 1).isLt
  exact (row_eq x 2048 3 0 _ i _ fun s => ⟨by show (s.val * 2048 + (i 1).val) / 2048 = s.val; omega, rfl, by show (s.val * 2048 + (i 1).val) % 2048 = 0 + (i 1).val; omega⟩).symm

theorem ref17 : @Eq (S1x2048.Idx → EReal) (val_main_v38 (F := Ideal) x) (G17 x) := by
  funext i
  simp only [val_main_v38_apply, val_main_v37_apply, val_main_v36_apply, val_main_v35_apply, val_main_cst_8_apply, Ideal.ofBits_def, Ideal.ofBits_zero_f32, zero_add]
  have hq : (i 1).val < 2048 := (i 1).isLt
  exact (row_eq x 2048 4 0 _ i _ fun s => ⟨by show (s.val * 2048 + (i 1).val) / 2048 = s.val; omega, rfl, by show (s.val * 2048 + (i 1).val) % 2048 = 0 + (i 1).val; omega⟩).symm

theorem ref9 : @Eq (S_.Idx → EReal) (val_main_v6 (F := Ideal) x) (G9 x) := by
  funext i
  have hi : ∀ j : Cert.SumSmallIdeal.S1x1.Idx, (j 1).val = 0 := fun j => by have h : (j 1).val < 1 := (j 1).isLt; omega
  have hj : ∀ j : S1.Idx, (j 0).val = 0 := fun j => by have h : (j 0).val < 1 := (j 0).isLt; omega
  unfold val_main_v6 G9 shapeCast
  generalize Shape.reshapeEquiv Cert.SumSmallIdeal.Facts₀.shapeCasts_S1x1_S_ i = j
  simp only [val_main_v5_apply, val_main_v4_apply, val_main_v3_apply, val_main_cst_0_apply, Ideal.ofBits_def, Ideal.ofBits_zero_f32, zero_add]
  generalize Shape.reshapeEquiv Cert.SumSmallRefIdeal.Facts₀.shapeCasts_S1_S_ i = k
  have h1 := hi j
  have h2 := hj k
  exact (row_eq x 1 7 0 _ j _ fun s => ⟨by show (s.val * 1 + (k 0).val) / 1 = s.val; omega, rfl, by show 0 = 0 + (j 1).val; omega⟩).symm

theorem taps_eq : @Eq (S32x1024.Idx → EReal) (val_main_v2 (F := Ideal) x)
    (shapeCast S32x1024 (extractStridedSlice Cert.SumSmallIdeal.S16x2048 ![8, 0] (tot x) Cert.SumSmallIdeal.Facts₀.slices_S24x2048_S16x2048_8_0)
      Cert.SumSmallIdeal.Facts₀.shapeCasts_S16x2048_S32x1024) := by
  funext i
  have h0 : (i 0).val < 32 := (i 0).isLt
  have h1 : (i 1).val < 1024 := (i 1).isLt
  simp only [val_main_v2_apply, val_main_v1_apply, val_main_v0_apply, val_main_cst_apply, Ideal.ofBits_def, Ideal.ofBits_zero_f32, zero_add]
  refine Eq.symm ((shapeCast_apply _ _ i (ix2 (⟨((i 0).val * 1024 + (i 1).val) / 2048, by omega⟩ : Fin 16) (⟨((i 0).val * 1024 + (i 1).val) % 2048, by omega⟩ : Fin 2048)) ?_).trans ?_)
  · rewrite [Shape.rowMajor_val_two, Shape.rowMajor_val_two]
    show ((i 0).val * 1024 + (i 1).val) / 2048 * 2048 + ((i 0).val * 1024 + (i 1).val) % 2048 = (i 0).val * 1024 + (i 1).val
    omega
  unfold extractStridedSlice tot
  refine Finset.sum_congr rfl fun s _ => congrArg x (funext fun a => Fin.ext ?_)
  match a with
  | ⟨0, _⟩ => show s.val = ((s.val * 32 + (i 0).val) * 1024 + (i 1).val) / 32768; omega
  | ⟨1, _⟩ => show 8 + ((i 0).val * 1024 + (i 1).val) / 2048 = 8 + ((s.val * 32 + (i 0).val) * 1024 + (i 1).val) / 2048 % 16; omega
  | ⟨2, _⟩ => show 0 + ((i 0).val * 1024 + (i 1).val) % 2048 = ((s.val * 32 + (i 0).val) * 1024 + (i 1).val) % 2048; omega

theorem ref7 (p : S_.Idx → BitVec 32) : @Eq (S31x256.Idx → EReal) (val_main_v43 (F := Ideal) x p) (G7 (tot x) p) := by
  unfold val_main_v43 G7
  rw [taps_eq]
  rfl

end Cert.SumSmallRefIdeal.Prod

end
-- ==== Proof.Finite.lean ====
/- Finite extended reals: what the finiteness preconditions say element by element, finite sums of products, and the
   logistic function's values. -/
module

public import Idealize.ShloMosaic.Lib.Pointwise
public import Idealize.ShloMosaic.Lib.ReduceAll
public import Idealize.ShloMosaic.Lib.IdealHost
public import Idealize.ShloMosaic.Lib.StableHlo

@[expose] public section

noncomputable section

namespace Cert.Finite

open Idealize.ShloMosaic

/-- An extended real that is a real number. -/
def IsReal (x : EReal) : Prop := ∃ r : ℝ, x = (r : EReal)

theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

/-- The f32 pattern of infinity is the top of the extended reals. -/
theorem inf_bits : Ideal.ofBits .f32 0x7F800000#32 = ⊤ := by
  simp [Ideal.ofBits, Ideal.ieee]

/-- A magnitude below infinity is a real number's. -/
theorem isReal_of_abs_lt {x : EReal} (h : Ideal.cmp .olt (max x (-x)) ⊤ = 1#1) : IsReal x := by
  have h' : max x (-x) < ⊤ := by
    by_contra hn
    have h0 : Ideal.cmp .olt (max x (-x)) ⊤ = 0#1 := by unfold Ideal.cmp; simp [hn]
    rw [h0] at h
    exact absurd h (by decide)
  obtain ⟨h1, h2⟩ := max_lt_iff.1 h'
  refine isReal_iff.2 ⟨?_, ne_of_lt h1⟩
  rintro rfl
  simp at h2

/-- The shape with no axes. -/
abbrev S0 : Shape := ⟨0, ![]⟩

instance : Subsingleton S0.Idx := ⟨fun a b => funext fun k => k.elim0⟩

/-- `all(abs(x) < inf)` says that every element of `x` is a real number. -/
theorem all_real {S : Shape} {axes : List (Fin S.rank)} {d : Fin S0.rank → Fin S.rank} (x : FVec Ideal S .f32) (hb : S0.BroadcastsInDim S d)
    (hr : S.ReducesTo axes S0) (h0 : 0 < S0.numel) (j : S0.Idx)
    (h : Host.reduce IntOp.andi (cmpf .olt (Host.absf x) (broadcastInDim S d hb (constant S0 .f32 0x7F800000#32))) (constantI S0 1 1#1) hr h0 j = 1#1)
    (i : S.Idx) : IsReal (x i) := by
  have h1 := Host.reduce_andi_all _ _ hr h0 j h i
  refine isReal_of_abs_lt ?_
  rw [← inf_bits]
  exact h1

theorem andi_split {x y : IVec S0 1} {j : S0.Idx} (h : andi x y j = 1#1) : x j = 1#1 ∧ y j = 1#1 := IntOp.andi_eq_one.1 h

/-- The logistic function of a real number is a real number, that of the top is one and that of the bottom zero. -/
theorem logistic_coe (r : ℝ) : Ideal.logistic (r : EReal) = ((1 / (1 + Real.exp (-r)) : ℝ) : EReal) := by
  unfold Ideal.logistic Ideal.div
  have he : Ideal.exp (-(r : EReal)) = ((Real.exp (-r) : ℝ) : EReal) := by rw [← EReal.coe_neg]; rfl
  have hp : 0 < 1 + Real.exp (-r) := by positivity
  rw [he, ← EReal.coe_one, ← EReal.coe_add, if_neg (by exact_mod_cast hp.ne'), ← EReal.coe_inv, ← EReal.coe_mul, one_div, one_mul]

theorem logistic_top : Ideal.logistic ⊤ = 1 := by
  unfold Ideal.logistic Ideal.div
  have he : Ideal.exp (-(⊤ : EReal)) = 0 := by rw [EReal.neg_top]; rfl
  rw [he, add_zero, if_neg one_ne_zero, one_mul, ← EReal.coe_one, ← EReal.coe_inv, inv_one]

theorem logistic_bot : Ideal.logistic ⊥ = 0 := by
  unfold Ideal.logistic Ideal.div
  have he : Ideal.exp (-(⊥ : EReal)) = ⊤ := by rw [EReal.neg_bot]; rfl
  rw [he, EReal.add_top_of_ne_bot (by exact_mod_cast EReal.coe_ne_bot 1), if_neg EReal.top_ne_zero, EReal.inv_top, mul_zero]

theorem IsReal.logistic (x : EReal) : IsReal (Ideal.logistic x) := by
  induction x using EReal.rec with
  | bot => rw [logistic_bot]; exact IsReal.zero
  | top => rw [logistic_top]; exact IsReal.one
  | coe r => rw [logistic_coe]; exact ⟨_, rfl⟩

/-- The derivative of `x · σ(x)` in its two forms, times a real number: `p · (σ · (1 + x · (1 − σ)))` is `p · σ + x · p · (σ · (1 − σ))`. -/
theorem silu_grad {p : EReal} (hp : IsReal p) (x : EReal) :
    p * (Ideal.logistic x * (1 + x * (1 - Ideal.logistic x)))
      = p * Ideal.logistic x + x * p * (Ideal.logistic x * (1 - Ideal.logistic x)) := by
  obtain ⟨a, rfl⟩ := hp
  induction x using EReal.rec with
  | bot =>
    rw [logistic_bot]
    simp
  | top =>
    rw [logistic_top, ← EReal.coe_one, ← EReal.coe_sub, sub_self, EReal.coe_zero, mul_zero, add_zero, mul_zero, mul_zero, add_zero, EReal.coe_one, mul_one]
  | coe r =>
    rw [logistic_coe]
    rw [← EReal.coe_one]
    simp only [← EReal.coe_sub, ← EReal.coe_mul, ← EReal.coe_add]
    congr 1
    ring

end Cert.Finite

end
-- ==== Proof.Norm.lean ====
/- The reciprocal root of a mean square, and its gradient: the form a kernel computes and the form the derivative has are
   equal on all the extended reals. -/
module

public import proofs.«01_k».proof.Proof.Finite

@[expose] public section

noncomputable section

namespace Cert.Norm

open Idealize.ShloMosaic

/-- The constants: the row's length, a half and its negative, and a small positive number. -/
theorem bits_2048 : Ideal.ofBits .f32 0x45000000#32 = ((2048 : ℝ) : EReal) := by
  simp [Ideal.ofBits, Ideal.ieee]
  norm_num
  rw [← EReal.coe_mul]
  norm_num
theorem bits_neg_half : Ideal.ofBits .f32 0xBF000000#32 = ((-(1 / 2) : ℝ) : EReal) := by
  simp [Ideal.ofBits, Ideal.ieee]
  norm_num
  rw [← EReal.coe_mul]
  norm_num
theorem bits_half : Ideal.ofBits .f32 0x3F000000#32 = ((1 / 2 : ℝ) : EReal) := by
  simp [Ideal.ofBits, Ideal.ieee]
  norm_num
  rw [← EReal.coe_mul]
  norm_num
theorem bits_eps : ∃ e : ℝ, 0 < e ∧ Ideal.ofBits .f32 0x358637BD#32 = (e : EReal) := by
  refine ⟨8796093 * (1 / 8796093022208), by norm_num, ?_⟩
  simp [Ideal.ofBits, Ideal.ieee]
  norm_num

/-- A row's mean square, a small number added. -/
def msq {n : ℕ} (x : Fin n → EReal) : EReal :=
  Ideal.div (∑ k, x k * x k) (Ideal.ofBits .f32 0x45000000#32) + Ideal.ofBits .f32 0x358637BD#32

theorem sq_nonneg (x : EReal) : 0 ≤ x * x := by
  induction x using EReal.rec with
  | bot => simp
  | top => simp
  | coe r => rw [← EReal.coe_mul]; exact_mod_cast mul_self_nonneg r

/-- The reciprocal root of a positive number, and that root over the number. -/
theorem rsqrt_facts {s : EReal} (hs : 0 < s) :
    ∃ ρ : ℝ, 0 ≤ ρ ∧ Ideal.rsqrt s = (ρ : EReal) ∧ Ideal.div (Ideal.rsqrt s) s = ((ρ * ρ * ρ : ℝ) : EReal) := by
  induction s using EReal.rec with
  | bot => simp at hs
  | top => exact ⟨0, le_rfl, by simp, by simp [Ideal.div]⟩
  | coe r =>
    have hr : 0 < r := by exact_mod_cast hs
    refine ⟨(Real.sqrt r)⁻¹, by positivity, ?_, ?_⟩
    · rw [Ideal.rsqrt_coe, if_neg (by linarith), if_neg hr.ne']
    · rw [Ideal.rsqrt_coe, if_neg (by linarith), if_neg hr.ne', Ideal.div_coe hr.ne', ← EReal.coe_mul]
      congr 1
      have h := Real.mul_self_sqrt hr.le
      have h0 : Real.sqrt r ≠ 0 := (Real.sqrt_pos.2 hr).ne'
      rw [show (1 / r : ℝ) = (Real.sqrt r)⁻¹ * (Real.sqrt r)⁻¹ by rw [← mul_inv, h, one_div]]
      ring

theorem msq_pos {n : ℕ} (x : Fin n → EReal) : 0 < msq x := by
  obtain ⟨e, he, h⟩ := bits_eps
  unfold msq
  rw [bits_2048, Ideal.div_coe (by norm_num), h]
  have h1 : (0 : EReal) ≤ (∑ k, x k * x k) * ((1 / 2048 : ℝ) : EReal) :=
    mul_nonneg (Finset.sum_nonneg fun k _ => sq_nonneg _) (by exact_mod_cast (by norm_num : (0 : ℝ) ≤ 1 / 2048))
  have h2 : (0 : EReal) < (e : EReal) := by exact_mod_cast he
  exact lt_of_lt_of_le h2 (le_add_of_nonneg_left h1)

/-- A nonnegative real factor comes out of a sum. -/
theorem mul_sum {ι : Type} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih, EReal.left_distrib_of_nonneg_of_ne_top (by exact_mod_cast hr) (EReal.coe_ne_top r)]

/-- Twice a number times a negative real. -/
theorem neg_twice (a : EReal) {t : ℝ} (ht : 0 ≤ t) : a * ((-t : ℝ) : EReal) + a * ((-t : ℝ) : EReal) = -(a * ((t + t : ℝ) : EReal)) := by
  have h0 : (0 : EReal) ≤ (t : EReal) := by exact_mod_cast ht
  rw [EReal.coe_neg, mul_neg, ← neg_mul, ← EReal.left_distrib_of_nonneg h0 h0, ← EReal.coe_add, neg_mul]

/-- THE GRADIENT OF A NORM'S ROW in its two forms: the kernel's `r · (dn − n · mean (dn · n))`, with `n` the row times `r`, and the
    derivative's, where the mean square's part comes twice. -/
theorem rms_grad {n : ℕ} (x dn : Fin n → EReal) (a d : EReal) :
    Ideal.rsqrt (msq x) * (d - a * Ideal.rsqrt (msq x) * Ideal.div (∑ k, dn k * (x k * Ideal.rsqrt (msq x))) (Ideal.ofBits .f32 0x45000000#32))
      = d * Ideal.rsqrt (msq x)
        + a * Ideal.div ((∑ k, x k * dn k) * (Ideal.ofBits .f32 0xBF000000#32 * Ideal.div (Ideal.rsqrt (msq x)) (msq x))) (Ideal.ofBits .f32 0x45000000#32)
        + Ideal.div ((∑ k, x k * dn k) * (Ideal.ofBits .f32 0xBF000000#32 * Ideal.div (Ideal.rsqrt (msq x)) (msq x))) (Ideal.ofBits .f32 0x45000000#32) * a := by
  obtain ⟨ρ, h0, h1, h2⟩ := rsqrt_facts (msq_pos x)
  have hS : ∑ k, dn k * (x k * (ρ : EReal)) = (ρ : EReal) * ∑ k, x k * dn k := by
    rw [mul_sum ρ h0]
    exact Finset.sum_congr rfl fun k _ => by rw [mul_comm (x k), ← mul_assoc, ← mul_assoc, mul_comm (dn k), mul_assoc, mul_assoc, mul_comm (dn k)]
  rw [h2, h1, hS, bits_2048, bits_neg_half]
  simp only [Ideal.div_coe (show (2048 : ℝ) ≠ 0 by norm_num)]
  generalize ∑ k, x k * dn k = S
  rw [sub_eq_add_neg, EReal.left_distrib_of_nonneg_of_ne_top (by exact_mod_cast h0) (EReal.coe_ne_top ρ), mul_comm (ρ : EReal) d, add_assoc]
  refine congrArg _ ?_
  have e1 : a * (S * (((-(1 / 2) : ℝ) : EReal) * ((ρ * ρ * ρ : ℝ) : EReal)) * ((1 / 2048 : ℝ) : EReal)) = a * S * ((-(ρ * ρ * ρ / 4096) : ℝ) : EReal) := by
    rw [← EReal.coe_mul, mul_assoc, ← EReal.coe_mul, ← mul_assoc]
    congr 2
    ring
  rw [mul_comm (S * _ * _) a, e1, neg_twice _ (by positivity), mul_neg]
  refine congrArg _ ?_
  rw [show (ρ : EReal) * (a * (ρ : EReal) * ((ρ : EReal) * S * ((1 / 2048 : ℝ) : EReal))) = a * S * ((ρ : EReal) * (ρ : EReal) * (ρ : EReal) * ((1 / 2048 : ℝ) : EReal)) by ac_rfl]
  simp only [← EReal.coe_mul]
  congr 2
  ring

end Cert.Norm

end
-- ==== Proof.RmsFwd.lean ====
/- The norm: what one block of the kernel computes, what its result array holds, and that the reference holds the same. -/
module

public import proofs.«01_k».proof.Proof.Common
public import proofs.«01_k».proof.Proof.Norm
public import proofs.«01_k».proof.Proof.Gen.RmsFwdIdeal.Value
public import proofs.«01_k».proof.Proof.Gen.RmsFwdRefIdeal.Read

@[expose] public section

set_option maxRecDepth 16384

noncomputable section

namespace Cert.RmsFwdIdeal.Prod

open Cert.RmsFwdIdeal Cert.RmsFwdIdeal.Gen Cert.RmsFwdIdeal.Value Cert.Common Cert.Norm
open Idealize.ShloMosaic Idealize.ShloMosaic.TcCoe Idealize.SL.Sem

/-- THE RESULT: a row times the reciprocal root of its mean square, times the gain. -/
def G2 (X : S8192x2048.Idx → EReal) (g : S1x2048.Idx → EReal) (i : S8192x2048.Idx) : EReal :=
  rd X (i 0).val (i 1).val * Ideal.rsqrt (msq fun k : Fin 2048 => rd X (i 0).val k.val) * rd g 0 (i 1).val

/-- What one block holds. -/
theorem out_apply (x : Vec Ideal S512x2048 .f32) (g : Vec Ideal S1x2048 .f32) (r : Fin 512) (q : Fin 2048) :
    @Eq EReal (out0_2 x g (ix2 r q)) (x (ix2 r q) * Ideal.rsqrt (msq fun k : Fin 2048 => x (ix2 r k)) * g (ix2 0 q)) := by
  unfold out0_2
  rw [View.canon_unit_zero off2]
  simp only [View.ld_unit_zero (S := S512x2048) off2, View.ld_unit_zero (S := S1x2048) off2]
  unfold k0_pay1
  pointwise
  rfl

variable (m : (ℓ : Loc nD τ sig) → Buf (Elt Ideal) ℓ)

/-- The operands as the launch finds them: the rows and the gain. -/
abbrev X0 (c : Dev nD) : S8192x2048.Idx → EReal := m ((c : Thread nD τ).loc main_arg0)
abbrev X1 (c : Dev nD) : S1x2048.Idx → EReal := m ((c : Thread nD τ).loc main_arg1)

/-- Which blocks a grid point reads and writes. -/
theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem blk0 (c : Dev nD) (t : Fin cfg0.N) (r : Fin 512) (q : Fin 2048) :
    @Eq EReal (iblk m c 0 t (ix2 r q)) (rd (X0 m c) (512 * t.val + r.val) q.val) := by
  have e := (idx_facts t).1
  refine eq_rd (X0 m c) (((cfg0.win 0).blk t).view.emb (ix2 r q)) _ _ ?_ ?_
  · show win0_0.index t (0 : Fin 2) * 512 + 1 * r.val = _
    rw [e.1]; omega
  · show win0_0.index t (1 : Fin 2) * 2048 + 1 * q.val = _
    rw [e.2]; omega

theorem blk1 (c : Dev nD) (t : Fin cfg0.N) (z : Fin 1) (q : Fin 2048) :
    @Eq EReal (iblk m c 1 t (ix2 z q)) (rd (X1 m c) 0 q.val) := by
  have e := (idx_facts t).2.1
  refine eq_rd (X1 m c) (((cfg0.win 1).blk t).view.emb (ix2 z q)) _ _ ?_ ?_
  · show win0_1.index t (0 : Fin 2) * 1 + 1 * z.val = _
    rw [e.1]; omega
  · show win0_1.index t (1 : Fin 2) * 2048 + 1 * q.val = _
    rw [e.2]; omega

theorem arr2_eq (c : Dev nD) : (dats m 0 c).arrAt 2 cfg0.N = G2 (X0 m c) (X1 m c) := by
  refine (dats m 0 c).arrAt_eq_of_covers 2 _ (by decide +kernel) fun t hf y => ?_
  rw [after0_2]
  have e := (idx_facts t).2.2
  obtain ⟨r, q, rfl⟩ : ∃ (r : Fin 512) (q : Fin 2048), y = ix2 r q := ⟨y 0, y 1, eq_ix2 y⟩
  have h0 : ((((cfg0.win 2).blk t).view.emb (ix2 r q)) 0).val = 512 * t.val + r.val := by
    show win0_2.index t (0 : Fin 2) * 512 + 1 * r.val = _
    rw [e.1]; omega
  have h1 : ((((cfg0.win 2).blk t).view.emb (ix2 r q)) 1).val = q.val := by
    show win0_2.index t (1 : Fin 2) * 2048 + 1 * q.val = _
    rw [e.2]; omega
  have key := out_apply (iblk m c 0 t) (iblk m c 1 t) r q
  simp only [blk0, blk1] at key
  unfold G2
  rw [h0, h1]
  generalize out0_2 (iblk m c 0 t) (iblk m c 1 t) = Z at key ⊢
  exact key

end Cert.RmsFwdIdeal.Prod

namespace Cert.RmsFwdRefIdeal.Prod

open Cert.RmsFwdRefIdeal Cert.RmsFwdRefIdeal.Read Cert.Common Cert.Norm
open Idealize.ShloMosaic Idealize.ShloMosaic.TcCoe

/-- WHAT THE REFERENCE COMPUTES: the same, place by place. -/
theorem ref2_eq (x0 : S8192x2048.Idx → EReal) (x1 : S1x2048.Idx → EReal) :
    val_main_v12 (F := Ideal) x0 x1 = Cert.RmsFwdIdeal.Prod.G2 x0 x1 := by
  funext i
  show @Eq EReal _ _
  rw [val_main_v12_apply, val_main_v11_apply, val_main_v9_apply, val_main_v8_apply, val_main_v10_apply, val_main_v7_apply, val_main_v6_apply, val_main_v4_apply, val_main_v5_apply, val_main_v2_apply, val_main_v3_apply, val_main_v1_apply]
  simp only [val_main_v0_apply, val_main_cst_apply, val_main_cst_0_apply, val_main_cst_1_apply, Ideal.addf_def, Ideal.mulf_def, Ideal.truncf_def, Ideal.ofBits_def, Ideal.ofBits_zero_f32, zero_add]
  unfold Cert.RmsFwdIdeal.Prod.G2 msq
  rw [eq_rd x0 i (i 0).val (i 1).val rfl rfl, eq_rd x1 _ 0 (i 1).val rfl rfl]
  refine congrArg (fun z : EReal => rd x0 (i 0).val (i 1).val * Ideal.rsqrt (Ideal.div z _ + _) * _) (Finset.sum_congr rfl fun k _ => ?_)
  have e : @Eq EReal (x0 (idx_main_v1 (idx_main_v2 (idx_main_v8 i)) k)) (rd x0 (i 0).val k.val) := eq_rd x0 _ _ _ rfl rfl
  exact congrArg₂ (· * ·) e e

end Cert.RmsFwdRefIdeal.Prod

end
-- ==== Proof.RmsBwd.lean ====
/- The norm's backward pass, the residual's gradient added: what one block of the kernel computes, what its result arrays
   hold, and that the derivative holds the same. -/
module

public import proofs.«01_k».proof.Proof.Common
public import proofs.«01_k».proof.Proof.Norm
public import proofs.«01_k».proof.Proof.Gen.RmsBwdIdeal.Value
public import proofs.«01_k».proof.Proof.Gen.RmsBwdRefIdeal.Read
public import Idealize.ShloMosaic.Lib.WritesUnit

@[expose] public section

set_option maxRecDepth 16384

noncomputable section

namespace Cert.RmsBwdIdeal.Prod

open Cert.RmsBwdIdeal Cert.RmsBwdIdeal.Gen Cert.RmsBwdIdeal.Value Cert.Common Cert.Norm
open Idealize.ShloMosaic Idealize.ShloMosaic.TcCoe Idealize.SL.Sem

/-- The reciprocal root of row `s`'s mean square. -/
def rr (X : S8192x2048.Idx → EReal) (s : ℕ) : EReal := Ideal.rsqrt (msq fun k : Fin 2048 => rd X s k.val)

/-- THE FIRST TWO RESULTS: the stream's gradient and the norm's, `r · (dn − n · mean (dn · n))` with `n` the row times `r` and `dn` the
    gradient times the gain. -/
def G4 (dy X : S8192x2048.Idx → EReal) (g : S1x2048.Idx → EReal) (res : S8192x2048.Idx → EReal) (i : S8192x2048.Idx) : EReal :=
  res i + rr X (i 0).val * (rd dy (i 0).val (i 1).val * rd g 0 (i 1).val - rd X (i 0).val (i 1).val * rr X (i 0).val
    * Ideal.div (∑ k : Fin 2048, rd dy (i 0).val k.val * rd g 0 k.val * (rd X (i 0).val k.val * rr X (i 0).val)) (Ideal.ofBits .f32 0x45000000#32))

/-- THE THIRD: the gain's gradient. -/
def G6 (dy X : S8192x2048.Idx → EReal) (i : S1x2048.Idx) : EReal :=
  ∑ s : Fin 8192, rd dy s.val (i 1).val * (rd X s.val (i 1).val * rr X s.val)

/-- A block's rows, at one index. -/
theorem pay2_apply (x : Vec Ideal S512x2048 .f32) (r : Fin 512) (z : Fin 1) :
    @Eq EReal (k0_pay2 x (ix2 r z)) (Ideal.rsqrt (msq fun k : Fin 2048 => x (ix2 r k))) := by
  unfold k0_pay2
  pointwise
  rfl

theorem pay3_apply (x : Vec Ideal S512x2048 .f32) (r : Fin 512) (q : Fin 2048) :
    @Eq EReal (k0_pay3 x (ix2 r q)) (x (ix2 r q) * Ideal.rsqrt (msq fun k : Fin 2048 => x (ix2 r k))) := by
  unfold k0_pay3
  pointwise
  rw [pay2_apply]

theorem pay4_apply (dy : Vec Ideal S512x2048 .bf16) (x res : Vec Ideal S512x2048 .f32) (g : Vec Ideal S1x2048 .f32) (r : Fin 512) (q : Fin 2048) :
    @Eq EReal (k0_pay4 dy x res g (ix2 r q)) (res (ix2 r q) + Ideal.rsqrt (msq fun k : Fin 2048 => x (ix2 r k))
      * (dy (ix2 r q) * g (ix2 0 q) - x (ix2 r q) * Ideal.rsqrt (msq fun k : Fin 2048 => x (ix2 r k))
        * Ideal.div (∑ k : Fin 2048, dy (ix2 r k) * g (ix2 0 k) * (x (ix2 r k) * Ideal.rsqrt (msq fun k : Fin 2048 => x (ix2 r k)))) (Ideal.ofBits .f32 0x45000000#32))) := by
  unfold k0_pay4
  pointwise
  simp only [pay2_apply, pay3_apply]

theorem pay5_apply (dy : Vec Ideal S512x2048 .bf16) (x : Vec Ideal S512x2048 .f32) (z : Fin 1) (q : Fin 2048) :
    @Eq EReal (k0_pay5 dy x (ix2 z q)) (∑ k : Fin 512, dy (ix2 k q) * (x (ix2 k q) * Ideal.rsqrt (msq fun l : Fin 2048 => x (ix2 k l)))) := by
  unfold k0_pay5
  pointwise
  simp only [pay3_apply]

variable (m : (ℓ : Loc nD τ sig) → Buf (Elt Ideal) ℓ)

/-- What the first point leaves in the three results' buffers … -/
theorem outs_A (c : Dev nD) (t : Fin cfg0.N) (h0 : t.val % 16 = 0) (h1 : ¬1 ≤ t.val) :
    outsAt0 m c t.val t.isLt = (k0_pay4 (iblk m c 0 t) (iblk m c 1 t) (iblk m c 2 t) (iblk m c 3 t),
      k0_pay6 (iblk m c 0 t) (iblk m c 1 t) (iblk m c 2 t) (iblk m c 3 t), k0_pay5 (iblk m c 0 t) (iblk m c 1 t)) := by
  rw [outsAt0_A m c t h0 h1]
  unfold out0_A_4 out0_A_5 out0_A_6
  rw [View.read_writes_eq_canon _ _ _ (cover0_A_4 _ _ _ _ _ _ _ _ _ _ _ _ _ _ _ _ _ _ _ _ _ _),
    View.read_writes_eq_canon _ _ _ (cover0_A_5 _ _ _ _ _ _ _ _ _ _ _ _ _ _ _ _ _ _ _ _ _ _),
    View.read_writes_eq_canon _ _ _ (cover0_A_6 _ _ _ _ _ _ _ _ _ _ _ _ _ _ _ _ _ _ _ _ _ _)]
  unfold kernelRun0_A
  dsimp only
  sl_unfold_words
  simp only [View.canon_unit_zero (S := S512x2048) off2, View.canon_unit_zero (S := S1x2048) off2, View.readAt_eq_ld, (hs0_0 t).read_unread, (hs0_1 t).read_unread, (hs0_2 t).read_unread, (hs0_3 t).read_unread, View.ld_unit_zero (S := S512x2048) off2, View.ld_unit_zero (S := S1x2048) off2]

/-- … and a later one. -/
theorem outs_B (c : Dev nD) (t : Fin cfg0.N) (h0 : ¬t.val % 16 = 0) (h1 : 1 ≤ t.val) :
    outsAt0 m c t.val t.isLt = (k0_pay4 (iblk m c 0 t) (iblk m c 1 t) (iblk m c 2 t) (iblk m c 3 t),
      k0_pay6 (iblk m c 0 t) (iblk m c 1 t) (iblk m c 2 t) (iblk m c 3 t),
      k0_pay1 (k0_pay5 (iblk m c 0 t) (iblk m c 1 t)) (outsAt0 m c (t.val - 1) (lt_of_le_of_lt (Nat.sub_le _ _) t.isLt)).2.2) := by
  rw [outsAt0_B m c t h0 h1]
  unfold out0_B_4 out0_B_5 out0_B_6
  rw [View.read_writes_eq_canon _ _ _ (cover0_B_4 _ _ _ _ _ _ _ _ _ _ _ _ _ _ _ _ _ _ _ _ _ _ _),
    View.read_writes_eq_canon _ _ _ (cover0_B_5 _ _ _ _ _ _ _ _ _ _ _ _ _ _ _ _ _ _ _ _ _ _ _),
    View.read_writes_eq_canon _ _ _ (cover0_B_6 _ _ _ _ _ _ _ _ _ _ _ _ _ _ _ _ _ _ _ _ _ _ _)]
  unfold kernelRun0_B
  dsimp only
  sl_unfold_words
  simp only [View.canon_unit_zero (S := S512x2048) off2, View.canon_unit_zero (S := S1x2048) off2, View.readAt_eq_ld, (hs0_0 t).read_unread, (hs0_1 t).read_unread, (hs0_2 t).read_unread, (hs0_3 t).read_unread, (hs0_6 t).read_unread, View.ld_unit_zero (S := S512x2048) off2, View.ld_unit_zero (S := S1x2048) off2]

/-- The operands as the launch finds them. -/
abbrev X0 (c : Dev nD) : S8192x2048.Idx → EReal := m ((c : Thread nD τ).loc main_arg0)
abbrev X1 (c : Dev nD) : S8192x2048.Idx → EReal := m ((c : Thread nD τ).loc main_arg1)
abbrev X2 (c : Dev nD) : S1x2048.Idx → EReal := m ((c : Thread nD τ).loc main_arg2)
abbrev X3 (c : Dev nD) : S8192x2048.Idx → EReal := m ((c : Thread nD τ).loc main_arg3)

/-- Which blocks of the arrays a grid point reads and writes. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem blk0 (c : Dev nD) (t : Fin cfg0.N) (r : Fin 512) (q : Fin 2048) :
    @Eq EReal (iblk m c 0 t (ix2 r q)) (rd (X0 m c) (512 * t.val + r.val) q.val) := by
  obtain ⟨e0, e1⟩ := (idx_facts t).1
  show V m c main_arg0 (((cfg0.win 0).blk t).view.emb (ix2 r q)) = _
  rw [V_main_arg0]
  refine eq_rd (X0 m c) (((cfg0.win 0).blk t).view.emb (ix2 r q)) _ _ ?_ ?_
  · show win0_0.index t (0 : Fin 2) * 512 + 1 * r.val = _
    rw [e0]; omega
  · show win0_0.index t (1 : Fin 2) * 2048 + 1 * q.val = _
    rw [e1]; omega

theorem blk1 (c : Dev nD) (t : Fin cfg0.N) (r : Fin 512) (q : Fin 2048) :
    @Eq EReal (iblk m c 1 t (ix2 r q)) (rd (X1 m c) (512 * t.val + r.val) q.val) := by
  obtain ⟨e0, e1⟩ := (idx_facts t).2.1
  show V m c main_arg1 (((cfg0.win 1).blk t).view.emb (ix2 r q)) = _
  rw [V_main_arg1]
  refine eq_rd (X1 m c) (((cfg0.win 1).blk t).view.emb (ix2 r q)) _ _ ?_ ?_
  · show win0_1.index t (0 : Fin 2) * 512 + 1 * r.val = _
    rw [e0]; omega
  · show win0_1.index t (1 : Fin 2) * 2048 + 1 * q.val = _
    rw [e1]; omega

theorem blk2 (c : Dev nD) (t : Fin cfg0.N) (r : Fin 512) (q : Fin 2048) :
    @Eq EReal (iblk m c 2 t (ix2 r q)) (rd (X3 m c) (512 * t.val + r.val) q.val) := by
  obtain ⟨e0, e1⟩ := (idx_facts t).2.2.1
  show V m c main_arg3 (((cfg0.win 2).blk t).view.emb (ix2 r q)) = _
  rw [V_main_arg3]
  refine eq_rd (X3 m c) (((cfg0.win 2).blk t).view.emb (ix2 r q)) _ _ ?_ ?_
  · show win0_2.index t (0 : Fin 2) * 512 + 1 * r.val = _
    rw [e0]; omega
  · show win0_2.index t (1 : Fin 2) * 2048 + 1 * q.val = _
    rw [e1]; omega

theorem blk3 (c : Dev nD) (t : Fin cfg0.N) (q : Fin 2048) :
    @Eq EReal (iblk m c 3 t (ix2 0 q)) (rd (X2 m c) 0 q.val) := by
  obtain ⟨e0, e1⟩ := (idx_facts t).2.2.2.1
  show V m c main_arg2 (((cfg0.win 3).blk t).view.emb (ix2 0 q)) = _
  rw [V_main_arg2]
  refine eq_rd (X2 m c) (((cfg0.win 3).blk t).view.emb (ix2 0 q)) _ _ ?_ ?_
  · show win0_3.index t (0 : Fin 2) * 1 + 1 * 0 = _
    rw [e0]
  · show win0_3.index t (1 : Fin 2) * 2048 + 1 * q.val = _
    rw [e1]; omega

theorem row_lt (t : Fin cfg0.N) (r : Fin 512) : 512 * t.val + r.val < 8192 := by
  have ht : t.val < 16 := N_0 ▸ t.isLt
  omega

/-- A point's block is the whole result's rows. -/
theorem pay4_blk (c : Dev nD) (t : Fin cfg0.N) (r : Fin 512) (q : Fin 2048) :
    @Eq EReal (k0_pay4 (F := Ideal) (iblk m c 0 t) (iblk m c 1 t) (iblk m c 2 t) (iblk m c 3 t) (ix2 r q))
      (G4 (X0 m c) (X1 m c) (X2 m c) (X3 m c) (ix2 (⟨512 * t.val + r.val, row_lt t r⟩ : Fin 8192) q)) := by
  rw [pay4_apply]
  simp only [blk0, blk1, blk2, blk3]
  unfold G4 rr
  exact congrArg (· + _) (eq_rd (X3 m c) (ix2 (⟨512 * t.val + r.val, row_lt t r⟩ : Fin 8192) q) _ _ rfl rfl).symm

/-- What a point adds to the gain's gradient. -/
def term (c : Dev nD) (n : ℕ) (i : S1x2048.Idx) : EReal :=
  ∑ k : Fin 512, rd (X0 m c) (512 * n + k.val) (i 1).val * (rd (X1 m c) (512 * n + k.val) (i 1).val * rr (X1 m c) (512 * n + k.val))

theorem pay5_blk (c : Dev nD) (t : Fin cfg0.N) (y : S1x2048.Idx) :
    @Eq EReal (k0_pay5 (F := Ideal) (iblk m c 0 t) (iblk m c 1 t) y) (term m c t.val y) := by
  obtain ⟨z, q, rfl⟩ : ∃ (z : Fin 1) (q : Fin 2048), y = ix2 z q := ⟨y 0, y 1, eq_ix2 y⟩
  rw [pay5_apply]
  simp only [blk0, blk1]
  rfl

/-- The two blocks a point leaves. -/
theorem outs45 (c : Dev nD) (t : Fin cfg0.N) : (outsAt0 m c t.val t.isLt).1 = k0_pay4 (iblk m c 0 t) (iblk m c 1 t) (iblk m c 2 t) (iblk m c 3 t)
    ∧ (outsAt0 m c t.val t.isLt).2.1 = k0_pay6 (iblk m c 0 t) (iblk m c 1 t) (iblk m c 2 t) (iblk m c 3 t) := by
  have ht : t.val < 16 := N_0 ▸ t.isLt
  by_cases h : t.val = 0
  · rw [outs_A m c t (by omega) (by omega)]; exact ⟨rfl, rfl⟩
  · rw [outs_B m c t (by omega) (by omega)]; exact ⟨rfl, rfl⟩

/-- The gain's gradient after point `t`. -/
theorem outs6 (c : Dev nD) (t : Fin cfg0.N) (y : S1x2048.Idx) :
    @Eq EReal ((outsAt0 m c t.val t.isLt).2.2 y) (0 + ∑ k ∈ Finset.range (t.val % 16 + 1), term m c k y) := by
  have hN : cfg0.N = 16 := N_0
  refine Pipeline.eq_sum_of_reset_step_apply_divmod (fun n h => ((outsAt0 m c n h).2.2 : S1x2048.Idx → EReal)) 16 (fun _ => 0)
    (fun _ k => term m c k) ?_ ?_ t y
  · intro t h y
    have ht : t.val < 16 := hN ▸ t.isLt
    rw [outs_A m c t h (by omega), zero_add, show t.val % 16 = t.val by omega]
    exact pay5_blk m c t y
  · intro t h y
    have ht : t.val < 16 := hN ▸ t.isLt
    rw [outs_B m c t h (by omega), show t.val % 16 = t.val by omega]
    show @Eq EReal (k0_pay1 (F := Ideal) _ _ y) _
    unfold k0_pay1
    rw [shapeCast_self]
    exact congrArg (_ + ·) (pay5_blk m c t y)

/-- The three result arrays. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4, (outs45 m c t).1]
  obtain ⟨e0, e1⟩ := (idx_facts t).2.2.2.2.1
  obtain ⟨r, q, rfl⟩ : ∃ (r : Fin 512) (q : Fin 2048), y = ix2 r q := ⟨y 0, y 1, eq_ix2 y⟩
  have ix : (((cfg0.win 4).blk t).view.emb (ix2 r q)) = ix2 (⟨512 * t.val + r.val, row_lt t r⟩ : Fin 8192) q := funext fun a => Fin.ext (match a with
    | ⟨0, _⟩ => by show win0_4.index t (0 : Fin 2) * 512 + 1 * r.val = 512 * t.val + r.val; rw [e0]; omega
    | ⟨1, _⟩ => by show win0_4.index t (1 : Fin 2) * 2048 + 1 * q.val = q.val; rw [e1]; omega)
  rw [ix]
  exact pay4_blk m c t r q

theorem arr5_eq (c : Dev nD) : (dats m 0 c).arrAt 5 cfg0.N = G4 (X0 m c) (X1 m c) (X2 m c) (X3 m c) := by
  refine (dats m 0 c).arrAt_eq_of_covers 5 _ (by decide +kernel) fun t hf y => ?_
  rw [after0_5, (outs45 m c t).2]
  obtain ⟨e0, e1⟩ := (idx_facts t).2.2.2.2.2
  obtain ⟨r, q, rfl⟩ : ∃ (r : Fin 512) (q : Fin 2048), y = ix2 r q := ⟨y 0, y 1, eq_ix2 y⟩
  have ix : (((cfg0.win 5).blk t).view.emb (ix2 r q)) = ix2 (⟨512 * t.val + r.val, row_lt t r⟩ : Fin 8192) q := funext fun a => Fin.ext (match a with
    | ⟨0, _⟩ => by show win0_5.index t (0 : Fin 2) * 512 + 1 * r.val = 512 * t.val + r.val; rw [e0]; omega
    | ⟨1, _⟩ => by show win0_5.index t (1 : Fin 2) * 2048 + 1 * q.val = q.val; rw [e1]; omega)
  rw [ix]
  exact pay4_blk m c t r q

/-- The last point, which writes the whole third array. -/
def t15 : Fin cfg0.N := ⟨15, by rw [show cfg0.N = 16 from N_0]; omega⟩
theorem wholeAt6 : (cfg0.win 6).WholeAt t15 := by decide +kernel

theorem arr6_eq (c : Dev nD) : (dats m 0 c).arrAt 6 cfg0.N = G6 (X0 m c) (X1 m c) := by
  refine (dats m 0 c).arrAt_eq_of_after_last 6 t15 wholeAt6 _ (fun j => ?_)
  rw [after0_6]
  refine (outs6 m c t15 j).trans ?_
  rw [zero_add]
  exact sum_tiles 16 512 rfl (fun s => rd (X0 m c) s (j 1).val * (rd (X1 m c) s (j 1).val * rr (X1 m c) s))

end Cert.RmsBwdIdeal.Prod

namespace Cert.RmsBwdRefIdeal.Prod

open Cert.RmsBwdRefIdeal Cert.RmsBwdRefIdeal.Read Cert.Common Cert.Norm
open Idealize.ShloMosaic Idealize.ShloMosaic.TcCoe

/-- The derivative's reciprocal root at a row … -/
theorem v6_eq (x1 : S8192x2048.Idx → EReal) (i : S8192x1.Idx) :
    @Eq EReal (val_main_v6 (F := Ideal) x1 i) (msq fun k : Fin 2048 => rd x1 (i 0).val k.val) := by
  rw [val_main_v6_apply, val_main_v4_apply, val_main_v5_apply, val_main_v2_apply, val_main_v3_apply, val_main_v1_apply]
  simp only [val_main_v0_apply, val_main_cst_apply, val_main_cst_0_apply, val_main_cst_1_apply, Ideal.addf_def, Ideal.mulf_def, Ideal.ofBits_def, Ideal.ofBits_zero_f32, zero_add]
  unfold msq
  refine congrArg (· + _) (congrArg (Ideal.div · _) (Finset.sum_congr rfl fun k _ => ?_))
  rw [eq_rd x1 _ (i 0).val k.val rfl rfl]

theorem v7_eq (x1 : S8192x2048.Idx → EReal) (i : S8192x1.Idx) :
    @Eq EReal (val_main_v7 (F := Ideal) x1 i) (Cert.RmsBwdIdeal.Prod.rr x1 (i 0).val) := by
  rw [val_main_v7_apply, v6_eq]
  rfl

/-- … and the mean square's part of the gradient. -/
theorem v30_eq (x0 x1 : S8192x2048.Idx → EReal) (x2 : S1x2048.Idx → EReal) (i : S8192x2048.Idx) :
    @Eq EReal (val_main_v30 (F := Ideal) x0 x1 x2 i) (Ideal.div ((∑ k : Fin 2048, rd x1 (i 0).val k.val * (rd x0 (i 0).val k.val * rd x2 0 k.val))
      * (Ideal.ofBits .f32 0xBF000000#32 * Ideal.div (Cert.RmsBwdIdeal.Prod.rr x1 (i 0).val) (msq fun k : Fin 2048 => rd x1 (i 0).val k.val))) (Ideal.ofBits .f32 0x45000000#32)) := by
  rw [val_main_v30_apply, val_main_v29_apply]
  simp only [Fin.sum_univ_one]
  rw [val_main_v28_apply, val_main_v26_apply, val_main_v27_apply, val_main_v23_apply, val_main_v22_apply, val_main_v10_apply, val_main_v9_apply, val_main_v8_apply, v7_eq, v6_eq]
  simp only [val_main_v21_apply, val_main_v20_apply, val_main_v19_apply, val_main_v15_apply, val_main_cst_2_apply, val_main_cst_4_apply, val_main_cst_5_apply, val_main_cst_6_apply, Ideal.addf_def, Ideal.mulf_def, Ideal.extf_def, Ideal.ofBits_def, Ideal.ofBits_zero_f32, zero_add]
  refine congrArg (Ideal.div · _) (congrArg (· * _) (Finset.sum_congr rfl fun k _ => ?_))
  have h0 : ((idx_main_v22 (idx_main_v23 (idx_main_v29 (idx_main_v30 i) 0)) k) 0).val = (i 0).val := by
    show (i 0).val * 1 + 0 = _
    omega
  exact congrArg₂ (· * ·) (eq_rd x1 _ _ _ h0 rfl) (congrArg₂ (· * ·) (eq_rd x0 _ _ _ h0 rfl) (eq_rd x2 _ _ _ rfl rfl))

theorem ref4_eq (x0 x1 : S8192x2048.Idx → EReal) (x2 : S1x2048.Idx → EReal) (x3 : S8192x2048.Idx → EReal) :
    val_main_v35 (F := Ideal) x0 x1 x2 x3 = Cert.RmsBwdIdeal.Prod.G4 x0 x1 x2 x3 := by
  funext i
  show @Eq EReal _ _
  rw [val_main_v35_apply, val_main_v34_apply, val_main_v32_apply, val_main_v25_apply, val_main_v24_apply, val_main_v31_apply, val_main_v33_apply, v7_eq, v30_eq, val_main_v20_apply, val_main_v15_apply, val_main_v19_apply]
  simp only [Ideal.addf_def, Ideal.mulf_def, Ideal.extf_def]
  rw [eq_rd x1 i (i 0).val (i 1).val rfl rfl, eq_rd x0 i (i 0).val (i 1).val rfl rfl, eq_rd x2 _ 0 (i 1).val rfl rfl]
  exact congrArg (_ + ·) (rms_grad (fun k : Fin 2048 => rd x1 (i 0).val k.val) (fun k : Fin 2048 => rd x0 (i 0).val k.val * rd x2 0 k.val) _ _).symm

theorem ref5_eq (x0 x1 : S8192x2048.Idx → EReal) (x2 : S1x2048.Idx → EReal) (x3 : S8192x2048.Idx → EReal) :
    val_main_v36 (F := Ideal) x0 x1 x2 x3 = Cert.RmsBwdIdeal.Prod.G4 x0 x1 x2 x3 := ref4_eq x0 x1 x2 x3

theorem ref6_eq (x0 x1 : S8192x2048.Idx → EReal) :
    val_main_v18 (F := Ideal) x0 x1 = Cert.RmsBwdIdeal.Prod.G6 x0 x1 := by
  funext i
  show @Eq EReal _ _
  rw [val_main_v18_apply, val_main_v17_apply]
  simp only [val_main_v16_apply, val_main_v12_apply, val_main_v11_apply, val_main_v15_apply, v7_eq, val_main_cst_3_apply, Ideal.mulf_def, Ideal.extf_def, Ideal.ofBits_def, Ideal.ofBits_zero_f32, zero_add]
  unfold Cert.RmsBwdIdeal.Prod.G6
  refine Finset.sum_congr rfl fun s _ => ?_
  have hz : (i 0).val < 1 := (i 0).isLt
  have hq : (i 1).val < 2048 := (i 1).isLt
  have h1 : ((idx_main_v17 (idx_main_v18 i) s) 1).val = (i 1).val := by
    show (idx_main_v18 i 0).val = _
    dsimp only [idx_main_v18]
    omega
  rw [mul_comm]
  exact congrArg₂ (· * ·) (eq_rd x0 _ _ _ rfl h1) (congrArg (· * _) (eq_rd x1 _ _ _ rfl h1))

end Cert.RmsBwdRefIdeal.Prod

end
-- ==== Proof.PleRow.lean ====
/- One row of the loss head: the embedding's gate, the last norm, the loss and their gradients, in plain sums. -/
module

public import proofs.«01_k».proof.Proof.Common
public import proofs.«01_k».proof.Proof.Norm

@[expose] public section

noncomputable section

namespace Cert.PleRow

open Cert.Common Cert.Norm
open Idealize.ShloMosaic

/-- A row's operands: its norm `n`, the row `h` itself, its target `t` and embedding `p`, the two weights `W` and `U`, the gate's bias
    `b` and the two norms' gains. -/
@[ext] structure Row where
  (n h t : Fin 2048 → EReal)
  p : Fin 256 → EReal
  W : Fin 2048 → Fin 2048 → EReal
  U : Fin 256 → Fin 2048 → EReal
  (b gf gp : Fin 2048 → EReal)

namespace Row
variable (d : Row)

/-- The axis's length. -/
def len : EReal := Ideal.ofBits .f32 0x45000000#32
/-- The gate, the embedding's rows, and the row with the gated embedding added. -/
def gt (k : Fin 2048) : EReal := Ideal.logistic ((∑ j, d.n j * d.W j k) + d.b k)
def ee (k : Fin 2048) : EReal := ∑ j, d.p j * d.U j k
def hh (k : Fin 2048) : EReal := d.h k + d.ee k * d.gt k
/-- The last norm, its difference from the target, and the loss's gradient there. -/
def r3 : EReal := Ideal.rsqrt (msq d.hh)
def nn (k : Fin 2048) : EReal := d.hh k * d.r3
def df (k : Fin 2048) : EReal := d.nn k * d.gf k - d.t k
def ls : EReal := ∑ k, d.df k * d.df k
def dy (k : Fin 2048) : EReal := d.df k * Ideal.ofBits .f32 0x3A000000#32
/-- The gradients before the last norm, and before the gate's logistic. -/
def dh (k : Fin 2048) : EReal := d.r3 * (d.dy k * d.gf k - d.nn k * Ideal.div (∑ j, d.dy j * d.gf j * d.nn j) len)
def du (k : Fin 2048) : EReal := d.dh k * d.ee k * d.gt k * (1 - d.gt k)
/-- The gradient behind the gate's weight, and through the norm before it. -/
def dn (k : Fin 2048) : EReal := ∑ j, d.du j * d.W k j
def r2 : EReal := Ideal.rsqrt (msq d.h)
def n1 (k : Fin 2048) : EReal := d.h k * d.r2
def tot (k : Fin 2048) : EReal := d.dh k + d.r2 * (d.dn k * d.gp k - d.n1 k * Ideal.div (∑ j, d.dn j * d.gp j * d.n1 j) len)

end Row

/-- Row `s` of the whole arrays. -/
def gd (X0 : (⟨2, ![8192, 2048]⟩ : Shape).Idx → EReal) (X1 : (⟨2, ![2048, 2048]⟩ : Shape).Idx → EReal) (X2 : (⟨2, ![1, 2048]⟩ : Shape).Idx → EReal)
    (X3 : (⟨2, ![8192, 256]⟩ : Shape).Idx → EReal) (X4 : (⟨2, ![256, 2048]⟩ : Shape).Idx → EReal) (X5 : (⟨2, ![8192, 2048]⟩ : Shape).Idx → EReal)
    (X6 X7 : (⟨2, ![1, 2048]⟩ : Shape).Idx → EReal) (s : ℕ) : Row where
  n k := rd X0 s k.val * Ideal.rsqrt (msq fun j : Fin 2048 => rd X0 s j.val) * rd X7 0 k.val
  h k := rd X0 s k.val
  t k := rd X5 s k.val
  p k := rd X3 s k.val
  W j k := rd X1 j.val k.val
  U j k := rd X4 j.val k.val
  b k := rd X2 0 k.val
  gf k := rd X6 0 k.val
  gp k := rd X7 0 k.val

/-- The mean square's part of a norm's gradient. -/
def cc (x dn : Fin 2048 → EReal) : EReal :=
  Ideal.div ((∑ k, x k * dn k) * (Ideal.ofBits .f32 0xBF000000#32 * Ideal.div (Ideal.rsqrt (msq x)) (msq x))) (Ideal.ofBits .f32 0x45000000#32)

/-- The gradient before the last norm as the derivative has it … -/
theorem dh_eq (d : Row) (k : Fin 2048) : d.dh k = d.dy k * d.gf k * d.r3 + d.hh k * cc d.hh (fun j => d.dy j * d.gf j) + cc d.hh (fun j => d.dy j * d.gf j) * d.hh k :=
  rms_grad d.hh (fun j => d.dy j * d.gf j) (d.hh k) (d.dy k * d.gf k)

/-- … and the whole gradient. -/
theorem tot_eq (d : Row) (k : Fin 2048) : d.tot k = d.dh k + d.dn k * d.gp k * d.r2 + d.h k * cc d.h (fun j => d.dn j * d.gp j) + cc d.h (fun j => d.dn j * d.gp j) * d.h k := by
  rw [add_assoc, add_assoc, ← add_assoc (d.dn k * d.gp k * d.r2)]
  exact congrArg (d.dh k + ·) (rms_grad d.h (fun j => d.dn j * d.gp j) (d.h k) (d.dn k * d.gp k))

/-- The constants 1/2048 and 2. -/
theorem bits_inv : Ideal.ofBits .f32 0x3A000000#32 = ((1 / 2048 : ℝ) : EReal) := by
  simp [Ideal.ofBits, Ideal.ieee]; norm_num; rw [← EReal.coe_mul]; norm_num
theorem bits_two : Ideal.ofBits .f32 0x40000000#32 = ((2 : ℝ) : EReal) := by
  simp [Ideal.ofBits, Ideal.ieee]; norm_num; rw [← EReal.coe_mul]; norm_num

/-- The loss's gradient, from its square's. -/
theorem half_two (a : EReal) : Ideal.div (Ideal.ofBits .f32 0x3F000000#32 * Ideal.ofBits .f32 0x3F800000#32) (Ideal.ofBits .f32 0x45000000#32) * (Ideal.ofBits .f32 0x40000000#32 * a)
    = a * Ideal.ofBits .f32 0x3A000000#32 := by
  rw [Ideal.ofBits_one_f32, mul_one, bits_half, bits_2048, bits_two, bits_inv, Ideal.div_coe (show (2048 : ℝ) ≠ 0 by norm_num), mul_comm a, ← mul_assoc, ← EReal.coe_mul, ← EReal.coe_mul]
  congr 2
  norm_num

/-- Sums of 32 stretches, one after the other. -/
theorem steps {ι : Type} (N : ℕ) (f : (n : ℕ) → n < N → ι → EReal) (g : ℕ → ι → EReal)
    (h0 : ∀ (h : 0 < N) (y : ι), f 0 h y = g 0 y) (h1 : ∀ (n : ℕ) (h : n + 1 < N) (y : ι), f (n + 1) h y = f n (by omega) y + g (n + 1) y)
    (n : ℕ) (h : n < N) (y : ι) : f n h y = ∑ k ∈ Finset.range (n + 1), g k y := by
  induction n with
  | zero => rw [h0 h y]; simp
  | succ n ih => rw [h1 n h y, ih, Finset.sum_range_succ _ (n + 1)]

end Cert.PleRow

end
-- ==== Proof.Ple.lean ====
/- The loss head, forward and backward in one call: what one block of the kernel computes, and what its result arrays hold. -/
module

public import proofs.«01_k».proof.Proof.PleRow
public import proofs.«01_k».proof.Proof.Gen.PleIdeal.Value
public import proofs.«01_k».proof.Proof.Gen.PleRefIdeal.Read
public import Idealize.ShloMosaic.Lib.WritesUnit

@[expose] public section

set_option maxRecDepth 16384

noncomputable section

namespace Cert.PleRefIdeal.Prod

open Cert.PleRefIdeal Cert.PleRefIdeal.Read Cert.Common Cert.Norm
open Idealize.ShloMosaic Idealize.ShloMosaic.TcCoe

/-- The mean square of a row of the stream, its reciprocal root, and the row's norm. -/
theorem v9_at (x0 : S8192x2048.Idx → EReal) (i : S8192x1.Idx) (s : ℕ) (h0 : (i 0).val = s) : @Eq EReal (val_main_v9 (F := Ideal) x0 i) (msq fun k : Fin 2048 => rd x0 s k.val) := by
  subst h0
  rw [val_main_v9_apply, val_main_v7_apply, val_main_v8_apply, val_main_v5_apply, val_main_v6_apply, val_main_v4_apply]
  simp only [val_main_v3_apply, val_main_cst_apply, val_main_cst_0_apply, val_main_cst_1_apply, Ideal.addf_def, Ideal.mulf_def, Ideal.ofBits_def, Ideal.ofBits_zero_f32, zero_add]
  unfold msq
  refine congrArg (· + _) (congrArg (Ideal.div · _) (Finset.sum_congr rfl fun k _ => ?_))
  rw [eq_rd x0 _ (i 0).val k.val rfl rfl]

theorem v10_at (x0 : S8192x2048.Idx → EReal) (i : S8192x1.Idx) (s : ℕ) (h0 : (i 0).val = s) : @Eq EReal (val_main_v10 (F := Ideal) x0 i) (Ideal.rsqrt (msq fun k : Fin 2048 => rd x0 s k.val)) := by
  rw [val_main_v10_apply, v9_at x0 i s h0]
  rfl

theorem v15_at (x0 : S8192x2048.Idx → EReal) (i : S8192x2048.Idx) (s q : ℕ) (h0 : (i 0).val = s) (h1 : (i 1).val = q) :
    @Eq EReal (val_main_v15 (F := Ideal) x0 i) (rd x0 s q * Ideal.rsqrt (msq fun k : Fin 2048 => rd x0 s k.val)) := by
  rw [val_main_v15_apply, val_main_v14_apply, v10_at x0 _ s h0, eq_rd x0 i s q h0 h1]
  rfl

theorem v17_at (x0 : S8192x2048.Idx → EReal) (x7 : S1x2048.Idx → EReal) (i : S8192x2048.Idx) (s q : ℕ) (h0 : (i 0).val = s) (h1 : (i 1).val = q) :
    @Eq EReal (val_main_v17 (F := Ideal) x0 x7 i) (rd x0 s q * Ideal.rsqrt (msq fun k : Fin 2048 => rd x0 s k.val) * rd x7 0 q) := by
  rw [val_main_v17_apply, val_main_v16_apply, v15_at x0 i s q h0 h1, eq_rd x7 _ 0 q rfl h1]
  rfl

end Cert.PleRefIdeal.Prod

namespace Cert.PleIdeal.Prod

open Cert.PleIdeal Cert.PleIdeal.Gen Cert.PleIdeal.Value Cert.Common Cert.Norm Cert.PleRow
open Idealize.ShloMosaic Idealize.ShloMosaic.TcCoe Idealize.SL.Sem

/-- One grid point's blocks. -/
structure Blk where
  x0 : Vec Ideal S256x2048 .bf16
  x1 : Vec Ideal S256x2048 .f32
  x2 : Vec Ideal S256x256 .f32
  x3 : Vec Ideal S256x2048 .f32
  x4 : Vec Ideal S2048x2048 .bf16
  x5 : Vec Ideal S1x2048 .f32
  x6 : Vec Ideal S256x2048 .bf16
  (x7 x8 : Vec Ideal S1x2048 .f32)

namespace Blk
variable (B : Blk)

/-- A block's row. -/
def row (r : Fin 256) : Row where
  n k := B.x0 (ix2 r k)
  h k := B.x1 (ix2 r k)
  t k := B.x3 (ix2 r k)
  p k := B.x2 (ix2 r k)
  W j k := B.x4 (ix2 j k)
  U j k := B.x6 (ix2 j k)
  b k := B.x5 (ix2 0 k)
  gf k := B.x7 (ix2 0 k)
  gp k := B.x8 (ix2 0 k)

/-- What the kernel computes of a block, one value after the other. -/
def e13 := k0_pay12 B.x0 B.x4 B.x5
def e15 := k0_pay13 B.x2 B.x6
def e25 := k0_pay15 B.x0 B.x1 B.x2 B.x4 B.x5 B.x6
def e27 := k0_pay16 B.x0 B.x1 B.x2 B.x4 B.x5 B.x6
def e30 := k0_pay17 B.x0 B.x1 B.x2 B.x3 B.x4 B.x5 B.x6 B.x7
def e39 := k0_pay19 (k0_pay18 B.x0 B.x1 B.x2 B.x3 B.x4 B.x5 B.x6 B.x7) (Scalar.ofBits .f32 0x45000000#32)
def e41 := k0_pay20 B.e30
def e53 := k0_pay21 B.x7 B.e25 B.e27 B.e30
def e58 := k0_pay22 B.x7 B.e13 B.e15 B.e25 B.e27 B.e30
def e59 := k0_pay23 B.x7 B.e13 B.e15 B.e25 B.e27 B.e30
def e60 := k0_pay24 B.x4 B.x7 B.e13 B.e15 B.e25 B.e27 B.e30
def e70 := k0_pay26 B.x1
def e80 := k0_pay27 B.x1 B.x4 B.x7 B.x8 B.e13 B.e15 B.e25 B.e27 B.e30
def e81 := k0_pay28 B.x1

variable (r : Fin 256) (q : Fin 2048)

theorem e13_at : @Eq EReal (B.e13 (ix2 r q)) ((B.row r).gt q) := by
  unfold e13 k0_pay12
  pointwise
  rfl

theorem e15_at : @Eq EReal (B.e15 (ix2 r q)) ((B.row r).ee q) := by
  unfold e15 k0_pay13
  pointwise
  rfl

theorem e17_at : @Eq EReal (k0_pay14 B.x0 B.x1 B.x2 B.x4 B.x5 B.x6 (ix2 r q)) ((B.row r).hh q) := by
  unfold k0_pay14
  pointwise
  exact congrArg (_ + ·) (congrArg₂ (· * ·) (e15_at B r q) (e13_at B r q))

theorem e25_at (z : Fin 1) : @Eq EReal (B.e25 (ix2 r z)) (B.row r).r3 := by
  unfold e25 k0_pay15
  pointwise
  simp only [e17_at]
  rfl

theorem e27_at : @Eq EReal (B.e27 (ix2 r q)) ((B.row r).nn q) := by
  unfold e27 k0_pay16
  pointwise
  rw [e17_at]
  exact congrArg (_ * ·) (e25_at B r _)

theorem e30_at : @Eq EReal (B.e30 (ix2 r q)) ((B.row r).df q) := by
  unfold e30 k0_pay17
  pointwise
  exact congrArg (· - _) (congrArg (· * _) (e27_at B r q))

theorem e39_at (y : S1x1.Idx) : @Eq EReal (B.e39 y) (Ideal.ofBits .f32 0x3F000000#32 * ∑ r, Ideal.div (B.row r).ls Row.len) := by
  obtain ⟨z, w, rfl⟩ : ∃ (z : Fin 1) (w : Fin 1), y = ix2 z w := ⟨y 0, y 1, eq_ix2 y⟩
  unfold e39 k0_pay19 k0_pay18
  pointwise
  refine congrArg (_ * ·) (Finset.sum_congr rfl fun r _ => congrArg (Ideal.div · _) (Finset.sum_congr rfl fun k _ => ?_))
  exact congrArg₂ (· * ·) (e30_at B r k) (e30_at B r k)

theorem e41_at : @Eq EReal (B.e41 (ix2 r q)) ((B.row r).dy q) := by
  unfold e41 k0_pay20
  pointwise
  rw [e30_at]
  rfl

theorem e53_at : @Eq EReal (B.e53 (ix2 r q)) ((B.row r).dh q) := by
  have h (k : Fin 2048) : @Eq EReal (k0_pay20 B.e30 (ix2 r k)) ((B.row r).dy k) := e41_at B r k
  unfold e53 k0_pay21
  pointwise
  simp only [h, e25_at, e27_at]
  rfl

theorem e58_at : @Eq EReal (B.e58 (ix2 r q)) ((B.row r).du q) := by
  have h : @Eq EReal (k0_pay21 B.x7 B.e25 B.e27 B.e30 (ix2 r q)) ((B.row r).dh q) := e53_at B r q
  unfold e58 k0_pay22
  pointwise
  rw [h, e13_at, e15_at]
  rfl

theorem e59_at : @Eq EReal (B.e59 (ix2 r q)) ((B.row r).du q) := e58_at B r q

theorem e60_at : @Eq EReal (B.e60 (ix2 r q)) ((B.row r).dn q) := by
  have h (k : Fin 2048) : @Eq EReal (k0_pay23 B.x7 B.e13 B.e15 B.e25 B.e27 B.e30 (ix2 r k)) ((B.row r).du k) := e59_at B r k
  unfold e60 k0_pay24
  pointwise
  simp only [h]
  rfl

theorem e68_at (z : Fin 1) : @Eq EReal (k0_pay25 B.x1 (ix2 r z)) (B.row r).r2 := by
  unfold k0_pay25
  pointwise
  rfl

theorem e70_at : @Eq EReal (B.e70 (ix2 r q)) ((B.row r).n1 q) := by
  unfold e70 k0_pay26
  pointwise
  rw [e68_at]
  rfl

theorem e80_at : @Eq EReal (B.e80 (ix2 r q)) ((B.row r).dn q * (B.row r).gp q - (B.row r).n1 q * Ideal.div (∑ j, (B.row r).dn j * (B.row r).gp j * (B.row r).n1 j) Row.len) := by
  have h (k : Fin 2048) : @Eq EReal (k0_pay24 B.x4 B.x7 B.e13 B.e15 B.e25 B.e27 B.e30 (ix2 r k)) ((B.row r).dn k) := e60_at B r k
  have h' (k : Fin 2048) : @Eq EReal (k0_pay26 B.x1 (ix2 r k)) ((B.row r).n1 k) := e70_at B r k
  unfold e80 k0_pay27
  pointwise
  simp only [h, h']
  rfl

theorem e81_at : @Eq EReal (B.e81 (ix2 r q)) (B.row r).r2 := by
  unfold e81 k0_pay28
  pointwise
  rw [e68_at]

/-- What a block's point stores in the four blocks of rows … -/
def o9 := k0_pay1 B.e53 B.e80 B.e81
def o10 := k0_pay6 B.e53 B.e80 B.e81
def o11 := k0_pay7 B.e13 B.e53
theorem o9_at : @Eq EReal (B.o9 (ix2 r q)) ((B.row r).tot q) := by
  unfold o9 k0_pay1
  pointwise
  rw [e53_at, e80_at, e81_at]
  rfl
theorem o10_at : @Eq EReal (B.o10 (ix2 r q)) ((B.row r).tot q) := o9_at B r q
theorem o11_at : @Eq EReal (B.o11 (ix2 r q)) ((B.row r).dh q * (B.row r).gt q) := by
  unfold o11 k0_pay7
  pointwise
  rw [e53_at, e13_at]

/-- … and adds to the four sums. -/
def o13 := k0_pay2 B.e27 B.e41
def o14 := k0_pay3 B.e58
def o15 := k0_pay4 B.e39
def o16 := k0_pay5 B.e60 B.e70
theorem o13_at (z : Fin 1) : @Eq EReal (B.o13 (ix2 z q)) (∑ r, (B.row r).dy q * (B.row r).nn q) := by
  unfold o13 k0_pay2
  pointwise
  simp only [e27_at, e41_at]
theorem o14_at (z : Fin 1) : @Eq EReal (B.o14 (ix2 z q)) (∑ r, (B.row r).du q) := by
  unfold o14 k0_pay3
  pointwise
  simp only [e58_at]
theorem o15_at (z : Fin 1) (w : Fin 128) : @Eq EReal (B.o15 (ix2 z w)) (Ideal.ofBits .f32 0x3F000000#32 * ∑ r, Ideal.div (B.row r).ls Row.len) := by
  unfold o15 k0_pay4
  pointwise
  exact e39_at B _
theorem o16_at (z : Fin 1) : @Eq EReal (B.o16 (ix2 z q)) (∑ r, (B.row r).dn q * (B.row r).n1 q) := by
  unfold o16 k0_pay5
  pointwise
  simp only [e60_at, e70_at]

end Blk

variable (m : (ℓ : Loc nD τ sig) → Buf (Elt Ideal) ℓ)

/-- Point `t`'s blocks. -/
def blks (c : Dev nD) (t : Fin cfg0.N) : Blk := ⟨iblk m c 0 t, iblk m c 1 t, iblk m c 2 t, iblk m c 3 t, iblk m c 4 t, iblk m c 5 t, iblk m c 6 t, iblk m c 7 t, iblk m c 8 t⟩

set_option maxHeartbeats 2000000 in
/-- What the first point leaves in the results' buffers … -/
theorem outs_A (c : Dev nD) (t : Fin cfg0.N) (h0 : t.val % 32 = 0) (h1 : ¬1 ≤ t.val) :
    outsAt0 m c t.val t.isLt = ((blks m c t).o9, (blks m c t).o10, (blks m c t).o11, (blks m c t).e59, (blks m c t).o13, (blks m c t).o14, (blks m c t).o15, (blks m c t).o16) := by
  rw [outsAt0_A m c t h0 h1]
  refine congrArg₂ Prod.mk ((View.read_writes_eq_canon VO0_9 _ _ (fun y => ?c9)).trans ?_)
    (congrArg₂ Prod.mk ((View.read_writes_eq_canon VO0_10 _ _ (fun y => ?c10)).trans ?_)
    (congrArg₂ Prod.mk ((View.read_writes_eq_canon VO0_11 _ _ (fun y => ?c11)).trans ?_)
    (congrArg₂ Prod.mk ((View.read_writes_eq_canon VO0_12 _ _ (fun y => ?c12)).trans ?_)
    (congrArg₂ Prod.mk ((View.read_writes_eq_canon VO0_13 _ _ (fun y => ?c13)).trans ?_)
    (congrArg₂ Prod.mk ((View.read_writes_eq_canon VO0_14 _ _ (fun y => ?c14)).trans ?_)
    (congrArg₂ Prod.mk ((View.read_writes_eq_canon VO0_15 _ _ (fun y => ?c15)).trans ?_) ((View.read_writes_eq_canon VO0_16 _ _ (fun y => ?c16)).trans ?_)))))))
  case c9 => apply cover0_A_9
  case c10 => apply cover0_A_10
  case c11 => apply cover0_A_11
  case c12 => apply cover0_A_12
  case c13 => apply cover0_A_13
  case c14 => apply cover0_A_14
  case c15 => apply cover0_A_15
  case c16 => apply cover0_A_16
  all_goals
    unfold kernelRun0_A
    dsimp only
    sl_unfold_words
    simp only [View.canon_unit_zero (S := S256x2048) off2, View.canon_unit_zero (S := S1x2048) off2, View.canon_unit_zero (S := S1x128) off2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S256x2048) off2, View.ld_unit_zero (S := S256x256) off2, View.ld_unit_zero (S := S2048x2048) off2, View.ld_unit_zero (S := S1x2048) off2, View.ld_unit_zero (S := S1x128) off2]
    rfl

set_option maxHeartbeats 2000000 in
/-- … and a later one. -/
theorem outs_B (c : Dev nD) (t : Fin cfg0.N) (h0 : ¬t.val % 32 = 0) (h1 : 1 ≤ t.val) :
    outsAt0 m c t.val t.isLt = ((blks m c t).o9, (blks m c t).o10, (blks m c t).o11, (blks m c t).e59,
      k0_pay8 (blks m c t).e27 (blks m c t).e41 (outsAt0 m c (t.val - 1) (lt_of_le_of_lt (Nat.sub_le _ _) t.isLt)).2.2.2.2.1, k0_pay9 (blks m c t).e58 (outsAt0 m c (t.val - 1) (lt_of_le_of_lt (Nat.sub_le _ _) t.isLt)).2.2.2.2.2.1,
      k0_pay10 (blks m c t).e39 (outsAt0 m c (t.val - 1) (lt_of_le_of_lt (Nat.sub_le _ _) t.isLt)).2.2.2.2.2.2.1, k0_pay11 (blks m c t).e60 (blks m c t).e70 (outsAt0 m c (t.val - 1) (lt_of_le_of_lt (Nat.sub_le _ _) t.isLt)).2.2.2.2.2.2.2) := by
  rw [outsAt0_B m c t h0 h1]
  refine congrArg₂ Prod.mk ((View.read_writes_eq_canon VO0_9 _ _ (fun y => ?c9)).trans ?_)
    (congrArg₂ Prod.mk ((View.read_writes_eq_canon VO0_10 _ _ (fun y => ?c10)).trans ?_)
    (congrArg₂ Prod.mk ((View.read_writes_eq_canon VO0_11 _ _ (fun y => ?c11)).trans ?_)
    (congrArg₂ Prod.mk ((View.read_writes_eq_canon VO0_12 _ _ (fun y => ?c12)).trans ?_)
    (congrArg₂ Prod.mk ((View.read_writes_eq_canon VO0_13 _ _ (fun y => ?c13)).trans ?_)
    (congrArg₂ Prod.mk ((View.read_writes_eq_canon VO0_14 _ _ (fun y => ?c14)).trans ?_)
    (congrArg₂ Prod.mk ((View.read_writes_eq_canon VO0_15 _ _ (fun y => ?c15)).trans ?_) ((View.read_writes_eq_canon VO0_16 _ _ (fun y => ?c16)).trans ?_)))))))
  case c9 => apply cover0_B_9
  case c10 => apply cover0_B_10
  case c11 => apply cover0_B_11
  case c12 => apply cover0_B_12
  case c13 => apply cover0_B_13
  case c14 => apply cover0_B_14
  case c15 => apply cover0_B_15
  case c16 => apply cover0_B_16
  all_goals
    unfold kernelRun0_B
    dsimp only
    sl_unfold_words
    simp only [View.canon_unit_zero (S := S256x2048) off2, View.canon_unit_zero (S := S1x2048) off2, View.canon_unit_zero (S := S1x128) off2, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_13 t).read_unread, (hs0_14 t).read_unread, (hs0_15 t).read_unread, (hs0_16 t).read_unread,
    View.ld_unit_zero (S := S256x2048) off2, View.ld_unit_zero (S := S256x256) off2, View.ld_unit_zero (S := S2048x2048) off2, View.ld_unit_zero (S := S1x2048) off2, View.ld_unit_zero (S := S1x128) off2]
    rfl

/-- The operands as the launch finds them. -/
abbrev X0 (c : Dev nD) : S8192x2048.Idx → EReal := m ((c : Thread nD τ).loc main_arg0)
abbrev X1 (c : Dev nD) : S2048x2048.Idx → EReal := m ((c : Thread nD τ).loc main_arg1)
abbrev X2 (c : Dev nD) : S1x2048.Idx → EReal := m ((c : Thread nD τ).loc main_arg2)
abbrev X3 (c : Dev nD) : S8192x256.Idx → EReal := m ((c : Thread nD τ).loc main_arg3)
abbrev X4 (c : Dev nD) : S256x2048.Idx → EReal := m ((c : Thread nD τ).loc main_arg4)
abbrev X5 (c : Dev nD) : S8192x2048.Idx → EReal := m ((c : Thread nD τ).loc main_arg5)
abbrev X6 (c : Dev nD) : S1x2048.Idx → EReal := m ((c : Thread nD τ).loc main_arg6)
abbrev X7 (c : Dev nD) : S1x2048.Idx → EReal := m ((c : Thread nD τ).loc main_arg7)

/-- Row `s` of the arrays the launch finds. -/
abbrev rw_ (c : Dev nD) (s : ℕ) : Row := gd (X0 m c) (X1 m c) (X2 m c) (X3 m c) (X4 m c) (X5 m c) (X6 m c) (X7 m c) s

/-- The norm's rows, which the host prepares. -/
theorem V_n2 (c : Dev nD) : V m c main_v12 = Cert.PleRefIdeal.Read.val_main_v17 (F := Ideal) (X0 m c) (X7 m c) := by
  run_tidy
  rfl

/-- Which blocks of the arrays a grid point reads and writes. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem row_lt (t : Fin cfg0.N) (r : Fin 256) : 256 * t.val + r.val < 8192 := by
  have ht : t.val < 32 := N_0 ▸ t.isLt
  omega

theorem blk0 (c : Dev nD) (t : Fin cfg0.N) (r : Fin 256) (q : Fin 2048) : @Eq EReal (iblk m c 0 t (ix2 r q)) ((rw_ m c (256 * t.val + r.val)).n q) := by
  obtain ⟨e0, e1⟩ := (idx_facts t).1
  show V m c main_v12 (((cfg0.win 0).blk t).view.emb (ix2 r q)) = _
  rw [V_n2]
  refine Cert.PleRefIdeal.Prod.v17_at _ _ _ _ _ ?_ ?_
  · show win0_0.index t (0 : Fin 2) * 256 + 1 * r.val = _
    rw [e0]; omega
  · show win0_0.index t (1 : Fin 2) * 2048 + 1 * q.val = _
    rw [e1]; omega

theorem blk1 (c : Dev nD) (t : Fin cfg0.N) (r : Fin 256) (q : Fin 2048) : @Eq EReal (iblk m c 1 t (ix2 r q)) (rd (X0 m c) (256 * t.val + r.val) q.val) := by
  obtain ⟨e0, e1⟩ := (idx_facts t).2.1
  show V m c main_arg0 (((cfg0.win 1).blk t).view.emb (ix2 r q)) = _
  rw [V_main_arg0]
  refine eq_rd (X0 m c) _ _ _ ?_ ?_
  · show win0_1.index t (0 : Fin 2) * 256 + 1 * r.val = _
    rw [e0]; omega
  · show win0_1.index t (1 : Fin 2) * 2048 + 1 * q.val = _
    rw [e1]; omega

theorem blk2 (c : Dev nD) (t : Fin cfg0.N) (r : Fin 256) (q : Fin 256) : @Eq EReal (iblk m c 2 t (ix2 r q)) (rd (X3 m c) (256 * t.val + r.val) q.val) := by
  obtain ⟨e0, e1⟩ := (idx_facts t).2.2.1
  show V m c main_arg3 (((cfg0.win 2).blk t).view.emb (ix2 r q)) = _
  rw [V_main_arg3]
  refine eq_rd (X3 m c) _ _ _ ?_ ?_
  · show win0_2.index t (0 : Fin 2) * 256 + 1 * r.val = _
    rw [e0]; omega
  · show win0_2.index t (1 : Fin 2) * 256 + 1 * q.val = _
    rw [e1]; omega

theorem blk3 (c : Dev nD) (t : Fin cfg0.N) (r : Fin 256) (q : Fin 2048) : @Eq EReal (iblk m c 3 t (ix2 r q)) (rd (X5 m c) (256 * t.val + r.val) q.val) := by
  obtain ⟨e0, e1⟩ := (idx_facts t).2.2.2.1
  show V m c main_arg5 (((cfg0.win 3).blk t).view.emb (ix2 r q)) = _
  rw [V_main_arg5]
  refine eq_rd (X5 m c) _ _ _ ?_ ?_
  · show win0_3.index t (0 : Fin 2) * 256 + 1 * r.val = _
    rw [e0]; omega
  · show win0_3.index t (1 : Fin 2) * 2048 + 1 * q.val = _
    rw [e1]; omega

theorem blk4 (c : Dev nD) (t : Fin cfg0.N) (r : Fin 2048) (q : Fin 2048) : @Eq EReal (iblk m c 4 t (ix2 r q)) (rd (X1 m c) r.val q.val) := by
  obtain ⟨e0, e1⟩ := (idx_facts t).2.2.2.2.1
  show V m c main_arg1 (((cfg0.win 4).blk t).view.emb (ix2 r q)) = _
  rw [V_main_arg1]
  refine eq_rd (X1 m c) _ _ _ ?_ ?_
  · show win0_4.index t (0 : Fin 2) * 2048 + 1 * r.val = _
    rw [e0]; omega
  · show win0_4.index t (1 : Fin 2) * 2048 + 1 * q.val = _
    rw [e1]; omega

theorem blk5 (c : Dev nD) (t : Fin cfg0.N) (q : Fin 2048) : @Eq EReal (iblk m c 5 t (ix2 0 q)) (rd (X2 m c) 0 q.val) := by
  obtain ⟨e0, e1⟩ := (idx_facts t).2.2.2.2.2.1
  show V m c main_arg2 (((cfg0.win 5).blk t).view.emb (ix2 0 q)) = _
  rw [V_main_arg2]
  refine eq_rd (X2 m c) _ _ _ ?_ ?_
  · show win0_5.index t (0 : Fin 2) * 1 + 1 * 0 = _
    rw [e0]
  · show win0_5.index t (1 : Fin 2) * 2048 + 1 * q.val = _
    rw [e1]; omega

theorem blk6 (c : Dev nD) (t : Fin cfg0.N) (r : Fin 256) (q : Fin 2048) : @Eq EReal (iblk m c 6 t (ix2 r q)) (rd (X4 m c) r.val q.val) := by
  obtain ⟨e0, e1⟩ := (idx_facts t).2.2.2.2.2.2.1
  show V m c main_arg4 (((cfg0.win 6).blk t).view.emb (ix2 r q)) = _
  rw [V_main_arg4]
  refine eq_rd (X4 m c) _ _ _ ?_ ?_
  · show win0_6.index t (0 : Fin 2) * 256 + 1 * r.val = _
    rw [e0]; omega
  · show win0_6.index t (1 : Fin 2) * 2048 + 1 * q.val = _
    rw [e1]; omega

theorem blk7 (c : Dev nD) (t : Fin cfg0.N) (q : Fin 2048) : @Eq EReal (iblk m c 7 t (ix2 0 q)) (rd (X6 m c) 0 q.val) := by
  obtain ⟨e0, e1⟩ := (idx_facts t).2.2.2.2.2.2.2.1
  show V m c main_arg6 (((cfg0.win 7).blk t).view.emb (ix2 0 q)) = _
  rw [V_main_arg6]
  refine eq_rd (X6 m c) _ _ _ ?_ ?_
  · show win0_7.index t (0 : Fin 2) * 1 + 1 * 0 = _
    rw [e0]
  · show win0_7.index t (1 : Fin 2) * 2048 + 1 * q.val = _
    rw [e1]; omega

theorem blk8 (c : Dev nD) (t : Fin cfg0.N) (q : Fin 2048) : @Eq EReal (iblk m c 8 t (ix2 0 q)) (rd (X7 m c) 0 q.val) := by
  obtain ⟨e0, e1⟩ := (idx_facts t).2.2.2.2.2.2.2.2.1
  show V m c main_arg7 (((cfg0.win 8).blk t).view.emb (ix2 0 q)) = _
  rw [V_main_arg7]
  refine eq_rd (X7 m c) _ _ _ ?_ ?_
  · show win0_8.index t (0 : Fin 2) * 1 + 1 * 0 = _
    rw [e0]
  · show win0_8.index t (1 : Fin 2) * 2048 + 1 * q.val = _
    rw [e1]; omega

/-- A block's row is the arrays'. -/
theorem row_eq (c : Dev nD) (t : Fin cfg0.N) (r : Fin 256) : (blks m c t).row r = rw_ m c (256 * t.val + r.val) :=
  Row.ext (funext fun k => blk0 m c t r k) (funext fun k => blk1 m c t r k) (funext fun k => blk3 m c t r k) (funext fun k => blk2 m c t r k)
    (funext fun j => funext fun k => blk4 m c t j k) (funext fun j => funext fun k => blk6 m c t j k) (funext fun k => blk5 m c t k) (funext fun k => blk7 m c t k) (funext fun k => blk8 m c t k)

/-- The blocks of rows a point leaves. -/
theorem outs9_12 (c : Dev nD) (t : Fin cfg0.N) : (outsAt0 m c t.val t.isLt).1 = (blks m c t).o9 ∧ (outsAt0 m c t.val t.isLt).2.1 = (blks m c t).o10
    ∧ (outsAt0 m c t.val t.isLt).2.2.1 = (blks m c t).o11 ∧ (outsAt0 m c t.val t.isLt).2.2.2.1 = (blks m c t).e59 := by
  have ht : t.val < 32 := N_0 ▸ t.isLt
  by_cases h : t.val = 0
  · rw [outs_A m c t (by omega) (by omega)]; exact ⟨rfl, rfl, rfl, rfl⟩
  · rw [outs_B m c t (by omega) (by omega)]; exact ⟨rfl, rfl, rfl, rfl⟩

/-- THE RESULTS: the stream's gradient, … -/
def G9 (X0 : S8192x2048.Idx → EReal) (X1 : S2048x2048.Idx → EReal) (X2 : S1x2048.Idx → EReal) (X3 : S8192x256.Idx → EReal) (X4 : S256x2048.Idx → EReal)
    (X5 : S8192x2048.Idx → EReal) (X6 X7 : S1x2048.Idx → EReal) (i : S8192x2048.Idx) : EReal := (gd X0 X1 X2 X3 X4 X5 X6 X7 (i 0).val).tot (i 1)
/-- … the gradient behind the embedding, … -/
def G11 (X0 : S8192x2048.Idx → EReal) (X1 : S2048x2048.Idx → EReal) (X2 : S1x2048.Idx → EReal) (X3 : S8192x256.Idx → EReal) (X4 : S256x2048.Idx → EReal)
    (X5 : S8192x2048.Idx → EReal) (X6 X7 : S1x2048.Idx → EReal) (i : S8192x2048.Idx) : EReal := (gd X0 X1 X2 X3 X4 X5 X6 X7 (i 0).val).dh (i 1) * (gd X0 X1 X2 X3 X4 X5 X6 X7 (i 0).val).gt (i 1)
/-- … the gradient before the gate's logistic, … -/
def G12 (X0 : S8192x2048.Idx → EReal) (X1 : S2048x2048.Idx → EReal) (X2 : S1x2048.Idx → EReal) (X3 : S8192x256.Idx → EReal) (X4 : S256x2048.Idx → EReal)
    (X5 : S8192x2048.Idx → EReal) (X6 X7 : S1x2048.Idx → EReal) (i : S8192x2048.Idx) : EReal := (gd X0 X1 X2 X3 X4 X5 X6 X7 (i 0).val).du (i 1)
/-- … the last gain's gradient, … -/
def G13 (X0 : S8192x2048.Idx → EReal) (X1 : S2048x2048.Idx → EReal) (X2 : S1x2048.Idx → EReal) (X3 : S8192x256.Idx → EReal) (X4 : S256x2048.Idx → EReal)
    (X5 : S8192x2048.Idx → EReal) (X6 X7 : S1x2048.Idx → EReal) (i : S1x2048.Idx) : EReal := ∑ s : Fin 8192, (gd X0 X1 X2 X3 X4 X5 X6 X7 s.val).dy (i 1) * (gd X0 X1 X2 X3 X4 X5 X6 X7 s.val).nn (i 1)
/-- … the bias's, … -/
def G14 (X0 : S8192x2048.Idx → EReal) (X1 : S2048x2048.Idx → EReal) (X2 : S1x2048.Idx → EReal) (X3 : S8192x256.Idx → EReal) (X4 : S256x2048.Idx → EReal)
    (X5 : S8192x2048.Idx → EReal) (X6 X7 : S1x2048.Idx → EReal) (i : S1x2048.Idx) : EReal := ∑ s : Fin 8192, (gd X0 X1 X2 X3 X4 X5 X6 X7 s.val).du (i 1)
/-- … the loss of these rows, in every lane, … -/
def G15 (X0 : S8192x2048.Idx → EReal) (X1 : S2048x2048.Idx → EReal) (X2 : S1x2048.Idx → EReal) (X3 : S8192x256.Idx → EReal) (X4 : S256x2048.Idx → EReal)
    (X5 : S8192x2048.Idx → EReal) (X6 X7 : S1x2048.Idx → EReal) (i : S1x128.Idx) : EReal := Ideal.ofBits .f32 0x3F000000#32 * ∑ s : Fin 8192, Ideal.div (gd X0 X1 X2 X3 X4 X5 X6 X7 s.val).ls Row.len
/-- … and the gain's before the gate. -/
def G16 (X0 : S8192x2048.Idx → EReal) (X1 : S2048x2048.Idx → EReal) (X2 : S1x2048.Idx → EReal) (X3 : S8192x256.Idx → EReal) (X4 : S256x2048.Idx → EReal)
    (X5 : S8192x2048.Idx → EReal) (X6 X7 : S1x2048.Idx → EReal) (i : S1x2048.Idx) : EReal := ∑ s : Fin 8192, (gd X0 X1 X2 X3 X4 X5 X6 X7 s.val).dn (i 1) * (gd X0 X1 X2 X3 X4 X5 X6 X7 s.val).n1 (i 1)

/-- The result arrays. -/
theorem arr9_eq (c : Dev nD) : (dats m 0 c).arrAt 9 cfg0.N = G9 (X0 m c) (X1 m c) (X2 m c) (X3 m c) (X4 m c) (X5 m c) (X6 m c) (X7 m c) := by
  refine (dats m 0 c).arrAt_eq_of_covers 9 _ (by decide +kernel) fun t hf y => ?_
  rw [after0_9, (outs9_12 m c t).1]
  obtain ⟨e0, e1⟩ := (idx_facts t).2.2.2.2.2.2.2.2.2.1
  obtain ⟨r, q, rfl⟩ : ∃ (r : Fin 256) (q : Fin 2048), y = ix2 r q := ⟨y 0, y 1, eq_ix2 y⟩
  have ix : (((cfg0.win 9).blk t).view.emb (ix2 r q)) = ix2 (⟨256 * t.val + r.val, row_lt t r⟩ : Fin 8192) q := funext fun a => Fin.ext (match a with
    | ⟨0, _⟩ => by show win0_9.index t (0 : Fin 2) * 256 + 1 * r.val = 256 * t.val + r.val; rw [e0]; omega
    | ⟨1, _⟩ => by show win0_9.index t (1 : Fin 2) * 2048 + 1 * q.val = q.val; rw [e1]; omega)
  rw [ix]
  refine ((blks m c t).o9_at r q).trans ?_
  rw [row_eq]
  rfl

theorem arr10_eq (c : Dev nD) : (dats m 0 c).arrAt 10 cfg0.N = G9 (X0 m c) (X1 m c) (X2 m c) (X3 m c) (X4 m c) (X5 m c) (X6 m c) (X7 m c) := by
  refine (dats m 0 c).arrAt_eq_of_covers 10 _ (by decide +kernel) fun t hf y => ?_
  rw [after0_10, (outs9_12 m c t).2.1]
  obtain ⟨e0, e1⟩ := (idx_facts t).2.2.2.2.2.2.2.2.2.2.1
  obtain ⟨r, q, rfl⟩ : ∃ (r : Fin 256) (q : Fin 2048), y = ix2 r q := ⟨y 0, y 1, eq_ix2 y⟩
  have ix : (((cfg0.win 10).blk t).view.emb (ix2 r q)) = ix2 (⟨256 * t.val + r.val, row_lt t r⟩ : Fin 8192) q := funext fun a => Fin.ext (match a with
    | ⟨0, _⟩ => by show win0_10.index t (0 : Fin 2) * 256 + 1 * r.val = 256 * t.val + r.val; rw [e0]; omega
    | ⟨1, _⟩ => by show win0_10.index t (1 : Fin 2) * 2048 + 1 * q.val = q.val; rw [e1]; omega)
  rw [ix]
  refine ((blks m c t).o10_at r q).trans ?_
  rw [row_eq]
  rfl

theorem arr11_eq (c : Dev nD) : (dats m 0 c).arrAt 11 cfg0.N = G11 (X0 m c) (X1 m c) (X2 m c) (X3 m c) (X4 m c) (X5 m c) (X6 m c) (X7 m c) := by
  refine (dats m 0 c).arrAt_eq_of_covers 11 _ (by decide +kernel) fun t hf y => ?_
  rw [after0_11, (outs9_12 m c t).2.2.1]
  obtain ⟨e0, e1⟩ := (idx_facts t).2.2.2.2.2.2.2.2.2.2.2.1
  obtain ⟨r, q, rfl⟩ : ∃ (r : Fin 256) (q : Fin 2048), y = ix2 r q := ⟨y 0, y 1, eq_ix2 y⟩
  have ix : (((cfg0.win 11).blk t).view.emb (ix2 r q)) = ix2 (⟨256 * t.val + r.val, row_lt t r⟩ : Fin 8192) q := funext fun a => Fin.ext (match a with
    | ⟨0, _⟩ => by show win0_11.index t (0 : Fin 2) * 256 + 1 * r.val = 256 * t.val + r.val; rw [e0]; omega
    | ⟨1, _⟩ => by show win0_11.index t (1 : Fin 2) * 2048 + 1 * q.val = q.val; rw [e1]; omega)
  rw [ix]
  refine ((blks m c t).o11_at r q).trans ?_
  rw [row_eq]
  rfl

theorem arr12_eq (c : Dev nD) : (dats m 0 c).arrAt 12 cfg0.N = G12 (X0 m c) (X1 m c) (X2 m c) (X3 m c) (X4 m c) (X5 m c) (X6 m c) (X7 m c) := by
  refine (dats m 0 c).arrAt_eq_of_covers 12 _ (by decide +kernel) fun t hf y => ?_
  rw [after0_12, (outs9_12 m c t).2.2.2]
  obtain ⟨e0, e1⟩ := (idx_facts t).2.2.2.2.2.2.2.2.2.2.2.2
  obtain ⟨r, q, rfl⟩ : ∃ (r : Fin 256) (q : Fin 2048), y = ix2 r q := ⟨y 0, y 1, eq_ix2 y⟩
  have ix : (((cfg0.win 12).blk t).view.emb (ix2 r q)) = ix2 (⟨256 * t.val + r.val, row_lt t r⟩ : Fin 8192) q := funext fun a => Fin.ext (match a with
    | ⟨0, _⟩ => by show win0_12.index t (0 : Fin 2) * 256 + 1 * r.val = 256 * t.val + r.val; rw [e0]; omega
    | ⟨1, _⟩ => by show win0_12.index t (1 : Fin 2) * 2048 + 1 * q.val = q.val; rw [e1]; omega)
  rw [ix]
  refine ((blks m c t).e59_at r q).trans ?_
  rw [row_eq]
  rfl

/-- The last point, which writes the sums. -/
def t31 : Fin cfg0.N := ⟨31, by rw [show cfg0.N = 32 from N_0]; omega⟩

/-- What point `n` adds to sum 13, and the sum. -/
def term13 (c : Dev nD) (n : ℕ) (y : S1x2048.Idx) : EReal := ∑ r : Fin 256, (fun s => (rw_ m c s).dy (y 1) * (rw_ m c s).nn (y 1)) (256 * n + r.val)
theorem o13_blk (c : Dev nD) (t : Fin cfg0.N) (y : S1x2048.Idx) : @Eq EReal ((blks m c t).o13 y) (term13 m c t.val y) := by
  obtain ⟨z, q, rfl⟩ : ∃ (z : Fin 1) (q : Fin 2048), y = ix2 z q := ⟨y 0, y 1, eq_ix2 y⟩
  rw [Blk.o13_at]
  simp only [row_eq]
  rfl
theorem wholeAt13 : (cfg0.win 13).WholeAt t31 := by decide +kernel
theorem arr13_eq (c : Dev nD) : (dats m 0 c).arrAt 13 cfg0.N = G13 (X0 m c) (X1 m c) (X2 m c) (X3 m c) (X4 m c) (X5 m c) (X6 m c) (X7 m c) := by
  refine (dats m 0 c).arrAt_eq_of_after_last 13 t31 wholeAt13 _ (fun y => ?_)
  rw [after0_13]
  refine (steps cfg0.N (fun n h => ((outsAt0 m c n h).2.2.2.2.1 : S1x2048.Idx → EReal)) (term13 m c) (fun h y => ?_) (fun n h y => ?_) 31 t31.isLt y).trans ?_
  · rw [outs_A m c ⟨0, h⟩ (by rfl) (by show ¬1 ≤ 0; omega)]
    exact o13_blk m c ⟨0, h⟩ y
  · have hN : n + 1 < 32 := N_0 ▸ h
    rw [outs_B m c ⟨n + 1, h⟩ (by show ¬(n + 1) % 32 = 0; omega) (by show 1 ≤ n + 1; omega)]
    show @Eq EReal (k0_pay8 (F := Ideal) _ _ _ y) _
    unfold k0_pay8
    rw [shapeCast_self]
    exact congrArg (_ + ·) (o13_blk m c ⟨n + 1, h⟩ y)
  · exact sum_tiles 32 256 rfl (fun s => (rw_ m c s).dy (y 1) * (rw_ m c s).nn (y 1))

/-- What point `n` adds to sum 14, and the sum. -/
def term14 (c : Dev nD) (n : ℕ) (y : S1x2048.Idx) : EReal := ∑ r : Fin 256, (fun s => (rw_ m c s).du (y 1)) (256 * n + r.val)
theorem o14_blk (c : Dev nD) (t : Fin cfg0.N) (y : S1x2048.Idx) : @Eq EReal ((blks m c t).o14 y) (term14 m c t.val y) := by
  obtain ⟨z, q, rfl⟩ : ∃ (z : Fin 1) (q : Fin 2048), y = ix2 z q := ⟨y 0, y 1, eq_ix2 y⟩
  rw [Blk.o14_at]
  simp only [row_eq]
  rfl
theorem wholeAt14 : (cfg0.win 14).WholeAt t31 := by decide +kernel
theorem arr14_eq (c : Dev nD) : (dats m 0 c).arrAt 14 cfg0.N = G14 (X0 m c) (X1 m c) (X2 m c) (X3 m c) (X4 m c) (X5 m c) (X6 m c) (X7 m c) := by
  refine (dats m 0 c).arrAt_eq_of_after_last 14 t31 wholeAt14 _ (fun y => ?_)
  rw [after0_14]
  refine (steps cfg0.N (fun n h => ((outsAt0 m c n h).2.2.2.2.2.1 : S1x2048.Idx → EReal)) (term14 m c) (fun h y => ?_) (fun n h y => ?_) 31 t31.isLt y).trans ?_
  · rw [outs_A m c ⟨0, h⟩ (by rfl) (by show ¬1 ≤ 0; omega)]
    exact o14_blk m c ⟨0, h⟩ y
  · have hN : n + 1 < 32 := N_0 ▸ h
    rw [outs_B m c ⟨n + 1, h⟩ (by show ¬(n + 1) % 32 = 0; omega) (by show 1 ≤ n + 1; omega)]
    show @Eq EReal (k0_pay9 (F := Ideal) _ _ y) _
    unfold k0_pay9
    rw [shapeCast_self]
    exact congrArg (_ + ·) (o14_blk m c ⟨n + 1, h⟩ y)
  · exact sum_tiles 32 256 rfl (fun s => (rw_ m c s).du (y 1))

/-- What point `n` adds to sum 15, and the sum. -/
def term15 (c : Dev nD) (n : ℕ) (y : S1x128.Idx) : EReal := Ideal.ofBits .f32 0x3F000000#32 * ∑ r : Fin 256, (fun s => Ideal.div (rw_ m c s).ls Row.len) (256 * n + r.val)
theorem o15_blk (c : Dev nD) (t : Fin cfg0.N) (y : S1x128.Idx) : @Eq EReal ((blks m c t).o15 y) (term15 m c t.val y) := by
  obtain ⟨z, q, rfl⟩ : ∃ (z : Fin 1) (q : Fin 128), y = ix2 z q := ⟨y 0, y 1, eq_ix2 y⟩
  rw [Blk.o15_at]
  simp only [row_eq]
  rfl
theorem wholeAt15 : (cfg0.win 15).WholeAt t31 := by decide +kernel
theorem arr15_eq (c : Dev nD) : (dats m 0 c).arrAt 15 cfg0.N = G15 (X0 m c) (X1 m c) (X2 m c) (X3 m c) (X4 m c) (X5 m c) (X6 m c) (X7 m c) := by
  refine (dats m 0 c).arrAt_eq_of_after_last 15 t31 wholeAt15 _ (fun y => ?_)
  rw [after0_15]
  refine (steps cfg0.N (fun n h => ((outsAt0 m c n h).2.2.2.2.2.2.1 : S1x128.Idx → EReal)) (term15 m c) (fun h y => ?_) (fun n h y => ?_) 31 t31.isLt y).trans ?_
  · rw [outs_A m c ⟨0, h⟩ (by rfl) (by show ¬1 ≤ 0; omega)]
    exact o15_blk m c ⟨0, h⟩ y
  · have hN : n + 1 < 32 := N_0 ▸ h
    rw [outs_B m c ⟨n + 1, h⟩ (by show ¬(n + 1) % 32 = 0; omega) (by show 1 ≤ n + 1; omega)]
    show @Eq EReal (k0_pay10 (F := Ideal) _ _ y) _
    unfold k0_pay10
    rw [shapeCast_self]
    exact congrArg (_ + ·) (o15_blk m c ⟨n + 1, h⟩ y)
  · unfold term15
    rw [bits_half, ← mul_sum _ (by norm_num), ← bits_half]
    exact congrArg (_ * ·) (sum_tiles 32 256 rfl (fun s => Ideal.div (rw_ m c s).ls Row.len))

/-- What point `n` adds to sum 16, and the sum. -/
def term16 (c : Dev nD) (n : ℕ) (y : S1x2048.Idx) : EReal := ∑ r : Fin 256, (fun s => (rw_ m c s).dn (y 1) * (rw_ m c s).n1 (y 1)) (256 * n + r.val)
theorem o16_blk (c : Dev nD) (t : Fin cfg0.N) (y : S1x2048.Idx) : @Eq EReal ((blks m c t).o16 y) (term16 m c t.val y) := by
  obtain ⟨z, q, rfl⟩ : ∃ (z : Fin 1) (q : Fin 2048), y = ix2 z q := ⟨y 0, y 1, eq_ix2 y⟩
  rw [Blk.o16_at]
  simp only [row_eq]
  rfl
theorem wholeAt16 : (cfg0.win 16).WholeAt t31 := by decide +kernel
theorem arr16_eq (c : Dev nD) : (dats m 0 c).arrAt 16 cfg0.N = G16 (X0 m c) (X1 m c) (X2 m c) (X3 m c) (X4 m c) (X5 m c) (X6 m c) (X7 m c) := by
  refine (dats m 0 c).arrAt_eq_of_after_last 16 t31 wholeAt16 _ (fun y => ?_)
  rw [after0_16]
  refine (steps cfg0.N (fun n h => ((outsAt0 m c n h).2.2.2.2.2.2.2 : S1x2048.Idx → EReal)) (term16 m c) (fun h y => ?_) (fun n h y => ?_) 31 t31.isLt y).trans ?_
  · rw [outs_A m c ⟨0, h⟩ (by rfl) (by show ¬1 ≤ 0; omega)]
    exact o16_blk m c ⟨0, h⟩ y
  · have hN : n + 1 < 32 := N_0 ▸ h
    rw [outs_B m c ⟨n + 1, h⟩ (by show ¬(n + 1) % 32 = 0; omega) (by show 1 ≤ n + 1; omega)]
    show @Eq EReal (k0_pay11 (F := Ideal) _ _ _ y) _
    unfold k0_pay11
    rw [shapeCast_self]
    exact congrArg (_ + ·) (o16_blk m c ⟨n + 1, h⟩ y)
  · exact sum_tiles 32 256 rfl (fun s => (rw_ m c s).dn (y 1) * (rw_ m c s).n1 (y 1))

end Cert.PleIdeal.Prod

end
-- ==== Proof.PleRef.lean ====
/- The loss head: what the reference, the derivative of the forward lines, computes. -/
module

public import proofs.«01_k».proof.Proof.Ple

@[expose] public section

set_option maxRecDepth 16384

noncomputable section

namespace Cert.PleRefIdeal.Prod

open Cert.PleRefIdeal Cert.PleRefIdeal.Read Cert.Common Cert.Norm Cert.PleRow
open Cert.PleIdeal.Prod (G9 G11 G12 G13 G14 G15 G16)
open Idealize.ShloMosaic Idealize.ShloMosaic.TcCoe

variable (x0 : S8192x2048.Idx → EReal) (x1 : S2048x2048.Idx → EReal) (x2 : S1x2048.Idx → EReal) (x3 : S8192x256.Idx → EReal)
  (x4 : S256x2048.Idx → EReal) (x5 : S8192x2048.Idx → EReal) (x6 x7 : S1x2048.Idx → EReal)

/-- The embedding's rows, the gate, and the row with the gated embedding added. -/
theorem v1_at (i : S8192x2048.Idx) (s : ℕ) (q : Fin 2048) (h0 : (i 0).val = s) (h1 : (i 1).val = q.val) : @Eq EReal (val_main_v1 (F := Ideal) x3 x4 i) ((gd x0 x1 x2 x3 x4 x5 x6 x7 s).ee q) := by
  rw [val_main_v1_apply]
  exact Finset.sum_congr rfl fun k _ => congrArg₂ (· * ·) (eq_rd x3 _ _ _ h0 rfl) (eq_rd x4 _ _ _ rfl h1)

theorem v26_at (i : S8192x2048.Idx) (s : ℕ) (q : Fin 2048) (h0 : (i 0).val = s) (h1 : (i 1).val = q.val) : @Eq EReal (val_main_v26 (F := Ideal) x0 x1 x2 x7 i) ((gd x0 x1 x2 x3 x4 x5 x6 x7 s).gt q) := by
  rw [val_main_v26_apply, val_main_v25_apply, val_main_v24_apply, val_main_v23_apply, val_main_v22_apply, val_main_v21_apply, val_main_v20_apply, val_main_v19_apply, val_main_v2_apply, val_main_cst_3_apply, val_main_cst_4_apply]
  show Ideal.div (Ideal.ofBits .f32 0x3F800000#32) (Ideal.ofBits .f32 0x3F800000#32 + Ideal.exp (-(_ + _))) = _
  rw [Ideal.ofBits_one_f32, eq_rd x2 _ 0 q.val rfl h1]
  refine congrArg (fun z => Ideal.logistic (z + _)) (Finset.sum_congr rfl fun k _ => ?_)
  exact congrArg₂ (· * ·) (v17_at x0 x7 _ s k.val h0 rfl) (eq_rd x1 _ _ _ rfl h1)

theorem v29_at (i : S8192x2048.Idx) (s : ℕ) (q : Fin 2048) (h0 : (i 0).val = s) (h1 : (i 1).val = q.val) : @Eq EReal (val_main_v29 (F := Ideal) x0 x1 x2 x7 i) ((gd x0 x1 x2 x3 x4 x5 x6 x7 s).gt q * (1 - (gd x0 x1 x2 x3 x4 x5 x6 x7 s).gt q)) := by
  rw [val_main_v29_apply, val_main_v28_apply, val_main_v27_apply, val_main_cst_5_apply, v26_at x0 x1 x2 x3 x4 x5 x6 x7 _ s q h0 h1]
  show _ * (Ideal.ofBits .f32 0x3F800000#32 - _) = _
  rw [Ideal.ofBits_one_f32]

theorem v31_at (i : S8192x2048.Idx) (s : ℕ) (q : Fin 2048) (h0 : (i 0).val = s) (h1 : (i 1).val = q.val) : @Eq EReal (val_main_v31 (F := Ideal) x0 x1 x2 x3 x4 x7 i) ((gd x0 x1 x2 x3 x4 x5 x6 x7 s).hh q) := by
  rw [val_main_v31_apply, val_main_v30_apply, v1_at x0 x1 x2 x3 x4 x5 x6 x7 _ s q h0 h1, v26_at x0 x1 x2 x3 x4 x5 x6 x7 _ s q h0 h1, eq_rd x0 i s q.val h0 h1]
  rfl

/-- Its mean square, its reciprocal root, the last norm and its difference from the target. -/
theorem v38_at (i : S8192x1.Idx) (s : ℕ) (h0 : (i 0).val = s) : @Eq EReal (val_main_v38 (F := Ideal) x0 x1 x2 x3 x4 x7 i) (msq (gd x0 x1 x2 x3 x4 x5 x6 x7 s).hh) := by
  subst h0
  rw [val_main_v38_apply, val_main_v36_apply, val_main_v37_apply, val_main_v34_apply, val_main_v35_apply, val_main_v33_apply]
  simp only [val_main_v32_apply, val_main_cst_6_apply, val_main_cst_7_apply, val_main_cst_8_apply, Ideal.addf_def, Ideal.mulf_def, Ideal.ofBits_def, Ideal.ofBits_zero_f32, zero_add]
  unfold msq
  refine congrArg (· + _) (congrArg (Ideal.div · _) (Finset.sum_congr rfl fun k _ => ?_))
  exact congrArg₂ (· * ·) (v31_at x0 x1 x2 x3 x4 x5 x6 x7 _ (i 0).val k rfl rfl) (v31_at x0 x1 x2 x3 x4 x5 x6 x7 _ (i 0).val k rfl rfl)

theorem v39_at (i : S8192x1.Idx) (s : ℕ) (h0 : (i 0).val = s) : @Eq EReal (val_main_v39 (F := Ideal) x0 x1 x2 x3 x4 x7 i) ((gd x0 x1 x2 x3 x4 x5 x6 x7 s).r3) := by
  rw [val_main_v39_apply, v38_at x0 x1 x2 x3 x4 x5 x6 x7 i s h0]
  rfl

theorem v44_at (i : S8192x2048.Idx) (s : ℕ) (q : Fin 2048) (h0 : (i 0).val = s) (h1 : (i 1).val = q.val) : @Eq EReal (val_main_v44 (F := Ideal) x0 x1 x2 x3 x4 x7 i) ((gd x0 x1 x2 x3 x4 x5 x6 x7 s).nn q) := by
  rw [val_main_v44_apply, val_main_v43_apply, v31_at x0 x1 x2 x3 x4 x5 x6 x7 _ s q h0 h1, v39_at x0 x1 x2 x3 x4 x5 x6 x7 _ s h0]
  rfl

theorem v47_at (i : S8192x2048.Idx) (s : ℕ) (q : Fin 2048) (h0 : (i 0).val = s) (h1 : (i 1).val = q.val) : @Eq EReal (val_main_v47 (F := Ideal) x0 x1 x2 x3 x4 x5 x6 x7 i) ((gd x0 x1 x2 x3 x4 x5 x6 x7 s).df q) := by
  rw [val_main_v47_apply, val_main_v46_apply, val_main_v45_apply, v44_at x0 x1 x2 x3 x4 x5 x6 x7 _ s q h0 h1, eq_rd x6 _ 0 q.val rfl h1, eq_rd x5 i s q.val h0 h1]
  rfl

/-- A row's loss, and the loss's gradient at the norm. -/
theorem v53_at (i : S8192.Idx) (s : ℕ) (h0 : (i 0).val = s) : @Eq EReal (val_main_v53 (F := Ideal) x0 x1 x2 x3 x4 x5 x6 x7 i) (Ideal.div (gd x0 x1 x2 x3 x4 x5 x6 x7 s).ls Row.len) := by
  rw [val_main_v53_apply, val_main_v52_apply, val_main_v51_apply]
  simp only [val_main_v48_apply, val_main_cst_11_apply, val_main_cst_12_apply, Ideal.mulf_def, Ideal.ofBits_def, Ideal.ofBits_zero_f32, zero_add]
  refine congrArg (Ideal.div · _) (Finset.sum_congr rfl fun k _ => ?_)
  exact congrArg₂ (· * ·) (v47_at x0 x1 x2 x3 x4 x5 x6 x7 _ s k h0 rfl) (v47_at x0 x1 x2 x3 x4 x5 x6 x7 _ s k h0 rfl)

theorem v61_at (i : S8192x2048.Idx) (s : ℕ) (q : Fin 2048) (h0 : (i 0).val = s) (h1 : (i 1).val = q.val) : @Eq EReal (val_main_v61 (F := Ideal) x0 x1 x2 x3 x4 x5 x6 x7 i) ((gd x0 x1 x2 x3 x4 x5 x6 x7 s).dy q) := by
  rw [val_main_v61_apply, val_main_v60_apply, val_main_v59_apply, val_main_v58_apply, val_main_v57_apply, val_main_v56_apply, val_main_v50_apply, val_main_v49_apply, v47_at x0 x1 x2 x3 x4 x5 x6 x7 _ s q h0 h1,
    val_main_cst_10_apply, val_main_cst_15_apply, val_main_cst_16_apply, val_main_cst_17_apply]
  exact half_two _

theorem v66_at (i : S8192x2048.Idx) (s : ℕ) (q : Fin 2048) (h0 : (i 0).val = s) (h1 : (i 1).val = q.val) : @Eq EReal (val_main_v66 (F := Ideal) x0 x1 x2 x3 x4 x5 x6 x7 i) ((gd x0 x1 x2 x3 x4 x5 x6 x7 s).dy q * (gd x0 x1 x2 x3 x4 x5 x6 x7 s).gf q) := by
  rw [val_main_v66_apply, val_main_v65_apply, v61_at x0 x1 x2 x3 x4 x5 x6 x7 _ s q h0 h1, eq_rd x6 _ 0 q.val rfl h1]
  rfl

/-- The mean square's part of the gradient, and the gradient before the last norm. -/
theorem v76_at (i : S8192x2048.Idx) (s : ℕ) (q : Fin 2048) (h0 : (i 0).val = s) (h1 : (i 1).val = q.val) : @Eq EReal (val_main_v76 (F := Ideal) x0 x1 x2 x3 x4 x5 x6 x7 i) (cc (gd x0 x1 x2 x3 x4 x5 x6 x7 s).hh (fun j => (gd x0 x1 x2 x3 x4 x5 x6 x7 s).dy j * (gd x0 x1 x2 x3 x4 x5 x6 x7 s).gf j)) := by
  rw [val_main_v76_apply, val_main_v75_apply]
  simp only [Fin.sum_univ_one]
  have hs : ((idx_main_v75 (idx_main_v76 i) 0) 0).val = s := h0
  rw [val_main_v74_apply, val_main_v72_apply, val_main_v73_apply, val_main_v69_apply, val_main_v68_apply, val_main_v42_apply, val_main_v41_apply, val_main_v40_apply, v39_at x0 x1 x2 x3 x4 x5 x6 x7 _ s hs, v38_at x0 x1 x2 x3 x4 x5 x6 x7 _ s hs]
  simp only [val_main_v67_apply, val_main_cst_9_apply, val_main_cst_19_apply, val_main_cst_20_apply, val_main_cst_21_apply, Ideal.addf_def, Ideal.mulf_def, Ideal.extf_def, Ideal.ofBits_def, Ideal.ofBits_zero_f32, zero_add]
  unfold cc
  refine congrArg (Ideal.div · _) (congrArg (· * _) (Finset.sum_congr rfl fun k _ => ?_))
  have hk : ((idx_main_v68 (idx_main_v69 (idx_main_v75 (idx_main_v76 i) 0)) k) 0).val = s := by
    show (i 0).val * 1 + 0 = _
    omega
  exact congrArg₂ (· * ·) (v31_at x0 x1 x2 x3 x4 x5 x6 x7 _ s k hk rfl) (v66_at x0 x1 x2 x3 x4 x5 x6 x7 _ s k hk rfl)

theorem v80_at (i : S8192x2048.Idx) (s : ℕ) (q : Fin 2048) (h0 : (i 0).val = s) (h1 : (i 1).val = q.val) : @Eq EReal (val_main_v80 (F := Ideal) x0 x1 x2 x3 x4 x5 x6 x7 i) ((gd x0 x1 x2 x3 x4 x5 x6 x7 s).dh q) := by
  rw [val_main_v80_apply, val_main_v78_apply, val_main_v79_apply, val_main_v77_apply, val_main_v71_apply, val_main_v70_apply, v31_at x0 x1 x2 x3 x4 x5 x6 x7 _ s q h0 h1, v66_at x0 x1 x2 x3 x4 x5 x6 x7 _ s q h0 h1, v76_at x0 x1 x2 x3 x4 x5 x6 x7 _ s q h0 h1, v39_at x0 x1 x2 x3 x4 x5 x6 x7 _ s h0, dh_eq]
  rfl

/-- The gradient before the logistic, and behind the gate's weight. -/
theorem v83_at (i : S8192x2048.Idx) (s : ℕ) (q : Fin 2048) (h0 : (i 0).val = s) (h1 : (i 1).val = q.val) : @Eq EReal (val_main_v83 (F := Ideal) x0 x1 x2 x3 x4 x5 x6 x7 i) ((gd x0 x1 x2 x3 x4 x5 x6 x7 s).du q) := by
  rw [val_main_v83_apply, val_main_v81_apply, v1_at x0 x1 x2 x3 x4 x5 x6 x7 _ s q h0 h1, v80_at x0 x1 x2 x3 x4 x5 x6 x7 _ s q h0 h1, v29_at x0 x1 x2 x3 x4 x5 x6 x7 _ s q h0 h1]
  show (gd x0 x1 x2 x3 x4 x5 x6 x7 s).ee q * (gd x0 x1 x2 x3 x4 x5 x6 x7 s).dh q * ((gd x0 x1 x2 x3 x4 x5 x6 x7 s).gt q * (1 - (gd x0 x1 x2 x3 x4 x5 x6 x7 s).gt q)) = (gd x0 x1 x2 x3 x4 x5 x6 x7 s).dh q * (gd x0 x1 x2 x3 x4 x5 x6 x7 s).ee q * (gd x0 x1 x2 x3 x4 x5 x6 x7 s).gt q * (1 - (gd x0 x1 x2 x3 x4 x5 x6 x7 s).gt q)
  rw [mul_comm ((gd x0 x1 x2 x3 x4 x5 x6 x7 s).ee q), ← mul_assoc]

theorem v84_at (i : S8192x2048.Idx) (s : ℕ) (q : Fin 2048) (h0 : (i 0).val = s) (h1 : (i 1).val = q.val) : @Eq EReal (val_main_v84 (F := Ideal) x0 x1 x2 x3 x4 x5 x6 x7 i) ((gd x0 x1 x2 x3 x4 x5 x6 x7 s).dn q) := by
  rw [val_main_v84_apply]
  exact Finset.sum_congr rfl fun k _ => congrArg₂ (· * ·) (v83_at x0 x1 x2 x3 x4 x5 x6 x7 _ s k h0 rfl) (eq_rd x1 _ _ _ h1 rfl)

theorem v89_at (i : S8192x2048.Idx) (s : ℕ) (q : Fin 2048) (h0 : (i 0).val = s) (h1 : (i 1).val = q.val) : @Eq EReal (val_main_v89 (F := Ideal) x0 x1 x2 x3 x4 x5 x6 x7 i) ((gd x0 x1 x2 x3 x4 x5 x6 x7 s).dn q * (gd x0 x1 x2 x3 x4 x5 x6 x7 s).gp q) := by
  rw [val_main_v89_apply, val_main_v88_apply, v84_at x0 x1 x2 x3 x4 x5 x6 x7 _ s q h0 h1, eq_rd x7 _ 0 q.val rfl h1]
  rfl

theorem v100_at (i : S8192x2048.Idx) (s : ℕ) (q : Fin 2048) (h0 : (i 0).val = s) (h1 : (i 1).val = q.val) : @Eq EReal (val_main_v100 (F := Ideal) x0 x1 x2 x3 x4 x5 x6 x7 i) (cc (gd x0 x1 x2 x3 x4 x5 x6 x7 s).h (fun j => (gd x0 x1 x2 x3 x4 x5 x6 x7 s).dn j * (gd x0 x1 x2 x3 x4 x5 x6 x7 s).gp j)) := by
  rw [val_main_v100_apply, val_main_v99_apply]
  simp only [Fin.sum_univ_one]
  have hs : ((idx_main_v99 (idx_main_v100 i) 0) 0).val = s := h0
  rw [val_main_v98_apply, val_main_v96_apply, val_main_v97_apply, val_main_v92_apply, val_main_v91_apply, val_main_v13_apply, val_main_v12_apply, val_main_v11_apply, v10_at x0 _ s hs, v9_at x0 _ s hs]
  simp only [val_main_v90_apply, val_main_cst_2_apply, val_main_cst_23_apply, val_main_cst_24_apply, val_main_cst_25_apply, Ideal.addf_def, Ideal.mulf_def, Ideal.extf_def, Ideal.ofBits_def, Ideal.ofBits_zero_f32, zero_add]
  unfold cc
  refine congrArg (Ideal.div · _) (congrArg (· * _) (Finset.sum_congr rfl fun k _ => ?_))
  have hk : ((idx_main_v91 (idx_main_v92 (idx_main_v99 (idx_main_v100 i) 0)) k) 0).val = s := by
    show (i 0).val * 1 + 0 = _
    omega
  exact congrArg₂ (· * ·) (eq_rd x0 _ _ _ hk rfl) (v89_at x0 x1 x2 x3 x4 x5 x6 x7 _ s k hk rfl)

/-- The whole gradient. -/
theorem v104_at (i : S8192x2048.Idx) (s : ℕ) (q : Fin 2048) (h0 : (i 0).val = s) (h1 : (i 1).val = q.val) : @Eq EReal (val_main_v104 (F := Ideal) x0 x1 x2 x3 x4 x5 x6 x7 i) ((gd x0 x1 x2 x3 x4 x5 x6 x7 s).tot q) := by
  rw [val_main_v104_apply, val_main_v103_apply, val_main_v102_apply, val_main_v101_apply, val_main_v95_apply, val_main_v94_apply, val_main_v93_apply, v80_at x0 x1 x2 x3 x4 x5 x6 x7 _ s q h0 h1, v89_at x0 x1 x2 x3 x4 x5 x6 x7 _ s q h0 h1, v100_at x0 x1 x2 x3 x4 x5 x6 x7 _ s q h0 h1, v10_at x0 _ s h0, eq_rd x0 i s q.val h0 h1, tot_eq]
  rfl

/-- WHAT THE REFERENCE COMPUTES: the eight results. -/
theorem ref9_eq : (val_main_v104 (F := Ideal) x0 x1 x2 x3 x4 x5 x6 x7 : S8192x2048.Idx → EReal) = G9 x0 x1 x2 x3 x4 x5 x6 x7 := funext fun i => v104_at x0 x1 x2 x3 x4 x5 x6 x7 i _ (i 1) rfl rfl
theorem ref10_eq : (val_main_v105 (F := Ideal) x0 x1 x2 x3 x4 x5 x6 x7 : S8192x2048.Idx → EReal) = G9 x0 x1 x2 x3 x4 x5 x6 x7 := ref9_eq x0 x1 x2 x3 x4 x5 x6 x7
theorem ref11_eq : (val_main_v106 (F := Ideal) x0 x1 x2 x3 x4 x5 x6 x7 : S8192x2048.Idx → EReal) = G11 x0 x1 x2 x3 x4 x5 x6 x7 := funext fun i => by
  rw [val_main_v106_apply, Ideal.truncf_def, val_main_v82_apply, v80_at x0 x1 x2 x3 x4 x5 x6 x7 i _ (i 1) rfl rfl, v26_at x0 x1 x2 x3 x4 x5 x6 x7 i _ (i 1) rfl rfl]
  rfl
theorem ref12_eq : (val_main_v107 (F := Ideal) x0 x1 x2 x3 x4 x5 x6 x7 : S8192x2048.Idx → EReal) = G12 x0 x1 x2 x3 x4 x5 x6 x7 := funext fun i => v83_at x0 x1 x2 x3 x4 x5 x6 x7 i _ (i 1) rfl rfl

theorem ref13_eq : (val_main_v64 (F := Ideal) x0 x1 x2 x3 x4 x5 x6 x7 : S1x2048.Idx → EReal) = G13 x0 x1 x2 x3 x4 x5 x6 x7 := funext fun i => by
  have hz : (i 0).val < 1 := (i 0).isLt
  have hq : (i 1).val < 2048 := (i 1).isLt
  rw [val_main_v64_apply, val_main_v63_apply, val_main_cst_18_apply]
  refine (congrArg (· + _) Ideal.ofBits_zero_f32).trans ((zero_add _).trans (Finset.sum_congr rfl fun s _ => ?_))
  have h1 : ((idx_main_v63 (idx_main_v64 i) s) 1).val = (i 1).val := by
    show (idx_main_v64 i 0).val = _
    dsimp only [idx_main_v64]
    omega
  rw [val_main_v62_apply, v44_at x0 x1 x2 x3 x4 x5 x6 x7 _ s.val (i 1) rfl h1, v61_at x0 x1 x2 x3 x4 x5 x6 x7 _ s.val (i 1) rfl h1]
  exact mul_comm _ _

theorem ref14_eq : (val_main_v109 (F := Ideal) x0 x1 x2 x3 x4 x5 x6 x7 : S1x2048.Idx → EReal) = G14 x0 x1 x2 x3 x4 x5 x6 x7 := funext fun i => by
  have hz : (i 0).val < 1 := (i 0).isLt
  have hq : (i 1).val < 2048 := (i 1).isLt
  rw [val_main_v109_apply, val_main_v108_apply, val_main_cst_26_apply]
  refine (congrArg (· + _) Ideal.ofBits_zero_f32).trans ((zero_add _).trans (Finset.sum_congr rfl fun s _ => ?_))
  have h1 : ((idx_main_v108 (idx_main_v109 i) s) 1).val = (i 1).val := rfl
  exact v83_at x0 x1 x2 x3 x4 x5 x6 x7 _ s.val (i 1) rfl h1

theorem ref16_eq : (val_main_v87 (F := Ideal) x0 x1 x2 x3 x4 x5 x6 x7 : S1x2048.Idx → EReal) = G16 x0 x1 x2 x3 x4 x5 x6 x7 := funext fun i => by
  have hz : (i 0).val < 1 := (i 0).isLt
  have hq : (i 1).val < 2048 := (i 1).isLt
  rw [val_main_v87_apply, val_main_v86_apply, val_main_cst_22_apply]
  refine (congrArg (· + _) Ideal.ofBits_zero_f32).trans ((zero_add _).trans (Finset.sum_congr rfl fun s _ => ?_))
  have h1 : ((idx_main_v86 (idx_main_v87 i) s) 1).val = (i 1).val := by
    show (idx_main_v87 i 0).val = _
    dsimp only [idx_main_v87]
    omega
  rw [val_main_v85_apply, v84_at x0 x1 x2 x3 x4 x5 x6 x7 _ s.val (i 1) rfl h1, v15_at x0 _ s.val (i 1).val rfl h1]
  exact mul_comm _ _

theorem ref15_eq : (val_main_v110 (F := Ideal) x0 x1 x2 x3 x4 x5 x6 x7 : S1x128.Idx → EReal) = G15 x0 x1 x2 x3 x4 x5 x6 x7 := funext fun i => by
  rw [val_main_v110_apply, val_main_v55_apply, val_main_v54_apply, val_main_cst_13_apply, val_main_cst_14_apply]
  refine congrArg (_ * ·) ((congrArg (· + _) Ideal.ofBits_zero_f32).trans ((zero_add _).trans ?_))
  exact Fintype.sum_equiv ⟨fun j => j 0, fun s => ix1 s, fun j => (eq_ix1 j).symm, fun s => rfl⟩ _ _ fun j => v53_at x0 x1 x2 x3 x4 x5 x6 x7 j _ rfl

end Cert.PleRefIdeal.Prod

end
-- ==== Proof.ConvBwdBase.lean ====
/- The causal convolution's backward pass: the block of gradients with the rows that follow it, as the kernel lays it out
   eight ways in its two scratch buffers, and what a row of the weights' gradient gathers. -/
module

public import proofs.«01_k».proof.Proof.Common
public import proofs.«01_k».proof.Proof.Gen.ConvBwdIdeal.Value
public import Idealize.ShloMosaic.Lib.WritesUnit

@[expose] public section

set_option maxRecDepth 16384

noncomputable section

namespace Cert.ConvBwdIdeal.Prod

open Cert.ConvBwdIdeal Cert.ConvBwdIdeal.Gen Cert.ConvBwdIdeal.Value Cert.Common
open Idealize.ShloMosaic Idealize.ShloMosaic.TcCoe Idealize.SL.Sem

/-- The zero offsets of a rank-3 rectangle. -/
theorem off3 : (![0, 0, 0] : Fin 3 → Nat) = fun _ => 0 := funext fun a => by fin_cases a <;> rfl

/-- Row `r` of a block of gradients followed by the next rows, which are zeros after the last block. -/
def ext (n : ℕ) (x2 : S512x1024.Idx → EReal) (x3 : S32x1024.Idx → EReal) (r q : ℕ) : EReal :=
  if r < 512 then rd x2 r q else if n < 15 then rd x3 (r - 512) q else 0

/-- The rows the kernel puts after its block: the next ones, or zeros at the last point. -/
theorem pay5_apply (i : grid0.Coords) (x3 : Vec Ideal S32x1024 .f32) (r : Fin 32) (q : Fin 1024) :
    @Eq EReal (k0_pay5 i x3 (ix2 r q)) (if (i 0).val < 15 then (x3 (ix2 r q) : EReal) else 0) := by
  have hi : (i 0).val < 16 := (i 0).isLt
  unfold k0_pay5
  have e : Scalar.cmpi .slt (BitVec.ofNat 32 (i 0).val) 15#32 = if (i 0).val < 15 then 1#1 else 0#1 := by
    generalize (i 0).val = n at hi
    interval_cases n <;> rfl
  rw [e]
  split
  · pointwise
  · pointwise

/-- An element of a unit rectangle of rank 2 in its array. -/
theorem emb2 {N M : ℕ} (o p : ℕ) (size) (h) (z : (Rect.unit (s := ⟨2, ![N, M]⟩) ![o, p] size h).shape.Idx) :
    (((Rect.unit (s := ⟨2, ![N, M]⟩) ![o, p] size h).emb z) 0).val = o + (z 0).val ∧ (((Rect.unit (s := ⟨2, ![N, M]⟩) ![o, p] size h).emb z) 1).val = p + (z 1).val :=
  ⟨ValueKit.rect_emb_unit_val .., ValueKit.rect_emb_unit_val ..⟩

/-- An element of a unit rectangle of rank 3 in its array. -/
theorem emb3 {N M K : ℕ} (o p l : ℕ) (size) (h) (z : (Rect.unit (s := ⟨3, ![N, M, K]⟩) ![o, p, l] size h).shape.Idx) :
    (((Rect.unit (s := ⟨3, ![N, M, K]⟩) ![o, p, l] size h).emb z) 0).val = o + (z 0).val ∧ (((Rect.unit (s := ⟨3, ![N, M, K]⟩) ![o, p, l] size h).emb z) 1).val = p + (z 1).val
      ∧ (((Rect.unit (s := ⟨3, ![N, M, K]⟩) ![o, p, l] size h).emb z) 2).val = l + (z 2).val :=
  ⟨ValueKit.rect_emb_unit_val .., ValueKit.rect_emb_unit_val .., ValueKit.rect_emb_unit_val ..⟩

/-- The elements of a unit rectangle of rank 2. -/
theorem mem2 {N M : ℕ} (o p R C : ℕ) (h) (y : (⟨2, ![N, M]⟩ : Shape).Idx) :
    y ∈ (Rect.unit (s := ⟨2, ![N, M]⟩) ![o, p] ![R, C] h).set ↔ (o ≤ (y 0).val ∧ (y 0).val < o + R) ∧ (p ≤ (y 1).val ∧ (y 1).val < p + C) :=
  Rect.mem_set_unit.trans Fin.forall_fin_two

/-- The elements of a unit rectangle of rank 3. -/
theorem mem3 {N M K : ℕ} (o p l R C D : ℕ) (h) (y : (⟨3, ![N, M, K]⟩ : Shape).Idx) :
    y ∈ (Rect.unit (s := ⟨3, ![N, M, K]⟩) ![o, p, l] ![R, C, D] h).set
      ↔ (o ≤ (y 0).val ∧ (y 0).val < o + R) ∧ (p ≤ (y 1).val ∧ (y 1).val < p + C) ∧ (l ≤ (y 2).val ∧ (y 2).val < l + D) := by
  refine Rect.mem_set_unit.trans ⟨fun H => ⟨H 0, H 1, H 2⟩, fun H a => ?_⟩
  fin_cases a
  · exact H.1
  · exact H.2.1
  · exact H.2.2

/-- The block with what follows it, as a function of the first scratch buffer's index. -/
def extA (n : ℕ) (x2 : S512x1024.Idx → EReal) (x3 : S32x1024.Idx → EReal) : Vec Ideal S544x1024 .f32 := fun y => ext n x2 x3 (y 0).val (y 1).val

/-- The rows that follow the block, in the first scratch buffer. -/
theorem piece_hi (i : grid0.Coords) (x2 : Vec Ideal S512x1024 .f32) (x3 : Vec Ideal S32x1024 .f32) (h) (z : S32x1024.Idx) :
    @Eq EReal (k0_pay5 i x3 z) (extA (i 0).val x2 x3 ((Rect.unit (s := S544x1024) ![512, 0] S32x1024.size h).emb z)) := by
  obtain ⟨a, b, rfl⟩ : ∃ (a : Fin 32) (b : Fin 1024), z = ix2 a b := ⟨z 0, z 1, eq_ix2 z⟩
  refine (pay5_apply i x3 a b).trans ?_
  unfold extA
  rw [(emb2 512 0 _ h (ix2 a b)).1, (emb2 512 0 _ h (ix2 a b)).2]
  show _ = ext _ _ _ (512 + a.val) (0 + b.val)
  unfold ext
  rw [if_neg (by omega : ¬(512 + a.val < 512)), eq_rd (x3 : S32x1024.Idx → EReal) (ix2 a b) (512 + a.val - 512) (0 + b.val) (by show a.val = _; omega) (by show b.val = _; omega)]

/-- The block itself, in the first scratch buffer. -/
theorem piece_lo (i : grid0.Coords) (x2 : Vec Ideal S512x1024 .f32) (x3 : Vec Ideal S32x1024 .f32) (h) (z : S512x1024.Idx) :
    @Eq EReal (k0_pay4 x2 z) (extA (i 0).val x2 x3 ((Rect.unit (s := S544x1024) ![0, 0] S512x1024.size h).emb z)) := by
  obtain ⟨a, b, rfl⟩ : ∃ (a : Fin 512) (b : Fin 1024), z = ix2 a b := ⟨z 0, z 1, eq_ix2 z⟩
  unfold extA k0_pay4
  rw [(emb2 0 0 _ h (ix2 a b)).1, (emb2 0 0 _ h (ix2 a b)).2, shapeCast_self]
  show _ = ext _ _ _ (0 + a.val) (0 + b.val)
  unfold ext
  rw [if_pos (by have := a.isLt; omega)]
  exact eq_rd (x2 : S512x1024.Idx → EReal) (ix2 a b) (0 + a.val) (0 + b.val) (by show a.val = _; omega) (by show b.val = _; omega)

/-- The first scratch buffer is the block with what follows it. -/
theorem rows_canon (i : grid0.Coords) (x2 : Vec Ideal S512x1024 .f32) (x3 : Vec Ideal S32x1024 .f32) (h₁ h₂) (y : S544x1024.Idx) :
    @Eq EReal (View.canon (Val := Elt Ideal) (s := S544x1024) (e := .f32) [⟨Rect.unit (s := S544x1024) ![512, 0] S32x1024.size h₁, k0_pay5 i x3⟩, ⟨Rect.unit (s := S544x1024) ![0, 0] S512x1024.size h₂, k0_pay4 x2⟩] y)
      (extA (i 0).val x2 x3 y) := by
  refine View.canon_apply_of_pieces (Val := Elt Ideal) (e := .f32) (extA (i 0).val x2 x3) _ ?_ y ?_
  · simp only [List.forall_mem_cons, List.not_mem_nil, false_imp_iff, implies_true, and_true]
    exact ⟨fun z => piece_hi i x2 x3 h₁ z, fun z => piece_lo i x2 x3 h₂ z⟩
  · have hr : (y 0).val < 544 := (y 0).isLt
    have hq : (y 1).val < 1024 := (y 1).isLt
    by_cases hlt : (y 0).val < 512
    · exact ⟨_, List.mem_cons_of_mem _ (List.mem_cons_self ..), (mem2 0 0 512 1024 h₂ y).mpr ⟨by omega, by omega⟩⟩
    · exact ⟨_, List.mem_cons_self .., (mem2 512 0 32 1024 h₁ y).mpr ⟨by omega, by omega⟩⟩

/-- The first scratch buffer, read at rows from `o` on, is the block with what follows it. -/
theorem rows_read (v : View sig .tc .vmem S544x1024 .f32) (i : grid0.Coords) (x2 : Vec Ideal S512x1024 .f32) (x3 : Vec Ideal S32x1024 .f32)
    (o R : ℕ) (h₁ h₂ h) (r : Fin R) (q : Fin 1024) :
    @Eq EReal (v.readCov (Val := Elt Ideal) [⟨Rect.unit (s := S544x1024) ![512, 0] S32x1024.size h₁, k0_pay5 i x3⟩, ⟨Rect.unit (s := S544x1024) ![0, 0] S512x1024.size h₂, k0_pay4 x2⟩]
        (Rect.unit (s := S544x1024) ![o, 0] (⟨2, ![R, 1024]⟩ : Shape).size h).toLoadRect (ix2 r q))
      (ext (i 0).val x2 x3 (o + r.val) q.val) := by
  rw [View.readCov_eq_canon']
  have H : (((Rect.unit (s := S544x1024) ![o, 0] (⟨2, ![R, 1024]⟩ : Shape).size h).toLoadRect.idx (ix2 r q)) 0).val = o + r.val
    ∧ (((Rect.unit (s := S544x1024) ![o, 0] (⟨2, ![R, 1024]⟩ : Shape).size h).toLoadRect.idx (ix2 r q)) 1).val = 0 + q.val := emb2 o 0 _ h (ix2 r q)
  show @Eq EReal (View.canon (Val := Elt Ideal) (s := S544x1024) (e := .f32) _ ((Rect.unit (s := S544x1024) ![o, 0] (⟨2, ![R, 1024]⟩ : Shape).size h).toLoadRect.idx (ix2 r q))) _
  generalize (Rect.unit (s := S544x1024) ![o, 0] (⟨2, ![R, 1024]⟩ : Shape).size h).toLoadRect.idx (ix2 r q) = y at H ⊢
  refine (rows_canon i x2 x3 h₁ h₂ y).trans ?_
  unfold extA
  rw [H.1, H.2, Nat.zero_add]

/-- The rows held eight ways, as a function of the second scratch buffer's index. -/
def planesA (E : ℕ → ℕ → EReal) : Vec Ideal S7x544x1024 .f32 := fun y => E ((y 0).val + 1 + (y 1).val) (y 2).val

/-- One plane of the second scratch buffer. -/
theorem piece_plane (E : ℕ → ℕ → EReal) (k : ℕ) (P : FVec Ideal S1x536x1024 .f32) (h)
    (e : ∀ (r : Fin 536) (q : Fin 1024), @Eq EReal (P (ix3 0 r q)) (E (k + 1 + r.val) q.val)) (z : S1x536x1024.Idx) :
    @Eq EReal (P z) (planesA E ((Rect.unit (s := S7x544x1024) ![k, 0, 0] S1x536x1024.size h).emb z)) := by
  obtain ⟨a, b, d, rfl⟩ : ∃ (a : Fin 1) (b : Fin 536) (d : Fin 1024), z = ix3 a b d := ⟨z 0, z 1, z 2, eq_ix3 z⟩
  obtain rfl : a = 0 := Subsingleton.elim _ _
  have H := emb3 k 0 0 _ h (ix3 0 b d)
  unfold planesA
  rw [e, H.1, H.2.1, H.2.2]
  exact congrArg₂ E (by show _ = k + 0 + 1 + (0 + b.val); omega) (by show _ = 0 + d.val; omega)

/-- The seven stores of the second scratch buffer. -/
def planesL (P₀ P₁ P₂ P₃ P₄ P₅ P₆ : Vec Ideal S1x536x1024 .f32)
    (h₀ : ∀ a : Fin 3, (![0, 0, 0] : Fin 3 → ℕ) a + S1x536x1024.size a ≤ S7x544x1024.size a)
    (h₁ : ∀ a : Fin 3, (![1, 0, 0] : Fin 3 → ℕ) a + S1x536x1024.size a ≤ S7x544x1024.size a)
    (h₂ : ∀ a : Fin 3, (![2, 0, 0] : Fin 3 → ℕ) a + S1x536x1024.size a ≤ S7x544x1024.size a)
    (h₃ : ∀ a : Fin 3, (![3, 0, 0] : Fin 3 → ℕ) a + S1x536x1024.size a ≤ S7x544x1024.size a)
    (h₄ : ∀ a : Fin 3, (![4, 0, 0] : Fin 3 → ℕ) a + S1x536x1024.size a ≤ S7x544x1024.size a)
    (h₅ : ∀ a : Fin 3, (![5, 0, 0] : Fin 3 → ℕ) a + S1x536x1024.size a ≤ S7x544x1024.size a)
    (h₆ : ∀ a : Fin 3, (![6, 0, 0] : Fin 3 → ℕ) a + S1x536x1024.size a ≤ S7x544x1024.size a) :
    List (View.Piece (Elt Ideal) S7x544x1024 .f32) :=
  [⟨Rect.unit (s := S7x544x1024) ![6, 0, 0] S1x536x1024.size h₆, P₆⟩, ⟨Rect.unit (s := S7x544x1024) ![5, 0, 0] S1x536x1024.size h₅, P₅⟩, ⟨Rect.unit (s := S7x544x1024) ![4, 0, 0] S1x536x1024.size h₄, P₄⟩, ⟨Rect.unit (s := S7x544x1024) ![3, 0, 0] S1x536x1024.size h₃, P₃⟩, ⟨Rect.unit (s := S7x544x1024) ![2, 0, 0] S1x536x1024.size h₂, P₂⟩, ⟨Rect.unit (s := S7x544x1024) ![1, 0, 0] S1x536x1024.size h₁, P₁⟩, ⟨Rect.unit (s := S7x544x1024) ![0, 0, 0] S1x536x1024.size h₀, P₀⟩]

/-- The second scratch buffer holds the rows eight ways. -/
theorem planes_canon (E : ℕ → ℕ → EReal) (P₀ P₁ P₂ P₃ P₄ P₅ P₆ : Vec Ideal S1x536x1024 .f32) (h₀ h₁ h₂ h₃ h₄ h₅ h₆)
    (e₀ : ∀ (r : Fin 536) (q : Fin 1024), @Eq EReal (P₀ (ix3 0 r q)) (E (0 + 1 + r.val) q.val))
    (e₁ : ∀ (r : Fin 536) (q : Fin 1024), @Eq EReal (P₁ (ix3 0 r q)) (E (1 + 1 + r.val) q.val))
    (e₂ : ∀ (r : Fin 536) (q : Fin 1024), @Eq EReal (P₂ (ix3 0 r q)) (E (2 + 1 + r.val) q.val))
    (e₃ : ∀ (r : Fin 536) (q : Fin 1024), @Eq EReal (P₃ (ix3 0 r q)) (E (3 + 1 + r.val) q.val))
    (e₄ : ∀ (r : Fin 536) (q : Fin 1024), @Eq EReal (P₄ (ix3 0 r q)) (E (4 + 1 + r.val) q.val))
    (e₅ : ∀ (r : Fin 536) (q : Fin 1024), @Eq EReal (P₅ (ix3 0 r q)) (E (5 + 1 + r.val) q.val))
    (e₆ : ∀ (r : Fin 536) (q : Fin 1024), @Eq EReal (P₆ (ix3 0 r q)) (E (6 + 1 + r.val) q.val))
    (y : S7x544x1024.Idx) (hy : (y 1).val < 536) :
    @Eq EReal (View.canon (planesL P₀ P₁ P₂ P₃ P₄ P₅ P₆ h₀ h₁ h₂ h₃ h₄ h₅ h₆) y) (planesA E y) := by
  have hp : (y 0).val < 7 := (y 0).isLt
  have hq : (y 2).val < 1024 := (y 2).isLt
  refine View.canon_apply_of_pieces (Val := Elt Ideal) (e := .f32) (planesA E) _ ?_ y ?_
  · unfold planesL
    simp only [List.forall_mem_cons, List.not_mem_nil, false_imp_iff, implies_true, and_true]
    exact ⟨fun z => piece_plane E 6 P₆ _ e₆ z, fun z => piece_plane E 5 P₅ _ e₅ z, fun z => piece_plane E 4 P₄ _ e₄ z, fun z => piece_plane E 3 P₃ _ e₃ z,
      fun z => piece_plane E 2 P₂ _ e₂ z, fun z => piece_plane E 1 P₁ _ e₁ z, fun z => piece_plane E 0 P₀ _ e₀ z⟩
  · have mem : ∀ (k : ℕ) (hk : ∀ a : Fin 3, (![k, 0, 0] : Fin 3 → ℕ) a + S1x536x1024.size a ≤ S7x544x1024.size a) (_ : (y 0).val = k),
        y ∈ (Rect.unit (s := S7x544x1024) ![k, 0, 0] S1x536x1024.size hk).set := fun k hk e =>
      (mem3 k 0 0 1 536 1024 hk y).mpr ⟨by omega, by omega, by omega⟩
    have hp' : (y 0).val = 6 ∨ (y 0).val = 5 ∨ (y 0).val = 4 ∨ (y 0).val = 3 ∨ (y 0).val = 2 ∨ (y 0).val = 1 ∨ (y 0).val = 0 := by omega
    unfold planesL
    rcases hp' with e | e | e | e | e | e | e
    · exact ⟨_, List.mem_cons_self .., mem 6 h₆ e⟩
    · exact ⟨_, List.mem_cons_of_mem _ (List.mem_cons_self ..), mem 5 h₅ e⟩
    · exact ⟨_, List.mem_cons_of_mem _ (List.mem_cons_of_mem _ (List.mem_cons_self ..)), mem 4 h₄ e⟩
    · exact ⟨_, List.mem_cons_of_mem _ (List.mem_cons_of_mem _ (List.mem_cons_of_mem _ (List.mem_cons_self ..))), mem 3 h₃ e⟩
    · exact ⟨_, List.mem_cons_of_mem _ (List.mem_cons_of_mem _ (List.mem_cons_of_mem _ (List.mem_cons_of_mem _ (List.mem_cons_self ..)))), mem 2 h₂ e⟩
    · exact ⟨_, List.mem_cons_of_mem _ (List.mem_cons_of_mem _ (List.mem_cons_of_mem _ (List.mem_cons_of_mem _ (List.mem_cons_of_mem _ (List.mem_cons_self ..))))), mem 1 h₁ e⟩
    · exact ⟨_, List.mem_cons_of_mem _ (List.mem_cons_of_mem _ (List.mem_cons_of_mem _ (List.mem_cons_of_mem _ (List.mem_cons_of_mem _ (List.mem_cons_of_mem _ (List.mem_cons_self ..)))))), mem 0 h₀ e⟩

/-- Plane `p` of the second scratch buffer, read at rows from `o` on: the same rows `p + 1` further. -/
theorem planes_read (v : View sig .tc .vmem S7x544x1024 .f32) (E : ℕ → ℕ → EReal) (L : List (View.Piece (Elt Ideal) S7x544x1024 .f32))
    (hL : ∀ y : S7x544x1024.Idx, (y 1).val < 536 → @Eq EReal (View.canon L y) (planesA E y))
    (p o : ℕ) (h) (ho : o ≤ 24) (r : Fin 512) (q : Fin 1024) :
    @Eq EReal (v.readCov (Val := Elt Ideal) L (Rect.unit (s := S7x544x1024) ![p, o, 0] S1x512x1024.size h).toLoadRect (ix3 0 r q))
      (E (p + 1 + o + r.val) q.val) := by
  rw [View.readCov_eq_canon']
  have H : (((Rect.unit (s := S7x544x1024) ![p, o, 0] S1x512x1024.size h).toLoadRect.idx (ix3 0 r q)) 0).val = p + 0
    ∧ (((Rect.unit (s := S7x544x1024) ![p, o, 0] S1x512x1024.size h).toLoadRect.idx (ix3 0 r q)) 1).val = o + r.val
    ∧ (((Rect.unit (s := S7x544x1024) ![p, o, 0] S1x512x1024.size h).toLoadRect.idx (ix3 0 r q)) 2).val = 0 + q.val := emb3 p o 0 _ h (ix3 0 r q)
  show @Eq EReal (View.canon L ((Rect.unit (s := S7x544x1024) ![p, o, 0] S1x512x1024.size h).toLoadRect.idx (ix3 0 r q))) _
  generalize (Rect.unit (s := S7x544x1024) ![p, o, 0] S1x512x1024.size h).toLoadRect.idx (ix3 0 r q) = y at H ⊢
  obtain ⟨y0, y1, y2⟩ := H
  have hr := r.isLt
  refine (hL y (by omega)).trans ?_
  unfold planesA
  exact congrArg₂ E (by omega) (by omega)

/-- A row of the weights' block. -/
theorem ld_row (j : ℕ) (x : Vec Ideal S32x1024 .f32) (h) (q : Fin 1024) :
    @Eq EReal (View.ld x (Rect.unit (s := S32x1024) ![j, 0] S1x1024.size h) (ix2 0 q)) (rd x j q.val) := by
  refine eq_rd (x : S32x1024.Idx → EReal) ((Rect.unit (s := S32x1024) ![j, 0] S1x1024.size h).emb (ix2 0 q)) _ _ ?_ ?_
  · show j + 1 * 0 = _
    omega
  · show 0 + 1 * q.val = _
    omega

/-- Storing row `j` over a buffer whose rows below `j` are done and whose others are zeros. -/
theorem step_A (L : List (View.Piece (Elt Ideal) S32x1024 .f32)) (j : ℕ) (h) (P : Vec Ideal S1x1024 .f32) (acc : ℕ → ℕ → EReal)
    (hP : ∀ q : Fin 1024, @Eq EReal (P (ix2 0 q)) (acc j q.val))
    (hL : ∀ y : S32x1024.Idx, @Eq EReal (View.canon L y) (if (y 0).val < j then acc (y 0).val (y 1).val else 0)) (y : S32x1024.Idx) :
    @Eq EReal (View.canon (⟨Rect.unit (s := S32x1024) ![j, 0] S1x1024.size h, P⟩ :: L) y) (if (y 0).val < j + 1 then acc (y 0).val (y 1).val else 0) := by
  by_cases e : (y 0).val = j
  · obtain ⟨q, rfl⟩ : ∃ q : Fin 1024, y = (Rect.unit (s := S32x1024) ![j, 0] S1x1024.size h).emb (ix2 0 q) :=
      ⟨y 1, funext fun a => Fin.ext (match a with
        | ⟨0, _⟩ => by show (y 0).val = j + 1 * 0; omega
        | ⟨1, _⟩ => by show (y 1).val = 0 + 1 * (y 1).val; omega)⟩
    rw [View.canon_cons_emb]
    refine (hP q).trans ?_
    have e1 : (((Rect.unit (s := S32x1024) ![j, 0] S1x1024.size h).emb (ix2 0 q)) 1).val = q.val := by
      show 0 + 1 * q.val = _
      omega
    rw [e, e1, if_pos (by omega)]
  · have hn : y ∉ (Rect.unit (s := S32x1024) ![j, 0] S1x1024.size h).set := fun hm => by
      have := ((mem2 j 0 1 1024 h y).mp hm).1
      omega
    refine (View.canon_cons_of_not_mem (⟨Rect.unit (s := S32x1024) ![j, 0] S1x1024.size h, P⟩ : View.Piece (Elt Ideal) S32x1024 .f32) L hn).trans ((hL y).trans ?_)
    exact if_congr (by omega) rfl rfl

/-- A row not yet stored reads zero. -/
theorem row_A (v : View sig .tc .vmem S32x1024 .f32) (L : List (View.Piece (Elt Ideal) S32x1024 .f32)) (j : ℕ) (h) (acc : ℕ → ℕ → EReal)
    (hL : ∀ y : S32x1024.Idx, @Eq EReal (View.canon L y) (if (y 0).val < j then acc (y 0).val (y 1).val else 0)) (q : Fin 1024) :
    @Eq EReal (v.readCov (Val := Elt Ideal) L (Rect.unit (s := S32x1024) ![j, 0] S1x1024.size h).toLoadRect (ix2 0 q)) 0 := by
  rw [View.readCov_eq_canon']
  refine (hL _).trans (if_neg ?_)
  show ¬(j + 1 * 0 < j)
  omega

/-- Storing row `j` over a buffer whose rows below `j` are done and whose others are as they were. -/
theorem step_B (v : View sig .tc .vmem S32x1024 .f32) (f : v.ty.Contents (Elt Ideal)) (L : List (View.Piece (Elt Ideal) S32x1024 .f32)) (j : ℕ) (h) (P : Vec Ideal S1x1024 .f32)
    (base acc : ℕ → ℕ → EReal)
    (hP : ∀ q : Fin 1024, @Eq EReal (P (ix2 0 q)) (acc j q.val))
    (hL : ∀ y : S32x1024.Idx, @Eq EReal (v.read (Elt Ideal) (v.writes (Elt Ideal) f L) y) (if (y 0).val < j then acc (y 0).val (y 1).val else base (y 0).val (y 1).val)) (y : S32x1024.Idx) :
    @Eq EReal (v.read (Elt Ideal) (v.writes (Elt Ideal) f (⟨Rect.unit (s := S32x1024) ![j, 0] S1x1024.size h, P⟩ :: L)) y)
      (if (y 0).val < j + 1 then acc (y 0).val (y 1).val else base (y 0).val (y 1).val) := by
  by_cases e : (y 0).val = j
  · refine (View.read_writes_cons_rows_of_mem v f h P L y (ix2 0 (y 1)) rfl (by show (y 0).val = j + 0; omega) rfl).trans ?_
    refine (hP (y 1)).trans ?_
    rw [e, if_pos (by omega)]
  · refine (View.read_writes_cons_rows_of_not_mem v f h P L y rfl (W := 1) rfl (by omega)).trans ((hL y).trans ?_)
    exact if_congr (by omega) rfl rfl

/-- A row of an input's buffer, read from it. -/
theorem row_at (arg : Memref sig .tc .vmem S32x1024 .f32) (harg : arg.IsWhole) (x : Vec Ideal S32x1024 .f32) (j : ℕ) (h) (q : Fin 1024) :
    @Eq EReal (View.readAt (Elt Ideal) arg.view (Rect.unit (s := S32x1024) ![j, 0] S1x1024.size h).toLoadRect (harg.unread x) (ix2 0 q)) (rd x j q.val) := by
  simp only [View.readAt_eq_ld, harg.read_unread]
  exact ld_row j x h q

/-- The first `n` taps' part of the gradient of the gated rows. -/
def taps (x4 : S32x1024.Idx → EReal) (E : ℕ → ℕ → EReal) (n r q : ℕ) : EReal := ∑ j ∈ Finset.range n, rd x4 j q * E (30 - j + r) q

theorem taps_zero (x4 : S32x1024.Idx → EReal) (E : ℕ → ℕ → EReal) (r q : ℕ) : taps x4 E 0 r q = 0 := Finset.sum_range_zero _

/-- One more tap. -/
theorem taps_succ (x4 : S32x1024.Idx → EReal) (E : ℕ → ℕ → EReal) (n : ℕ) (r q : ℕ) : taps x4 E (n + 1) r q = taps x4 E n r q + rd x4 n q * E (30 - n + r) q :=
  Finset.sum_range_succ _ _

/-- A row gated by the sigmoid. -/
def gated (x0 x1 : S512x1024.Idx → EReal) (r q : ℕ) : EReal := rd x0 r q * Ideal.logistic (rd x1 r q)

theorem gated_at (x0 x1 : S512x1024.Idx → EReal) (r : Fin 512) (q : Fin 1024) : gated x0 x1 r.val q.val = x0 (ix2 r q) * Ideal.logistic (x1 (ix2 r q)) := by
  unfold gated
  rw [← eq_rd x0 (ix2 r q) r.val q.val rfl rfl, ← eq_rd x1 (ix2 r q) r.val q.val rfl rfl]

/-- What one block gives to the gradient of tap `j`. -/
def tapw (x0 x1 : S512x1024.Idx → EReal) (E : ℕ → ℕ → EReal) (j q : ℕ) : EReal := ∑ k : Fin 512, gated x0 x1 k.val q * E (30 - j + k.val) q

end Cert.ConvBwdIdeal.Prod

end
-- ==== Proof.ConvBwdPay.lean ====
/- The causal convolution's backward pass: each payload of the kernel at an element. -/
module

public import proofs.«01_k».proof.Proof.ConvBwdBase
public import Idealize.ShloMosaic.Lib.WritesUnit

@[expose] public section

set_option maxRecDepth 16384

noncomputable section

namespace Cert.ConvBwdIdeal.Prod

open Cert.ConvBwdIdeal Cert.ConvBwdIdeal.Gen Cert.ConvBwdIdeal.Value Cert.Common
open Idealize.ShloMosaic Idealize.ShloMosaic.TcCoe Idealize.SL.Sem

/-! What each of the values a point computes is, at one element. -/

theorem pay1_at (v2 : FVec Ideal S512x1024 .f32) (v481 : FVec Ideal S512x1024 .f32) (cst_325 : Ideal .f32) (r : Fin 512) (q : Fin 1024) :
    @Eq EReal (k0_pay1 v2 v481 cst_325 (ix2 r q)) (v481 (ix2 r q) * (cst_325 - v2 (ix2 r q))) := by
  unfold k0_pay1
  pointwise

theorem pay2_at (v1 : Vec Ideal S512x1024 .f32) (r : Fin 512) (q : Fin 1024) :
    @Eq EReal (k0_pay2 v1 (ix2 r q)) (Ideal.logistic (v1 (ix2 r q))) := by
  unfold k0_pay2
  pointwise

theorem pay3_at (v0 : Vec Ideal S512x1024 .f32) (v1 : Vec Ideal S512x1024 .f32) (r : Fin 512) (q : Fin 1024) :
    @Eq EReal (k0_pay3 v0 v1 (ix2 r q)) (v0 (ix2 r q) * Ideal.logistic (v1 (ix2 r q))) := by
  unfold k0_pay3 k0_pay2
  pointwise

theorem pay6_at (v15 : Vec Ideal S536x1024 .f32) (r : Fin 536) (q : Fin 1024) :
    @Eq EReal (k0_pay6 v15 (ix3 0 r q)) (v15 (ix2 r q)) := by
  unfold k0_pay6
  pointwise

theorem pay7_at (v19 : Vec Ideal S536x1024 .f32) (r : Fin 536) (q : Fin 1024) :
    @Eq EReal (k0_pay7 v19 (ix3 0 r q)) (v19 (ix2 r q)) := by
  unfold k0_pay7
  pointwise

theorem pay8_at (v23 : Vec Ideal S536x1024 .f32) (r : Fin 536) (q : Fin 1024) :
    @Eq EReal (k0_pay8 v23 (ix3 0 r q)) (v23 (ix2 r q)) := by
  unfold k0_pay8
  pointwise

theorem pay9_at (v27 : Vec Ideal S536x1024 .f32) (r : Fin 536) (q : Fin 1024) :
    @Eq EReal (k0_pay9 v27 (ix3 0 r q)) (v27 (ix2 r q)) := by
  unfold k0_pay9
  pointwise

theorem pay10_at (v31 : Vec Ideal S536x1024 .f32) (r : Fin 536) (q : Fin 1024) :
    @Eq EReal (k0_pay10 v31 (ix3 0 r q)) (v31 (ix2 r q)) := by
  unfold k0_pay10
  pointwise

theorem pay11_at (v35 : Vec Ideal S536x1024 .f32) (r : Fin 536) (q : Fin 1024) :
    @Eq EReal (k0_pay11 v35 (ix3 0 r q)) (v35 (ix2 r q)) := by
  unfold k0_pay11
  pointwise

theorem pay12_at (v39 : Vec Ideal S536x1024 .f32) (r : Fin 536) (q : Fin 1024) :
    @Eq EReal (k0_pay12 v39 (ix3 0 r q)) (v39 (ix2 r q)) := by
  unfold k0_pay12
  pointwise

theorem pay13_at  (r : Fin 32) (q : Fin 1024) :
    @Eq EReal (k0_pay13 (F := Ideal)  (ix2 r q)) ((0 : EReal)) := by
  unfold k0_pay13
  pointwise

theorem pay14_at  (r : Fin 512) (q : Fin 1024) :
    @Eq EReal (k0_pay14 (F := Ideal)  (ix2 r q)) ((0 : EReal)) := by
  unfold k0_pay14
  pointwise

theorem pay15_at (v47 : Vec Ideal S1x512x1024 .f32) (r : Fin 512) (q : Fin 1024) :
    @Eq EReal (k0_pay15 v47 (ix2 r q)) (v47 (ix3 0 r q)) := by
  unfold k0_pay15
  pointwise

theorem pay16_at (v49 : Vec Ideal S1x1024 .f32) (r : Fin 512) (q : Fin 1024) :
    @Eq EReal (k0_pay16 v49 (ix2 r q)) (v49 (ix2 0 q)) := by
  unfold k0_pay16
  pointwise

theorem pay17_at (v3 : FVec Ideal S512x1024 .f32) (v48 : FVec Ideal S512x1024 .f32) (v54 : Vec Ideal S1x1024 .f32) (q : Fin 1024) :
    @Eq EReal (k0_pay17 v3 v48 v54 (ix2 0 q)) (v54 (ix2 0 q) + ∑ k : Fin 512, v3 (ix2 k q) * v48 (ix2 k q)) := by
  unfold k0_pay17
  pointwise

theorem pay18_at (v61 : Vec Ideal S1x512x1024 .f32) (r : Fin 512) (q : Fin 1024) :
    @Eq EReal (k0_pay18 v61 (ix2 r q)) (v61 (ix3 0 r q)) := by
  unfold k0_pay18
  pointwise

theorem pay19_at (v3 : FVec Ideal S512x1024 .f32) (v61 : Vec Ideal S1x512x1024 .f32) (v68 : Vec Ideal S1x1024 .f32) (q : Fin 1024) :
    @Eq EReal (k0_pay19 v3 v61 v68 (ix2 0 q)) (v68 (ix2 0 q) + ∑ k : Fin 512, v3 (ix2 k q) * v61 (ix3 0 k q)) := by
  unfold k0_pay19 k0_pay18
  pointwise

theorem pay20_at (v75 : Vec Ideal S1x512x1024 .f32) (r : Fin 512) (q : Fin 1024) :
    @Eq EReal (k0_pay20 v75 (ix2 r q)) (v75 (ix3 0 r q)) := by
  unfold k0_pay20
  pointwise

theorem pay21_at (v46 : FVec Ideal S512x1024 .f32) (v48 : FVec Ideal S512x1024 .f32) (v51 : FVec Ideal S512x1024 .f32) (v61 : Vec Ideal S1x512x1024 .f32) (v63 : Vec Ideal S1x1024 .f32) (v75 : Vec Ideal S1x512x1024 .f32) (v77 : Vec Ideal S1x1024 .f32) (r : Fin 512) (q : Fin 1024) :
    @Eq EReal (k0_pay21 v46 v48 v51 v61 v63 v75 v77 (ix2 r q)) (v46 (ix2 r q) + v51 (ix2 r q) * v48 (ix2 r q) + v63 (ix2 0 q) * v61 (ix3 0 r q) + v77 (ix2 0 q) * v75 (ix3 0 r q)) := by
  unfold k0_pay21 k0_pay18 k0_pay20
  pointwise

theorem pay22_at (v82 : Vec Ideal S1x1024 .f32) (q : Fin 1024) :
    @Eq EReal (k0_pay22 v82 (ix2 0 q)) (v82 (ix2 0 q)) := by
  unfold k0_pay22
  pointwise

theorem pay23_at (v3 : FVec Ideal S512x1024 .f32) (v75 : Vec Ideal S1x512x1024 .f32) (q : Fin 1024) :
    @Eq EReal (k0_pay23 v3 v75 (ix2 0 q)) (∑ k : Fin 512, v3 (ix2 k q) * v75 (ix3 0 k q)) := by
  unfold k0_pay23 k0_pay20
  pointwise

theorem pay24_at (v83 : FVec Ideal S1x1024 .f32) (v86 : FVec Ideal S1x1024 .f32) (q : Fin 1024) :
    @Eq EReal (k0_pay24 v83 v86 (ix2 0 q)) (v83 (ix2 0 q) + v86 (ix2 0 q)) := by
  unfold k0_pay24
  pointwise

theorem pay25_at (v89 : Vec Ideal S1x512x1024 .f32) (r : Fin 512) (q : Fin 1024) :
    @Eq EReal (k0_pay25 v89 (ix2 r q)) (v89 (ix3 0 r q)) := by
  unfold k0_pay25
  pointwise

theorem pay26_at (v3 : FVec Ideal S512x1024 .f32) (v89 : Vec Ideal S1x512x1024 .f32) (v96 : Vec Ideal S1x1024 .f32) (q : Fin 1024) :
    @Eq EReal (k0_pay26 v3 v89 v96 (ix2 0 q)) (v96 (ix2 0 q) + ∑ k : Fin 512, v3 (ix2 k q) * v89 (ix3 0 k q)) := by
  unfold k0_pay26 k0_pay25
  pointwise

theorem pay27_at (v103 : Vec Ideal S1x512x1024 .f32) (r : Fin 512) (q : Fin 1024) :
    @Eq EReal (k0_pay27 v103 (ix2 r q)) (v103 (ix3 0 r q)) := by
  unfold k0_pay27
  pointwise

theorem pay28_at (v81 : FVec Ideal S512x1024 .f32) (v89 : Vec Ideal S1x512x1024 .f32) (v91 : Vec Ideal S1x1024 .f32) (v103 : Vec Ideal S1x512x1024 .f32) (v105 : Vec Ideal S1x1024 .f32) (r : Fin 512) (q : Fin 1024) :
    @Eq EReal (k0_pay28 v81 v89 v91 v103 v105 (ix2 r q)) (v81 (ix2 r q) + v91 (ix2 0 q) * v89 (ix3 0 r q) + v105 (ix2 0 q) * v103 (ix3 0 r q)) := by
  unfold k0_pay28 k0_pay25 k0_pay27
  pointwise

theorem pay29_at (v3 : FVec Ideal S512x1024 .f32) (v103 : Vec Ideal S1x512x1024 .f32) (v110 : Vec Ideal S1x1024 .f32) (q : Fin 1024) :
    @Eq EReal (k0_pay29 v3 v103 v110 (ix2 0 q)) (v110 (ix2 0 q) + ∑ k : Fin 512, v3 (ix2 k q) * v103 (ix3 0 k q)) := by
  unfold k0_pay29 k0_pay27
  pointwise

theorem pay30_at (v117 : Vec Ideal S1x512x1024 .f32) (r : Fin 512) (q : Fin 1024) :
    @Eq EReal (k0_pay30 v117 (ix2 r q)) (v117 (ix3 0 r q)) := by
  unfold k0_pay30
  pointwise

theorem pay31_at (v3 : FVec Ideal S512x1024 .f32) (v118 : FVec Ideal S512x1024 .f32) (v124 : Vec Ideal S1x1024 .f32) (q : Fin 1024) :
    @Eq EReal (k0_pay31 v3 v118 v124 (ix2 0 q)) (v124 (ix2 0 q) + ∑ k : Fin 512, v3 (ix2 k q) * v118 (ix2 k q)) := by
  unfold k0_pay31
  pointwise

theorem pay32_at (v3 : FVec Ideal S512x1024 .f32) (v131 : Vec Ideal S512x1024 .f32) (v137 : Vec Ideal S1x1024 .f32) (q : Fin 1024) :
    @Eq EReal (k0_pay32 v3 v131 v137 (ix2 0 q)) (v137 (ix2 0 q) + ∑ k : Fin 512, v3 (ix2 k q) * v131 (ix2 k q)) := by
  unfold k0_pay32
  pointwise

theorem pay33_at (v144 : Vec Ideal S1x512x1024 .f32) (r : Fin 512) (q : Fin 1024) :
    @Eq EReal (k0_pay33 v144 (ix2 r q)) (v144 (ix3 0 r q)) := by
  unfold k0_pay33
  pointwise

theorem pay34_at (v109 : FVec Ideal S512x1024 .f32) (v118 : FVec Ideal S512x1024 .f32) (v119 : Vec Ideal S1x1024 .f32) (v131 : Vec Ideal S512x1024 .f32) (v132 : Vec Ideal S1x1024 .f32) (v144 : Vec Ideal S1x512x1024 .f32) (v146 : Vec Ideal S1x1024 .f32) (r : Fin 512) (q : Fin 1024) :
    @Eq EReal (k0_pay34 v109 v118 v119 v131 v132 v144 v146 (ix2 r q)) (v109 (ix2 r q) + v119 (ix2 0 q) * v118 (ix2 r q) + v132 (ix2 0 q) * v131 (ix2 r q) + v146 (ix2 0 q) * v144 (ix3 0 r q)) := by
  unfold k0_pay34 k0_pay33
  pointwise

theorem pay35_at (v151 : Vec Ideal S1x1024 .f32) (q : Fin 1024) :
    @Eq EReal (k0_pay35 v151 (ix2 0 q)) (v151 (ix2 0 q)) := by
  unfold k0_pay35
  pointwise

theorem pay36_at (v3 : FVec Ideal S512x1024 .f32) (v144 : Vec Ideal S1x512x1024 .f32) (r : Fin 512) (q : Fin 1024) :
    @Eq EReal (k0_pay36 v3 v144 (ix2 r q)) (v3 (ix2 r q) * v144 (ix3 0 r q)) := by
  unfold k0_pay36 k0_pay33
  pointwise

theorem pay37_at (v152 : FVec Ideal S1x1024 .f32) (v153 : FVec Ideal S512x1024 .f32) (q : Fin 1024) :
    @Eq EReal (k0_pay37 v152 v153 (ix2 0 q)) (v152 (ix2 0 q) + ∑ k : Fin 512, v153 (ix2 k q)) := by
  unfold k0_pay37
  pointwise

theorem pay38_at (v158 : Vec Ideal S1x512x1024 .f32) (r : Fin 512) (q : Fin 1024) :
    @Eq EReal (k0_pay38 v158 (ix2 r q)) (v158 (ix3 0 r q)) := by
  unfold k0_pay38
  pointwise

theorem pay39_at (v3 : FVec Ideal S512x1024 .f32) (v158 : Vec Ideal S1x512x1024 .f32) (v165 : Vec Ideal S1x1024 .f32) (q : Fin 1024) :
    @Eq EReal (k0_pay39 v3 v158 v165 (ix2 0 q)) (v165 (ix2 0 q) + ∑ k : Fin 512, v3 (ix2 k q) * v158 (ix3 0 k q)) := by
  unfold k0_pay39 k0_pay38
  pointwise

theorem pay40_at (v172 : Vec Ideal S1x512x1024 .f32) (r : Fin 512) (q : Fin 1024) :
    @Eq EReal (k0_pay40 v172 (ix2 r q)) (v172 (ix3 0 r q)) := by
  unfold k0_pay40
  pointwise

theorem pay41_at (v150 : FVec Ideal S512x1024 .f32) (v158 : Vec Ideal S1x512x1024 .f32) (v160 : Vec Ideal S1x1024 .f32) (v172 : Vec Ideal S1x512x1024 .f32) (v174 : Vec Ideal S1x1024 .f32) (r : Fin 512) (q : Fin 1024) :
    @Eq EReal (k0_pay41 v150 v158 v160 v172 v174 (ix2 r q)) (v150 (ix2 r q) + v160 (ix2 0 q) * v158 (ix3 0 r q) + v174 (ix2 0 q) * v172 (ix3 0 r q)) := by
  unfold k0_pay41 k0_pay38 k0_pay40
  pointwise

theorem pay42_at (v3 : FVec Ideal S512x1024 .f32) (v172 : Vec Ideal S1x512x1024 .f32) (v179 : Vec Ideal S1x1024 .f32) (q : Fin 1024) :
    @Eq EReal (k0_pay42 v3 v172 v179 (ix2 0 q)) (v179 (ix2 0 q) + ∑ k : Fin 512, v3 (ix2 k q) * v172 (ix3 0 k q)) := by
  unfold k0_pay42 k0_pay40
  pointwise

theorem pay43_at (v186 : Vec Ideal S1x512x1024 .f32) (r : Fin 512) (q : Fin 1024) :
    @Eq EReal (k0_pay43 v186 (ix2 r q)) (v186 (ix3 0 r q)) := by
  unfold k0_pay43
  pointwise

theorem pay44_at (v3 : FVec Ideal S512x1024 .f32) (v186 : Vec Ideal S1x512x1024 .f32) (v193 : Vec Ideal S1x1024 .f32) (q : Fin 1024) :
    @Eq EReal (k0_pay44 v3 v186 v193 (ix2 0 q)) (v193 (ix2 0 q) + ∑ k : Fin 512, v3 (ix2 k q) * v186 (ix3 0 k q)) := by
  unfold k0_pay44 k0_pay43
  pointwise

theorem pay45_at (v200 : Vec Ideal S1x512x1024 .f32) (r : Fin 512) (q : Fin 1024) :
    @Eq EReal (k0_pay45 v200 (ix2 r q)) (v200 (ix3 0 r q)) := by
  unfold k0_pay45
  pointwise

theorem pay46_at (v3 : FVec Ideal S512x1024 .f32) (v200 : Vec Ideal S1x512x1024 .f32) (v207 : Vec Ideal S1x1024 .f32) (q : Fin 1024) :
    @Eq EReal (k0_pay46 v3 v200 v207 (ix2 0 q)) (v207 (ix2 0 q) + ∑ k : Fin 512, v3 (ix2 k q) * v200 (ix3 0 k q)) := by
  unfold k0_pay46 k0_pay45
  pointwise

theorem pay47_at (v214 : Vec Ideal S1x512x1024 .f32) (r : Fin 512) (q : Fin 1024) :
    @Eq EReal (k0_pay47 v214 (ix2 r q)) (v214 (ix3 0 r q)) := by
  unfold k0_pay47
  pointwise

theorem pay48_at (v178 : FVec Ideal S512x1024 .f32) (v186 : Vec Ideal S1x512x1024 .f32) (v188 : Vec Ideal S1x1024 .f32) (v200 : Vec Ideal S1x512x1024 .f32) (v202 : Vec Ideal S1x1024 .f32) (v214 : Vec Ideal S1x512x1024 .f32) (v216 : Vec Ideal S1x1024 .f32) (r : Fin 512) (q : Fin 1024) :
    @Eq EReal (k0_pay48 v178 v186 v188 v200 v202 v214 v216 (ix2 r q)) (v178 (ix2 r q) + v188 (ix2 0 q) * v186 (ix3 0 r q) + v202 (ix2 0 q) * v200 (ix3 0 r q) + v216 (ix2 0 q) * v214 (ix3 0 r q)) := by
  unfold k0_pay48 k0_pay43 k0_pay45 k0_pay47
  pointwise

theorem pay49_at (v3 : FVec Ideal S512x1024 .f32) (v215 : FVec Ideal S512x1024 .f32) (v221 : Vec Ideal S1x1024 .f32) (q : Fin 1024) :
    @Eq EReal (k0_pay49 v3 v215 v221 (ix2 0 q)) (v221 (ix2 0 q) + ∑ k : Fin 512, v3 (ix2 k q) * v215 (ix2 k q)) := by
  unfold k0_pay49
  pointwise

theorem pay50_at (v228 : Vec Ideal S1x512x1024 .f32) (r : Fin 512) (q : Fin 1024) :
    @Eq EReal (k0_pay50 v228 (ix2 r q)) (v228 (ix3 0 r q)) := by
  unfold k0_pay50
  pointwise

theorem pay51_at (v3 : FVec Ideal S512x1024 .f32) (v228 : Vec Ideal S1x512x1024 .f32) (v235 : Vec Ideal S1x1024 .f32) (q : Fin 1024) :
    @Eq EReal (k0_pay51 v3 v228 v235 (ix2 0 q)) (v235 (ix2 0 q) + ∑ k : Fin 512, v3 (ix2 k q) * v228 (ix3 0 k q)) := by
  unfold k0_pay51 k0_pay50
  pointwise

theorem pay52_at (v220 : FVec Ideal S512x1024 .f32) (v228 : Vec Ideal S1x512x1024 .f32) (v230 : Vec Ideal S1x1024 .f32) (v242 : Vec Ideal S512x1024 .f32) (v243 : Vec Ideal S1x1024 .f32) (r : Fin 512) (q : Fin 1024) :
    @Eq EReal (k0_pay52 v220 v228 v230 v242 v243 (ix2 r q)) (v220 (ix2 r q) + v230 (ix2 0 q) * v228 (ix3 0 r q) + v243 (ix2 0 q) * v242 (ix2 r q)) := by
  unfold k0_pay52 k0_pay50
  pointwise

theorem pay53_at (v3 : FVec Ideal S512x1024 .f32) (v242 : Vec Ideal S512x1024 .f32) (v248 : Vec Ideal S1x1024 .f32) (q : Fin 1024) :
    @Eq EReal (k0_pay53 v3 v242 v248 (ix2 0 q)) (v248 (ix2 0 q) + ∑ k : Fin 512, v3 (ix2 k q) * v242 (ix2 k q)) := by
  unfold k0_pay53
  pointwise

theorem pay54_at (v255 : Vec Ideal S1x512x1024 .f32) (r : Fin 512) (q : Fin 1024) :
    @Eq EReal (k0_pay54 v255 (ix2 r q)) (v255 (ix3 0 r q)) := by
  unfold k0_pay54
  pointwise

theorem pay55_at (v3 : FVec Ideal S512x1024 .f32) (v255 : Vec Ideal S1x512x1024 .f32) (v262 : Vec Ideal S1x1024 .f32) (q : Fin 1024) :
    @Eq EReal (k0_pay55 v3 v255 v262 (ix2 0 q)) (v262 (ix2 0 q) + ∑ k : Fin 512, v3 (ix2 k q) * v255 (ix3 0 k q)) := by
  unfold k0_pay55 k0_pay54
  pointwise

theorem pay56_at (v269 : Vec Ideal S1x512x1024 .f32) (r : Fin 512) (q : Fin 1024) :
    @Eq EReal (k0_pay56 v269 (ix2 r q)) (v269 (ix3 0 r q)) := by
  unfold k0_pay56
  pointwise

theorem pay57_at (v247 : FVec Ideal S512x1024 .f32) (v255 : Vec Ideal S1x512x1024 .f32) (v257 : Vec Ideal S1x1024 .f32) (v269 : Vec Ideal S1x512x1024 .f32) (v271 : Vec Ideal S1x1024 .f32) (r : Fin 512) (q : Fin 1024) :
    @Eq EReal (k0_pay57 v247 v255 v257 v269 v271 (ix2 r q)) (v247 (ix2 r q) + v257 (ix2 0 q) * v255 (ix3 0 r q) + v271 (ix2 0 q) * v269 (ix3 0 r q)) := by
  unfold k0_pay57 k0_pay54 k0_pay56
  pointwise

theorem pay58_at (v3 : FVec Ideal S512x1024 .f32) (v269 : Vec Ideal S1x512x1024 .f32) (v276 : Vec Ideal S1x1024 .f32) (q : Fin 1024) :
    @Eq EReal (k0_pay58 v3 v269 v276 (ix2 0 q)) (v276 (ix2 0 q) + ∑ k : Fin 512, v3 (ix2 k q) * v269 (ix3 0 k q)) := by
  unfold k0_pay58 k0_pay56
  pointwise

theorem pay59_at (v283 : Vec Ideal S1x512x1024 .f32) (r : Fin 512) (q : Fin 1024) :
    @Eq EReal (k0_pay59 v283 (ix2 r q)) (v283 (ix3 0 r q)) := by
  unfold k0_pay59
  pointwise

theorem pay60_at (v285 : Vec Ideal S1x1024 .f32) (q : Fin 1024) :
    @Eq EReal (k0_pay60 v285 (ix2 0 q)) (v285 (ix2 0 q)) := by
  unfold k0_pay60
  pointwise

theorem pay61_at (v3 : FVec Ideal S512x1024 .f32) (v284 : FVec Ideal S512x1024 .f32) (v290 : Vec Ideal S1x1024 .f32) (q : Fin 1024) :
    @Eq EReal (k0_pay61 v3 v284 v290 (ix2 0 q)) (v290 (ix2 0 q) + ∑ k : Fin 512, v3 (ix2 k q) * v284 (ix2 k q)) := by
  unfold k0_pay61
  pointwise

theorem pay62_at (v297 : Vec Ideal S1x512x1024 .f32) (r : Fin 512) (q : Fin 1024) :
    @Eq EReal (k0_pay62 v297 (ix2 r q)) (v297 (ix3 0 r q)) := by
  unfold k0_pay62
  pointwise

theorem pay63_at (v3 : FVec Ideal S512x1024 .f32) (v297 : Vec Ideal S1x512x1024 .f32) (v304 : Vec Ideal S1x1024 .f32) (q : Fin 1024) :
    @Eq EReal (k0_pay63 v3 v297 v304 (ix2 0 q)) (v304 (ix2 0 q) + ∑ k : Fin 512, v3 (ix2 k q) * v297 (ix3 0 k q)) := by
  unfold k0_pay63 k0_pay62
  pointwise

theorem pay64_at (v311 : Vec Ideal S1x512x1024 .f32) (r : Fin 512) (q : Fin 1024) :
    @Eq EReal (k0_pay64 v311 (ix2 r q)) (v311 (ix3 0 r q)) := by
  unfold k0_pay64
  pointwise

theorem pay65_at (v275 : FVec Ideal S512x1024 .f32) (v284 : FVec Ideal S512x1024 .f32) (v286 : FVec Ideal S1x1024 .f32) (v297 : Vec Ideal S1x512x1024 .f32) (v299 : Vec Ideal S1x1024 .f32) (v311 : Vec Ideal S1x512x1024 .f32) (v313 : Vec Ideal S1x1024 .f32) (r : Fin 512) (q : Fin 1024) :
    @Eq EReal (k0_pay65 v275 v284 v286 v297 v299 v311 v313 (ix2 r q)) (v275 (ix2 r q) + v286 (ix2 0 q) * v284 (ix2 r q) + v299 (ix2 0 q) * v297 (ix3 0 r q) + v313 (ix2 0 q) * v311 (ix3 0 r q)) := by
  unfold k0_pay65 k0_pay62 k0_pay64
  pointwise

theorem pay66_at (v318 : Vec Ideal S1x1024 .f32) (q : Fin 1024) :
    @Eq EReal (k0_pay66 v318 (ix2 0 q)) (v318 (ix2 0 q)) := by
  unfold k0_pay66
  pointwise

theorem pay67_at (v3 : FVec Ideal S512x1024 .f32) (v311 : Vec Ideal S1x512x1024 .f32) (q : Fin 1024) :
    @Eq EReal (k0_pay67 v3 v311 (ix1 q)) (∑ k : Fin 512, v3 (ix2 k q) * v311 (ix3 0 k q)) := by
  unfold k0_pay67 k0_pay64
  pointwise

theorem pay68_at (v319 : FVec Ideal S1x1024 .f32) (v321 : FVec Ideal S1024 .f32) (q : Fin 1024) :
    @Eq EReal (k0_pay68 v319 v321 (ix2 0 q)) (v319 (ix2 0 q) + v321 (ix1 q)) := by
  unfold k0_pay68
  pointwise

theorem pay69_at (v325 : Vec Ideal S1x512x1024 .f32) (r : Fin 512) (q : Fin 1024) :
    @Eq EReal (k0_pay69 v325 (ix2 r q)) (v325 (ix3 0 r q)) := by
  unfold k0_pay69
  pointwise

theorem pay70_at (v3 : FVec Ideal S512x1024 .f32) (v325 : Vec Ideal S1x512x1024 .f32) (v332 : Vec Ideal S1x1024 .f32) (q : Fin 1024) :
    @Eq EReal (k0_pay70 v3 v325 v332 (ix2 0 q)) (v332 (ix2 0 q) + ∑ k : Fin 512, v3 (ix2 k q) * v325 (ix3 0 k q)) := by
  unfold k0_pay70 k0_pay69
  pointwise

theorem pay71_at (v339 : Vec Ideal S1x512x1024 .f32) (r : Fin 512) (q : Fin 1024) :
    @Eq EReal (k0_pay71 v339 (ix2 r q)) (v339 (ix3 0 r q)) := by
  unfold k0_pay71
  pointwise

theorem pay72_at (v317 : FVec Ideal S512x1024 .f32) (v325 : Vec Ideal S1x512x1024 .f32) (v327 : Vec Ideal S1x1024 .f32) (v339 : Vec Ideal S1x512x1024 .f32) (v341 : Vec Ideal S1x1024 .f32) (r : Fin 512) (q : Fin 1024) :
    @Eq EReal (k0_pay72 v317 v325 v327 v339 v341 (ix2 r q)) (v317 (ix2 r q) + v327 (ix2 0 q) * v325 (ix3 0 r q) + v341 (ix2 0 q) * v339 (ix3 0 r q)) := by
  unfold k0_pay72 k0_pay69 k0_pay71
  pointwise

theorem pay73_at (v3 : FVec Ideal S512x1024 .f32) (v339 : Vec Ideal S1x512x1024 .f32) (v346 : Vec Ideal S1x1024 .f32) (q : Fin 1024) :
    @Eq EReal (k0_pay73 v3 v339 v346 (ix2 0 q)) (v346 (ix2 0 q) + ∑ k : Fin 512, v3 (ix2 k q) * v339 (ix3 0 k q)) := by
  unfold k0_pay73 k0_pay71
  pointwise

theorem pay74_at (v3 : FVec Ideal S512x1024 .f32) (v353 : Vec Ideal S512x1024 .f32) (v359 : Vec Ideal S1x1024 .f32) (q : Fin 1024) :
    @Eq EReal (k0_pay74 v3 v353 v359 (ix2 0 q)) (v359 (ix2 0 q) + ∑ k : Fin 512, v3 (ix2 k q) * v353 (ix2 k q)) := by
  unfold k0_pay74
  pointwise

theorem pay75_at (v366 : Vec Ideal S1x512x1024 .f32) (r : Fin 512) (q : Fin 1024) :
    @Eq EReal (k0_pay75 v366 (ix2 r q)) (v366 (ix3 0 r q)) := by
  unfold k0_pay75
  pointwise

theorem pay76_at (v3 : FVec Ideal S512x1024 .f32) (v366 : Vec Ideal S1x512x1024 .f32) (v373 : Vec Ideal S1x1024 .f32) (q : Fin 1024) :
    @Eq EReal (k0_pay76 v3 v366 v373 (ix2 0 q)) (v373 (ix2 0 q) + ∑ k : Fin 512, v3 (ix2 k q) * v366 (ix3 0 k q)) := by
  unfold k0_pay76 k0_pay75
  pointwise

theorem pay77_at (v380 : Vec Ideal S1x512x1024 .f32) (r : Fin 512) (q : Fin 1024) :
    @Eq EReal (k0_pay77 v380 (ix2 r q)) (v380 (ix3 0 r q)) := by
  unfold k0_pay77
  pointwise

theorem pay78_at (v345 : FVec Ideal S512x1024 .f32) (v353 : Vec Ideal S512x1024 .f32) (v354 : Vec Ideal S1x1024 .f32) (v366 : Vec Ideal S1x512x1024 .f32) (v368 : Vec Ideal S1x1024 .f32) (v380 : Vec Ideal S1x512x1024 .f32) (v382 : Vec Ideal S1x1024 .f32) (r : Fin 512) (q : Fin 1024) :
    @Eq EReal (k0_pay78 v345 v353 v354 v366 v368 v380 v382 (ix2 r q)) (v345 (ix2 r q) + v354 (ix2 0 q) * v353 (ix2 r q) + v368 (ix2 0 q) * v366 (ix3 0 r q) + v382 (ix2 0 q) * v380 (ix3 0 r q)) := by
  unfold k0_pay78 k0_pay75 k0_pay77
  pointwise

theorem pay79_at (v387 : Vec Ideal S1x1024 .f32) (q : Fin 1024) :
    @Eq EReal (k0_pay79 v387 (ix2 0 q)) (v387 (ix2 0 q)) := by
  unfold k0_pay79
  pointwise

theorem pay80_at (v3 : FVec Ideal S512x1024 .f32) (v381 : FVec Ideal S512x1024 .f32) (v388 : FVec Ideal S1x1024 .f32) (q : Fin 1024) :
    @Eq EReal (k0_pay80 v3 v381 v388 (ix2 0 q)) (v388 (ix2 0 q) + ∑ k : Fin 512, v3 (ix2 k q) * v381 (ix2 k q)) := by
  unfold k0_pay80
  pointwise

theorem pay81_at (v394 : Vec Ideal S1x512x1024 .f32) (r : Fin 512) (q : Fin 1024) :
    @Eq EReal (k0_pay81 v394 (ix2 r q)) (v394 (ix3 0 r q)) := by
  unfold k0_pay81
  pointwise

theorem pay82_at (v3 : FVec Ideal S512x1024 .f32) (v394 : Vec Ideal S1x512x1024 .f32) (v401 : Vec Ideal S1x1024 .f32) (q : Fin 1024) :
    @Eq EReal (k0_pay82 v3 v394 v401 (ix2 0 q)) (v401 (ix2 0 q) + ∑ k : Fin 512, v3 (ix2 k q) * v394 (ix3 0 k q)) := by
  unfold k0_pay82 k0_pay81
  pointwise

theorem pay83_at (v408 : Vec Ideal S1x512x1024 .f32) (r : Fin 512) (q : Fin 1024) :
    @Eq EReal (k0_pay83 v408 (ix2 r q)) (v408 (ix3 0 r q)) := by
  unfold k0_pay83
  pointwise

theorem pay84_at (v386 : FVec Ideal S512x1024 .f32) (v394 : Vec Ideal S1x512x1024 .f32) (v396 : Vec Ideal S1x1024 .f32) (v408 : Vec Ideal S1x512x1024 .f32) (v410 : Vec Ideal S1x1024 .f32) (r : Fin 512) (q : Fin 1024) :
    @Eq EReal (k0_pay84 v386 v394 v396 v408 v410 (ix2 r q)) (v386 (ix2 r q) + v396 (ix2 0 q) * v394 (ix3 0 r q) + v410 (ix2 0 q) * v408 (ix3 0 r q)) := by
  unfold k0_pay84 k0_pay81 k0_pay83
  pointwise

theorem pay85_at (v3 : FVec Ideal S512x1024 .f32) (v408 : Vec Ideal S1x512x1024 .f32) (v415 : Vec Ideal S1x1024 .f32) (q : Fin 1024) :
    @Eq EReal (k0_pay85 v3 v408 v415 (ix2 0 q)) (v415 (ix2 0 q) + ∑ k : Fin 512, v3 (ix2 k q) * v408 (ix3 0 k q)) := by
  unfold k0_pay85 k0_pay83
  pointwise

theorem pay86_at (v422 : Vec Ideal S1x512x1024 .f32) (r : Fin 512) (q : Fin 1024) :
    @Eq EReal (k0_pay86 v422 (ix2 r q)) (v422 (ix3 0 r q)) := by
  unfold k0_pay86
  pointwise

theorem pay87_at (v3 : FVec Ideal S512x1024 .f32) (v422 : Vec Ideal S1x512x1024 .f32) (v429 : Vec Ideal S1x1024 .f32) (q : Fin 1024) :
    @Eq EReal (k0_pay87 v3 v422 v429 (ix2 0 q)) (v429 (ix2 0 q) + ∑ k : Fin 512, v3 (ix2 k q) * v422 (ix3 0 k q)) := by
  unfold k0_pay87 k0_pay86
  pointwise

theorem pay88_at (v436 : Vec Ideal S1x512x1024 .f32) (r : Fin 512) (q : Fin 1024) :
    @Eq EReal (k0_pay88 v436 (ix2 r q)) (v436 (ix3 0 r q)) := by
  unfold k0_pay88
  pointwise

theorem pay89_at (v414 : FVec Ideal S512x1024 .f32) (v422 : Vec Ideal S1x512x1024 .f32) (v424 : Vec Ideal S1x1024 .f32) (v436 : Vec Ideal S1x512x1024 .f32) (v438 : Vec Ideal S1x1024 .f32) (r : Fin 512) (q : Fin 1024) :
    @Eq EReal (k0_pay89 v414 v422 v424 v436 v438 (ix2 r q)) (v414 (ix2 r q) + v424 (ix2 0 q) * v422 (ix3 0 r q) + v438 (ix2 0 q) * v436 (ix3 0 r q)) := by
  unfold k0_pay89 k0_pay86 k0_pay88
  pointwise

theorem pay90_at (v3 : FVec Ideal S512x1024 .f32) (v436 : Vec Ideal S1x512x1024 .f32) (v443 : Vec Ideal S1x1024 .f32) (q : Fin 1024) :
    @Eq EReal (k0_pay90 v3 v436 v443 (ix2 0 q)) (v443 (ix2 0 q) + ∑ k : Fin 512, v3 (ix2 k q) * v436 (ix3 0 k q)) := by
  unfold k0_pay90 k0_pay88
  pointwise

theorem pay91_at (v450 : Vec Ideal S1x512x1024 .f32) (r : Fin 512) (q : Fin 1024) :
    @Eq EReal (k0_pay91 v450 (ix2 r q)) (v450 (ix3 0 r q)) := by
  unfold k0_pay91
  pointwise

theorem pay92_at (v450 : Vec Ideal S1x512x1024 .f32) (v452 : Vec Ideal S1x1024 .f32) (r : Fin 512) (q : Fin 1024) :
    @Eq EReal (k0_pay92 v450 v452 (ix2 r q)) (v452 (ix2 0 q) * v450 (ix3 0 r q)) := by
  unfold k0_pay92 k0_pay91
  pointwise

theorem pay93_at (v3 : FVec Ideal S512x1024 .f32) (v451 : FVec Ideal S512x1024 .f32) (v457 : Vec Ideal S1x1024 .f32) (q : Fin 1024) :
    @Eq EReal (k0_pay93 v3 v451 v457 (ix2 0 q)) (v457 (ix2 0 q) + ∑ k : Fin 512, v3 (ix2 k q) * v451 (ix2 k q)) := by
  unfold k0_pay93
  pointwise

theorem pay94_at (v442 : FVec Ideal S512x1024 .f32) (v455 : FVec Ideal S512x1024 .f32) (v464 : Vec Ideal S512x1024 .f32) (v465 : Vec Ideal S1x1024 .f32) (r : Fin 512) (q : Fin 1024) :
    @Eq EReal (k0_pay94 v442 v455 v464 v465 (ix2 r q)) (v442 (ix2 r q) + v455 (ix2 r q) + v465 (ix2 0 q) * v464 (ix2 r q)) := by
  unfold k0_pay94
  pointwise

theorem pay95_at (v3 : FVec Ideal S512x1024 .f32) (v464 : Vec Ideal S512x1024 .f32) (v470 : Vec Ideal S1x1024 .f32) (q : Fin 1024) :
    @Eq EReal (k0_pay95 v3 v464 v470 (ix2 0 q)) (v470 (ix2 0 q) + ∑ k : Fin 512, v3 (ix2 k q) * v464 (ix2 k q)) := by
  unfold k0_pay95
  pointwise

theorem pay96_at (v2 : FVec Ideal S512x1024 .f32) (v442 : FVec Ideal S512x1024 .f32) (v455 : FVec Ideal S512x1024 .f32) (v464 : Vec Ideal S512x1024 .f32) (v465 : Vec Ideal S1x1024 .f32) (r : Fin 512) (q : Fin 1024) :
    @Eq EReal (k0_pay96 v2 v442 v455 v464 v465 (ix2 r q)) ((v442 (ix2 r q) + v455 (ix2 r q) + v465 (ix2 0 q) * v464 (ix2 r q)) * v2 (ix2 r q)) := by
  unfold k0_pay96 k0_pay94
  pointwise

theorem pay97_at (v0 : Vec Ideal S512x1024 .f32) (v2 : FVec Ideal S512x1024 .f32) (v442 : FVec Ideal S512x1024 .f32) (v455 : FVec Ideal S512x1024 .f32) (v464 : Vec Ideal S512x1024 .f32) (v465 : Vec Ideal S1x1024 .f32) (r : Fin 512) (q : Fin 1024) :
    @Eq EReal (k0_pay97 v0 v2 v442 v455 v464 v465 (ix2 r q)) ((v442 (ix2 r q) + v455 (ix2 r q) + v465 (ix2 0 q) * v464 (ix2 r q)) * v0 (ix2 r q) * v2 (ix2 r q)) := by
  unfold k0_pay97 k0_pay94
  pointwise

end Cert.ConvBwdIdeal.Prod

end
-- ==== Proof.ConvBwdA.lean ====
/- The causal convolution's backward pass: what the first point's stores hold, window by window and tap by tap. -/
module

public import proofs.«01_k».proof.Proof.ConvBwdPay
public import Idealize.ShloMosaic.Lib.WritesUnit

@[expose] public section

set_option maxRecDepth 16384

noncomputable section

namespace Cert.ConvBwdIdeal.Prod

open Cert.ConvBwdIdeal Cert.ConvBwdIdeal.Gen Cert.ConvBwdIdeal.Value Cert.ConvBwdIdeal.Gen.kernelRun0_A.sl Cert.Common
open Idealize.ShloMosaic Idealize.ShloMosaic.TcCoe Idealize.SL.Sem

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S32x1024 .f32) (h4 : a4.IsWhole) (a5 : Memref sig .tc .vmem S32x1024 .f32) (h5 : a5.IsWhole) (a6 : Memref sig .tc .vmem S512x1024 .bf16) (h6 : a6.IsWhole) (a7 : Memref sig .tc .vmem S512x1024 .bf16) (h7 : a7.IsWhole) (a8 : Memref sig .tc .vmem S32x1024 .f32) (h8 : a8.IsWhole) (a9 : Memref sig .tc .vmem S544x1024 .f32) (h9 : a9.IsWhole) (a10 : Memref sig .tc .vmem S7x544x1024 .f32) (h10 : a10.IsWhole) (x0 : Vec Ideal S512x1024 .f32) (x1 : Vec Ideal S512x1024 .f32) (x2 : Vec Ideal S512x1024 .f32) (x3 : Vec Ideal S32x1024 .f32) (x4 : Vec Ideal S32x1024 .f32) (r : Fin 512) (q : Fin 1024)

/-- The two stores of the first scratch buffer. -/
theorem hs0_A :
    HS0_2 c i a3 h3 a4 h4 x2 x3 = [⟨Rect.unit ![512, 0] S32x1024.size inb_S544x1024_S32x1024_512_0, k0_pay5 i x3⟩,
      ⟨Rect.unit ![0, 0] S512x1024.size inb_S544x1024_S512x1024_0_0, k0_pay4 x2⟩] := by
  unfold HS0_2
  simp only [View.readAt_eq_ld, h3.read_unread, h4.read_unread, View.ld_unit_zero (S := S512x1024) off2, View.ld_unit_zero (S := S32x1024) off2]

theorem v27_A (r : Fin 536) (q : Fin 1024) :
    @Eq EReal (v27 c i a3 h3 a4 h4 a9 x2 x3 (ix2 r q)) (ext (i 0).val x2 x3 (3 + 1 + r.val) q.val) := by
  unfold v27
  rw [hs0_A]
  exact rows_read a9.view i x2 x3 4 536 _ _ _ r q

theorem v31_A (r : Fin 536) (q : Fin 1024) :
    @Eq EReal (v31 c i a3 h3 a4 h4 a9 x2 x3 (ix2 r q)) (ext (i 0).val x2 x3 (4 + 1 + r.val) q.val) := by
  unfold v31
  rw [hs0_A]
  exact rows_read a9.view i x2 x3 5 536 _ _ _ r q

theorem v35_A (r : Fin 536) (q : Fin 1024) :
    @Eq EReal (v35 c i a3 h3 a4 h4 a9 x2 x3 (ix2 r q)) (ext (i 0).val x2 x3 (5 + 1 + r.val) q.val) := by
  unfold v35
  rw [hs0_A]
  exact rows_read a9.view i x2 x3 6 536 _ _ _ r q

theorem v353_A :
    @Eq EReal (v353 c i a3 h3 a4 h4 a9 x2 x3 (ix2 r q)) (ext (i 0).val x2 x3 (30 - 22 + r.val) q.val) := by
  unfold v353
  rw [hs0_A]
  exact rows_read a9.view i x2 x3 8 512 _ _ _ r q

theorem v15_A (r : Fin 536) (q : Fin 1024) :
    @Eq EReal (v15 c i a3 h3 a4 h4 a9 x2 x3 (ix2 r q)) (ext (i 0).val x2 x3 (0 + 1 + r.val) q.val) := by
  unfold v15
  rw [hs0_A]
  exact rows_read a9.view i x2 x3 1 536 _ _ _ r q

theorem v242_A :
    @Eq EReal (v242 c i a3 h3 a4 h4 a9 x2 x3 (ix2 r q)) (ext (i 0).val x2 x3 (30 - 14 + r.val) q.val) := by
  unfold v242
  rw [hs0_A]
  exact rows_read a9.view i x2 x3 16 512 _ _ _ r q

theorem v464_A :
    @Eq EReal (v464 c i a3 h3 a4 h4 a9 x2 x3 (ix2 r q)) (ext (i 0).val x2 x3 (30 - 30 + r.val) q.val) := by
  unfold v464
  rw [hs0_A]
  exact rows_read a9.view i x2 x3 0 512 _ _ _ r q

theorem v131_A :
    @Eq EReal (v131 c i a3 h3 a4 h4 a9 x2 x3 (ix2 r q)) (ext (i 0).val x2 x3 (30 - 6 + r.val) q.val) := by
  unfold v131
  rw [hs0_A]
  exact rows_read a9.view i x2 x3 24 512 _ _ _ r q

theorem v39_A (r : Fin 536) (q : Fin 1024) :
    @Eq EReal (v39 c i a3 h3 a4 h4 a9 x2 x3 (ix2 r q)) (ext (i 0).val x2 x3 (6 + 1 + r.val) q.val) := by
  unfold v39
  rw [hs0_A]
  exact rows_read a9.view i x2 x3 7 536 _ _ _ r q

theorem v23_A (r : Fin 536) (q : Fin 1024) :
    @Eq EReal (v23 c i a3 h3 a4 h4 a9 x2 x3 (ix2 r q)) (ext (i 0).val x2 x3 (2 + 1 + r.val) q.val) := by
  unfold v23
  rw [hs0_A]
  exact rows_read a9.view i x2 x3 3 536 _ _ _ r q

theorem v19_A (r : Fin 536) (q : Fin 1024) :
    @Eq EReal (v19 c i a3 h3 a4 h4 a9 x2 x3 (ix2 r q)) (ext (i 0).val x2 x3 (1 + 1 + r.val) q.val) := by
  unfold v19
  rw [hs0_A]
  exact rows_read a9.view i x2 x3 2 536 _ _ _ r q

/-- The second scratch buffer holds the rows eight ways. -/
theorem hs1_A (y : S7x544x1024.Idx) (hy : (y 1).val < 536) :
    @Eq EReal (View.canon (HS1_7 c i a3 h3 a4 h4 a9 x2 x3) y) (planesA (ext (i 0).val x2 x3) y) := by
  unfold HS1_7
  exact planes_canon (ext (i 0).val x2 x3) _ _ _ _ _ _ _ _ _ _ _ _ _ _
    (fun r q => (pay6_at _ r q).trans (v15_A ..))
    (fun r q => (pay7_at _ r q).trans (v19_A ..))
    (fun r q => (pay8_at _ r q).trans (v23_A ..))
    (fun r q => (pay9_at _ r q).trans (v27_A ..))
    (fun r q => (pay10_at _ r q).trans (v31_A ..))
    (fun r q => (pay11_at _ r q).trans (v35_A ..))
    (fun r q => (pay12_at _ r q).trans (v39_A ..)) y hy

theorem v394_A :
    @Eq EReal (v394 c i a3 h3 a4 h4 a9 a10 x2 x3 (ix3 0 r q)) (ext (i 0).val x2 x3 (30 - 25 + r.val) q.val) := by
  unfold v394
  exact planes_read _ _ _ (hs1_A _ _ _ _ _ _ _ _ _) 4 0 _ (by omega) r q

theorem v339_A :
    @Eq EReal (v339 c i a3 h3 a4 h4 a9 a10 x2 x3 (ix3 0 r q)) (ext (i 0).val x2 x3 (30 - 21 + r.val) q.val) := by
  unfold v339
  exact planes_read _ _ _ (hs1_A _ _ _ _ _ _ _ _ _) 0 8 _ (by omega) r q

theorem v61_A :
    @Eq EReal (v61 c i a3 h3 a4 h4 a9 a10 x2 x3 (ix3 0 r q)) (ext (i 0).val x2 x3 (30 - 1 + r.val) q.val) := by
  unfold v61
  exact planes_read _ _ _ (hs1_A _ _ _ _ _ _ _ _ _) 4 24 _ (by omega) r q

theorem v228_A :
    @Eq EReal (v228 c i a3 h3 a4 h4 a9 a10 x2 x3 (ix3 0 r q)) (ext (i 0).val x2 x3 (30 - 13 + r.val) q.val) := by
  unfold v228
  exact planes_read _ _ _ (hs1_A _ _ _ _ _ _ _ _ _) 0 16 _ (by omega) r q

theorem v158_A :
    @Eq EReal (v158 c i a3 h3 a4 h4 a9 a10 x2 x3 (ix3 0 r q)) (ext (i 0).val x2 x3 (30 - 8 + r.val) q.val) := by
  unfold v158
  exact planes_read _ _ _ (hs1_A _ _ _ _ _ _ _ _ _) 5 16 _ (by omega) r q

theorem v297_A :
    @Eq EReal (v297 c i a3 h3 a4 h4 a9 a10 x2 x3 (ix3 0 r q)) (ext (i 0).val x2 x3 (30 - 18 + r.val) q.val) := by
  unfold v297
  exact planes_read _ _ _ (hs1_A _ _ _ _ _ _ _ _ _) 3 8 _ (by omega) r q

theorem v450_A :
    @Eq EReal (v450 c i a3 h3 a4 h4 a9 a10 x2 x3 (ix3 0 r q)) (ext (i 0).val x2 x3 (30 - 29 + r.val) q.val) := by
  unfold v450
  exact planes_read _ _ _ (hs1_A _ _ _ _ _ _ _ _ _) 0 0 _ (by omega) r q

theorem v75_A :
    @Eq EReal (v75 c i a3 h3 a4 h4 a9 a10 x2 x3 (ix3 0 r q)) (ext (i 0).val x2 x3 (30 - 2 + r.val) q.val) := by
  unfold v75
  exact planes_read _ _ _ (hs1_A _ _ _ _ _ _ _ _ _) 3 24 _ (by omega) r q

theorem v89_A :
    @Eq EReal (v89 c i a3 h3 a4 h4 a9 a10 x2 x3 (ix3 0 r q)) (ext (i 0).val x2 x3 (30 - 3 + r.val) q.val) := by
  unfold v89
  exact planes_read _ _ _ (hs1_A _ _ _ _ _ _ _ _ _) 2 24 _ (by omega) r q

theorem v144_A :
    @Eq EReal (v144 c i a3 h3 a4 h4 a9 a10 x2 x3 (ix3 0 r q)) (ext (i 0).val x2 x3 (30 - 7 + r.val) q.val) := by
  unfold v144
  exact planes_read _ _ _ (hs1_A _ _ _ _ _ _ _ _ _) 6 16 _ (by omega) r q

theorem v117_A :
    @Eq EReal (v117 c i a3 h3 a4 h4 a9 a10 x2 x3 (ix3 0 r q)) (ext (i 0).val x2 x3 (30 - 5 + r.val) q.val) := by
  unfold v117
  exact planes_read _ _ _ (hs1_A _ _ _ _ _ _ _ _ _) 0 24 _ (by omega) r q

theorem v380_A :
    @Eq EReal (v380 c i a3 h3 a4 h4 a9 a10 x2 x3 (ix3 0 r q)) (ext (i 0).val x2 x3 (30 - 24 + r.val) q.val) := by
  unfold v380
  exact planes_read _ _ _ (hs1_A _ _ _ _ _ _ _ _ _) 5 0 _ (by omega) r q

theorem v422_A :
    @Eq EReal (v422 c i a3 h3 a4 h4 a9 a10 x2 x3 (ix3 0 r q)) (ext (i 0).val x2 x3 (30 - 27 + r.val) q.val) := by
  unfold v422
  exact planes_read _ _ _ (hs1_A _ _ _ _ _ _ _ _ _) 2 0 _ (by omega) r q

theorem v47_A :
    @Eq EReal (v47 c i a3 h3 a4 h4 a9 a10 x2 x3 (ix3 0 r q)) (ext (i 0).val x2 x3 (30 - 0 + r.val) q.val) := by
  unfold v47
  exact planes_read _ _ _ (hs1_A _ _ _ _ _ _ _ _ _) 5 24 _ (by omega) r q

theorem v366_A :
    @Eq EReal (v366 c i a3 h3 a4 h4 a9 a10 x2 x3 (ix3 0 r q)) (ext (i 0).val x2 x3 (30 - 23 + r.val) q.val) := by
  unfold v366
  exact planes_read _ _ _ (hs1_A _ _ _ _ _ _ _ _ _) 6 0 _ (by omega) r q

theorem v269_A :
    @Eq EReal (v269 c i a3 h3 a4 h4 a9 a10 x2 x3 (ix3 0 r q)) (ext (i 0).val x2 x3 (30 - 16 + r.val) q.val) := by
  unfold v269
  exact planes_read _ _ _ (hs1_A _ _ _ _ _ _ _ _ _) 5 8 _ (by omega) r q

theorem v408_A :
    @Eq EReal (v408 c i a3 h3 a4 h4 a9 a10 x2 x3 (ix3 0 r q)) (ext (i 0).val x2 x3 (30 - 26 + r.val) q.val) := by
  unfold v408
  exact planes_read _ _ _ (hs1_A _ _ _ _ _ _ _ _ _) 3 0 _ (by omega) r q

theorem v436_A :
    @Eq EReal (v436 c i a3 h3 a4 h4 a9 a10 x2 x3 (ix3 0 r q)) (ext (i 0).val x2 x3 (30 - 28 + r.val) q.val) := by
  unfold v436
  exact planes_read _ _ _ (hs1_A _ _ _ _ _ _ _ _ _) 1 0 _ (by omega) r q

theorem v311_A :
    @Eq EReal (v311 c i a3 h3 a4 h4 a9 a10 x2 x3 (ix3 0 r q)) (ext (i 0).val x2 x3 (30 - 19 + r.val) q.val) := by
  unfold v311
  exact planes_read _ _ _ (hs1_A _ _ _ _ _ _ _ _ _) 2 8 _ (by omega) r q

theorem v172_A :
    @Eq EReal (v172 c i a3 h3 a4 h4 a9 a10 x2 x3 (ix3 0 r q)) (ext (i 0).val x2 x3 (30 - 9 + r.val) q.val) := by
  unfold v172
  exact planes_read _ _ _ (hs1_A _ _ _ _ _ _ _ _ _) 4 16 _ (by omega) r q

theorem v200_A :
    @Eq EReal (v200 c i a3 h3 a4 h4 a9 a10 x2 x3 (ix3 0 r q)) (ext (i 0).val x2 x3 (30 - 11 + r.val) q.val) := by
  unfold v200
  exact planes_read _ _ _ (hs1_A _ _ _ _ _ _ _ _ _) 2 16 _ (by omega) r q

theorem v103_A :
    @Eq EReal (v103 c i a3 h3 a4 h4 a9 a10 x2 x3 (ix3 0 r q)) (ext (i 0).val x2 x3 (30 - 4 + r.val) q.val) := by
  unfold v103
  exact planes_read _ _ _ (hs1_A _ _ _ _ _ _ _ _ _) 1 24 _ (by omega) r q

theorem v325_A :
    @Eq EReal (v325 c i a3 h3 a4 h4 a9 a10 x2 x3 (ix3 0 r q)) (ext (i 0).val x2 x3 (30 - 20 + r.val) q.val) := by
  unfold v325
  exact planes_read _ _ _ (hs1_A _ _ _ _ _ _ _ _ _) 1 8 _ (by omega) r q

theorem v186_A :
    @Eq EReal (v186 c i a3 h3 a4 h4 a9 a10 x2 x3 (ix3 0 r q)) (ext (i 0).val x2 x3 (30 - 10 + r.val) q.val) := by
  unfold v186
  exact planes_read _ _ _ (hs1_A _ _ _ _ _ _ _ _ _) 3 16 _ (by omega) r q

theorem v214_A :
    @Eq EReal (v214 c i a3 h3 a4 h4 a9 a10 x2 x3 (ix3 0 r q)) (ext (i 0).val x2 x3 (30 - 12 + r.val) q.val) := by
  unfold v214
  exact planes_read _ _ _ (hs1_A _ _ _ _ _ _ _ _ _) 1 16 _ (by omega) r q

theorem v255_A :
    @Eq EReal (v255 c i a3 h3 a4 h4 a9 a10 x2 x3 (ix3 0 r q)) (ext (i 0).val x2 x3 (30 - 15 + r.val) q.val) := by
  unfold v255
  exact planes_read _ _ _ (hs1_A _ _ _ _ _ _ _ _ _) 6 8 _ (by omega) r q

theorem v283_A :
    @Eq EReal (v283 c i a3 h3 a4 h4 a9 a10 x2 x3 (ix3 0 r q)) (ext (i 0).val x2 x3 (30 - 17 + r.val) q.val) := by
  unfold v283
  exact planes_read _ _ _ (hs1_A _ _ _ _ _ _ _ _ _) 4 8 _ (by omega) r q

/-- The window of tap 0, as rows. -/
theorem r_3_A :
    @Eq EReal (r_3 c i a3 h3 a4 h4 a9 a10 x2 x3 (ix2 r q)) (ext (i 0).val x2 x3 (30 - 0 + r.val) q.val) := by
  unfold r_3
  exact (pay15_at _ r q).trans (v47_A ..)

/-- The window of tap 24, as rows. -/
theorem r_25_A :
    @Eq EReal (r_25 c i a3 h3 a4 h4 a9 a10 x2 x3 (ix2 r q)) (ext (i 0).val x2 x3 (30 - 24 + r.val) q.val) := by
  unfold r_25
  exact (pay77_at _ r q).trans (v380_A ..)

/-- The window of tap 12, as rows. -/
theorem r_14_A :
    @Eq EReal (r_14 c i a3 h3 a4 h4 a9 a10 x2 x3 (ix2 r q)) (ext (i 0).val x2 x3 (30 - 12 + r.val) q.val) := by
  unfold r_14
  exact (pay47_at _ r q).trans (v214_A ..)

/-- The window of tap 5, as rows. -/
theorem r_9_A :
    @Eq EReal (r_9 c i a3 h3 a4 h4 a9 a10 x2 x3 (ix2 r q)) (ext (i 0).val x2 x3 (30 - 5 + r.val) q.val) := by
  unfold r_9
  exact (pay30_at _ r q).trans (v117_A ..)

/-- The window of tap 17, as rows. -/
theorem r_19_A :
    @Eq EReal (r_19 c i a3 h3 a4 h4 a9 a10 x2 x3 (ix2 r q)) (ext (i 0).val x2 x3 (30 - 17 + r.val) q.val) := by
  unfold r_19
  exact (pay59_at _ r q).trans (v283_A ..)

/-- The window of tap 29, as rows. -/
theorem r_30_A :
    @Eq EReal (r_30 c i a3 h3 a4 h4 a9 a10 x2 x3 (ix2 r q)) (ext (i 0).val x2 x3 (30 - 29 + r.val) q.val) := by
  unfold r_30
  exact (pay91_at _ r q).trans (v450_A ..)

/-- The weights of tap 0. -/
theorem r_4_A :
    @Eq EReal (r_4 c a5 h5 x4 (ix2 r q)) (rd x4 0 q.val) := by
  unfold r_4
  exact (pay16_at _ r q).trans (row_at a5 h5 x4 0 _ q)

/-- The weights of tap 17. -/
theorem r_20_A :
    @Eq EReal (r_20 c a5 h5 x4 (ix2 0 q)) (rd x4 17 q.val) := by
  unfold r_20
  exact (pay60_at _ q).trans (row_at a5 h5 x4 17 _ q)

/-- The first 3 taps' part of the gradient of the gated rows. -/
theorem r_5_A :
    @Eq EReal (r_5 c i a3 h3 a4 h4 a5 h5 a9 a10 x2 x3 x4 (ix2 r q)) (taps x4 (ext (i 0).val x2 x3) 3 r.val q.val) := by
  unfold r_5
  rw [taps_succ _ _ 2, taps_succ _ _ 1, taps_succ _ _ 0, taps_zero]
  refine (pay21_at _ _ _ _ _ _ _ r q).trans ?_
  rw [row_at a5 h5 x4 1, row_at a5 h5 x4 2]
  simp only [r_3_A, r_4_A, v61_A, v75_A, pay14_at]

/-- The first 5 taps' part of the gradient of the gated rows. -/
theorem r_8_A :
    @Eq EReal (r_8 c i a3 h3 a4 h4 a5 h5 a9 a10 x2 x3 x4 (ix2 r q)) (taps x4 (ext (i 0).val x2 x3) 5 r.val q.val) := by
  unfold r_8
  rw [taps_succ _ _ 4, taps_succ _ _ 3]
  refine (pay28_at _ _ _ _ _ r q).trans ?_
  rw [row_at a5 h5 x4 3, row_at a5 h5 x4 4]
  simp only [r_5_A, v89_A, v103_A]

/-- The first 8 taps' part of the gradient of the gated rows. -/
theorem r_10_A :
    @Eq EReal (r_10 c i a3 h3 a4 h4 a5 h5 a9 a10 x2 x3 x4 (ix2 r q)) (taps x4 (ext (i 0).val x2 x3) 8 r.val q.val) := by
  unfold r_10
  rw [taps_succ _ _ 7, taps_succ _ _ 6, taps_succ _ _ 5]
  refine (pay34_at _ _ _ _ _ _ _ r q).trans ?_
  rw [row_at a5 h5 x4 5, row_at a5 h5 x4 6, row_at a5 h5 x4 7]
  simp only [r_8_A, r_9_A, v131_A, v144_A]

/-- The first 10 taps' part of the gradient of the gated rows. -/
theorem r_13_A :
    @Eq EReal (r_13 c i a3 h3 a4 h4 a5 h5 a9 a10 x2 x3 x4 (ix2 r q)) (taps x4 (ext (i 0).val x2 x3) 10 r.val q.val) := by
  unfold r_13
  rw [taps_succ _ _ 9, taps_succ _ _ 8]
  refine (pay41_at _ _ _ _ _ r q).trans ?_
  rw [row_at a5 h5 x4 8, row_at a5 h5 x4 9]
  simp only [r_10_A, v158_A, v172_A]

/-- The first 13 taps' part of the gradient of the gated rows. -/
theorem r_15_A :
    @Eq EReal (r_15 c i a3 h3 a4 h4 a5 h5 a9 a10 x2 x3 x4 (ix2 r q)) (taps x4 (ext (i 0).val x2 x3) 13 r.val q.val) := by
  unfold r_15
  rw [taps_succ _ _ 12, taps_succ _ _ 11, taps_succ _ _ 10]
  refine (pay48_at _ _ _ _ _ _ _ r q).trans ?_
  rw [row_at a5 h5 x4 10, row_at a5 h5 x4 11, row_at a5 h5 x4 12]
  simp only [r_13_A, v186_A, v200_A, v214_A]

/-- The first 15 taps' part of the gradient of the gated rows. -/
theorem r_16_A :
    @Eq EReal (r_16 c i a3 h3 a4 h4 a5 h5 a9 a10 x2 x3 x4 (ix2 r q)) (taps x4 (ext (i 0).val x2 x3) 15 r.val q.val) := by
  unfold r_16
  rw [taps_succ _ _ 14, taps_succ _ _ 13]
  refine (pay52_at _ _ _ _ _ r q).trans ?_
  rw [row_at a5 h5 x4 13, row_at a5 h5 x4 14]
  simp only [r_15_A, v228_A, v242_A]

/-- The first 17 taps' part of the gradient of the gated rows. -/
theorem r_18_A :
    @Eq EReal (r_18 c i a3 h3 a4 h4 a5 h5 a9 a10 x2 x3 x4 (ix2 r q)) (taps x4 (ext (i 0).val x2 x3) 17 r.val q.val) := by
  unfold r_18
  rw [taps_succ _ _ 16, taps_succ _ _ 15]
  refine (pay57_at _ _ _ _ _ r q).trans ?_
  rw [row_at a5 h5 x4 15, row_at a5 h5 x4 16]
  simp only [r_16_A, v255_A, v269_A]

/-- The first 20 taps' part of the gradient of the gated rows. -/
theorem r_21_A :
    @Eq EReal (r_21 c i a3 h3 a4 h4 a5 h5 a9 a10 x2 x3 x4 (ix2 r q)) (taps x4 (ext (i 0).val x2 x3) 20 r.val q.val) := by
  unfold r_21
  rw [taps_succ _ _ 19, taps_succ _ _ 18, taps_succ _ _ 17]
  refine (pay65_at _ _ _ _ _ _ _ r q).trans ?_
  rw [row_at a5 h5 x4 18, row_at a5 h5 x4 19]
  simp only [r_18_A, r_19_A, r_20_A, v297_A, v311_A]

/-- The first 22 taps' part of the gradient of the gated rows. -/
theorem r_24_A :
    @Eq EReal (r_24 c i a3 h3 a4 h4 a5 h5 a9 a10 x2 x3 x4 (ix2 r q)) (taps x4 (ext (i 0).val x2 x3) 22 r.val q.val) := by
  unfold r_24
  rw [taps_succ _ _ 21, taps_succ _ _ 20]
  refine (pay72_at _ _ _ _ _ r q).trans ?_
  rw [row_at a5 h5 x4 20, row_at a5 h5 x4 21]
  simp only [r_21_A, v325_A, v339_A]

/-- The first 25 taps' part of the gradient of the gated rows. -/
theorem r_26_A :
    @Eq EReal (r_26 c i a3 h3 a4 h4 a5 h5 a9 a10 x2 x3 x4 (ix2 r q)) (taps x4 (ext (i 0).val x2 x3) 25 r.val q.val) := by
  unfold r_26
  rw [taps_succ _ _ 24, taps_succ _ _ 23, taps_succ _ _ 22]
  refine (pay78_at _ _ _ _ _ _ _ r q).trans ?_
  rw [row_at a5 h5 x4 22, row_at a5 h5 x4 23, row_at a5 h5 x4 24]
  simp only [r_24_A, v353_A, v366_A, v380_A]

/-- The first 27 taps' part of the gradient of the gated rows. -/
theorem r_28_A :
    @Eq EReal (r_28 c i a3 h3 a4 h4 a5 h5 a9 a10 x2 x3 x4 (ix2 r q)) (taps x4 (ext (i 0).val x2 x3) 27 r.val q.val) := by
  unfold r_28
  rw [taps_succ _ _ 26, taps_succ _ _ 25]
  refine (pay84_at _ _ _ _ _ r q).trans ?_
  rw [row_at a5 h5 x4 25, row_at a5 h5 x4 26]
  simp only [r_26_A, v394_A, v408_A]

/-- The first 29 taps' part of the gradient of the gated rows. -/
theorem r_29_A :
    @Eq EReal (r_29 c i a3 h3 a4 h4 a5 h5 a9 a10 x2 x3 x4 (ix2 r q)) (taps x4 (ext (i 0).val x2 x3) 29 r.val q.val) := by
  unfold r_29
  rw [taps_succ _ _ 28, taps_succ _ _ 27]
  refine (pay89_at _ _ _ _ _ r q).trans ?_
  rw [row_at a5 h5 x4 27, row_at a5 h5 x4 28]
  simp only [r_28_A, v422_A, v436_A]

/-- The gradient of the gated rows, its last two taps added. -/
theorem du_A (h) :
    @Eq EReal (r_29 c i a3 h3 a4 h4 a5 h5 a9 a10 x2 x3 x4 (ix2 r q) + r_31 c i a3 h3 a4 h4 a5 h5 a9 a10 x2 x3 x4 (ix2 r q)
        + View.readAt (Elt Ideal) a5.view (Rect.unit (s := S32x1024) ![30, 0] S1x1024.size h).toLoadRect (h5.unread x4) (ix2 0 q) * v464 c i a3 h3 a4 h4 a9 x2 x3 (ix2 r q))
      (taps x4 (ext (i 0).val x2 x3) 31 r.val q.val) := by
  unfold r_31
  rw [taps_succ _ _ 30, taps_succ _ _ 29]
  rw [pay92_at, row_at a5 h5 x4 29, row_at a5 h5 x4 30]
  simp only [r_29_A, v450_A, v464_A]

/-- The gate. -/
theorem r_1_A :
    r_1 c a2 h2 x1 = k0_pay2 x1 := by
  unfold r_1
  simp only [View.readAt_eq_ld, h2.read_unread, View.ld_unit_zero (S := S512x1024) off2]

/-- The gated rows. -/
theorem r_2_A :
    @Eq EReal (r_2 c a1 h1 a2 h2 x0 x1 (ix2 r q)) (gated x0 x1 r.val q.val) := by
  unfold r_2
  simp only [View.readAt_eq_ld, h1.read_unread, h2.read_unread, View.ld_unit_zero (S := S512x1024) off2]
  exact (pay3_at x0 x1 r q).trans (gated_at x0 x1 r q).symm

/-- The block of values. -/
theorem r_A :
    kernelRun0_A.sl.r c a1 h1 x0 = x0 := by
  unfold kernelRun0_A.sl.r
  simp only [View.readAt_eq_ld, h1.read_unread, View.ld_unit_zero (S := S512x1024) off2]

/-- The first output's block: the gradient of the values. -/
theorem dcv_A (h) :
    @Eq EReal (k0_pay96 (r_1 c a2 h2 x1) (r_29 c i a3 h3 a4 h4 a5 h5 a9 a10 x2 x3 x4) (r_31 c i a3 h3 a4 h4 a5 h5 a9 a10 x2 x3 x4) (v464 c i a3 h3 a4 h4 a9 x2 x3)
        (View.readAt (Elt Ideal) a5.view (Rect.unit (s := S32x1024) ![30, 0] S1x1024.size h).toLoadRect (h5.unread x4)) (ix2 r q))
      (taps x4 (ext (i 0).val x2 x3) 31 r.val q.val * Ideal.logistic (x1 (ix2 r q))) := by
  refine (pay96_at _ _ _ _ _ r q).trans ?_
  rw [du_A, r_1_A, pay2_at]

/-- The second output's block: the gradient of the gates. -/
theorem dcg_A :
    @Eq EReal (k0_pay1 (r_1 c a2 h2 x1) (r_32 c i a1 h1 a2 h2 a3 h3 a4 h4 a5 h5 a9 a10 x0 x1 x2 x3 x4) cst_325 (ix2 r q))
      (taps x4 (ext (i 0).val x2 x3) 31 r.val q.val * x0 (ix2 r q) * Ideal.logistic (x1 (ix2 r q)) * (1 - Ideal.logistic (x1 (ix2 r q)))) := by
  refine (pay1_at _ _ _ r q).trans ?_
  unfold r_32 cst_325
  rw [pay97_at, du_A, r_1_A, r_A, pay2_at]
  exact congrArg (fun z : EReal => _ * (z - _)) Ideal.ofBits_one_f32

/-- The zeros the weights' rows start from. -/
theorem hz_A (y : S32x1024.Idx) : @Eq EReal (View.canon (H7_1 (F := Ideal)) y) 0 := by
  unfold H7_1
  obtain ⟨a, b, rfl⟩ : ∃ (a : Fin 32) (b : Fin 1024), y = ix2 a b := ⟨y 0, y 1, eq_ix2 y⟩
  rw [View.canon_unit_zero off2]
  exact pay13_at a b

/-- The weights' rows before any is stored. -/
theorem hw0_A (y : S32x1024.Idx) :
    @Eq EReal (View.canon (H7_1 (F := Ideal)) y) (if (y 0).val < 0 then tapw x0 x1 (ext (i 0).val x2 x3) (y 0).val (y 1).val else 0) :=
  (hz_A y).trans (if_neg (Nat.not_lt_zero _)).symm

/-- The row of tap 0 before it is stored. -/
theorem v54_A :
    @Eq EReal (v54 (F := Ideal) c a8 (ix2 0 q)) 0 := by
  unfold v54
  exact row_A a8.view _ 0 _ (fun _ _ => 0) (fun y => (hz_A y).trans (if_neg (Nat.not_lt_zero _)).symm) q

/-- The row stored for tap 0. -/
theorem dw0_A :
    @Eq EReal (k0_pay17 (r_2 c a1 h1 a2 h2 x0 x1) (r_3 c i a3 h3 a4 h4 a9 a10 x2 x3) (v54 (F := Ideal) c a8) (ix2 0 q)) (tapw x0 x1 (ext (i 0).val x2 x3) 0 q.val) := by
  simp only [pay17_at, r_2_A, r_3_A, v54_A, zero_add]
  rfl

/-- The weights' rows after tap 0. -/
theorem hw1_A (y : S32x1024.Idx) :
    @Eq EReal (View.canon (H7_2 c i a1 h1 a2 h2 a3 h3 a4 h4 a8 a9 a10 x0 x1 x2 x3) y) (if (y 0).val < 1 then tapw x0 x1 (ext (i 0).val x2 x3) (y 0).val (y 1).val else 0) := by
  unfold H7_2
  exact step_A _ 0 _ _ (tapw x0 x1 (ext (i 0).val x2 x3)) (fun _ => dw0_A ..) (fun _ => hw0_A ..) y

/-- The row of tap 1 before it is stored. -/
theorem v68_A :
    @Eq EReal (v68 c i a1 h1 a2 h2 a3 h3 a4 h4 a8 a9 a10 x0 x1 x2 x3 (ix2 0 q)) 0 := by
  unfold v68
  exact row_A a8.view _ 1 _ (tapw x0 x1 (ext (i 0).val x2 x3)) (fun _ => hw1_A ..) q

/-- The row stored for tap 1. -/
theorem dw1_A :
    @Eq EReal (k0_pay19 (r_2 c a1 h1 a2 h2 x0 x1) (v61 c i a3 h3 a4 h4 a9 a10 x2 x3) (v68 c i a1 h1 a2 h2 a3 h3 a4 h4 a8 a9 a10 x0 x1 x2 x3) (ix2 0 q)) (tapw x0 x1 (ext (i 0).val x2 x3) 1 q.val) := by
  simp only [pay19_at, r_2_A, v61_A, v68_A, zero_add]
  rfl

/-- The weights' rows after tap 1. -/
theorem hw2_A (y : S32x1024.Idx) :
    @Eq EReal (View.canon (H7_3 c i a1 h1 a2 h2 a3 h3 a4 h4 a8 a9 a10 x0 x1 x2 x3) y) (if (y 0).val < 2 then tapw x0 x1 (ext (i 0).val x2 x3) (y 0).val (y 1).val else 0) := by
  unfold H7_3
  exact step_A _ 1 _ _ (tapw x0 x1 (ext (i 0).val x2 x3)) (fun _ => dw1_A ..) (fun _ => hw1_A ..) y

/-- The row of tap 2 before it is stored. -/
theorem v82_A :
    @Eq EReal (v82 c i a1 h1 a2 h2 a3 h3 a4 h4 a8 a9 a10 x0 x1 x2 x3 (ix2 0 q)) 0 := by
  unfold v82
  exact row_A a8.view _ 2 _ (tapw x0 x1 (ext (i 0).val x2 x3)) (fun _ => hw2_A ..) q

/-- The row stored for tap 2. -/
theorem dw2_A :
    @Eq EReal (k0_pay24 (r_6 c i a1 h1 a2 h2 a3 h3 a4 h4 a8 a9 a10 x0 x1 x2 x3) (r_7 c i a1 h1 a2 h2 a3 h3 a4 h4 a9 a10 x0 x1 x2 x3) (ix2 0 q)) (tapw x0 x1 (ext (i 0).val x2 x3) 2 q.val) := by
  unfold r_6 r_7
  simp only [pay22_at, pay23_at, pay24_at, r_2_A, v75_A, v82_A, zero_add]
  rfl

/-- The weights' rows after tap 2. -/
theorem hw3_A (y : S32x1024.Idx) :
    @Eq EReal (View.canon (H7_4 c i a1 h1 a2 h2 a3 h3 a4 h4 a8 a9 a10 x0 x1 x2 x3) y) (if (y 0).val < 3 then tapw x0 x1 (ext (i 0).val x2 x3) (y 0).val (y 1).val else 0) := by
  unfold H7_4
  exact step_A _ 2 _ _ (tapw x0 x1 (ext (i 0).val x2 x3)) (fun _ => dw2_A ..) (fun _ => hw2_A ..) y

/-- The row of tap 3 before it is stored. -/
theorem v96_A :
    @Eq EReal (v96 c i a1 h1 a2 h2 a3 h3 a4 h4 a8 a9 a10 x0 x1 x2 x3 (ix2 0 q)) 0 := by
  unfold v96
  exact row_A a8.view _ 3 _ (tapw x0 x1 (ext (i 0).val x2 x3)) (fun _ => hw3_A ..) q

/-- The row stored for tap 3. -/
theorem dw3_A :
    @Eq EReal (k0_pay26 (r_2 c a1 h1 a2 h2 x0 x1) (v89 c i a3 h3 a4 h4 a9 a10 x2 x3) (v96 c i a1 h1 a2 h2 a3 h3 a4 h4 a8 a9 a10 x0 x1 x2 x3) (ix2 0 q)) (tapw x0 x1 (ext (i 0).val x2 x3) 3 q.val) := by
  simp only [pay26_at, r_2_A, v89_A, v96_A, zero_add]
  rfl

/-- The weights' rows after tap 3. -/
theorem hw4_A (y : S32x1024.Idx) :
    @Eq EReal (View.canon (H7_5 c i a1 h1 a2 h2 a3 h3 a4 h4 a8 a9 a10 x0 x1 x2 x3) y) (if (y 0).val < 4 then tapw x0 x1 (ext (i 0).val x2 x3) (y 0).val (y 1).val else 0) := by
  unfold H7_5
  exact step_A _ 3 _ _ (tapw x0 x1 (ext (i 0).val x2 x3)) (fun _ => dw3_A ..) (fun _ => hw3_A ..) y

/-- The row of tap 4 before it is stored. -/
theorem v110_A :
    @Eq EReal (v110 c i a1 h1 a2 h2 a3 h3 a4 h4 a8 a9 a10 x0 x1 x2 x3 (ix2 0 q)) 0 := by
  unfold v110
  exact row_A a8.view _ 4 _ (tapw x0 x1 (ext (i 0).val x2 x3)) (fun _ => hw4_A ..) q

/-- The row stored for tap 4. -/
theorem dw4_A :
    @Eq EReal (k0_pay29 (r_2 c a1 h1 a2 h2 x0 x1) (v103 c i a3 h3 a4 h4 a9 a10 x2 x3) (v110 c i a1 h1 a2 h2 a3 h3 a4 h4 a8 a9 a10 x0 x1 x2 x3) (ix2 0 q)) (tapw x0 x1 (ext (i 0).val x2 x3) 4 q.val) := by
  simp only [pay29_at, r_2_A, v103_A, v110_A, zero_add]
  rfl

/-- The weights' rows after tap 4. -/
theorem hw5_A (y : S32x1024.Idx) :
    @Eq EReal (View.canon (H7_6 c i a1 h1 a2 h2 a3 h3 a4 h4 a8 a9 a10 x0 x1 x2 x3) y) (if (y 0).val < 5 then tapw x0 x1 (ext (i 0).val x2 x3) (y 0).val (y 1).val else 0) := by
  unfold H7_6
  exact step_A _ 4 _ _ (tapw x0 x1 (ext (i 0).val x2 x3)) (fun _ => dw4_A ..) (fun _ => hw4_A ..) y

/-- The row of tap 5 before it is stored. -/
theorem v124_A :
    @Eq EReal (v124 c i a1 h1 a2 h2 a3 h3 a4 h4 a8 a9 a10 x0 x1 x2 x3 (ix2 0 q)) 0 := by
  unfold v124
  exact row_A a8.view _ 5 _ (tapw x0 x1 (ext (i 0).val x2 x3)) (fun _ => hw5_A ..) q

/-- The row stored for tap 5. -/
theorem dw5_A :
    @Eq EReal (k0_pay31 (r_2 c a1 h1 a2 h2 x0 x1) (r_9 c i a3 h3 a4 h4 a9 a10 x2 x3) (v124 c i a1 h1 a2 h2 a3 h3 a4 h4 a8 a9 a10 x0 x1 x2 x3) (ix2 0 q)) (tapw x0 x1 (ext (i 0).val x2 x3) 5 q.val) := by
  simp only [pay31_at, r_2_A, r_9_A, v124_A, zero_add]
  rfl

/-- The weights' rows after tap 5. -/
theorem hw6_A (y : S32x1024.Idx) :
    @Eq EReal (View.canon (H7_7 c i a1 h1 a2 h2 a3 h3 a4 h4 a8 a9 a10 x0 x1 x2 x3) y) (if (y 0).val < 6 then tapw x0 x1 (ext (i 0).val x2 x3) (y 0).val (y 1).val else 0) := by
  unfold H7_7
  exact step_A _ 5 _ _ (tapw x0 x1 (ext (i 0).val x2 x3)) (fun _ => dw5_A ..) (fun _ => hw5_A ..) y

/-- The row of tap 6 before it is stored. -/
theorem v137_A :
    @Eq EReal (v137 c i a1 h1 a2 h2 a3 h3 a4 h4 a8 a9 a10 x0 x1 x2 x3 (ix2 0 q)) 0 := by
  unfold v137
  exact row_A a8.view _ 6 _ (tapw x0 x1 (ext (i 0).val x2 x3)) (fun _ => hw6_A ..) q

/-- The row stored for tap 6. -/
theorem dw6_A :
    @Eq EReal (k0_pay32 (r_2 c a1 h1 a2 h2 x0 x1) (v131 c i a3 h3 a4 h4 a9 x2 x3) (v137 c i a1 h1 a2 h2 a3 h3 a4 h4 a8 a9 a10 x0 x1 x2 x3) (ix2 0 q)) (tapw x0 x1 (ext (i 0).val x2 x3) 6 q.val) := by
  simp only [pay32_at, r_2_A, v131_A, v137_A, zero_add]
  rfl

/-- The weights' rows after tap 6. -/
theorem hw7_A (y : S32x1024.Idx) :
    @Eq EReal (View.canon (H7_8 c i a1 h1 a2 h2 a3 h3 a4 h4 a8 a9 a10 x0 x1 x2 x3) y) (if (y 0).val < 7 then tapw x0 x1 (ext (i 0).val x2 x3) (y 0).val (y 1).val else 0) := by
  unfold H7_8
  exact step_A _ 6 _ _ (tapw x0 x1 (ext (i 0).val x2 x3)) (fun _ => dw6_A ..) (fun _ => hw6_A ..) y

/-- The row of tap 7 before it is stored. -/
theorem v151_A :
    @Eq EReal (v151 c i a1 h1 a2 h2 a3 h3 a4 h4 a8 a9 a10 x0 x1 x2 x3 (ix2 0 q)) 0 := by
  unfold v151
  exact row_A a8.view _ 7 _ (tapw x0 x1 (ext (i 0).val x2 x3)) (fun _ => hw7_A ..) q

/-- The row stored for tap 7. -/
theorem dw7_A :
    @Eq EReal (k0_pay37 (r_11 c i a1 h1 a2 h2 a3 h3 a4 h4 a8 a9 a10 x0 x1 x2 x3) (r_12 c i a1 h1 a2 h2 a3 h3 a4 h4 a9 a10 x0 x1 x2 x3) (ix2 0 q)) (tapw x0 x1 (ext (i 0).val x2 x3) 7 q.val) := by
  unfold r_11 r_12
  simp only [pay35_at, pay36_at, pay37_at, r_2_A, v144_A, v151_A, zero_add]
  rfl

/-- The weights' rows after tap 7. -/
theorem hw8_A (y : S32x1024.Idx) :
    @Eq EReal (View.canon (H7_9 c i a1 h1 a2 h2 a3 h3 a4 h4 a8 a9 a10 x0 x1 x2 x3) y) (if (y 0).val < 8 then tapw x0 x1 (ext (i 0).val x2 x3) (y 0).val (y 1).val else 0) := by
  unfold H7_9
  exact step_A _ 7 _ _ (tapw x0 x1 (ext (i 0).val x2 x3)) (fun _ => dw7_A ..) (fun _ => hw7_A ..) y

/-- The row of tap 8 before it is stored. -/
theorem v165_A :
    @Eq EReal (v165 c i a1 h1 a2 h2 a3 h3 a4 h4 a8 a9 a10 x0 x1 x2 x3 (ix2 0 q)) 0 := by
  unfold v165
  exact row_A a8.view _ 8 _ (tapw x0 x1 (ext (i 0).val x2 x3)) (fun _ => hw8_A ..) q

/-- The row stored for tap 8. -/
theorem dw8_A :
    @Eq EReal (k0_pay39 (r_2 c a1 h1 a2 h2 x0 x1) (v158 c i a3 h3 a4 h4 a9 a10 x2 x3) (v165 c i a1 h1 a2 h2 a3 h3 a4 h4 a8 a9 a10 x0 x1 x2 x3) (ix2 0 q)) (tapw x0 x1 (ext (i 0).val x2 x3) 8 q.val) := by
  simp only [pay39_at, r_2_A, v158_A, v165_A, zero_add]
  rfl

/-- The weights' rows after tap 8. -/
theorem hw9_A (y : S32x1024.Idx) :
    @Eq EReal (View.canon (H7_10 c i a1 h1 a2 h2 a3 h3 a4 h4 a8 a9 a10 x0 x1 x2 x3) y) (if (y 0).val < 9 then tapw x0 x1 (ext (i 0).val x2 x3) (y 0).val (y 1).val else 0) := by
  unfold H7_10
  exact step_A _ 8 _ _ (tapw x0 x1 (ext (i 0).val x2 x3)) (fun _ => dw8_A ..) (fun _ => hw8_A ..) y

/-- The row of tap 9 before it is stored. -/
theorem v179_A :
    @Eq EReal (v179 c i a1 h1 a2 h2 a3 h3 a4 h4 a8 a9 a10 x0 x1 x2 x3 (ix2 0 q)) 0 := by
  unfold v179
  exact row_A a8.view _ 9 _ (tapw x0 x1 (ext (i 0).val x2 x3)) (fun _ => hw9_A ..) q

/-- The row stored for tap 9. -/
theorem dw9_A :
    @Eq EReal (k0_pay42 (r_2 c a1 h1 a2 h2 x0 x1) (v172 c i a3 h3 a4 h4 a9 a10 x2 x3) (v179 c i a1 h1 a2 h2 a3 h3 a4 h4 a8 a9 a10 x0 x1 x2 x3) (ix2 0 q)) (tapw x0 x1 (ext (i 0).val x2 x3) 9 q.val) := by
  simp only [pay42_at, r_2_A, v172_A, v179_A, zero_add]
  rfl

/-- The weights' rows after tap 9. -/
theorem hw10_A (y : S32x1024.Idx) :
    @Eq EReal (View.canon (H7_11 c i a1 h1 a2 h2 a3 h3 a4 h4 a8 a9 a10 x0 x1 x2 x3) y) (if (y 0).val < 10 then tapw x0 x1 (ext (i 0).val x2 x3) (y 0).val (y 1).val else 0) := by
  unfold H7_11
  exact step_A _ 9 _ _ (tapw x0 x1 (ext (i 0).val x2 x3)) (fun _ => dw9_A ..) (fun _ => hw9_A ..) y

/-- The row of tap 10 before it is stored. -/
theorem v193_A :
    @Eq EReal (v193 c i a1 h1 a2 h2 a3 h3 a4 h4 a8 a9 a10 x0 x1 x2 x3 (ix2 0 q)) 0 := by
  unfold v193
  exact row_A a8.view _ 10 _ (tapw x0 x1 (ext (i 0).val x2 x3)) (fun _ => hw10_A ..) q

/-- The row stored for tap 10. -/
theorem dw10_A :
    @Eq EReal (k0_pay44 (r_2 c a1 h1 a2 h2 x0 x1) (v186 c i a3 h3 a4 h4 a9 a10 x2 x3) (v193 c i a1 h1 a2 h2 a3 h3 a4 h4 a8 a9 a10 x0 x1 x2 x3) (ix2 0 q)) (tapw x0 x1 (ext (i 0).val x2 x3) 10 q.val) := by
  simp only [pay44_at, r_2_A, v186_A, v193_A, zero_add]
  rfl

/-- The weights' rows after tap 10. -/
theorem hw11_A (y : S32x1024.Idx) :
    @Eq EReal (View.canon (H7_12 c i a1 h1 a2 h2 a3 h3 a4 h4 a8 a9 a10 x0 x1 x2 x3) y) (if (y 0).val < 11 then tapw x0 x1 (ext (i 0).val x2 x3) (y 0).val (y 1).val else 0) := by
  unfold H7_12
  exact step_A _ 10 _ _ (tapw x0 x1 (ext (i 0).val x2 x3)) (fun _ => dw10_A ..) (fun _ => hw10_A ..) y

/-- The row of tap 11 before it is stored. -/
theorem v207_A :
    @Eq EReal (v207 c i a1 h1 a2 h2 a3 h3 a4 h4 a8 a9 a10 x0 x1 x2 x3 (ix2 0 q)) 0 := by
  unfold v207
  exact row_A a8.view _ 11 _ (tapw x0 x1 (ext (i 0).val x2 x3)) (fun _ => hw11_A ..) q

/-- The row stored for tap 11. -/
theorem dw11_A :
    @Eq EReal (k0_pay46 (r_2 c a1 h1 a2 h2 x0 x1) (v200 c i a3 h3 a4 h4 a9 a10 x2 x3) (v207 c i a1 h1 a2 h2 a3 h3 a4 h4 a8 a9 a10 x0 x1 x2 x3) (ix2 0 q)) (tapw x0 x1 (ext (i 0).val x2 x3) 11 q.val) := by
  simp only [pay46_at, r_2_A, v200_A, v207_A, zero_add]
  rfl

/-- The weights' rows after tap 11. -/
theorem hw12_A (y : S32x1024.Idx) :
    @Eq EReal (View.canon (H7_13 c i a1 h1 a2 h2 a3 h3 a4 h4 a8 a9 a10 x0 x1 x2 x3) y) (if (y 0).val < 12 then tapw x0 x1 (ext (i 0).val x2 x3) (y 0).val (y 1).val else 0) := by
  unfold H7_13
  exact step_A _ 11 _ _ (tapw x0 x1 (ext (i 0).val x2 x3)) (fun _ => dw11_A ..) (fun _ => hw11_A ..) y

/-- The row of tap 12 before it is stored. -/
theorem v221_A :
    @Eq EReal (v221 c i a1 h1 a2 h2 a3 h3 a4 h4 a8 a9 a10 x0 x1 x2 x3 (ix2 0 q)) 0 := by
  unfold v221
  exact row_A a8.view _ 12 _ (tapw x0 x1 (ext (i 0).val x2 x3)) (fun _ => hw12_A ..) q

/-- The row stored for tap 12. -/
theorem dw12_A :
    @Eq EReal (k0_pay49 (r_2 c a1 h1 a2 h2 x0 x1) (r_14 c i a3 h3 a4 h4 a9 a10 x2 x3) (v221 c i a1 h1 a2 h2 a3 h3 a4 h4 a8 a9 a10 x0 x1 x2 x3) (ix2 0 q)) (tapw x0 x1 (ext (i 0).val x2 x3) 12 q.val) := by
  simp only [pay49_at, r_2_A, r_14_A, v221_A, zero_add]
  rfl

/-- The weights' rows after tap 12. -/
theorem hw13_A (y : S32x1024.Idx) :
    @Eq EReal (View.canon (H7_14 c i a1 h1 a2 h2 a3 h3 a4 h4 a8 a9 a10 x0 x1 x2 x3) y) (if (y 0).val < 13 then tapw x0 x1 (ext (i 0).val x2 x3) (y 0).val (y 1).val else 0) := by
  unfold H7_14
  exact step_A _ 12 _ _ (tapw x0 x1 (ext (i 0).val x2 x3)) (fun _ => dw12_A ..) (fun _ => hw12_A ..) y

/-- The row of tap 13 before it is stored. -/
theorem v235_A :
    @Eq EReal (v235 c i a1 h1 a2 h2 a3 h3 a4 h4 a8 a9 a10 x0 x1 x2 x3 (ix2 0 q)) 0 := by
  unfold v235
  exact row_A a8.view _ 13 _ (tapw x0 x1 (ext (i 0).val x2 x3)) (fun _ => hw13_A ..) q

/-- The row stored for tap 13. -/
theorem dw13_A :
    @Eq EReal (k0_pay51 (r_2 c a1 h1 a2 h2 x0 x1) (v228 c i a3 h3 a4 h4 a9 a10 x2 x3) (v235 c i a1 h1 a2 h2 a3 h3 a4 h4 a8 a9 a10 x0 x1 x2 x3) (ix2 0 q)) (tapw x0 x1 (ext (i 0).val x2 x3) 13 q.val) := by
  simp only [pay51_at, r_2_A, v228_A, v235_A, zero_add]
  rfl

/-- The weights' rows after tap 13. -/
theorem hw14_A (y : S32x1024.Idx) :
    @Eq EReal (View.canon (H7_15 c i a1 h1 a2 h2 a3 h3 a4 h4 a8 a9 a10 x0 x1 x2 x3) y) (if (y 0).val < 14 then tapw x0 x1 (ext (i 0).val x2 x3) (y 0).val (y 1).val else 0) := by
  unfold H7_15
  exact step_A _ 13 _ _ (tapw x0 x1 (ext (i 0).val x2 x3)) (fun _ => dw13_A ..) (fun _ => hw13_A ..) y

/-- The row of tap 14 before it is stored. -/
theorem v248_A :
    @Eq EReal (v248 c i a1 h1 a2 h2 a3 h3 a4 h4 a8 a9 a10 x0 x1 x2 x3 (ix2 0 q)) 0 := by
  unfold v248
  exact row_A a8.view _ 14 _ (tapw x0 x1 (ext (i 0).val x2 x3)) (fun _ => hw14_A ..) q

/-- The row stored for tap 14. -/
theorem dw14_A :
    @Eq EReal ((r_17 c i a1 h1 a2 h2 a3 h3 a4 h4 a8 a9 a10 x0 x1 x2 x3) (ix2 0 q)) (tapw x0 x1 (ext (i 0).val x2 x3) 14 q.val) := by
  unfold r_17
  simp only [pay53_at, r_2_A, v242_A, v248_A, zero_add]
  rfl

/-- The weights' rows after tap 14. -/
theorem hw15_A (y : S32x1024.Idx) :
    @Eq EReal (View.canon (H7_16 c i a1 h1 a2 h2 a3 h3 a4 h4 a8 a9 a10 x0 x1 x2 x3) y) (if (y 0).val < 15 then tapw x0 x1 (ext (i 0).val x2 x3) (y 0).val (y 1).val else 0) := by
  unfold H7_16
  exact step_A _ 14 _ _ (tapw x0 x1 (ext (i 0).val x2 x3)) (fun _ => dw14_A ..) (fun _ => hw14_A ..) y

/-- The row of tap 15 before it is stored. -/
theorem v262_A :
    @Eq EReal (v262 c i a1 h1 a2 h2 a3 h3 a4 h4 a8 a9 a10 x0 x1 x2 x3 (ix2 0 q)) 0 := by
  unfold v262
  exact row_A a8.view _ 15 _ (tapw x0 x1 (ext (i 0).val x2 x3)) (fun _ => hw15_A ..) q

/-- The row stored for tap 15. -/
theorem dw15_A :
    @Eq EReal (k0_pay55 (r_2 c a1 h1 a2 h2 x0 x1) (v255 c i a3 h3 a4 h4 a9 a10 x2 x3) (v262 c i a1 h1 a2 h2 a3 h3 a4 h4 a8 a9 a10 x0 x1 x2 x3) (ix2 0 q)) (tapw x0 x1 (ext (i 0).val x2 x3) 15 q.val) := by
  simp only [pay55_at, r_2_A, v255_A, v262_A, zero_add]
  rfl

/-- The weights' rows after tap 15. -/
theorem hw16_A (y : S32x1024.Idx) :
    @Eq EReal (View.canon (H7_17 c i a1 h1 a2 h2 a3 h3 a4 h4 a8 a9 a10 x0 x1 x2 x3) y) (if (y 0).val < 16 then tapw x0 x1 (ext (i 0).val x2 x3) (y 0).val (y 1).val else 0) := by
  unfold H7_17
  exact step_A _ 15 _ _ (tapw x0 x1 (ext (i 0).val x2 x3)) (fun _ => dw15_A ..) (fun _ => hw15_A ..) y

/-- The row of tap 16 before it is stored. -/
theorem v276_A :
    @Eq EReal (v276 c i a1 h1 a2 h2 a3 h3 a4 h4 a8 a9 a10 x0 x1 x2 x3 (ix2 0 q)) 0 := by
  unfold v276
  exact row_A a8.view _ 16 _ (tapw x0 x1 (ext (i 0).val x2 x3)) (fun _ => hw16_A ..) q

/-- The row stored for tap 16. -/
theorem dw16_A :
    @Eq EReal (k0_pay58 (r_2 c a1 h1 a2 h2 x0 x1) (v269 c i a3 h3 a4 h4 a9 a10 x2 x3) (v276 c i a1 h1 a2 h2 a3 h3 a4 h4 a8 a9 a10 x0 x1 x2 x3) (ix2 0 q)) (tapw x0 x1 (ext (i 0).val x2 x3) 16 q.val) := by
  simp only [pay58_at, r_2_A, v269_A, v276_A, zero_add]
  rfl

/-- The weights' rows after tap 16. -/
theorem hw17_A (y : S32x1024.Idx) :
    @Eq EReal (View.canon (H7_18 c i a1 h1 a2 h2 a3 h3 a4 h4 a8 a9 a10 x0 x1 x2 x3) y) (if (y 0).val < 17 then tapw x0 x1 (ext (i 0).val x2 x3) (y 0).val (y 1).val else 0) := by
  unfold H7_18
  exact step_A _ 16 _ _ (tapw x0 x1 (ext (i 0).val x2 x3)) (fun _ => dw16_A ..) (fun _ => hw16_A ..) y

/-- The row of tap 17 before it is stored. -/
theorem v290_A :
    @Eq EReal (v290 c i a1 h1 a2 h2 a3 h3 a4 h4 a8 a9 a10 x0 x1 x2 x3 (ix2 0 q)) 0 := by
  unfold v290
  exact row_A a8.view _ 17 _ (tapw x0 x1 (ext (i 0).val x2 x3)) (fun _ => hw17_A ..) q

/-- The row stored for tap 17. -/
theorem dw17_A :
    @Eq EReal (k0_pay61 (r_2 c a1 h1 a2 h2 x0 x1) (r_19 c i a3 h3 a4 h4 a9 a10 x2 x3) (v290 c i a1 h1 a2 h2 a3 h3 a4 h4 a8 a9 a10 x0 x1 x2 x3) (ix2 0 q)) (tapw x0 x1 (ext (i 0).val x2 x3) 17 q.val) := by
  simp only [pay61_at, r_2_A, r_19_A, v290_A, zero_add]
  rfl

/-- The weights' rows after tap 17. -/
theorem hw18_A (y : S32x1024.Idx) :
    @Eq EReal (View.canon (H7_19 c i a1 h1 a2 h2 a3 h3 a4 h4 a8 a9 a10 x0 x1 x2 x3) y) (if (y 0).val < 18 then tapw x0 x1 (ext (i 0).val x2 x3) (y 0).val (y 1).val else 0) := by
  unfold H7_19
  exact step_A _ 17 _ _ (tapw x0 x1 (ext (i 0).val x2 x3)) (fun _ => dw17_A ..) (fun _ => hw17_A ..) y

/-- The row of tap 18 before it is stored. -/
theorem v304_A :
    @Eq EReal (v304 c i a1 h1 a2 h2 a3 h3 a4 h4 a8 a9 a10 x0 x1 x2 x3 (ix2 0 q)) 0 := by
  unfold v304
  exact row_A a8.view _ 18 _ (tapw x0 x1 (ext (i 0).val x2 x3)) (fun _ => hw18_A ..) q

/-- The row stored for tap 18. -/
theorem dw18_A :
    @Eq EReal (k0_pay63 (r_2 c a1 h1 a2 h2 x0 x1) (v297 c i a3 h3 a4 h4 a9 a10 x2 x3) (v304 c i a1 h1 a2 h2 a3 h3 a4 h4 a8 a9 a10 x0 x1 x2 x3) (ix2 0 q)) (tapw x0 x1 (ext (i 0).val x2 x3) 18 q.val) := by
  simp only [pay63_at, r_2_A, v297_A, v304_A, zero_add]
  rfl

/-- The weights' rows after tap 18. -/
theorem hw19_A (y : S32x1024.Idx) :
    @Eq EReal (View.canon (H7_20 c i a1 h1 a2 h2 a3 h3 a4 h4 a8 a9 a10 x0 x1 x2 x3) y) (if (y 0).val < 19 then tapw x0 x1 (ext (i 0).val x2 x3) (y 0).val (y 1).val else 0) := by
  unfold H7_20
  exact step_A _ 18 _ _ (tapw x0 x1 (ext (i 0).val x2 x3)) (fun _ => dw18_A ..) (fun _ => hw18_A ..) y

/-- The row of tap 19 before it is stored. -/
theorem v318_A :
    @Eq EReal (v318 c i a1 h1 a2 h2 a3 h3 a4 h4 a8 a9 a10 x0 x1 x2 x3 (ix2 0 q)) 0 := by
  unfold v318
  exact row_A a8.view _ 19 _ (tapw x0 x1 (ext (i 0).val x2 x3)) (fun _ => hw19_A ..) q

/-- The row stored for tap 19. -/
theorem dw19_A :
    @Eq EReal (k0_pay68 (r_22 c i a1 h1 a2 h2 a3 h3 a4 h4 a8 a9 a10 x0 x1 x2 x3) (r_23 c i a1 h1 a2 h2 a3 h3 a4 h4 a9 a10 x0 x1 x2 x3) (ix2 0 q)) (tapw x0 x1 (ext (i 0).val x2 x3) 19 q.val) := by
  unfold r_22 r_23
  simp only [pay66_at, pay67_at, pay68_at, r_2_A, v311_A, v318_A, zero_add]
  rfl

/-- The weights' rows after tap 19. -/
theorem hw20_A (y : S32x1024.Idx) :
    @Eq EReal (View.canon (H7_21 c i a1 h1 a2 h2 a3 h3 a4 h4 a8 a9 a10 x0 x1 x2 x3) y) (if (y 0).val < 20 then tapw x0 x1 (ext (i 0).val x2 x3) (y 0).val (y 1).val else 0) := by
  unfold H7_21
  exact step_A _ 19 _ _ (tapw x0 x1 (ext (i 0).val x2 x3)) (fun _ => dw19_A ..) (fun _ => hw19_A ..) y

/-- The row of tap 20 before it is stored. -/
theorem v332_A :
    @Eq EReal (v332 c i a1 h1 a2 h2 a3 h3 a4 h4 a8 a9 a10 x0 x1 x2 x3 (ix2 0 q)) 0 := by
  unfold v332
  exact row_A a8.view _ 20 _ (tapw x0 x1 (ext (i 0).val x2 x3)) (fun _ => hw20_A ..) q

/-- The row stored for tap 20. -/
theorem dw20_A :
    @Eq EReal (k0_pay70 (r_2 c a1 h1 a2 h2 x0 x1) (v325 c i a3 h3 a4 h4 a9 a10 x2 x3) (v332 c i a1 h1 a2 h2 a3 h3 a4 h4 a8 a9 a10 x0 x1 x2 x3) (ix2 0 q)) (tapw x0 x1 (ext (i 0).val x2 x3) 20 q.val) := by
  simp only [pay70_at, r_2_A, v325_A, v332_A, zero_add]
  rfl

/-- The weights' rows after tap 20. -/
theorem hw21_A (y : S32x1024.Idx) :
    @Eq EReal (View.canon (H7_22 c i a1 h1 a2 h2 a3 h3 a4 h4 a8 a9 a10 x0 x1 x2 x3) y) (if (y 0).val < 21 then tapw x0 x1 (ext (i 0).val x2 x3) (y 0).val (y 1).val else 0) := by
  unfold H7_22
  exact step_A _ 20 _ _ (tapw x0 x1 (ext (i 0).val x2 x3)) (fun _ => dw20_A ..) (fun _ => hw20_A ..) y

/-- The row of tap 21 before it is stored. -/
theorem v346_A :
    @Eq EReal (v346 c i a1 h1 a2 h2 a3 h3 a4 h4 a8 a9 a10 x0 x1 x2 x3 (ix2 0 q)) 0 := by
  unfold v346
  exact row_A a8.view _ 21 _ (tapw x0 x1 (ext (i 0).val x2 x3)) (fun _ => hw21_A ..) q

/-- The row stored for tap 21. -/
theorem dw21_A :
    @Eq EReal (k0_pay73 (r_2 c a1 h1 a2 h2 x0 x1) (v339 c i a3 h3 a4 h4 a9 a10 x2 x3) (v346 c i a1 h1 a2 h2 a3 h3 a4 h4 a8 a9 a10 x0 x1 x2 x3) (ix2 0 q)) (tapw x0 x1 (ext (i 0).val x2 x3) 21 q.val) := by
  simp only [pay73_at, r_2_A, v339_A, v346_A, zero_add]
  rfl

/-- The weights' rows after tap 21. -/
theorem hw22_A (y : S32x1024.Idx) :
    @Eq EReal (View.canon (H7_23 c i a1 h1 a2 h2 a3 h3 a4 h4 a8 a9 a10 x0 x1 x2 x3) y) (if (y 0).val < 22 then tapw x0 x1 (ext (i 0).val x2 x3) (y 0).val (y 1).val else 0) := by
  unfold H7_23
  exact step_A _ 21 _ _ (tapw x0 x1 (ext (i 0).val x2 x3)) (fun _ => dw21_A ..) (fun _ => hw21_A ..) y

/-- The row of tap 22 before it is stored. -/
theorem v359_A :
    @Eq EReal (v359 c i a1 h1 a2 h2 a3 h3 a4 h4 a8 a9 a10 x0 x1 x2 x3 (ix2 0 q)) 0 := by
  unfold v359
  exact row_A a8.view _ 22 _ (tapw x0 x1 (ext (i 0).val x2 x3)) (fun _ => hw22_A ..) q

/-- The row stored for tap 22. -/
theorem dw22_A :
    @Eq EReal (k0_pay74 (r_2 c a1 h1 a2 h2 x0 x1) (v353 c i a3 h3 a4 h4 a9 x2 x3) (v359 c i a1 h1 a2 h2 a3 h3 a4 h4 a8 a9 a10 x0 x1 x2 x3) (ix2 0 q)) (tapw x0 x1 (ext (i 0).val x2 x3) 22 q.val) := by
  simp only [pay74_at, r_2_A, v353_A, v359_A, zero_add]
  rfl

/-- The weights' rows after tap 22. -/
theorem hw23_A (y : S32x1024.Idx) :
    @Eq EReal (View.canon (H7_24 c i a1 h1 a2 h2 a3 h3 a4 h4 a8 a9 a10 x0 x1 x2 x3) y) (if (y 0).val < 23 then tapw x0 x1 (ext (i 0).val x2 x3) (y 0).val (y 1).val else 0) := by
  unfold H7_24
  exact step_A _ 22 _ _ (tapw x0 x1 (ext (i 0).val x2 x3)) (fun _ => dw22_A ..) (fun _ => hw22_A ..) y

/-- The row of tap 23 before it is stored. -/
theorem v373_A :
    @Eq EReal (v373 c i a1 h1 a2 h2 a3 h3 a4 h4 a8 a9 a10 x0 x1 x2 x3 (ix2 0 q)) 0 := by
  unfold v373
  exact row_A a8.view _ 23 _ (tapw x0 x1 (ext (i 0).val x2 x3)) (fun _ => hw23_A ..) q

/-- The row stored for tap 23. -/
theorem dw23_A :
    @Eq EReal (k0_pay76 (r_2 c a1 h1 a2 h2 x0 x1) (v366 c i a3 h3 a4 h4 a9 a10 x2 x3) (v373 c i a1 h1 a2 h2 a3 h3 a4 h4 a8 a9 a10 x0 x1 x2 x3) (ix2 0 q)) (tapw x0 x1 (ext (i 0).val x2 x3) 23 q.val) := by
  simp only [pay76_at, r_2_A, v366_A, v373_A, zero_add]
  rfl

/-- The weights' rows after tap 23. -/
theorem hw24_A (y : S32x1024.Idx) :
    @Eq EReal (View.canon (H7_25 c i a1 h1 a2 h2 a3 h3 a4 h4 a8 a9 a10 x0 x1 x2 x3) y) (if (y 0).val < 24 then tapw x0 x1 (ext (i 0).val x2 x3) (y 0).val (y 1).val else 0) := by
  unfold H7_25
  exact step_A _ 23 _ _ (tapw x0 x1 (ext (i 0).val x2 x3)) (fun _ => dw23_A ..) (fun _ => hw23_A ..) y

/-- The row of tap 24 before it is stored. -/
theorem v387_A :
    @Eq EReal (v387 c i a1 h1 a2 h2 a3 h3 a4 h4 a8 a9 a10 x0 x1 x2 x3 (ix2 0 q)) 0 := by
  unfold v387
  exact row_A a8.view _ 24 _ (tapw x0 x1 (ext (i 0).val x2 x3)) (fun _ => hw24_A ..) q

/-- The row stored for tap 24. -/
theorem dw24_A :
    @Eq EReal (k0_pay80 (r_2 c a1 h1 a2 h2 x0 x1) (r_25 c i a3 h3 a4 h4 a9 a10 x2 x3) (r_27 c i a1 h1 a2 h2 a3 h3 a4 h4 a8 a9 a10 x0 x1 x2 x3) (ix2 0 q)) (tapw x0 x1 (ext (i 0).val x2 x3) 24 q.val) := by
  unfold r_27
  simp only [pay79_at, pay80_at, r_2_A, r_25_A, v387_A, zero_add]
  rfl

/-- The weights' rows after tap 24. -/
theorem hw25_A (y : S32x1024.Idx) :
    @Eq EReal (View.canon (H7_26 c i a1 h1 a2 h2 a3 h3 a4 h4 a8 a9 a10 x0 x1 x2 x3) y) (if (y 0).val < 25 then tapw x0 x1 (ext (i 0).val x2 x3) (y 0).val (y 1).val else 0) := by
  unfold H7_26
  exact step_A _ 24 _ _ (tapw x0 x1 (ext (i 0).val x2 x3)) (fun _ => dw24_A ..) (fun _ => hw24_A ..) y

/-- The row of tap 25 before it is stored. -/
theorem v401_A :
    @Eq EReal (v401 c i a1 h1 a2 h2 a3 h3 a4 h4 a8 a9 a10 x0 x1 x2 x3 (ix2 0 q)) 0 := by
  unfold v401
  exact row_A a8.view _ 25 _ (tapw x0 x1 (ext (i 0).val x2 x3)) (fun _ => hw25_A ..) q

/-- The row stored for tap 25. -/
theorem dw25_A :
    @Eq EReal (k0_pay82 (r_2 c a1 h1 a2 h2 x0 x1) (v394 c i a3 h3 a4 h4 a9 a10 x2 x3) (v401 c i a1 h1 a2 h2 a3 h3 a4 h4 a8 a9 a10 x0 x1 x2 x3) (ix2 0 q)) (tapw x0 x1 (ext (i 0).val x2 x3) 25 q.val) := by
  simp only [pay82_at, r_2_A, v394_A, v401_A, zero_add]
  rfl

/-- The weights' rows after tap 25. -/
theorem hw26_A (y : S32x1024.Idx) :
    @Eq EReal (View.canon (H7_27 c i a1 h1 a2 h2 a3 h3 a4 h4 a8 a9 a10 x0 x1 x2 x3) y) (if (y 0).val < 26 then tapw x0 x1 (ext (i 0).val x2 x3) (y 0).val (y 1).val else 0) := by
  unfold H7_27
  exact step_A _ 25 _ _ (tapw x0 x1 (ext (i 0).val x2 x3)) (fun _ => dw25_A ..) (fun _ => hw25_A ..) y

/-- The row of tap 26 before it is stored. -/
theorem v415_A :
    @Eq EReal (v415 c i a1 h1 a2 h2 a3 h3 a4 h4 a8 a9 a10 x0 x1 x2 x3 (ix2 0 q)) 0 := by
  unfold v415
  exact row_A a8.view _ 26 _ (tapw x0 x1 (ext (i 0).val x2 x3)) (fun _ => hw26_A ..) q

/-- The row stored for tap 26. -/
theorem dw26_A :
    @Eq EReal (k0_pay85 (r_2 c a1 h1 a2 h2 x0 x1) (v408 c i a3 h3 a4 h4 a9 a10 x2 x3) (v415 c i a1 h1 a2 h2 a3 h3 a4 h4 a8 a9 a10 x0 x1 x2 x3) (ix2 0 q)) (tapw x0 x1 (ext (i 0).val x2 x3) 26 q.val) := by
  simp only [pay85_at, r_2_A, v408_A, v415_A, zero_add]
  rfl

/-- The weights' rows after tap 26. -/
theorem hw27_A (y : S32x1024.Idx) :
    @Eq EReal (View.canon (H7_28 c i a1 h1 a2 h2 a3 h3 a4 h4 a8 a9 a10 x0 x1 x2 x3) y) (if (y 0).val < 27 then tapw x0 x1 (ext (i 0).val x2 x3) (y 0).val (y 1).val else 0) := by
  unfold H7_28
  exact step_A _ 26 _ _ (tapw x0 x1 (ext (i 0).val x2 x3)) (fun _ => dw26_A ..) (fun _ => hw26_A ..) y

/-- The row of tap 27 before it is stored. -/
theorem v429_A :
    @Eq EReal (v429 c i a1 h1 a2 h2 a3 h3 a4 h4 a8 a9 a10 x0 x1 x2 x3 (ix2 0 q)) 0 := by
  unfold v429
  exact row_A a8.view _ 27 _ (tapw x0 x1 (ext (i 0).val x2 x3)) (fun _ => hw27_A ..) q

/-- The row stored for tap 27. -/
theorem dw27_A :
    @Eq EReal (k0_pay87 (r_2 c a1 h1 a2 h2 x0 x1) (v422 c i a3 h3 a4 h4 a9 a10 x2 x3) (v429 c i a1 h1 a2 h2 a3 h3 a4 h4 a8 a9 a10 x0 x1 x2 x3) (ix2 0 q)) (tapw x0 x1 (ext (i 0).val x2 x3) 27 q.val) := by
  simp only [pay87_at, r_2_A, v422_A, v429_A, zero_add]
  rfl

/-- The weights' rows after tap 27. -/
theorem hw28_A (y : S32x1024.Idx) :
    @Eq EReal (View.canon (H7_29 c i a1 h1 a2 h2 a3 h3 a4 h4 a8 a9 a10 x0 x1 x2 x3) y) (if (y 0).val < 28 then tapw x0 x1 (ext (i 0).val x2 x3) (y 0).val (y 1).val else 0) := by
  unfold H7_29
  exact step_A _ 27 _ _ (tapw x0 x1 (ext (i 0).val x2 x3)) (fun _ => dw27_A ..) (fun _ => hw27_A ..) y

/-- The row of tap 28 before it is stored. -/
theorem v443_A :
    @Eq EReal (v443 c i a1 h1 a2 h2 a3 h3 a4 h4 a8 a9 a10 x0 x1 x2 x3 (ix2 0 q)) 0 := by
  unfold v443
  exact row_A a8.view _ 28 _ (tapw x0 x1 (ext (i 0).val x2 x3)) (fun _ => hw28_A ..) q

/-- The row stored for tap 28. -/
theorem dw28_A :
    @Eq EReal (k0_pay90 (r_2 c a1 h1 a2 h2 x0 x1) (v436 c i a3 h3 a4 h4 a9 a10 x2 x3) (v443 c i a1 h1 a2 h2 a3 h3 a4 h4 a8 a9 a10 x0 x1 x2 x3) (ix2 0 q)) (tapw x0 x1 (ext (i 0).val x2 x3) 28 q.val) := by
  simp only [pay90_at, r_2_A, v436_A, v443_A, zero_add]
  rfl

/-- The weights' rows after tap 28. -/
theorem hw29_A (y : S32x1024.Idx) :
    @Eq EReal (View.canon (H7_30 c i a1 h1 a2 h2 a3 h3 a4 h4 a8 a9 a10 x0 x1 x2 x3) y) (if (y 0).val < 29 then tapw x0 x1 (ext (i 0).val x2 x3) (y 0).val (y 1).val else 0) := by
  unfold H7_30
  exact step_A _ 28 _ _ (tapw x0 x1 (ext (i 0).val x2 x3)) (fun _ => dw28_A ..) (fun _ => hw28_A ..) y

/-- The row of tap 29 before it is stored. -/
theorem v457_A :
    @Eq EReal (v457 c i a1 h1 a2 h2 a3 h3 a4 h4 a8 a9 a10 x0 x1 x2 x3 (ix2 0 q)) 0 := by
  unfold v457
  exact row_A a8.view _ 29 _ (tapw x0 x1 (ext (i 0).val x2 x3)) (fun _ => hw29_A ..) q

/-- The row stored for tap 29. -/
theorem dw29_A :
    @Eq EReal (k0_pay93 (r_2 c a1 h1 a2 h2 x0 x1) (r_30 c i a3 h3 a4 h4 a9 a10 x2 x3) (v457 c i a1 h1 a2 h2 a3 h3 a4 h4 a8 a9 a10 x0 x1 x2 x3) (ix2 0 q)) (tapw x0 x1 (ext (i 0).val x2 x3) 29 q.val) := by
  simp only [pay93_at, r_2_A, r_30_A, v457_A, zero_add]
  rfl

/-- The weights' rows after tap 29. -/
theorem hw30_A (y : S32x1024.Idx) :
    @Eq EReal (View.canon (H7_31 c i a1 h1 a2 h2 a3 h3 a4 h4 a8 a9 a10 x0 x1 x2 x3) y) (if (y 0).val < 30 then tapw x0 x1 (ext (i 0).val x2 x3) (y 0).val (y 1).val else 0) := by
  unfold H7_31
  exact step_A _ 29 _ _ (tapw x0 x1 (ext (i 0).val x2 x3)) (fun _ => dw29_A ..) (fun _ => hw29_A ..) y

/-- The row of tap 30 before it is stored. -/
theorem v470_A :
    @Eq EReal (v470 c i a1 h1 a2 h2 a3 h3 a4 h4 a8 a9 a10 x0 x1 x2 x3 (ix2 0 q)) 0 := by
  unfold v470
  exact row_A a8.view _ 30 _ (tapw x0 x1 (ext (i 0).val x2 x3)) (fun _ => hw30_A ..) q

/-- The row stored for tap 30. -/
theorem dw30_A :
    @Eq EReal (k0_pay95 (r_2 c a1 h1 a2 h2 x0 x1) (v464 c i a3 h3 a4 h4 a9 x2 x3) (v470 c i a1 h1 a2 h2 a3 h3 a4 h4 a8 a9 a10 x0 x1 x2 x3) (ix2 0 q)) (tapw x0 x1 (ext (i 0).val x2 x3) 30 q.val) := by
  simp only [pay95_at, r_2_A, v464_A, v470_A, zero_add]
  rfl

/-- The weights' rows after the last tap. -/
theorem hw31_A (y : S32x1024.Idx) :
    @Eq EReal (View.canon (⟨Rect.unit (s := S32x1024) ![30, 0] S1x1024.size inb_S32x1024_S1x1024_30_0, k0_pay95 (r_2 c a1 h1 a2 h2 x0 x1) (v464 c i a3 h3 a4 h4 a9 x2 x3) (v470 c i a1 h1 a2 h2 a3 h3 a4 h4 a8 a9 a10 x0 x1 x2 x3)⟩ :: H7_31 c i a1 h1 a2 h2 a3 h3 a4 h4 a8 a9 a10 x0 x1 x2 x3) y) (if (y 0).val < 31 then tapw x0 x1 (ext (i 0).val x2 x3) (y 0).val (y 1).val else 0) :=
  step_A _ 30 _ _ (tapw x0 x1 (ext (i 0).val x2 x3)) (fun _ => dw30_A ..) (fun _ => hw30_A ..) y

end Cert.ConvBwdIdeal.Prod

end
-- ==== Proof.ConvBwdB.lean ====
/- The causal convolution's backward pass: what a later point's stores hold, window by window and tap by tap. -/
module

public import proofs.«01_k».proof.Proof.ConvBwdPay
public import Idealize.ShloMosaic.Lib.WritesUnit

@[expose] public section

set_option maxRecDepth 16384

noncomputable section

namespace Cert.ConvBwdIdeal.Prod

open Cert.ConvBwdIdeal Cert.ConvBwdIdeal.Gen Cert.ConvBwdIdeal.Value Cert.ConvBwdIdeal.Gen.kernelRun0_B.sl Cert.Common
open Idealize.ShloMosaic Idealize.ShloMosaic.TcCoe Idealize.SL.Sem

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S32x1024 .f32) (h4 : a4.IsWhole) (a5 : Memref sig .tc .vmem S32x1024 .f32) (h5 : a5.IsWhole) (a6 : Memref sig .tc .vmem S512x1024 .bf16) (h6 : a6.IsWhole) (a7 : Memref sig .tc .vmem S512x1024 .bf16) (h7 : a7.IsWhole) (a8 : Memref sig .tc .vmem S32x1024 .f32) (h8 : a8.IsWhole) (a9 : Memref sig .tc .vmem S544x1024 .f32) (h9 : a9.IsWhole) (a10 : Memref sig .tc .vmem S7x544x1024 .f32) (h10 : a10.IsWhole) (x0 : Vec Ideal S512x1024 .f32) (x1 : Vec Ideal S512x1024 .f32) (x2 : Vec Ideal S512x1024 .f32) (x3 : Vec Ideal S32x1024 .f32) (x4 : Vec Ideal S32x1024 .f32) (xo7 : Vec Ideal S32x1024 .f32) (r : Fin 512) (q : Fin 1024)

/-- The two stores of the first scratch buffer. -/
theorem hs0_B :
    HS0_2 c i a3 h3 a4 h4 x2 x3 = [⟨Rect.unit ![512, 0] S32x1024.size inb_S544x1024_S32x1024_512_0, k0_pay5 i x3⟩,
      ⟨Rect.unit ![0, 0] S512x1024.size inb_S544x1024_S512x1024_0_0, k0_pay4 x2⟩] := by
  unfold HS0_2
  simp only [View.readAt_eq_ld, h3.read_unread, h4.read_unread, View.ld_unit_zero (S := S512x1024) off2, View.ld_unit_zero (S := S32x1024) off2]

theorem v464_B :
    @Eq EReal (v464 c i a3 h3 a4 h4 a9 x2 x3 (ix2 r q)) (ext (i 0).val x2 x3 (30 - 30 + r.val) q.val) := by
  unfold v464
  rw [hs0_B]
  exact rows_read a9.view i x2 x3 0 512 _ _ _ r q

theorem v31_B (r : Fin 536) (q : Fin 1024) :
    @Eq EReal (v31 c i a3 h3 a4 h4 a9 x2 x3 (ix2 r q)) (ext (i 0).val x2 x3 (4 + 1 + r.val) q.val) := by
  unfold v31
  rw [hs0_B]
  exact rows_read a9.view i x2 x3 5 536 _ _ _ r q

theorem v15_B (r : Fin 536) (q : Fin 1024) :
    @Eq EReal (v15 c i a3 h3 a4 h4 a9 x2 x3 (ix2 r q)) (ext (i 0).val x2 x3 (0 + 1 + r.val) q.val) := by
  unfold v15
  rw [hs0_B]
  exact rows_read a9.view i x2 x3 1 536 _ _ _ r q

theorem v353_B :
    @Eq EReal (v353 c i a3 h3 a4 h4 a9 x2 x3 (ix2 r q)) (ext (i 0).val x2 x3 (30 - 22 + r.val) q.val) := by
  unfold v353
  rw [hs0_B]
  exact rows_read a9.view i x2 x3 8 512 _ _ _ r q

theorem v242_B :
    @Eq EReal (v242 c i a3 h3 a4 h4 a9 x2 x3 (ix2 r q)) (ext (i 0).val x2 x3 (30 - 14 + r.val) q.val) := by
  unfold v242
  rw [hs0_B]
  exact rows_read a9.view i x2 x3 16 512 _ _ _ r q

theorem v27_B (r : Fin 536) (q : Fin 1024) :
    @Eq EReal (v27 c i a3 h3 a4 h4 a9 x2 x3 (ix2 r q)) (ext (i 0).val x2 x3 (3 + 1 + r.val) q.val) := by
  unfold v27
  rw [hs0_B]
  exact rows_read a9.view i x2 x3 4 536 _ _ _ r q

theorem v23_B (r : Fin 536) (q : Fin 1024) :
    @Eq EReal (v23 c i a3 h3 a4 h4 a9 x2 x3 (ix2 r q)) (ext (i 0).val x2 x3 (2 + 1 + r.val) q.val) := by
  unfold v23
  rw [hs0_B]
  exact rows_read a9.view i x2 x3 3 536 _ _ _ r q

theorem v19_B (r : Fin 536) (q : Fin 1024) :
    @Eq EReal (v19 c i a3 h3 a4 h4 a9 x2 x3 (ix2 r q)) (ext (i 0).val x2 x3 (1 + 1 + r.val) q.val) := by
  unfold v19
  rw [hs0_B]
  exact rows_read a9.view i x2 x3 2 536 _ _ _ r q

theorem v131_B :
    @Eq EReal (v131 c i a3 h3 a4 h4 a9 x2 x3 (ix2 r q)) (ext (i 0).val x2 x3 (30 - 6 + r.val) q.val) := by
  unfold v131
  rw [hs0_B]
  exact rows_read a9.view i x2 x3 24 512 _ _ _ r q

theorem v35_B (r : Fin 536) (q : Fin 1024) :
    @Eq EReal (v35 c i a3 h3 a4 h4 a9 x2 x3 (ix2 r q)) (ext (i 0).val x2 x3 (5 + 1 + r.val) q.val) := by
  unfold v35
  rw [hs0_B]
  exact rows_read a9.view i x2 x3 6 536 _ _ _ r q

theorem v39_B (r : Fin 536) (q : Fin 1024) :
    @Eq EReal (v39 c i a3 h3 a4 h4 a9 x2 x3 (ix2 r q)) (ext (i 0).val x2 x3 (6 + 1 + r.val) q.val) := by
  unfold v39
  rw [hs0_B]
  exact rows_read a9.view i x2 x3 7 536 _ _ _ r q

/-- The second scratch buffer holds the rows eight ways. -/
theorem hs1_B (y : S7x544x1024.Idx) (hy : (y 1).val < 536) :
    @Eq EReal (View.canon (HS1_7 c i a3 h3 a4 h4 a9 x2 x3) y) (planesA (ext (i 0).val x2 x3) y) := by
  unfold HS1_7
  exact planes_canon (ext (i 0).val x2 x3) _ _ _ _ _ _ _ _ _ _ _ _ _ _
    (fun r q => (pay6_at _ r q).trans (v15_B ..))
    (fun r q => (pay7_at _ r q).trans (v19_B ..))
    (fun r q => (pay8_at _ r q).trans (v23_B ..))
    (fun r q => (pay9_at _ r q).trans (v27_B ..))
    (fun r q => (pay10_at _ r q).trans (v31_B ..))
    (fun r q => (pay11_at _ r q).trans (v35_B ..))
    (fun r q => (pay12_at _ r q).trans (v39_B ..)) y hy

theorem v61_B :
    @Eq EReal (v61 c i a3 h3 a4 h4 a9 a10 x2 x3 (ix3 0 r q)) (ext (i 0).val x2 x3 (30 - 1 + r.val) q.val) := by
  unfold v61
  exact planes_read _ _ _ (hs1_B _ _ _ _ _ _ _ _ _) 4 24 _ (by omega) r q

theorem v394_B :
    @Eq EReal (v394 c i a3 h3 a4 h4 a9 a10 x2 x3 (ix3 0 r q)) (ext (i 0).val x2 x3 (30 - 25 + r.val) q.val) := by
  unfold v394
  exact planes_read _ _ _ (hs1_B _ _ _ _ _ _ _ _ _) 4 0 _ (by omega) r q

theorem v89_B :
    @Eq EReal (v89 c i a3 h3 a4 h4 a9 a10 x2 x3 (ix3 0 r q)) (ext (i 0).val x2 x3 (30 - 3 + r.val) q.val) := by
  unfold v89
  exact planes_read _ _ _ (hs1_B _ _ _ _ _ _ _ _ _) 2 24 _ (by omega) r q

theorem v172_B :
    @Eq EReal (v172 c i a3 h3 a4 h4 a9 a10 x2 x3 (ix3 0 r q)) (ext (i 0).val x2 x3 (30 - 9 + r.val) q.val) := by
  unfold v172
  exact planes_read _ _ _ (hs1_B _ _ _ _ _ _ _ _ _) 4 16 _ (by omega) r q

theorem v311_B :
    @Eq EReal (v311 c i a3 h3 a4 h4 a9 a10 x2 x3 (ix3 0 r q)) (ext (i 0).val x2 x3 (30 - 19 + r.val) q.val) := by
  unfold v311
  exact planes_read _ _ _ (hs1_B _ _ _ _ _ _ _ _ _) 2 8 _ (by omega) r q

theorem v255_B :
    @Eq EReal (v255 c i a3 h3 a4 h4 a9 a10 x2 x3 (ix3 0 r q)) (ext (i 0).val x2 x3 (30 - 15 + r.val) q.val) := by
  unfold v255
  exact planes_read _ _ _ (hs1_B _ _ _ _ _ _ _ _ _) 6 8 _ (by omega) r q

theorem v200_B :
    @Eq EReal (v200 c i a3 h3 a4 h4 a9 a10 x2 x3 (ix3 0 r q)) (ext (i 0).val x2 x3 (30 - 11 + r.val) q.val) := by
  unfold v200
  exact planes_read _ _ _ (hs1_B _ _ _ _ _ _ _ _ _) 2 16 _ (by omega) r q

theorem v366_B :
    @Eq EReal (v366 c i a3 h3 a4 h4 a9 a10 x2 x3 (ix3 0 r q)) (ext (i 0).val x2 x3 (30 - 23 + r.val) q.val) := by
  unfold v366
  exact planes_read _ _ _ (hs1_B _ _ _ _ _ _ _ _ _) 6 0 _ (by omega) r q

theorem v186_B :
    @Eq EReal (v186 c i a3 h3 a4 h4 a9 a10 x2 x3 (ix3 0 r q)) (ext (i 0).val x2 x3 (30 - 10 + r.val) q.val) := by
  unfold v186
  exact planes_read _ _ _ (hs1_B _ _ _ _ _ _ _ _ _) 3 16 _ (by omega) r q

theorem v325_B :
    @Eq EReal (v325 c i a3 h3 a4 h4 a9 a10 x2 x3 (ix3 0 r q)) (ext (i 0).val x2 x3 (30 - 20 + r.val) q.val) := by
  unfold v325
  exact planes_read _ _ _ (hs1_B _ _ _ _ _ _ _ _ _) 1 8 _ (by omega) r q

theorem v117_B :
    @Eq EReal (v117 c i a3 h3 a4 h4 a9 a10 x2 x3 (ix3 0 r q)) (ext (i 0).val x2 x3 (30 - 5 + r.val) q.val) := by
  unfold v117
  exact planes_read _ _ _ (hs1_B _ _ _ _ _ _ _ _ _) 0 24 _ (by omega) r q

theorem v75_B :
    @Eq EReal (v75 c i a3 h3 a4 h4 a9 a10 x2 x3 (ix3 0 r q)) (ext (i 0).val x2 x3 (30 - 2 + r.val) q.val) := by
  unfold v75
  exact planes_read _ _ _ (hs1_B _ _ _ _ _ _ _ _ _) 3 24 _ (by omega) r q

theorem v450_B :
    @Eq EReal (v450 c i a3 h3 a4 h4 a9 a10 x2 x3 (ix3 0 r q)) (ext (i 0).val x2 x3 (30 - 29 + r.val) q.val) := by
  unfold v450
  exact planes_read _ _ _ (hs1_B _ _ _ _ _ _ _ _ _) 0 0 _ (by omega) r q

theorem v144_B :
    @Eq EReal (v144 c i a3 h3 a4 h4 a9 a10 x2 x3 (ix3 0 r q)) (ext (i 0).val x2 x3 (30 - 7 + r.val) q.val) := by
  unfold v144
  exact planes_read _ _ _ (hs1_B _ _ _ _ _ _ _ _ _) 6 16 _ (by omega) r q

theorem v158_B :
    @Eq EReal (v158 c i a3 h3 a4 h4 a9 a10 x2 x3 (ix3 0 r q)) (ext (i 0).val x2 x3 (30 - 8 + r.val) q.val) := by
  unfold v158
  exact planes_read _ _ _ (hs1_B _ _ _ _ _ _ _ _ _) 5 16 _ (by omega) r q

theorem v47_B :
    @Eq EReal (v47 c i a3 h3 a4 h4 a9 a10 x2 x3 (ix3 0 r q)) (ext (i 0).val x2 x3 (30 - 0 + r.val) q.val) := by
  unfold v47
  exact planes_read _ _ _ (hs1_B _ _ _ _ _ _ _ _ _) 5 24 _ (by omega) r q

theorem v422_B :
    @Eq EReal (v422 c i a3 h3 a4 h4 a9 a10 x2 x3 (ix3 0 r q)) (ext (i 0).val x2 x3 (30 - 27 + r.val) q.val) := by
  unfold v422
  exact planes_read _ _ _ (hs1_B _ _ _ _ _ _ _ _ _) 2 0 _ (by omega) r q

theorem v436_B :
    @Eq EReal (v436 c i a3 h3 a4 h4 a9 a10 x2 x3 (ix3 0 r q)) (ext (i 0).val x2 x3 (30 - 28 + r.val) q.val) := by
  unfold v436
  exact planes_read _ _ _ (hs1_B _ _ _ _ _ _ _ _ _) 1 0 _ (by omega) r q

theorem v408_B :
    @Eq EReal (v408 c i a3 h3 a4 h4 a9 a10 x2 x3 (ix3 0 r q)) (ext (i 0).val x2 x3 (30 - 26 + r.val) q.val) := by
  unfold v408
  exact planes_read _ _ _ (hs1_B _ _ _ _ _ _ _ _ _) 3 0 _ (by omega) r q

theorem v380_B :
    @Eq EReal (v380 c i a3 h3 a4 h4 a9 a10 x2 x3 (ix3 0 r q)) (ext (i 0).val x2 x3 (30 - 24 + r.val) q.val) := by
  unfold v380
  exact planes_read _ _ _ (hs1_B _ _ _ _ _ _ _ _ _) 5 0 _ (by omega) r q

theorem v283_B :
    @Eq EReal (v283 c i a3 h3 a4 h4 a9 a10 x2 x3 (ix3 0 r q)) (ext (i 0).val x2 x3 (30 - 17 + r.val) q.val) := by
  unfold v283
  exact planes_read _ _ _ (hs1_B _ _ _ _ _ _ _ _ _) 4 8 _ (by omega) r q

theorem v297_B :
    @Eq EReal (v297 c i a3 h3 a4 h4 a9 a10 x2 x3 (ix3 0 r q)) (ext (i 0).val x2 x3 (30 - 18 + r.val) q.val) := by
  unfold v297
  exact planes_read _ _ _ (hs1_B _ _ _ _ _ _ _ _ _) 3 8 _ (by omega) r q

theorem v228_B :
    @Eq EReal (v228 c i a3 h3 a4 h4 a9 a10 x2 x3 (ix3 0 r q)) (ext (i 0).val x2 x3 (30 - 13 + r.val) q.val) := by
  unfold v228
  exact planes_read _ _ _ (hs1_B _ _ _ _ _ _ _ _ _) 0 16 _ (by omega) r q

theorem v269_B :
    @Eq EReal (v269 c i a3 h3 a4 h4 a9 a10 x2 x3 (ix3 0 r q)) (ext (i 0).val x2 x3 (30 - 16 + r.val) q.val) := by
  unfold v269
  exact planes_read _ _ _ (hs1_B _ _ _ _ _ _ _ _ _) 5 8 _ (by omega) r q

theorem v339_B :
    @Eq EReal (v339 c i a3 h3 a4 h4 a9 a10 x2 x3 (ix3 0 r q)) (ext (i 0).val x2 x3 (30 - 21 + r.val) q.val) := by
  unfold v339
  exact planes_read _ _ _ (hs1_B _ _ _ _ _ _ _ _ _) 0 8 _ (by omega) r q

theorem v214_B :
    @Eq EReal (v214 c i a3 h3 a4 h4 a9 a10 x2 x3 (ix3 0 r q)) (ext (i 0).val x2 x3 (30 - 12 + r.val) q.val) := by
  unfold v214
  exact planes_read _ _ _ (hs1_B _ _ _ _ _ _ _ _ _) 1 16 _ (by omega) r q

theorem v103_B :
    @Eq EReal (v103 c i a3 h3 a4 h4 a9 a10 x2 x3 (ix3 0 r q)) (ext (i 0).val x2 x3 (30 - 4 + r.val) q.val) := by
  unfold v103
  exact planes_read _ _ _ (hs1_B _ _ _ _ _ _ _ _ _) 1 24 _ (by omega) r q

/-- The window of tap 29, as rows. -/
theorem r_30_B :
    @Eq EReal (r_30 c i a3 h3 a4 h4 a9 a10 x2 x3 (ix2 r q)) (ext (i 0).val x2 x3 (30 - 29 + r.val) q.val) := by
  unfold r_30
  exact (pay91_at _ r q).trans (v450_B ..)

/-- The window of tap 5, as rows. -/
theorem r_9_B :
    @Eq EReal (r_9 c i a3 h3 a4 h4 a9 a10 x2 x3 (ix2 r q)) (ext (i 0).val x2 x3 (30 - 5 + r.val) q.val) := by
  unfold r_9
  exact (pay30_at _ r q).trans (v117_B ..)

/-- The window of tap 24, as rows. -/
theorem r_25_B :
    @Eq EReal (r_25 c i a3 h3 a4 h4 a9 a10 x2 x3 (ix2 r q)) (ext (i 0).val x2 x3 (30 - 24 + r.val) q.val) := by
  unfold r_25
  exact (pay77_at _ r q).trans (v380_B ..)

/-- The window of tap 0, as rows. -/
theorem r_3_B :
    @Eq EReal (r_3 c i a3 h3 a4 h4 a9 a10 x2 x3 (ix2 r q)) (ext (i 0).val x2 x3 (30 - 0 + r.val) q.val) := by
  unfold r_3
  exact (pay15_at _ r q).trans (v47_B ..)

/-- The window of tap 17, as rows. -/
theorem r_19_B :
    @Eq EReal (r_19 c i a3 h3 a4 h4 a9 a10 x2 x3 (ix2 r q)) (ext (i 0).val x2 x3 (30 - 17 + r.val) q.val) := by
  unfold r_19
  exact (pay59_at _ r q).trans (v283_B ..)

/-- The window of tap 12, as rows. -/
theorem r_14_B :
    @Eq EReal (r_14 c i a3 h3 a4 h4 a9 a10 x2 x3 (ix2 r q)) (ext (i 0).val x2 x3 (30 - 12 + r.val) q.val) := by
  unfold r_14
  exact (pay47_at _ r q).trans (v214_B ..)

/-- The weights of tap 0. -/
theorem r_4_B :
    @Eq EReal (r_4 c a5 h5 x4 (ix2 r q)) (rd x4 0 q.val) := by
  unfold r_4
  exact (pay16_at _ r q).trans (row_at a5 h5 x4 0 _ q)

/-- The weights of tap 17. -/
theorem r_20_B :
    @Eq EReal (r_20 c a5 h5 x4 (ix2 0 q)) (rd x4 17 q.val) := by
  unfold r_20
  exact (pay60_at _ q).trans (row_at a5 h5 x4 17 _ q)

/-- The first 3 taps' part of the gradient of the gated rows. -/
theorem r_5_B :
    @Eq EReal (r_5 c i a3 h3 a4 h4 a5 h5 a9 a10 x2 x3 x4 (ix2 r q)) (taps x4 (ext (i 0).val x2 x3) 3 r.val q.val) := by
  unfold r_5
  rw [taps_succ _ _ 2, taps_succ _ _ 1, taps_succ _ _ 0, taps_zero]
  refine (pay21_at _ _ _ _ _ _ _ r q).trans ?_
  rw [row_at a5 h5 x4 1, row_at a5 h5 x4 2]
  simp only [r_3_B, r_4_B, v61_B, v75_B, pay14_at]

/-- The first 5 taps' part of the gradient of the gated rows. -/
theorem r_8_B :
    @Eq EReal (r_8 c i a3 h3 a4 h4 a5 h5 a9 a10 x2 x3 x4 (ix2 r q)) (taps x4 (ext (i 0).val x2 x3) 5 r.val q.val) := by
  unfold r_8
  rw [taps_succ _ _ 4, taps_succ _ _ 3]
  refine (pay28_at _ _ _ _ _ r q).trans ?_
  rw [row_at a5 h5 x4 3, row_at a5 h5 x4 4]
  simp only [r_5_B, v89_B, v103_B]

/-- The first 8 taps' part of the gradient of the gated rows. -/
theorem r_10_B :
    @Eq EReal (r_10 c i a3 h3 a4 h4 a5 h5 a9 a10 x2 x3 x4 (ix2 r q)) (taps x4 (ext (i 0).val x2 x3) 8 r.val q.val) := by
  unfold r_10
  rw [taps_succ _ _ 7, taps_succ _ _ 6, taps_succ _ _ 5]
  refine (pay34_at _ _ _ _ _ _ _ r q).trans ?_
  rw [row_at a5 h5 x4 5, row_at a5 h5 x4 6, row_at a5 h5 x4 7]
  simp only [r_8_B, r_9_B, v131_B, v144_B]

/-- The first 10 taps' part of the gradient of the gated rows. -/
theorem r_13_B :
    @Eq EReal (r_13 c i a3 h3 a4 h4 a5 h5 a9 a10 x2 x3 x4 (ix2 r q)) (taps x4 (ext (i 0).val x2 x3) 10 r.val q.val) := by
  unfold r_13
  rw [taps_succ _ _ 9, taps_succ _ _ 8]
  refine (pay41_at _ _ _ _ _ r q).trans ?_
  rw [row_at a5 h5 x4 8, row_at a5 h5 x4 9]
  simp only [r_10_B, v158_B, v172_B]

/-- The first 13 taps' part of the gradient of the gated rows. -/
theorem r_15_B :
    @Eq EReal (r_15 c i a3 h3 a4 h4 a5 h5 a9 a10 x2 x3 x4 (ix2 r q)) (taps x4 (ext (i 0).val x2 x3) 13 r.val q.val) := by
  unfold r_15
  rw [taps_succ _ _ 12, taps_succ _ _ 11, taps_succ _ _ 10]
  refine (pay48_at _ _ _ _ _ _ _ r q).trans ?_
  rw [row_at a5 h5 x4 10, row_at a5 h5 x4 11, row_at a5 h5 x4 12]
  simp only [r_13_B, v186_B, v200_B, v214_B]

/-- The first 15 taps' part of the gradient of the gated rows. -/
theorem r_16_B :
    @Eq EReal (r_16 c i a3 h3 a4 h4 a5 h5 a9 a10 x2 x3 x4 (ix2 r q)) (taps x4 (ext (i 0).val x2 x3) 15 r.val q.val) := by
  unfold r_16
  rw [taps_succ _ _ 14, taps_succ _ _ 13]
  refine (pay52_at _ _ _ _ _ r q).trans ?_
  rw [row_at a5 h5 x4 13, row_at a5 h5 x4 14]
  simp only [r_15_B, v228_B, v242_B]

/-- The first 17 taps' part of the gradient of the gated rows. -/
theorem r_18_B :
    @Eq EReal (r_18 c i a3 h3 a4 h4 a5 h5 a9 a10 x2 x3 x4 (ix2 r q)) (taps x4 (ext (i 0).val x2 x3) 17 r.val q.val) := by
  unfold r_18
  rw [taps_succ _ _ 16, taps_succ _ _ 15]
  refine (pay57_at _ _ _ _ _ r q).trans ?_
  rw [row_at a5 h5 x4 15, row_at a5 h5 x4 16]
  simp only [r_16_B, v255_B, v269_B]

/-- The first 20 taps' part of the gradient of the gated rows. -/
theorem r_21_B :
    @Eq EReal (r_21 c i a3 h3 a4 h4 a5 h5 a9 a10 x2 x3 x4 (ix2 r q)) (taps x4 (ext (i 0).val x2 x3) 20 r.val q.val) := by
  unfold r_21
  rw [taps_succ _ _ 19, taps_succ _ _ 18, taps_succ _ _ 17]
  refine (pay65_at _ _ _ _ _ _ _ r q).trans ?_
  rw [row_at a5 h5 x4 18, row_at a5 h5 x4 19]
  simp only [r_18_B, r_19_B, r_20_B, v297_B, v311_B]

/-- The first 22 taps' part of the gradient of the gated rows. -/
theorem r_24_B :
    @Eq EReal (r_24 c i a3 h3 a4 h4 a5 h5 a9 a10 x2 x3 x4 (ix2 r q)) (taps x4 (ext (i 0).val x2 x3) 22 r.val q.val) := by
  unfold r_24
  rw [taps_succ _ _ 21, taps_succ _ _ 20]
  refine (pay72_at _ _ _ _ _ r q).trans ?_
  rw [row_at a5 h5 x4 20, row_at a5 h5 x4 21]
  simp only [r_21_B, v325_B, v339_B]

/-- The first 25 taps' part of the gradient of the gated rows. -/
theorem r_26_B :
    @Eq EReal (r_26 c i a3 h3 a4 h4 a5 h5 a9 a10 x2 x3 x4 (ix2 r q)) (taps x4 (ext (i 0).val x2 x3) 25 r.val q.val) := by
  unfold r_26
  rw [taps_succ _ _ 24, taps_succ _ _ 23, taps_succ _ _ 22]
  refine (pay78_at _ _ _ _ _ _ _ r q).trans ?_
  rw [row_at a5 h5 x4 22, row_at a5 h5 x4 23, row_at a5 h5 x4 24]
  simp only [r_24_B, v353_B, v366_B, v380_B]

/-- The first 27 taps' part of the gradient of the gated rows. -/
theorem r_28_B :
    @Eq EReal (r_28 c i a3 h3 a4 h4 a5 h5 a9 a10 x2 x3 x4 (ix2 r q)) (taps x4 (ext (i 0).val x2 x3) 27 r.val q.val) := by
  unfold r_28
  rw [taps_succ _ _ 26, taps_succ _ _ 25]
  refine (pay84_at _ _ _ _ _ r q).trans ?_
  rw [row_at a5 h5 x4 25, row_at a5 h5 x4 26]
  simp only [r_26_B, v394_B, v408_B]

/-- The first 29 taps' part of the gradient of the gated rows. -/
theorem r_29_B :
    @Eq EReal (r_29 c i a3 h3 a4 h4 a5 h5 a9 a10 x2 x3 x4 (ix2 r q)) (taps x4 (ext (i 0).val x2 x3) 29 r.val q.val) := by
  unfold r_29
  rw [taps_succ _ _ 28, taps_succ _ _ 27]
  refine (pay89_at _ _ _ _ _ r q).trans ?_
  rw [row_at a5 h5 x4 27, row_at a5 h5 x4 28]
  simp only [r_28_B, v422_B, v436_B]

/-- The gradient of the gated rows, its last two taps added. -/
theorem du_B (h) :
    @Eq EReal (r_29 c i a3 h3 a4 h4 a5 h5 a9 a10 x2 x3 x4 (ix2 r q) + r_31 c i a3 h3 a4 h4 a5 h5 a9 a10 x2 x3 x4 (ix2 r q)
        + View.readAt (Elt Ideal) a5.view (Rect.unit (s := S32x1024) ![30, 0] S1x1024.size h).toLoadRect (h5.unread x4) (ix2 0 q) * v464 c i a3 h3 a4 h4 a9 x2 x3 (ix2 r q))
      (taps x4 (ext (i 0).val x2 x3) 31 r.val q.val) := by
  unfold r_31
  rw [taps_succ _ _ 30, taps_succ _ _ 29]
  rw [pay92_at, row_at a5 h5 x4 29, row_at a5 h5 x4 30]
  simp only [r_29_B, v450_B, v464_B]

/-- The gate. -/
theorem r_1_B :
    r_1 c a2 h2 x1 = k0_pay2 x1 := by
  unfold r_1
  simp only [View.readAt_eq_ld, h2.read_unread, View.ld_unit_zero (S := S512x1024) off2]

/-- The gated rows. -/
theorem r_2_B :
    @Eq EReal (r_2 c a1 h1 a2 h2 x0 x1 (ix2 r q)) (gated x0 x1 r.val q.val) := by
  unfold r_2
  simp only [View.readAt_eq_ld, h1.read_unread, h2.read_unread, View.ld_unit_zero (S := S512x1024) off2]
  exact (pay3_at x0 x1 r q).trans (gated_at x0 x1 r q).symm

/-- The block of values. -/
theorem r_B :
    kernelRun0_B.sl.r c a1 h1 x0 = x0 := by
  unfold kernelRun0_B.sl.r
  simp only [View.readAt_eq_ld, h1.read_unread, View.ld_unit_zero (S := S512x1024) off2]

/-- The first output's block: the gradient of the values. -/
theorem dcv_B (h) :
    @Eq EReal (k0_pay96 (r_1 c a2 h2 x1) (r_29 c i a3 h3 a4 h4 a5 h5 a9 a10 x2 x3 x4) (r_31 c i a3 h3 a4 h4 a5 h5 a9 a10 x2 x3 x4) (v464 c i a3 h3 a4 h4 a9 x2 x3)
        (View.readAt (Elt Ideal) a5.view (Rect.unit (s := S32x1024) ![30, 0] S1x1024.size h).toLoadRect (h5.unread x4)) (ix2 r q))
      (taps x4 (ext (i 0).val x2 x3) 31 r.val q.val * Ideal.logistic (x1 (ix2 r q))) := by
  refine (pay96_at _ _ _ _ _ r q).trans ?_
  rw [du_B, r_1_B, pay2_at]

/-- The second output's block: the gradient of the gates. -/
theorem dcg_B :
    @Eq EReal (k0_pay1 (r_1 c a2 h2 x1) (r_32 c i a1 h1 a2 h2 a3 h3 a4 h4 a5 h5 a9 a10 x0 x1 x2 x3 x4) cst_325 (ix2 r q))
      (taps x4 (ext (i 0).val x2 x3) 31 r.val q.val * x0 (ix2 r q) * Ideal.logistic (x1 (ix2 r q)) * (1 - Ideal.logistic (x1 (ix2 r q)))) := by
  refine (pay1_at _ _ _ r q).trans ?_
  unfold r_32 cst_325
  rw [pay97_at, du_B, r_1_B, r_B, pay2_at]
  exact congrArg (fun z : EReal => _ * (z - _)) Ideal.ofBits_one_f32

/-- The row stored for tap 0. -/
theorem dw0_B :
    @Eq EReal (k0_pay17 (r_2 c a1 h1 a2 h2 x0 x1) (r_3 c i a3 h3 a4 h4 a9 a10 x2 x3) (View.readAt (Elt Ideal) a8.view (Rect.unit (s := S32x1024) ![0, 0] S1x1024.size inb_S32x1024_S1x1024_0_0).toLoadRect (h8.unread xo7)) (ix2 0 q)) (rd xo7 0 q.val + tapw x0 x1 (ext (i 0).val x2 x3) 0 q.val) := by
  rw [pay17_at, row_at a8 h8 xo7 0]
  simp only [pay17_at, r_2_B, r_3_B]
  rfl

/-- The row of tap 1 before it is stored. -/
theorem v68_B : @Eq EReal (v68 c a8 h8 xo7 (ix2 0 q)) (rd xo7 1 q.val) := by
  unfold v68
  exact row_at a8 h8 xo7 1 _ q

/-- The row stored for tap 1. -/
theorem dw1_B :
    @Eq EReal (k0_pay19 (r_2 c a1 h1 a2 h2 x0 x1) (v61 c i a3 h3 a4 h4 a9 a10 x2 x3) (v68 c a8 h8 xo7) (ix2 0 q)) (rd xo7 1 q.val + tapw x0 x1 (ext (i 0).val x2 x3) 1 q.val) := by
  simp only [pay19_at, r_2_B, v61_B, v68_B]
  rfl

/-- The row of tap 2 before it is stored. -/
theorem v82_B : @Eq EReal (v82 c a8 h8 xo7 (ix2 0 q)) (rd xo7 2 q.val) := by
  unfold v82
  exact row_at a8 h8 xo7 2 _ q

/-- The row stored for tap 2. -/
theorem dw2_B :
    @Eq EReal (k0_pay24 (r_6 c a8 h8 xo7) (r_7 c i a1 h1 a2 h2 a3 h3 a4 h4 a9 a10 x0 x1 x2 x3) (ix2 0 q)) (rd xo7 2 q.val + tapw x0 x1 (ext (i 0).val x2 x3) 2 q.val) := by
  unfold r_6 r_7
  simp only [pay22_at, pay23_at, pay24_at, r_2_B, v75_B, v82_B]
  rfl

/-- The row of tap 3 before it is stored. -/
theorem v96_B : @Eq EReal (v96 c a8 h8 xo7 (ix2 0 q)) (rd xo7 3 q.val) := by
  unfold v96
  exact row_at a8 h8 xo7 3 _ q

/-- The row stored for tap 3. -/
theorem dw3_B :
    @Eq EReal (k0_pay26 (r_2 c a1 h1 a2 h2 x0 x1) (v89 c i a3 h3 a4 h4 a9 a10 x2 x3) (v96 c a8 h8 xo7) (ix2 0 q)) (rd xo7 3 q.val + tapw x0 x1 (ext (i 0).val x2 x3) 3 q.val) := by
  simp only [pay26_at, r_2_B, v89_B, v96_B]
  rfl

/-- The row of tap 4 before it is stored. -/
theorem v110_B : @Eq EReal (v110 c a8 h8 xo7 (ix2 0 q)) (rd xo7 4 q.val) := by
  unfold v110
  exact row_at a8 h8 xo7 4 _ q

/-- The row stored for tap 4. -/
theorem dw4_B :
    @Eq EReal (k0_pay29 (r_2 c a1 h1 a2 h2 x0 x1) (v103 c i a3 h3 a4 h4 a9 a10 x2 x3) (v110 c a8 h8 xo7) (ix2 0 q)) (rd xo7 4 q.val + tapw x0 x1 (ext (i 0).val x2 x3) 4 q.val) := by
  simp only [pay29_at, r_2_B, v103_B, v110_B]
  rfl

/-- The row of tap 5 before it is stored. -/
theorem v124_B : @Eq EReal (v124 c a8 h8 xo7 (ix2 0 q)) (rd xo7 5 q.val) := by
  unfold v124
  exact row_at a8 h8 xo7 5 _ q

/-- The row stored for tap 5. -/
theorem dw5_B :
    @Eq EReal (k0_pay31 (r_2 c a1 h1 a2 h2 x0 x1) (r_9 c i a3 h3 a4 h4 a9 a10 x2 x3) (v124 c a8 h8 xo7) (ix2 0 q)) (rd xo7 5 q.val + tapw x0 x1 (ext (i 0).val x2 x3) 5 q.val) := by
  simp only [pay31_at, r_2_B, r_9_B, v124_B]
  rfl

/-- The row of tap 6 before it is stored. -/
theorem v137_B : @Eq EReal (v137 c a8 h8 xo7 (ix2 0 q)) (rd xo7 6 q.val) := by
  unfold v137
  exact row_at a8 h8 xo7 6 _ q

/-- The row stored for tap 6. -/
theorem dw6_B :
    @Eq EReal (k0_pay32 (r_2 c a1 h1 a2 h2 x0 x1) (v131 c i a3 h3 a4 h4 a9 x2 x3) (v137 c a8 h8 xo7) (ix2 0 q)) (rd xo7 6 q.val + tapw x0 x1 (ext (i 0).val x2 x3) 6 q.val) := by
  simp only [pay32_at, r_2_B, v131_B, v137_B]
  rfl

/-- The row of tap 7 before it is stored. -/
theorem v151_B : @Eq EReal (v151 c a8 h8 xo7 (ix2 0 q)) (rd xo7 7 q.val) := by
  unfold v151
  exact row_at a8 h8 xo7 7 _ q

/-- The row stored for tap 7. -/
theorem dw7_B :
    @Eq EReal (k0_pay37 (r_11 c a8 h8 xo7) (r_12 c i a1 h1 a2 h2 a3 h3 a4 h4 a9 a10 x0 x1 x2 x3) (ix2 0 q)) (rd xo7 7 q.val + tapw x0 x1 (ext (i 0).val x2 x3) 7 q.val) := by
  unfold r_11 r_12
  simp only [pay35_at, pay36_at, pay37_at, r_2_B, v144_B, v151_B]
  rfl

/-- The row of tap 8 before it is stored. -/
theorem v165_B : @Eq EReal (v165 c a8 h8 xo7 (ix2 0 q)) (rd xo7 8 q.val) := by
  unfold v165
  exact row_at a8 h8 xo7 8 _ q

/-- The row stored for tap 8. -/
theorem dw8_B :
    @Eq EReal (k0_pay39 (r_2 c a1 h1 a2 h2 x0 x1) (v158 c i a3 h3 a4 h4 a9 a10 x2 x3) (v165 c a8 h8 xo7) (ix2 0 q)) (rd xo7 8 q.val + tapw x0 x1 (ext (i 0).val x2 x3) 8 q.val) := by
  simp only [pay39_at, r_2_B, v158_B, v165_B]
  rfl

/-- The row of tap 9 before it is stored. -/
theorem v179_B : @Eq EReal (v179 c a8 h8 xo7 (ix2 0 q)) (rd xo7 9 q.val) := by
  unfold v179
  exact row_at a8 h8 xo7 9 _ q

/-- The row stored for tap 9. -/
theorem dw9_B :
    @Eq EReal (k0_pay42 (r_2 c a1 h1 a2 h2 x0 x1) (v172 c i a3 h3 a4 h4 a9 a10 x2 x3) (v179 c a8 h8 xo7) (ix2 0 q)) (rd xo7 9 q.val + tapw x0 x1 (ext (i 0).val x2 x3) 9 q.val) := by
  simp only [pay42_at, r_2_B, v172_B, v179_B]
  rfl

/-- The row of tap 10 before it is stored. -/
theorem v193_B : @Eq EReal (v193 c a8 h8 xo7 (ix2 0 q)) (rd xo7 10 q.val) := by
  unfold v193
  exact row_at a8 h8 xo7 10 _ q

/-- The row stored for tap 10. -/
theorem dw10_B :
    @Eq EReal (k0_pay44 (r_2 c a1 h1 a2 h2 x0 x1) (v186 c i a3 h3 a4 h4 a9 a10 x2 x3) (v193 c a8 h8 xo7) (ix2 0 q)) (rd xo7 10 q.val + tapw x0 x1 (ext (i 0).val x2 x3) 10 q.val) := by
  simp only [pay44_at, r_2_B, v186_B, v193_B]
  rfl

/-- The row of tap 11 before it is stored. -/
theorem v207_B : @Eq EReal (v207 c a8 h8 xo7 (ix2 0 q)) (rd xo7 11 q.val) := by
  unfold v207
  exact row_at a8 h8 xo7 11 _ q

/-- The row stored for tap 11. -/
theorem dw11_B :
    @Eq EReal (k0_pay46 (r_2 c a1 h1 a2 h2 x0 x1) (v200 c i a3 h3 a4 h4 a9 a10 x2 x3) (v207 c a8 h8 xo7) (ix2 0 q)) (rd xo7 11 q.val + tapw x0 x1 (ext (i 0).val x2 x3) 11 q.val) := by
  simp only [pay46_at, r_2_B, v200_B, v207_B]
  rfl

/-- The row of tap 12 before it is stored. -/
theorem v221_B : @Eq EReal (v221 c a8 h8 xo7 (ix2 0 q)) (rd xo7 12 q.val) := by
  unfold v221
  exact row_at a8 h8 xo7 12 _ q

/-- The row stored for tap 12. -/
theorem dw12_B :
    @Eq EReal (k0_pay49 (r_2 c a1 h1 a2 h2 x0 x1) (r_14 c i a3 h3 a4 h4 a9 a10 x2 x3) (v221 c a8 h8 xo7) (ix2 0 q)) (rd xo7 12 q.val + tapw x0 x1 (ext (i 0).val x2 x3) 12 q.val) := by
  simp only [pay49_at, r_2_B, r_14_B, v221_B]
  rfl

/-- The row of tap 13 before it is stored. -/
theorem v235_B : @Eq EReal (v235 c a8 h8 xo7 (ix2 0 q)) (rd xo7 13 q.val) := by
  unfold v235
  exact row_at a8 h8 xo7 13 _ q

/-- The row stored for tap 13. -/
theorem dw13_B :
    @Eq EReal (k0_pay51 (r_2 c a1 h1 a2 h2 x0 x1) (v228 c i a3 h3 a4 h4 a9 a10 x2 x3) (v235 c a8 h8 xo7) (ix2 0 q)) (rd xo7 13 q.val + tapw x0 x1 (ext (i 0).val x2 x3) 13 q.val) := by
  simp only [pay51_at, r_2_B, v228_B, v235_B]
  rfl

/-- The row of tap 14 before it is stored. -/
theorem v248_B : @Eq EReal (v248 c a8 h8 xo7 (ix2 0 q)) (rd xo7 14 q.val) := by
  unfold v248
  exact row_at a8 h8 xo7 14 _ q

/-- The row stored for tap 14. -/
theorem dw14_B :
    @Eq EReal ((r_17 c i a1 h1 a2 h2 a3 h3 a4 h4 a8 h8 a9 x0 x1 x2 x3 xo7) (ix2 0 q)) (rd xo7 14 q.val + tapw x0 x1 (ext (i 0).val x2 x3) 14 q.val) := by
  unfold r_17
  simp only [pay53_at, r_2_B, v242_B, v248_B]
  rfl

/-- The row of tap 15 before it is stored. -/
theorem v262_B : @Eq EReal (v262 c a8 h8 xo7 (ix2 0 q)) (rd xo7 15 q.val) := by
  unfold v262
  exact row_at a8 h8 xo7 15 _ q

/-- The row stored for tap 15. -/
theorem dw15_B :
    @Eq EReal (k0_pay55 (r_2 c a1 h1 a2 h2 x0 x1) (v255 c i a3 h3 a4 h4 a9 a10 x2 x3) (v262 c a8 h8 xo7) (ix2 0 q)) (rd xo7 15 q.val + tapw x0 x1 (ext (i 0).val x2 x3) 15 q.val) := by
  simp only [pay55_at, r_2_B, v255_B, v262_B]
  rfl

/-- The row of tap 16 before it is stored. -/
theorem v276_B : @Eq EReal (v276 c a8 h8 xo7 (ix2 0 q)) (rd xo7 16 q.val) := by
  unfold v276
  exact row_at a8 h8 xo7 16 _ q

/-- The row stored for tap 16. -/
theorem dw16_B :
    @Eq EReal (k0_pay58 (r_2 c a1 h1 a2 h2 x0 x1) (v269 c i a3 h3 a4 h4 a9 a10 x2 x3) (v276 c a8 h8 xo7) (ix2 0 q)) (rd xo7 16 q.val + tapw x0 x1 (ext (i 0).val x2 x3) 16 q.val) := by
  simp only [pay58_at, r_2_B, v269_B, v276_B]
  rfl

/-- The row of tap 17 before it is stored. -/
theorem v290_B : @Eq EReal (v290 c a8 h8 xo7 (ix2 0 q)) (rd xo7 17 q.val) := by
  unfold v290
  exact row_at a8 h8 xo7 17 _ q

/-- The row stored for tap 17. -/
theorem dw17_B :
    @Eq EReal (k0_pay61 (r_2 c a1 h1 a2 h2 x0 x1) (r_19 c i a3 h3 a4 h4 a9 a10 x2 x3) (v290 c a8 h8 xo7) (ix2 0 q)) (rd xo7 17 q.val + tapw x0 x1 (ext (i 0).val x2 x3) 17 q.val) := by
  simp only [pay61_at, r_2_B, r_19_B, v290_B]
  rfl

/-- The row of tap 18 before it is stored. -/
theorem v304_B : @Eq EReal (v304 c a8 h8 xo7 (ix2 0 q)) (rd xo7 18 q.val) := by
  unfold v304
  exact row_at a8 h8 xo7 18 _ q

/-- The row stored for tap 18. -/
theorem dw18_B :
    @Eq EReal (k0_pay63 (r_2 c a1 h1 a2 h2 x0 x1) (v297 c i a3 h3 a4 h4 a9 a10 x2 x3) (v304 c a8 h8 xo7) (ix2 0 q)) (rd xo7 18 q.val + tapw x0 x1 (ext (i 0).val x2 x3) 18 q.val) := by
  simp only [pay63_at, r_2_B, v297_B, v304_B]
  rfl

/-- The row of tap 19 before it is stored. -/
theorem v318_B : @Eq EReal (v318 c a8 h8 xo7 (ix2 0 q)) (rd xo7 19 q.val) := by
  unfold v318
  exact row_at a8 h8 xo7 19 _ q

/-- The row stored for tap 19. -/
theorem dw19_B :
    @Eq EReal (k0_pay68 (r_22 c a8 h8 xo7) (r_23 c i a1 h1 a2 h2 a3 h3 a4 h4 a9 a10 x0 x1 x2 x3) (ix2 0 q)) (rd xo7 19 q.val + tapw x0 x1 (ext (i 0).val x2 x3) 19 q.val) := by
  unfold r_22 r_23
  simp only [pay66_at, pay67_at, pay68_at, r_2_B, v311_B, v318_B]
  rfl

/-- The row of tap 20 before it is stored. -/
theorem v332_B : @Eq EReal (v332 c a8 h8 xo7 (ix2 0 q)) (rd xo7 20 q.val) := by
  unfold v332
  exact row_at a8 h8 xo7 20 _ q

/-- The row stored for tap 20. -/
theorem dw20_B :
    @Eq EReal (k0_pay70 (r_2 c a1 h1 a2 h2 x0 x1) (v325 c i a3 h3 a4 h4 a9 a10 x2 x3) (v332 c a8 h8 xo7) (ix2 0 q)) (rd xo7 20 q.val + tapw x0 x1 (ext (i 0).val x2 x3) 20 q.val) := by
  simp only [pay70_at, r_2_B, v325_B, v332_B]
  rfl

/-- The row of tap 21 before it is stored. -/
theorem v346_B : @Eq EReal (v346 c a8 h8 xo7 (ix2 0 q)) (rd xo7 21 q.val) := by
  unfold v346
  exact row_at a8 h8 xo7 21 _ q

/-- The row stored for tap 21. -/
theorem dw21_B :
    @Eq EReal (k0_pay73 (r_2 c a1 h1 a2 h2 x0 x1) (v339 c i a3 h3 a4 h4 a9 a10 x2 x3) (v346 c a8 h8 xo7) (ix2 0 q)) (rd xo7 21 q.val + tapw x0 x1 (ext (i 0).val x2 x3) 21 q.val) := by
  simp only [pay73_at, r_2_B, v339_B, v346_B]
  rfl

/-- The row of tap 22 before it is stored. -/
theorem v359_B : @Eq EReal (v359 c a8 h8 xo7 (ix2 0 q)) (rd xo7 22 q.val) := by
  unfold v359
  exact row_at a8 h8 xo7 22 _ q

/-- The row stored for tap 22. -/
theorem dw22_B :
    @Eq EReal (k0_pay74 (r_2 c a1 h1 a2 h2 x0 x1) (v353 c i a3 h3 a4 h4 a9 x2 x3) (v359 c a8 h8 xo7) (ix2 0 q)) (rd xo7 22 q.val + tapw x0 x1 (ext (i 0).val x2 x3) 22 q.val) := by
  simp only [pay74_at, r_2_B, v353_B, v359_B]
  rfl

/-- The row of tap 23 before it is stored. -/
theorem v373_B : @Eq EReal (v373 c a8 h8 xo7 (ix2 0 q)) (rd xo7 23 q.val) := by
  unfold v373
  exact row_at a8 h8 xo7 23 _ q

/-- The row stored for tap 23. -/
theorem dw23_B :
    @Eq EReal (k0_pay76 (r_2 c a1 h1 a2 h2 x0 x1) (v366 c i a3 h3 a4 h4 a9 a10 x2 x3) (v373 c a8 h8 xo7) (ix2 0 q)) (rd xo7 23 q.val + tapw x0 x1 (ext (i 0).val x2 x3) 23 q.val) := by
  simp only [pay76_at, r_2_B, v366_B, v373_B]
  rfl

/-- The row of tap 24 before it is stored. -/
theorem v387_B : @Eq EReal (v387 c a8 h8 xo7 (ix2 0 q)) (rd xo7 24 q.val) := by
  unfold v387
  exact row_at a8 h8 xo7 24 _ q

/-- The row stored for tap 24. -/
theorem dw24_B :
    @Eq EReal (k0_pay80 (r_2 c a1 h1 a2 h2 x0 x1) (r_25 c i a3 h3 a4 h4 a9 a10 x2 x3) (r_27 c a8 h8 xo7) (ix2 0 q)) (rd xo7 24 q.val + tapw x0 x1 (ext (i 0).val x2 x3) 24 q.val) := by
  unfold r_27
  simp only [pay79_at, pay80_at, r_2_B, r_25_B, v387_B]
  rfl

/-- The row of tap 25 before it is stored. -/
theorem v401_B : @Eq EReal (v401 c a8 h8 xo7 (ix2 0 q)) (rd xo7 25 q.val) := by
  unfold v401
  exact row_at a8 h8 xo7 25 _ q

/-- The row stored for tap 25. -/
theorem dw25_B :
    @Eq EReal (k0_pay82 (r_2 c a1 h1 a2 h2 x0 x1) (v394 c i a3 h3 a4 h4 a9 a10 x2 x3) (v401 c a8 h8 xo7) (ix2 0 q)) (rd xo7 25 q.val + tapw x0 x1 (ext (i 0).val x2 x3) 25 q.val) := by
  simp only [pay82_at, r_2_B, v394_B, v401_B]
  rfl

/-- The row of tap 26 before it is stored. -/
theorem v415_B : @Eq EReal (v415 c a8 h8 xo7 (ix2 0 q)) (rd xo7 26 q.val) := by
  unfold v415
  exact row_at a8 h8 xo7 26 _ q

/-- The row stored for tap 26. -/
theorem dw26_B :
    @Eq EReal (k0_pay85 (r_2 c a1 h1 a2 h2 x0 x1) (v408 c i a3 h3 a4 h4 a9 a10 x2 x3) (v415 c a8 h8 xo7) (ix2 0 q)) (rd xo7 26 q.val + tapw x0 x1 (ext (i 0).val x2 x3) 26 q.val) := by
  simp only [pay85_at, r_2_B, v408_B, v415_B]
  rfl

/-- The row of tap 27 before it is stored. -/
theorem v429_B : @Eq EReal (v429 c a8 h8 xo7 (ix2 0 q)) (rd xo7 27 q.val) := by
  unfold v429
  exact row_at a8 h8 xo7 27 _ q

/-- The row stored for tap 27. -/
theorem dw27_B :
    @Eq EReal (k0_pay87 (r_2 c a1 h1 a2 h2 x0 x1) (v422 c i a3 h3 a4 h4 a9 a10 x2 x3) (v429 c a8 h8 xo7) (ix2 0 q)) (rd xo7 27 q.val + tapw x0 x1 (ext (i 0).val x2 x3) 27 q.val) := by
  simp only [pay87_at, r_2_B, v422_B, v429_B]
  rfl

/-- The row of tap 28 before it is stored. -/
theorem v443_B : @Eq EReal (v443 c a8 h8 xo7 (ix2 0 q)) (rd xo7 28 q.val) := by
  unfold v443
  exact row_at a8 h8 xo7 28 _ q

/-- The row stored for tap 28. -/
theorem dw28_B :
    @Eq EReal (k0_pay90 (r_2 c a1 h1 a2 h2 x0 x1) (v436 c i a3 h3 a4 h4 a9 a10 x2 x3) (v443 c a8 h8 xo7) (ix2 0 q)) (rd xo7 28 q.val + tapw x0 x1 (ext (i 0).val x2 x3) 28 q.val) := by
  simp only [pay90_at, r_2_B, v436_B, v443_B]
  rfl

/-- The row of tap 29 before it is stored. -/
theorem v457_B : @Eq EReal (v457 c a8 h8 xo7 (ix2 0 q)) (rd xo7 29 q.val) := by
  unfold v457
  exact row_at a8 h8 xo7 29 _ q

/-- The row stored for tap 29. -/
theorem dw29_B :
    @Eq EReal (k0_pay93 (r_2 c a1 h1 a2 h2 x0 x1) (r_30 c i a3 h3 a4 h4 a9 a10 x2 x3) (v457 c a8 h8 xo7) (ix2 0 q)) (rd xo7 29 q.val + tapw x0 x1 (ext (i 0).val x2 x3) 29 q.val) := by
  simp only [pay93_at, r_2_B, r_30_B, v457_B]
  rfl

/-- The row of tap 30 before it is stored. -/
theorem v470_B : @Eq EReal (v470 c a8 h8 xo7 (ix2 0 q)) (rd xo7 30 q.val) := by
  unfold v470
  exact row_at a8 h8 xo7 30 _ q

/-- The row stored for tap 30. -/
theorem dw30_B :
    @Eq EReal (k0_pay95 (r_2 c a1 h1 a2 h2 x0 x1) (v464 c i a3 h3 a4 h4 a9 x2 x3) (v470 c a8 h8 xo7) (ix2 0 q)) (rd xo7 30 q.val + tapw x0 x1 (ext (i 0).val x2 x3) 30 q.val) := by
  simp only [pay95_at, r_2_B, v464_B, v470_B]
  rfl

/-- The weights' rows after the last tap. -/
theorem hw31_B (y : S32x1024.Idx) :
    @Eq EReal (a8.view.read (Elt Ideal) (a8.view.writes (Elt Ideal) (h8.unread xo7)
      ([⟨Rect.unit (s := S32x1024) ![30, 0] S1x1024.size inb_S32x1024_S1x1024_30_0, k0_pay95 (r_2 c a1 h1 a2 h2 x0 x1) (v464 c i a3 h3 a4 h4 a9 x2 x3) (v470 c a8 h8 xo7)⟩, ⟨Rect.unit (s := S32x1024) ![29, 0] S1x1024.size inb_S32x1024_S1x1024_29_0, k0_pay93 (r_2 c a1 h1 a2 h2 x0 x1) (r_30 c i a3 h3 a4 h4 a9 a10 x2 x3) (v457 c a8 h8 xo7)⟩, ⟨Rect.unit (s := S32x1024) ![28, 0] S1x1024.size inb_S32x1024_S1x1024_28_0, k0_pay90 (r_2 c a1 h1 a2 h2 x0 x1) (v436 c i a3 h3 a4 h4 a9 a10 x2 x3) (v443 c a8 h8 xo7)⟩, ⟨Rect.unit (s := S32x1024) ![27, 0] S1x1024.size inb_S32x1024_S1x1024_27_0, k0_pay87 (r_2 c a1 h1 a2 h2 x0 x1) (v422 c i a3 h3 a4 h4 a9 a10 x2 x3) (v429 c a8 h8 xo7)⟩, ⟨Rect.unit (s := S32x1024) ![26, 0] S1x1024.size inb_S32x1024_S1x1024_26_0, k0_pay85 (r_2 c a1 h1 a2 h2 x0 x1) (v408 c i a3 h3 a4 h4 a9 a10 x2 x3) (v415 c a8 h8 xo7)⟩, ⟨Rect.unit (s := S32x1024) ![25, 0] S1x1024.size inb_S32x1024_S1x1024_25_0, k0_pay82 (r_2 c a1 h1 a2 h2 x0 x1) (v394 c i a3 h3 a4 h4 a9 a10 x2 x3) (v401 c a8 h8 xo7)⟩, ⟨Rect.unit (s := S32x1024) ![24, 0] S1x1024.size inb_S32x1024_S1x1024_24_0, k0_pay80 (r_2 c a1 h1 a2 h2 x0 x1) (r_25 c i a3 h3 a4 h4 a9 a10 x2 x3) (r_27 c a8 h8 xo7)⟩, ⟨Rect.unit (s := S32x1024) ![23, 0] S1x1024.size inb_S32x1024_S1x1024_23_0, k0_pay76 (r_2 c a1 h1 a2 h2 x0 x1) (v366 c i a3 h3 a4 h4 a9 a10 x2 x3) (v373 c a8 h8 xo7)⟩, ⟨Rect.unit (s := S32x1024) ![22, 0] S1x1024.size inb_S32x1024_S1x1024_22_0, k0_pay74 (r_2 c a1 h1 a2 h2 x0 x1) (v353 c i a3 h3 a4 h4 a9 x2 x3) (v359 c a8 h8 xo7)⟩, ⟨Rect.unit (s := S32x1024) ![21, 0] S1x1024.size inb_S32x1024_S1x1024_21_0, k0_pay73 (r_2 c a1 h1 a2 h2 x0 x1) (v339 c i a3 h3 a4 h4 a9 a10 x2 x3) (v346 c a8 h8 xo7)⟩, ⟨Rect.unit (s := S32x1024) ![20, 0] S1x1024.size inb_S32x1024_S1x1024_20_0, k0_pay70 (r_2 c a1 h1 a2 h2 x0 x1) (v325 c i a3 h3 a4 h4 a9 a10 x2 x3) (v332 c a8 h8 xo7)⟩, ⟨Rect.unit (s := S32x1024) ![19, 0] S1x1024.size inb_S32x1024_S1x1024_19_0, k0_pay68 (r_22 c a8 h8 xo7) (r_23 c i a1 h1 a2 h2 a3 h3 a4 h4 a9 a10 x0 x1 x2 x3)⟩, ⟨Rect.unit (s := S32x1024) ![18, 0] S1x1024.size inb_S32x1024_S1x1024_18_0, k0_pay63 (r_2 c a1 h1 a2 h2 x0 x1) (v297 c i a3 h3 a4 h4 a9 a10 x2 x3) (v304 c a8 h8 xo7)⟩, ⟨Rect.unit (s := S32x1024) ![17, 0] S1x1024.size inb_S32x1024_S1x1024_17_0, k0_pay61 (r_2 c a1 h1 a2 h2 x0 x1) (r_19 c i a3 h3 a4 h4 a9 a10 x2 x3) (v290 c a8 h8 xo7)⟩, ⟨Rect.unit (s := S32x1024) ![16, 0] S1x1024.size inb_S32x1024_S1x1024_16_0, k0_pay58 (r_2 c a1 h1 a2 h2 x0 x1) (v269 c i a3 h3 a4 h4 a9 a10 x2 x3) (v276 c a8 h8 xo7)⟩, ⟨Rect.unit (s := S32x1024) ![15, 0] S1x1024.size inb_S32x1024_S1x1024_15_0, k0_pay55 (r_2 c a1 h1 a2 h2 x0 x1) (v255 c i a3 h3 a4 h4 a9 a10 x2 x3) (v262 c a8 h8 xo7)⟩, ⟨Rect.unit (s := S32x1024) ![14, 0] S1x1024.size inb_S32x1024_S1x1024_14_0, r_17 c i a1 h1 a2 h2 a3 h3 a4 h4 a8 h8 a9 x0 x1 x2 x3 xo7⟩, ⟨Rect.unit (s := S32x1024) ![13, 0] S1x1024.size inb_S32x1024_S1x1024_13_0, k0_pay51 (r_2 c a1 h1 a2 h2 x0 x1) (v228 c i a3 h3 a4 h4 a9 a10 x2 x3) (v235 c a8 h8 xo7)⟩, ⟨Rect.unit (s := S32x1024) ![12, 0] S1x1024.size inb_S32x1024_S1x1024_12_0, k0_pay49 (r_2 c a1 h1 a2 h2 x0 x1) (r_14 c i a3 h3 a4 h4 a9 a10 x2 x3) (v221 c a8 h8 xo7)⟩, ⟨Rect.unit (s := S32x1024) ![11, 0] S1x1024.size inb_S32x1024_S1x1024_11_0, k0_pay46 (r_2 c a1 h1 a2 h2 x0 x1) (v200 c i a3 h3 a4 h4 a9 a10 x2 x3) (v207 c a8 h8 xo7)⟩, ⟨Rect.unit (s := S32x1024) ![10, 0] S1x1024.size inb_S32x1024_S1x1024_10_0, k0_pay44 (r_2 c a1 h1 a2 h2 x0 x1) (v186 c i a3 h3 a4 h4 a9 a10 x2 x3) (v193 c a8 h8 xo7)⟩, ⟨Rect.unit (s := S32x1024) ![9, 0] S1x1024.size inb_S32x1024_S1x1024_9_0, k0_pay42 (r_2 c a1 h1 a2 h2 x0 x1) (v172 c i a3 h3 a4 h4 a9 a10 x2 x3) (v179 c a8 h8 xo7)⟩, ⟨Rect.unit (s := S32x1024) ![8, 0] S1x1024.size inb_S32x1024_S1x1024_8_0, k0_pay39 (r_2 c a1 h1 a2 h2 x0 x1) (v158 c i a3 h3 a4 h4 a9 a10 x2 x3) (v165 c a8 h8 xo7)⟩, ⟨Rect.unit (s := S32x1024) ![7, 0] S1x1024.size inb_S32x1024_S1x1024_7_0, k0_pay37 (r_11 c a8 h8 xo7) (r_12 c i a1 h1 a2 h2 a3 h3 a4 h4 a9 a10 x0 x1 x2 x3)⟩, ⟨Rect.unit (s := S32x1024) ![6, 0] S1x1024.size inb_S32x1024_S1x1024_6_0, k0_pay32 (r_2 c a1 h1 a2 h2 x0 x1) (v131 c i a3 h3 a4 h4 a9 x2 x3) (v137 c a8 h8 xo7)⟩, ⟨Rect.unit (s := S32x1024) ![5, 0] S1x1024.size inb_S32x1024_S1x1024_5_0, k0_pay31 (r_2 c a1 h1 a2 h2 x0 x1) (r_9 c i a3 h3 a4 h4 a9 a10 x2 x3) (v124 c a8 h8 xo7)⟩, ⟨Rect.unit (s := S32x1024) ![4, 0] S1x1024.size inb_S32x1024_S1x1024_4_0, k0_pay29 (r_2 c a1 h1 a2 h2 x0 x1) (v103 c i a3 h3 a4 h4 a9 a10 x2 x3) (v110 c a8 h8 xo7)⟩, ⟨Rect.unit (s := S32x1024) ![3, 0] S1x1024.size inb_S32x1024_S1x1024_3_0, k0_pay26 (r_2 c a1 h1 a2 h2 x0 x1) (v89 c i a3 h3 a4 h4 a9 a10 x2 x3) (v96 c a8 h8 xo7)⟩, ⟨Rect.unit (s := S32x1024) ![2, 0] S1x1024.size inb_S32x1024_S1x1024_2_0, k0_pay24 (r_6 c a8 h8 xo7) (r_7 c i a1 h1 a2 h2 a3 h3 a4 h4 a9 a10 x0 x1 x2 x3)⟩, ⟨Rect.unit (s := S32x1024) ![1, 0] S1x1024.size inb_S32x1024_S1x1024_1_0, k0_pay19 (r_2 c a1 h1 a2 h2 x0 x1) (v61 c i a3 h3 a4 h4 a9 a10 x2 x3) (v68 c a8 h8 xo7)⟩, ⟨Rect.unit (s := S32x1024) ![0, 0] S1x1024.size inb_S32x1024_S1x1024_0_0, k0_pay17 (r_2 c a1 h1 a2 h2 x0 x1) (r_3 c i a3 h3 a4 h4 a9 a10 x2 x3) (View.readAt (Elt Ideal) a8.view (Rect.unit (s := S32x1024) ![0, 0] S1x1024.size inb_S32x1024_S1x1024_0_0).toLoadRect (h8.unread xo7))⟩])) y)
      (if (y 0).val < 31 then rd xo7 (y 0).val (y 1).val + tapw x0 x1 (ext (i 0).val x2 x3) (y 0).val (y 1).val else rd xo7 (y 0).val (y 1).val) := by
  let acc : ℕ → ℕ → EReal := fun j q => rd xo7 j q + tapw x0 x1 (ext (i 0).val x2 x3) j q
  have h0 : ∀ y : S32x1024.Idx, @Eq EReal (a8.view.read (Elt Ideal) (a8.view.writes (Elt Ideal) (h8.unread xo7) []) y)
      (if (y 0).val < 0 then acc (y 0).val (y 1).val else rd xo7 (y 0).val (y 1).val) := fun y => by
    rw [if_neg (Nat.not_lt_zero _)]
    show a8.view.read (Elt Ideal) (h8.unread xo7) y = _
    rw [h8.read_unread]
    exact eq_rd (xo7 : S32x1024.Idx → EReal) y _ _ rfl rfl
  exact step_B _ _ _ 30 _ _ (rd xo7) acc (fun _ => dw30_B ..)
    (step_B _ _ _ 29 _ _ (rd xo7) acc (fun _ => dw29_B ..)
    (step_B _ _ _ 28 _ _ (rd xo7) acc (fun _ => dw28_B ..)
    (step_B _ _ _ 27 _ _ (rd xo7) acc (fun _ => dw27_B ..)
    (step_B _ _ _ 26 _ _ (rd xo7) acc (fun _ => dw26_B ..)
    (step_B _ _ _ 25 _ _ (rd xo7) acc (fun _ => dw25_B ..)
    (step_B _ _ _ 24 _ _ (rd xo7) acc (fun _ => dw24_B ..)
    (step_B _ _ _ 23 _ _ (rd xo7) acc (fun _ => dw23_B ..)
    (step_B _ _ _ 22 _ _ (rd xo7) acc (fun _ => dw22_B ..)
    (step_B _ _ _ 21 _ _ (rd xo7) acc (fun _ => dw21_B ..)
    (step_B _ _ _ 20 _ _ (rd xo7) acc (fun _ => dw20_B ..)
    (step_B _ _ _ 19 _ _ (rd xo7) acc (fun _ => dw19_B ..)
    (step_B _ _ _ 18 _ _ (rd xo7) acc (fun _ => dw18_B ..)
    (step_B _ _ _ 17 _ _ (rd xo7) acc (fun _ => dw17_B ..)
    (step_B _ _ _ 16 _ _ (rd xo7) acc (fun _ => dw16_B ..)
    (step_B _ _ _ 15 _ _ (rd xo7) acc (fun _ => dw15_B ..)
    (step_B _ _ _ 14 _ _ (rd xo7) acc (fun _ => dw14_B ..)
    (step_B _ _ _ 13 _ _ (rd xo7) acc (fun _ => dw13_B ..)
    (step_B _ _ _ 12 _ _ (rd xo7) acc (fun _ => dw12_B ..)
    (step_B _ _ _ 11 _ _ (rd xo7) acc (fun _ => dw11_B ..)
    (step_B _ _ _ 10 _ _ (rd xo7) acc (fun _ => dw10_B ..)
    (step_B _ _ _ 9 _ _ (rd xo7) acc (fun _ => dw9_B ..)
    (step_B _ _ _ 8 _ _ (rd xo7) acc (fun _ => dw8_B ..)
    (step_B _ _ _ 7 _ _ (rd xo7) acc (fun _ => dw7_B ..)
    (step_B _ _ _ 6 _ _ (rd xo7) acc (fun _ => dw6_B ..)
    (step_B _ _ _ 5 _ _ (rd xo7) acc (fun _ => dw5_B ..)
    (step_B _ _ _ 4 _ _ (rd xo7) acc (fun _ => dw4_B ..)
    (step_B _ _ _ 3 _ _ (rd xo7) acc (fun _ => dw3_B ..)
    (step_B _ _ _ 2 _ _ (rd xo7) acc (fun _ => dw2_B ..)
    (step_B _ _ _ 1 _ _ (rd xo7) acc (fun _ => dw1_B ..)
    (step_B _ _ _ 0 _ _ (rd xo7) acc (fun _ => dw0_B ..)
    h0)))))))))))))))))))))))))))))) y

end Cert.ConvBwdIdeal.Prod

end
-- ==== Proof.ConvBwdOut.lean ====
/- The causal convolution's backward pass: what a point leaves in its two blocks of gradients and in the weights' rows. -/
module

public import proofs.«01_k».proof.Proof.ConvBwdA
public import proofs.«01_k».proof.Proof.ConvBwdB
public import Idealize.ShloMosaic.Lib.WritesUnit

@[expose] public section

set_option maxRecDepth 16384

noncomputable section

namespace Cert.ConvBwdIdeal.Prod

open Cert.ConvBwdIdeal Cert.ConvBwdIdeal.Gen Cert.ConvBwdIdeal.Value Cert.Common
open Idealize.ShloMosaic Idealize.ShloMosaic.TcCoe Idealize.SL.Sem

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S32x1024 .f32) (h4 : a4.IsWhole) (a5 : Memref sig .tc .vmem S32x1024 .f32) (h5 : a5.IsWhole) (a6 : Memref sig .tc .vmem S512x1024 .bf16) (h6 : a6.IsWhole) (a7 : Memref sig .tc .vmem S512x1024 .bf16) (h7 : a7.IsWhole) (a8 : Memref sig .tc .vmem S32x1024 .f32) (h8 : a8.IsWhole) (a9 : Memref sig .tc .vmem S544x1024 .f32) (h9 : a9.IsWhole) (a10 : Memref sig .tc .vmem S7x544x1024 .f32) (h10 : a10.IsWhole)
  (x0 : Vec Ideal S512x1024 .f32) (x1 : Vec Ideal S512x1024 .f32) (x2 : Vec Ideal S512x1024 .f32) (x3 : Vec Ideal S32x1024 .f32) (x4 : Vec Ideal S32x1024 .f32)

/-- The block of the convolved operand's gradient that the first point leaves. -/
theorem out5_A (hc0 : cond0_0 i) (r : Fin 512) (q : Fin 1024) :
    @Eq EReal (out0_A_5 c i a1 h1 a2 h2 a3 h3 a4 h4 a5 h5 a6 h6 a7 h7 a8 h8 a9 h9 a10 h10 hc0 x0 x1 x2 x3 x4 (ix2 r q)) (taps x4 (ext (i 0).val x2 x3) 31 r.val q.val * Ideal.logistic (x1 (ix2 r q))) := by
  unfold out0_A_5
  rw [View.read_writes_eq_canon _ _ _ (cover0_A_5 c i a1 h1 a2 h2 a3 h3 a4 h4 a5 h5 a6 h6 a7 h7 a8 h8 a9 h9 a10 h10 hc0 x0 x1 x2 x3 x4)]
  unfold kernelRun0_A
  dsimp only
  rw [View.canon_unit_zero off2]
  exact dcv_A c i a2 h2 a3 h3 a4 h4 a5 h5 a9 a10 x1 x2 x3 x4 r q _

/-- The block of the gate's gradient that the first point leaves. -/
theorem out6_A (hc0 : cond0_0 i) (r : Fin 512) (q : Fin 1024) :
    @Eq EReal (out0_A_6 c i a1 h1 a2 h2 a3 h3 a4 h4 a5 h5 a6 h6 a7 h7 a8 h8 a9 h9 a10 h10 hc0 x0 x1 x2 x3 x4 (ix2 r q)) (taps x4 (ext (i 0).val x2 x3) 31 r.val q.val * x0 (ix2 r q) * Ideal.logistic (x1 (ix2 r q)) * (1 - Ideal.logistic (x1 (ix2 r q)))) := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4)]
  unfold kernelRun0_A
  dsimp only
  rw [View.canon_unit_zero off2]
  exact dcg_A c i a1 h1 a2 h2 a3 h3 a4 h4 a5 h5 a9 a10 x0 x1 x2 x3 x4 r q

/-- The weights' rows that the first point leaves. -/
theorem out7_A (hc0 : cond0_0 i) (y : S32x1024.Idx) :
    @Eq EReal (out0_A_7 c i a1 h1 a2 h2 a3 h3 a4 h4 a5 h5 a6 h6 a7 h7 a8 h8 a9 h9 a10 h10 hc0 x0 x1 x2 x3 x4 y) (if (y 0).val < 31 then tapw x0 x1 (ext (i 0).val x2 x3) (y 0).val (y 1).val else 0) := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4)]
  unfold kernelRun0_A
  dsimp only
  exact hw31_A c i a1 h1 a2 h2 a3 h3 a4 h4 a8 a9 a10 x0 x1 x2 x3 y

/-- The block of the convolved operand's gradient that a later point leaves. -/
theorem out5_B (hc0 : ¬cond0_0 i) (xo7 : Vec Ideal S32x1024 .f32) (r : Fin 512) (q : Fin 1024) :
    @Eq EReal (out0_B_5 c i a1 h1 a2 h2 a3 h3 a4 h4 a5 h5 a6 h6 a7 h7 a8 h8 a9 h9 a10 h10 hc0 x0 x1 x2 x3 x4 xo7 (ix2 r q)) (taps x4 (ext (i 0).val x2 x3) 31 r.val q.val * Ideal.logistic (x1 (ix2 r q))) := by
  unfold out0_B_5
  rw [View.read_writes_eq_canon _ _ _ (cover0_B_5 c i a1 h1 a2 h2 a3 h3 a4 h4 a5 h5 a6 h6 a7 h7 a8 h8 a9 h9 a10 h10 hc0 x0 x1 x2 x3 x4 xo7)]
  unfold kernelRun0_B
  dsimp only
  rw [View.canon_unit_zero off2]
  exact dcv_B c i a2 h2 a3 h3 a4 h4 a5 h5 a9 a10 x1 x2 x3 x4 r q _

/-- The block of the gate's gradient that a later point leaves. -/
theorem out6_B (hc0 : ¬cond0_0 i) (xo7 : Vec Ideal S32x1024 .f32) (r : Fin 512) (q : Fin 1024) :
    @Eq EReal (out0_B_6 c i a1 h1 a2 h2 a3 h3 a4 h4 a5 h5 a6 h6 a7 h7 a8 h8 a9 h9 a10 h10 hc0 x0 x1 x2 x3 x4 xo7 (ix2 r q)) (taps x4 (ext (i 0).val x2 x3) 31 r.val q.val * x0 (ix2 r q) * Ideal.logistic (x1 (ix2 r q)) * (1 - Ideal.logistic (x1 (ix2 r q)))) := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 xo7)]
  unfold kernelRun0_B
  dsimp only
  rw [View.canon_unit_zero off2]
  exact dcg_B c i a1 h1 a2 h2 a3 h3 a4 h4 a5 h5 a9 a10 x0 x1 x2 x3 x4 r q

/-- The weights' rows that a later point leaves. -/
theorem out7_B (hc0 : ¬cond0_0 i) (xo7 : Vec Ideal S32x1024 .f32) (y : S32x1024.Idx) :
    @Eq EReal (out0_B_7 c i a1 h1 a2 h2 a3 h3 a4 h4 a5 h5 a6 h6 a7 h7 a8 h8 a9 h9 a10 h10 hc0 x0 x1 x2 x3 x4 xo7 y) (if (y 0).val < 31 then rd xo7 (y 0).val (y 1).val + tapw x0 x1 (ext (i 0).val x2 x3) (y 0).val (y 1).val else rd xo7 (y 0).val (y 1).val) := by
  unfold out0_B_7 kernelRun0_B
  dsimp only
  exact hw31_B c i a1 h1 a2 h2 a3 h3 a4 h4 a8 h8 a9 a10 x0 x1 x2 x3 xo7 y

end Cert.ConvBwdIdeal.Prod

end
-- ==== Proof.ConvBwd.lean ====
/- The causal convolution's backward pass: its three result arrays, each one function of the three arguments. -/
module

public import proofs.«01_k».proof.Proof.ConvBwdOut
public import Idealize.ShloMosaic.Lib.WritesUnit
public import Idealize.ShloMosaic.Lib.KernelVsHost

@[expose] public section

set_option maxRecDepth 16384

noncomputable section

namespace Cert.ConvBwdIdeal.Prod

open Cert.ConvBwdIdeal Cert.ConvBwdIdeal.Gen Cert.ConvBwdIdeal.Value Cert.Common
open Idealize.ShloMosaic Idealize.ShloMosaic.TcCoe Idealize.SL.Sem

/-- Row `s` of the gradient that arrives, zeros after the last. -/
def late (D : S8192x1024.Idx → EReal) (s q : ℕ) : EReal := if s < 8192 then rd D s q else 0

/-- The convolution's transpose: the gradient of the gated rows. -/
def du (D : S8192x1024.Idx → EReal) (w : S31x1024.Idx → EReal) (s q : ℕ) : EReal :=
  ∑ j ∈ Finset.range 31, rd w j q * late D (30 - j + s) q

/-- The convolved operand and its gate: the fourth and fifth groups of the projection's columns. -/
def cv (X : S8192x5120.Idx → EReal) (s q : ℕ) : EReal := rd X s (3072 + q)
def cg (X : S8192x5120.Idx → EReal) (s q : ℕ) : EReal := rd X s (4096 + q)

/-- THE FIRST RESULT: the gradient of the convolved operand. -/
def G5 (X : S8192x5120.Idx → EReal) (D : S8192x1024.Idx → EReal) (w : S31x1024.Idx → EReal) (i : S8192x1024.Idx) : EReal :=
  du D w (i 0).val (i 1).val * Ideal.logistic (cg X (i 0).val (i 1).val)

/-- THE SECOND: the gradient of its gate. -/
def G6 (X : S8192x5120.Idx → EReal) (D : S8192x1024.Idx → EReal) (w : S31x1024.Idx → EReal) (i : S8192x1024.Idx) : EReal :=
  du D w (i 0).val (i 1).val * cv X (i 0).val (i 1).val * Ideal.logistic (cg X (i 0).val (i 1).val)
    * (1 - Ideal.logistic (cg X (i 0).val (i 1).val))

/-- THE THIRD: the gradient of the 31 taps' weights, and a row of zeros. -/
def G7 (X : S8192x5120.Idx → EReal) (D : S8192x1024.Idx → EReal) (i : S32x1024.Idx) : EReal :=
  if (i 0).val < 31 then ∑ s : Fin 8192, cv X s.val (i 1).val * Ideal.logistic (cg X s.val (i 1).val) * late D (30 - (i 0).val + s.val) (i 1).val else 0

variable (m : (ℓ : Loc nD τ sig) → Buf (Elt Ideal) ℓ)

/-- The three operands as the launch finds them. -/
abbrev X0 (c : Dev nD) : S8192x5120.Idx → EReal := m ((c : Thread nD τ).loc main_arg0)
abbrev X1 (c : Dev nD) : S8192x1024.Idx → EReal := m ((c : Thread nD τ).loc main_arg1)
abbrev X2 (c : Dev nD) : S31x1024.Idx → EReal := m ((c : Thread nD τ).loc main_arg2)

/-- The weights the kernel reads: the 31 taps and one row more. -/
theorem V_w (c : Dev nD) : V m c main_v0
    = pad S32x1024 ![0, 0] ![1, 0] ![0, 0] (X2 m c) (sitofp (F := Ideal) .f32 (constantI S_ 32 0#32)) pads_S31x1024_S32x1024_010_000 h_S_ := by
  run_tidy
  rfl

/-- Its first 31 rows are the taps'. -/
theorem V_w_apply (c : Dev nD) (j q : ℕ) (hj : j < 31) (i : S32x1024.Idx) (h0 : (i 0).val = j) (h1 : (i 1).val = q) :
    @Eq EReal (V m c main_v0 i) (rd (X2 m c) j q) := by
  have hq : q < 1024 := h1 ▸ (i 1).isLt
  rw [V_w]
  refine (pad_apply_of_inside _ _ _ (X2 m c) _ _ _ i (ix2 (⟨j, hj⟩ : Fin 31) (⟨q, hq⟩ : Fin 1024)) (fun a => ?_)).trans (eq_rd (X2 m c) _ j q rfl rfl)
  match a with
  | ⟨0, _⟩ => exact h0.trans (by show j = 0 + j * 1; omega)
  | ⟨1, _⟩ => exact h1.trans (by show q = 0 + q * 1; omega)

/-- Which blocks of the operands a grid point reads. -/
theorem idx_facts : ∀ t : Fin cfg0.N, (win0_0.index t (0 : Fin 2) = t.val ∧ win0_0.index t (1 : Fin 2) = 3)
    ∧ (win0_1.index t (0 : Fin 2) = t.val ∧ win0_1.index t (1 : Fin 2) = 4)
    ∧ (win0_2.index t (0 : Fin 2) = t.val ∧ win0_2.index t (1 : Fin 2) = 0)
    ∧ (win0_3.index t (0 : Fin 2) = min ((t.val + 1) * 16) 255 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ ((grid0.coords t) 0).val = t.val :=
  (by decide +kernel : ∀ t : Fin grid0.N, _)

theorem row_lt (t : Fin cfg0.N) (r : Fin 512) : 512 * t.val + r.val < 8192 := by
  have ht : t.val < 16 := N_0 ▸ t.isLt
  omega

theorem coord_val (t : Fin cfg0.N) : ((grid0.coords t) 0).val = t.val := (idx_facts t).2.2.2.2.2.2.2

/-- A point's block of the convolved operand. -/
theorem blk0 (c : Dev nD) (t : Fin cfg0.N) (r : Fin 512) (q : Fin 1024) :
    (iblk m c 0 t : S512x1024.Idx → EReal) (ix2 r q) = rd (X0 m c) (512 * t.val + r.val) (3072 + q.val) := by
  obtain ⟨e0, e1⟩ := (idx_facts t).1
  show V m c main_arg0 (((cfg0.win 0).blk t).view.emb (ix2 r q)) = _
  rw [V_main_arg0]
  refine (eq_rd (X0 m c) (((cfg0.win 0).blk t).view.emb (ix2 r q)) _ _ ?_ ?_)
  · show win0_0.index t (0 : Fin 2) * 512 + 1 * r.val = _
    rw [e0]; omega
  · show win0_0.index t (1 : Fin 2) * 1024 + 1 * q.val = _
    rw [e1]; omega

/-- A point's block of the gate. -/
theorem blk1 (c : Dev nD) (t : Fin cfg0.N) (r : Fin 512) (q : Fin 1024) :
    (iblk m c 1 t : S512x1024.Idx → EReal) (ix2 r q) = rd (X0 m c) (512 * t.val + r.val) (4096 + q.val) := by
  obtain ⟨e0, e1⟩ := (idx_facts t).2.1
  show V m c main_arg0 (((cfg0.win 1).blk t).view.emb (ix2 r q)) = _
  rw [V_main_arg0]
  refine (eq_rd (X0 m c) (((cfg0.win 1).blk t).view.emb (ix2 r q)) _ _ ?_ ?_)
  · show win0_1.index t (0 : Fin 2) * 512 + 1 * r.val = _
    rw [e0]; omega
  · show win0_1.index t (1 : Fin 2) * 1024 + 1 * q.val = _
    rw [e1]; omega

/-- A point's block of the gradient. -/
theorem blk2 (c : Dev nD) (t : Fin cfg0.N) (r : Fin 512) (q : Fin 1024) :
    (iblk m c 2 t : S512x1024.Idx → EReal) (ix2 r q) = rd (X1 m c) (512 * t.val + r.val) (q.val) := by
  obtain ⟨e0, e1⟩ := (idx_facts t).2.2.1
  show V m c main_arg1 (((cfg0.win 2).blk t).view.emb (ix2 r q)) = _
  rw [V_main_arg1]
  refine (eq_rd (X1 m c) (((cfg0.win 2).blk t).view.emb (ix2 r q)) _ _ ?_ ?_)
  · show win0_2.index t (0 : Fin 2) * 512 + 1 * r.val = _
    rw [e0]; omega
  · show win0_2.index t (1 : Fin 2) * 1024 + 1 * q.val = _
    rw [e1]; omega

/-- The rows of the gradient after the point's block (the last rows again, at the last point). -/
theorem blk3 (c : Dev nD) (t : Fin cfg0.N) (r : Fin 32) (q : Fin 1024) :
    (iblk m c 3 t : S32x1024.Idx → EReal) (ix2 r q) = rd (X1 m c) (min ((t.val + 1) * 16) 255 * 32 + r.val) (q.val) := by
  obtain ⟨e0, e1⟩ := (idx_facts t).2.2.2.1
  show V m c main_arg1 (((cfg0.win 3).blk t).view.emb (ix2 r q)) = _
  rw [V_main_arg1]
  refine (eq_rd (X1 m c) (((cfg0.win 3).blk t).view.emb (ix2 r q)) _ _ ?_ ?_)
  · show win0_3.index t (0 : Fin 2) * 32 + 1 * r.val = _
    rw [e0]; omega
  · show win0_3.index t (1 : Fin 2) * 1024 + 1 * q.val = _
    rw [e1]; omega

/-- A point's weights: the taps' rows. -/
theorem blk4 (c : Dev nD) (t : Fin cfg0.N) (j q : ℕ) (hj : j < 31) (hq : q < 1024) :
    rd (iblk m c 4 t : S32x1024.Idx → EReal) j q = rd (X2 m c) j q := by
  obtain ⟨e0, e1⟩ := (idx_facts t).2.2.2.2.1
  rw [← eq_rd (iblk m c 4 t : S32x1024.Idx → EReal) (ix2 (⟨j, by omega⟩ : Fin 32) (⟨q, hq⟩ : Fin 1024)) j q rfl rfl]
  show V m c main_v0 (((cfg0.win 4).blk t).view.emb (ix2 (⟨j, by omega⟩ : Fin 32) (⟨q, hq⟩ : Fin 1024))) = _
  refine V_w_apply m c j q hj _ ?_ ?_
  · show win0_4.index t (0 : Fin 2) * 32 + 1 * j = _
    rw [e0]; omega
  · show win0_4.index t (1 : Fin 2) * 1024 + 1 * q = _
    rw [e1]; omega

/-- A point's rows and the next ones are the gradient's rows from the point's first on. -/
theorem ext_eq (c : Dev nD) (t : Fin cfg0.N) (r q : ℕ) (hr : r < 544) (hq : q < 1024) :
    ext ((grid0.coords t) 0).val (iblk m c 2 t) (iblk m c 3 t) r q = late (X1 m c) (512 * t.val + r) q := by
  have ht : t.val < 16 := N_0 ▸ t.isLt
  rw [coord_val]
  unfold ext late
  by_cases h : r < 512
  · rw [if_pos h, if_pos (by omega), ← eq_rd (iblk m c 2 t : S512x1024.Idx → EReal) (ix2 (⟨r, h⟩ : Fin 512) (⟨q, hq⟩ : Fin 1024)) r q rfl rfl, blk2]
  · rw [if_neg h]
    by_cases h' : t.val < 15
    · rw [if_pos h', if_pos (by omega), ← eq_rd (iblk m c 3 t : S32x1024.Idx → EReal) (ix2 (⟨r - 512, by omega⟩ : Fin 32) (⟨q, hq⟩ : Fin 1024)) (r - 512) q rfl rfl, blk3]
      dsimp only
      rw [show min ((t.val + 1) * 16) 255 * 32 + (r - 512) = 512 * t.val + r by omega]
    · rw [if_neg h', if_neg (by omega)]

/-- A point's part of the transpose is the whole one at the point's rows. -/
theorem taps_eq (c : Dev nD) (t : Fin cfg0.N) (r : Fin 512) (q : Fin 1024) :
    taps (iblk m c 4 t) (ext ((grid0.coords t) 0).val (iblk m c 2 t) (iblk m c 3 t)) 31 r.val q.val = du (X1 m c) (X2 m c) (512 * t.val + r.val) q.val := by
  unfold taps du
  refine Finset.sum_congr rfl fun j hj => ?_
  have hj' : j < 31 := Finset.mem_range.mp hj
  have hr : r.val < 512 := r.isLt
  rw [blk4 m c t j q.val hj' q.isLt, ext_eq m c t (30 - j + r.val) q.val (by omega) q.isLt]
  rw [show 512 * t.val + (30 - j + r.val) = 30 - j + (512 * t.val + r.val) by omega]

/-- What a point adds to the weights' rows. -/
def term (c : Dev nD) (n : ℕ) (i : S32x1024.Idx) : EReal :=
  if (i 0).val < 31 then ∑ k : Fin 512, cv (X0 m c) (512 * n + k.val) (i 1).val * Ideal.logistic (cg (X0 m c) (512 * n + k.val) (i 1).val)
    * late (X1 m c) (30 - (i 0).val + (512 * n + k.val)) (i 1).val else 0

theorem tapw_eq (c : Dev nD) (t : Fin cfg0.N) (y : S32x1024.Idx) (hy : (y 0).val < 31) :
    tapw (iblk m c 0 t) (iblk m c 1 t) (ext ((grid0.coords t) 0).val (iblk m c 2 t) (iblk m c 3 t)) (y 0).val (y 1).val = term m c t.val y := by
  have hq : (y 1).val < 1024 := (y 1).isLt
  unfold tapw term
  rw [if_pos hy]
  refine Finset.sum_congr rfl fun k _ => ?_
  have hk : k.val < 512 := k.isLt
  rw [ext_eq m c t (30 - (y 0).val + k.val) (y 1).val (by omega) hq]
  rw [show gated (iblk m c 0 t) (iblk m c 1 t) k.val (y 1).val = _ from gated_at (iblk m c 0 t) (iblk m c 1 t) k (⟨(y 1).val, hq⟩ : Fin 1024), blk0, blk1]
  rw [show 512 * t.val + (30 - (y 0).val + k.val) = 30 - (y 0).val + (512 * t.val + k.val) by omega]
  rfl

/-- What a point leaves in block 5. -/
theorem outs5 (c : Dev nD) (t : Fin cfg0.N) (r : Fin 512) (q : Fin 1024) :
    @Eq EReal ((outsAt0 m c t.val t.isLt).1 (ix2 r q)) (G5 (X0 m c) (X1 m c) (X2 m c) (ix2 (⟨512 * t.val + r.val, row_lt t r⟩ : Fin 8192) q)) := by
  have key : ∀ z, @Eq EReal z (taps (iblk m c 4 t) (ext ((grid0.coords t) 0).val (iblk m c 2 t) (iblk m c 3 t)) 31 r.val q.val * Ideal.logistic ((iblk m c 1 t : S512x1024.Idx → EReal) (ix2 r q))) → @Eq EReal z (G5 (X0 m c) (X1 m c) (X2 m c) (ix2 (⟨512 * t.val + r.val, row_lt t r⟩ : Fin 8192) q)) := by
    intro z hz
    rw [hz, taps_eq, blk1]
    rfl
  by_cases h0 : t.val % 16 = 0
  · rw [outsAt0_A m c t h0]
    dsimp only
    exact key _ (out5_A _ _ _ _ _ _ _ _ _ _ _ _ _ _ _ _ _ _ _ _ _ _ _ _ _ _ _ _ r q)
  · rw [outsAt0_B m c t h0]
    dsimp only
    exact key _ (out5_B _ _ _ _ _ _ _ _ _ _ _ _ _ _ _ _ _ _ _ _ _ _ _ _ _ _ _ _ _ r q)

/-- The array of result 5. -/
theorem arr5_eq (c : Dev nD) : (dats m 0 c).arrAt 5 cfg0.N = G5 (X0 m c) (X1 m c) (X2 m c) := by
  refine (dats m 0 c).arrAt_eq_of_covers 5 _ (by decide +kernel) fun t hf y => ?_
  rw [after0_5]
  obtain ⟨e0, e1⟩ := (idx_facts t).2.2.2.2.2.1
  obtain ⟨r, q, rfl⟩ : ∃ (r : Fin 512) (q : Fin 1024), y = ix2 r q := ⟨y 0, y 1, eq_ix2 y⟩
  have h0 : ((((cfg0.win 5).blk t).view.emb (ix2 r q)) 0).val = 512 * t.val + r.val := by
    show win0_5.index t (0 : Fin 2) * 512 + 1 * r.val = _
    rw [e0]; omega
  have h1 : ((((cfg0.win 5).blk t).view.emb (ix2 r q)) 1).val = q.val := by
    show win0_5.index t (1 : Fin 2) * 1024 + 1 * q.val = _
    rw [e1]; omega
  have key := outs5 m c t r q
  have ix : (((cfg0.win 5).blk t).view.emb (ix2 r q)) = ix2 (⟨512 * t.val + r.val, row_lt t r⟩ : Fin 8192) q := funext fun a => Fin.ext (match a with
    | ⟨0, _⟩ => h0
    | ⟨1, _⟩ => h1)
  rw [ix]
  exact key

/-- What a point leaves in block 6. -/
theorem outs6 (c : Dev nD) (t : Fin cfg0.N) (r : Fin 512) (q : Fin 1024) :
    @Eq EReal ((outsAt0 m c t.val t.isLt).2.1 (ix2 r q)) (G6 (X0 m c) (X1 m c) (X2 m c) (ix2 (⟨512 * t.val + r.val, row_lt t r⟩ : Fin 8192) q)) := by
  have key : ∀ z, @Eq EReal z (taps (iblk m c 4 t) (ext ((grid0.coords t) 0).val (iblk m c 2 t) (iblk m c 3 t)) 31 r.val q.val * (iblk m c 0 t : S512x1024.Idx → EReal) (ix2 r q) * Ideal.logistic ((iblk m c 1 t : S512x1024.Idx → EReal) (ix2 r q)) * (1 - Ideal.logistic ((iblk m c 1 t : S512x1024.Idx → EReal) (ix2 r q)))) → @Eq EReal z (G6 (X0 m c) (X1 m c) (X2 m c) (ix2 (⟨512 * t.val + r.val, row_lt t r⟩ : Fin 8192) q)) := by
    intro z hz
    rw [hz, taps_eq, blk0, blk1]
    rfl
  by_cases h0 : t.val % 16 = 0
  · rw [outsAt0_A m c t h0]
    dsimp only
    exact key _ (out6_A _ _ _ _ _ _ _ _ _ _ _ _ _ _ _ _ _ _ _ _ _ _ _ _ _ _ _ _ r q)
  · rw [outsAt0_B m c t h0]
    dsimp only
    exact key _ (out6_B _ _ _ _ _ _ _ _ _ _ _ _ _ _ _ _ _ _ _ _ _ _ _ _ _ _ _ _ _ r q)

/-- The array of result 6. -/
theorem arr6_eq (c : Dev nD) : (dats m 0 c).arrAt 6 cfg0.N = G6 (X0 m c) (X1 m c) (X2 m c) := by
  refine (dats m 0 c).arrAt_eq_of_covers 6 _ (by decide +kernel) fun t hf y => ?_
  rw [after0_6]
  obtain ⟨e0, e1⟩ := (idx_facts t).2.2.2.2.2.2.1
  obtain ⟨r, q, rfl⟩ : ∃ (r : Fin 512) (q : Fin 1024), y = ix2 r q := ⟨y 0, y 1, eq_ix2 y⟩
  have h0 : ((((cfg0.win 6).blk t).view.emb (ix2 r q)) 0).val = 512 * t.val + r.val := by
    show win0_6.index t (0 : Fin 2) * 512 + 1 * r.val = _
    rw [e0]; omega
  have h1 : ((((cfg0.win 6).blk t).view.emb (ix2 r q)) 1).val = q.val := by
    show win0_6.index t (1 : Fin 2) * 1024 + 1 * q.val = _
    rw [e1]; omega
  have key := outs6 m c t r q
  have ix : (((cfg0.win 6).blk t).view.emb (ix2 r q)) = ix2 (⟨512 * t.val + r.val, row_lt t r⟩ : Fin 8192) q := funext fun a => Fin.ext (match a with
    | ⟨0, _⟩ => h0
    | ⟨1, _⟩ => h1)
  rw [ix]
  exact key

/-- The weights' rows after point `t`. -/
theorem outs7 (c : Dev nD) (t : Fin cfg0.N) (y : S32x1024.Idx) :
    @Eq EReal ((outsAt0 m c t.val t.isLt).2.2 y) (0 + ∑ k ∈ Finset.range (t.val % 16 + 1), term m c k y) := by
  have hN : cfg0.N = 16 := N_0
  refine Pipeline.eq_sum_of_reset_step_apply_divmod (fun n h => ((outsAt0 m c n h).2.2 : S32x1024.Idx → EReal)) 16 (fun _ => 0)
    (fun _ k => term m c k) ?_ ?_ t y
  · intro t h y
    have ht : t.val < 16 := hN ▸ t.isLt
    rw [outsAt0_A m c t h]
    dsimp only
    refine (out7_A _ _ _ _ _ _ _ _ _ _ _ _ _ _ _ _ _ _ _ _ _ _ _ _ _ _ _ _ y).trans ?_
    rw [zero_add, show t.val % 16 = t.val by omega]
    by_cases hy : (y 0).val < 31
    · rw [if_pos hy, tapw_eq m c t y hy]
    · rw [if_neg hy]
      unfold term
      rw [if_neg hy]
  · intro t h y
    have ht : t.val < 16 := hN ▸ t.isLt
    rw [outsAt0_B m c t h]
    dsimp only
    refine (out7_B _ _ _ _ _ _ _ _ _ _ _ _ _ _ _ _ _ _ _ _ _ _ _ _ _ _ _ _ _ y).trans ?_
    rw [show t.val % 16 = t.val by omega]
    generalize outsAt0 m c (t.val - 1) _ = Z
    by_cases hy : (y 0).val < 31
    · rw [if_pos hy, tapw_eq m c t y hy, ← eq_rd (Z.2.2 : S32x1024.Idx → EReal) y _ _ rfl rfl]
    · rw [if_neg hy, ← eq_rd (Z.2.2 : S32x1024.Idx → EReal) y _ _ rfl rfl]
      unfold term
      rw [if_neg hy, add_zero]

/-- After the last point they are the whole sum. -/
theorem last7 (c : Dev nD) (y : S32x1024.Idx) (t : Fin cfg0.N) (ht : t.val = 15) :
    @Eq EReal ((outsAt0 m c t.val t.isLt).2.2 y) (G7 (X0 m c) (X1 m c) y) := by
  rw [outs7, ht, zero_add]
  unfold term G7
  by_cases hy : (y 0).val < 31
  · simp only [if_pos hy]
    exact sum_tiles 16 512 rfl (fun s => cv (X0 m c) s (y 1).val * Ideal.logistic (cg (X0 m c) s (y 1).val) * late (X1 m c) (30 - (y 0).val + s) (y 1).val)
  · simp only [if_neg hy]
    exact Finset.sum_const_zero

/-- The last point. -/
def t15 : Fin cfg0.N := ⟨15, by rw [show cfg0.N = 16 from N_0]; omega⟩

/-- The last point writes the whole third array. -/
theorem wholeAt7 : (cfg0.win 7).WholeAt t15 := by decide +kernel

/-- The array of result 7. -/
theorem arr7_eq (c : Dev nD) : (dats m 0 c).arrAt 7 cfg0.N = G7 (X0 m c) (X1 m c) := by
  have hN : cfg0.N = 16 := N_0
  refine (dats m 0 c).arrAt_eq_of_after_last 7 t15 wholeAt7 _ (fun j => ?_)
  rw [after0_7]
  exact last7 m c j _ rfl

end Cert.ConvBwdIdeal.Prod

end
-- ==== Proof.ConvBwdRef.lean ====
/- The causal convolution's backward pass: what the reference, the derivative of the forward lines, computes tap by tap. -/
module

public import proofs.«01_k».proof.Proof.ConvBwd
public import proofs.«01_k».proof.Proof.Gen.ConvBwdRefIdeal.Read
public import Idealize.ShloMosaic.Lib.WritesUnit
public import Idealize.ShloMosaic.Lib.KernelVsHost

@[expose] public section

set_option maxRecDepth 16384

noncomputable section

namespace Cert.ConvBwdRefIdeal.Prod

open Cert.ConvBwdRefIdeal Cert.ConvBwdRefIdeal.Read Cert.Common
open Cert.ConvBwdIdeal.Prod (late du cv cg G5 G6 G7)
open Idealize.ShloMosaic Idealize.ShloMosaic.TcCoe Idealize.SL.Sem

/-- One row padded to 31 stands at the row its padding names. -/
theorem pad_row (x : S1x1024.Idx → EReal) (v : S_.Idx → EReal) (hv : ∀ i, v i = 0) (lo hi : ℕ) (h : S1x1024.Pads ![lo, 0] ![hi, 0] ![0, 0] S31x1024) (hu)
    (a : Fin 31) (q : Fin 1024) : pad S31x1024 ![lo, 0] ![hi, 0] ![0, 0] x v h hu (ix2 a q) = if a.val = lo then x (ix2 0 q) else 0 := by
  by_cases e : a.val = lo
  · rw [if_pos e]
    refine pad_apply_of_inside _ _ _ x v h hu (ix2 a q) (ix2 (0 : Fin 1) q) (fun b => ?_)
    match b with
    | ⟨0, _⟩ => show a.val = lo + 0 * (0 + 1); omega
    | ⟨1, _⟩ => show q.val = 0 + q.val * (0 + 1); omega
  · rw [if_neg e, ← hv (Shape.Idx.first hu)]
    refine pad_apply_of_not_inside _ _ _ x v h hu (ix2 a q) (0 : Fin 2) ?_
    show ¬(lo ≤ a.val ∧ (a.val - lo) % (0 + 1) = 0 ∧ (a.val - lo) / (0 + 1) < 1)
    rw [Nat.zero_add, Nat.div_one]
    omega

/-- All rows padded by 30 stand from the row their padding names on. -/
theorem pad_long (x : S8192x1024.Idx → EReal) (v : S_.Idx → EReal) (hv : ∀ i, v i = 0) (lo hi : ℕ) (h : S8192x1024.Pads ![lo, 0] ![hi, 0] ![0, 0] S8222x1024) (hu)
    (f : ℕ → ℕ → EReal) (hf : ∀ (s : Fin 8192) (q : Fin 1024), x (ix2 s q) = f s.val q.val)
    (a : Fin 8222) (q : Fin 1024) : pad S8222x1024 ![lo, 0] ![hi, 0] ![0, 0] x v h hu (ix2 a q) = if lo ≤ a.val ∧ a.val < lo + 8192 then f (a.val - lo) q.val else 0 := by
  by_cases e : lo ≤ a.val ∧ a.val < lo + 8192
  · rw [if_pos e, ← hf (⟨a.val - lo, by omega⟩ : Fin 8192) q]
    refine pad_apply_of_inside _ _ _ x v h hu (ix2 a q) (ix2 (⟨a.val - lo, by omega⟩ : Fin 8192) q) (fun b => ?_)
    match b with
    | ⟨0, _⟩ => show a.val = lo + (a.val - lo) * (0 + 1); omega
    | ⟨1, _⟩ => show q.val = 0 + q.val * (0 + 1); omega
  · rw [if_neg e, ← hv (Shape.Idx.first hu)]
    refine pad_apply_of_not_inside _ _ _ x v h hu (ix2 a q) (0 : Fin 2) ?_
    show ¬(lo ≤ a.val ∧ (a.val - lo) % (0 + 1) = 0 ∧ (a.val - lo) / (0 + 1) < 8192)
    rw [Nat.zero_add, Nat.div_one]
    omega

variable (x0 : S8192x5120.Idx → EReal) (x1 : S8192x1024.Idx → EReal) (x2 : S31x1024.Idx → EReal)

/-- The gated rows after 30 rows of zeros. -/
def U (a q : ℕ) : EReal := if a < 30 then 0 else cv x0 (a - 30) q * Ideal.logistic (cg x0 (a - 30) q)

/-- What tap `j` gathers for its weight. -/
def DW (j q : ℕ) : EReal := ∑ s : Fin 8192, U x0 (j + s.val) q * rd x1 s.val q

/-- What tap `j` gives to row `a` of the gradient of the padded rows. -/
def DUt (j a q : ℕ) : EReal := if j ≤ a ∧ a < j + 8192 then rd x1 (a - j) q * rd x2 j q else 0

theorem v0_at (i : S8192x1024.Idx) : @Eq EReal (val_main_v0 (F := Ideal) x0 i) (cv x0 (i 0).val (i 1).val) := by
  rw [val_main_v0_apply]
  exact eq_rd x0 _ _ _ rfl rfl

theorem v7_at (i : S8192x1024.Idx) : @Eq EReal (val_main_v7 (F := Ideal) x0 i) (Ideal.logistic (cg x0 (i 0).val (i 1).val)) := by
  rw [val_main_v7_apply, val_main_v6_apply, val_main_v5_apply, val_main_v4_apply, val_main_v3_apply, val_main_v2_apply, val_main_v1_apply, val_main_cst_apply, val_main_cst_0_apply]
  show Ideal.div (Ideal.ofBits .f32 0x3F800000#32) (Ideal.ofBits .f32 0x3F800000#32 + Ideal.exp (-(x0 (idx_main_v1 i)))) = _
  rw [Ideal.ofBits_one_f32, eq_rd x0 (idx_main_v1 i) (i 0).val (4096 + (i 1).val) rfl rfl]
  rfl

theorem v10_at (i : S8192x1024.Idx) : @Eq EReal (val_main_v10 (F := Ideal) x0 i) (Ideal.logistic (cg x0 (i 0).val (i 1).val) * (1 - Ideal.logistic (cg x0 (i 0).val (i 1).val))) := by
  rw [val_main_v10_apply, val_main_v9_apply, val_main_v8_apply, val_main_cst_1_apply, v7_at]
  show Ideal.logistic (cg x0 (i 0).val (i 1).val) * (Ideal.ofBits .f32 0x3F800000#32 - Ideal.logistic (cg x0 (i 0).val (i 1).val)) = _
  rw [Ideal.ofBits_one_f32]

theorem v13_at (i : S8222x1024.Idx) (a q : ℕ) (h0 : (i 0).val = a) (h1 : (i 1).val = q) : @Eq EReal (val_main_v13 (F := Ideal) x0 i) (U x0 a q) := by
  subst h0 h1
  have hi : (i 0).val < 8222 := (i 0).isLt
  have hq : (i 1).val < 1024 := (i 1).isLt
  unfold val_main_v13 U
  by_cases e : (i 0).val < 30
  · rw [if_pos e]
    refine (concatenate_pair_apply_left (s₁ := S30x1024) (s₂ := S8192x1024) (0 : Fin 2) _ _ _ i rfl (ix2 (⟨(i 0).val, e⟩ : Fin 30) (⟨(i 1).val, hq⟩ : Fin 1024)) (fun b => ?_)).trans ?_
    · match b with
      | ⟨0, _⟩ => rfl
      | ⟨1, _⟩ => rfl
    · rw [val_main_v12_apply, val_main_cst_2_apply]
      exact Ideal.ofBits_zero_f32
  · rw [if_neg e]
    refine (concatenate_pair_apply_right (s₁ := S30x1024) (s₂ := S8192x1024) (0 : Fin 2) _ _ _ i rfl rfl (ix2 (⟨(i 0).val - 30, by omega⟩ : Fin 8192) (⟨(i 1).val, hq⟩ : Fin 1024)) (fun b hb => ?_) (by show (i 0).val - 30 + 30 = (i 0).val; omega)).trans ?_
    · match b with
      | ⟨0, _⟩ => exact absurd rfl hb
      | ⟨1, _⟩ => rfl
    · rw [val_main_v11_apply, v0_at, v7_at]
      rfl

theorem dc_at (i : S8192x1024.Idx) (s q : ℕ) (h0 : (i 0).val = s) (h1 : (i 1).val = q) : @Eq EReal (val_main_v231 (F := Ideal) x1 i) (rd x1 s q) := by
  subst h0 h1
  unfold val_main_v231
  rw [shapeCast_self]
  exact eq_rd x1 i _ _ rfl rfl

theorem dc30_at (i : S8192x1024.Idx) (s q : ℕ) (h0 : (i 0).val = s) (h1 : (i 1).val = q) : @Eq EReal (val_main_v232 (F := Ideal) x1 i) (rd x1 s q) := dc_at x1 i s q h0 h1

/-- Two sums begun at zero are the sum itself. -/
theorem two_zero (f g : Fin 8192 → EReal) (h : ∀ s, f s = g s) :
    @Eq EReal (Ideal.ofBits .f32 0#32 + (Ideal.ofBits .f32 0#32 + ∑ s, f s)) (∑ s, g s) := by
  rw [Ideal.ofBits_zero_f32, zero_add, zero_add]
  exact Finset.sum_congr rfl fun s _ => h s

theorem zq (q : Fin 1024) : 0 * 1024 + q.val = q.val := by omega

theorem md (i : S1x1024.Idx) (q : ℕ) (h1 : (i 1).val = q) : (i 1).val % 1024 = q :=
  (Nat.mod_eq_of_lt (i 1).isLt).trans h1

/-! Tap 30. -/

theorem sl30 (i : S8192x1024.Idx) (s q : ℕ) (h0 : (i 0).val = s) (h1 : (i 1).val = q) : @Eq EReal (val_main_v224 (F := Ideal) x0 i) (U x0 (30 + s) q) := by
  rw [val_main_v224_apply]
  exact v13_at x0 _ _ _ (congrArg (30 + ·) h0) h1

theorem wr30 (i : S1x1024.Idx) (q : ℕ) (h1 : (i 1).val = q) : @Eq EReal (val_main_v227 (F := Ideal) x2 i) (rd x2 30 q) := by
  rw [val_main_v227_apply, val_main_v226_apply, val_main_v225_apply]
  exact eq_rd x2 _ _ _ rfl (md i q h1)

theorem dw30 (q : Fin 1024) : @Eq EReal (val_main_v239 (F := Ideal) x0 x1 (ix2 0 q)) (DW x0 x1 30 q.val) := by
  rw [val_main_v239_apply, val_main_v238_apply, Fin.sum_univ_one, val_main_v235_apply, val_main_v234_apply, val_main_cst_4_apply, val_main_cst_5_apply]
  refine (congrArg₂ (· + ·) Ideal.ofBits_zero_f32 (congrArg₂ (· + ·) Ideal.ofBits_zero_f32 rfl)).trans ?_
  rw [zero_add, zero_add]
  unfold DW
  refine Finset.sum_congr rfl fun s _ => ?_
  rw [val_main_v233_apply]
  exact congrArg₂ (· * ·) (sl30 x0 _ s.val q.val rfl (by show 0 * 1024 + q.val = q.val; omega)) (dc30_at x1 _ s.val q.val rfl (by show 0 * 1024 + q.val = q.val; omega))

theorem du30 (s : Fin 8192) (q : Fin 1024) : @Eq EReal (val_main_v237 (F := Ideal) x1 x2 (ix2 s q)) (rd x1 s.val q.val * rd x2 30 q.val) := by
  rw [val_main_v237_apply, val_main_v236_apply]
  exact congrArg₂ (· * ·) (dc30_at x1 _ s.val q.val rfl rfl) (wr30 x2 _ q.val rfl)

theorem pr30 (a : Fin 31) (q : Fin 1024) : @Eq EReal (val_main_v240 (F := Ideal) x0 x1 (ix2 a q)) (if a.val = 30 then DW x0 x1 30 q.val else 0) := by
  unfold val_main_v240
  refine (pad_row _ _ (fun _ => Ideal.ofBits_zero_f32) 30 0 _ _ a q).trans ?_
  rw [dw30]

theorem pl30 (a : Fin 8222) (q : Fin 1024) : @Eq EReal (val_main_v241 (F := Ideal) x1 x2 (ix2 a q)) (DUt x1 x2 30 a.val q.val) := by
  unfold val_main_v241
  exact pad_long _ _ (fun _ => Ideal.ofBits_zero_f32) 30 0 _ _ (fun s q => rd x1 s q * rd x2 30 q) (du30 x1 x2) a q

theorem aw30 (a : Fin 31) (q : Fin 1024) : @Eq EReal (val_main_v240 (F := Ideal) x0 x1 (ix2 a q)) (if 30 ≤ a.val then DW x0 x1 a.val q.val else 0) := by
  refine (pr30 x0 x1 a q).trans ?_
  have ha : a.val < 31 := a.isLt
  by_cases e : a.val = 30
  · rw [if_pos e, if_pos (by omega), e]
  · rw [if_neg e, if_neg (by omega)]

theorem au30 (a : Fin 8222) (q : Fin 1024) : @Eq EReal (val_main_v241 (F := Ideal) x1 x2 (ix2 a q)) (∑ k ∈ Finset.Ico 30 31, DUt x1 x2 k a.val q.val) := by
  rw [pl30, Finset.sum_Ico_eq_sum_range, Finset.sum_range_one]

/-- One more row of the weights' gradient. -/
theorem row_step (a j : ℕ) (q : ℕ) (ha : a < 31) : (if j + 1 ≤ a then DW x0 x1 a q else 0) + (if a = j then DW x0 x1 j q else 0) = if j ≤ a then DW x0 x1 a q else 0 := by
  by_cases e : a = j
  · subst e
    rw [if_neg (by omega), if_pos rfl, if_pos (le_refl _), zero_add]
  · rw [if_neg e, add_zero]
    by_cases e' : j + 1 ≤ a
    · rw [if_pos e', if_pos (by omega)]
    · rw [if_neg e', if_neg (by omega)]

/-- One more tap of the rows' gradient. -/
theorem tap_step (a j q : ℕ) (hj : j < 31) : (∑ k ∈ Finset.Ico (j + 1) 31, DUt x1 x2 k a q) + DUt x1 x2 j a q = ∑ k ∈ Finset.Ico j 31, DUt x1 x2 k a q := by
  rw [Finset.sum_eq_sum_Ico_succ_bot hj, add_comm]

theorem z0 (_ : S_.Idx) : Ideal.ofBits .f32 0#32 = (0 : EReal) := Ideal.ofBits_zero_f32

/-- One more row of the weights' gradient, padded. -/
theorem aw_next {u : EReal} (x : S1x1024.Idx → EReal) (v : S_.Idx → EReal) (hv : ∀ i, v i = 0) (j hi : ℕ) (h : S1x1024.Pads ![j, 0] ![hi, 0] ![0, 0] S31x1024) (hs)
    (a : Fin 31) (q : Fin 1024) (hu : u = if j + 1 ≤ a.val then DW x0 x1 a.val q.val else 0) (hx : x (ix2 0 q) = DW x0 x1 j q.val) :
    u + pad S31x1024 ![j, 0] ![hi, 0] ![0, 0] x v h hs (ix2 a q) = if j ≤ a.val then DW x0 x1 a.val q.val else 0 := by
  rw [hu, pad_row x v hv, hx]
  exact row_step x0 x1 a.val j q.val a.isLt

/-- One more tap of the rows' gradient, padded. -/
theorem au_next {u : EReal} (x : S8192x1024.Idx → EReal) (v : S_.Idx → EReal) (hv : ∀ i, v i = 0) (j hi : ℕ) (hj : j < 31) (h : S8192x1024.Pads ![j, 0] ![hi, 0] ![0, 0] S8222x1024) (hs)
    (a : Fin 8222) (q : Fin 1024) (hu : u = ∑ k ∈ Finset.Ico (j + 1) 31, DUt x1 x2 k a.val q.val)
    (hx : ∀ (s : Fin 8192) (q : Fin 1024), x (ix2 s q) = rd x1 s.val q.val * rd x2 j q.val) :
    u + pad S8222x1024 ![j, 0] ![hi, 0] ![0, 0] x v h hs (ix2 a q) = ∑ k ∈ Finset.Ico j 31, DUt x1 x2 k a.val q.val := by
  rw [hu, pad_long x v hv j hi h hs (fun s q => rd x1 s q * rd x2 j q) hx]
  exact tap_step x1 x2 a.val j q.val hj

/-! Tap 29. -/

theorem sl29 (i : S8192x1024.Idx) (s q : ℕ) (h0 : (i 0).val = s) (h1 : (i 1).val = q) : @Eq EReal (val_main_v217 (F := Ideal) x0 i) (U x0 (29 + s) q) := by
  rw [val_main_v217_apply]
  exact v13_at x0 _ _ _ (congrArg (29 + ·) h0) h1

theorem wr29 (i : S1x1024.Idx) (q : ℕ) (h1 : (i 1).val = q) : @Eq EReal (val_main_v220 (F := Ideal) x2 i) (rd x2 29 q) := by
  rw [val_main_v220_apply, val_main_v219_apply, val_main_v218_apply]
  exact eq_rd x2 _ _ _ rfl (md i q h1)

theorem dw29 (q : Fin 1024) : @Eq EReal (val_main_v248 (F := Ideal) x0 x1 (ix2 0 q)) (DW x0 x1 29 q.val) := by
  rw [val_main_v248_apply, val_main_v247_apply, Fin.sum_univ_one, val_main_v244_apply, val_main_v243_apply, val_main_cst_8_apply, val_main_cst_9_apply]
  exact two_zero _ _ fun s => congrArg₂ (· * ·) (sl29 x0 _ s.val q.val rfl (zq q)) (dc_at x1 _ s.val q.val rfl (zq q))

theorem du29 (s : Fin 8192) (q : Fin 1024) : @Eq EReal (val_main_v246 (F := Ideal) x1 x2 (ix2 s q)) (rd x1 s.val q.val * rd x2 29 q.val) := by
  rw [val_main_v246_apply, val_main_v245_apply]
  exact congrArg₂ (· * ·) (dc_at x1 _ s.val q.val rfl rfl) (wr29 x2 _ q.val rfl)

theorem aw29 (a : Fin 31) (q : Fin 1024) : @Eq EReal (val_main_v250 (F := Ideal) x0 x1 (ix2 a q)) (if 29 ≤ a.val then DW x0 x1 a.val q.val else 0) := by
  rw [val_main_v250_apply]
  exact aw_next x0 x1 _ _ z0 29 1 _ _ a q (aw30 ..) (dw29 ..)

theorem au29 (a : Fin 8222) (q : Fin 1024) : @Eq EReal (val_main_v252 (F := Ideal) x1 x2 (ix2 a q)) (∑ k ∈ Finset.Ico 29 31, DUt x1 x2 k a.val q.val) := by
  rw [val_main_v252_apply]
  exact au_next x1 x2 _ _ z0 29 1 (by omega) _ _ a q (au30 ..) (du29 x1 x2)

/-! Tap 28. -/

theorem sl28 (i : S8192x1024.Idx) (s q : ℕ) (h0 : (i 0).val = s) (h1 : (i 1).val = q) : @Eq EReal (val_main_v210 (F := Ideal) x0 i) (U x0 (28 + s) q) := by
  rw [val_main_v210_apply]
  exact v13_at x0 _ _ _ (congrArg (28 + ·) h0) h1

theorem wr28 (i : S1x1024.Idx) (q : ℕ) (h1 : (i 1).val = q) : @Eq EReal (val_main_v213 (F := Ideal) x2 i) (rd x2 28 q) := by
  rw [val_main_v213_apply, val_main_v212_apply, val_main_v211_apply]
  exact eq_rd x2 _ _ _ rfl (md i q h1)

theorem dw28 (q : Fin 1024) : @Eq EReal (val_main_v259 (F := Ideal) x0 x1 (ix2 0 q)) (DW x0 x1 28 q.val) := by
  rw [val_main_v259_apply, val_main_v258_apply, Fin.sum_univ_one, val_main_v255_apply, val_main_v254_apply, val_main_cst_12_apply, val_main_cst_13_apply]
  exact two_zero _ _ fun s => congrArg₂ (· * ·) (sl28 x0 _ s.val q.val rfl (zq q)) (dc_at x1 _ s.val q.val rfl (zq q))

theorem du28 (s : Fin 8192) (q : Fin 1024) : @Eq EReal (val_main_v257 (F := Ideal) x1 x2 (ix2 s q)) (rd x1 s.val q.val * rd x2 28 q.val) := by
  rw [val_main_v257_apply, val_main_v256_apply]
  exact congrArg₂ (· * ·) (dc_at x1 _ s.val q.val rfl rfl) (wr28 x2 _ q.val rfl)

theorem aw28 (a : Fin 31) (q : Fin 1024) : @Eq EReal (val_main_v261 (F := Ideal) x0 x1 (ix2 a q)) (if 28 ≤ a.val then DW x0 x1 a.val q.val else 0) := by
  rw [val_main_v261_apply]
  exact aw_next x0 x1 _ _ z0 28 2 _ _ a q (aw29 ..) (dw28 ..)

theorem au28 (a : Fin 8222) (q : Fin 1024) : @Eq EReal (val_main_v263 (F := Ideal) x1 x2 (ix2 a q)) (∑ k ∈ Finset.Ico 28 31, DUt x1 x2 k a.val q.val) := by
  rw [val_main_v263_apply]
  exact au_next x1 x2 _ _ z0 28 2 (by omega) _ _ a q (au29 ..) (du28 x1 x2)

/-! Tap 27. -/

theorem sl27 (i : S8192x1024.Idx) (s q : ℕ) (h0 : (i 0).val = s) (h1 : (i 1).val = q) : @Eq EReal (val_main_v203 (F := Ideal) x0 i) (U x0 (27 + s) q) := by
  rw [val_main_v203_apply]
  exact v13_at x0 _ _ _ (congrArg (27 + ·) h0) h1

theorem wr27 (i : S1x1024.Idx) (q : ℕ) (h1 : (i 1).val = q) : @Eq EReal (val_main_v206 (F := Ideal) x2 i) (rd x2 27 q) := by
  rw [val_main_v206_apply, val_main_v205_apply, val_main_v204_apply]
  exact eq_rd x2 _ _ _ rfl (md i q h1)

theorem dw27 (q : Fin 1024) : @Eq EReal (val_main_v270 (F := Ideal) x0 x1 (ix2 0 q)) (DW x0 x1 27 q.val) := by
  rw [val_main_v270_apply, val_main_v269_apply, Fin.sum_univ_one, val_main_v266_apply, val_main_v265_apply, val_main_cst_16_apply, val_main_cst_17_apply]
  exact two_zero _ _ fun s => congrArg₂ (· * ·) (sl27 x0 _ s.val q.val rfl (zq q)) (dc_at x1 _ s.val q.val rfl (zq q))

theorem du27 (s : Fin 8192) (q : Fin 1024) : @Eq EReal (val_main_v268 (F := Ideal) x1 x2 (ix2 s q)) (rd x1 s.val q.val * rd x2 27 q.val) := by
  rw [val_main_v268_apply, val_main_v267_apply]
  exact congrArg₂ (· * ·) (dc_at x1 _ s.val q.val rfl rfl) (wr27 x2 _ q.val rfl)

theorem aw27 (a : Fin 31) (q : Fin 1024) : @Eq EReal (val_main_v272 (F := Ideal) x0 x1 (ix2 a q)) (if 27 ≤ a.val then DW x0 x1 a.val q.val else 0) := by
  rw [val_main_v272_apply]
  exact aw_next x0 x1 _ _ z0 27 3 _ _ a q (aw28 ..) (dw27 ..)

theorem au27 (a : Fin 8222) (q : Fin 1024) : @Eq EReal (val_main_v274 (F := Ideal) x1 x2 (ix2 a q)) (∑ k ∈ Finset.Ico 27 31, DUt x1 x2 k a.val q.val) := by
  rw [val_main_v274_apply]
  exact au_next x1 x2 _ _ z0 27 3 (by omega) _ _ a q (au28 ..) (du27 x1 x2)

/-! Tap 26. -/

theorem sl26 (i : S8192x1024.Idx) (s q : ℕ) (h0 : (i 0).val = s) (h1 : (i 1).val = q) : @Eq EReal (val_main_v196 (F := Ideal) x0 i) (U x0 (26 + s) q) := by
  rw [val_main_v196_apply]
  exact v13_at x0 _ _ _ (congrArg (26 + ·) h0) h1

theorem wr26 (i : S1x1024.Idx) (q : ℕ) (h1 : (i 1).val = q) : @Eq EReal (val_main_v199 (F := Ideal) x2 i) (rd x2 26 q) := by
  rw [val_main_v199_apply, val_main_v198_apply, val_main_v197_apply]
  exact eq_rd x2 _ _ _ rfl (md i q h1)

theorem dw26 (q : Fin 1024) : @Eq EReal (val_main_v281 (F := Ideal) x0 x1 (ix2 0 q)) (DW x0 x1 26 q.val) := by
  rw [val_main_v281_apply, val_main_v280_apply, Fin.sum_univ_one, val_main_v277_apply, val_main_v276_apply, val_main_cst_20_apply, val_main_cst_21_apply]
  exact two_zero _ _ fun s => congrArg₂ (· * ·) (sl26 x0 _ s.val q.val rfl (zq q)) (dc_at x1 _ s.val q.val rfl (zq q))

theorem du26 (s : Fin 8192) (q : Fin 1024) : @Eq EReal (val_main_v279 (F := Ideal) x1 x2 (ix2 s q)) (rd x1 s.val q.val * rd x2 26 q.val) := by
  rw [val_main_v279_apply, val_main_v278_apply]
  exact congrArg₂ (· * ·) (dc_at x1 _ s.val q.val rfl rfl) (wr26 x2 _ q.val rfl)

theorem aw26 (a : Fin 31) (q : Fin 1024) : @Eq EReal (val_main_v283 (F := Ideal) x0 x1 (ix2 a q)) (if 26 ≤ a.val then DW x0 x1 a.val q.val else 0) := by
  rw [val_main_v283_apply]
  exact aw_next x0 x1 _ _ z0 26 4 _ _ a q (aw27 ..) (dw26 ..)

theorem au26 (a : Fin 8222) (q : Fin 1024) : @Eq EReal (val_main_v285 (F := Ideal) x1 x2 (ix2 a q)) (∑ k ∈ Finset.Ico 26 31, DUt x1 x2 k a.val q.val) := by
  rw [val_main_v285_apply]
  exact au_next x1 x2 _ _ z0 26 4 (by omega) _ _ a q (au27 ..) (du26 x1 x2)

/-! Tap 25. -/

theorem sl25 (i : S8192x1024.Idx) (s q : ℕ) (h0 : (i 0).val = s) (h1 : (i 1).val = q) : @Eq EReal (val_main_v189 (F := Ideal) x0 i) (U x0 (25 + s) q) := by
  rw [val_main_v189_apply]
  exact v13_at x0 _ _ _ (congrArg (25 + ·) h0) h1

theorem wr25 (i : S1x1024.Idx) (q : ℕ) (h1 : (i 1).val = q) : @Eq EReal (val_main_v192 (F := Ideal) x2 i) (rd x2 25 q) := by
  rw [val_main_v192_apply, val_main_v191_apply, val_main_v190_apply]
  exact eq_rd x2 _ _ _ rfl (md i q h1)

theorem dw25 (q : Fin 1024) : @Eq EReal (val_main_v292 (F := Ideal) x0 x1 (ix2 0 q)) (DW x0 x1 25 q.val) := by
  rw [val_main_v292_apply, val_main_v291_apply, Fin.sum_univ_one, val_main_v288_apply, val_main_v287_apply, val_main_cst_24_apply, val_main_cst_25_apply]
  exact two_zero _ _ fun s => congrArg₂ (· * ·) (sl25 x0 _ s.val q.val rfl (zq q)) (dc_at x1 _ s.val q.val rfl (zq q))

theorem du25 (s : Fin 8192) (q : Fin 1024) : @Eq EReal (val_main_v290 (F := Ideal) x1 x2 (ix2 s q)) (rd x1 s.val q.val * rd x2 25 q.val) := by
  rw [val_main_v290_apply, val_main_v289_apply]
  exact congrArg₂ (· * ·) (dc_at x1 _ s.val q.val rfl rfl) (wr25 x2 _ q.val rfl)

theorem aw25 (a : Fin 31) (q : Fin 1024) : @Eq EReal (val_main_v294 (F := Ideal) x0 x1 (ix2 a q)) (if 25 ≤ a.val then DW x0 x1 a.val q.val else 0) := by
  rw [val_main_v294_apply]
  exact aw_next x0 x1 _ _ z0 25 5 _ _ a q (aw26 ..) (dw25 ..)

theorem au25 (a : Fin 8222) (q : Fin 1024) : @Eq EReal (val_main_v296 (F := Ideal) x1 x2 (ix2 a q)) (∑ k ∈ Finset.Ico 25 31, DUt x1 x2 k a.val q.val) := by
  rw [val_main_v296_apply]
  exact au_next x1 x2 _ _ z0 25 5 (by omega) _ _ a q (au26 ..) (du25 x1 x2)

/-! Tap 24. -/

theorem sl24 (i : S8192x1024.Idx) (s q : ℕ) (h0 : (i 0).val = s) (h1 : (i 1).val = q) : @Eq EReal (val_main_v182 (F := Ideal) x0 i) (U x0 (24 + s) q) := by
  rw [val_main_v182_apply]
  exact v13_at x0 _ _ _ (congrArg (24 + ·) h0) h1

theorem wr24 (i : S1x1024.Idx) (q : ℕ) (h1 : (i 1).val = q) : @Eq EReal (val_main_v185 (F := Ideal) x2 i) (rd x2 24 q) := by
  rw [val_main_v185_apply, val_main_v184_apply, val_main_v183_apply]
  exact eq_rd x2 _ _ _ rfl (md i q h1)

theorem dw24 (q : Fin 1024) : @Eq EReal (val_main_v303 (F := Ideal) x0 x1 (ix2 0 q)) (DW x0 x1 24 q.val) := by
  rw [val_main_v303_apply, val_main_v302_apply, Fin.sum_univ_one, val_main_v299_apply, val_main_v298_apply, val_main_cst_28_apply, val_main_cst_29_apply]
  exact two_zero _ _ fun s => congrArg₂ (· * ·) (sl24 x0 _ s.val q.val rfl (zq q)) (dc_at x1 _ s.val q.val rfl (zq q))

theorem du24 (s : Fin 8192) (q : Fin 1024) : @Eq EReal (val_main_v301 (F := Ideal) x1 x2 (ix2 s q)) (rd x1 s.val q.val * rd x2 24 q.val) := by
  rw [val_main_v301_apply, val_main_v300_apply]
  exact congrArg₂ (· * ·) (dc_at x1 _ s.val q.val rfl rfl) (wr24 x2 _ q.val rfl)

theorem aw24 (a : Fin 31) (q : Fin 1024) : @Eq EReal (val_main_v305 (F := Ideal) x0 x1 (ix2 a q)) (if 24 ≤ a.val then DW x0 x1 a.val q.val else 0) := by
  rw [val_main_v305_apply]
  exact aw_next x0 x1 _ _ z0 24 6 _ _ a q (aw25 ..) (dw24 ..)

theorem au24 (a : Fin 8222) (q : Fin 1024) : @Eq EReal (val_main_v307 (F := Ideal) x1 x2 (ix2 a q)) (∑ k ∈ Finset.Ico 24 31, DUt x1 x2 k a.val q.val) := by
  rw [val_main_v307_apply]
  exact au_next x1 x2 _ _ z0 24 6 (by omega) _ _ a q (au25 ..) (du24 x1 x2)

/-! Tap 23. -/

theorem sl23 (i : S8192x1024.Idx) (s q : ℕ) (h0 : (i 0).val = s) (h1 : (i 1).val = q) : @Eq EReal (val_main_v175 (F := Ideal) x0 i) (U x0 (23 + s) q) := by
  rw [val_main_v175_apply]
  exact v13_at x0 _ _ _ (congrArg (23 + ·) h0) h1

theorem wr23 (i : S1x1024.Idx) (q : ℕ) (h1 : (i 1).val = q) : @Eq EReal (val_main_v178 (F := Ideal) x2 i) (rd x2 23 q) := by
  rw [val_main_v178_apply, val_main_v177_apply, val_main_v176_apply]
  exact eq_rd x2 _ _ _ rfl (md i q h1)

theorem dw23 (q : Fin 1024) : @Eq EReal (val_main_v314 (F := Ideal) x0 x1 (ix2 0 q)) (DW x0 x1 23 q.val) := by
  rw [val_main_v314_apply, val_main_v313_apply, Fin.sum_univ_one, val_main_v310_apply, val_main_v309_apply, val_main_cst_32_apply, val_main_cst_33_apply]
  exact two_zero _ _ fun s => congrArg₂ (· * ·) (sl23 x0 _ s.val q.val rfl (zq q)) (dc_at x1 _ s.val q.val rfl (zq q))

theorem du23 (s : Fin 8192) (q : Fin 1024) : @Eq EReal (val_main_v312 (F := Ideal) x1 x2 (ix2 s q)) (rd x1 s.val q.val * rd x2 23 q.val) := by
  rw [val_main_v312_apply, val_main_v311_apply]
  exact congrArg₂ (· * ·) (dc_at x1 _ s.val q.val rfl rfl) (wr23 x2 _ q.val rfl)

theorem aw23 (a : Fin 31) (q : Fin 1024) : @Eq EReal (val_main_v316 (F := Ideal) x0 x1 (ix2 a q)) (if 23 ≤ a.val then DW x0 x1 a.val q.val else 0) := by
  rw [val_main_v316_apply]
  exact aw_next x0 x1 _ _ z0 23 7 _ _ a q (aw24 ..) (dw23 ..)

theorem au23 (a : Fin 8222) (q : Fin 1024) : @Eq EReal (val_main_v318 (F := Ideal) x1 x2 (ix2 a q)) (∑ k ∈ Finset.Ico 23 31, DUt x1 x2 k a.val q.val) := by
  rw [val_main_v318_apply]
  exact au_next x1 x2 _ _ z0 23 7 (by omega) _ _ a q (au24 ..) (du23 x1 x2)

/-! Tap 22. -/

theorem sl22 (i : S8192x1024.Idx) (s q : ℕ) (h0 : (i 0).val = s) (h1 : (i 1).val = q) : @Eq EReal (val_main_v168 (F := Ideal) x0 i) (U x0 (22 + s) q) := by
  rw [val_main_v168_apply]
  exact v13_at x0 _ _ _ (congrArg (22 + ·) h0) h1

theorem wr22 (i : S1x1024.Idx) (q : ℕ) (h1 : (i 1).val = q) : @Eq EReal (val_main_v171 (F := Ideal) x2 i) (rd x2 22 q) := by
  rw [val_main_v171_apply, val_main_v170_apply, val_main_v169_apply]
  exact eq_rd x2 _ _ _ rfl (md i q h1)

theorem dw22 (q : Fin 1024) : @Eq EReal (val_main_v325 (F := Ideal) x0 x1 (ix2 0 q)) (DW x0 x1 22 q.val) := by
  rw [val_main_v325_apply, val_main_v324_apply, Fin.sum_univ_one, val_main_v321_apply, val_main_v320_apply, val_main_cst_36_apply, val_main_cst_37_apply]
  exact two_zero _ _ fun s => congrArg₂ (· * ·) (sl22 x0 _ s.val q.val rfl (zq q)) (dc_at x1 _ s.val q.val rfl (zq q))

theorem du22 (s : Fin 8192) (q : Fin 1024) : @Eq EReal (val_main_v323 (F := Ideal) x1 x2 (ix2 s q)) (rd x1 s.val q.val * rd x2 22 q.val) := by
  rw [val_main_v323_apply, val_main_v322_apply]
  exact congrArg₂ (· * ·) (dc_at x1 _ s.val q.val rfl rfl) (wr22 x2 _ q.val rfl)

theorem aw22 (a : Fin 31) (q : Fin 1024) : @Eq EReal (val_main_v327 (F := Ideal) x0 x1 (ix2 a q)) (if 22 ≤ a.val then DW x0 x1 a.val q.val else 0) := by
  rw [val_main_v327_apply]
  exact aw_next x0 x1 _ _ z0 22 8 _ _ a q (aw23 ..) (dw22 ..)

theorem au22 (a : Fin 8222) (q : Fin 1024) : @Eq EReal (val_main_v329 (F := Ideal) x1 x2 (ix2 a q)) (∑ k ∈ Finset.Ico 22 31, DUt x1 x2 k a.val q.val) := by
  rw [val_main_v329_apply]
  exact au_next x1 x2 _ _ z0 22 8 (by omega) _ _ a q (au23 ..) (du22 x1 x2)

/-! Tap 21. -/

theorem sl21 (i : S8192x1024.Idx) (s q : ℕ) (h0 : (i 0).val = s) (h1 : (i 1).val = q) : @Eq EReal (val_main_v161 (F := Ideal) x0 i) (U x0 (21 + s) q) := by
  rw [val_main_v161_apply]
  exact v13_at x0 _ _ _ (congrArg (21 + ·) h0) h1

theorem wr21 (i : S1x1024.Idx) (q : ℕ) (h1 : (i 1).val = q) : @Eq EReal (val_main_v164 (F := Ideal) x2 i) (rd x2 21 q) := by
  rw [val_main_v164_apply, val_main_v163_apply, val_main_v162_apply]
  exact eq_rd x2 _ _ _ rfl (md i q h1)

theorem dw21 (q : Fin 1024) : @Eq EReal (val_main_v336 (F := Ideal) x0 x1 (ix2 0 q)) (DW x0 x1 21 q.val) := by
  rw [val_main_v336_apply, val_main_v335_apply, Fin.sum_univ_one, val_main_v332_apply, val_main_v331_apply, val_main_cst_40_apply, val_main_cst_41_apply]
  exact two_zero _ _ fun s => congrArg₂ (· * ·) (sl21 x0 _ s.val q.val rfl (zq q)) (dc_at x1 _ s.val q.val rfl (zq q))

theorem du21 (s : Fin 8192) (q : Fin 1024) : @Eq EReal (val_main_v334 (F := Ideal) x1 x2 (ix2 s q)) (rd x1 s.val q.val * rd x2 21 q.val) := by
  rw [val_main_v334_apply, val_main_v333_apply]
  exact congrArg₂ (· * ·) (dc_at x1 _ s.val q.val rfl rfl) (wr21 x2 _ q.val rfl)

theorem aw21 (a : Fin 31) (q : Fin 1024) : @Eq EReal (val_main_v338 (F := Ideal) x0 x1 (ix2 a q)) (if 21 ≤ a.val then DW x0 x1 a.val q.val else 0) := by
  rw [val_main_v338_apply]
  exact aw_next x0 x1 _ _ z0 21 9 _ _ a q (aw22 ..) (dw21 ..)

theorem au21 (a : Fin 8222) (q : Fin 1024) : @Eq EReal (val_main_v340 (F := Ideal) x1 x2 (ix2 a q)) (∑ k ∈ Finset.Ico 21 31, DUt x1 x2 k a.val q.val) := by
  rw [val_main_v340_apply]
  exact au_next x1 x2 _ _ z0 21 9 (by omega) _ _ a q (au22 ..) (du21 x1 x2)

/-! Tap 20. -/

theorem sl20 (i : S8192x1024.Idx) (s q : ℕ) (h0 : (i 0).val = s) (h1 : (i 1).val = q) : @Eq EReal (val_main_v154 (F := Ideal) x0 i) (U x0 (20 + s) q) := by
  rw [val_main_v154_apply]
  exact v13_at x0 _ _ _ (congrArg (20 + ·) h0) h1

theorem wr20 (i : S1x1024.Idx) (q : ℕ) (h1 : (i 1).val = q) : @Eq EReal (val_main_v157 (F := Ideal) x2 i) (rd x2 20 q) := by
  rw [val_main_v157_apply, val_main_v156_apply, val_main_v155_apply]
  exact eq_rd x2 _ _ _ rfl (md i q h1)

theorem dw20 (q : Fin 1024) : @Eq EReal (val_main_v347 (F := Ideal) x0 x1 (ix2 0 q)) (DW x0 x1 20 q.val) := by
  rw [val_main_v347_apply, val_main_v346_apply, Fin.sum_univ_one, val_main_v343_apply, val_main_v342_apply, val_main_cst_44_apply, val_main_cst_45_apply]
  exact two_zero _ _ fun s => congrArg₂ (· * ·) (sl20 x0 _ s.val q.val rfl (zq q)) (dc_at x1 _ s.val q.val rfl (zq q))

theorem du20 (s : Fin 8192) (q : Fin 1024) : @Eq EReal (val_main_v345 (F := Ideal) x1 x2 (ix2 s q)) (rd x1 s.val q.val * rd x2 20 q.val) := by
  rw [val_main_v345_apply, val_main_v344_apply]
  exact congrArg₂ (· * ·) (dc_at x1 _ s.val q.val rfl rfl) (wr20 x2 _ q.val rfl)

theorem aw20 (a : Fin 31) (q : Fin 1024) : @Eq EReal (val_main_v349 (F := Ideal) x0 x1 (ix2 a q)) (if 20 ≤ a.val then DW x0 x1 a.val q.val else 0) := by
  rw [val_main_v349_apply]
  exact aw_next x0 x1 _ _ z0 20 10 _ _ a q (aw21 ..) (dw20 ..)

theorem au20 (a : Fin 8222) (q : Fin 1024) : @Eq EReal (val_main_v351 (F := Ideal) x1 x2 (ix2 a q)) (∑ k ∈ Finset.Ico 20 31, DUt x1 x2 k a.val q.val) := by
  rw [val_main_v351_apply]
  exact au_next x1 x2 _ _ z0 20 10 (by omega) _ _ a q (au21 ..) (du20 x1 x2)

/-! Tap 19. -/

theorem sl19 (i : S8192x1024.Idx) (s q : ℕ) (h0 : (i 0).val = s) (h1 : (i 1).val = q) : @Eq EReal (val_main_v147 (F := Ideal) x0 i) (U x0 (19 + s) q) := by
  rw [val_main_v147_apply]
  exact v13_at x0 _ _ _ (congrArg (19 + ·) h0) h1

theorem wr19 (i : S1x1024.Idx) (q : ℕ) (h1 : (i 1).val = q) : @Eq EReal (val_main_v150 (F := Ideal) x2 i) (rd x2 19 q) := by
  rw [val_main_v150_apply, val_main_v149_apply, val_main_v148_apply]
  exact eq_rd x2 _ _ _ rfl (md i q h1)

theorem dw19 (q : Fin 1024) : @Eq EReal (val_main_v358 (F := Ideal) x0 x1 (ix2 0 q)) (DW x0 x1 19 q.val) := by
  rw [val_main_v358_apply, val_main_v357_apply, Fin.sum_univ_one, val_main_v354_apply, val_main_v353_apply, val_main_cst_48_apply, val_main_cst_49_apply]
  exact two_zero _ _ fun s => congrArg₂ (· * ·) (sl19 x0 _ s.val q.val rfl (zq q)) (dc_at x1 _ s.val q.val rfl (zq q))

theorem du19 (s : Fin 8192) (q : Fin 1024) : @Eq EReal (val_main_v356 (F := Ideal) x1 x2 (ix2 s q)) (rd x1 s.val q.val * rd x2 19 q.val) := by
  rw [val_main_v356_apply, val_main_v355_apply]
  exact congrArg₂ (· * ·) (dc_at x1 _ s.val q.val rfl rfl) (wr19 x2 _ q.val rfl)

theorem aw19 (a : Fin 31) (q : Fin 1024) : @Eq EReal (val_main_v360 (F := Ideal) x0 x1 (ix2 a q)) (if 19 ≤ a.val then DW x0 x1 a.val q.val else 0) := by
  rw [val_main_v360_apply]
  exact aw_next x0 x1 _ _ z0 19 11 _ _ a q (aw20 ..) (dw19 ..)

theorem au19 (a : Fin 8222) (q : Fin 1024) : @Eq EReal (val_main_v362 (F := Ideal) x1 x2 (ix2 a q)) (∑ k ∈ Finset.Ico 19 31, DUt x1 x2 k a.val q.val) := by
  rw [val_main_v362_apply]
  exact au_next x1 x2 _ _ z0 19 11 (by omega) _ _ a q (au20 ..) (du19 x1 x2)

/-! Tap 18. -/

theorem sl18 (i : S8192x1024.Idx) (s q : ℕ) (h0 : (i 0).val = s) (h1 : (i 1).val = q) : @Eq EReal (val_main_v140 (F := Ideal) x0 i) (U x0 (18 + s) q) := by
  rw [val_main_v140_apply]
  exact v13_at x0 _ _ _ (congrArg (18 + ·) h0) h1

theorem wr18 (i : S1x1024.Idx) (q : ℕ) (h1 : (i 1).val = q) : @Eq EReal (val_main_v143 (F := Ideal) x2 i) (rd x2 18 q) := by
  rw [val_main_v143_apply, val_main_v142_apply, val_main_v141_apply]
  exact eq_rd x2 _ _ _ rfl (md i q h1)

theorem dw18 (q : Fin 1024) : @Eq EReal (val_main_v369 (F := Ideal) x0 x1 (ix2 0 q)) (DW x0 x1 18 q.val) := by
  rw [val_main_v369_apply, val_main_v368_apply, Fin.sum_univ_one, val_main_v365_apply, val_main_v364_apply, val_main_cst_52_apply, val_main_cst_53_apply]
  exact two_zero _ _ fun s => congrArg₂ (· * ·) (sl18 x0 _ s.val q.val rfl (zq q)) (dc_at x1 _ s.val q.val rfl (zq q))

theorem du18 (s : Fin 8192) (q : Fin 1024) : @Eq EReal (val_main_v367 (F := Ideal) x1 x2 (ix2 s q)) (rd x1 s.val q.val * rd x2 18 q.val) := by
  rw [val_main_v367_apply, val_main_v366_apply]
  exact congrArg₂ (· * ·) (dc_at x1 _ s.val q.val rfl rfl) (wr18 x2 _ q.val rfl)

theorem aw18 (a : Fin 31) (q : Fin 1024) : @Eq EReal (val_main_v371 (F := Ideal) x0 x1 (ix2 a q)) (if 18 ≤ a.val then DW x0 x1 a.val q.val else 0) := by
  rw [val_main_v371_apply]
  exact aw_next x0 x1 _ _ z0 18 12 _ _ a q (aw19 ..) (dw18 ..)

theorem au18 (a : Fin 8222) (q : Fin 1024) : @Eq EReal (val_main_v373 (F := Ideal) x1 x2 (ix2 a q)) (∑ k ∈ Finset.Ico 18 31, DUt x1 x2 k a.val q.val) := by
  rw [val_main_v373_apply]
  exact au_next x1 x2 _ _ z0 18 12 (by omega) _ _ a q (au19 ..) (du18 x1 x2)

/-! Tap 17. -/

theorem sl17 (i : S8192x1024.Idx) (s q : ℕ) (h0 : (i 0).val = s) (h1 : (i 1).val = q) : @Eq EReal (val_main_v133 (F := Ideal) x0 i) (U x0 (17 + s) q) := by
  rw [val_main_v133_apply]
  exact v13_at x0 _ _ _ (congrArg (17 + ·) h0) h1

theorem wr17 (i : S1x1024.Idx) (q : ℕ) (h1 : (i 1).val = q) : @Eq EReal (val_main_v136 (F := Ideal) x2 i) (rd x2 17 q) := by
  rw [val_main_v136_apply, val_main_v135_apply, val_main_v134_apply]
  exact eq_rd x2 _ _ _ rfl (md i q h1)

theorem dw17 (q : Fin 1024) : @Eq EReal (val_main_v380 (F := Ideal) x0 x1 (ix2 0 q)) (DW x0 x1 17 q.val) := by
  rw [val_main_v380_apply, val_main_v379_apply, Fin.sum_univ_one, val_main_v376_apply, val_main_v375_apply, val_main_cst_56_apply, val_main_cst_57_apply]
  exact two_zero _ _ fun s => congrArg₂ (· * ·) (sl17 x0 _ s.val q.val rfl (zq q)) (dc_at x1 _ s.val q.val rfl (zq q))

theorem du17 (s : Fin 8192) (q : Fin 1024) : @Eq EReal (val_main_v378 (F := Ideal) x1 x2 (ix2 s q)) (rd x1 s.val q.val * rd x2 17 q.val) := by
  rw [val_main_v378_apply, val_main_v377_apply]
  exact congrArg₂ (· * ·) (dc_at x1 _ s.val q.val rfl rfl) (wr17 x2 _ q.val rfl)

theorem aw17 (a : Fin 31) (q : Fin 1024) : @Eq EReal (val_main_v382 (F := Ideal) x0 x1 (ix2 a q)) (if 17 ≤ a.val then DW x0 x1 a.val q.val else 0) := by
  rw [val_main_v382_apply]
  exact aw_next x0 x1 _ _ z0 17 13 _ _ a q (aw18 ..) (dw17 ..)

theorem au17 (a : Fin 8222) (q : Fin 1024) : @Eq EReal (val_main_v384 (F := Ideal) x1 x2 (ix2 a q)) (∑ k ∈ Finset.Ico 17 31, DUt x1 x2 k a.val q.val) := by
  rw [val_main_v384_apply]
  exact au_next x1 x2 _ _ z0 17 13 (by omega) _ _ a q (au18 ..) (du17 x1 x2)

/-! Tap 16. -/

theorem sl16 (i : S8192x1024.Idx) (s q : ℕ) (h0 : (i 0).val = s) (h1 : (i 1).val = q) : @Eq EReal (val_main_v126 (F := Ideal) x0 i) (U x0 (16 + s) q) := by
  rw [val_main_v126_apply]
  exact v13_at x0 _ _ _ (congrArg (16 + ·) h0) h1

theorem wr16 (i : S1x1024.Idx) (q : ℕ) (h1 : (i 1).val = q) : @Eq EReal (val_main_v129 (F := Ideal) x2 i) (rd x2 16 q) := by
  rw [val_main_v129_apply, val_main_v128_apply, val_main_v127_apply]
  exact eq_rd x2 _ _ _ rfl (md i q h1)

theorem dw16 (q : Fin 1024) : @Eq EReal (val_main_v391 (F := Ideal) x0 x1 (ix2 0 q)) (DW x0 x1 16 q.val) := by
  rw [val_main_v391_apply, val_main_v390_apply, Fin.sum_univ_one, val_main_v387_apply, val_main_v386_apply, val_main_cst_60_apply, val_main_cst_61_apply]
  exact two_zero _ _ fun s => congrArg₂ (· * ·) (sl16 x0 _ s.val q.val rfl (zq q)) (dc_at x1 _ s.val q.val rfl (zq q))

theorem du16 (s : Fin 8192) (q : Fin 1024) : @Eq EReal (val_main_v389 (F := Ideal) x1 x2 (ix2 s q)) (rd x1 s.val q.val * rd x2 16 q.val) := by
  rw [val_main_v389_apply, val_main_v388_apply]
  exact congrArg₂ (· * ·) (dc_at x1 _ s.val q.val rfl rfl) (wr16 x2 _ q.val rfl)

theorem aw16 (a : Fin 31) (q : Fin 1024) : @Eq EReal (val_main_v393 (F := Ideal) x0 x1 (ix2 a q)) (if 16 ≤ a.val then DW x0 x1 a.val q.val else 0) := by
  rw [val_main_v393_apply]
  exact aw_next x0 x1 _ _ z0 16 14 _ _ a q (aw17 ..) (dw16 ..)

theorem au16 (a : Fin 8222) (q : Fin 1024) : @Eq EReal (val_main_v395 (F := Ideal) x1 x2 (ix2 a q)) (∑ k ∈ Finset.Ico 16 31, DUt x1 x2 k a.val q.val) := by
  rw [val_main_v395_apply]
  exact au_next x1 x2 _ _ z0 16 14 (by omega) _ _ a q (au17 ..) (du16 x1 x2)

/-! Tap 15. -/

theorem sl15 (i : S8192x1024.Idx) (s q : ℕ) (h0 : (i 0).val = s) (h1 : (i 1).val = q) : @Eq EReal (val_main_v119 (F := Ideal) x0 i) (U x0 (15 + s) q) := by
  rw [val_main_v119_apply]
  exact v13_at x0 _ _ _ (congrArg (15 + ·) h0) h1

theorem wr15 (i : S1x1024.Idx) (q : ℕ) (h1 : (i 1).val = q) : @Eq EReal (val_main_v122 (F := Ideal) x2 i) (rd x2 15 q) := by
  rw [val_main_v122_apply, val_main_v121_apply, val_main_v120_apply]
  exact eq_rd x2 _ _ _ rfl (md i q h1)

theorem dw15 (q : Fin 1024) : @Eq EReal (val_main_v402 (F := Ideal) x0 x1 (ix2 0 q)) (DW x0 x1 15 q.val) := by
  rw [val_main_v402_apply, val_main_v401_apply, Fin.sum_univ_one, val_main_v398_apply, val_main_v397_apply, val_main_cst_64_apply, val_main_cst_65_apply]
  exact two_zero _ _ fun s => congrArg₂ (· * ·) (sl15 x0 _ s.val q.val rfl (zq q)) (dc_at x1 _ s.val q.val rfl (zq q))

theorem du15 (s : Fin 8192) (q : Fin 1024) : @Eq EReal (val_main_v400 (F := Ideal) x1 x2 (ix2 s q)) (rd x1 s.val q.val * rd x2 15 q.val) := by
  rw [val_main_v400_apply, val_main_v399_apply]
  exact congrArg₂ (· * ·) (dc_at x1 _ s.val q.val rfl rfl) (wr15 x2 _ q.val rfl)

theorem aw15 (a : Fin 31) (q : Fin 1024) : @Eq EReal (val_main_v404 (F := Ideal) x0 x1 (ix2 a q)) (if 15 ≤ a.val then DW x0 x1 a.val q.val else 0) := by
  rw [val_main_v404_apply]
  exact aw_next x0 x1 _ _ z0 15 15 _ _ a q (aw16 ..) (dw15 ..)

theorem au15 (a : Fin 8222) (q : Fin 1024) : @Eq EReal (val_main_v406 (F := Ideal) x1 x2 (ix2 a q)) (∑ k ∈ Finset.Ico 15 31, DUt x1 x2 k a.val q.val) := by
  rw [val_main_v406_apply]
  exact au_next x1 x2 _ _ z0 15 15 (by omega) _ _ a q (au16 ..) (du15 x1 x2)

/-! Tap 14. -/

theorem sl14 (i : S8192x1024.Idx) (s q : ℕ) (h0 : (i 0).val = s) (h1 : (i 1).val = q) : @Eq EReal (val_main_v112 (F := Ideal) x0 i) (U x0 (14 + s) q) := by
  rw [val_main_v112_apply]
  exact v13_at x0 _ _ _ (congrArg (14 + ·) h0) h1

theorem wr14 (i : S1x1024.Idx) (q : ℕ) (h1 : (i 1).val = q) : @Eq EReal (val_main_v115 (F := Ideal) x2 i) (rd x2 14 q) := by
  rw [val_main_v115_apply, val_main_v114_apply, val_main_v113_apply]
  exact eq_rd x2 _ _ _ rfl (md i q h1)

theorem dw14 (q : Fin 1024) : @Eq EReal (val_main_v413 (F := Ideal) x0 x1 (ix2 0 q)) (DW x0 x1 14 q.val) := by
  rw [val_main_v413_apply, val_main_v412_apply, Fin.sum_univ_one, val_main_v409_apply, val_main_v408_apply, val_main_cst_68_apply, val_main_cst_69_apply]
  exact two_zero _ _ fun s => congrArg₂ (· * ·) (sl14 x0 _ s.val q.val rfl (zq q)) (dc_at x1 _ s.val q.val rfl (zq q))

theorem du14 (s : Fin 8192) (q : Fin 1024) : @Eq EReal (val_main_v411 (F := Ideal) x1 x2 (ix2 s q)) (rd x1 s.val q.val * rd x2 14 q.val) := by
  rw [val_main_v411_apply, val_main_v410_apply]
  exact congrArg₂ (· * ·) (dc_at x1 _ s.val q.val rfl rfl) (wr14 x2 _ q.val rfl)

theorem aw14 (a : Fin 31) (q : Fin 1024) : @Eq EReal (val_main_v415 (F := Ideal) x0 x1 (ix2 a q)) (if 14 ≤ a.val then DW x0 x1 a.val q.val else 0) := by
  rw [val_main_v415_apply]
  exact aw_next x0 x1 _ _ z0 14 16 _ _ a q (aw15 ..) (dw14 ..)

theorem au14 (a : Fin 8222) (q : Fin 1024) : @Eq EReal (val_main_v417 (F := Ideal) x1 x2 (ix2 a q)) (∑ k ∈ Finset.Ico 14 31, DUt x1 x2 k a.val q.val) := by
  rw [val_main_v417_apply]
  exact au_next x1 x2 _ _ z0 14 16 (by omega) _ _ a q (au15 ..) (du14 x1 x2)

/-! Tap 13. -/

theorem sl13 (i : S8192x1024.Idx) (s q : ℕ) (h0 : (i 0).val = s) (h1 : (i 1).val = q) : @Eq EReal (val_main_v105 (F := Ideal) x0 i) (U x0 (13 + s) q) := by
  rw [val_main_v105_apply]
  exact v13_at x0 _ _ _ (congrArg (13 + ·) h0) h1

theorem wr13 (i : S1x1024.Idx) (q : ℕ) (h1 : (i 1).val = q) : @Eq EReal (val_main_v108 (F := Ideal) x2 i) (rd x2 13 q) := by
  rw [val_main_v108_apply, val_main_v107_apply, val_main_v106_apply]
  exact eq_rd x2 _ _ _ rfl (md i q h1)

theorem dw13 (q : Fin 1024) : @Eq EReal (val_main_v424 (F := Ideal) x0 x1 (ix2 0 q)) (DW x0 x1 13 q.val) := by
  rw [val_main_v424_apply, val_main_v423_apply, Fin.sum_univ_one, val_main_v420_apply, val_main_v419_apply, val_main_cst_72_apply, val_main_cst_73_apply]
  exact two_zero _ _ fun s => congrArg₂ (· * ·) (sl13 x0 _ s.val q.val rfl (zq q)) (dc_at x1 _ s.val q.val rfl (zq q))

theorem du13 (s : Fin 8192) (q : Fin 1024) : @Eq EReal (val_main_v422 (F := Ideal) x1 x2 (ix2 s q)) (rd x1 s.val q.val * rd x2 13 q.val) := by
  rw [val_main_v422_apply, val_main_v421_apply]
  exact congrArg₂ (· * ·) (dc_at x1 _ s.val q.val rfl rfl) (wr13 x2 _ q.val rfl)

theorem aw13 (a : Fin 31) (q : Fin 1024) : @Eq EReal (val_main_v426 (F := Ideal) x0 x1 (ix2 a q)) (if 13 ≤ a.val then DW x0 x1 a.val q.val else 0) := by
  rw [val_main_v426_apply]
  exact aw_next x0 x1 _ _ z0 13 17 _ _ a q (aw14 ..) (dw13 ..)

theorem au13 (a : Fin 8222) (q : Fin 1024) : @Eq EReal (val_main_v428 (F := Ideal) x1 x2 (ix2 a q)) (∑ k ∈ Finset.Ico 13 31, DUt x1 x2 k a.val q.val) := by
  rw [val_main_v428_apply]
  exact au_next x1 x2 _ _ z0 13 17 (by omega) _ _ a q (au14 ..) (du13 x1 x2)

/-! Tap 12. -/

theorem sl12 (i : S8192x1024.Idx) (s q : ℕ) (h0 : (i 0).val = s) (h1 : (i 1).val = q) : @Eq EReal (val_main_v98 (F := Ideal) x0 i) (U x0 (12 + s) q) := by
  rw [val_main_v98_apply]
  exact v13_at x0 _ _ _ (congrArg (12 + ·) h0) h1

theorem wr12 (i : S1x1024.Idx) (q : ℕ) (h1 : (i 1).val = q) : @Eq EReal (val_main_v101 (F := Ideal) x2 i) (rd x2 12 q) := by
  rw [val_main_v101_apply, val_main_v100_apply, val_main_v99_apply]
  exact eq_rd x2 _ _ _ rfl (md i q h1)

theorem dw12 (q : Fin 1024) : @Eq EReal (val_main_v435 (F := Ideal) x0 x1 (ix2 0 q)) (DW x0 x1 12 q.val) := by
  rw [val_main_v435_apply, val_main_v434_apply, Fin.sum_univ_one, val_main_v431_apply, val_main_v430_apply, val_main_cst_76_apply, val_main_cst_77_apply]
  exact two_zero _ _ fun s => congrArg₂ (· * ·) (sl12 x0 _ s.val q.val rfl (zq q)) (dc_at x1 _ s.val q.val rfl (zq q))

theorem du12 (s : Fin 8192) (q : Fin 1024) : @Eq EReal (val_main_v433 (F := Ideal) x1 x2 (ix2 s q)) (rd x1 s.val q.val * rd x2 12 q.val) := by
  rw [val_main_v433_apply, val_main_v432_apply]
  exact congrArg₂ (· * ·) (dc_at x1 _ s.val q.val rfl rfl) (wr12 x2 _ q.val rfl)

theorem aw12 (a : Fin 31) (q : Fin 1024) : @Eq EReal (val_main_v437 (F := Ideal) x0 x1 (ix2 a q)) (if 12 ≤ a.val then DW x0 x1 a.val q.val else 0) := by
  rw [val_main_v437_apply]
  exact aw_next x0 x1 _ _ z0 12 18 _ _ a q (aw13 ..) (dw12 ..)

theorem au12 (a : Fin 8222) (q : Fin 1024) : @Eq EReal (val_main_v439 (F := Ideal) x1 x2 (ix2 a q)) (∑ k ∈ Finset.Ico 12 31, DUt x1 x2 k a.val q.val) := by
  rw [val_main_v439_apply]
  exact au_next x1 x2 _ _ z0 12 18 (by omega) _ _ a q (au13 ..) (du12 x1 x2)

/-! Tap 11. -/

theorem sl11 (i : S8192x1024.Idx) (s q : ℕ) (h0 : (i 0).val = s) (h1 : (i 1).val = q) : @Eq EReal (val_main_v91 (F := Ideal) x0 i) (U x0 (11 + s) q) := by
  rw [val_main_v91_apply]
  exact v13_at x0 _ _ _ (congrArg (11 + ·) h0) h1

theorem wr11 (i : S1x1024.Idx) (q : ℕ) (h1 : (i 1).val = q) : @Eq EReal (val_main_v94 (F := Ideal) x2 i) (rd x2 11 q) := by
  rw [val_main_v94_apply, val_main_v93_apply, val_main_v92_apply]
  exact eq_rd x2 _ _ _ rfl (md i q h1)

theorem dw11 (q : Fin 1024) : @Eq EReal (val_main_v446 (F := Ideal) x0 x1 (ix2 0 q)) (DW x0 x1 11 q.val) := by
  rw [val_main_v446_apply, val_main_v445_apply, Fin.sum_univ_one, val_main_v442_apply, val_main_v441_apply, val_main_cst_80_apply, val_main_cst_81_apply]
  exact two_zero _ _ fun s => congrArg₂ (· * ·) (sl11 x0 _ s.val q.val rfl (zq q)) (dc_at x1 _ s.val q.val rfl (zq q))

theorem du11 (s : Fin 8192) (q : Fin 1024) : @Eq EReal (val_main_v444 (F := Ideal) x1 x2 (ix2 s q)) (rd x1 s.val q.val * rd x2 11 q.val) := by
  rw [val_main_v444_apply, val_main_v443_apply]
  exact congrArg₂ (· * ·) (dc_at x1 _ s.val q.val rfl rfl) (wr11 x2 _ q.val rfl)

theorem aw11 (a : Fin 31) (q : Fin 1024) : @Eq EReal (val_main_v448 (F := Ideal) x0 x1 (ix2 a q)) (if 11 ≤ a.val then DW x0 x1 a.val q.val else 0) := by
  rw [val_main_v448_apply]
  exact aw_next x0 x1 _ _ z0 11 19 _ _ a q (aw12 ..) (dw11 ..)

theorem au11 (a : Fin 8222) (q : Fin 1024) : @Eq EReal (val_main_v450 (F := Ideal) x1 x2 (ix2 a q)) (∑ k ∈ Finset.Ico 11 31, DUt x1 x2 k a.val q.val) := by
  rw [val_main_v450_apply]
  exact au_next x1 x2 _ _ z0 11 19 (by omega) _ _ a q (au12 ..) (du11 x1 x2)

/-! Tap 10. -/

theorem sl10 (i : S8192x1024.Idx) (s q : ℕ) (h0 : (i 0).val = s) (h1 : (i 1).val = q) : @Eq EReal (val_main_v84 (F := Ideal) x0 i) (U x0 (10 + s) q) := by
  rw [val_main_v84_apply]
  exact v13_at x0 _ _ _ (congrArg (10 + ·) h0) h1

theorem wr10 (i : S1x1024.Idx) (q : ℕ) (h1 : (i 1).val = q) : @Eq EReal (val_main_v87 (F := Ideal) x2 i) (rd x2 10 q) := by
  rw [val_main_v87_apply, val_main_v86_apply, val_main_v85_apply]
  exact eq_rd x2 _ _ _ rfl (md i q h1)

theorem dw10 (q : Fin 1024) : @Eq EReal (val_main_v457 (F := Ideal) x0 x1 (ix2 0 q)) (DW x0 x1 10 q.val) := by
  rw [val_main_v457_apply, val_main_v456_apply, Fin.sum_univ_one, val_main_v453_apply, val_main_v452_apply, val_main_cst_84_apply, val_main_cst_85_apply]
  exact two_zero _ _ fun s => congrArg₂ (· * ·) (sl10 x0 _ s.val q.val rfl (zq q)) (dc_at x1 _ s.val q.val rfl (zq q))

theorem du10 (s : Fin 8192) (q : Fin 1024) : @Eq EReal (val_main_v455 (F := Ideal) x1 x2 (ix2 s q)) (rd x1 s.val q.val * rd x2 10 q.val) := by
  rw [val_main_v455_apply, val_main_v454_apply]
  exact congrArg₂ (· * ·) (dc_at x1 _ s.val q.val rfl rfl) (wr10 x2 _ q.val rfl)

theorem aw10 (a : Fin 31) (q : Fin 1024) : @Eq EReal (val_main_v459 (F := Ideal) x0 x1 (ix2 a q)) (if 10 ≤ a.val then DW x0 x1 a.val q.val else 0) := by
  rw [val_main_v459_apply]
  exact aw_next x0 x1 _ _ z0 10 20 _ _ a q (aw11 ..) (dw10 ..)

theorem au10 (a : Fin 8222) (q : Fin 1024) : @Eq EReal (val_main_v461 (F := Ideal) x1 x2 (ix2 a q)) (∑ k ∈ Finset.Ico 10 31, DUt x1 x2 k a.val q.val) := by
  rw [val_main_v461_apply]
  exact au_next x1 x2 _ _ z0 10 20 (by omega) _ _ a q (au11 ..) (du10 x1 x2)

/-! Tap 9. -/

theorem sl9 (i : S8192x1024.Idx) (s q : ℕ) (h0 : (i 0).val = s) (h1 : (i 1).val = q) : @Eq EReal (val_main_v77 (F := Ideal) x0 i) (U x0 (9 + s) q) := by
  rw [val_main_v77_apply]
  exact v13_at x0 _ _ _ (congrArg (9 + ·) h0) h1

theorem wr9 (i : S1x1024.Idx) (q : ℕ) (h1 : (i 1).val = q) : @Eq EReal (val_main_v80 (F := Ideal) x2 i) (rd x2 9 q) := by
  rw [val_main_v80_apply, val_main_v79_apply, val_main_v78_apply]
  exact eq_rd x2 _ _ _ rfl (md i q h1)

theorem dw9 (q : Fin 1024) : @Eq EReal (val_main_v468 (F := Ideal) x0 x1 (ix2 0 q)) (DW x0 x1 9 q.val) := by
  rw [val_main_v468_apply, val_main_v467_apply, Fin.sum_univ_one, val_main_v464_apply, val_main_v463_apply, val_main_cst_88_apply, val_main_cst_89_apply]
  exact two_zero _ _ fun s => congrArg₂ (· * ·) (sl9 x0 _ s.val q.val rfl (zq q)) (dc_at x1 _ s.val q.val rfl (zq q))

theorem du9 (s : Fin 8192) (q : Fin 1024) : @Eq EReal (val_main_v466 (F := Ideal) x1 x2 (ix2 s q)) (rd x1 s.val q.val * rd x2 9 q.val) := by
  rw [val_main_v466_apply, val_main_v465_apply]
  exact congrArg₂ (· * ·) (dc_at x1 _ s.val q.val rfl rfl) (wr9 x2 _ q.val rfl)

theorem aw9 (a : Fin 31) (q : Fin 1024) : @Eq EReal (val_main_v470 (F := Ideal) x0 x1 (ix2 a q)) (if 9 ≤ a.val then DW x0 x1 a.val q.val else 0) := by
  rw [val_main_v470_apply]
  exact aw_next x0 x1 _ _ z0 9 21 _ _ a q (aw10 ..) (dw9 ..)

theorem au9 (a : Fin 8222) (q : Fin 1024) : @Eq EReal (val_main_v472 (F := Ideal) x1 x2 (ix2 a q)) (∑ k ∈ Finset.Ico 9 31, DUt x1 x2 k a.val q.val) := by
  rw [val_main_v472_apply]
  exact au_next x1 x2 _ _ z0 9 21 (by omega) _ _ a q (au10 ..) (du9 x1 x2)

/-! Tap 8. -/

theorem sl8 (i : S8192x1024.Idx) (s q : ℕ) (h0 : (i 0).val = s) (h1 : (i 1).val = q) : @Eq EReal (val_main_v70 (F := Ideal) x0 i) (U x0 (8 + s) q) := by
  rw [val_main_v70_apply]
  exact v13_at x0 _ _ _ (congrArg (8 + ·) h0) h1

theorem wr8 (i : S1x1024.Idx) (q : ℕ) (h1 : (i 1).val = q) : @Eq EReal (val_main_v73 (F := Ideal) x2 i) (rd x2 8 q) := by
  rw [val_main_v73_apply, val_main_v72_apply, val_main_v71_apply]
  exact eq_rd x2 _ _ _ rfl (md i q h1)

theorem dw8 (q : Fin 1024) : @Eq EReal (val_main_v479 (F := Ideal) x0 x1 (ix2 0 q)) (DW x0 x1 8 q.val) := by
  rw [val_main_v479_apply, val_main_v478_apply, Fin.sum_univ_one, val_main_v475_apply, val_main_v474_apply, val_main_cst_92_apply, val_main_cst_93_apply]
  exact two_zero _ _ fun s => congrArg₂ (· * ·) (sl8 x0 _ s.val q.val rfl (zq q)) (dc_at x1 _ s.val q.val rfl (zq q))

theorem du8 (s : Fin 8192) (q : Fin 1024) : @Eq EReal (val_main_v477 (F := Ideal) x1 x2 (ix2 s q)) (rd x1 s.val q.val * rd x2 8 q.val) := by
  rw [val_main_v477_apply, val_main_v476_apply]
  exact congrArg₂ (· * ·) (dc_at x1 _ s.val q.val rfl rfl) (wr8 x2 _ q.val rfl)

theorem aw8 (a : Fin 31) (q : Fin 1024) : @Eq EReal (val_main_v481 (F := Ideal) x0 x1 (ix2 a q)) (if 8 ≤ a.val then DW x0 x1 a.val q.val else 0) := by
  rw [val_main_v481_apply]
  exact aw_next x0 x1 _ _ z0 8 22 _ _ a q (aw9 ..) (dw8 ..)

theorem au8 (a : Fin 8222) (q : Fin 1024) : @Eq EReal (val_main_v483 (F := Ideal) x1 x2 (ix2 a q)) (∑ k ∈ Finset.Ico 8 31, DUt x1 x2 k a.val q.val) := by
  rw [val_main_v483_apply]
  exact au_next x1 x2 _ _ z0 8 22 (by omega) _ _ a q (au9 ..) (du8 x1 x2)

/-! Tap 7. -/

theorem sl7 (i : S8192x1024.Idx) (s q : ℕ) (h0 : (i 0).val = s) (h1 : (i 1).val = q) : @Eq EReal (val_main_v63 (F := Ideal) x0 i) (U x0 (7 + s) q) := by
  rw [val_main_v63_apply]
  exact v13_at x0 _ _ _ (congrArg (7 + ·) h0) h1

theorem wr7 (i : S1x1024.Idx) (q : ℕ) (h1 : (i 1).val = q) : @Eq EReal (val_main_v66 (F := Ideal) x2 i) (rd x2 7 q) := by
  rw [val_main_v66_apply, val_main_v65_apply, val_main_v64_apply]
  exact eq_rd x2 _ _ _ rfl (md i q h1)

theorem dw7 (q : Fin 1024) : @Eq EReal (val_main_v490 (F := Ideal) x0 x1 (ix2 0 q)) (DW x0 x1 7 q.val) := by
  rw [val_main_v490_apply, val_main_v489_apply, Fin.sum_univ_one, val_main_v486_apply, val_main_v485_apply, val_main_cst_96_apply, val_main_cst_97_apply]
  exact two_zero _ _ fun s => congrArg₂ (· * ·) (sl7 x0 _ s.val q.val rfl (zq q)) (dc_at x1 _ s.val q.val rfl (zq q))

theorem du7 (s : Fin 8192) (q : Fin 1024) : @Eq EReal (val_main_v488 (F := Ideal) x1 x2 (ix2 s q)) (rd x1 s.val q.val * rd x2 7 q.val) := by
  rw [val_main_v488_apply, val_main_v487_apply]
  exact congrArg₂ (· * ·) (dc_at x1 _ s.val q.val rfl rfl) (wr7 x2 _ q.val rfl)

theorem aw7 (a : Fin 31) (q : Fin 1024) : @Eq EReal (val_main_v492 (F := Ideal) x0 x1 (ix2 a q)) (if 7 ≤ a.val then DW x0 x1 a.val q.val else 0) := by
  rw [val_main_v492_apply]
  exact aw_next x0 x1 _ _ z0 7 23 _ _ a q (aw8 ..) (dw7 ..)

theorem au7 (a : Fin 8222) (q : Fin 1024) : @Eq EReal (val_main_v494 (F := Ideal) x1 x2 (ix2 a q)) (∑ k ∈ Finset.Ico 7 31, DUt x1 x2 k a.val q.val) := by
  rw [val_main_v494_apply]
  exact au_next x1 x2 _ _ z0 7 23 (by omega) _ _ a q (au8 ..) (du7 x1 x2)

/-! Tap 6. -/

theorem sl6 (i : S8192x1024.Idx) (s q : ℕ) (h0 : (i 0).val = s) (h1 : (i 1).val = q) : @Eq EReal (val_main_v56 (F := Ideal) x0 i) (U x0 (6 + s) q) := by
  rw [val_main_v56_apply]
  exact v13_at x0 _ _ _ (congrArg (6 + ·) h0) h1

theorem wr6 (i : S1x1024.Idx) (q : ℕ) (h1 : (i 1).val = q) : @Eq EReal (val_main_v59 (F := Ideal) x2 i) (rd x2 6 q) := by
  rw [val_main_v59_apply, val_main_v58_apply, val_main_v57_apply]
  exact eq_rd x2 _ _ _ rfl (md i q h1)

theorem dw6 (q : Fin 1024) : @Eq EReal (val_main_v501 (F := Ideal) x0 x1 (ix2 0 q)) (DW x0 x1 6 q.val) := by
  rw [val_main_v501_apply, val_main_v500_apply, Fin.sum_univ_one, val_main_v497_apply, val_main_v496_apply, val_main_cst_100_apply, val_main_cst_101_apply]
  exact two_zero _ _ fun s => congrArg₂ (· * ·) (sl6 x0 _ s.val q.val rfl (zq q)) (dc_at x1 _ s.val q.val rfl (zq q))

theorem du6 (s : Fin 8192) (q : Fin 1024) : @Eq EReal (val_main_v499 (F := Ideal) x1 x2 (ix2 s q)) (rd x1 s.val q.val * rd x2 6 q.val) := by
  rw [val_main_v499_apply, val_main_v498_apply]
  exact congrArg₂ (· * ·) (dc_at x1 _ s.val q.val rfl rfl) (wr6 x2 _ q.val rfl)

theorem aw6 (a : Fin 31) (q : Fin 1024) : @Eq EReal (val_main_v503 (F := Ideal) x0 x1 (ix2 a q)) (if 6 ≤ a.val then DW x0 x1 a.val q.val else 0) := by
  rw [val_main_v503_apply]
  exact aw_next x0 x1 _ _ z0 6 24 _ _ a q (aw7 ..) (dw6 ..)

theorem au6 (a : Fin 8222) (q : Fin 1024) : @Eq EReal (val_main_v505 (F := Ideal) x1 x2 (ix2 a q)) (∑ k ∈ Finset.Ico 6 31, DUt x1 x2 k a.val q.val) := by
  rw [val_main_v505_apply]
  exact au_next x1 x2 _ _ z0 6 24 (by omega) _ _ a q (au7 ..) (du6 x1 x2)

/-! Tap 5. -/

theorem sl5 (i : S8192x1024.Idx) (s q : ℕ) (h0 : (i 0).val = s) (h1 : (i 1).val = q) : @Eq EReal (val_main_v49 (F := Ideal) x0 i) (U x0 (5 + s) q) := by
  rw [val_main_v49_apply]
  exact v13_at x0 _ _ _ (congrArg (5 + ·) h0) h1

theorem wr5 (i : S1x1024.Idx) (q : ℕ) (h1 : (i 1).val = q) : @Eq EReal (val_main_v52 (F := Ideal) x2 i) (rd x2 5 q) := by
  rw [val_main_v52_apply, val_main_v51_apply, val_main_v50_apply]
  exact eq_rd x2 _ _ _ rfl (md i q h1)

theorem dw5 (q : Fin 1024) : @Eq EReal (val_main_v512 (F := Ideal) x0 x1 (ix2 0 q)) (DW x0 x1 5 q.val) := by
  rw [val_main_v512_apply, val_main_v511_apply, Fin.sum_univ_one, val_main_v508_apply, val_main_v507_apply, val_main_cst_104_apply, val_main_cst_105_apply]
  exact two_zero _ _ fun s => congrArg₂ (· * ·) (sl5 x0 _ s.val q.val rfl (zq q)) (dc_at x1 _ s.val q.val rfl (zq q))

theorem du5 (s : Fin 8192) (q : Fin 1024) : @Eq EReal (val_main_v510 (F := Ideal) x1 x2 (ix2 s q)) (rd x1 s.val q.val * rd x2 5 q.val) := by
  rw [val_main_v510_apply, val_main_v509_apply]
  exact congrArg₂ (· * ·) (dc_at x1 _ s.val q.val rfl rfl) (wr5 x2 _ q.val rfl)

theorem aw5 (a : Fin 31) (q : Fin 1024) : @Eq EReal (val_main_v514 (F := Ideal) x0 x1 (ix2 a q)) (if 5 ≤ a.val then DW x0 x1 a.val q.val else 0) := by
  rw [val_main_v514_apply]
  exact aw_next x0 x1 _ _ z0 5 25 _ _ a q (aw6 ..) (dw5 ..)

theorem au5 (a : Fin 8222) (q : Fin 1024) : @Eq EReal (val_main_v516 (F := Ideal) x1 x2 (ix2 a q)) (∑ k ∈ Finset.Ico 5 31, DUt x1 x2 k a.val q.val) := by
  rw [val_main_v516_apply]
  exact au_next x1 x2 _ _ z0 5 25 (by omega) _ _ a q (au6 ..) (du5 x1 x2)

/-! Tap 4. -/

theorem sl4 (i : S8192x1024.Idx) (s q : ℕ) (h0 : (i 0).val = s) (h1 : (i 1).val = q) : @Eq EReal (val_main_v42 (F := Ideal) x0 i) (U x0 (4 + s) q) := by
  rw [val_main_v42_apply]
  exact v13_at x0 _ _ _ (congrArg (4 + ·) h0) h1

theorem wr4 (i : S1x1024.Idx) (q : ℕ) (h1 : (i 1).val = q) : @Eq EReal (val_main_v45 (F := Ideal) x2 i) (rd x2 4 q) := by
  rw [val_main_v45_apply, val_main_v44_apply, val_main_v43_apply]
  exact eq_rd x2 _ _ _ rfl (md i q h1)

theorem dw4 (q : Fin 1024) : @Eq EReal (val_main_v523 (F := Ideal) x0 x1 (ix2 0 q)) (DW x0 x1 4 q.val) := by
  rw [val_main_v523_apply, val_main_v522_apply, Fin.sum_univ_one, val_main_v519_apply, val_main_v518_apply, val_main_cst_108_apply, val_main_cst_109_apply]
  exact two_zero _ _ fun s => congrArg₂ (· * ·) (sl4 x0 _ s.val q.val rfl (zq q)) (dc_at x1 _ s.val q.val rfl (zq q))

theorem du4 (s : Fin 8192) (q : Fin 1024) : @Eq EReal (val_main_v521 (F := Ideal) x1 x2 (ix2 s q)) (rd x1 s.val q.val * rd x2 4 q.val) := by
  rw [val_main_v521_apply, val_main_v520_apply]
  exact congrArg₂ (· * ·) (dc_at x1 _ s.val q.val rfl rfl) (wr4 x2 _ q.val rfl)

theorem aw4 (a : Fin 31) (q : Fin 1024) : @Eq EReal (val_main_v525 (F := Ideal) x0 x1 (ix2 a q)) (if 4 ≤ a.val then DW x0 x1 a.val q.val else 0) := by
  rw [val_main_v525_apply]
  exact aw_next x0 x1 _ _ z0 4 26 _ _ a q (aw5 ..) (dw4 ..)

theorem au4 (a : Fin 8222) (q : Fin 1024) : @Eq EReal (val_main_v527 (F := Ideal) x1 x2 (ix2 a q)) (∑ k ∈ Finset.Ico 4 31, DUt x1 x2 k a.val q.val) := by
  rw [val_main_v527_apply]
  exact au_next x1 x2 _ _ z0 4 26 (by omega) _ _ a q (au5 ..) (du4 x1 x2)

/-! Tap 3. -/

theorem sl3 (i : S8192x1024.Idx) (s q : ℕ) (h0 : (i 0).val = s) (h1 : (i 1).val = q) : @Eq EReal (val_main_v35 (F := Ideal) x0 i) (U x0 (3 + s) q) := by
  rw [val_main_v35_apply]
  exact v13_at x0 _ _ _ (congrArg (3 + ·) h0) h1

theorem wr3 (i : S1x1024.Idx) (q : ℕ) (h1 : (i 1).val = q) : @Eq EReal (val_main_v38 (F := Ideal) x2 i) (rd x2 3 q) := by
  rw [val_main_v38_apply, val_main_v37_apply, val_main_v36_apply]
  exact eq_rd x2 _ _ _ rfl (md i q h1)

theorem dw3 (q : Fin 1024) : @Eq EReal (val_main_v534 (F := Ideal) x0 x1 (ix2 0 q)) (DW x0 x1 3 q.val) := by
  rw [val_main_v534_apply, val_main_v533_apply, Fin.sum_univ_one, val_main_v530_apply, val_main_v529_apply, val_main_cst_112_apply, val_main_cst_113_apply]
  exact two_zero _ _ fun s => congrArg₂ (· * ·) (sl3 x0 _ s.val q.val rfl (zq q)) (dc_at x1 _ s.val q.val rfl (zq q))

theorem du3 (s : Fin 8192) (q : Fin 1024) : @Eq EReal (val_main_v532 (F := Ideal) x1 x2 (ix2 s q)) (rd x1 s.val q.val * rd x2 3 q.val) := by
  rw [val_main_v532_apply, val_main_v531_apply]
  exact congrArg₂ (· * ·) (dc_at x1 _ s.val q.val rfl rfl) (wr3 x2 _ q.val rfl)

theorem aw3 (a : Fin 31) (q : Fin 1024) : @Eq EReal (val_main_v536 (F := Ideal) x0 x1 (ix2 a q)) (if 3 ≤ a.val then DW x0 x1 a.val q.val else 0) := by
  rw [val_main_v536_apply]
  exact aw_next x0 x1 _ _ z0 3 27 _ _ a q (aw4 ..) (dw3 ..)

theorem au3 (a : Fin 8222) (q : Fin 1024) : @Eq EReal (val_main_v538 (F := Ideal) x1 x2 (ix2 a q)) (∑ k ∈ Finset.Ico 3 31, DUt x1 x2 k a.val q.val) := by
  rw [val_main_v538_apply]
  exact au_next x1 x2 _ _ z0 3 27 (by omega) _ _ a q (au4 ..) (du3 x1 x2)

/-! Tap 2. -/

theorem sl2 (i : S8192x1024.Idx) (s q : ℕ) (h0 : (i 0).val = s) (h1 : (i 1).val = q) : @Eq EReal (val_main_v28 (F := Ideal) x0 i) (U x0 (2 + s) q) := by
  rw [val_main_v28_apply]
  exact v13_at x0 _ _ _ (congrArg (2 + ·) h0) h1

theorem wr2 (i : S1x1024.Idx) (q : ℕ) (h1 : (i 1).val = q) : @Eq EReal (val_main_v31 (F := Ideal) x2 i) (rd x2 2 q) := by
  rw [val_main_v31_apply, val_main_v30_apply, val_main_v29_apply]
  exact eq_rd x2 _ _ _ rfl (md i q h1)

theorem dw2 (q : Fin 1024) : @Eq EReal (val_main_v545 (F := Ideal) x0 x1 (ix2 0 q)) (DW x0 x1 2 q.val) := by
  rw [val_main_v545_apply, val_main_v544_apply, Fin.sum_univ_one, val_main_v541_apply, val_main_v540_apply, val_main_cst_116_apply, val_main_cst_117_apply]
  exact two_zero _ _ fun s => congrArg₂ (· * ·) (sl2 x0 _ s.val q.val rfl (zq q)) (dc_at x1 _ s.val q.val rfl (zq q))

theorem du2 (s : Fin 8192) (q : Fin 1024) : @Eq EReal (val_main_v543 (F := Ideal) x1 x2 (ix2 s q)) (rd x1 s.val q.val * rd x2 2 q.val) := by
  rw [val_main_v543_apply, val_main_v542_apply]
  exact congrArg₂ (· * ·) (dc_at x1 _ s.val q.val rfl rfl) (wr2 x2 _ q.val rfl)

theorem aw2 (a : Fin 31) (q : Fin 1024) : @Eq EReal (val_main_v547 (F := Ideal) x0 x1 (ix2 a q)) (if 2 ≤ a.val then DW x0 x1 a.val q.val else 0) := by
  rw [val_main_v547_apply]
  exact aw_next x0 x1 _ _ z0 2 28 _ _ a q (aw3 ..) (dw2 ..)

theorem au2 (a : Fin 8222) (q : Fin 1024) : @Eq EReal (val_main_v549 (F := Ideal) x1 x2 (ix2 a q)) (∑ k ∈ Finset.Ico 2 31, DUt x1 x2 k a.val q.val) := by
  rw [val_main_v549_apply]
  exact au_next x1 x2 _ _ z0 2 28 (by omega) _ _ a q (au3 ..) (du2 x1 x2)

/-! Tap 1. -/

theorem sl1 (i : S8192x1024.Idx) (s q : ℕ) (h0 : (i 0).val = s) (h1 : (i 1).val = q) : @Eq EReal (val_main_v21 (F := Ideal) x0 i) (U x0 (1 + s) q) := by
  rw [val_main_v21_apply]
  exact v13_at x0 _ _ _ (congrArg (1 + ·) h0) h1

theorem wr1 (i : S1x1024.Idx) (q : ℕ) (h1 : (i 1).val = q) : @Eq EReal (val_main_v24 (F := Ideal) x2 i) (rd x2 1 q) := by
  rw [val_main_v24_apply, val_main_v23_apply, val_main_v22_apply]
  exact eq_rd x2 _ _ _ rfl (md i q h1)

theorem dw1 (q : Fin 1024) : @Eq EReal (val_main_v556 (F := Ideal) x0 x1 (ix2 0 q)) (DW x0 x1 1 q.val) := by
  rw [val_main_v556_apply, val_main_v555_apply, Fin.sum_univ_one, val_main_v552_apply, val_main_v551_apply, val_main_cst_120_apply, val_main_cst_121_apply]
  exact two_zero _ _ fun s => congrArg₂ (· * ·) (sl1 x0 _ s.val q.val rfl (zq q)) (dc_at x1 _ s.val q.val rfl (zq q))

theorem du1 (s : Fin 8192) (q : Fin 1024) : @Eq EReal (val_main_v554 (F := Ideal) x1 x2 (ix2 s q)) (rd x1 s.val q.val * rd x2 1 q.val) := by
  rw [val_main_v554_apply, val_main_v553_apply]
  exact congrArg₂ (· * ·) (dc_at x1 _ s.val q.val rfl rfl) (wr1 x2 _ q.val rfl)

theorem aw1 (a : Fin 31) (q : Fin 1024) : @Eq EReal (val_main_v558 (F := Ideal) x0 x1 (ix2 a q)) (if 1 ≤ a.val then DW x0 x1 a.val q.val else 0) := by
  rw [val_main_v558_apply]
  exact aw_next x0 x1 _ _ z0 1 29 _ _ a q (aw2 ..) (dw1 ..)

theorem au1 (a : Fin 8222) (q : Fin 1024) : @Eq EReal (val_main_v560 (F := Ideal) x1 x2 (ix2 a q)) (∑ k ∈ Finset.Ico 1 31, DUt x1 x2 k a.val q.val) := by
  rw [val_main_v560_apply]
  exact au_next x1 x2 _ _ z0 1 29 (by omega) _ _ a q (au2 ..) (du1 x1 x2)

/-! Tap 0. -/

theorem sl0 (i : S8192x1024.Idx) (s q : ℕ) (h0 : (i 0).val = s) (h1 : (i 1).val = q) : @Eq EReal (val_main_v15 (F := Ideal) x0 i) (U x0 (0 + s) q) := by
  rw [val_main_v15_apply]
  exact v13_at x0 _ _ _ (by show (i 0).val = _; omega) h1

theorem wr0 (i : S1x1024.Idx) (q : ℕ) (h1 : (i 1).val = q) : @Eq EReal (val_main_v18 (F := Ideal) x2 i) (rd x2 0 q) := by
  rw [val_main_v18_apply, val_main_v17_apply, val_main_v16_apply]
  exact eq_rd x2 _ _ _ rfl (md i q h1)

theorem dw0 (q : Fin 1024) : @Eq EReal (val_main_v567 (F := Ideal) x0 x1 (ix2 0 q)) (DW x0 x1 0 q.val) := by
  rw [val_main_v567_apply, val_main_v566_apply, Fin.sum_univ_one, val_main_v563_apply, val_main_v562_apply, val_main_cst_124_apply, val_main_cst_125_apply]
  exact two_zero _ _ fun s => congrArg₂ (· * ·) (sl0 x0 _ s.val q.val rfl (zq q)) (dc_at x1 _ s.val q.val rfl (zq q))

theorem du0 (s : Fin 8192) (q : Fin 1024) : @Eq EReal (val_main_v565 (F := Ideal) x1 x2 (ix2 s q)) (rd x1 s.val q.val * rd x2 0 q.val) := by
  rw [val_main_v565_apply, val_main_v564_apply]
  exact congrArg₂ (· * ·) (dc_at x1 _ s.val q.val rfl rfl) (wr0 x2 _ q.val rfl)

theorem aw0 (a : Fin 31) (q : Fin 1024) : @Eq EReal (val_main_v569 (F := Ideal) x0 x1 (ix2 a q)) (if 0 ≤ a.val then DW x0 x1 a.val q.val else 0) := by
  rw [val_main_v569_apply]
  exact aw_next x0 x1 _ _ z0 0 30 _ _ a q (aw1 ..) (dw0 ..)

theorem au0 (a : Fin 8222) (q : Fin 1024) : @Eq EReal (val_main_v571 (F := Ideal) x1 x2 (ix2 a q)) (∑ k ∈ Finset.Ico 0 31, DUt x1 x2 k a.val q.val) := by
  rw [val_main_v571_apply]
  exact au_next x1 x2 _ _ z0 0 30 (by omega) _ _ a q (au1 ..) (du0 x1 x2)

/-- A sum over rows shifted by `d`, read from either end. -/
theorem sum_shift (N d : ℕ) (hd : d ≤ N) (u D : ℕ → EReal) :
    ∑ s ∈ Finset.range N, (if s < d then 0 else u (s - d) * D s) = ∑ s ∈ Finset.range N, u s * (if d + s < N then D (d + s) else 0) := by
  obtain ⟨k, rfl⟩ := Nat.exists_eq_add_of_le hd
  rw [Finset.sum_range_add, Finset.sum_eq_zero (fun s hs => if_pos (Finset.mem_range.mp hs)), zero_add, Nat.add_comm d k, Finset.sum_range_add]
  rw [Finset.sum_eq_zero (s := Finset.range d) (fun s hs => by rw [if_neg (by omega), mul_zero]), add_zero]
  refine Finset.sum_congr rfl fun s hs => ?_
  have hs' := Finset.mem_range.mp hs
  rw [if_neg (by omega), if_pos (by omega), Nat.add_sub_cancel_left]

/-- A tap's weight gathers the gated rows against the gradient that arrives 30 less the tap later. -/
theorem DW_eq (j q : ℕ) (hj : j < 31) : DW x0 x1 j q = ∑ s : Fin 8192, cv x0 s.val q * Ideal.logistic (cg x0 s.val q) * late x1 (30 - j + s.val) q := by
  unfold DW
  rw [Fin.sum_univ_eq_sum_range (fun s => U x0 (j + s) q * rd x1 s q) 8192,
    Fin.sum_univ_eq_sum_range (fun s => cv x0 s q * Ideal.logistic (cg x0 s q) * late x1 (30 - j + s) q) 8192]
  refine Eq.trans ?_ (sum_shift 8192 (30 - j) (by omega) (fun s => cv x0 s q * Ideal.logistic (cg x0 s q)) (fun s => rd x1 s q))
  refine Finset.sum_congr rfl fun s _ => ?_
  unfold U
  by_cases e : s < 30 - j
  · rw [if_pos e, if_pos (by omega), zero_mul]
  · rw [if_neg e, if_neg (by omega), show j + s - 30 = s - (30 - j) by omega]

/-- The gradient of the gated rows, after the padding is dropped. -/
theorem v573_at (i : S8192x1024.Idx) : @Eq EReal (val_main_v573 (F := Ideal) x1 x2 i) (du x1 x2 (i 0).val (i 1).val) := by
  have hi : (i 0).val < 8192 := (i 0).isLt
  have hq : (i 1).val < 1024 := (i 1).isLt
  rw [val_main_v573_apply]
  refine (congrArg (val_main_v571 (F := Ideal) x1 x2) (eq_ix2 _)).trans ((au0 x1 x2 _ _).trans ?_)
  rw [Finset.sum_Ico_eq_sum_range]
  unfold du
  refine Finset.sum_congr rfl fun k hk => ?_
  have hk' : k < 31 := Finset.mem_range.mp hk
  show DUt x1 x2 (0 + k) (30 + (i 0).val) (i 1).val = _
  unfold DUt late
  rw [Nat.zero_add]
  by_cases e : 30 - k + (i 0).val < 8192
  · rw [if_pos e, if_pos (by omega), mul_comm, show 30 + (i 0).val - k = 30 - k + (i 0).val by omega]
  · rw [if_neg e, if_neg (by omega), mul_zero]

/-- WHAT THE REFERENCE COMPUTES: the gradient of the convolved operand, … -/
theorem ref5_eq : (val_main_v577 (F := Ideal) x0 x1 x2 : S8192x1024.Idx → EReal) = G5 x0 x1 x2 := funext fun i => by
  rw [val_main_v577_apply, Ideal.truncf_def, val_main_v575_apply, v573_at, v7_at]
  rfl

/-- … the gradient of the gate, … -/
theorem ref6_eq : (val_main_v578 (F := Ideal) x0 x1 x2 : S8192x1024.Idx → EReal) = G6 x0 x1 x2 := funext fun i => by
  rw [val_main_v578_apply, Ideal.truncf_def, val_main_v576_apply, val_main_v574_apply, v573_at, v0_at, v10_at]
  unfold G6
  show cv x0 (i 0).val (i 1).val * du x1 x2 (i 0).val (i 1).val * (Ideal.logistic (cg x0 (i 0).val (i 1).val) * (1 - Ideal.logistic (cg x0 (i 0).val (i 1).val))) = _
  rw [mul_comm (cv x0 (i 0).val (i 1).val), mul_assoc (du x1 x2 (i 0).val (i 1).val * _)]

/-- … and the gradient of the taps' weights. -/
theorem ref7_eq : (val_main_v579 (F := Ideal) x0 x1 : S32x1024.Idx → EReal) = G7 x0 x1 := funext fun i => by
  have hi : (i 0).val < 32 := (i 0).isLt
  have hq : (i 1).val < 1024 := (i 1).isLt
  unfold val_main_v579 G7
  by_cases e : (i 0).val < 31
  · rw [if_pos e, ← DW_eq x0 x1 _ _ e]
    refine (pad_apply_of_inside _ _ _ _ _ _ _ i (ix2 (⟨(i 0).val, e⟩ : Fin 31) (⟨(i 1).val, hq⟩ : Fin 1024)) (fun b => ?_)).trans ((aw0 x0 x1 _ _).trans (if_pos (Nat.zero_le _)))
    match b with
    | ⟨0, _⟩ => show (i 0).val = 0 + (i 0).val * (0 + 1); omega
    | ⟨1, _⟩ => show (i 1).val = 0 + (i 1).val * (0 + 1); omega
  · rw [if_neg e]
    refine (pad_apply_of_not_inside _ _ _ _ _ _ _ i (0 : Fin 2) ?_).trans ?_
    · show ¬(0 ≤ (i 0).val ∧ ((i 0).val - 0) % (0 + 1) = 0 ∧ ((i 0).val - 0) / (0 + 1) < 31)
      rw [Nat.zero_add, Nat.div_one]
      omega
    · rw [val_main_call0_v0_apply, val_main_c_apply]
      show (((0#32 : BitVec 32).toInt : ℝ) : EReal) = 0
      simp

end Cert.ConvBwdRefIdeal.Prod

end
-- ==== Proof.Dact.lean ====
/- The SwiGLU's backward pass through the down projection: what one block of the kernel computes, what its two result arrays
   hold, and that the reference holds the same. -/
module

public import proofs.«01_k».proof.Proof.Common
public import proofs.«01_k».proof.Proof.Finite
public import proofs.«01_k».proof.Proof.Gen.DactIdeal.Value
public import proofs.«01_k».proof.Proof.Gen.DactRefIdeal.Read
public import proofs.«01_k».proof.Pre_finite_dact

@[expose] public section

set_option maxRecDepth 16384

noncomputable section

namespace Cert.DactIdeal.Prod

open Cert.DactIdeal Cert.DactIdeal.Gen Cert.DactIdeal.Value Cert.Common
open Idealize.ShloMosaic Idealize.ShloMosaic.TcCoe Idealize.SL.Sem

/-- The gradient of the gate's half at one place, from the gradient `d` of the product `silu g * u` there. -/
def dgate (d g u : EReal) : EReal := d * u * (Ideal.logistic g * (1 + g * (1 - Ideal.logistic g)))

/-- The gradient of the other half at one place. -/
def dup (d g : EReal) : EReal := d * (g * Ideal.logistic g)

/-- What the kernel computes of one sub-block for the gate's half … -/
theorem pay6_apply (a : Vec Ideal S256x2048 .bf16) (b : Vec Ideal S512x2048 .bf16) (g u : Vec Ideal S256x512 .bf16) (r : Fin 256) (s : Fin 512) :
    @Eq EReal (k0_pay6 a b g u (ix2 r s))
      (dgate (∑ k : Fin 2048, (a (ix2 r k) : EReal) * b (ix2 s k)) (g (ix2 r s)) (u (ix2 r s))) := by
  unfold k0_pay6 k0_pay5 k0_pay4 k0_pay3 dgate
  pointwise

/-- … and for the other. -/
theorem pay7_apply (a : Vec Ideal S256x2048 .bf16) (b : Vec Ideal S512x2048 .bf16) (g : Vec Ideal S256x512 .bf16) (r : Fin 256) (s : Fin 512) :
    @Eq EReal (k0_pay7 a b g (ix2 r s)) (dup (∑ k : Fin 2048, (a (ix2 r k) : EReal) * b (ix2 s k)) (g (ix2 r s))) := by
  unfold k0_pay7 k0_pay5 k0_pay4 k0_pay3 dup
  pointwise

/-- A block's gradient of the product at row `r` and column `s`. -/
def dprod (x0 : S2048x2048.Idx → EReal) (x1 : S512x2048.Idx → EReal) (r s : ℕ) : EReal :=
  ∑ k : Fin 2048, rd x0 r k.val * rd x1 s k.val

/-- A row range of the first operand's block, read at a place. -/
theorem ld_a (o : ℕ) (x0 : Vec Ideal S2048x2048 .bf16) (h) (r : Fin 256) (k : Fin 2048) :
    @Eq EReal (View.ld x0 (Rect.unit (s := S2048x2048) ![o, 0] S256x2048.size h) (ix2 r k)) (rd x0 (o + r.val) k.val) := by
  refine eq_rd (x0 : S2048x2048.Idx → EReal) ((Rect.unit (s := S2048x2048) ![o, 0] S256x2048.size h).emb (ix2 r k)) _ _ ?_ ?_
  · show o + 1 * r.val = _
    omega
  · show 0 + 1 * k.val = _
    omega

/-- A row range of an elementwise operand's block, read at a place. -/
theorem ld_e (o : ℕ) (x : Vec Ideal S2048x512 .bf16) (h) (r : Fin 256) (s : Fin 512) :
    @Eq EReal (View.ld x (Rect.unit (s := S2048x512) ![o, 0] S256x512.size h) (ix2 r s)) (rd x (o + r.val) s.val) := by
  refine eq_rd (x : S2048x512.Idx → EReal) ((Rect.unit (s := S2048x512) ![o, 0] S256x512.size h).emb (ix2 r s)) _ _ ?_ ?_
  · show o + 1 * r.val = _
    omega
  · show 0 + 1 * s.val = _
    omega

/-- A block of the gate's half, and of the other, as functions of the block's index. -/
def B4 (x0 : S2048x2048.Idx → EReal) (x1 : S512x2048.Idx → EReal) (x2 x3 : S2048x512.Idx → EReal) : S2048x512.Idx → EReal := fun y =>
  dgate (dprod x0 x1 (y 0).val (y 1).val) (rd x2 (y 0).val (y 1).val) (rd x3 (y 0).val (y 1).val)
def B5 (x0 : S2048x2048.Idx → EReal) (x1 : S512x2048.Idx → EReal) (x2 : S2048x512.Idx → EReal) : S2048x512.Idx → EReal := fun y =>
  dup (dprod x0 x1 (y 0).val (y 1).val) (rd x2 (y 0).val (y 1).val)

theorem dprod_rows (o : ℕ) (x0 : Vec Ideal S2048x2048 .bf16) (x1 : Vec Ideal S512x2048 .bf16) (h) (r : Fin 256) (s : Fin 512) :
    (∑ k : Fin 2048, (View.ld x0 (Rect.unit (s := S2048x2048) ![o, 0] S256x2048.size h) (ix2 r k) : EReal) * x1 (ix2 s k)) = dprod x0 x1 (o + r.val) s.val := by
  refine Finset.sum_congr rfl fun k _ => ?_
  rw [ld_a]
  exact congrArg _ (eq_rd (x1 : S512x2048.Idx → EReal) (ix2 s k) s.val k.val rfl rfl)

/-- Each stored sub-block is its rows of the block. -/
theorem piece4 (o : ℕ) (x0 : Vec Ideal S2048x2048 .bf16) (x1 : Vec Ideal S512x2048 .bf16) (x2 x3 : Vec Ideal S2048x512 .bf16) (h h') (y : S256x512.Idx) :
    @Eq EReal (k0_pay6 (View.ld x0 (Rect.unit (s := S2048x2048) ![o, 0] S256x2048.size h)) x1
        (View.ld x2 (Rect.unit (s := S2048x512) ![o, 0] S256x512.size h')) (View.ld x3 (Rect.unit (s := S2048x512) ![o, 0] S256x512.size h')) y)
      (B4 x0 x1 x2 x3 ((Rect.unit (s := S2048x512) ![o, 0] S256x512.size h').emb y)) := by
  obtain ⟨r, s, rfl⟩ : ∃ (r : Fin 256) (s : Fin 512), y = ix2 r s := ⟨y 0, y 1, eq_ix2 y⟩
  have h0 : (((Rect.unit (s := S2048x512) ![o, 0] S256x512.size h').emb (ix2 r s)) 0).val = o + r.val := by
    show o + 1 * r.val = _
    omega
  have h1 : (((Rect.unit (s := S2048x512) ![o, 0] S256x512.size h').emb (ix2 r s)) 1).val = s.val := by
    show 0 + 1 * s.val = _
    omega
  unfold B4
  rw [h0, h1, pay6_apply, dprod_rows, ld_e, ld_e]

theorem piece5 (o : ℕ) (x0 : Vec Ideal S2048x2048 .bf16) (x1 : Vec Ideal S512x2048 .bf16) (x2 : Vec Ideal S2048x512 .bf16) (h h') (y : S256x512.Idx) :
    @Eq EReal (k0_pay7 (View.ld x0 (Rect.unit (s := S2048x2048) ![o, 0] S256x2048.size h)) x1
        (View.ld x2 (Rect.unit (s := S2048x512) ![o, 0] S256x512.size h')) y)
      (B5 x0 x1 x2 ((Rect.unit (s := S2048x512) ![o, 0] S256x512.size h').emb y)) := by
  obtain ⟨r, s, rfl⟩ : ∃ (r : Fin 256) (s : Fin 512), y = ix2 r s := ⟨y 0, y 1, eq_ix2 y⟩
  have h0 : (((Rect.unit (s := S2048x512) ![o, 0] S256x512.size h').emb (ix2 r s)) 0).val = o + r.val := by
    show o + 1 * r.val = _
    omega
  have h1 : (((Rect.unit (s := S2048x512) ![o, 0] S256x512.size h').emb (ix2 r s)) 1).val = s.val := by
    show 0 + 1 * s.val = _
    omega
  unfold B5
  rw [h0, h1, pay7_apply, dprod_rows, ld_e]

/-- WHAT ONE BLOCK HOLDS, the gate's half: all eight sub-blocks are the one function's rows. -/
theorem out4_eq (x0 : Vec Ideal S2048x2048 .bf16) (x1 : Vec Ideal S512x2048 .bf16) (x2 x3 : Vec Ideal S2048x512 .bf16) (y : S2048x512.Idx) :
    @Eq EReal (out0_4 x0 x1 x2 x3 y) (B4 x0 x1 x2 x3 y) := by
  unfold_out out0_4
  simp only [View.ld_unit_zero (S := S512x2048) off2]
  refine View.canon_apply_of_pieces (Val := Elt Ideal) (e := .bf16) (B4 x0 x1 x2 x3) _ ?_ y (cover0_4 _ _ _ _ _ _ _ _ y)
  simp only [List.forall_mem_cons, List.not_mem_nil, false_imp_iff, implies_true, and_true]
  exact ⟨fun z => piece4 1792 x0 x1 x2 x3 _ _ z, fun z => piece4 1536 x0 x1 x2 x3 _ _ z, fun z => piece4 1280 x0 x1 x2 x3 _ _ z, fun z => piece4 1024 x0 x1 x2 x3 _ _ z,
    fun z => piece4 768 x0 x1 x2 x3 _ _ z, fun z => piece4 512 x0 x1 x2 x3 _ _ z, fun z => piece4 256 x0 x1 x2 x3 _ _ z, fun z => piece4 0 x0 x1 x2 x3 _ _ z⟩

theorem out5_eq (x0 : Vec Ideal S2048x2048 .bf16) (x1 : Vec Ideal S512x2048 .bf16) (x2 x3 : Vec Ideal S2048x512 .bf16) (y : S2048x512.Idx) :
    @Eq EReal (out0_5 x0 x1 x2 x3 y) (B5 x0 x1 x2 y) := by
  unfold_out out0_5
  simp only [View.ld_unit_zero (S := S512x2048) off2]
  refine View.canon_apply_of_pieces (Val := Elt Ideal) (e := .bf16) (B5 x0 x1 x2) _ ?_ y (cover0_5 _ _ _ _ _ _ _ _ y)
  simp only [List.forall_mem_cons, List.not_mem_nil, false_imp_iff, implies_true, and_true]
  exact ⟨fun z => piece5 1792 x0 x1 x2 _ _ z, fun z => piece5 1536 x0 x1 x2 _ _ z, fun z => piece5 1280 x0 x1 x2 _ _ z, fun z => piece5 1024 x0 x1 x2 _ _ z,
    fun z => piece5 768 x0 x1 x2 _ _ z, fun z => piece5 512 x0 x1 x2 _ _ z, fun z => piece5 256 x0 x1 x2 _ _ z, fun z => piece5 0 x0 x1 x2 _ _ z⟩

variable (m : (ℓ : Loc nD τ sig) → Buf (Elt Ideal) ℓ)

/-- The operands as the launch finds them: the incoming gradient, the down projection's weights, the gate and the other half. -/
abbrev X0 (c : Dev nD) : S8192x2048.Idx → EReal := m ((c : Thread nD τ).loc main_arg0)
abbrev X1 (c : Dev nD) : S5632x2048.Idx → EReal := m ((c : Thread nD τ).loc main_arg1)
abbrev X2 (c : Dev nD) : S8192x5632.Idx → EReal := m ((c : Thread nD τ).loc main_arg2)
abbrev X3 (c : Dev nD) : S8192x5632.Idx → EReal := m ((c : Thread nD τ).loc main_arg3)

/-- Which blocks a grid point reads and writes. -/
theorem idx_facts : ∀ t : Fin cfg0.N, (win0_0.index t (0 : Fin 2) = t.val / 11 ∧ win0_0.index t (1 : Fin 2) = 0)
    ∧ (win0_1.index t (0 : Fin 2) = t.val % 11 ∧ win0_1.index t (1 : Fin 2) = 0)
    ∧ (win0_2.index t (0 : Fin 2) = t.val / 11 ∧ win0_2.index t (1 : Fin 2) = t.val % 11)
    ∧ (win0_3.index t (0 : Fin 2) = t.val / 11 ∧ win0_3.index t (1 : Fin 2) = t.val % 11)
    ∧ (win0_4.index t (0 : Fin 2) = t.val / 11 ∧ win0_4.index t (1 : Fin 2) = t.val % 11)
    ∧ (win0_5.index t (0 : Fin 2) = t.val / 11 ∧ win0_5.index t (1 : Fin 2) = t.val % 11) :=
  (by decide +kernel : ∀ t : Fin grid0.N, _)

theorem blk0 (c : Dev nD) (t : Fin cfg0.N) (r : ℕ) (hr : r < 2048) (k : Fin 2048) :
    rd (iblk m c 0 t : S2048x2048.Idx → EReal) r k.val = rd (X0 m c) (2048 * (t.val / 11) + r) k.val := by
  have e := (idx_facts t).1
  refine (eq_rd (X0 m c) (((cfg0.win 0).blk t).view.emb (ix2 (Fin.ofNat 2048 r) (Fin.ofNat 2048 k.val))) _ _ ?_ ?_)
  · show win0_0.index t (0 : Fin 2) * 2048 + 1 * (r % 2048) = _
    rw [e.1]; omega
  · show win0_0.index t (1 : Fin 2) * 2048 + 1 * (k.val % 2048) = _
    rw [e.2]; omega

theorem blk1 (c : Dev nD) (t : Fin cfg0.N) (s : ℕ) (hs : s < 512) (k : Fin 2048) :
    rd (iblk m c 1 t : S512x2048.Idx → EReal) s k.val = rd (X1 m c) (512 * (t.val % 11) + s) k.val := by
  have e := (idx_facts t).2.1
  refine (eq_rd (X1 m c) (((cfg0.win 1).blk t).view.emb (ix2 (Fin.ofNat 512 s) (Fin.ofNat 2048 k.val))) _ _ ?_ ?_)
  · show win0_1.index t (0 : Fin 2) * 512 + 1 * (s % 512) = _
    rw [e.1]; omega
  · show win0_1.index t (1 : Fin 2) * 2048 + 1 * (k.val % 2048) = _
    rw [e.2]; omega

theorem blk2 (c : Dev nD) (t : Fin cfg0.N) (r s : ℕ) (hr : r < 2048) (hs : s < 512) :
    rd (iblk m c 2 t : S2048x512.Idx → EReal) r s = rd (X2 m c) (2048 * (t.val / 11) + r) (512 * (t.val % 11) + s) := by
  have e := (idx_facts t).2.2.1
  refine (eq_rd (X2 m c) (((cfg0.win 2).blk t).view.emb (ix2 (Fin.ofNat 2048 r) (Fin.ofNat 512 s))) _ _ ?_ ?_)
  · show win0_2.index t (0 : Fin 2) * 2048 + 1 * (r % 2048) = _
    rw [e.1]; omega
  · show win0_2.index t (1 : Fin 2) * 512 + 1 * (s % 512) = _
    rw [e.2]; omega

theorem blk3 (c : Dev nD) (t : Fin cfg0.N) (r s : ℕ) (hr : r < 2048) (hs : s < 512) :
    rd (iblk m c 3 t : S2048x512.Idx → EReal) r s = rd (X3 m c) (2048 * (t.val / 11) + r) (512 * (t.val % 11) + s) := by
  have e := (idx_facts t).2.2.2.1
  refine (eq_rd (X3 m c) (((cfg0.win 3).blk t).view.emb (ix2 (Fin.ofNat 2048 r) (Fin.ofNat 512 s))) _ _ ?_ ?_)
  · show win0_3.index t (0 : Fin 2) * 2048 + 1 * (r % 2048) = _
    rw [e.1]; omega
  · show win0_3.index t (1 : Fin 2) * 512 + 1 * (s % 512) = _
    rw [e.2]; omega

/-- The gradient of the product at a place of the whole array. -/
def dall (X0 : S8192x2048.Idx → EReal) (X1 : S5632x2048.Idx → EReal) (r s : ℕ) : EReal := ∑ k : Fin 2048, rd X0 r k.val * rd X1 s k.val

/-- The two result arrays. -/
def G4 (X0 : S8192x2048.Idx → EReal) (X1 : S5632x2048.Idx → EReal) (X2 X3 : S8192x5632.Idx → EReal) : S8192x5632.Idx → EReal := fun i =>
  dgate (dall X0 X1 (i 0).val (i 1).val) (rd X2 (i 0).val (i 1).val) (rd X3 (i 0).val (i 1).val)
def G5 (X0 : S8192x2048.Idx → EReal) (X1 : S5632x2048.Idx → EReal) (X2 : S8192x5632.Idx → EReal) : S8192x5632.Idx → EReal := fun i =>
  dup (dall X0 X1 (i 0).val (i 1).val) (rd X2 (i 0).val (i 1).val)

theorem dprod_blk (c : Dev nD) (t : Fin cfg0.N) (r s : ℕ) (hr : r < 2048) (hs : s < 512) :
    dprod (iblk m c 0 t : S2048x2048.Idx → EReal) (iblk m c 1 t : S512x2048.Idx → EReal) r s
      = dall (X0 m c) (X1 m c) (2048 * (t.val / 11) + r) (512 * (t.val % 11) + s) := by
  unfold dprod dall
  refine Finset.sum_congr rfl fun k _ => ?_
  rw [blk0 m c t r hr, blk1 m c t s hs]

/-- THE RESULT ARRAYS after the run are `G4` and `G5`. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4]
  have e := (idx_facts t).2.2.2.2.1
  obtain ⟨r, s, rfl⟩ : ∃ (r : Fin 2048) (s : Fin 512), y = ix2 r s := ⟨y 0, y 1, eq_ix2 y⟩
  have h0 : ((((cfg0.win 4).blk t).view.emb (ix2 r s)) 0).val = 2048 * (t.val / 11) + r.val := by
    show win0_4.index t (0 : Fin 2) * 2048 + 1 * r.val = _
    rw [e.1]; omega
  have h1 : ((((cfg0.win 4).blk t).view.emb (ix2 r s)) 1).val = 512 * (t.val % 11) + s.val := by
    show win0_4.index t (1 : Fin 2) * 512 + 1 * s.val = _
    rw [e.2]; omega
  have key := out4_eq (iblk m c 0 t) (iblk m c 1 t) (iblk m c 2 t) (iblk m c 3 t) (ix2 r s)
  unfold B4 at key
  have k0 : (((ix2 r s : S2048x512.Idx) 0).val) = r.val := rfl
  have k1 : (((ix2 r s : S2048x512.Idx) 1).val) = s.val := rfl
  rw [k0, k1, dprod_blk m c t r.val s.val r.isLt s.isLt, blk2 m c t r.val s.val r.isLt s.isLt, blk3 m c t r.val s.val r.isLt s.isLt] at key
  unfold G4
  rw [h0, h1]
  generalize out0_4 (iblk m c 0 t) (iblk m c 1 t) (iblk m c 2 t) (iblk m c 3 t) = Z at key ⊢
  exact key

theorem arr5_eq (c : Dev nD) : (dats m 0 c).arrAt 5 cfg0.N = G5 (X0 m c) (X1 m c) (X2 m c) := by
  refine (dats m 0 c).arrAt_eq_of_covers 5 _ (by decide +kernel) fun t hf y => ?_
  rw [after0_5]
  have e := (idx_facts t).2.2.2.2.2
  obtain ⟨r, s, rfl⟩ : ∃ (r : Fin 2048) (s : Fin 512), y = ix2 r s := ⟨y 0, y 1, eq_ix2 y⟩
  have h0 : ((((cfg0.win 5).blk t).view.emb (ix2 r s)) 0).val = 2048 * (t.val / 11) + r.val := by
    show win0_5.index t (0 : Fin 2) * 2048 + 1 * r.val = _
    rw [e.1]; omega
  have h1 : ((((cfg0.win 5).blk t).view.emb (ix2 r s)) 1).val = 512 * (t.val % 11) + s.val := by
    show win0_5.index t (1 : Fin 2) * 512 + 1 * s.val = _
    rw [e.2]; omega
  have key := out5_eq (iblk m c 0 t) (iblk m c 1 t) (iblk m c 2 t) (iblk m c 3 t) (ix2 r s)
  unfold B5 at key
  have k0 : (((ix2 r s : S2048x512.Idx) 0).val) = r.val := rfl
  have k1 : (((ix2 r s : S2048x512.Idx) 1).val) = s.val := rfl
  rw [k0, k1, dprod_blk m c t r.val s.val r.isLt s.isLt, blk2 m c t r.val s.val r.isLt s.isLt] at key
  unfold G5
  rw [h0, h1]
  generalize out0_5 (iblk m c 0 t) (iblk m c 1 t) (iblk m c 2 t) (iblk m c 3 t) = Z at key ⊢
  exact key

end Cert.DactIdeal.Prod

namespace Cert.DactRefIdeal.Prod

open Cert.DactRefIdeal Cert.DactRefIdeal.Read Cert.Common Cert.Finite
open Idealize.ShloMosaic Idealize.ShloMosaic.TcCoe
open Cert.DactIdeal.Prod (G4 G5 dall dgate dup)

/-- The reference's gradient of the product. -/
theorem v7_eq (x0 : S8192x2048.Idx → EReal) (x1 : S5632x2048.Idx → EReal) (i : S8192x5632.Idx) :
    @Eq EReal (val_main_v7 (F := Ideal) x0 x1 i) (dall x0 x1 (i 0).val (i 1).val) := by
  rw [val_main_v7_apply]
  refine Finset.sum_congr rfl fun k _ => ?_
  rw [val_main_v6_apply, val_main_v4_apply, Ideal.extf_def, Ideal.extf_def,
    eq_rd x0 _ (i 0).val k.val rfl rfl, eq_rd x1 _ (i 1).val k.val rfl rfl]

/-- Its logistic factor. -/
theorem sg_eq (x2 : S8192x5632.Idx → EReal) (i : S8192x5632.Idx) :
    @Eq EReal (val_main_v2_2 (F := Ideal) x2 i) (Ideal.logistic (x2 i)) := by
  rw [val_main_v2_2_apply, val_main_call0_v4_apply, val_main_call0_v3_apply, val_main_call0_v2_apply, val_main_call0_v1_apply,
    val_main_call0_v0_apply, val_main_v0_apply, val_main_call0_cst_apply, val_main_call0_cst_0_apply]
  show Ideal.div (Ideal.ofBits .f32 0x3F800000#32) (Ideal.ofBits .f32 0x3F800000#32 + Ideal.exp (-(x2 i : EReal))) = _
  rw [Ideal.ofBits_one_f32]
  rfl

/-- WHAT THE REFERENCE COMPUTES for the gate's half, where the gradient times the other half is a real number. -/
theorem ref4_eq (x0 : S8192x2048.Idx → EReal) (x1 : S5632x2048.Idx → EReal) (x2 x3 : S8192x5632.Idx → EReal)
    (hp : ∀ i : S8192x5632.Idx, IsReal (dall x0 x1 (i 0).val (i 1).val * x3 i)) :
    (val_main_v11 (F := Ideal) x0 x1 x2 x3 : S8192x5632.Idx → EReal) = G4 x0 x1 x2 x3 := funext fun i => by
  rw [val_main_v11_apply, Ideal.truncf_def, val_main_v10_apply, val_main_call1_v1_apply, val_main_call1_v2_apply, val_main_call1_v0_apply,
    val_main_v9_apply, val_main_v2_1_apply, val_main_call0_v7_apply, val_main_call0_v6_apply, val_main_call0_cst_1_apply, val_main_v0_apply, val_main_v1_apply,
    sg_eq, v7_eq]
  show (dall x0 x1 (i 0).val (i 1).val * x3 i) * Ideal.logistic (x2 i)
      + (x2 i * (dall x0 x1 (i 0).val (i 1).val * x3 i)) * (Ideal.logistic (x2 i) * (Ideal.ofBits .f32 0x3F800000#32 - Ideal.logistic (x2 i))) = _
  rw [Ideal.ofBits_one_f32, ← silu_grad (hp i)]
  unfold G4 dgate
  rw [← eq_rd x2 i _ _ rfl rfl, ← eq_rd x3 i _ _ rfl rfl]

/-- WHAT THE REFERENCE COMPUTES for the other half. -/
theorem ref5_eq (x0 : S8192x2048.Idx → EReal) (x1 : S5632x2048.Idx → EReal) (x2 : S8192x5632.Idx → EReal) :
    (val_main_v12 (F := Ideal) x0 x1 x2 : S8192x5632.Idx → EReal) = G5 x0 x1 x2 := funext fun i => by
  rw [val_main_v12_apply, Ideal.truncf_def, val_main_v8_apply, val_main_v2_0_apply, val_main_v0_apply, sg_eq, v7_eq]
  show (x2 i * Ideal.logistic (x2 i)) * dall x0 x1 (i 0).val (i 1).val = _
  unfold G5 dup
  rw [← eq_rd x2 i _ _ rfl rfl, mul_comm]

end Cert.DactRefIdeal.Prod

namespace Cert.DactIdeal.Prod

open Cert.Common Cert.Finite
open Idealize.ShloMosaic Idealize.ShloMosaic.TcCoe

/-- What the precondition says: the gradient, the weights and the other half are real numbers throughout. -/
theorem pre_real [Cert.Pre_finite_dact.Facts] (x0 : S8192x2048.Idx → EReal) (x1 : S5632x2048.Idx → EReal) (x2 x3 : S8192x5632.Idx → EReal)
    (h : Cert.Pre_finite_dact.fn (F := Ideal) x0 x1 x2 x3 = fun _ => 1#1) :
    (∀ i, IsReal (x0 i)) ∧ (∀ i, IsReal (x1 i)) ∧ ∀ i, IsReal (x3 i) := by
  have h0 := congrFun h (fun a => a.elim0)
  unfold Cert.Pre_finite_dact.fn at h0
  dsimp only at h0
  obtain ⟨h1, h3⟩ := andi_split h0
  obtain ⟨h1, h2⟩ := andi_split h1
  exact ⟨fun i => all_real _ _ _ _ _ h1 i, fun i => all_real _ _ _ _ _ h2 i, fun i => all_real _ _ _ _ _ h3 i⟩

/-- Then the gradient of the product times the other half is a real number. -/
theorem dall_real (x0 : S8192x2048.Idx → EReal) (x1 : S5632x2048.Idx → EReal) (x3 : S8192x5632.Idx → EReal)
    (h0 : ∀ i, IsReal (x0 i)) (h1 : ∀ i, IsReal (x1 i)) (h3 : ∀ i, IsReal (x3 i)) (i : S8192x5632.Idx) :
    IsReal (dall x0 x1 (i 0).val (i 1).val * x3 i) :=
  (IsReal.sum _ _ fun k _ => (h0 _).mul (h1 _)).mul (h3 i)

end Cert.DactIdeal.Prod

end
-- ==== Proof.Df.lean ====
/- The gradient of the SwiGLU's input: what one block of the kernel computes, what its result array holds, and that the
   reference holds the same. -/
module

public import proofs.«01_k».proof.Proof.Common
public import proofs.«01_k».proof.Proof.Gen.DfIdeal.Value
public import proofs.«01_k».proof.Proof.Gen.DfRefIdeal.Read

@[expose] public section

set_option maxRecDepth 16384

noncomputable section

namespace Cert.DfIdeal.Prod

open Cert.DfIdeal Cert.DfIdeal.Gen Cert.DfIdeal.Value Cert.Common
open Idealize.ShloMosaic Idealize.ShloMosaic.TcCoe Idealize.SL.Sem

/-- What one block holds: the two products along the shared axis, added. -/
theorem out_apply (x0 : Vec Ideal S1024x5632 .bf16) (x1 : Vec Ideal S256x5632 .bf16) (x2 : Vec Ideal S1024x5632 .bf16) (x3 : Vec Ideal S256x5632 .bf16)
    (r : Fin 1024) (s : Fin 256) :
    @Eq EReal (out0_4 x0 x1 x2 x3 (ix2 r s))
      ((∑ k : Fin 5632, (x0 (ix2 r k) : EReal) * x1 (ix2 s k)) + ∑ k : Fin 5632, (x2 (ix2 r k) : EReal) * x3 (ix2 s k)) := by
  unfold out0_4
  rw [View.canon_unit_zero off2]
  simp only [View.ld_unit_zero (S := S1024x5632) off2, View.ld_unit_zero (S := S256x5632) off2]
  unfold k0_pay1
  pointwise

variable (m : (ℓ : Loc nD τ sig) → Buf (Elt Ideal) ℓ)

/-- The operands as the launch finds them: the two gradients and the two weight matrices. -/
abbrev X0 (c : Dev nD) : S8192x5632.Idx → EReal := m ((c : Thread nD τ).loc main_arg0)
abbrev X1 (c : Dev nD) : S8192x5632.Idx → EReal := m ((c : Thread nD τ).loc main_arg1)
abbrev X2 (c : Dev nD) : S2048x5632.Idx → EReal := m ((c : Thread nD τ).loc main_arg2)
abbrev X3 (c : Dev nD) : S2048x5632.Idx → EReal := m ((c : Thread nD τ).loc main_arg3)

/-- Which blocks a grid point reads and writes. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = t.val % 8 :=
  (by decide +kernel : ∀ t : Fin grid0.N, _)

theorem blk0 (c : Dev nD) (t : Fin cfg0.N) (r : Fin 1024) (k : Fin 5632) :
    (iblk m c 0 t : S1024x5632.Idx → EReal) (ix2 r k) = rd (X0 m c) (1024 * (t.val / 8) + r.val) k.val := by
  have e := idx_facts t
  refine (eq_rd (X0 m c) (((cfg0.win 0).blk t).view.emb (ix2 r k)) _ _ ?_ ?_)
  · show win0_0.index t (0 : Fin 2) * 1024 + 1 * r.val = _
    rw [e.1]; omega
  · show win0_0.index t (1 : Fin 2) * 5632 + 1 * k.val = _
    rw [e.2.1]; omega

theorem blk1 (c : Dev nD) (t : Fin cfg0.N) (s : Fin 256) (k : Fin 5632) :
    (iblk m c 1 t : S256x5632.Idx → EReal) (ix2 s k) = rd (X2 m c) (256 * (t.val % 8) + s.val) k.val := by
  have e := idx_facts t
  refine (eq_rd (X2 m c) (((cfg0.win 1).blk t).view.emb (ix2 s k)) _ _ ?_ ?_)
  · show win0_1.index t (0 : Fin 2) * 256 + 1 * s.val = _
    rw [e.2.2.1]; omega
  · show win0_1.index t (1 : Fin 2) * 5632 + 1 * k.val = _
    rw [e.2.2.2.1]; omega

theorem blk2 (c : Dev nD) (t : Fin cfg0.N) (r : Fin 1024) (k : Fin 5632) :
    (iblk m c 2 t : S1024x5632.Idx → EReal) (ix2 r k) = rd (X1 m c) (1024 * (t.val / 8) + r.val) k.val := by
  have e := idx_facts t
  refine (eq_rd (X1 m c) (((cfg0.win 2).blk t).view.emb (ix2 r k)) _ _ ?_ ?_)
  · show win0_2.index t (0 : Fin 2) * 1024 + 1 * r.val = _
    rw [e.2.2.2.2.1]; omega
  · show win0_2.index t (1 : Fin 2) * 5632 + 1 * k.val = _
    rw [e.2.2.2.2.2.1]; omega

theorem blk3 (c : Dev nD) (t : Fin cfg0.N) (s : Fin 256) (k : Fin 5632) :
    (iblk m c 3 t : S256x5632.Idx → EReal) (ix2 s k) = rd (X3 m c) (256 * (t.val % 8) + s.val) k.val := by
  have e := idx_facts t
  refine (eq_rd (X3 m c) (((cfg0.win 3).blk t).view.emb (ix2 s k)) _ _ ?_ ?_)
  · show win0_3.index t (0 : Fin 2) * 256 + 1 * s.val = _
    rw [e.2.2.2.2.2.2.1]; omega
  · show win0_3.index t (1 : Fin 2) * 5632 + 1 * k.val = _
    rw [e.2.2.2.2.2.2.2.1]; omega

/-- The result array: at each index the two inner products of a gradient's row with a weight's row, added. -/
def G (X0 X1 : S8192x5632.Idx → EReal) (X2 X3 : S2048x5632.Idx → EReal) : S8192x2048.Idx → EReal := fun i =>
  (∑ k : Fin 5632, rd X0 (i 0).val k.val * rd X2 (i 1).val k.val) + ∑ k : Fin 5632, rd X1 (i 0).val k.val * rd X3 (i 1).val k.val

/-- THE RESULT ARRAY after the run is `G`. -/
theorem arr_eq (c : Dev nD) : (dats m 0 c).arrAt 4 cfg0.N = G (X0 m c) (X1 m c) (X2 m c) (X3 m c) := by
  refine (dats m 0 c).arrAt_eq_of_covers 4 _ (by decide +kernel) fun t hf y => ?_
  rw [after0_4]
  have e := idx_facts t
  obtain ⟨r, s, rfl⟩ : ∃ (r : Fin 1024) (s : Fin 256), y = ix2 r s := ⟨y 0, y 1, eq_ix2 y⟩
  have h0 : ((((cfg0.win 4).blk t).view.emb (ix2 r s)) 0).val = 1024 * (t.val / 8) + r.val := by
    show win0_4.index t (0 : Fin 2) * 1024 + 1 * r.val = _
    rw [e.2.2.2.2.2.2.2.2.1]; omega
  have h1 : ((((cfg0.win 4).blk t).view.emb (ix2 r s)) 1).val = 256 * (t.val % 8) + s.val := by
    show win0_4.index t (1 : Fin 2) * 256 + 1 * s.val = _
    rw [e.2.2.2.2.2.2.2.2.2]; omega
  have key := out_apply (iblk m c 0 t) (iblk m c 1 t) (iblk m c 2 t) (iblk m c 3 t) r s
  simp only [blk0, blk1, blk2, blk3] at key
  unfold G
  rw [h0, h1]
  generalize out0_4 (iblk m c 0 t) (iblk m c 1 t) (iblk m c 2 t) (iblk m c 3 t) = Z at key ⊢
  exact key

end Cert.DfIdeal.Prod

namespace Cert.DfRefIdeal.Prod

open Cert.DfRefIdeal Cert.DfRefIdeal.Read Cert.Common
open Idealize.ShloMosaic Idealize.ShloMosaic.TcCoe

/-- WHAT THE REFERENCE COMPUTES: the same two inner products, added. -/
theorem ref_eq (x0 x1 : S8192x5632.Idx → EReal) (x2 x3 : S2048x5632.Idx → EReal) :
    (val_main_v10 (F := Ideal) x0 x1 x2 x3 : S8192x2048.Idx → EReal) = Cert.DfIdeal.Prod.G x0 x1 x2 x3 := funext fun i => by
  rw [val_main_v10_apply, Ideal.truncf_def, val_main_v9_apply, val_main_v7_apply, val_main_v8_apply]
  show ((_ : EReal) + _) = _
  rw [add_comm]
  unfold Cert.DfIdeal.Prod.G
  refine congrArg₂ (· + ·) (Finset.sum_congr rfl fun k _ => ?_) (Finset.sum_congr rfl fun k _ => ?_)
  · rw [val_main_v5_apply, val_main_v1_apply, Ideal.extf_def, Ideal.extf_def,
      eq_rd x0 _ (i 0).val k.val rfl rfl, eq_rd x2 _ (i 1).val k.val rfl rfl]
  · rw [val_main_v6_apply, val_main_v3_apply, Ideal.extf_def, Ideal.extf_def,
      eq_rd x1 _ (i 0).val k.val rfl rfl, eq_rd x3 _ (i 1).val k.val rfl rfl]

end Cert.DfRefIdeal.Prod

end
-- ==== Proof.DwGate.lean ====
/- The gradient of the gate's weights: what one block of the kernel computes, what its result array holds, and that the
   reference holds the same. -/
module

public import proofs.«01_k».proof.Proof.Common
public import proofs.«01_k».proof.Proof.Gen.DwGateIdeal.Value
public import proofs.«01_k».proof.Proof.Gen.DwGateRefIdeal.Read

@[expose] public section

set_option maxRecDepth 16384

noncomputable section

namespace Cert.DwGateIdeal.Prod

open Cert.DwGateIdeal Cert.DwGateIdeal.Gen Cert.DwGateIdeal.Value Cert.Common
open Idealize.ShloMosaic Idealize.ShloMosaic.TcCoe Idealize.SL.Sem

section Cases
variable {F : FTy → Type} [FloatOps F]
  (c : Dev nD) (i : grid0.Coords) (a3 : Memref sig .tc .vmem S2048x1024 .bf16) (h3 : a3.IsWhole) (a4 : Memref sig .tc .vmem S2048x1408 .bf16) (h4 : a4.IsWhole) (a5 : Memref sig .tc .vmem S1024x1408 .bf16) (h5 : a5.IsWhole) (a6 : Memref sig .tc .vmem S1024x1408 .f32) (h6 : a6.IsWhole)

/-- The first point of a run leaves its block product in the accumulator. -/
theorem sout_A (hc0 : cond0_0 i) (hc1 : ¬cond0_1 i) (hc2 : ¬cond0_2 i)
    (x0 : Vec F S2048x1024 .bf16) (x1 : Vec F S2048x1408 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero off2]
  unfold k0_pay2
  simp only [View.readAt_eq_ld, h3.read_unread, h4.read_unread, View.ld_unit_zero (S := S2048x1024) off2, View.ld_unit_zero (S := S2048x1408) off2, shapeCast_self]

/-- A later point adds its block product to the accumulator. -/
theorem sout_B (hc0 : ¬cond0_0 i) (hc1 : cond0_1 i) (hc2 : ¬cond0_2 i)
    (x0 : Vec F S2048x1024 .bf16) (x1 : Vec F S2048x1408 .bf16) (xs : Vec F S1024x1408 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S2048x1408) off2, View.ld_unit_zero (S := S1024x1408) off2, shapeCast_self]

/-- So does the last point of the run … -/
theorem sout_C (hc0 : ¬cond0_0 i) (hc1 : cond0_1 i) (hc2 : cond0_2 i)
    (x0 : Vec F S2048x1024 .bf16) (x1 : Vec F S2048x1408 .bf16) (xs : Vec F S1024x1408 .f32) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S2048x1408) off2, View.ld_unit_zero (S := S1024x1408) off2, shapeCast_self]

/-- … which writes the accumulator, rounded, to the result's block. -/
theorem out_C (hc0 : ¬cond0_0 i) (hc1 : cond0_1 i) (hc2 : cond0_2 i)
    (x0 : Vec F S2048x1024 .bf16) (x1 : Vec F S2048x1408 .bf16) (xs : Vec F S1024x1408 .f32) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero off2, View.readCov_unit_zero (S := S1024x1408) _ off2]
  unfold k0_pay4 k0_pay3
  simp only [View.readAt_eq_ld, h3.read_unread, h4.read_unread, h6.read_unread, View.ld_unit_zero (S := S2048x1024) off2, View.ld_unit_zero (S := S2048x1408) off2, View.ld_unit_zero (S := S1024x1408) off2, shapeCast_self]

end Cases

variable (m : (ℓ : Loc nD τ sig) → Buf (Elt Ideal) ℓ)

/-- The two operands as the launch finds them. -/
abbrev X0 (c : Dev nD) : S8192x2048.Idx → EReal := m ((c : Thread nD τ).loc main_arg0)
abbrev X1 (c : Dev nD) : S8192x5632.Idx → EReal := m ((c : Thread nD τ).loc main_arg1)

/-- Which blocks of the operands a grid point reads. -/
theorem idx_facts : ∀ t : Fin cfg0.N, win0_0.index t (0 : Fin 2) = t.val % 4 ∧ win0_0.index t (1 : Fin 2) = t.val / 4 / 4
    ∧ win0_1.index t (0 : Fin 2) = t.val % 4 ∧ win0_1.index t (1 : Fin 2) = t.val / 4 % 4 :=
  (by decide +kernel : ∀ t : Fin grid0.N, _)

/-- A grid point's block of the first operand. -/
theorem blk0 (c : Dev nD) (t : Fin cfg0.N) (k : Fin 2048) (r : Fin 1024) :
    (iblk m c 0 t : S2048x1024.Idx → EReal) (ix2 k r) = rd (X0 m c) (2048 * (t.val % 4) + k.val) (1024 * (t.val / 4 / 4) + r.val) := by
  obtain ⟨e0, e1, -, -⟩ := idx_facts t
  refine (eq_rd (X0 m c) (((cfg0.win 0).blk t).view.emb (ix2 k r)) _ _ ?_ ?_)
  · show win0_0.index t (0 : Fin 2) * 2048 + 1 * k.val = _
    rw [e0]; omega
  · show win0_0.index t (1 : Fin 2) * 1024 + 1 * r.val = _
    rw [e1]; omega

/-- A grid point's block of the second operand. -/
theorem blk1 (c : Dev nD) (t : Fin cfg0.N) (k : Fin 2048) (s : Fin 1408) :
    (iblk m c 1 t : S2048x1408.Idx → EReal) (ix2 k s) = rd (X1 m c) (2048 * (t.val % 4) + k.val) (1408 * (t.val / 4 % 4) + s.val) := by
  obtain ⟨-, -, e0, e1⟩ := idx_facts t
  refine (eq_rd (X1 m c) (((cfg0.win 1).blk t).view.emb (ix2 k s)) _ _ ?_ ?_)
  · show win0_1.index t (0 : Fin 2) * 2048 + 1 * k.val = _
    rw [e0]; omega
  · show win0_1.index t (1 : Fin 2) * 1408 + 1 * s.val = _
    rw [e1]; omega

/-- What one block product is: the sum over the block's rows. -/
theorem pay1_apply (x0 : Vec Ideal S2048x1024 .bf16) (x1 : Vec Ideal S2048x1408 .bf16) (r : Fin 1024) (s : Fin 1408) :
    (k0_pay1 x0 x1 : S1024x1408.Idx → EReal) (ix2 r s) = ∑ k : Fin 2048, (x0 (ix2 k r) : EReal) * x1 (ix2 k s) := by
  unfold k0_pay1
  pointwise

/-- The term point `k` of run `q` adds to the accumulator at `i`. -/
def term (c : Dev nD) (q k : ℕ) (i : S1024x1408.Idx) : EReal :=
  ∑ l : Fin 2048, rd (X0 m c) (2048 * k + l.val) (1024 * (q / 4) + (i 0).val) * rd (X1 m c) (2048 * k + l.val) (1408 * (q % 4) + (i 1).val)

theorem pay1_blk (c : Dev nD) (t : Fin cfg0.N) (i : S1024x1408.Idx) :
    (k0_pay1 (F := Ideal) (iblk m c 0 t) (iblk m c 1 t) : S1024x1408.Idx → EReal) i = term m c (t.val / 4) (t.val % 4) i := by
  obtain ⟨r, s, rfl⟩ : ∃ r s, i = ix2 r s := ⟨i 0, i 1, eq_ix2 i⟩
  rw [pay1_apply]
  unfold term
  refine Finset.sum_congr rfl fun l _ => ?_
  rw [blk0, blk1]
  rfl

/-- The accumulator after point `t` of its run. -/
theorem scratch_eq (c : Dev nD) (t : Fin cfg0.N) (i : S1024x1408.Idx) :
    ((outsAt0 m c t.val t.isLt).2 : S1024x1408.Idx → EReal) i = 0 + ∑ k ∈ Finset.range (t.val % 4 + 1), term m c (t.val / 4) k i := by
  have hN : cfg0.N = 32 := N_0
  refine Pipeline.eq_sum_of_reset_step_apply_divmod (fun n h => ((outsAt0 m c n h).2 : S1024x1408.Idx → EReal)) 4 (fun _ => 0)
    (term m c) ?_ ?_ t i
  · intro t h i
    rw [outsAt0_A m c t h (by omega) (by omega)]
    dsimp only
    rw [sout_A, pay1_blk, zero_add]
  · intro t h i
    by_cases h3 : t.val % 4 = 3
    · rw [outsAt0_C m c t h (by omega) h3]
      dsimp only
      rw [sout_C, ← pay1_blk]
      rfl
    · rw [outsAt0_B m c t h (by omega) h3]
      dsimp only
      rw [sout_B, ← pay1_blk]
      rfl

/-- At the last point of a run the result's block holds the accumulator (a rounding is the identity on the reals). -/
theorem out_eq (c : Dev nD) (t : Fin cfg0.N) (h : t.val % 4 = 3) (i : S1024x1408.Idx) :
    ((outsAt0 m c t.val t.isLt).1 : S1024x1408.Idx → EReal) i = ((outsAt0 m c t.val t.isLt).2 : S1024x1408.Idx → EReal) i := by
  rw [outsAt0_C m c t (by omega) (by omega) h]
  dsimp only
  rw [out_C, sout_C]
  rfl

/-- THE RESULT ARRAY: at each index the whole sum over the rows of the two operands. -/
theorem G2_eq (c : Dev nD) (i : S2048x5632.Idx) :
    @Eq EReal (G2 m c i) (∑ k : Fin 8192, rd (X0 m c) k.val (i 0).val * rd (X1 m c) k.val (i 1).val) := by
  have hi0 : (i 0).val < 2048 := (i 0).isLt
  have hi1 : (i 1).val < 5632 := (i 1).isLt
  have hN : cfg0.N = 32 := N_0
  have hp : pt2Of i < cfg0.N := by rw [hN]; show 4 * (4 * ((i 0).val / 1024 - 0) + 1 * ((i 1).val / 1408 - 0)) + 3 < 32; omega
  have hm : pt2Of i % 4 = 3 := by show (4 * run2Of i + 3) % 4 = 3; omega
  have hq : pt2Of i / 4 = 4 * ((i 0).val / 1024) + (i 1).val / 1408 := by
    show (4 * (4 * ((i 0).val / 1024 - 0) + 1 * ((i 1).val / 1408 - 0)) + 3) / 4 = _; omega
  unfold G2
  rw [dif_pos hp, ← outsAt0_sweep m c (pt2Of i) hp]
  rw [out_eq m c ⟨pt2Of i, hp⟩ hm, scratch_eq m c ⟨pt2Of i, hp⟩]
  dsimp only
  rw [hm, zero_add, hq, ← sum_tiles 4 2048 rfl (fun k => rd (X0 m c) k (i 0).val * rd (X1 m c) k (i 1).val)]
  refine Finset.sum_congr rfl fun k _ => Finset.sum_congr rfl fun l _ => ?_
  show rd (X0 m c) (2048 * k + l.val) (1024 * ((4 * ((i 0).val / 1024) + (i 1).val / 1408) / 4) + (i 0).val % 1024)
    * rd (X1 m c) (2048 * k + l.val) (1408 * ((4 * ((i 0).val / 1024) + (i 1).val / 1408) % 4) + (i 1).val % 1408) = _
  rw [show 1024 * ((4 * ((i 0).val / 1024) + (i 1).val / 1408) / 4) + (i 0).val % 1024 = (i 0).val from by omega,
    show 1408 * ((4 * ((i 0).val / 1024) + (i 1).val / 1408) % 4) + (i 1).val % 1408 = (i 1).val from by omega]

end Cert.DwGateIdeal.Prod

namespace Cert.DwGateRefIdeal.Prod

open Cert.DwGateRefIdeal Cert.DwGateRefIdeal.Read Cert.Common
open Idealize.ShloMosaic Idealize.ShloMosaic.TcCoe

/-- WHAT THE REFERENCE COMPUTES: the transpose of the other operand times this one, the same sum at each index. -/
theorem ref_eq (x0 : S8192x2048.Idx → EReal) (x1 : S8192x5632.Idx → EReal) (i : S2048x5632.Idx) :
    (val_main_v6 (F := Ideal) x0 x1 : S2048x5632.Idx → EReal) i = ∑ k : Fin 8192, rd x0 k.val (i 0).val * rd x1 k.val (i 1).val := by
  rw [val_main_v6_apply, Ideal.truncf_def, val_main_v5_apply, val_main_v4_apply]
  refine Finset.sum_congr rfl fun k _ => ?_
  rw [val_main_v3_apply, val_main_v1_apply, Ideal.extf_def, Ideal.extf_def, mul_comm]
  rw [eq_rd x0 _ k.val (i 0).val rfl rfl, eq_rd x1 _ k.val (i 1).val rfl rfl]

end Cert.DwGateRefIdeal.Prod

namespace Cert.DwGateIdeal.Prod

open Idealize.ShloMosaic Idealize.ShloMosaic.TcCoe

/-- The kernel's result is the reference's. -/
theorem result_eq (m : (ℓ : Loc nD τ sig) → Buf (Elt Ideal) ℓ) (c : Dev nD) :
    (Cert.DwGateIdeal.Value.G2 m c : S2048x5632.Idx → EReal) = Cert.DwGateRefIdeal.Read.val_main_v6 (F := Ideal) (X0 m c) (X1 m c) :=
  funext fun i => (G2_eq m c i).trans (Cert.DwGateRefIdeal.Prod.ref_eq (X0 m c) (X1 m c) i).symm

end Cert.DwGateIdeal.Prod

end
-- ==== Proof.DwDown.lean ====
/- The gradient of the down projection's weights: what one block of the kernel computes, what its result array holds, and that the
   reference holds the same. -/
module

public import proofs.«01_k».proof.Proof.Common
public import proofs.«01_k».proof.Proof.Gen.DwDownIdeal.Value
public import proofs.«01_k».proof.Proof.Gen.DwDownRefIdeal.Read

@[expose] public section

set_option maxRecDepth 16384

noncomputable section

namespace Cert.DwDownIdeal.Prod

open Cert.DwDownIdeal Cert.DwDownIdeal.Gen Cert.DwDownIdeal.Value Cert.Common
open Idealize.ShloMosaic Idealize.ShloMosaic.TcCoe Idealize.SL.Sem

section Cases
variable {F : FTy → Type} [FloatOps F]
  (c : Dev nD) (i : grid0.Coords) (a3 : Memref sig .tc .vmem S1024x1408 .bf16) (h3 : a3.IsWhole) (a4 : Memref sig .tc .vmem S1024x2048 .bf16) (h4 : a4.IsWhole) (a5 : Memref sig .tc .vmem S1408x2048 .bf16) (h5 : a5.IsWhole) (a6 : Memref sig .tc .vmem S1408x2048 .f32) (h6 : a6.IsWhole)

/-- The first point of a run leaves its block product in the accumulator. -/
theorem sout_A (hc0 : cond0_0 i) (hc1 : ¬cond0_1 i) (hc2 : ¬cond0_2 i)
    (x0 : Vec F S1024x1408 .bf16) (x1 : Vec F S1024x2048 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero off2]
  unfold k0_pay2
  simp only [View.readAt_eq_ld, h3.read_unread, h4.read_unread, View.ld_unit_zero (S := S1024x1408) off2, View.ld_unit_zero (S := S1024x2048) off2, shapeCast_self]

/-- A later point adds its block product to the accumulator. -/
theorem sout_B (hc0 : ¬cond0_0 i) (hc1 : cond0_1 i) (hc2 : ¬cond0_2 i)
    (x0 : Vec F S1024x1408 .bf16) (x1 : Vec F S1024x2048 .bf16) (xs : Vec F S1408x2048 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero off2]
  unfold k0_pay3
  simp only [View.readAt_eq_ld, h3.read_unread, h4.read_unread, h6.read_unread, View.ld_unit_zero (S := S1024x1408) off2, View.ld_unit_zero (S := S1024x2048) off2, View.ld_unit_zero (S := S1408x2048) off2, shapeCast_self]

/-- So does the last point of the run … -/
theorem sout_C (hc0 : ¬cond0_0 i) (hc1 : cond0_1 i) (hc2 : cond0_2 i)
    (x0 : Vec F S1024x1408 .bf16) (x1 : Vec F S1024x2048 .bf16) (xs : Vec F S1408x2048 .f32) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero off2]
  unfold k0_pay3
  simp only [View.readAt_eq_ld, h3.read_unread, h4.read_unread, h6.read_unread, View.ld_unit_zero (S := S1024x1408) off2, View.ld_unit_zero (S := S1024x2048) off2, View.ld_unit_zero (S := S1408x2048) off2, shapeCast_self]

/-- … which writes the accumulator, rounded, to the result's block. -/
theorem out_C (hc0 : ¬cond0_0 i) (hc1 : cond0_1 i) (hc2 : cond0_2 i)
    (x0 : Vec F S1024x1408 .bf16) (x1 : Vec F S1024x2048 .bf16) (xs : Vec F S1408x2048 .f32) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero off2, View.readCov_unit_zero (S := S1408x2048) _ off2]
  unfold k0_pay4 k0_pay3
  simp only [View.readAt_eq_ld, h3.read_unread, h4.read_unread, h6.read_unread, View.ld_unit_zero (S := S1024x1408) off2, View.ld_unit_zero (S := S1024x2048) off2, View.ld_unit_zero (S := S1408x2048) off2, shapeCast_self]

end Cases

variable (m : (ℓ : Loc nD τ sig) → Buf (Elt Ideal) ℓ)

/-- The two operands as the launch finds them. -/
abbrev X0 (c : Dev nD) : S8192x5632.Idx → EReal := m ((c : Thread nD τ).loc main_arg0)
abbrev X1 (c : Dev nD) : S8192x2048.Idx → EReal := m ((c : Thread nD τ).loc main_arg1)

/-- Which blocks of the operands a grid point reads. -/
theorem idx_facts : ∀ t : Fin cfg0.N, win0_0.index t (0 : Fin 2) = t.val % 8 ∧ win0_0.index t (1 : Fin 2) = t.val / 8 / 1
    ∧ win0_1.index t (0 : Fin 2) = t.val % 8 ∧ win0_1.index t (1 : Fin 2) = t.val / 8 % 1 :=
  (by decide +kernel : ∀ t : Fin grid0.N, _)

/-- A grid point's block of the first operand. -/
theorem blk0 (c : Dev nD) (t : Fin cfg0.N) (k : Fin 1024) (r : Fin 1408) :
    (iblk m c 0 t : S1024x1408.Idx → EReal) (ix2 k r) = rd (X0 m c) (1024 * (t.val % 8) + k.val) (1408 * (t.val / 8 / 1) + r.val) := by
  obtain ⟨e0, e1, -, -⟩ := idx_facts t
  refine (eq_rd (X0 m c) (((cfg0.win 0).blk t).view.emb (ix2 k r)) _ _ ?_ ?_)
  · show win0_0.index t (0 : Fin 2) * 1024 + 1 * k.val = _
    rw [e0]; omega
  · show win0_0.index t (1 : Fin 2) * 1408 + 1 * r.val = _
    rw [e1]; omega

/-- A grid point's block of the second operand. -/
theorem blk1 (c : Dev nD) (t : Fin cfg0.N) (k : Fin 1024) (s : Fin 2048) :
    (iblk m c 1 t : S1024x2048.Idx → EReal) (ix2 k s) = rd (X1 m c) (1024 * (t.val % 8) + k.val) (2048 * (t.val / 8 % 1) + s.val) := by
  obtain ⟨-, -, e0, e1⟩ := idx_facts t
  refine (eq_rd (X1 m c) (((cfg0.win 1).blk t).view.emb (ix2 k s)) _ _ ?_ ?_)
  · show win0_1.index t (0 : Fin 2) * 1024 + 1 * k.val = _
    rw [e0]; omega
  · show win0_1.index t (1 : Fin 2) * 2048 + 1 * s.val = _
    rw [e1]; omega

/-- What one block product is: the sum over the block's rows. -/
theorem pay1_apply (x0 : Vec Ideal S1024x1408 .bf16) (x1 : Vec Ideal S1024x2048 .bf16) (r : Fin 1408) (s : Fin 2048) :
    (k0_pay1 x0 x1 : S1408x2048.Idx → EReal) (ix2 r s) = ∑ k : Fin 1024, (x0 (ix2 k r) : EReal) * x1 (ix2 k s) := by
  unfold k0_pay1
  pointwise

/-- The term point `k` of run `q` adds to the accumulator at `i`. -/
def term (c : Dev nD) (q k : ℕ) (i : S1408x2048.Idx) : EReal :=
  ∑ l : Fin 1024, rd (X0 m c) (1024 * k + l.val) (1408 * (q / 1) + (i 0).val) * rd (X1 m c) (1024 * k + l.val) (2048 * (q % 1) + (i 1).val)

theorem pay1_blk (c : Dev nD) (t : Fin cfg0.N) (i : S1408x2048.Idx) :
    (k0_pay1 (F := Ideal) (iblk m c 0 t) (iblk m c 1 t) : S1408x2048.Idx → EReal) i = term m c (t.val / 8) (t.val % 8) i := by
  obtain ⟨r, s, rfl⟩ : ∃ r s, i = ix2 r s := ⟨i 0, i 1, eq_ix2 i⟩
  rw [pay1_apply]
  unfold term
  refine Finset.sum_congr rfl fun l _ => ?_
  rw [blk0, blk1]
  rfl

/-- The accumulator after point `t` of its run. -/
theorem scratch_eq (c : Dev nD) (t : Fin cfg0.N) (i : S1408x2048.Idx) :
    ((outsAt0 m c t.val t.isLt).2 : S1408x2048.Idx → EReal) i = 0 + ∑ k ∈ Finset.range (t.val % 8 + 1), term m c (t.val / 8) k i := by
  have hN : cfg0.N = 32 := N_0
  refine Pipeline.eq_sum_of_reset_step_apply_divmod (fun n h => ((outsAt0 m c n h).2 : S1408x2048.Idx → EReal)) 8 (fun _ => 0)
    (term m c) ?_ ?_ t i
  · intro t h i
    rw [outsAt0_A m c t h (by omega) (by omega)]
    dsimp only
    rw [sout_A, pay1_blk, zero_add]
  · intro t h i
    by_cases h3 : t.val % 8 = 7
    · rw [outsAt0_C m c t h (by omega) h3]
      dsimp only
      rw [sout_C, ← pay1_blk]
      rfl
    · rw [outsAt0_B m c t h (by omega) h3]
      dsimp only
      rw [sout_B, ← pay1_blk]
      rfl

/-- At the last point of a run the result's block holds the accumulator (a rounding is the identity on the reals). -/
theorem out_eq (c : Dev nD) (t : Fin cfg0.N) (h : t.val % 8 = 7) (i : S1408x2048.Idx) :
    ((outsAt0 m c t.val t.isLt).1 : S1408x2048.Idx → EReal) i = ((outsAt0 m c t.val t.isLt).2 : S1408x2048.Idx → EReal) i := by
  rw [outsAt0_C m c t (by omega) (by omega) h]
  dsimp only
  rw [out_C, sout_C]
  rfl

/-- THE RESULT ARRAY: at each index the whole sum over the rows of the two operands. -/
theorem G2_eq (c : Dev nD) (i : S5632x2048.Idx) :
    @Eq EReal (G2 m c i) (∑ k : Fin 8192, rd (X0 m c) k.val (i 0).val * rd (X1 m c) k.val (i 1).val) := by
  have hi0 : (i 0).val < 5632 := (i 0).isLt
  have hi1 : (i 1).val < 2048 := (i 1).isLt
  have hN : cfg0.N = 32 := N_0
  have hp : pt2Of i < cfg0.N := by rw [hN]; show 8 * (1 * ((i 0).val / 1408 - 0) + 1 * ((i 1).val / 2048 - 0)) + 7 < 32; omega
  have hm : pt2Of i % 8 = 7 := by show (8 * run2Of i + 7) % 8 = 7; omega
  have hq : pt2Of i / 8 = 1 * ((i 0).val / 1408) + (i 1).val / 2048 := by
    show (8 * (1 * ((i 0).val / 1408 - 0) + 1 * ((i 1).val / 2048 - 0)) + 7) / 8 = _; omega
  unfold G2
  rw [dif_pos hp, ← outsAt0_sweep m c (pt2Of i) hp]
  rw [out_eq m c ⟨pt2Of i, hp⟩ hm, scratch_eq m c ⟨pt2Of i, hp⟩]
  dsimp only
  rw [hm, zero_add, hq, ← sum_tiles 8 1024 rfl (fun k => rd (X0 m c) k (i 0).val * rd (X1 m c) k (i 1).val)]
  refine Finset.sum_congr rfl fun k _ => Finset.sum_congr rfl fun l _ => ?_
  show rd (X0 m c) (1024 * k + l.val) (1408 * ((1 * ((i 0).val / 1408) + (i 1).val / 2048) / 1) + (i 0).val % 1408)
    * rd (X1 m c) (1024 * k + l.val) (2048 * ((1 * ((i 0).val / 1408) + (i 1).val / 2048) % 1) + (i 1).val % 2048) = _
  rw [show 1408 * ((1 * ((i 0).val / 1408) + (i 1).val / 2048) / 1) + (i 0).val % 1408 = (i 0).val from by omega,
    show 2048 * ((1 * ((i 0).val / 1408) + (i 1).val / 2048) % 1) + (i 1).val % 2048 = (i 1).val from by omega]

end Cert.DwDownIdeal.Prod

namespace Cert.DwDownRefIdeal.Prod

open Cert.DwDownRefIdeal Cert.DwDownRefIdeal.Read Cert.Common
open Idealize.ShloMosaic Idealize.ShloMosaic.TcCoe

/-- WHAT THE REFERENCE COMPUTES: the transpose of the other operand times this one, the same sum at each index. -/
theorem ref_eq (x0 : S8192x5632.Idx → EReal) (x1 : S8192x2048.Idx → EReal) (i : S5632x2048.Idx) :
    (val_main_v6 (F := Ideal) x0 x1 : S5632x2048.Idx → EReal) i = ∑ k : Fin 8192, rd x0 k.val (i 0).val * rd x1 k.val (i 1).val := by
  rw [val_main_v6_apply, Ideal.truncf_def, val_main_v5_apply, val_main_v4_apply]
  refine Finset.sum_congr rfl fun k _ => ?_
  rw [val_main_v3_apply, val_main_v1_apply, Ideal.extf_def, Ideal.extf_def, mul_comm]
  rw [eq_rd x0 _ k.val (i 0).val rfl rfl, eq_rd x1 _ k.val (i 1).val rfl rfl]

end Cert.DwDownRefIdeal.Prod

namespace Cert.DwDownIdeal.Prod

open Idealize.ShloMosaic Idealize.ShloMosaic.TcCoe

/-- The kernel's result is the reference's. -/
theorem result_eq (m : (ℓ : Loc nD τ sig) → Buf (Elt Ideal) ℓ) (c : Dev nD) :
    (Cert.DwDownIdeal.Value.G2 m c : S5632x2048.Idx → EReal) = Cert.DwDownRefIdeal.Read.val_main_v6 (F := Ideal) (X0 m c) (X1 m c) :=
  funext fun i => (G2_eq m c i).trans (Cert.DwDownRefIdeal.Prod.ref_eq (X0 m c) (X1 m c) i).symm

end Cert.DwDownIdeal.Prod

end
-- ==== Proof.DwUp.lean ====
/- The gradient of the up projection's weights: what one block of the kernel computes, what its result array holds, and that the
   reference holds the same. -/
module

public import proofs.«01_k».proof.Proof.Common
public import proofs.«01_k».proof.Proof.Gen.DwUpIdeal.Value
public import proofs.«01_k».proof.Proof.Gen.DwUpRefIdeal.Read

@[expose] public section

set_option maxRecDepth 16384

noncomputable section

namespace Cert.DwUpIdeal.Prod

open Cert.DwUpIdeal Cert.DwUpIdeal.Gen Cert.DwUpIdeal.Value Cert.Common
open Idealize.ShloMosaic Idealize.ShloMosaic.TcCoe Idealize.SL.Sem

section Cases
variable {F : FTy → Type} [FloatOps F]
  (c : Dev nD) (i : grid0.Coords) (a3 : Memref sig .tc .vmem S2048x1024 .bf16) (h3 : a3.IsWhole) (a4 : Memref sig .tc .vmem S2048x1408 .bf16) (h4 : a4.IsWhole) (a5 : Memref sig .tc .vmem S1024x1408 .bf16) (h5 : a5.IsWhole) (a6 : Memref sig .tc .vmem S1024x1408 .f32) (h6 : a6.IsWhole)

/-- The first point of a run leaves its block product in the accumulator. -/
theorem sout_A (hc0 : cond0_0 i) (hc1 : ¬cond0_1 i) (hc2 : ¬cond0_2 i)
    (x0 : Vec F S2048x1024 .bf16) (x1 : Vec F S2048x1408 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero off2]
  unfold k0_pay2
  simp only [View.readAt_eq_ld, h3.read_unread, h4.read_unread, View.ld_unit_zero (S := S2048x1024) off2, View.ld_unit_zero (S := S2048x1408) off2, shapeCast_self]

/-- A later point adds its block product to the accumulator. -/
theorem sout_B (hc0 : ¬cond0_0 i) (hc1 : cond0_1 i) (hc2 : ¬cond0_2 i)
    (x0 : Vec F S2048x1024 .bf16) (x1 : Vec F S2048x1408 .bf16) (xs : Vec F S1024x1408 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S2048x1408) off2, View.ld_unit_zero (S := S1024x1408) off2, shapeCast_self]

/-- So does the last point of the run … -/
theorem sout_C (hc0 : ¬cond0_0 i) (hc1 : cond0_1 i) (hc2 : cond0_2 i)
    (x0 : Vec F S2048x1024 .bf16) (x1 : Vec F S2048x1408 .bf16) (xs : Vec F S1024x1408 .f32) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S2048x1408) off2, View.ld_unit_zero (S := S1024x1408) off2, shapeCast_self]

/-- … which writes the accumulator, rounded, to the result's block. -/
theorem out_C (hc0 : ¬cond0_0 i) (hc1 : cond0_1 i) (hc2 : cond0_2 i)
    (x0 : Vec F S2048x1024 .bf16) (x1 : Vec F S2048x1408 .bf16) (xs : Vec F S1024x1408 .f32) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero off2, View.readCov_unit_zero (S := S1024x1408) _ off2]
  unfold k0_pay4 k0_pay3
  simp only [View.readAt_eq_ld, h3.read_unread, h4.read_unread, h6.read_unread, View.ld_unit_zero (S := S2048x1024) off2, View.ld_unit_zero (S := S2048x1408) off2, View.ld_unit_zero (S := S1024x1408) off2, shapeCast_self]

end Cases

variable (m : (ℓ : Loc nD τ sig) → Buf (Elt Ideal) ℓ)

/-- The two operands as the launch finds them. -/
abbrev X0 (c : Dev nD) : S8192x2048.Idx → EReal := m ((c : Thread nD τ).loc main_arg0)
abbrev X1 (c : Dev nD) : S8192x5632.Idx → EReal := m ((c : Thread nD τ).loc main_arg1)

/-- Which blocks of the operands a grid point reads. -/
theorem idx_facts : ∀ t : Fin cfg0.N, win0_0.index t (0 : Fin 2) = t.val % 4 ∧ win0_0.index t (1 : Fin 2) = t.val / 4 / 4
    ∧ win0_1.index t (0 : Fin 2) = t.val % 4 ∧ win0_1.index t (1 : Fin 2) = t.val / 4 % 4 :=
  (by decide +kernel : ∀ t : Fin grid0.N, _)

/-- A grid point's block of the first operand. -/
theorem blk0 (c : Dev nD) (t : Fin cfg0.N) (k : Fin 2048) (r : Fin 1024) :
    (iblk m c 0 t : S2048x1024.Idx → EReal) (ix2 k r) = rd (X0 m c) (2048 * (t.val % 4) + k.val) (1024 * (t.val / 4 / 4) + r.val) := by
  obtain ⟨e0, e1, -, -⟩ := idx_facts t
  refine (eq_rd (X0 m c) (((cfg0.win 0).blk t).view.emb (ix2 k r)) _ _ ?_ ?_)
  · show win0_0.index t (0 : Fin 2) * 2048 + 1 * k.val = _
    rw [e0]; omega
  · show win0_0.index t (1 : Fin 2) * 1024 + 1 * r.val = _
    rw [e1]; omega

/-- A grid point's block of the second operand. -/
theorem blk1 (c : Dev nD) (t : Fin cfg0.N) (k : Fin 2048) (s : Fin 1408) :
    (iblk m c 1 t : S2048x1408.Idx → EReal) (ix2 k s) = rd (X1 m c) (2048 * (t.val % 4) + k.val) (1408 * (t.val / 4 % 4) + s.val) := by
  obtain ⟨-, -, e0, e1⟩ := idx_facts t
  refine (eq_rd (X1 m c) (((cfg0.win 1).blk t).view.emb (ix2 k s)) _ _ ?_ ?_)
  · show win0_1.index t (0 : Fin 2) * 2048 + 1 * k.val = _
    rw [e0]; omega
  · show win0_1.index t (1 : Fin 2) * 1408 + 1 * s.val = _
    rw [e1]; omega

/-- What one block product is: the sum over the block's rows. -/
theorem pay1_apply (x0 : Vec Ideal S2048x1024 .bf16) (x1 : Vec Ideal S2048x1408 .bf16) (r : Fin 1024) (s : Fin 1408) :
    (k0_pay1 x0 x1 : S1024x1408.Idx → EReal) (ix2 r s) = ∑ k : Fin 2048, (x0 (ix2 k r) : EReal) * x1 (ix2 k s) := by
  unfold k0_pay1
  pointwise

/-- The term point `k` of run `q` adds to the accumulator at `i`. -/
def term (c : Dev nD) (q k : ℕ) (i : S1024x1408.Idx) : EReal :=
  ∑ l : Fin 2048, rd (X0 m c) (2048 * k + l.val) (1024 * (q / 4) + (i 0).val) * rd (X1 m c) (2048 * k + l.val) (1408 * (q % 4) + (i 1).val)

theorem pay1_blk (c : Dev nD) (t : Fin cfg0.N) (i : S1024x1408.Idx) :
    (k0_pay1 (F := Ideal) (iblk m c 0 t) (iblk m c 1 t) : S1024x1408.Idx → EReal) i = term m c (t.val / 4) (t.val % 4) i := by
  obtain ⟨r, s, rfl⟩ : ∃ r s, i = ix2 r s := ⟨i 0, i 1, eq_ix2 i⟩
  rw [pay1_apply]
  unfold term
  refine Finset.sum_congr rfl fun l _ => ?_
  rw [blk0, blk1]
  rfl

/-- The accumulator after point `t` of its run. -/
theorem scratch_eq (c : Dev nD) (t : Fin cfg0.N) (i : S1024x1408.Idx) :
    ((outsAt0 m c t.val t.isLt).2 : S1024x1408.Idx → EReal) i = 0 + ∑ k ∈ Finset.range (t.val % 4 + 1), term m c (t.val / 4) k i := by
  have hN : cfg0.N = 32 := N_0
  refine Pipeline.eq_sum_of_reset_step_apply_divmod (fun n h => ((outsAt0 m c n h).2 : S1024x1408.Idx → EReal)) 4 (fun _ => 0)
    (term m c) ?_ ?_ t i
  · intro t h i
    rw [outsAt0_A m c t h (by omega) (by omega)]
    dsimp only
    rw [sout_A, pay1_blk, zero_add]
  · intro t h i
    by_cases h3 : t.val % 4 = 3
    · rw [outsAt0_C m c t h (by omega) h3]
      dsimp only
      rw [sout_C, ← pay1_blk]
      rfl
    · rw [outsAt0_B m c t h (by omega) h3]
      dsimp only
      rw [sout_B, ← pay1_blk]
      rfl

/-- At the last point of a run the result's block holds the accumulator (a rounding is the identity on the reals). -/
theorem out_eq (c : Dev nD) (t : Fin cfg0.N) (h : t.val % 4 = 3) (i : S1024x1408.Idx) :
    ((outsAt0 m c t.val t.isLt).1 : S1024x1408.Idx → EReal) i = ((outsAt0 m c t.val t.isLt).2 : S1024x1408.Idx → EReal) i := by
  rw [outsAt0_C m c t (by omega) (by omega) h]
  dsimp only
  rw [out_C, sout_C]
  rfl

/-- THE RESULT ARRAY: at each index the whole sum over the rows of the two operands. -/
theorem G2_eq (c : Dev nD) (i : S2048x5632.Idx) :
    @Eq EReal (G2 m c i) (∑ k : Fin 8192, rd (X0 m c) k.val (i 0).val * rd (X1 m c) k.val (i 1).val) := by
  have hi0 : (i 0).val < 2048 := (i 0).isLt
  have hi1 : (i 1).val < 5632 := (i 1).isLt
  have hN : cfg0.N = 32 := N_0
  have hp : pt2Of i < cfg0.N := by rw [hN]; show 4 * (4 * ((i 0).val / 1024 - 0) + 1 * ((i 1).val / 1408 - 0)) + 3 < 32; omega
  have hm : pt2Of i % 4 = 3 := by show (4 * run2Of i + 3) % 4 = 3; omega
  have hq : pt2Of i / 4 = 4 * ((i 0).val / 1024) + (i 1).val / 1408 := by
    show (4 * (4 * ((i 0).val / 1024 - 0) + 1 * ((i 1).val / 1408 - 0)) + 3) / 4 = _; omega
  unfold G2
  rw [dif_pos hp, ← outsAt0_sweep m c (pt2Of i) hp]
  rw [out_eq m c ⟨pt2Of i, hp⟩ hm, scratch_eq m c ⟨pt2Of i, hp⟩]
  dsimp only
  rw [hm, zero_add, hq, ← sum_tiles 4 2048 rfl (fun k => rd (X0 m c) k (i 0).val * rd (X1 m c) k (i 1).val)]
  refine Finset.sum_congr rfl fun k _ => Finset.sum_congr rfl fun l _ => ?_
  show rd (X0 m c) (2048 * k + l.val) (1024 * ((4 * ((i 0).val / 1024) + (i 1).val / 1408) / 4) + (i 0).val % 1024)
    * rd (X1 m c) (2048 * k + l.val) (1408 * ((4 * ((i 0).val / 1024) + (i 1).val / 1408) % 4) + (i 1).val % 1408) = _
  rw [show 1024 * ((4 * ((i 0).val / 1024) + (i 1).val / 1408) / 4) + (i 0).val % 1024 = (i 0).val from by omega,
    show 1408 * ((4 * ((i 0).val / 1024) + (i 1).val / 1408) % 4) + (i 1).val % 1408 = (i 1).val from by omega]

end Cert.DwUpIdeal.Prod

namespace Cert.DwUpRefIdeal.Prod

open Cert.DwUpRefIdeal Cert.DwUpRefIdeal.Read Cert.Common
open Idealize.ShloMosaic Idealize.ShloMosaic.TcCoe

/-- WHAT THE REFERENCE COMPUTES: the transpose of the other operand times this one, the same sum at each index. -/
theorem ref_eq (x0 : S8192x2048.Idx → EReal) (x1 : S8192x5632.Idx → EReal) (i : S2048x5632.Idx) :
    (val_main_v6 (F := Ideal) x0 x1 : S2048x5632.Idx → EReal) i = ∑ k : Fin 8192, rd x0 k.val (i 0).val * rd x1 k.val (i 1).val := by
  rw [val_main_v6_apply, Ideal.truncf_def, val_main_v5_apply, val_main_v4_apply]
  refine Finset.sum_congr rfl fun k _ => ?_
  rw [val_main_v3_apply, val_main_v1_apply, Ideal.extf_def, Ideal.extf_def, mul_comm]
  rw [eq_rd x0 _ k.val (i 0).val rfl rfl, eq_rd x1 _ k.val (i 1).val rfl rfl]

end Cert.DwUpRefIdeal.Prod

namespace Cert.DwUpIdeal.Prod

open Idealize.ShloMosaic Idealize.ShloMosaic.TcCoe

/-- The kernel's result is the reference's. -/
theorem result_eq (m : (ℓ : Loc nD τ sig) → Buf (Elt Ideal) ℓ) (c : Dev nD) :
    (Cert.DwUpIdeal.Value.G2 m c : S2048x5632.Idx → EReal) = Cert.DwUpRefIdeal.Read.val_main_v6 (F := Ideal) (X0 m c) (X1 m c) :=
  funext fun i => (G2_eq m c i).trans (Cert.DwUpRefIdeal.Prod.ref_eq (X0 m c) (X1 m c) i).symm

end Cert.DwUpIdeal.Prod

end
-- ==== Proof.DwIn.lean ====
/- The gradient of one fifth of the input projection's weights: what one block of the kernel computes, what its result array holds, and that the
   reference holds the same. -/
module

public import proofs.«01_k».proof.Proof.Common
public import proofs.«01_k».proof.Proof.Gen.DwInIdeal.Value
public import proofs.«01_k».proof.Proof.Gen.DwInRefIdeal.Read

@[expose] public section

set_option maxRecDepth 16384

noncomputable section

namespace Cert.DwInIdeal.Prod

open Cert.DwInIdeal Cert.DwInIdeal.Gen Cert.DwInIdeal.Value Cert.Common
open Idealize.ShloMosaic Idealize.ShloMosaic.TcCoe Idealize.SL.Sem

section Cases
variable {F : FTy → Type} [FloatOps F]
  (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole)

/-- The first point of a run leaves its block product in the accumulator. -/
theorem sout_A (hc0 : cond0_0 i) (hc1 : ¬cond0_1 i) (hc2 : ¬cond0_2 i)
    (x0 : Vec F S2048x1024 .bf16) (x1 : Vec F S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero off2]
  unfold k0_pay2
  simp only [View.readAt_eq_ld, h3.read_unread, h4.read_unread, View.ld_unit_zero (S := S2048x1024) off2, shapeCast_self]

/-- A later point adds its block product to the accumulator. -/
theorem sout_B (hc0 : ¬cond0_0 i) (hc1 : cond0_1 i) (hc2 : ¬cond0_2 i)
    (x0 : Vec F S2048x1024 .bf16) (x1 : Vec F S2048x1024 .bf16) (xs : Vec F S1024x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S1024x1024) off2, shapeCast_self]

/-- So does the last point of the run … -/
theorem sout_C (hc0 : ¬cond0_0 i) (hc1 : cond0_1 i) (hc2 : cond0_2 i)
    (x0 : Vec F S2048x1024 .bf16) (x1 : Vec F S2048x1024 .bf16) (xs : Vec F S1024x1024 .f32) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S1024x1024) off2, shapeCast_self]

/-- … which writes the accumulator, rounded, to the result's block. -/
theorem out_C (hc0 : ¬cond0_0 i) (hc1 : cond0_1 i) (hc2 : cond0_2 i)
    (x0 : Vec F S2048x1024 .bf16) (x1 : Vec F S2048x1024 .bf16) (xs : Vec F S1024x1024 .f32) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero off2, View.readCov_unit_zero (S := S1024x1024) _ off2]
  unfold k0_pay4 k0_pay3
  simp only [View.readAt_eq_ld, h3.read_unread, h4.read_unread, h6.read_unread, View.ld_unit_zero (S := S2048x1024) off2, View.ld_unit_zero (S := S1024x1024) off2, shapeCast_self]

end Cases

variable (m : (ℓ : Loc nD τ sig) → Buf (Elt Ideal) ℓ)

/-- The two operands as the launch finds them. -/
abbrev X0 (c : Dev nD) : S8192x2048.Idx → EReal := m ((c : Thread nD τ).loc main_arg0)
abbrev X1 (c : Dev nD) : S8192x1024.Idx → EReal := m ((c : Thread nD τ).loc main_arg1)

/-- Which blocks of the operands a grid point reads. -/
theorem idx_facts : ∀ t : Fin cfg0.N, win0_0.index t (0 : Fin 2) = t.val % 4 ∧ win0_0.index t (1 : Fin 2) = t.val / 4 / 1
    ∧ win0_1.index t (0 : Fin 2) = t.val % 4 ∧ win0_1.index t (1 : Fin 2) = t.val / 4 % 1 :=
  (by decide +kernel : ∀ t : Fin grid0.N, _)

/-- A grid point's block of the first operand. -/
theorem blk0 (c : Dev nD) (t : Fin cfg0.N) (k : Fin 2048) (r : Fin 1024) :
    (iblk m c 0 t : S2048x1024.Idx → EReal) (ix2 k r) = rd (X0 m c) (2048 * (t.val % 4) + k.val) (1024 * (t.val / 4 / 1) + r.val) := by
  obtain ⟨e0, e1, -, -⟩ := idx_facts t
  refine (eq_rd (X0 m c) (((cfg0.win 0).blk t).view.emb (ix2 k r)) _ _ ?_ ?_)
  · show win0_0.index t (0 : Fin 2) * 2048 + 1 * k.val = _
    rw [e0]; omega
  · show win0_0.index t (1 : Fin 2) * 1024 + 1 * r.val = _
    rw [e1]; omega

/-- A grid point's block of the second operand. -/
theorem blk1 (c : Dev nD) (t : Fin cfg0.N) (k : Fin 2048) (s : Fin 1024) :
    (iblk m c 1 t : S2048x1024.Idx → EReal) (ix2 k s) = rd (X1 m c) (2048 * (t.val % 4) + k.val) (1024 * (t.val / 4 % 1) + s.val) := by
  obtain ⟨-, -, e0, e1⟩ := idx_facts t
  refine (eq_rd (X1 m c) (((cfg0.win 1).blk t).view.emb (ix2 k s)) _ _ ?_ ?_)
  · show win0_1.index t (0 : Fin 2) * 2048 + 1 * k.val = _
    rw [e0]; omega
  · show win0_1.index t (1 : Fin 2) * 1024 + 1 * s.val = _
    rw [e1]; omega

/-- What one block product is: the sum over the block's rows. -/
theorem pay1_apply (x0 : Vec Ideal S2048x1024 .bf16) (x1 : Vec Ideal S2048x1024 .bf16) (r : Fin 1024) (s : Fin 1024) :
    (k0_pay1 x0 x1 : S1024x1024.Idx → EReal) (ix2 r s) = ∑ k : Fin 2048, (x0 (ix2 k r) : EReal) * x1 (ix2 k s) := by
  unfold k0_pay1
  pointwise

/-- The term point `k` of run `q` adds to the accumulator at `i`. -/
def term (c : Dev nD) (q k : ℕ) (i : S1024x1024.Idx) : EReal :=
  ∑ l : Fin 2048, rd (X0 m c) (2048 * k + l.val) (1024 * (q / 1) + (i 0).val) * rd (X1 m c) (2048 * k + l.val) (1024 * (q % 1) + (i 1).val)

theorem pay1_blk (c : Dev nD) (t : Fin cfg0.N) (i : S1024x1024.Idx) :
    (k0_pay1 (F := Ideal) (iblk m c 0 t) (iblk m c 1 t) : S1024x1024.Idx → EReal) i = term m c (t.val / 4) (t.val % 4) i := by
  obtain ⟨r, s, rfl⟩ : ∃ r s, i = ix2 r s := ⟨i 0, i 1, eq_ix2 i⟩
  rw [pay1_apply]
  unfold term
  refine Finset.sum_congr rfl fun l _ => ?_
  rw [blk0, blk1]
  rfl

/-- The accumulator after point `t` of its run. -/
theorem scratch_eq (c : Dev nD) (t : Fin cfg0.N) (i : S1024x1024.Idx) :
    ((outsAt0 m c t.val t.isLt).2 : S1024x1024.Idx → EReal) i = 0 + ∑ k ∈ Finset.range (t.val % 4 + 1), term m c (t.val / 4) k i := by
  have hN : cfg0.N = 8 := N_0
  refine Pipeline.eq_sum_of_reset_step_apply_divmod (fun n h => ((outsAt0 m c n h).2 : S1024x1024.Idx → EReal)) 4 (fun _ => 0)
    (term m c) ?_ ?_ t i
  · intro t h i
    rw [outsAt0_A m c t h (by omega) (by omega)]
    dsimp only
    rw [sout_A, pay1_blk, zero_add]
  · intro t h i
    by_cases h3 : t.val % 4 = 3
    · rw [outsAt0_C m c t h (by omega) h3]
      dsimp only
      rw [sout_C, ← pay1_blk]
      rfl
    · rw [outsAt0_B m c t h (by omega) h3]
      dsimp only
      rw [sout_B, ← pay1_blk]
      rfl

/-- At the last point of a run the result's block holds the accumulator (a rounding is the identity on the reals). -/
theorem out_eq (c : Dev nD) (t : Fin cfg0.N) (h : t.val % 4 = 3) (i : S1024x1024.Idx) :
    ((outsAt0 m c t.val t.isLt).1 : S1024x1024.Idx → EReal) i = ((outsAt0 m c t.val t.isLt).2 : S1024x1024.Idx → EReal) i := by
  rw [outsAt0_C m c t (by omega) (by omega) h]
  dsimp only
  rw [out_C, sout_C]
  rfl

/-- THE RESULT ARRAY: at each index the whole sum over the rows of the two operands. -/
theorem G2_eq (c : Dev nD) (i : S2048x1024.Idx) :
    @Eq EReal (G2 m c i) (∑ k : Fin 8192, rd (X0 m c) k.val (i 0).val * rd (X1 m c) k.val (i 1).val) := by
  have hi0 : (i 0).val < 2048 := (i 0).isLt
  have hi1 : (i 1).val < 1024 := (i 1).isLt
  have hN : cfg0.N = 8 := N_0
  have hp : pt2Of i < cfg0.N := by rw [hN]; show 4 * (1 * ((i 0).val / 1024 - 0) + 1 * ((i 1).val / 1024 - 0)) + 3 < 8; omega
  have hm : pt2Of i % 4 = 3 := by show (4 * run2Of i + 3) % 4 = 3; omega
  have hq : pt2Of i / 4 = 1 * ((i 0).val / 1024) + (i 1).val / 1024 := by
    show (4 * (1 * ((i 0).val / 1024 - 0) + 1 * ((i 1).val / 1024 - 0)) + 3) / 4 = _; omega
  unfold G2
  rw [dif_pos hp, ← outsAt0_sweep m c (pt2Of i) hp]
  rw [out_eq m c ⟨pt2Of i, hp⟩ hm, scratch_eq m c ⟨pt2Of i, hp⟩]
  dsimp only
  rw [hm, zero_add, hq, ← sum_tiles 4 2048 rfl (fun k => rd (X0 m c) k (i 0).val * rd (X1 m c) k (i 1).val)]
  refine Finset.sum_congr rfl fun k _ => Finset.sum_congr rfl fun l _ => ?_
  show rd (X0 m c) (2048 * k + l.val) (1024 * ((1 * ((i 0).val / 1024) + (i 1).val / 1024) / 1) + (i 0).val % 1024)
    * rd (X1 m c) (2048 * k + l.val) (1024 * ((1 * ((i 0).val / 1024) + (i 1).val / 1024) % 1) + (i 1).val % 1024) = _
  rw [show 1024 * ((1 * ((i 0).val / 1024) + (i 1).val / 1024) / 1) + (i 0).val % 1024 = (i 0).val from by omega,
    show 1024 * ((1 * ((i 0).val / 1024) + (i 1).val / 1024) % 1) + (i 1).val % 1024 = (i 1).val from by omega]

end Cert.DwInIdeal.Prod

namespace Cert.DwInRefIdeal.Prod

open Cert.DwInRefIdeal Cert.DwInRefIdeal.Read Cert.Common
open Idealize.ShloMosaic Idealize.ShloMosaic.TcCoe

/-- WHAT THE REFERENCE COMPUTES: the transpose of the other operand times this one, the same sum at each index. -/
theorem ref_eq (x0 : S8192x2048.Idx → EReal) (x1 : S8192x1024.Idx → EReal) (i : S2048x1024.Idx) :
    (val_main_v6 (F := Ideal) x0 x1 : S2048x1024.Idx → EReal) i = ∑ k : Fin 8192, rd x0 k.val (i 0).val * rd x1 k.val (i 1).val := by
  rw [val_main_v6_apply, Ideal.truncf_def, val_main_v5_apply, val_main_v4_apply]
  refine Finset.sum_congr rfl fun k _ => ?_
  rw [val_main_v3_apply, val_main_v1_apply, Ideal.extf_def, Ideal.extf_def, mul_comm]
  rw [eq_rd x0 _ k.val (i 0).val rfl rfl, eq_rd x1 _ k.val (i 1).val rfl rfl]

end Cert.DwInRefIdeal.Prod

namespace Cert.DwInIdeal.Prod

open Idealize.ShloMosaic Idealize.ShloMosaic.TcCoe

/-- The kernel's result is the reference's. -/
theorem result_eq (m : (ℓ : Loc nD τ sig) → Buf (Elt Ideal) ℓ) (c : Dev nD) :
    (Cert.DwInIdeal.Value.G2 m c : S2048x1024.Idx → EReal) = Cert.DwInRefIdeal.Read.val_main_v6 (F := Ideal) (X0 m c) (X1 m c) :=
  funext fun i => (G2_eq m c i).trans (Cert.DwInRefIdeal.Prod.ref_eq (X0 m c) (X1 m c) i).symm

end Cert.DwInIdeal.Prod

end
-- ==== Proof.DwOut.lean ====
/- The gradient of the output projection's weights: what one block of the kernel computes, what its result array holds, and that the
   reference holds the same. -/
module

public import proofs.«01_k».proof.Proof.Common
public import proofs.«01_k».proof.Proof.Gen.DwOutIdeal.Value
public import proofs.«01_k».proof.Proof.Gen.DwOutRefIdeal.Read

@[expose] public section

set_option maxRecDepth 16384

noncomputable section

namespace Cert.DwOutIdeal.Prod

open Cert.DwOutIdeal Cert.DwOutIdeal.Gen Cert.DwOutIdeal.Value Cert.Common
open Idealize.ShloMosaic Idealize.ShloMosaic.TcCoe Idealize.SL.Sem

section Cases
variable {F : FTy → Type} [FloatOps F]
  (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole)

/-- The first point of a run leaves its block product in the accumulator. -/
theorem sout_A (hc0 : cond0_0 i) (hc1 : ¬cond0_1 i) (hc2 : ¬cond0_2 i)
    (x0 : Vec F S2048x1024 .bf16) (x1 : Vec F S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero off2]
  unfold k0_pay2
  simp only [View.readAt_eq_ld, h3.read_unread, h4.read_unread, View.ld_unit_zero (S := S2048x1024) off2, shapeCast_self]

/-- A later point adds its block product to the accumulator. -/
theorem sout_B (hc0 : ¬cond0_0 i) (hc1 : cond0_1 i) (hc2 : ¬cond0_2 i)
    (x0 : Vec F S2048x1024 .bf16) (x1 : Vec F S2048x1024 .bf16) (xs : Vec F S1024x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S1024x1024) off2, shapeCast_self]

/-- So does the last point of the run … -/
theorem sout_C (hc0 : ¬cond0_0 i) (hc1 : cond0_1 i) (hc2 : cond0_2 i)
    (x0 : Vec F S2048x1024 .bf16) (x1 : Vec F S2048x1024 .bf16) (xs : Vec F S1024x1024 .f32) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S1024x1024) off2, shapeCast_self]

/-- … which writes the accumulator, rounded, to the result's block. -/
theorem out_C (hc0 : ¬cond0_0 i) (hc1 : cond0_1 i) (hc2 : cond0_2 i)
    (x0 : Vec F S2048x1024 .bf16) (x1 : Vec F S2048x1024 .bf16) (xs : Vec F S1024x1024 .f32) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero off2, View.readCov_unit_zero (S := S1024x1024) _ off2]
  unfold k0_pay4 k0_pay3
  simp only [View.readAt_eq_ld, h3.read_unread, h4.read_unread, h6.read_unread, View.ld_unit_zero (S := S2048x1024) off2, View.ld_unit_zero (S := S1024x1024) off2, shapeCast_self]

end Cases

variable (m : (ℓ : Loc nD τ sig) → Buf (Elt Ideal) ℓ)

/-- The two operands as the launch finds them. -/
abbrev X0 (c : Dev nD) : S8192x2048.Idx → EReal := m ((c : Thread nD τ).loc main_arg0)
abbrev X1 (c : Dev nD) : S8192x2048.Idx → EReal := m ((c : Thread nD τ).loc main_arg1)

/-- Which blocks of the operands a grid point reads. -/
theorem idx_facts : ∀ t : Fin cfg0.N, win0_0.index t (0 : Fin 2) = t.val % 4 ∧ win0_0.index t (1 : Fin 2) = t.val / 4 / 2
    ∧ win0_1.index t (0 : Fin 2) = t.val % 4 ∧ win0_1.index t (1 : Fin 2) = t.val / 4 % 2 :=
  (by decide +kernel : ∀ t : Fin grid0.N, _)

/-- A grid point's block of the first operand. -/
theorem blk0 (c : Dev nD) (t : Fin cfg0.N) (k : Fin 2048) (r : Fin 1024) :
    (iblk m c 0 t : S2048x1024.Idx → EReal) (ix2 k r) = rd (X0 m c) (2048 * (t.val % 4) + k.val) (1024 * (t.val / 4 / 2) + r.val) := by
  obtain ⟨e0, e1, -, -⟩ := idx_facts t
  refine (eq_rd (X0 m c) (((cfg0.win 0).blk t).view.emb (ix2 k r)) _ _ ?_ ?_)
  · show win0_0.index t (0 : Fin 2) * 2048 + 1 * k.val = _
    rw [e0]; omega
  · show win0_0.index t (1 : Fin 2) * 1024 + 1 * r.val = _
    rw [e1]; omega

/-- A grid point's block of the second operand. -/
theorem blk1 (c : Dev nD) (t : Fin cfg0.N) (k : Fin 2048) (s : Fin 1024) :
    (iblk m c 1 t : S2048x1024.Idx → EReal) (ix2 k s) = rd (X1 m c) (2048 * (t.val % 4) + k.val) (1024 * (t.val / 4 % 2) + s.val) := by
  obtain ⟨-, -, e0, e1⟩ := idx_facts t
  refine (eq_rd (X1 m c) (((cfg0.win 1).blk t).view.emb (ix2 k s)) _ _ ?_ ?_)
  · show win0_1.index t (0 : Fin 2) * 2048 + 1 * k.val = _
    rw [e0]; omega
  · show win0_1.index t (1 : Fin 2) * 1024 + 1 * s.val = _
    rw [e1]; omega

/-- What one block product is: the sum over the block's rows. -/
theorem pay1_apply (x0 : Vec Ideal S2048x1024 .bf16) (x1 : Vec Ideal S2048x1024 .bf16) (r : Fin 1024) (s : Fin 1024) :
    (k0_pay1 x0 x1 : S1024x1024.Idx → EReal) (ix2 r s) = ∑ k : Fin 2048, (x0 (ix2 k r) : EReal) * x1 (ix2 k s) := by
  unfold k0_pay1
  pointwise

/-- The term point `k` of run `q` adds to the accumulator at `i`. -/
def term (c : Dev nD) (q k : ℕ) (i : S1024x1024.Idx) : EReal :=
  ∑ l : Fin 2048, rd (X0 m c) (2048 * k + l.val) (1024 * (q / 2) + (i 0).val) * rd (X1 m c) (2048 * k + l.val) (1024 * (q % 2) + (i 1).val)

theorem pay1_blk (c : Dev nD) (t : Fin cfg0.N) (i : S1024x1024.Idx) :
    (k0_pay1 (F := Ideal) (iblk m c 0 t) (iblk m c 1 t) : S1024x1024.Idx → EReal) i = term m c (t.val / 4) (t.val % 4) i := by
  obtain ⟨r, s, rfl⟩ : ∃ r s, i = ix2 r s := ⟨i 0, i 1, eq_ix2 i⟩
  rw [pay1_apply]
  unfold term
  refine Finset.sum_congr rfl fun l _ => ?_
  rw [blk0, blk1]
  rfl

/-- The accumulator after point `t` of its run. -/
theorem scratch_eq (c : Dev nD) (t : Fin cfg0.N) (i : S1024x1024.Idx) :
    ((outsAt0 m c t.val t.isLt).2 : S1024x1024.Idx → EReal) i = 0 + ∑ k ∈ Finset.range (t.val % 4 + 1), term m c (t.val / 4) k i := by
  have hN : cfg0.N = 16 := N_0
  refine Pipeline.eq_sum_of_reset_step_apply_divmod (fun n h => ((outsAt0 m c n h).2 : S1024x1024.Idx → EReal)) 4 (fun _ => 0)
    (term m c) ?_ ?_ t i
  · intro t h i
    rw [outsAt0_A m c t h (by omega) (by omega)]
    dsimp only
    rw [sout_A, pay1_blk, zero_add]
  · intro t h i
    by_cases h3 : t.val % 4 = 3
    · rw [outsAt0_C m c t h (by omega) h3]
      dsimp only
      rw [sout_C, ← pay1_blk]
      rfl
    · rw [outsAt0_B m c t h (by omega) h3]
      dsimp only
      rw [sout_B, ← pay1_blk]
      rfl

/-- At the last point of a run the result's block holds the accumulator (a rounding is the identity on the reals). -/
theorem out_eq (c : Dev nD) (t : Fin cfg0.N) (h : t.val % 4 = 3) (i : S1024x1024.Idx) :
    ((outsAt0 m c t.val t.isLt).1 : S1024x1024.Idx → EReal) i = ((outsAt0 m c t.val t.isLt).2 : S1024x1024.Idx → EReal) i := by
  rw [outsAt0_C m c t (by omega) (by omega) h]
  dsimp only
  rw [out_C, sout_C]
  rfl

/-- THE RESULT ARRAY: at each index the whole sum over the rows of the two operands. -/
theorem G2_eq (c : Dev nD) (i : S2048x2048.Idx) :
    @Eq EReal (G2 m c i) (∑ k : Fin 8192, rd (X0 m c) k.val (i 0).val * rd (X1 m c) k.val (i 1).val) := by
  have hi0 : (i 0).val < 2048 := (i 0).isLt
  have hi1 : (i 1).val < 2048 := (i 1).isLt
  have hN : cfg0.N = 16 := N_0
  have hp : pt2Of i < cfg0.N := by rw [hN]; show 4 * (2 * ((i 0).val / 1024 - 0) + 1 * ((i 1).val / 1024 - 0)) + 3 < 16; omega
  have hm : pt2Of i % 4 = 3 := by show (4 * run2Of i + 3) % 4 = 3; omega
  have hq : pt2Of i / 4 = 2 * ((i 0).val / 1024) + (i 1).val / 1024 := by
    show (4 * (2 * ((i 0).val / 1024 - 0) + 1 * ((i 1).val / 1024 - 0)) + 3) / 4 = _; omega
  unfold G2
  rw [dif_pos hp, ← outsAt0_sweep m c (pt2Of i) hp]
  rw [out_eq m c ⟨pt2Of i, hp⟩ hm, scratch_eq m c ⟨pt2Of i, hp⟩]
  dsimp only
  rw [hm, zero_add, hq, ← sum_tiles 4 2048 rfl (fun k => rd (X0 m c) k (i 0).val * rd (X1 m c) k (i 1).val)]
  refine Finset.sum_congr rfl fun k _ => Finset.sum_congr rfl fun l _ => ?_
  show rd (X0 m c) (2048 * k + l.val) (1024 * ((2 * ((i 0).val / 1024) + (i 1).val / 1024) / 2) + (i 0).val % 1024)
    * rd (X1 m c) (2048 * k + l.val) (1024 * ((2 * ((i 0).val / 1024) + (i 1).val / 1024) % 2) + (i 1).val % 1024) = _
  rw [show 1024 * ((2 * ((i 0).val / 1024) + (i 1).val / 1024) / 2) + (i 0).val % 1024 = (i 0).val from by omega,
    show 1024 * ((2 * ((i 0).val / 1024) + (i 1).val / 1024) % 2) + (i 1).val % 1024 = (i 1).val from by omega]

end Cert.DwOutIdeal.Prod

namespace Cert.DwOutRefIdeal.Prod

open Cert.DwOutRefIdeal Cert.DwOutRefIdeal.Read Cert.Common
open Idealize.ShloMosaic Idealize.ShloMosaic.TcCoe

/-- WHAT THE REFERENCE COMPUTES: the transpose of the other operand times this one, the same sum at each index. -/
theorem ref_eq (x0 : S8192x2048.Idx → EReal) (x1 : S8192x2048.Idx → EReal) (i : S2048x2048.Idx) :
    (val_main_v6 (F := Ideal) x0 x1 : S2048x2048.Idx → EReal) i = ∑ k : Fin 8192, rd x0 k.val (i 0).val * rd x1 k.val (i 1).val := by
  rw [val_main_v6_apply, Ideal.truncf_def, val_main_v5_apply, val_main_v4_apply]
  refine Finset.sum_congr rfl fun k _ => ?_
  rw [val_main_v3_apply, val_main_v1_apply, Ideal.extf_def, Ideal.extf_def, mul_comm]
  rw [eq_rd x0 _ k.val (i 0).val rfl rfl, eq_rd x1 _ k.val (i 1).val rfl rfl]

end Cert.DwOutRefIdeal.Prod

namespace Cert.DwOutIdeal.Prod

open Idealize.ShloMosaic Idealize.ShloMosaic.TcCoe

/-- The kernel's result is the reference's. -/
theorem result_eq (m : (ℓ : Loc nD τ sig) → Buf (Elt Ideal) ℓ) (c : Dev nD) :
    (Cert.DwOutIdeal.Value.G2 m c : S2048x2048.Idx → EReal) = Cert.DwOutRefIdeal.Read.val_main_v6 (F := Ideal) (X0 m c) (X1 m c) :=
  funext fun i => (G2_eq m c i).trans (Cert.DwOutRefIdeal.Prod.ref_eq (X0 m c) (X1 m c) i).symm

end Cert.DwOutIdeal.Prod

end
-- ==== Proof.DwPgate.lean ====
/- The gradient of the embedding gate's weights: what one block of the kernel computes, what its result array holds, and that the
   reference holds the same. -/
module

public import proofs.«01_k».proof.Proof.Common
public import proofs.«01_k».proof.Proof.Gen.DwPgateIdeal.Value
public import proofs.«01_k».proof.Proof.Gen.DwPgateRefIdeal.Read

@[expose] public section

set_option maxRecDepth 16384

noncomputable section

namespace Cert.DwPgateIdeal.Prod

open Cert.DwPgateIdeal Cert.DwPgateIdeal.Gen Cert.DwPgateIdeal.Value Cert.Common
open Idealize.ShloMosaic Idealize.ShloMosaic.TcCoe Idealize.SL.Sem

section Cases
variable {F : FTy → Type} [FloatOps F]
  (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole)

/-- The first point of a run leaves its block product in the accumulator. -/
theorem sout_A (hc0 : cond0_0 i) (hc1 : ¬cond0_1 i) (hc2 : ¬cond0_2 i)
    (x0 : Vec F S2048x1024 .bf16) (x1 : Vec F S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero off2]
  unfold k0_pay2
  simp only [View.readAt_eq_ld, h3.read_unread, h4.read_unread, View.ld_unit_zero (S := S2048x1024) off2, shapeCast_self]

/-- A later point adds its block product to the accumulator. -/
theorem sout_B (hc0 : ¬cond0_0 i) (hc1 : cond0_1 i) (hc2 : ¬cond0_2 i)
    (x0 : Vec F S2048x1024 .bf16) (x1 : Vec F S2048x1024 .bf16) (xs : Vec F S1024x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S1024x1024) off2, shapeCast_self]

/-- So does the last point of the run … -/
theorem sout_C (hc0 : ¬cond0_0 i) (hc1 : cond0_1 i) (hc2 : cond0_2 i)
    (x0 : Vec F S2048x1024 .bf16) (x1 : Vec F S2048x1024 .bf16) (xs : Vec F S1024x1024 .f32) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero off2]
  unfold k0_pay3
  simp only [View.readAt_eq_ld, h3.read_unread, h4.read_unread, h6.read_unread, View.ld_unit_zero (S := S2048x1024) off2, View.ld_unit_zero (S := S1024x1024) off2, shapeCast_self]

/-- … which writes the accumulator, rounded, to the result's block. -/
theorem out_C (hc0 : ¬cond0_0 i) (hc1 : cond0_1 i) (hc2 : cond0_2 i)
    (x0 : Vec F S2048x1024 .bf16) (x1 : Vec F S2048x1024 .bf16) (xs : Vec F S1024x1024 .f32) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero off2, View.readCov_unit_zero (S := S1024x1024) _ off2]
  unfold k0_pay4 k0_pay3
  simp only [View.readAt_eq_ld, h3.read_unread, h4.read_unread, h6.read_unread, View.ld_unit_zero (S := S2048x1024) off2, View.ld_unit_zero (S := S1024x1024) off2, shapeCast_self]

end Cases

variable (m : (ℓ : Loc nD τ sig) → Buf (Elt Ideal) ℓ)

/-- The two operands as the launch finds them. -/
abbrev X0 (c : Dev nD) : S8192x2048.Idx → EReal := m ((c : Thread nD τ).loc main_arg0)
abbrev X1 (c : Dev nD) : S8192x2048.Idx → EReal := m ((c : Thread nD τ).loc main_arg1)

/-- Which blocks of the operands a grid point reads. -/
theorem idx_facts : ∀ t : Fin cfg0.N, win0_0.index t (0 : Fin 2) = t.val % 4 ∧ win0_0.index t (1 : Fin 2) = t.val / 4 / 2
    ∧ win0_1.index t (0 : Fin 2) = t.val % 4 ∧ win0_1.index t (1 : Fin 2) = t.val / 4 % 2 :=
  (by decide +kernel : ∀ t : Fin grid0.N, _)

/-- A grid point's block of the first operand. -/
theorem blk0 (c : Dev nD) (t : Fin cfg0.N) (k : Fin 2048) (r : Fin 1024) :
    (iblk m c 0 t : S2048x1024.Idx → EReal) (ix2 k r) = rd (X0 m c) (2048 * (t.val % 4) + k.val) (1024 * (t.val / 4 / 2) + r.val) := by
  obtain ⟨e0, e1, -, -⟩ := idx_facts t
  refine (eq_rd (X0 m c) (((cfg0.win 0).blk t).view.emb (ix2 k r)) _ _ ?_ ?_)
  · show win0_0.index t (0 : Fin 2) * 2048 + 1 * k.val = _
    rw [e0]; omega
  · show win0_0.index t (1 : Fin 2) * 1024 + 1 * r.val = _
    rw [e1]; omega

/-- A grid point's block of the second operand. -/
theorem blk1 (c : Dev nD) (t : Fin cfg0.N) (k : Fin 2048) (s : Fin 1024) :
    (iblk m c 1 t : S2048x1024.Idx → EReal) (ix2 k s) = rd (X1 m c) (2048 * (t.val % 4) + k.val) (1024 * (t.val / 4 % 2) + s.val) := by
  obtain ⟨-, -, e0, e1⟩ := idx_facts t
  refine (eq_rd (X1 m c) (((cfg0.win 1).blk t).view.emb (ix2 k s)) _ _ ?_ ?_)
  · show win0_1.index t (0 : Fin 2) * 2048 + 1 * k.val = _
    rw [e0]; omega
  · show win0_1.index t (1 : Fin 2) * 1024 + 1 * s.val = _
    rw [e1]; omega

/-- What one block product is: the sum over the block's rows. -/
theorem pay1_apply (x0 : Vec Ideal S2048x1024 .bf16) (x1 : Vec Ideal S2048x1024 .bf16) (r : Fin 1024) (s : Fin 1024) :
    (k0_pay1 x0 x1 : S1024x1024.Idx → EReal) (ix2 r s) = ∑ k : Fin 2048, (x0 (ix2 k r) : EReal) * x1 (ix2 k s) := by
  unfold k0_pay1
  pointwise

/-- The term point `k` of run `q` adds to the accumulator at `i`. -/
def term (c : Dev nD) (q k : ℕ) (i : S1024x1024.Idx) : EReal :=
  ∑ l : Fin 2048, rd (X0 m c) (2048 * k + l.val) (1024 * (q / 2) + (i 0).val) * rd (X1 m c) (2048 * k + l.val) (1024 * (q % 2) + (i 1).val)

theorem pay1_blk (c : Dev nD) (t : Fin cfg0.N) (i : S1024x1024.Idx) :
    (k0_pay1 (F := Ideal) (iblk m c 0 t) (iblk m c 1 t) : S1024x1024.Idx → EReal) i = term m c (t.val / 4) (t.val % 4) i := by
  obtain ⟨r, s, rfl⟩ : ∃ r s, i = ix2 r s := ⟨i 0, i 1, eq_ix2 i⟩
  rw [pay1_apply]
  unfold term
  refine Finset.sum_congr rfl fun l _ => ?_
  rw [blk0, blk1]
  rfl

/-- The accumulator after point `t` of its run. -/
theorem scratch_eq (c : Dev nD) (t : Fin cfg0.N) (i : S1024x1024.Idx) :
    ((outsAt0 m c t.val t.isLt).2 : S1024x1024.Idx → EReal) i = 0 + ∑ k ∈ Finset.range (t.val % 4 + 1), term m c (t.val / 4) k i := by
  have hN : cfg0.N = 16 := N_0
  refine Pipeline.eq_sum_of_reset_step_apply_divmod (fun n h => ((outsAt0 m c n h).2 : S1024x1024.Idx → EReal)) 4 (fun _ => 0)
    (term m c) ?_ ?_ t i
  · intro t h i
    rw [outsAt0_A m c t h (by omega) (by omega)]
    dsimp only
    rw [sout_A, pay1_blk, zero_add]
  · intro t h i
    by_cases h3 : t.val % 4 = 3
    · rw [outsAt0_C m c t h (by omega) h3]
      dsimp only
      rw [sout_C, ← pay1_blk]
      rfl
    · rw [outsAt0_B m c t h (by omega) h3]
      dsimp only
      rw [sout_B, ← pay1_blk]
      rfl

/-- At the last point of a run the result's block holds the accumulator (a rounding is the identity on the reals). -/
theorem out_eq (c : Dev nD) (t : Fin cfg0.N) (h : t.val % 4 = 3) (i : S1024x1024.Idx) :
    ((outsAt0 m c t.val t.isLt).1 : S1024x1024.Idx → EReal) i = ((outsAt0 m c t.val t.isLt).2 : S1024x1024.Idx → EReal) i := by
  rw [outsAt0_C m c t (by omega) (by omega) h]
  dsimp only
  rw [out_C, sout_C]
  rfl

/-- THE RESULT ARRAY: at each index the whole sum over the rows of the two operands. -/
theorem G2_eq (c : Dev nD) (i : S2048x2048.Idx) :
    @Eq EReal (G2 m c i) (∑ k : Fin 8192, rd (X0 m c) k.val (i 0).val * rd (X1 m c) k.val (i 1).val) := by
  have hi0 : (i 0).val < 2048 := (i 0).isLt
  have hi1 : (i 1).val < 2048 := (i 1).isLt
  have hN : cfg0.N = 16 := N_0
  have hp : pt2Of i < cfg0.N := by rw [hN]; show 4 * (2 * ((i 0).val / 1024 - 0) + 1 * ((i 1).val / 1024 - 0)) + 3 < 16; omega
  have hm : pt2Of i % 4 = 3 := by show (4 * run2Of i + 3) % 4 = 3; omega
  have hq : pt2Of i / 4 = 2 * ((i 0).val / 1024) + (i 1).val / 1024 := by
    show (4 * (2 * ((i 0).val / 1024 - 0) + 1 * ((i 1).val / 1024 - 0)) + 3) / 4 = _; omega
  unfold G2
  rw [dif_pos hp, ← outsAt0_sweep m c (pt2Of i) hp]
  rw [out_eq m c ⟨pt2Of i, hp⟩ hm, scratch_eq m c ⟨pt2Of i, hp⟩]
  dsimp only
  rw [hm, zero_add, hq, ← sum_tiles 4 2048 rfl (fun k => rd (X0 m c) k (i 0).val * rd (X1 m c) k (i 1).val)]
  refine Finset.sum_congr rfl fun k _ => Finset.sum_congr rfl fun l _ => ?_
  show rd (X0 m c) (2048 * k + l.val) (1024 * ((2 * ((i 0).val / 1024) + (i 1).val / 1024) / 2) + (i 0).val % 1024)
    * rd (X1 m c) (2048 * k + l.val) (1024 * ((2 * ((i 0).val / 1024) + (i 1).val / 1024) % 2) + (i 1).val % 1024) = _
  rw [show 1024 * ((2 * ((i 0).val / 1024) + (i 1).val / 1024) / 2) + (i 0).val % 1024 = (i 0).val from by omega,
    show 1024 * ((2 * ((i 0).val / 1024) + (i 1).val / 1024) % 2) + (i 1).val % 1024 = (i 1).val from by omega]

end Cert.DwPgateIdeal.Prod

namespace Cert.DwPgateRefIdeal.Prod

open Cert.DwPgateRefIdeal Cert.DwPgateRefIdeal.Read Cert.Common
open Idealize.ShloMosaic Idealize.ShloMosaic.TcCoe

/-- WHAT THE REFERENCE COMPUTES: the transpose of the other operand times this one, the same sum at each index. -/
theorem ref_eq (x0 : S8192x2048.Idx → EReal) (x1 : S8192x2048.Idx → EReal) (i : S2048x2048.Idx) :
    (val_main_v6 (F := Ideal) x0 x1 : S2048x2048.Idx → EReal) i = ∑ k : Fin 8192, rd x0 k.val (i 0).val * rd x1 k.val (i 1).val := by
  rw [val_main_v6_apply, Ideal.truncf_def, val_main_v5_apply, val_main_v4_apply]
  refine Finset.sum_congr rfl fun k _ => ?_
  rw [val_main_v3_apply, val_main_v1_apply, Ideal.extf_def, Ideal.extf_def, mul_comm]
  rw [eq_rd x0 _ k.val (i 0).val rfl rfl, eq_rd x1 _ k.val (i 1).val rfl rfl]

end Cert.DwPgateRefIdeal.Prod

namespace Cert.DwPgateIdeal.Prod

open Idealize.ShloMosaic Idealize.ShloMosaic.TcCoe

/-- The kernel's result is the reference's. -/
theorem result_eq (m : (ℓ : Loc nD τ sig) → Buf (Elt Ideal) ℓ) (c : Dev nD) :
    (Cert.DwPgateIdeal.Value.G2 m c : S2048x2048.Idx → EReal) = Cert.DwPgateRefIdeal.Read.val_main_v6 (F := Ideal) (X0 m c) (X1 m c) :=
  funext fun i => (G2_eq m c i).trans (Cert.DwPgateRefIdeal.Prod.ref_eq (X0 m c) (X1 m c) i).symm

end Cert.DwPgateIdeal.Prod

end
-- ==== Proof.DwPle.lean ====
/- The gradient of the embedding's weights: what one block of the kernel computes, what its result array holds, and that the
   reference holds the same. -/
module

public import proofs.«01_k».proof.Proof.Common
public import proofs.«01_k».proof.Proof.Gen.DwPleIdeal.Value
public import proofs.«01_k».proof.Proof.Gen.DwPleRefIdeal.Read

@[expose] public section

set_option maxRecDepth 16384

noncomputable section

namespace Cert.DwPleIdeal.Prod

open Cert.DwPleIdeal Cert.DwPleIdeal.Gen Cert.DwPleIdeal.Value Cert.Common
open Idealize.ShloMosaic Idealize.ShloMosaic.TcCoe Idealize.SL.Sem

section Cases
variable {F : FTy → Type} [FloatOps F]
  (c : Dev nD) (i : grid0.Coords) (a3 : Memref sig .tc .vmem S1024x256 .f32) (h3 : a3.IsWhole) (a4 : Memref sig .tc .vmem S1024x1024 .bf16) (h4 : a4.IsWhole) (a5 : Memref sig .tc .vmem S256x1024 .bf16) (h5 : a5.IsWhole) (a6 : Memref sig .tc .vmem S256x1024 .f32) (h6 : a6.IsWhole)

/-- The first point of a run leaves its block product in the accumulator. -/
theorem sout_A (hc0 : cond0_0 i) (hc1 : ¬cond0_1 i) (hc2 : ¬cond0_2 i)
    (x0 : Vec F S1024x256 .f32) (x1 : Vec F S1024x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero off2]
  unfold k0_pay2
  simp only [View.readAt_eq_ld, h3.read_unread, h4.read_unread, View.ld_unit_zero (S := S1024x256) off2, View.ld_unit_zero (S := S1024x1024) off2, shapeCast_self]

/-- A later point adds its block product to the accumulator. -/
theorem sout_B (hc0 : ¬cond0_0 i) (hc1 : cond0_1 i) (hc2 : ¬cond0_2 i)
    (x0 : Vec F S1024x256 .f32) (x1 : Vec F S1024x1024 .bf16) (xs : Vec F S256x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero off2]
  unfold k0_pay3
  simp only [View.readAt_eq_ld, h3.read_unread, h4.read_unread, h6.read_unread, View.ld_unit_zero (S := S1024x256) off2, View.ld_unit_zero (S := S1024x1024) off2, View.ld_unit_zero (S := S256x1024) off2, shapeCast_self]

/-- So does the last point of the run … -/
theorem sout_C (hc0 : ¬cond0_0 i) (hc1 : cond0_1 i) (hc2 : cond0_2 i)
    (x0 : Vec F S1024x256 .f32) (x1 : Vec F S1024x1024 .bf16) (xs : Vec F S256x1024 .f32) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero off2]
  unfold k0_pay3
  simp only [View.readAt_eq_ld, h3.read_unread, h4.read_unread, h6.read_unread, View.ld_unit_zero (S := S1024x256) off2, View.ld_unit_zero (S := S1024x1024) off2, View.ld_unit_zero (S := S256x1024) off2, shapeCast_self]

/-- … which writes the accumulator, rounded, to the result's block. -/
theorem out_C (hc0 : ¬cond0_0 i) (hc1 : cond0_1 i) (hc2 : cond0_2 i)
    (x0 : Vec F S1024x256 .f32) (x1 : Vec F S1024x1024 .bf16) (xs : Vec F S256x1024 .f32) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero off2, View.readCov_unit_zero (S := S256x1024) _ off2]
  unfold k0_pay4 k0_pay3
  simp only [View.readAt_eq_ld, h3.read_unread, h4.read_unread, h6.read_unread, View.ld_unit_zero (S := S1024x256) off2, View.ld_unit_zero (S := S1024x1024) off2, View.ld_unit_zero (S := S256x1024) off2, shapeCast_self]

end Cases

variable (m : (ℓ : Loc nD τ sig) → Buf (Elt Ideal) ℓ)

/-- The two operands as the launch finds them. -/
abbrev X0 (c : Dev nD) : S8192x256.Idx → EReal := m ((c : Thread nD τ).loc main_arg0)
abbrev X1 (c : Dev nD) : S8192x2048.Idx → EReal := m ((c : Thread nD τ).loc main_arg1)

/-- Which blocks of the operands a grid point reads. -/
theorem idx_facts : ∀ t : Fin cfg0.N, win0_0.index t (0 : Fin 2) = t.val % 8 ∧ win0_0.index t (1 : Fin 2) = t.val / 8 / 2
    ∧ win0_1.index t (0 : Fin 2) = t.val % 8 ∧ win0_1.index t (1 : Fin 2) = t.val / 8 % 2 :=
  (by decide +kernel : ∀ t : Fin grid0.N, _)

/-- A grid point's block of the first operand. -/
theorem blk0 (c : Dev nD) (t : Fin cfg0.N) (k : Fin 1024) (r : Fin 256) :
    (iblk m c 0 t : S1024x256.Idx → EReal) (ix2 k r) = rd (X0 m c) (1024 * (t.val % 8) + k.val) (256 * (t.val / 8 / 2) + r.val) := by
  obtain ⟨e0, e1, -, -⟩ := idx_facts t
  refine (eq_rd (X0 m c) (((cfg0.win 0).blk t).view.emb (ix2 k r)) _ _ ?_ ?_)
  · show win0_0.index t (0 : Fin 2) * 1024 + 1 * k.val = _
    rw [e0]; omega
  · show win0_0.index t (1 : Fin 2) * 256 + 1 * r.val = _
    rw [e1]; omega

/-- A grid point's block of the second operand. -/
theorem blk1 (c : Dev nD) (t : Fin cfg0.N) (k : Fin 1024) (s : Fin 1024) :
    (iblk m c 1 t : S1024x1024.Idx → EReal) (ix2 k s) = rd (X1 m c) (1024 * (t.val % 8) + k.val) (1024 * (t.val / 8 % 2) + s.val) := by
  obtain ⟨-, -, e0, e1⟩ := idx_facts t
  refine (eq_rd (X1 m c) (((cfg0.win 1).blk t).view.emb (ix2 k s)) _ _ ?_ ?_)
  · show win0_1.index t (0 : Fin 2) * 1024 + 1 * k.val = _
    rw [e0]; omega
  · show win0_1.index t (1 : Fin 2) * 1024 + 1 * s.val = _
    rw [e1]; omega

/-- What one block product is: the sum over the block's rows. -/
theorem pay1_apply (x0 : Vec Ideal S1024x256 .f32) (x1 : Vec Ideal S1024x1024 .bf16) (r : Fin 256) (s : Fin 1024) :
    (k0_pay1 x0 x1 : S256x1024.Idx → EReal) (ix2 r s) = ∑ k : Fin 1024, (x0 (ix2 k r) : EReal) * x1 (ix2 k s) := by
  unfold k0_pay1
  pointwise

/-- The term point `k` of run `q` adds to the accumulator at `i`. -/
def term (c : Dev nD) (q k : ℕ) (i : S256x1024.Idx) : EReal :=
  ∑ l : Fin 1024, rd (X0 m c) (1024 * k + l.val) (256 * (q / 2) + (i 0).val) * rd (X1 m c) (1024 * k + l.val) (1024 * (q % 2) + (i 1).val)

theorem pay1_blk (c : Dev nD) (t : Fin cfg0.N) (i : S256x1024.Idx) :
    (k0_pay1 (F := Ideal) (iblk m c 0 t) (iblk m c 1 t) : S256x1024.Idx → EReal) i = term m c (t.val / 8) (t.val % 8) i := by
  obtain ⟨r, s, rfl⟩ : ∃ r s, i = ix2 r s := ⟨i 0, i 1, eq_ix2 i⟩
  rw [pay1_apply]
  unfold term
  refine Finset.sum_congr rfl fun l _ => ?_
  rw [blk0, blk1]
  rfl

/-- The accumulator after point `t` of its run. -/
theorem scratch_eq (c : Dev nD) (t : Fin cfg0.N) (i : S256x1024.Idx) :
    ((outsAt0 m c t.val t.isLt).2 : S256x1024.Idx → EReal) i = 0 + ∑ k ∈ Finset.range (t.val % 8 + 1), term m c (t.val / 8) k i := by
  have hN : cfg0.N = 16 := N_0
  refine Pipeline.eq_sum_of_reset_step_apply_divmod (fun n h => ((outsAt0 m c n h).2 : S256x1024.Idx → EReal)) 8 (fun _ => 0)
    (term m c) ?_ ?_ t i
  · intro t h i
    rw [outsAt0_A m c t h (by omega) (by omega)]
    dsimp only
    rw [sout_A, pay1_blk, zero_add]
  · intro t h i
    by_cases h3 : t.val % 8 = 7
    · rw [outsAt0_C m c t h (by omega) h3]
      dsimp only
      rw [sout_C, ← pay1_blk]
      rfl
    · rw [outsAt0_B m c t h (by omega) h3]
      dsimp only
      rw [sout_B, ← pay1_blk]
      rfl

/-- At the last point of a run the result's block holds the accumulator (a rounding is the identity on the reals). -/
theorem out_eq (c : Dev nD) (t : Fin cfg0.N) (h : t.val % 8 = 7) (i : S256x1024.Idx) :
    ((outsAt0 m c t.val t.isLt).1 : S256x1024.Idx → EReal) i = ((outsAt0 m c t.val t.isLt).2 : S256x1024.Idx → EReal) i := by
  rw [outsAt0_C m c t (by omega) (by omega) h]
  dsimp only
  rw [out_C, sout_C]
  rfl

/-- THE RESULT ARRAY: at each index the whole sum over the rows of the two operands. -/
theorem G2_eq (c : Dev nD) (i : S256x2048.Idx) :
    @Eq EReal (G2 m c i) (∑ k : Fin 8192, rd (X0 m c) k.val (i 0).val * rd (X1 m c) k.val (i 1).val) := by
  have hi0 : (i 0).val < 256 := (i 0).isLt
  have hi1 : (i 1).val < 2048 := (i 1).isLt
  have hN : cfg0.N = 16 := N_0
  have hp : pt2Of i < cfg0.N := by rw [hN]; show 8 * (2 * ((i 0).val / 256 - 0) + 1 * ((i 1).val / 1024 - 0)) + 7 < 16; omega
  have hm : pt2Of i % 8 = 7 := by show (8 * run2Of i + 7) % 8 = 7; omega
  have hq : pt2Of i / 8 = 2 * ((i 0).val / 256) + (i 1).val / 1024 := by
    show (8 * (2 * ((i 0).val / 256 - 0) + 1 * ((i 1).val / 1024 - 0)) + 7) / 8 = _; omega
  unfold G2
  rw [dif_pos hp, ← outsAt0_sweep m c (pt2Of i) hp]
  rw [out_eq m c ⟨pt2Of i, hp⟩ hm, scratch_eq m c ⟨pt2Of i, hp⟩]
  dsimp only
  rw [hm, zero_add, hq, ← sum_tiles 8 1024 rfl (fun k => rd (X0 m c) k (i 0).val * rd (X1 m c) k (i 1).val)]
  refine Finset.sum_congr rfl fun k _ => Finset.sum_congr rfl fun l _ => ?_
  show rd (X0 m c) (1024 * k + l.val) (256 * ((2 * ((i 0).val / 256) + (i 1).val / 1024) / 2) + (i 0).val % 256)
    * rd (X1 m c) (1024 * k + l.val) (1024 * ((2 * ((i 0).val / 256) + (i 1).val / 1024) % 2) + (i 1).val % 1024) = _
  rw [show 256 * ((2 * ((i 0).val / 256) + (i 1).val / 1024) / 2) + (i 0).val % 256 = (i 0).val from by omega,
    show 1024 * ((2 * ((i 0).val / 256) + (i 1).val / 1024) % 2) + (i 1).val % 1024 = (i 1).val from by omega]

end Cert.DwPleIdeal.Prod

namespace Cert.DwPleRefIdeal.Prod

open Cert.DwPleRefIdeal Cert.DwPleRefIdeal.Read Cert.Common
open Idealize.ShloMosaic Idealize.ShloMosaic.TcCoe

/-- WHAT THE REFERENCE COMPUTES: the transpose of the other operand times this one, the same sum at each index. -/
theorem ref_eq (x0 : S8192x256.Idx → EReal) (x1 : S8192x2048.Idx → EReal) (i : S256x2048.Idx) :
    (val_main_v5 (F := Ideal) x0 x1 : S256x2048.Idx → EReal) i = ∑ k : Fin 8192, rd x0 k.val (i 0).val * rd x1 k.val (i 1).val := by
  rw [val_main_v5_apply, Ideal.truncf_def, val_main_v4_apply, val_main_v3_apply]
  refine Finset.sum_congr rfl fun k _ => ?_
  rw [val_main_v2_apply, Ideal.extf_def, mul_comm]
  rw [eq_rd x0 _ k.val (i 0).val rfl rfl, eq_rd x1 _ k.val (i 1).val rfl rfl]

end Cert.DwPleRefIdeal.Prod

namespace Cert.DwPleIdeal.Prod

open Idealize.ShloMosaic Idealize.ShloMosaic.TcCoe

/-- The kernel's result is the reference's. -/
theorem result_eq (m : (ℓ : Loc nD τ sig) → Buf (Elt Ideal) ℓ) (c : Dev nD) :
    (Cert.DwPleIdeal.Value.G2 m c : S256x2048.Idx → EReal) = Cert.DwPleRefIdeal.Read.val_main_v5 (F := Ideal) (X0 m c) (X1 m c) :=
  funext fun i => (G2_eq m c i).trans (Cert.DwPleRefIdeal.Prod.ref_eq (X0 m c) (X1 m c) i).symm

end Cert.DwPleIdeal.Prod

end
-- ==== Proof.Da.lean ====
/- The gradient of the normalised input through the input projection: what one block of the kernel computes, what its result array holds, and that the
   reference holds the same. -/
module

public import proofs.«01_k».proof.Proof.Common
public import proofs.«01_k».proof.Proof.Gen.DaIdeal.Value
public import proofs.«01_k».proof.Proof.Gen.DaRefIdeal.Read

@[expose] public section

set_option maxRecDepth 16384

noncomputable section

namespace Cert.DaIdeal.Prod

open Cert.DaIdeal Cert.DaIdeal.Gen Cert.DaIdeal.Value Cert.Common
open Idealize.ShloMosaic Idealize.ShloMosaic.TcCoe Idealize.SL.Sem

/-- What one block holds: the five products along the five parts of the projected axis, added. -/
theorem out_apply (x0 : Vec Ideal S512x1024 .bf16) (x1 : Vec Ideal S1024x1024 .bf16) (x2 : Vec Ideal S512x1024 .bf16) (x3 : Vec Ideal S1024x1024 .bf16) (x4 : Vec Ideal S512x1024 .bf16) (x5 : Vec Ideal S1024x1024 .bf16) (x6 : Vec Ideal S512x1024 .bf16) (x7 : Vec Ideal S1024x1024 .bf16) (x8 : Vec Ideal S512x1024 .bf16) (x9 : Vec Ideal S1024x1024 .bf16)
    (r : Fin 512) (s : Fin 1024) :
    @Eq EReal (out0_10 x0 x1 x2 x3 x4 x5 x6 x7 x8 x9 (ix2 r s))
      ((((((∑ k : Fin 1024, (x0 (ix2 r k) : EReal) * x1 (ix2 s k)) + (∑ k : Fin 1024, (x2 (ix2 r k) : EReal) * x3 (ix2 s k))) + (∑ k : Fin 1024, (x4 (ix2 r k) : EReal) * x5 (ix2 s k))) + (∑ k : Fin 1024, (x6 (ix2 r k) : EReal) * x7 (ix2 s k))) + (∑ k : Fin 1024, (x8 (ix2 r k) : EReal) * x9 (ix2 s k)))) := by
  unfold out0_10
  rw [View.canon_unit_zero off2]
  simp only [View.ld_unit_zero (S := S512x1024) off2, View.ld_unit_zero (S := S1024x1024) off2]
  unfold k0_pay1
  pointwise

variable (m : (ℓ : Loc nD τ sig) → Buf (Elt Ideal) ℓ)

/-- The operands as the launch finds them: the five gradients and the weights. -/
abbrev X0 (c : Dev nD) : S8192x1024.Idx → EReal := m ((c : Thread nD τ).loc main_arg0)
abbrev X1 (c : Dev nD) : S8192x1024.Idx → EReal := m ((c : Thread nD τ).loc main_arg1)
abbrev X2 (c : Dev nD) : S8192x1024.Idx → EReal := m ((c : Thread nD τ).loc main_arg2)
abbrev X3 (c : Dev nD) : S8192x1024.Idx → EReal := m ((c : Thread nD τ).loc main_arg3)
abbrev X4 (c : Dev nD) : S8192x1024.Idx → EReal := m ((c : Thread nD τ).loc main_arg4)
abbrev X5 (c : Dev nD) : S2048x5120.Idx → EReal := m ((c : Thread nD τ).loc main_arg5)

/-- Which blocks a grid point reads and writes. -/
theorem idx_facts : ∀ t : Fin cfg0.N, (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = 0)
    ∧ (win0_3.index t (0 : Fin 2) = t.val % 2 ∧ win0_3.index t (1 : Fin 2) = 1)
    ∧ (win0_4.index t (0 : Fin 2) = t.val / 2 ∧ win0_4.index t (1 : Fin 2) = 0)
    ∧ (win0_5.index t (0 : Fin 2) = t.val % 2 ∧ win0_5.index t (1 : Fin 2) = 2)
    ∧ (win0_6.index t (0 : Fin 2) = t.val / 2 ∧ win0_6.index t (1 : Fin 2) = 0)
    ∧ (win0_7.index t (0 : Fin 2) = t.val % 2 ∧ win0_7.index t (1 : Fin 2) = 3)
    ∧ (win0_8.index t (0 : Fin 2) = t.val / 2 ∧ win0_8.index t (1 : Fin 2) = 0)
    ∧ (win0_9.index t (0 : Fin 2) = t.val % 2 ∧ win0_9.index t (1 : Fin 2) = 4)
    ∧ (win0_10.index t (0 : Fin 2) = t.val / 2 ∧ win0_10.index t (1 : Fin 2) = t.val % 2) :=
  (by decide +kernel : ∀ t : Fin grid0.N, _)

theorem blk0 (c : Dev nD) (t : Fin cfg0.N) (r : Fin 512) (k : Fin 1024) :
    (iblk m c 0 t : S512x1024.Idx → EReal) (ix2 r k) = rd (X0 m c) (512 * (t.val / 2) + r.val) (k.val) := by
  have e := (idx_facts t).1
  refine (eq_rd (X0 m c) (((cfg0.win 0).blk t).view.emb (ix2 r k)) _ _ ?_ ?_)
  · show win0_0.index t (0 : Fin 2) * 512 + 1 * r.val = _
    rw [e.1]; omega
  · show win0_0.index t (1 : Fin 2) * 1024 + 1 * k.val = _
    rw [e.2]; omega

theorem blk1 (c : Dev nD) (t : Fin cfg0.N) (r : Fin 1024) (k : Fin 1024) :
    (iblk m c 1 t : S1024x1024.Idx → EReal) (ix2 r k) = rd (X5 m c) (1024 * (t.val % 2) + r.val) (k.val) := by
  have e := (idx_facts t).2.1
  refine (eq_rd (X5 m c) (((cfg0.win 1).blk t).view.emb (ix2 r k)) _ _ ?_ ?_)
  · show win0_1.index t (0 : Fin 2) * 1024 + 1 * r.val = _
    rw [e.1]; omega
  · show win0_1.index t (1 : Fin 2) * 1024 + 1 * k.val = _
    rw [e.2]; omega

theorem blk2 (c : Dev nD) (t : Fin cfg0.N) (r : Fin 512) (k : Fin 1024) :
    (iblk m c 2 t : S512x1024.Idx → EReal) (ix2 r k) = rd (X1 m c) (512 * (t.val / 2) + r.val) (k.val) := by
  have e := (idx_facts t).2.2.1
  refine (eq_rd (X1 m c) (((cfg0.win 2).blk t).view.emb (ix2 r k)) _ _ ?_ ?_)
  · show win0_2.index t (0 : Fin 2) * 512 + 1 * r.val = _
    rw [e.1]; omega
  · show win0_2.index t (1 : Fin 2) * 1024 + 1 * k.val = _
    rw [e.2]; omega

theorem blk3 (c : Dev nD) (t : Fin cfg0.N) (r : Fin 1024) (k : Fin 1024) :
    (iblk m c 3 t : S1024x1024.Idx → EReal) (ix2 r k) = rd (X5 m c) (1024 * (t.val % 2) + r.val) (1024 * (1) + k.val) := by
  have e := (idx_facts t).2.2.2.1
  refine (eq_rd (X5 m c) (((cfg0.win 3).blk t).view.emb (ix2 r k)) _ _ ?_ ?_)
  · show win0_3.index t (0 : Fin 2) * 1024 + 1 * r.val = _
    rw [e.1]; omega
  · show win0_3.index t (1 : Fin 2) * 1024 + 1 * k.val = _
    rw [e.2]; omega

theorem blk4 (c : Dev nD) (t : Fin cfg0.N) (r : Fin 512) (k : Fin 1024) :
    (iblk m c 4 t : S512x1024.Idx → EReal) (ix2 r k) = rd (X2 m c) (512 * (t.val / 2) + r.val) (k.val) := by
  have e := (idx_facts t).2.2.2.2.1
  refine (eq_rd (X2 m c) (((cfg0.win 4).blk t).view.emb (ix2 r k)) _ _ ?_ ?_)
  · show win0_4.index t (0 : Fin 2) * 512 + 1 * r.val = _
    rw [e.1]; omega
  · show win0_4.index t (1 : Fin 2) * 1024 + 1 * k.val = _
    rw [e.2]; omega

theorem blk5 (c : Dev nD) (t : Fin cfg0.N) (r : Fin 1024) (k : Fin 1024) :
    (iblk m c 5 t : S1024x1024.Idx → EReal) (ix2 r k) = rd (X5 m c) (1024 * (t.val % 2) + r.val) (1024 * (2) + k.val) := by
  have e := (idx_facts t).2.2.2.2.2.1
  refine (eq_rd (X5 m c) (((cfg0.win 5).blk t).view.emb (ix2 r k)) _ _ ?_ ?_)
  · show win0_5.index t (0 : Fin 2) * 1024 + 1 * r.val = _
    rw [e.1]; omega
  · show win0_5.index t (1 : Fin 2) * 1024 + 1 * k.val = _
    rw [e.2]; omega

theorem blk6 (c : Dev nD) (t : Fin cfg0.N) (r : Fin 512) (k : Fin 1024) :
    (iblk m c 6 t : S512x1024.Idx → EReal) (ix2 r k) = rd (X3 m c) (512 * (t.val / 2) + r.val) (k.val) := by
  have e := (idx_facts t).2.2.2.2.2.2.1
  refine (eq_rd (X3 m c) (((cfg0.win 6).blk t).view.emb (ix2 r k)) _ _ ?_ ?_)
  · show win0_6.index t (0 : Fin 2) * 512 + 1 * r.val = _
    rw [e.1]; omega
  · show win0_6.index t (1 : Fin 2) * 1024 + 1 * k.val = _
    rw [e.2]; omega

theorem blk7 (c : Dev nD) (t : Fin cfg0.N) (r : Fin 1024) (k : Fin 1024) :
    (iblk m c 7 t : S1024x1024.Idx → EReal) (ix2 r k) = rd (X5 m c) (1024 * (t.val % 2) + r.val) (1024 * (3) + k.val) := by
  have e := (idx_facts t).2.2.2.2.2.2.2.1
  refine (eq_rd (X5 m c) (((cfg0.win 7).blk t).view.emb (ix2 r k)) _ _ ?_ ?_)
  · show win0_7.index t (0 : Fin 2) * 1024 + 1 * r.val = _
    rw [e.1]; omega
  · show win0_7.index t (1 : Fin 2) * 1024 + 1 * k.val = _
    rw [e.2]; omega

theorem blk8 (c : Dev nD) (t : Fin cfg0.N) (r : Fin 512) (k : Fin 1024) :
    (iblk m c 8 t : S512x1024.Idx → EReal) (ix2 r k) = rd (X4 m c) (512 * (t.val / 2) + r.val) (k.val) := by
  have e := (idx_facts t).2.2.2.2.2.2.2.2.1
  refine (eq_rd (X4 m c) (((cfg0.win 8).blk t).view.emb (ix2 r k)) _ _ ?_ ?_)
  · show win0_8.index t (0 : Fin 2) * 512 + 1 * r.val = _
    rw [e.1]; omega
  · show win0_8.index t (1 : Fin 2) * 1024 + 1 * k.val = _
    rw [e.2]; omega

theorem blk9 (c : Dev nD) (t : Fin cfg0.N) (r : Fin 1024) (k : Fin 1024) :
    (iblk m c 9 t : S1024x1024.Idx → EReal) (ix2 r k) = rd (X5 m c) (1024 * (t.val % 2) + r.val) (1024 * (4) + k.val) := by
  have e := (idx_facts t).2.2.2.2.2.2.2.2.2.1
  refine (eq_rd (X5 m c) (((cfg0.win 9).blk t).view.emb (ix2 r k)) _ _ ?_ ?_)
  · show win0_9.index t (0 : Fin 2) * 1024 + 1 * r.val = _
    rw [e.1]; omega
  · show win0_9.index t (1 : Fin 2) * 1024 + 1 * k.val = _
    rw [e.2]; omega

/-- The result array: at each index the five inner products of a gradient's row with that part of a weight's row, added. -/
def G (X0 : S8192x1024.Idx → EReal) (X1 : S8192x1024.Idx → EReal) (X2 : S8192x1024.Idx → EReal) (X3 : S8192x1024.Idx → EReal) (X4 : S8192x1024.Idx → EReal) (X5 : S2048x5120.Idx → EReal) : S8192x2048.Idx → EReal := fun i =>
  (((((∑ k : Fin 1024, rd X0 (i 0).val k.val * rd X5 (i 1).val (k.val)) + (∑ k : Fin 1024, rd X1 (i 0).val k.val * rd X5 (i 1).val (1024 * (1) + k.val))) + (∑ k : Fin 1024, rd X2 (i 0).val k.val * rd X5 (i 1).val (1024 * (2) + k.val))) + (∑ k : Fin 1024, rd X3 (i 0).val k.val * rd X5 (i 1).val (1024 * (3) + k.val))) + (∑ k : Fin 1024, rd X4 (i 0).val k.val * rd X5 (i 1).val (1024 * (4) + k.val)))

/-- THE RESULT ARRAY after the run is `G`. -/
theorem arr_eq (c : Dev nD) : (dats m 0 c).arrAt 10 cfg0.N = G (X0 m c) (X1 m c) (X2 m c) (X3 m c) (X4 m c) (X5 m c) := by
  refine (dats m 0 c).arrAt_eq_of_covers 10 _ (by decide +kernel) fun t hf y => ?_
  rw [after0_10]
  have e := (idx_facts t).2.2.2.2.2.2.2.2.2.2
  obtain ⟨r, s, rfl⟩ : ∃ (r : Fin 512) (s : Fin 1024), y = ix2 r s := ⟨y 0, y 1, eq_ix2 y⟩
  have h0 : ((((cfg0.win 10).blk t).view.emb (ix2 r s)) 0).val = 512 * (t.val / 2) + r.val := by
    show win0_10.index t (0 : Fin 2) * 512 + 1 * r.val = _
    rw [e.1]; omega
  have h1 : ((((cfg0.win 10).blk t).view.emb (ix2 r s)) 1).val = 1024 * (t.val % 2) + s.val := by
    show win0_10.index t (1 : Fin 2) * 1024 + 1 * s.val = _
    rw [e.2]; omega
  have key := out_apply (iblk m c 0 t) (iblk m c 1 t) (iblk m c 2 t) (iblk m c 3 t) (iblk m c 4 t) (iblk m c 5 t) (iblk m c 6 t) (iblk m c 7 t) (iblk m c 8 t) (iblk m c 9 t) r s
  simp only [blk0, blk1, blk2, blk3, blk4, blk5, blk6, blk7, blk8, blk9] at key
  unfold G
  rw [h0, h1]
  generalize out0_10 (iblk m c 0 t) (iblk m c 1 t) (iblk m c 2 t) (iblk m c 3 t) (iblk m c 4 t) (iblk m c 5 t) (iblk m c 6 t) (iblk m c 7 t) (iblk m c 8 t) (iblk m c 9 t) = Z at key ⊢
  exact key

end Cert.DaIdeal.Prod

namespace Cert.DaRefIdeal.Prod

open Cert.DaRefIdeal Cert.DaRefIdeal.Read Cert.Common
open Idealize.ShloMosaic Idealize.ShloMosaic.TcCoe

/-- WHAT THE REFERENCE COMPUTES: the same. -/
theorem ref_eq (x0 : S8192x1024.Idx → EReal) (x1 : S8192x1024.Idx → EReal) (x2 : S8192x1024.Idx → EReal) (x3 : S8192x1024.Idx → EReal) (x4 : S8192x1024.Idx → EReal) (x5 : S2048x5120.Idx → EReal) :
    (val_main_v26 (F := Ideal) x0 x1 x2 x3 x4 x5 : S8192x2048.Idx → EReal) = Cert.DaIdeal.Prod.G x0 x1 x2 x3 x4 x5 := funext fun i => by
  rw [val_main_v26_apply, Ideal.truncf_def, val_main_v25_apply, val_main_v23_apply, val_main_v21_apply, val_main_v19_apply, val_main_v17_apply,
    val_main_v18_apply, val_main_v20_apply, val_main_v22_apply, val_main_v24_apply]
  simp only [val_main_v7_apply, val_main_v0_apply, val_main_v9_apply, val_main_v1_apply, val_main_v11_apply, val_main_v2_apply, val_main_v13_apply, val_main_v3_apply, val_main_v15_apply, val_main_v4_apply, val_main_v6_apply, Ideal.extf_def]
  show (((((_ : EReal) + _) + _) + _) + _) = _
  have five : ∀ a b c d e : EReal, (((e + d) + c) + b) + a = (((a + b) + c) + d) + e := fun a b c d e => by
    ac_rfl
  refine (five _ _ _ _ _).trans ?_
  unfold Cert.DaIdeal.Prod.G
  refine congrArg₂ (· + ·) (congrArg₂ (· + ·) (congrArg₂ (· + ·) (congrArg₂ (· + ·) ?_ ?_) ?_) ?_) ?_ <;>
    refine Finset.sum_congr rfl fun k _ => ?_
  · exact congrArg₂ (· * ·) (eq_rd x0 _ (i 0).val k.val rfl rfl) (eq_rd x5 _ (i 1).val (k.val) rfl rfl)
  · exact congrArg₂ (· * ·) (eq_rd x1 _ (i 0).val k.val rfl rfl) (eq_rd x5 _ (i 1).val (1024 * (1) + k.val) rfl (by show 1024 + k.val = _; omega))
  · exact congrArg₂ (· * ·) (eq_rd x2 _ (i 0).val k.val rfl rfl) (eq_rd x5 _ (i 1).val (1024 * (2) + k.val) rfl (by show 2048 + k.val = _; omega))
  · exact congrArg₂ (· * ·) (eq_rd x3 _ (i 0).val k.val rfl rfl) (eq_rd x5 _ (i 1).val (1024 * (3) + k.val) rfl (by show 3072 + k.val = _; omega))
  · exact congrArg₂ (· * ·) (eq_rd x4 _ (i 0).val k.val rfl rfl) (eq_rd x5 _ (i 1).val (1024 * (4) + k.val) rfl (by show 4096 + k.val = _; omega))

end Cert.DaRefIdeal.Prod

end
-- ==== Proof.Dcat.lean ====
/- The gradient of the mixed heads through the output projection: what one block of the kernel computes, what its result array holds, and that the
   reference holds the same. -/
module

public import proofs.«01_k».proof.Proof.Common
public import proofs.«01_k».proof.Proof.Gen.DcatIdeal.Value
public import proofs.«01_k».proof.Proof.Gen.DcatRefIdeal.Read

@[expose] public section

set_option maxRecDepth 16384

noncomputable section

namespace Cert.DcatIdeal.Prod

open Cert.DcatIdeal Cert.DcatIdeal.Gen Cert.DcatIdeal.Value Cert.Common
open Idealize.ShloMosaic Idealize.ShloMosaic.TcCoe Idealize.SL.Sem

/-- What one block holds: a row of the gradient times a row of the weights. -/
theorem out_apply (x0 : Vec Ideal S1024x2048 .bf16) (x1 : Vec Ideal S1024x2048 .bf16)
    (r : Fin 1024) (s : Fin 1024) :
    @Eq EReal (out0_2 x0 x1 (ix2 r s))
      (∑ k : Fin 2048, (x0 (ix2 r k) : EReal) * x1 (ix2 s k)) := by
  unfold out0_2
  rw [View.canon_unit_zero off2]
  simp only [View.ld_unit_zero (S := S1024x2048) off2]
  unfold k0_pay1
  pointwise

variable (m : (ℓ : Loc nD τ sig) → Buf (Elt Ideal) ℓ)

/-- The operands as the launch finds them: the gradient and the weights. -/
abbrev X0 (c : Dev nD) : S8192x2048.Idx → EReal := m ((c : Thread nD τ).loc main_arg0)
abbrev X1 (c : Dev nD) : S2048x2048.Idx → EReal := m ((c : Thread nD τ).loc main_arg1)

/-- Which blocks a grid point reads and writes. -/
theorem idx_facts : ∀ t : Fin cfg0.N, (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

theorem blk0 (c : Dev nD) (t : Fin cfg0.N) (r : Fin 1024) (k : Fin 2048) :
    (iblk m c 0 t : S1024x2048.Idx → EReal) (ix2 r k) = rd (X0 m c) (1024 * (t.val / 2) + r.val) (k.val) := by
  have e := (idx_facts t).1
  refine (eq_rd (X0 m c) (((cfg0.win 0).blk t).view.emb (ix2 r k)) _ _ ?_ ?_)
  · show win0_0.index t (0 : Fin 2) * 1024 + 1 * r.val = _
    rw [e.1]; omega
  · show win0_0.index t (1 : Fin 2) * 2048 + 1 * k.val = _
    rw [e.2]; omega

theorem blk1 (c : Dev nD) (t : Fin cfg0.N) (r : Fin 1024) (k : Fin 2048) :
    (iblk m c 1 t : S1024x2048.Idx → EReal) (ix2 r k) = rd (X1 m c) (1024 * (t.val % 2) + r.val) (k.val) := by
  have e := (idx_facts t).2.1
  refine (eq_rd (X1 m c) (((cfg0.win 1).blk t).view.emb (ix2 r k)) _ _ ?_ ?_)
  · show win0_1.index t (0 : Fin 2) * 1024 + 1 * r.val = _
    rw [e.1]; omega
  · show win0_1.index t (1 : Fin 2) * 2048 + 1 * k.val = _
    rw [e.2]; omega

/-- The result array: at each index the inner product of a gradient's row with a weight's row. -/
def G (X0 : S8192x2048.Idx → EReal) (X1 : S2048x2048.Idx → EReal) : S8192x2048.Idx → EReal := fun i =>
  ∑ k : Fin 2048, rd X0 (i 0).val k.val * rd X1 (i 1).val k.val

/-- THE RESULT ARRAY after the run is `G`. -/
theorem arr_eq (c : Dev nD) : (dats m 0 c).arrAt 2 cfg0.N = G (X0 m c) (X1 m c) := by
  refine (dats m 0 c).arrAt_eq_of_covers 2 _ (by decide +kernel) fun t hf y => ?_
  rw [after0_2]
  have e := (idx_facts t).2.2
  obtain ⟨r, s, rfl⟩ : ∃ (r : Fin 1024) (s : Fin 1024), y = ix2 r s := ⟨y 0, y 1, eq_ix2 y⟩
  have h0 : ((((cfg0.win 2).blk t).view.emb (ix2 r s)) 0).val = 1024 * (t.val / 2) + r.val := by
    show win0_2.index t (0 : Fin 2) * 1024 + 1 * r.val = _
    rw [e.1]; omega
  have h1 : ((((cfg0.win 2).blk t).view.emb (ix2 r s)) 1).val = 1024 * (t.val % 2) + s.val := by
    show win0_2.index t (1 : Fin 2) * 1024 + 1 * s.val = _
    rw [e.2]; omega
  have key := out_apply (iblk m c 0 t) (iblk m c 1 t) r s
  simp only [blk0, blk1] at key
  unfold G
  rw [h0, h1]
  generalize out0_2 (iblk m c 0 t) (iblk m c 1 t) = Z at key ⊢
  exact key

end Cert.DcatIdeal.Prod

namespace Cert.DcatRefIdeal.Prod

open Cert.DcatRefIdeal Cert.DcatRefIdeal.Read Cert.Common
open Idealize.ShloMosaic Idealize.ShloMosaic.TcCoe

/-- WHAT THE REFERENCE COMPUTES: the same. -/
theorem ref_eq (x0 : S8192x2048.Idx → EReal) (x1 : S2048x2048.Idx → EReal) :
    (val_main_v4 (F := Ideal) x0 x1 : S8192x2048.Idx → EReal) = Cert.DcatIdeal.Prod.G x0 x1 := funext fun i => by
  rw [val_main_v4_apply]
  refine Finset.sum_congr rfl fun k _ => ?_
  rw [val_main_v3_apply, val_main_v1_apply, Ideal.extf_def, Ideal.extf_def]
  exact congrArg₂ (· * ·) (eq_rd x0 _ (i 0).val k.val rfl rfl) (eq_rd x1 _ (i 1).val k.val rfl rfl)

end Cert.DcatRefIdeal.Prod

end
-- ==== Proof.MmIn.lean ====
/- The input projection: what one block of the kernel computes, what its result array holds, and that the
   reference holds the same. -/
module

public import proofs.«01_k».proof.Proof.Common
public import proofs.«01_k».proof.Proof.Gen.MmInIdeal.Value
public import proofs.«01_k».proof.Proof.Gen.MmInRefIdeal.Read

@[expose] public section

set_option maxRecDepth 16384

noncomputable section

namespace Cert.MmInIdeal.Prod

open Cert.MmInIdeal Cert.MmInIdeal.Gen Cert.MmInIdeal.Value Cert.Common
open Idealize.ShloMosaic Idealize.ShloMosaic.TcCoe Idealize.SL.Sem

/-- What one block holds: a row of the activations times a column of the weights. -/
theorem out_apply (x0 : Vec Ideal S1024x2048 .bf16) (x1 : Vec Ideal S2048x1024 .bf16)
    (r : Fin 1024) (s : Fin 1024) :
    @Eq EReal (out0_2 x0 x1 (ix2 r s))
      (∑ k : Fin 2048, (x0 (ix2 r k) : EReal) * x1 (ix2 k s)) := by
  unfold out0_2
  rw [View.canon_unit_zero off2]
  simp only [View.ld_unit_zero (S := S1024x2048) off2, View.ld_unit_zero (S := S2048x1024) off2]
  unfold k0_pay1
  pointwise

variable (m : (ℓ : Loc nD τ sig) → Buf (Elt Ideal) ℓ)

/-- The operands as the launch finds them: the activations and the weights. -/
abbrev X0 (c : Dev nD) : S8192x2048.Idx → EReal := m ((c : Thread nD τ).loc main_arg0)
abbrev X1 (c : Dev nD) : S2048x5120.Idx → EReal := m ((c : Thread nD τ).loc main_arg1)

/-- Which blocks a grid point reads and writes. -/
theorem idx_facts : ∀ t : Fin cfg0.N, (win0_0.index t (0 : Fin 2) = t.val / 5 ∧ win0_0.index t (1 : Fin 2) = 0)
    ∧ (win0_1.index t (0 : Fin 2) = 0 ∧ win0_1.index t (1 : Fin 2) = t.val % 5)
    ∧ (win0_2.index t (0 : Fin 2) = t.val / 5 ∧ win0_2.index t (1 : Fin 2) = t.val % 5) :=
  (by decide +kernel : ∀ t : Fin grid0.N, _)

theorem blk0 (c : Dev nD) (t : Fin cfg0.N) (r : Fin 1024) (k : Fin 2048) :
    (iblk m c 0 t : S1024x2048.Idx → EReal) (ix2 r k) = rd (X0 m c) (1024 * (t.val / 5) + r.val) (k.val) := by
  have e := (idx_facts t).1
  refine (eq_rd (X0 m c) (((cfg0.win 0).blk t).view.emb (ix2 r k)) _ _ ?_ ?_)
  · show win0_0.index t (0 : Fin 2) * 1024 + 1 * r.val = _
    rw [e.1]; omega
  · show win0_0.index t (1 : Fin 2) * 2048 + 1 * k.val = _
    rw [e.2]; omega

theorem blk1 (c : Dev nD) (t : Fin cfg0.N) (r : Fin 2048) (k : Fin 1024) :
    (iblk m c 1 t : S2048x1024.Idx → EReal) (ix2 r k) = rd (X1 m c) (r.val) (1024 * (t.val % 5) + k.val) := by
  have e := (idx_facts t).2.1
  refine (eq_rd (X1 m c) (((cfg0.win 1).blk t).view.emb (ix2 r k)) _ _ ?_ ?_)
  · show win0_1.index t (0 : Fin 2) * 2048 + 1 * r.val = _
    rw [e.1]; omega
  · show win0_1.index t (1 : Fin 2) * 1024 + 1 * k.val = _
    rw [e.2]; omega

/-- The result array: the product of the two matrices. -/
def G (X0 : S8192x2048.Idx → EReal) (X1 : S2048x5120.Idx → EReal) : S8192x5120.Idx → EReal := fun i =>
  ∑ k : Fin 2048, rd X0 (i 0).val k.val * rd X1 k.val (i 1).val

/-- THE RESULT ARRAY after the run is `G`. -/
theorem arr_eq (c : Dev nD) : (dats m 0 c).arrAt 2 cfg0.N = G (X0 m c) (X1 m c) := by
  refine (dats m 0 c).arrAt_eq_of_covers 2 _ (by decide +kernel) fun t hf y => ?_
  rw [after0_2]
  have e := (idx_facts t).2.2
  obtain ⟨r, s, rfl⟩ : ∃ (r : Fin 1024) (s : Fin 1024), y = ix2 r s := ⟨y 0, y 1, eq_ix2 y⟩
  have h0 : ((((cfg0.win 2).blk t).view.emb (ix2 r s)) 0).val = 1024 * (t.val / 5) + r.val := by
    show win0_2.index t (0 : Fin 2) * 1024 + 1 * r.val = _
    rw [e.1]; omega
  have h1 : ((((cfg0.win 2).blk t).view.emb (ix2 r s)) 1).val = 1024 * (t.val % 5) + s.val := by
    show win0_2.index t (1 : Fin 2) * 1024 + 1 * s.val = _
    rw [e.2]; omega
  have key := out_apply (iblk m c 0 t) (iblk m c 1 t) r s
  simp only [blk0, blk1] at key
  unfold G
  rw [h0, h1]
  generalize out0_2 (iblk m c 0 t) (iblk m c 1 t) = Z at key ⊢
  exact key

end Cert.MmInIdeal.Prod

namespace Cert.MmInRefIdeal.Prod

open Cert.MmInRefIdeal Cert.MmInRefIdeal.Read Cert.Common
open Idealize.ShloMosaic Idealize.ShloMosaic.TcCoe

/-- WHAT THE REFERENCE COMPUTES: the same. -/
theorem ref_eq (x0 : S8192x2048.Idx → EReal) (x1 : S2048x5120.Idx → EReal) :
    (val_main_v2 (F := Ideal) x0 x1 : S8192x5120.Idx → EReal) = Cert.MmInIdeal.Prod.G x0 x1 := funext fun i => by
  rw [val_main_v2_apply]
  refine Finset.sum_congr rfl fun k _ => ?_
  rw [val_main_v0_apply, val_main_v1_apply, Ideal.extf_def, Ideal.extf_def,
    eq_rd x0 _ (i 0).val k.val rfl rfl, eq_rd x1 _ k.val (i 1).val rfl rfl]

end Cert.MmInRefIdeal.Prod

end
-- ==== Proof.MmOut.lean ====
/- The output projection, its residual and the norm that follows: what one block of the kernel computes, what its result array holds, and that the
   reference holds the same. -/
module

public import proofs.«01_k».proof.Proof.Common
public import proofs.«01_k».proof.Proof.Gen.MmOutIdeal.Value
public import proofs.«01_k».proof.Proof.Gen.MmOutRefIdeal.Read

@[expose] public section

set_option maxRecDepth 16384

noncomputable section

namespace Cert.MmOutIdeal.Prod

open Cert.MmOutIdeal Cert.MmOutIdeal.Gen Cert.MmOutIdeal.Value Cert.Common
open Idealize.ShloMosaic Idealize.ShloMosaic.TcCoe Idealize.SL.Sem

/-- A row of the residual stream at one place: the residual plus the product. -/
def hid {A : ℕ} [NeZero A] (x : (⟨2, ![A, 2048]⟩ : Shape).Idx → EReal) (w : S2048x2048.Idx → EReal) (res : (⟨2, ![A, 2048]⟩ : Shape).Idx → EReal) (r s : ℕ) : EReal :=
  rd res r s + ∑ k : Fin 2048, rd x r k.val * rd w k.val s

/-- The reciprocal root of a row's mean square. -/
def rinv (h : ℕ → EReal) : EReal :=
  Ideal.rsqrt (Ideal.div (∑ k : Fin 2048, h k.val * h k.val) (Ideal.ofBits .f32 0x45000000#32) + Ideal.ofBits .f32 0x358637BD#32)

/-- What the kernel computes of one sub-block: the stream … -/
theorem pay2_apply (a : Vec Ideal S256x2048 .bf16) (b : Vec Ideal S2048x2048 .bf16) (x : Vec Ideal S256x2048 .f32) (r : Fin 256) (s : Fin 2048) :
    @Eq EReal (k0_pay2 a b x (ix2 r s)) ((x (ix2 r s) : EReal) + ∑ k : Fin 2048, (a (ix2 r k) : EReal) * b (ix2 k s)) := by
  unfold k0_pay2
  pointwise
  exact add_comm _ _

/-- … and its norm. -/
theorem pay3_apply (a : Vec Ideal S256x2048 .bf16) (b : Vec Ideal S2048x2048 .bf16) (x : Vec Ideal S256x2048 .f32) (g : Vec Ideal S1x2048 .f32) (h : ℕ → EReal) (r : Fin 256) (s : Fin 2048)
    (hh : ∀ k : Fin 2048, @Eq EReal (k0_pay2 a b x (ix2 r k)) (h k.val)) :
    @Eq EReal (k0_pay3 a b x g (ix2 r s)) (h s.val * rinv h * g (ix2 0 s)) := by
  unfold k0_pay3
  generalize k0_pay2 a b x = z at hh ⊢
  pointwise
  unfold rinv
  rw [hh s, Finset.sum_congr rfl fun k _ => congrArg₂ (· * ·) (hh k) (hh k)]

/-- A row range of the activations' block, read at a place … -/
theorem ld_a (o : ℕ) (x : Vec Ideal S512x2048 .bf16) (h) (r : Fin 256) (k : Fin 2048) :
    @Eq EReal (View.ld x (Rect.unit (s := S512x2048) ![o, 0] S256x2048.size h) (ix2 r k)) (rd x (o + r.val) k.val) := by
  refine eq_rd (x : S512x2048.Idx → EReal) ((Rect.unit (s := S512x2048) ![o, 0] S256x2048.size h).emb (ix2 r k)) _ _ ?_ ?_
  · show o + 1 * r.val = _
    omega
  · show 0 + 1 * k.val = _
    omega

/-- … and of the residual's. -/
theorem ld_x (o : ℕ) (x : Vec Ideal S512x2048 .f32) (h) (r : Fin 256) (k : Fin 2048) :
    @Eq EReal (View.ld x (Rect.unit (s := S512x2048) ![o, 0] S256x2048.size h) (ix2 r k)) (rd x (o + r.val) k.val) := by
  refine eq_rd (x : S512x2048.Idx → EReal) ((Rect.unit (s := S512x2048) ![o, 0] S256x2048.size h).emb (ix2 r k)) _ _ ?_ ?_
  · show o + 1 * r.val = _
    omega
  · show 0 + 1 * k.val = _
    omega

theorem hid_rows (o : ℕ) (x0 : Vec Ideal S512x2048 .bf16) (x1 : Vec Ideal S2048x2048 .bf16) (x2 : Vec Ideal S512x2048 .f32) (h h₂) (r : Fin 256) (s : Fin 2048) :
    @Eq EReal (k0_pay2 (View.ld x0 (Rect.unit (s := S512x2048) ![o, 0] S256x2048.size h)) x1 (View.ld x2 (Rect.unit (s := S512x2048) ![o, 0] S256x2048.size h₂)) (ix2 r s))
      (hid (A := 512) x0 x1 x2 (o + r.val) s.val) := by
  rw [pay2_apply]
  unfold hid
  rw [ld_x]
  refine congrArg _ (Finset.sum_congr rfl fun k _ => ?_)
  rw [ld_a]
  exact congrArg _ (eq_rd (x1 : S2048x2048.Idx → EReal) (ix2 k s) k.val s.val rfl rfl)

/-- A block of the stream, and of its norm, as functions of the block's index. -/
def B4 (x0 : S512x2048.Idx → EReal) (x1 : S2048x2048.Idx → EReal) (x2 : S512x2048.Idx → EReal) : S512x2048.Idx → EReal := fun y =>
  hid (A := 512) x0 x1 x2 (y 0).val (y 1).val
def B5 (x0 : S512x2048.Idx → EReal) (x1 : S2048x2048.Idx → EReal) (x2 : S512x2048.Idx → EReal) (x3 : S1x2048.Idx → EReal) : S512x2048.Idx → EReal := fun y =>
  hid (A := 512) x0 x1 x2 (y 0).val (y 1).val * rinv (fun k => hid (A := 512) x0 x1 x2 (y 0).val k) * rd x3 0 (y 1).val

/-- Each stored sub-block is its rows of the block. -/
theorem piece4 (o : ℕ) (x0 : Vec Ideal S512x2048 .bf16) (x1 : Vec Ideal S2048x2048 .bf16) (x2 : Vec Ideal S512x2048 .f32) (h h₂ h') (y : S256x2048.Idx) :
    @Eq EReal (k0_pay2 (View.ld x0 (Rect.unit (s := S512x2048) ![o, 0] S256x2048.size h)) x1 (View.ld x2 (Rect.unit (s := S512x2048) ![o, 0] S256x2048.size h₂)) y)
      (B4 x0 x1 x2 ((Rect.unit (s := S512x2048) ![o, 0] S256x2048.size h').emb y)) := by
  obtain ⟨r, s, rfl⟩ : ∃ (r : Fin 256) (s : Fin 2048), y = ix2 r s := ⟨y 0, y 1, eq_ix2 y⟩
  have h0 : (((Rect.unit (s := S512x2048) ![o, 0] S256x2048.size h').emb (ix2 r s)) 0).val = o + r.val := by
    show o + 1 * r.val = _
    omega
  have h1 : (((Rect.unit (s := S512x2048) ![o, 0] S256x2048.size h').emb (ix2 r s)) 1).val = s.val := by
    show 0 + 1 * s.val = _
    omega
  unfold B4
  rw [h0, h1, hid_rows]

theorem piece5 (o : ℕ) (x0 : Vec Ideal S512x2048 .bf16) (x1 : Vec Ideal S2048x2048 .bf16) (x2 : Vec Ideal S512x2048 .f32) (x3 : Vec Ideal S1x2048 .f32) (h h₂ h') (y : S256x2048.Idx) :
    @Eq EReal (k0_pay3 (View.ld x0 (Rect.unit (s := S512x2048) ![o, 0] S256x2048.size h)) x1 (View.ld x2 (Rect.unit (s := S512x2048) ![o, 0] S256x2048.size h₂)) x3 y)
      (B5 x0 x1 x2 x3 ((Rect.unit (s := S512x2048) ![o, 0] S256x2048.size h').emb y)) := by
  obtain ⟨r, s, rfl⟩ : ∃ (r : Fin 256) (s : Fin 2048), y = ix2 r s := ⟨y 0, y 1, eq_ix2 y⟩
  have h0 : (((Rect.unit (s := S512x2048) ![o, 0] S256x2048.size h').emb (ix2 r s)) 0).val = o + r.val := by
    show o + 1 * r.val = _
    omega
  have h1 : (((Rect.unit (s := S512x2048) ![o, 0] S256x2048.size h').emb (ix2 r s)) 1).val = s.val := by
    show 0 + 1 * s.val = _
    omega
  unfold B5
  rw [h0, h1, pay3_apply _ _ _ _ (fun k => hid (A := 512) x0 x1 x2 (o + r.val) k) r s (fun k => hid_rows o x0 x1 x2 h h₂ r k)]
  exact congrArg _ (eq_rd (x3 : S1x2048.Idx → EReal) (ix2 0 s) 0 s.val rfl rfl)

/-- WHAT ONE BLOCK HOLDS: the two sub-blocks are the one function's rows. -/
theorem out4_eq (x0 : Vec Ideal S512x2048 .bf16) (x1 : Vec Ideal S2048x2048 .bf16) (x2 : Vec Ideal S512x2048 .f32) (x3 : Vec Ideal S1x2048 .f32) (y : S512x2048.Idx) :
    @Eq EReal (out0_4 x0 x1 x2 x3 y) (B4 x0 x1 x2 y) := by
  unfold_out out0_4
  simp only [View.ld_unit_zero (S := S2048x2048) off2, View.ld_unit_zero (S := S1x2048) off2]
  refine View.canon_apply_of_pieces (Val := Elt Ideal) (e := .f32) (B4 x0 x1 x2) _ ?_ y (cover0_4 _ _ y)
  simp only [List.forall_mem_cons, List.not_mem_nil, false_imp_iff, implies_true, and_true]
  exact ⟨fun z => piece4 256 x0 x1 x2 _ _ _ z, fun z => piece4 0 x0 x1 x2 _ _ _ z⟩

/-- WHAT ONE BLOCK HOLDS: the two sub-blocks are the one function's rows. -/
theorem out5_eq (x0 : Vec Ideal S512x2048 .bf16) (x1 : Vec Ideal S2048x2048 .bf16) (x2 : Vec Ideal S512x2048 .f32) (x3 : Vec Ideal S1x2048 .f32) (y : S512x2048.Idx) :
    @Eq EReal (out0_5 x0 x1 x2 x3 y) (B5 x0 x1 x2 x3 y) := by
  unfold_out out0_5
  simp only [View.ld_unit_zero (S := S2048x2048) off2, View.ld_unit_zero (S := S1x2048) off2]
  refine View.canon_apply_of_pieces (Val := Elt Ideal) (e := .bf16) (B5 x0 x1 x2 x3) _ ?_ y (cover0_5 _ _ y)
  simp only [List.forall_mem_cons, List.not_mem_nil, false_imp_iff, implies_true, and_true]
  exact ⟨fun z => piece5 256 x0 x1 x2 x3 _ _ _ z, fun z => piece5 0 x0 x1 x2 x3 _ _ _ z⟩

variable (m : (ℓ : Loc nD τ sig) → Buf (Elt Ideal) ℓ)

/-- The operands as the launch finds them: the branches side by side, the weights, the residual and the gain. -/
abbrev X0 (c : Dev nD) : S8192x2048.Idx → EReal := m ((c : Thread nD τ).loc main_arg0)
abbrev X1 (c : Dev nD) : S2048x2048.Idx → EReal := m ((c : Thread nD τ).loc main_arg1)
abbrev X2 (c : Dev nD) : S8192x2048.Idx → EReal := m ((c : Thread nD τ).loc main_arg2)
abbrev X3 (c : Dev nD) : S1x2048.Idx → EReal := m ((c : Thread nD τ).loc main_arg3)

/-- Which blocks a grid point reads and writes. -/
theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem blk0 (c : Dev nD) (t : Fin cfg0.N) (r k : ℕ) (hr : r < 512) (hk : k < 2048) :
    rd (iblk m c 0 t : S512x2048.Idx → EReal) r k = rd (X0 m c) (512 * (t.val) + r) (k) := by
  have e := (idx_facts t).1
  refine (eq_rd (X0 m c) (((cfg0.win 0).blk t).view.emb (ix2 (Fin.ofNat 512 r) (Fin.ofNat 2048 k))) _ _ ?_ ?_)
  · show win0_0.index t (0 : Fin 2) * 512 + 1 * (r % 512) = _
    rw [e.1]; omega
  · show win0_0.index t (1 : Fin 2) * 2048 + 1 * (k % 2048) = _
    rw [e.2]; omega

theorem blk1 (c : Dev nD) (t : Fin cfg0.N) (r k : ℕ) (hr : r < 2048) (hk : k < 2048) :
    rd (iblk m c 1 t : S2048x2048.Idx → EReal) r k = rd (X1 m c) (r) (k) := by
  have e := (idx_facts t).2.1
  refine (eq_rd (X1 m c) (((cfg0.win 1).blk t).view.emb (ix2 (Fin.ofNat 2048 r) (Fin.ofNat 2048 k))) _ _ ?_ ?_)
  · show win0_1.index t (0 : Fin 2) * 2048 + 1 * (r % 2048) = _
    rw [e.1]; omega
  · show win0_1.index t (1 : Fin 2) * 2048 + 1 * (k % 2048) = _
    rw [e.2]; omega

theorem blk2 (c : Dev nD) (t : Fin cfg0.N) (r k : ℕ) (hr : r < 512) (hk : k < 2048) :
    rd (iblk m c 2 t : S512x2048.Idx → EReal) r k = rd (X2 m c) (512 * (t.val) + r) (k) := by
  have e := (idx_facts t).2.2.1
  refine (eq_rd (X2 m c) (((cfg0.win 2).blk t).view.emb (ix2 (Fin.ofNat 512 r) (Fin.ofNat 2048 k))) _ _ ?_ ?_)
  · show win0_2.index t (0 : Fin 2) * 512 + 1 * (r % 512) = _
    rw [e.1]; omega
  · show win0_2.index t (1 : Fin 2) * 2048 + 1 * (k % 2048) = _
    rw [e.2]; omega

theorem blk3 (c : Dev nD) (t : Fin cfg0.N) (r k : ℕ) (hr : r < 1) (hk : k < 2048) :
    rd (iblk m c 3 t : S1x2048.Idx → EReal) r k = rd (X3 m c) (r) (k) := by
  have e := (idx_facts t).2.2.2.1
  refine (eq_rd (X3 m c) (((cfg0.win 3).blk t).view.emb (ix2 (Fin.ofNat 1 r) (Fin.ofNat 2048 k))) _ _ ?_ ?_)
  · show win0_3.index t (0 : Fin 2) * 1 + 1 * (r % 1) = _
    rw [e.1]; omega
  · show win0_3.index t (1 : Fin 2) * 2048 + 1 * (k % 2048) = _
    rw [e.2]; omega

/-- The result arrays: the residual stream and its norm. -/
def G4 (X0 : S8192x2048.Idx → EReal) (X1 : S2048x2048.Idx → EReal) (X2 : S8192x2048.Idx → EReal) : S8192x2048.Idx → EReal := fun i =>
  hid (A := 8192) X0 X1 X2 (i 0).val (i 1).val
def G5 (X0 : S8192x2048.Idx → EReal) (X1 : S2048x2048.Idx → EReal) (X2 : S8192x2048.Idx → EReal) (X3 : S1x2048.Idx → EReal) : S8192x2048.Idx → EReal := fun i =>
  hid (A := 8192) X0 X1 X2 (i 0).val (i 1).val * rinv (fun k => hid (A := 8192) X0 X1 X2 (i 0).val k) * rd X3 0 (i 1).val

theorem hid_blk (c : Dev nD) (t : Fin cfg0.N) (r s : ℕ) (hr : r < 512) (hs : s < 2048) :
    hid (A := 512) (iblk m c 0 t : S512x2048.Idx → EReal) (iblk m c 1 t : S2048x2048.Idx → EReal) (iblk m c 2 t : S512x2048.Idx → EReal) r s
      = hid (A := 8192) (X0 m c) (X1 m c) (X2 m c) (512 * t.val + r) s := by
  unfold hid
  rw [blk2 m c t r s hr hs]
  refine congrArg _ (Finset.sum_congr rfl fun k _ => ?_)
  rw [blk0 m c t r k.val hr k.isLt, blk1 m c t k.val s k.isLt hs]

theorem rinv_congr (h h' : ℕ → EReal) (e : ∀ k : Fin 2048, h k.val = h' k.val) : rinv h = rinv h' := by
  unfold rinv
  rw [Finset.sum_congr rfl fun k _ => congrArg₂ (· * ·) (e k) (e k)]

/-- THE RESULT ARRAYS after the run. -/
theorem arr4_eq (c : Dev nD) : (dats m 0 c).arrAt 4 cfg0.N = G4 (X0 m c) (X1 m c) (X2 m c) := by
  refine (dats m 0 c).arrAt_eq_of_covers 4 _ (by decide +kernel) fun t hf y => ?_
  rw [after0_4]
  have e := (idx_facts t).2.2.2.2.1
  obtain ⟨r, s, rfl⟩ : ∃ (r : Fin 512) (s : Fin 2048), y = ix2 r s := ⟨y 0, y 1, eq_ix2 y⟩
  have h0 : ((((cfg0.win 4).blk t).view.emb (ix2 r s)) 0).val = 512 * (t.val) + r.val := by
    show win0_4.index t (0 : Fin 2) * 512 + 1 * r.val = _
    rw [e.1]; omega
  have h1 : ((((cfg0.win 4).blk t).view.emb (ix2 r s)) 1).val = s.val := by
    show win0_4.index t (1 : Fin 2) * 2048 + 1 * s.val = _
    rw [e.2]; omega
  have key := out4_eq (iblk m c 0 t) (iblk m c 1 t) (iblk m c 2 t) (iblk m c 3 t) (ix2 r s)
  unfold B4 at key
  have k0 : (((ix2 r s : S512x2048.Idx) 0).val) = r.val := rfl
  have k1 : (((ix2 r s : S512x2048.Idx) 1).val) = s.val := rfl
  rw [k0, k1, hid_blk m c t r.val s.val r.isLt s.isLt] at key
  unfold G4
  rw [h0, h1]
  generalize out0_4 (iblk m c 0 t) (iblk m c 1 t) (iblk m c 2 t) (iblk m c 3 t) = Z at key ⊢
  exact key

theorem arr5_eq (c : Dev nD) : (dats m 0 c).arrAt 5 cfg0.N = G5 (X0 m c) (X1 m c) (X2 m c) (X3 m c) := by
  refine (dats m 0 c).arrAt_eq_of_covers 5 _ (by decide +kernel) fun t hf y => ?_
  rw [after0_5]
  have e := (idx_facts t).2.2.2.2.2
  obtain ⟨r, s, rfl⟩ : ∃ (r : Fin 512) (s : Fin 2048), y = ix2 r s := ⟨y 0, y 1, eq_ix2 y⟩
  have h0 : ((((cfg0.win 5).blk t).view.emb (ix2 r s)) 0).val = 512 * (t.val) + r.val := by
    show win0_5.index t (0 : Fin 2) * 512 + 1 * r.val = _
    rw [e.1]; omega
  have h1 : ((((cfg0.win 5).blk t).view.emb (ix2 r s)) 1).val = s.val := by
    show win0_5.index t (1 : Fin 2) * 2048 + 1 * s.val = _
    rw [e.2]; omega
  have key := out5_eq (iblk m c 0 t) (iblk m c 1 t) (iblk m c 2 t) (iblk m c 3 t) (ix2 r s)
  unfold B5 at key
  have k0 : (((ix2 r s : S512x2048.Idx) 0).val) = r.val := rfl
  have k1 : (((ix2 r s : S512x2048.Idx) 1).val) = s.val := rfl
  rw [k0, k1, hid_blk m c t r.val s.val r.isLt s.isLt, rinv_congr _ _ (fun k => hid_blk m c t r.val k.val r.isLt k.isLt), blk3 m c t 0 s.val (by omega) s.isLt] at key
  unfold G5
  rw [h0, h1]
  generalize out0_5 (iblk m c 0 t) (iblk m c 1 t) (iblk m c 2 t) (iblk m c 3 t) = Z at key ⊢
  exact key

end Cert.MmOutIdeal.Prod

namespace Cert.MmOutRefIdeal.Prod

open Cert.MmOutRefIdeal Cert.MmOutRefIdeal.Read Cert.Common
open Idealize.ShloMosaic Idealize.ShloMosaic.TcCoe
open Cert.MmOutIdeal.Prod (G4 G5 hid rinv rinv_congr)

/-- WHAT THE REFERENCE COMPUTES: the same residual stream … -/
theorem v3_apply (x0 : S8192x2048.Idx → EReal) (x1 : S2048x2048.Idx → EReal) (x2 : S8192x2048.Idx → EReal) (i : S8192x2048.Idx) :
    @Eq EReal (val_main_v3 (F := Ideal) x0 x1 x2 i) (hid (A := 8192) x0 x1 x2 (i 0).val (i 1).val) := by
  rw [val_main_v3_apply, val_main_v2_apply]
  show x2 i + _ = _
  unfold hid
  refine congrArg₂ (· + ·) (eq_rd x2 i (i 0).val (i 1).val rfl rfl) (Finset.sum_congr rfl fun k _ => ?_)
  rw [val_main_v0_apply, val_main_v1_apply, Ideal.extf_def, Ideal.extf_def]
  exact congrArg₂ (· * ·) (eq_rd x0 _ (i 0).val k.val rfl rfl) (eq_rd x1 _ k.val (i 1).val rfl rfl)

theorem ref4_eq (x0 : S8192x2048.Idx → EReal) (x1 : S2048x2048.Idx → EReal) (x2 : S8192x2048.Idx → EReal) :
    (val_main_v3 (F := Ideal) x0 x1 x2 : S8192x2048.Idx → EReal) = G4 x0 x1 x2 := funext fun i => v3_apply x0 x1 x2 i

/-- … and the same norm. -/
theorem ref5_eq (x0 : S8192x2048.Idx → EReal) (x1 : S2048x2048.Idx → EReal) (x2 : S8192x2048.Idx → EReal) (x3 : S1x2048.Idx → EReal) :
    (val_main_v16 (F := Ideal) x0 x1 x2 x3 : S8192x2048.Idx → EReal) = G5 x0 x1 x2 x3 := funext fun i => by
  rw [val_main_v16_apply, Ideal.truncf_def, val_main_v15_apply, val_main_v14_apply, val_main_v13_apply, val_main_v12_apply, val_main_v11_apply,
    val_main_v10_apply, val_main_v9_apply, val_main_v8_apply, val_main_v7_apply, val_main_v6_apply, val_main_v5_apply, v3_apply]
  unfold G5
  refine congrArg₂ (· * ·) (congrArg _ ?_) (eq_rd x3 _ 0 (i 1).val rfl rfl)
  show Ideal.rsqrt (Ideal.div (Ideal.ofBits .f32 0x00000000#32 + ∑ k : Fin 2048, _) (Ideal.ofBits .f32 0x45000000#32) + Ideal.ofBits .f32 0x358637BD#32) = _
  rw [Ideal.ofBits_zero_f32, zero_add]
  unfold rinv
  refine congrArg (fun z => Ideal.rsqrt (Ideal.div z _ + _)) (Finset.sum_congr rfl fun k _ => ?_)
  rw [val_main_v4_apply, v3_apply]
  rfl

end Cert.MmOutRefIdeal.Prod

end
-- ==== Proof.MmGateUp.lean ====
/- The SwiGLU's two products and their activation: what one block of the kernel computes, what its result array holds, and that the
   reference holds the same. -/
module

public import proofs.«01_k».proof.Proof.Common
public import proofs.«01_k».proof.Proof.Gen.MmGateUpIdeal.Value
public import proofs.«01_k».proof.Proof.Gen.MmGateUpRefIdeal.Read

@[expose] public section

set_option maxRecDepth 16384

noncomputable section

namespace Cert.MmGateUpIdeal.Prod

open Cert.MmGateUpIdeal Cert.MmGateUpIdeal.Gen Cert.MmGateUpIdeal.Value Cert.Common
open Idealize.ShloMosaic Idealize.ShloMosaic.TcCoe Idealize.SL.Sem

/-- The activation at one place: the gate's half times its logistic, times the other half. -/
def act (g u : EReal) : EReal := g * Ideal.logistic g * u

/-- A product at row `r` and column `s`. -/
def prod {A K B : ℕ} [NeZero A] [NeZero K] [NeZero B] (x : (⟨2, ![A, K]⟩ : Shape).Idx → EReal) (w : (⟨2, ![K, B]⟩ : Shape).Idx → EReal) (r s : ℕ) : EReal :=
  ∑ k : Fin K, rd x r k.val * rd w k.val s

/-- What the kernel computes of one sub-block: a product … -/
theorem pay7_apply (a : Vec Ideal S256x2048 .bf16) (b : Vec Ideal S2048x512 .bf16) (r : Fin 256) (s : Fin 512) :
    @Eq EReal (k0_pay7 a b (ix2 r s)) (∑ k : Fin 2048, (a (ix2 r k) : EReal) * b (ix2 k s)) := by
  unfold k0_pay7 k0_pay5
  pointwise

/-- … and the activation of two products. -/
theorem pay9_apply (a : Vec Ideal S256x2048 .bf16) (b : Vec Ideal S2048x512 .bf16) (a' : Vec Ideal S256x2048 .bf16) (b' : Vec Ideal S2048x512 .bf16) (r : Fin 256) (s : Fin 512) :
    @Eq EReal (k0_pay9 a b a' b' (ix2 r s)) (act (∑ k : Fin 2048, (a (ix2 r k) : EReal) * b (ix2 k s)) (∑ k : Fin 2048, (a' (ix2 r k) : EReal) * b' (ix2 k s))) := by
  unfold k0_pay9 k0_pay5 k0_pay6 act
  pointwise

/-- A row range of the activations' block, read at a place. -/
theorem ld_a (o : ℕ) (x : Vec Ideal S1024x2048 .bf16) (h) (r : Fin 256) (k : Fin 2048) :
    @Eq EReal (View.ld x (Rect.unit (s := S1024x2048) ![o, 0] S256x2048.size h) (ix2 r k)) (rd x (o + r.val) k.val) := by
  refine eq_rd (x : S1024x2048.Idx → EReal) ((Rect.unit (s := S1024x2048) ![o, 0] S256x2048.size h).emb (ix2 r k)) _ _ ?_ ?_
  · show o + 1 * r.val = _
    omega
  · show 0 + 1 * k.val = _
    omega

theorem prod_rows (o : ℕ) (x0 : Vec Ideal S1024x2048 .bf16) (x1 : Vec Ideal S2048x512 .bf16) (h) (r : Fin 256) (s : Fin 512) :
    (∑ k : Fin 2048, (View.ld x0 (Rect.unit (s := S1024x2048) ![o, 0] S256x2048.size h) (ix2 r k) : EReal) * x1 (ix2 k s))
      = prod (A := 1024) (K := 2048) (B := 512) x0 x1 (o + r.val) s.val := by
  refine Finset.sum_congr rfl fun k _ => ?_
  rw [ld_a]
  exact congrArg _ (eq_rd (x1 : S2048x512.Idx → EReal) (ix2 k s) k.val s.val rfl rfl)

/-- A block of a product, and of the activation, as functions of the block's index. -/
def B4 (x0 : S1024x2048.Idx → EReal) (x1 : S2048x512.Idx → EReal) : S1024x512.Idx → EReal := fun y =>
  prod (A := 1024) (K := 2048) (B := 512) x0 x1 (y 0).val (y 1).val
def B6 (x0 : S1024x2048.Idx → EReal) (x1 : S2048x512.Idx → EReal) (x2 : S1024x2048.Idx → EReal) (x3 : S2048x512.Idx → EReal) : S1024x512.Idx → EReal := fun y =>
  act (prod (A := 1024) (K := 2048) (B := 512) x0 x1 (y 0).val (y 1).val) (prod (A := 1024) (K := 2048) (B := 512) x2 x3 (y 0).val (y 1).val)

/-- Each stored sub-block is its rows of the block. -/
theorem piece4 (o : ℕ) (x0 : Vec Ideal S1024x2048 .bf16) (x1 : Vec Ideal S2048x512 .bf16) (h h') (y : S256x512.Idx) :
    @Eq EReal (k0_pay7 (View.ld x0 (Rect.unit (s := S1024x2048) ![o, 0] S256x2048.size h)) x1 y)
      (B4 x0 x1 ((Rect.unit (s := S1024x512) ![o, 0] S256x512.size h').emb y)) := by
  obtain ⟨r, s, rfl⟩ : ∃ (r : Fin 256) (s : Fin 512), y = ix2 r s := ⟨y 0, y 1, eq_ix2 y⟩
  have h0 : (((Rect.unit (s := S1024x512) ![o, 0] S256x512.size h').emb (ix2 r s)) 0).val = o + r.val := by
    show o + 1 * r.val = _
    omega
  have h1 : (((Rect.unit (s := S1024x512) ![o, 0] S256x512.size h').emb (ix2 r s)) 1).val = s.val := by
    show 0 + 1 * s.val = _
    omega
  unfold B4
  rw [h0, h1, pay7_apply, prod_rows]

theorem piece6 (o : ℕ) (x0 : Vec Ideal S1024x2048 .bf16) (x1 : Vec Ideal S2048x512 .bf16) (x2 : Vec Ideal S1024x2048 .bf16) (x3 : Vec Ideal S2048x512 .bf16) (h h') (y : S256x512.Idx) :
    @Eq EReal (k0_pay9 (View.ld x0 (Rect.unit (s := S1024x2048) ![o, 0] S256x2048.size h)) x1 (View.ld x2 (Rect.unit (s := S1024x2048) ![o, 0] S256x2048.size h)) x3 y)
      (B6 x0 x1 x2 x3 ((Rect.unit (s := S1024x512) ![o, 0] S256x512.size h').emb y)) := by
  obtain ⟨r, s, rfl⟩ : ∃ (r : Fin 256) (s : Fin 512), y = ix2 r s := ⟨y 0, y 1, eq_ix2 y⟩
  have h0 : (((Rect.unit (s := S1024x512) ![o, 0] S256x512.size h').emb (ix2 r s)) 0).val = o + r.val := by
    show o + 1 * r.val = _
    omega
  have h1 : (((Rect.unit (s := S1024x512) ![o, 0] S256x512.size h').emb (ix2 r s)) 1).val = s.val := by
    show 0 + 1 * s.val = _
    omega
  unfold B6
  rw [h0, h1, pay9_apply, prod_rows, prod_rows]

/-- WHAT ONE BLOCK HOLDS: the four sub-blocks are the one function's rows. -/
theorem out4_eq (x0 : Vec Ideal S1024x2048 .bf16) (x1 : Vec Ideal S2048x512 .bf16) (x2 : Vec Ideal S1024x2048 .bf16) (x3 : Vec Ideal S2048x512 .bf16) (y : S1024x512.Idx) :
    @Eq EReal (out0_4 x0 x1 x2 x3 y) (B4 x0 x1 y) := by
  unfold_out out0_4
  simp only [View.ld_unit_zero (S := S2048x512) off2]
  refine View.canon_apply_of_pieces (Val := Elt Ideal) (e := .bf16) (B4 x0 x1) _ ?_ y (cover0_4 _ _ _ _ y)
  simp only [List.forall_mem_cons, List.not_mem_nil, false_imp_iff, implies_true, and_true]
  exact ⟨fun z => piece4 768 x0 x1 _ _ z, fun z => piece4 512 x0 x1 _ _ z, fun z => piece4 256 x0 x1 _ _ z, fun z => piece4 0 x0 x1 _ _ z⟩

/-- WHAT ONE BLOCK HOLDS: the four sub-blocks are the one function's rows. -/
theorem out5_eq (x0 : Vec Ideal S1024x2048 .bf16) (x1 : Vec Ideal S2048x512 .bf16) (x2 : Vec Ideal S1024x2048 .bf16) (x3 : Vec Ideal S2048x512 .bf16) (y : S1024x512.Idx) :
    @Eq EReal (out0_5 x0 x1 x2 x3 y) (B4 x2 x3 y) := by
  unfold_out out0_5
  simp only [View.ld_unit_zero (S := S2048x512) off2]
  refine View.canon_apply_of_pieces (Val := Elt Ideal) (e := .bf16) (B4 x2 x3) _ ?_ y (cover0_5 _ _ _ _ y)
  simp only [List.forall_mem_cons, List.not_mem_nil, false_imp_iff, implies_true, and_true]
  exact ⟨fun z => piece4 768 x2 x3 _ _ z, fun z => piece4 512 x2 x3 _ _ z, fun z => piece4 256 x2 x3 _ _ z, fun z => piece4 0 x2 x3 _ _ z⟩

/-- WHAT ONE BLOCK HOLDS: the four sub-blocks are the one function's rows. -/
theorem out6_eq (x0 : Vec Ideal S1024x2048 .bf16) (x1 : Vec Ideal S2048x512 .bf16) (x2 : Vec Ideal S1024x2048 .bf16) (x3 : Vec Ideal S2048x512 .bf16) (y : S1024x512.Idx) :
    @Eq EReal (out0_6 x0 x1 x2 x3 y) (B6 x0 x1 x2 x3 y) := by
  unfold_out out0_6
  simp only [View.ld_unit_zero (S := S2048x512) off2]
  refine View.canon_apply_of_pieces (Val := Elt Ideal) (e := .bf16) (B6 x0 x1 x2 x3) _ ?_ y (cover0_6 _ _ _ _ y)
  simp only [List.forall_mem_cons, List.not_mem_nil, false_imp_iff, implies_true, and_true]
  exact ⟨fun z => piece6 768 x0 x1 x2 x3 _ _ z, fun z => piece6 512 x0 x1 x2 x3 _ _ z, fun z => piece6 256 x0 x1 x2 x3 _ _ z, fun z => piece6 0 x0 x1 x2 x3 _ _ z⟩

variable (m : (ℓ : Loc nD τ sig) → Buf (Elt Ideal) ℓ)

/-- The operands as the launch finds them: the activations and the two weight matrices. -/
abbrev X0 (c : Dev nD) : S8192x2048.Idx → EReal := m ((c : Thread nD τ).loc main_arg0)
abbrev X1 (c : Dev nD) : S2048x5632.Idx → EReal := m ((c : Thread nD τ).loc main_arg1)
abbrev X2 (c : Dev nD) : S2048x5632.Idx → EReal := m ((c : Thread nD τ).loc main_arg2)

/-- Which blocks a grid point reads and writes. -/
theorem idx_facts : ∀ t : Fin cfg0.N, (win0_0.index t (0 : Fin 2) = t.val / 11 ∧ win0_0.index t (1 : Fin 2) = 0)
    ∧ (win0_1.index t (0 : Fin 2) = 0 ∧ win0_1.index t (1 : Fin 2) = t.val % 11)
    ∧ (win0_2.index t (0 : Fin 2) = t.val / 11 ∧ win0_2.index t (1 : Fin 2) = 0)
    ∧ (win0_3.index t (0 : Fin 2) = 0 ∧ win0_3.index t (1 : Fin 2) = t.val % 11)
    ∧ (win0_4.index t (0 : Fin 2) = t.val / 11 ∧ win0_4.index t (1 : Fin 2) = t.val % 11)
    ∧ (win0_5.index t (0 : Fin 2) = t.val / 11 ∧ win0_5.index t (1 : Fin 2) = t.val % 11)
    ∧ (win0_6.index t (0 : Fin 2) = t.val / 11 ∧ win0_6.index t (1 : Fin 2) = t.val % 11) :=
  (by decide +kernel : ∀ t : Fin grid0.N, _)

theorem blk0 (c : Dev nD) (t : Fin cfg0.N) (r k : ℕ) (hr : r < 1024) (hk : k < 2048) :
    rd (iblk m c 0 t : S1024x2048.Idx → EReal) r k = rd (X0 m c) (1024 * (t.val / 11) + r) (k) := by
  have e := (idx_facts t).1
  refine (eq_rd (X0 m c) (((cfg0.win 0).blk t).view.emb (ix2 (Fin.ofNat 1024 r) (Fin.ofNat 2048 k))) _ _ ?_ ?_)
  · show win0_0.index t (0 : Fin 2) * 1024 + 1 * (r % 1024) = _
    rw [e.1]; omega
  · show win0_0.index t (1 : Fin 2) * 2048 + 1 * (k % 2048) = _
    rw [e.2]; omega

theorem blk1 (c : Dev nD) (t : Fin cfg0.N) (r k : ℕ) (hr : r < 2048) (hk : k < 512) :
    rd (iblk m c 1 t : S2048x512.Idx → EReal) r k = rd (X1 m c) (r) (512 * (t.val % 11) + k) := by
  have e := (idx_facts t).2.1
  refine (eq_rd (X1 m c) (((cfg0.win 1).blk t).view.emb (ix2 (Fin.ofNat 2048 r) (Fin.ofNat 512 k))) _ _ ?_ ?_)
  · show win0_1.index t (0 : Fin 2) * 2048 + 1 * (r % 2048) = _
    rw [e.1]; omega
  · show win0_1.index t (1 : Fin 2) * 512 + 1 * (k % 512) = _
    rw [e.2]; omega

theorem blk2 (c : Dev nD) (t : Fin cfg0.N) (r k : ℕ) (hr : r < 1024) (hk : k < 2048) :
    rd (iblk m c 2 t : S1024x2048.Idx → EReal) r k = rd (X0 m c) (1024 * (t.val / 11) + r) (k) := by
  have e := (idx_facts t).2.2.1
  refine (eq_rd (X0 m c) (((cfg0.win 2).blk t).view.emb (ix2 (Fin.ofNat 1024 r) (Fin.ofNat 2048 k))) _ _ ?_ ?_)
  · show win0_2.index t (0 : Fin 2) * 1024 + 1 * (r % 1024) = _
    rw [e.1]; omega
  · show win0_2.index t (1 : Fin 2) * 2048 + 1 * (k % 2048) = _
    rw [e.2]; omega

theorem blk3 (c : Dev nD) (t : Fin cfg0.N) (r k : ℕ) (hr : r < 2048) (hk : k < 512) :
    rd (iblk m c 3 t : S2048x512.Idx → EReal) r k = rd (X2 m c) (r) (512 * (t.val % 11) + k) := by
  have e := (idx_facts t).2.2.2.1
  refine (eq_rd (X2 m c) (((cfg0.win 3).blk t).view.emb (ix2 (Fin.ofNat 2048 r) (Fin.ofNat 512 k))) _ _ ?_ ?_)
  · show win0_3.index t (0 : Fin 2) * 2048 + 1 * (r % 2048) = _
    rw [e.1]; omega
  · show win0_3.index t (1 : Fin 2) * 512 + 1 * (k % 512) = _
    rw [e.2]; omega

/-- The result arrays: a product of the two matrices, and the activation of two. -/
def G4 (X0 : S8192x2048.Idx → EReal) (X1 : S2048x5632.Idx → EReal) : S8192x5632.Idx → EReal := fun i =>
  prod (A := 8192) (K := 2048) (B := 5632) X0 X1 (i 0).val (i 1).val
def G6 (X0 : S8192x2048.Idx → EReal) (X1 X2 : S2048x5632.Idx → EReal) : S8192x5632.Idx → EReal := fun i =>
  act (prod (A := 8192) (K := 2048) (B := 5632) X0 X1 (i 0).val (i 1).val) (prod (A := 8192) (K := 2048) (B := 5632) X0 X2 (i 0).val (i 1).val)

theorem prod_blk (c : Dev nD) (t : Fin cfg0.N) (r s : ℕ) (hr : r < 1024) (hs : s < 512) :
    prod (A := 1024) (K := 2048) (B := 512) (iblk m c 0 t : S1024x2048.Idx → EReal) (iblk m c 1 t : S2048x512.Idx → EReal) r s
      = prod (A := 8192) (K := 2048) (B := 5632) (X0 m c) (X1 m c) (1024 * (t.val / 11) + r) (512 * (t.val % 11) + s) := by
  unfold prod
  refine Finset.sum_congr rfl fun k _ => ?_
  rw [blk0 m c t r k.val hr k.isLt, blk1 m c t k.val s k.isLt hs]

theorem prod_blk' (c : Dev nD) (t : Fin cfg0.N) (r s : ℕ) (hr : r < 1024) (hs : s < 512) :
    prod (A := 1024) (K := 2048) (B := 512) (iblk m c 2 t : S1024x2048.Idx → EReal) (iblk m c 3 t : S2048x512.Idx → EReal) r s
      = prod (A := 8192) (K := 2048) (B := 5632) (X0 m c) (X2 m c) (1024 * (t.val / 11) + r) (512 * (t.val % 11) + s) := by
  unfold prod
  refine Finset.sum_congr rfl fun k _ => ?_
  rw [blk2 m c t r k.val hr k.isLt, blk3 m c t k.val s k.isLt hs]

/-- THE RESULT ARRAYS after the run. -/
theorem arr4_eq (c : Dev nD) : (dats m 0 c).arrAt 4 cfg0.N = G4 (X0 m c) (X1 m c) := by
  refine (dats m 0 c).arrAt_eq_of_covers 4 _ (by decide +kernel) fun t hf y => ?_
  rw [after0_4]
  have e := (idx_facts t).2.2.2.2.1
  obtain ⟨r, s, rfl⟩ : ∃ (r : Fin 1024) (s : Fin 512), y = ix2 r s := ⟨y 0, y 1, eq_ix2 y⟩
  have h0 : ((((cfg0.win 4).blk t).view.emb (ix2 r s)) 0).val = 1024 * (t.val / 11) + r.val := by
    show win0_4.index t (0 : Fin 2) * 1024 + 1 * r.val = _
    rw [e.1]; omega
  have h1 : ((((cfg0.win 4).blk t).view.emb (ix2 r s)) 1).val = 512 * (t.val % 11) + s.val := by
    show win0_4.index t (1 : Fin 2) * 512 + 1 * s.val = _
    rw [e.2]; omega
  have key := out4_eq (iblk m c 0 t) (iblk m c 1 t) (iblk m c 2 t) (iblk m c 3 t) (ix2 r s)
  unfold B4 at key
  have k0 : (((ix2 r s : S1024x512.Idx) 0).val) = r.val := rfl
  have k1 : (((ix2 r s : S1024x512.Idx) 1).val) = s.val := rfl
  rw [k0, k1, prod_blk m c t r.val s.val r.isLt s.isLt] at key
  unfold G4
  rw [h0, h1]
  generalize out0_4 (iblk m c 0 t) (iblk m c 1 t) (iblk m c 2 t) (iblk m c 3 t) = Z at key ⊢
  exact key

theorem arr5_eq (c : Dev nD) : (dats m 0 c).arrAt 5 cfg0.N = G4 (X0 m c) (X2 m c) := by
  refine (dats m 0 c).arrAt_eq_of_covers 5 _ (by decide +kernel) fun t hf y => ?_
  rw [after0_5]
  have e := (idx_facts t).2.2.2.2.2.1
  obtain ⟨r, s, rfl⟩ : ∃ (r : Fin 1024) (s : Fin 512), y = ix2 r s := ⟨y 0, y 1, eq_ix2 y⟩
  have h0 : ((((cfg0.win 5).blk t).view.emb (ix2 r s)) 0).val = 1024 * (t.val / 11) + r.val := by
    show win0_5.index t (0 : Fin 2) * 1024 + 1 * r.val = _
    rw [e.1]; omega
  have h1 : ((((cfg0.win 5).blk t).view.emb (ix2 r s)) 1).val = 512 * (t.val % 11) + s.val := by
    show win0_5.index t (1 : Fin 2) * 512 + 1 * s.val = _
    rw [e.2]; omega
  have key := out5_eq (iblk m c 0 t) (iblk m c 1 t) (iblk m c 2 t) (iblk m c 3 t) (ix2 r s)
  unfold B4 at key
  have k0 : (((ix2 r s : S1024x512.Idx) 0).val) = r.val := rfl
  have k1 : (((ix2 r s : S1024x512.Idx) 1).val) = s.val := rfl
  rw [k0, k1, prod_blk' m c t r.val s.val r.isLt s.isLt] at key
  unfold G4
  rw [h0, h1]
  generalize out0_5 (iblk m c 0 t) (iblk m c 1 t) (iblk m c 2 t) (iblk m c 3 t) = Z at key ⊢
  exact key

theorem arr6_eq (c : Dev nD) : (dats m 0 c).arrAt 6 cfg0.N = G6 (X0 m c) (X1 m c) (X2 m c) := by
  refine (dats m 0 c).arrAt_eq_of_covers 6 _ (by decide +kernel) fun t hf y => ?_
  rw [after0_6]
  have e := (idx_facts t).2.2.2.2.2.2
  obtain ⟨r, s, rfl⟩ : ∃ (r : Fin 1024) (s : Fin 512), y = ix2 r s := ⟨y 0, y 1, eq_ix2 y⟩
  have h0 : ((((cfg0.win 6).blk t).view.emb (ix2 r s)) 0).val = 1024 * (t.val / 11) + r.val := by
    show win0_6.index t (0 : Fin 2) * 1024 + 1 * r.val = _
    rw [e.1]; omega
  have h1 : ((((cfg0.win 6).blk t).view.emb (ix2 r s)) 1).val = 512 * (t.val % 11) + s.val := by
    show win0_6.index t (1 : Fin 2) * 512 + 1 * s.val = _
    rw [e.2]; omega
  have key := out6_eq (iblk m c 0 t) (iblk m c 1 t) (iblk m c 2 t) (iblk m c 3 t) (ix2 r s)
  unfold B6 at key
  have k0 : (((ix2 r s : S1024x512.Idx) 0).val) = r.val := rfl
  have k1 : (((ix2 r s : S1024x512.Idx) 1).val) = s.val := rfl
  rw [k0, k1, prod_blk m c t r.val s.val r.isLt s.isLt, prod_blk' m c t r.val s.val r.isLt s.isLt] at key
  unfold G6
  rw [h0, h1]
  generalize out0_6 (iblk m c 0 t) (iblk m c 1 t) (iblk m c 2 t) (iblk m c 3 t) = Z at key ⊢
  exact key

end Cert.MmGateUpIdeal.Prod

namespace Cert.MmGateUpRefIdeal.Prod

open Cert.MmGateUpRefIdeal Cert.MmGateUpRefIdeal.Read Cert.Common
open Idealize.ShloMosaic Idealize.ShloMosaic.TcCoe
open Cert.MmGateUpIdeal.Prod (G4 G6 act prod)

/-- The reference's two products. -/
theorem v2_eq (x0 : S8192x2048.Idx → EReal) (x1 : S2048x5632.Idx → EReal) (i : S8192x5632.Idx) :
    @Eq EReal (val_main_v2 (F := Ideal) x0 x1 i) (G4 x0 x1 i) := by
  rw [val_main_v2_apply]
  unfold G4 prod
  refine Finset.sum_congr rfl fun k _ => ?_
  rw [val_main_v0_apply, val_main_v1_apply, Ideal.extf_def, Ideal.extf_def]
  exact congrArg₂ (· * ·) (eq_rd x0 _ (i 0).val k.val rfl rfl) (eq_rd x1 _ k.val (i 1).val rfl rfl)
theorem v5_eq (x0 : S8192x2048.Idx → EReal) (x2 : S2048x5632.Idx → EReal) (i : S8192x5632.Idx) :
    @Eq EReal (val_main_v5 (F := Ideal) x0 x2 i) (G4 x0 x2 i) := by
  rw [val_main_v5_apply]
  unfold G4 prod
  refine Finset.sum_congr rfl fun k _ => ?_
  rw [val_main_v3_apply, val_main_v4_apply, Ideal.extf_def, Ideal.extf_def]
  exact congrArg₂ (· * ·) (eq_rd x0 _ (i 0).val k.val rfl rfl) (eq_rd x2 _ k.val (i 1).val rfl rfl)

/-- WHAT THE REFERENCE COMPUTES: the same products … -/
theorem ref4_eq (x0 : S8192x2048.Idx → EReal) (x1 : S2048x5632.Idx → EReal) :
    (val_main_v6 (F := Ideal) x0 x1 : S8192x5632.Idx → EReal) = G4 x0 x1 := funext fun i => by
  rw [val_main_v6_apply, Ideal.truncf_def, v2_eq]
theorem ref5_eq (x0 : S8192x2048.Idx → EReal) (x2 : S2048x5632.Idx → EReal) :
    (val_main_v7 (F := Ideal) x0 x2 : S8192x5632.Idx → EReal) = G4 x0 x2 := funext fun i => by
  rw [val_main_v7_apply, Ideal.truncf_def, v5_eq]

/-- … and the same activation. -/
theorem ref6_eq (x0 : S8192x2048.Idx → EReal) (x1 x2 : S2048x5632.Idx → EReal) :
    (val_main_v10 (F := Ideal) x0 x1 x2 : S8192x5632.Idx → EReal) = G6 x0 x1 x2 := funext fun i => by
  rw [val_main_v10_apply, Ideal.truncf_def, val_main_v9_apply, val_main_v8_apply, val_main_call0_v5_apply, val_main_call0_v4_apply,
    val_main_call0_v3_apply, val_main_call0_v2_apply, val_main_call0_v1_apply, val_main_call0_v0_apply, val_main_call0_cst_apply, val_main_call0_cst_0_apply,
    v2_eq, v5_eq]
  show (G4 x0 x1 i * Ideal.div (Ideal.ofBits .f32 0x3F800000#32) (Ideal.ofBits .f32 0x3F800000#32 + Ideal.exp (-(G4 x0 x1 i)))) * G4 x0 x2 i = _
  rw [Ideal.ofBits_one_f32]
  rfl

end Cert.MmGateUpRefIdeal.Prod

end
-- ==== Proof.MmDown.lean ====
/- The down projection and its residual: what one block of the kernel computes, what its result array holds, and that the
   reference holds the same. -/
module

public import proofs.«01_k».proof.Proof.Common
public import proofs.«01_k».proof.Proof.Gen.MmDownIdeal.Value
public import proofs.«01_k».proof.Proof.Gen.MmDownRefIdeal.Read

@[expose] public section

set_option maxRecDepth 16384

noncomputable section

namespace Cert.MmDownIdeal.Prod

open Cert.MmDownIdeal Cert.MmDownIdeal.Gen Cert.MmDownIdeal.Value Cert.Common
open Idealize.ShloMosaic Idealize.ShloMosaic.TcCoe Idealize.SL.Sem

/-- What one block holds: the residual plus a row of the activations times a column of the weights. -/
theorem out_apply (x0 : Vec Ideal S512x5632 .bf16) (x1 : Vec Ideal S5632x1024 .bf16) (x2 : Vec Ideal S512x1024 .f32)
    (r : Fin 512) (s : Fin 1024) :
    @Eq EReal (out0_3 x0 x1 x2 (ix2 r s))
      ((x2 (ix2 r s) : EReal) + ∑ k : Fin 5632, (x0 (ix2 r k) : EReal) * x1 (ix2 k s)) := by
  unfold out0_3
  rw [View.canon_unit_zero off2]
  simp only [View.ld_unit_zero (S := S512x5632) off2, View.ld_unit_zero (S := S5632x1024) off2, View.ld_unit_zero (S := S512x1024) off2]
  unfold k0_pay1
  pointwise
  exact add_comm _ _

variable (m : (ℓ : Loc nD τ sig) → Buf (Elt Ideal) ℓ)

/-- The operands as the launch finds them: the activations, the weights and the residual. -/
abbrev X0 (c : Dev nD) : S8192x5632.Idx → EReal := m ((c : Thread nD τ).loc main_arg0)
abbrev X1 (c : Dev nD) : S5632x2048.Idx → EReal := m ((c : Thread nD τ).loc main_arg1)
abbrev X2 (c : Dev nD) : S8192x2048.Idx → EReal := m ((c : Thread nD τ).loc main_arg2)

/-- Which blocks a grid point reads and writes. -/
theorem idx_facts : ∀ t : Fin cfg0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (win0_3.index t (0 : Fin 2) = t.val / 2 ∧ win0_3.index t (1 : Fin 2) = t.val % 2) :=
  (by decide +kernel : ∀ t : Fin grid0.N, _)

theorem blk0 (c : Dev nD) (t : Fin cfg0.N) (r : Fin 512) (k : Fin 5632) :
    (iblk m c 0 t : S512x5632.Idx → EReal) (ix2 r k) = rd (X0 m c) (512 * (t.val / 2) + r.val) (k.val) := by
  have e := (idx_facts t).1
  refine (eq_rd (X0 m c) (((cfg0.win 0).blk t).view.emb (ix2 r k)) _ _ ?_ ?_)
  · show win0_0.index t (0 : Fin 2) * 512 + 1 * r.val = _
    rw [e.1]; omega
  · show win0_0.index t (1 : Fin 2) * 5632 + 1 * k.val = _
    rw [e.2]; omega

theorem blk1 (c : Dev nD) (t : Fin cfg0.N) (r : Fin 5632) (k : Fin 1024) :
    (iblk m c 1 t : S5632x1024.Idx → EReal) (ix2 r k) = rd (X1 m c) (r.val) (1024 * (t.val % 2) + k.val) := by
  have e := (idx_facts t).2.1
  refine (eq_rd (X1 m c) (((cfg0.win 1).blk t).view.emb (ix2 r k)) _ _ ?_ ?_)
  · show win0_1.index t (0 : Fin 2) * 5632 + 1 * r.val = _
    rw [e.1]; omega
  · show win0_1.index t (1 : Fin 2) * 1024 + 1 * k.val = _
    rw [e.2]; omega

theorem blk2 (c : Dev nD) (t : Fin cfg0.N) (r : Fin 512) (k : Fin 1024) :
    (iblk m c 2 t : S512x1024.Idx → EReal) (ix2 r k) = rd (X2 m c) (512 * (t.val / 2) + r.val) (1024 * (t.val % 2) + k.val) := by
  have e := (idx_facts t).2.2.1
  refine (eq_rd (X2 m c) (((cfg0.win 2).blk t).view.emb (ix2 r k)) _ _ ?_ ?_)
  · show win0_2.index t (0 : Fin 2) * 512 + 1 * r.val = _
    rw [e.1]; omega
  · show win0_2.index t (1 : Fin 2) * 1024 + 1 * k.val = _
    rw [e.2]; omega

/-- The result array: the residual plus the product of the two matrices. -/
def G (X0 : S8192x5632.Idx → EReal) (X1 : S5632x2048.Idx → EReal) (X2 : S8192x2048.Idx → EReal) : S8192x2048.Idx → EReal := fun i =>
  rd X2 (i 0).val (i 1).val + ∑ k : Fin 5632, rd X0 (i 0).val k.val * rd X1 k.val (i 1).val

/-- THE RESULT ARRAY after the run is `G`. -/
theorem arr_eq (c : Dev nD) : (dats m 0 c).arrAt 3 cfg0.N = G (X0 m c) (X1 m c) (X2 m c) := by
  refine (dats m 0 c).arrAt_eq_of_covers 3 _ (by decide +kernel) fun t hf y => ?_
  rw [after0_3]
  have e := (idx_facts t).2.2.2
  obtain ⟨r, s, rfl⟩ : ∃ (r : Fin 512) (s : Fin 1024), y = ix2 r s := ⟨y 0, y 1, eq_ix2 y⟩
  have h0 : ((((cfg0.win 3).blk t).view.emb (ix2 r s)) 0).val = 512 * (t.val / 2) + r.val := by
    show win0_3.index t (0 : Fin 2) * 512 + 1 * r.val = _
    rw [e.1]; omega
  have h1 : ((((cfg0.win 3).blk t).view.emb (ix2 r s)) 1).val = 1024 * (t.val % 2) + s.val := by
    show win0_3.index t (1 : Fin 2) * 1024 + 1 * s.val = _
    rw [e.2]; omega
  have key := out_apply (iblk m c 0 t) (iblk m c 1 t) (iblk m c 2 t) r s
  simp only [blk0, blk1, blk2] at key
  unfold G
  rw [h0, h1]
  generalize out0_3 (iblk m c 0 t) (iblk m c 1 t) (iblk m c 2 t) = Z at key ⊢
  exact key

end Cert.MmDownIdeal.Prod

namespace Cert.MmDownRefIdeal.Prod

open Cert.MmDownRefIdeal Cert.MmDownRefIdeal.Read Cert.Common
open Idealize.ShloMosaic Idealize.ShloMosaic.TcCoe

/-- WHAT THE REFERENCE COMPUTES: the same. -/
theorem ref_eq (x0 : S8192x5632.Idx → EReal) (x1 : S5632x2048.Idx → EReal) (x2 : S8192x2048.Idx → EReal) :
    (val_main_v3 (F := Ideal) x0 x1 x2 : S8192x2048.Idx → EReal) = Cert.MmDownIdeal.Prod.G x0 x1 x2 := funext fun i => by
  rw [val_main_v3_apply, val_main_v2_apply, eq_rd x2 i (i 0).val (i 1).val rfl rfl]
  refine congrArg (_ + ·) (Finset.sum_congr rfl fun k _ => ?_)
  rw [val_main_v0_apply, val_main_v1_apply, Ideal.extf_def, Ideal.extf_def,
    eq_rd x0 _ (i 0).val k.val rfl rfl, eq_rd x1 _ k.val (i 1).val rfl rfl]

end Cert.MmDownRefIdeal.Prod

end
-- ==== Proof.AdamStep.lean ====
/- One AdamW step at one place, as the extended reals compute it: the two moments and the update. Every shape's module states
   its arrays by these three functions. -/
module

public import proofs.«01_k».proof.Proof.Common

@[expose] public section

noncomputable section

namespace Cert.Adam

open Idealize.ShloMosaic

/-- A single-precision literal. -/
abbrev lit (b : BitVec 32) : EReal := FloatOps.ofBits (F := Ideal) .f32 b

/-- The first moment: nine tenths of the old one and a tenth of the gradient. -/
def mom (g m : EReal) : EReal := lit 0x3F666666#32 * m + lit 0x3DCCCCCD#32 * g

/-- The second moment, of the gradient's square. -/
def sec (g v : EReal) : EReal := lit 0x3F7FBE77#32 * v + lit 0x3A83126F#32 * (g * g)

/-- The update: minus the rate times the corrected first moment over the root of the corrected second, and the decay. -/
def upd (w g m v : EReal) : EReal :=
  lit 0xBA83126F#32 * (Ideal.div (Ideal.div (mom g m) (lit 0x3F26BD02#32))
    (Ideal.sqrt (Ideal.div (sec g v) (lit 0x3C231ACC#32)) + lit 0x322BCC77#32) + lit 0x3C23D70A#32 * w)

end Cert.Adam

end
-- ==== Proof.AdamIn.lean ====
/- AdamW's call for the input projection's weights: what one block of the kernel computes, what its four result arrays hold, and
   that the reference holds the same. -/
module

public import proofs.«01_k».proof.Proof.AdamStep
public import proofs.«01_k».proof.Proof.Gen.AdamInIdeal.Value
public import proofs.«01_k».proof.Proof.Gen.AdamInRefIdeal.Read

@[expose] public section

set_option maxRecDepth 16384

noncomputable section

namespace Cert.AdamInIdeal.Prod

open Cert.AdamInIdeal Cert.AdamInIdeal.Gen Cert.AdamInIdeal.Value Cert.Common Cert.Adam
open Idealize.ShloMosaic Idealize.ShloMosaic.TcCoe Idealize.SL.Sem

/-- One block of the update, of the two moments and of the gradient's copy, place by place. -/
theorem out4_eq (w g m v : Vec Ideal S256x1280 .f32) (y : S256x1280.Idx) : @Eq EReal (out0_4 w g m v y) (upd (w y) (g y) (m y) (v y)) := by
  unfold out0_4
  rw [View.canon_unit_zero off2]
  simp only [View.ld_unit_zero (S := S256x1280) off2]
  rfl

theorem out5_eq (w g m v : Vec Ideal S256x1280 .f32) (y : S256x1280.Idx) : @Eq EReal (out0_5 w g m v y) (mom (g y) (m y)) := by
  unfold out0_5
  rw [View.canon_unit_zero off2]
  simp only [View.ld_unit_zero (S := S256x1280) off2]
  rfl

theorem out6_eq (w g m v : Vec Ideal S256x1280 .f32) (y : S256x1280.Idx) : @Eq EReal (out0_6 w g m v y) (sec (g y) (v y)) := by
  unfold out0_6
  rw [View.canon_unit_zero off2]
  simp only [View.ld_unit_zero (S := S256x1280) off2]
  rfl

theorem out7_eq (w g m v : Vec Ideal S256x1280 .f32) (y : S256x1280.Idx) : @Eq EReal (out0_7 w g m v y) (g y) := by
  unfold out0_7
  rw [View.canon_unit_zero off2]
  exact congrFun (View.ld_unit_zero (S := S256x1280) off2 _ g) y

variable (m : (ℓ : Loc nD τ sig) → Buf (Elt Ideal) ℓ)

/-- The operands as the launch finds them: the weight, its gradient and its two moments. -/
abbrev X0 (c : Dev nD) : S2048x1280.Idx → EReal := m ((c : Thread nD τ).loc main_arg0)
abbrev X1 (c : Dev nD) : S2048x1280.Idx → EReal := m ((c : Thread nD τ).loc main_arg1)
abbrev X2 (c : Dev nD) : S2048x1280.Idx → EReal := m ((c : Thread nD τ).loc main_arg2)
abbrev X3 (c : Dev nD) : S2048x1280.Idx → EReal := m ((c : Thread nD τ).loc main_arg3)

/-- The result arrays, place by place. -/
def G4 (X0 X1 X2 X3 : S2048x1280.Idx → EReal) : S2048x1280.Idx → EReal := fun i => upd (X0 i) (X1 i) (X2 i) (X3 i)
def G5 (X1 X2 : S2048x1280.Idx → EReal) : S2048x1280.Idx → EReal := fun i => mom (X1 i) (X2 i)
def G6 (X1 X3 : S2048x1280.Idx → EReal) : S2048x1280.Idx → EReal := fun i => sec (X1 i) (X3 i)
def G7 (X1 : S2048x1280.Idx → EReal) : S2048x1280.Idx → EReal := X1

/-- THE RESULT ARRAYS after the run: every window's block lies at the same place of its array. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4]
  have key := out4_eq (iblk m c 0 t) (iblk m c 1 t) (iblk m c 2 t) (iblk m c 3 t) y
  generalize out0_4 (iblk m c 0 t) (iblk m c 1 t) (iblk m c 2 t) (iblk m c 3 t) = Z at key ⊢
  exact key

theorem arr5_eq (c : Dev nD) : (dats m 0 c).arrAt 5 cfg0.N = G5 (X1 m c) (X2 m c) := by
  refine (dats m 0 c).arrAt_eq_of_covers 5 _ (by decide +kernel) fun t hf y => ?_
  rw [after0_5]
  have key := out5_eq (iblk m c 0 t) (iblk m c 1 t) (iblk m c 2 t) (iblk m c 3 t) y
  generalize out0_5 (iblk m c 0 t) (iblk m c 1 t) (iblk m c 2 t) (iblk m c 3 t) = Z at key ⊢
  exact key

theorem arr6_eq (c : Dev nD) : (dats m 0 c).arrAt 6 cfg0.N = G6 (X1 m c) (X3 m c) := by
  refine (dats m 0 c).arrAt_eq_of_covers 6 _ (by decide +kernel) fun t hf y => ?_
  rw [after0_6]
  have key := out6_eq (iblk m c 0 t) (iblk m c 1 t) (iblk m c 2 t) (iblk m c 3 t) y
  generalize out0_6 (iblk m c 0 t) (iblk m c 1 t) (iblk m c 2 t) (iblk m c 3 t) = Z at key ⊢
  exact key

theorem arr7_eq (c : Dev nD) : (dats m 0 c).arrAt 7 cfg0.N = G7 (X1 m c) := by
  refine (dats m 0 c).arrAt_eq_of_covers 7 _ (by decide +kernel) fun t hf y => ?_
  rw [after0_7]
  have key := out7_eq (iblk m c 0 t) (iblk m c 1 t) (iblk m c 2 t) (iblk m c 3 t) y
  generalize out0_7 (iblk m c 0 t) (iblk m c 1 t) (iblk m c 2 t) (iblk m c 3 t) = Z at key ⊢
  exact key

end Cert.AdamInIdeal.Prod

namespace Cert.AdamInRefIdeal.Prod

open Cert.AdamInRefIdeal Cert.AdamInRefIdeal.Read Cert.Adam
open Idealize.ShloMosaic Idealize.ShloMosaic.TcCoe

/-- WHAT THE REFERENCE COMPUTES: the same, place by place. -/
theorem ref4_eq (x0 x1 x2 x3 : S2048x1280.Idx → EReal) :
    (val_main_v23 (F := Ideal) x0 x1 x2 x3 : S2048x1280.Idx → EReal) = Cert.AdamInIdeal.Prod.G4 x0 x1 x2 x3 := funext fun i => rfl
theorem ref5_eq (x1 x2 : S2048x1280.Idx → EReal) :
    (val_main_v4 (F := Ideal) x1 x2 : S2048x1280.Idx → EReal) = Cert.AdamInIdeal.Prod.G5 x1 x2 := funext fun i => rfl
theorem ref6_eq (x1 x3 : S2048x1280.Idx → EReal) :
    (val_main_v10 (F := Ideal) x1 x3 : S2048x1280.Idx → EReal) = Cert.AdamInIdeal.Prod.G6 x1 x3 := funext fun i => rfl

end Cert.AdamInRefIdeal.Prod

end
-- ==== Proof.AdamOut.lean ====
/- AdamW's call for the output projection's and the per-layer gate's weights: what one block of the kernel computes, what its four result arrays hold, and
   that the reference holds the same. -/
module

public import proofs.«01_k».proof.Proof.AdamStep
public import proofs.«01_k».proof.Proof.Gen.AdamOutIdeal.Value
public import proofs.«01_k».proof.Proof.Gen.AdamOutRefIdeal.Read

@[expose] public section

set_option maxRecDepth 16384

noncomputable section

namespace Cert.AdamOutIdeal.Prod

open Cert.AdamOutIdeal Cert.AdamOutIdeal.Gen Cert.AdamOutIdeal.Value Cert.Common Cert.Adam
open Idealize.ShloMosaic Idealize.ShloMosaic.TcCoe Idealize.SL.Sem

/-- One block of the update, of the two moments and of the gradient's copy, place by place. -/
theorem out4_eq (w g m v : Vec Ideal S256x2048 .f32) (y : S256x2048.Idx) : @Eq EReal (out0_4 w g m v y) (upd (w y) (g y) (m y) (v y)) := by
  unfold out0_4
  rw [View.canon_unit_zero off2]
  simp only [View.ld_unit_zero (S := S256x2048) off2]
  rfl

theorem out5_eq (w g m v : Vec Ideal S256x2048 .f32) (y : S256x2048.Idx) : @Eq EReal (out0_5 w g m v y) (mom (g y) (m y)) := by
  unfold out0_5
  rw [View.canon_unit_zero off2]
  simp only [View.ld_unit_zero (S := S256x2048) off2]
  rfl

theorem out6_eq (w g m v : Vec Ideal S256x2048 .f32) (y : S256x2048.Idx) : @Eq EReal (out0_6 w g m v y) (sec (g y) (v y)) := by
  unfold out0_6
  rw [View.canon_unit_zero off2]
  simp only [View.ld_unit_zero (S := S256x2048) off2]
  rfl

theorem out7_eq (w g m v : Vec Ideal S256x2048 .f32) (y : S256x2048.Idx) : @Eq EReal (out0_7 w g m v y) (g y) := by
  unfold out0_7
  rw [View.canon_unit_zero off2]
  exact congrFun (View.ld_unit_zero (S := S256x2048) off2 _ g) y

variable (m : (ℓ : Loc nD τ sig) → Buf (Elt Ideal) ℓ)

/-- The operands as the launch finds them: the weight, its gradient and its two moments. -/
abbrev X0 (c : Dev nD) : S512x2048.Idx → EReal := m ((c : Thread nD τ).loc main_arg0)
abbrev X1 (c : Dev nD) : S512x2048.Idx → EReal := m ((c : Thread nD τ).loc main_arg1)
abbrev X2 (c : Dev nD) : S512x2048.Idx → EReal := m ((c : Thread nD τ).loc main_arg2)
abbrev X3 (c : Dev nD) : S512x2048.Idx → EReal := m ((c : Thread nD τ).loc main_arg3)

/-- The result arrays, place by place. -/
def G4 (X0 X1 X2 X3 : S512x2048.Idx → EReal) : S512x2048.Idx → EReal := fun i => upd (X0 i) (X1 i) (X2 i) (X3 i)
def G5 (X1 X2 : S512x2048.Idx → EReal) : S512x2048.Idx → EReal := fun i => mom (X1 i) (X2 i)
def G6 (X1 X3 : S512x2048.Idx → EReal) : S512x2048.Idx → EReal := fun i => sec (X1 i) (X3 i)
def G7 (X1 : S512x2048.Idx → EReal) : S512x2048.Idx → EReal := X1

/-- THE RESULT ARRAYS after the run: every window's block lies at the same place of its array. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4]
  have key := out4_eq (iblk m c 0 t) (iblk m c 1 t) (iblk m c 2 t) (iblk m c 3 t) y
  generalize out0_4 (iblk m c 0 t) (iblk m c 1 t) (iblk m c 2 t) (iblk m c 3 t) = Z at key ⊢
  exact key

theorem arr5_eq (c : Dev nD) : (dats m 0 c).arrAt 5 cfg0.N = G5 (X1 m c) (X2 m c) := by
  refine (dats m 0 c).arrAt_eq_of_covers 5 _ (by decide +kernel) fun t hf y => ?_
  rw [after0_5]
  have key := out5_eq (iblk m c 0 t) (iblk m c 1 t) (iblk m c 2 t) (iblk m c 3 t) y
  generalize out0_5 (iblk m c 0 t) (iblk m c 1 t) (iblk m c 2 t) (iblk m c 3 t) = Z at key ⊢
  exact key

theorem arr6_eq (c : Dev nD) : (dats m 0 c).arrAt 6 cfg0.N = G6 (X1 m c) (X3 m c) := by
  refine (dats m 0 c).arrAt_eq_of_covers 6 _ (by decide +kernel) fun t hf y => ?_
  rw [after0_6]
  have key := out6_eq (iblk m c 0 t) (iblk m c 1 t) (iblk m c 2 t) (iblk m c 3 t) y
  generalize out0_6 (iblk m c 0 t) (iblk m c 1 t) (iblk m c 2 t) (iblk m c 3 t) = Z at key ⊢
  exact key

theorem arr7_eq (c : Dev nD) : (dats m 0 c).arrAt 7 cfg0.N = G7 (X1 m c) := by
  refine (dats m 0 c).arrAt_eq_of_covers 7 _ (by decide +kernel) fun t hf y => ?_
  rw [after0_7]
  have key := out7_eq (iblk m c 0 t) (iblk m c 1 t) (iblk m c 2 t) (iblk m c 3 t) y
  generalize out0_7 (iblk m c 0 t) (iblk m c 1 t) (iblk m c 2 t) (iblk m c 3 t) = Z at key ⊢
  exact key

end Cert.AdamOutIdeal.Prod

namespace Cert.AdamOutRefIdeal.Prod

open Cert.AdamOutRefIdeal Cert.AdamOutRefIdeal.Read Cert.Adam
open Idealize.ShloMosaic Idealize.ShloMosaic.TcCoe

/-- WHAT THE REFERENCE COMPUTES: the same, place by place. -/
theorem ref4_eq (x0 x1 x2 x3 : S512x2048.Idx → EReal) :
    (val_main_v23 (F := Ideal) x0 x1 x2 x3 : S512x2048.Idx → EReal) = Cert.AdamOutIdeal.Prod.G4 x0 x1 x2 x3 := funext fun i => rfl
theorem ref5_eq (x1 x2 : S512x2048.Idx → EReal) :
    (val_main_v4 (F := Ideal) x1 x2 : S512x2048.Idx → EReal) = Cert.AdamOutIdeal.Prod.G5 x1 x2 := funext fun i => rfl
theorem ref6_eq (x1 x3 : S512x2048.Idx → EReal) :
    (val_main_v10 (F := Ideal) x1 x3 : S512x2048.Idx → EReal) = Cert.AdamOutIdeal.Prod.G6 x1 x3 := funext fun i => rfl

end Cert.AdamOutRefIdeal.Prod

end
-- ==== Proof.AdamGate.lean ====
/- AdamW's call for the SwiGLU's gate and up weights: what one block of the kernel computes, what its four result arrays hold, and
   that the reference holds the same. -/
module

public import proofs.«01_k».proof.Proof.AdamStep
public import proofs.«01_k».proof.Proof.Gen.AdamGateIdeal.Value
public import proofs.«01_k».proof.Proof.Gen.AdamGateRefIdeal.Read

@[expose] public section

set_option maxRecDepth 16384

noncomputable section

namespace Cert.AdamGateIdeal.Prod

open Cert.AdamGateIdeal Cert.AdamGateIdeal.Gen Cert.AdamGateIdeal.Value Cert.Common Cert.Adam
open Idealize.ShloMosaic Idealize.ShloMosaic.TcCoe Idealize.SL.Sem

/-- One block of the update, of the two moments and of the gradient's copy, place by place. -/
theorem out4_eq (w g m v : Vec Ideal S256x1408 .f32) (y : S256x1408.Idx) : @Eq EReal (out0_4 w g m v y) (upd (w y) (g y) (m y) (v y)) := by
  unfold out0_4
  rw [View.canon_unit_zero off2]
  simp only [View.ld_unit_zero (S := S256x1408) off2]
  rfl

theorem out5_eq (w g m v : Vec Ideal S256x1408 .f32) (y : S256x1408.Idx) : @Eq EReal (out0_5 w g m v y) (mom (g y) (m y)) := by
  unfold out0_5
  rw [View.canon_unit_zero off2]
  simp only [View.ld_unit_zero (S := S256x1408) off2]
  rfl

theorem out6_eq (w g m v : Vec Ideal S256x1408 .f32) (y : S256x1408.Idx) : @Eq EReal (out0_6 w g m v y) (sec (g y) (v y)) := by
  unfold out0_6
  rw [View.canon_unit_zero off2]
  simp only [View.ld_unit_zero (S := S256x1408) off2]
  rfl

theorem out7_eq (w g m v : Vec Ideal S256x1408 .f32) (y : S256x1408.Idx) : @Eq EReal (out0_7 w g m v y) (g y) := by
  unfold out0_7
  rw [View.canon_unit_zero off2]
  exact congrFun (View.ld_unit_zero (S := S256x1408) off2 _ g) y

variable (m : (ℓ : Loc nD τ sig) → Buf (Elt Ideal) ℓ)

/-- The operands as the launch finds them: the weight, its gradient and its two moments. -/
abbrev X0 (c : Dev nD) : S2048x1408.Idx → EReal := m ((c : Thread nD τ).loc main_arg0)
abbrev X1 (c : Dev nD) : S2048x1408.Idx → EReal := m ((c : Thread nD τ).loc main_arg1)
abbrev X2 (c : Dev nD) : S2048x1408.Idx → EReal := m ((c : Thread nD τ).loc main_arg2)
abbrev X3 (c : Dev nD) : S2048x1408.Idx → EReal := m ((c : Thread nD τ).loc main_arg3)

/-- The result arrays, place by place. -/
def G4 (X0 X1 X2 X3 : S2048x1408.Idx → EReal) : S2048x1408.Idx → EReal := fun i => upd (X0 i) (X1 i) (X2 i) (X3 i)
def G5 (X1 X2 : S2048x1408.Idx → EReal) : S2048x1408.Idx → EReal := fun i => mom (X1 i) (X2 i)
def G6 (X1 X3 : S2048x1408.Idx → EReal) : S2048x1408.Idx → EReal := fun i => sec (X1 i) (X3 i)
def G7 (X1 : S2048x1408.Idx → EReal) : S2048x1408.Idx → EReal := X1

/-- THE RESULT ARRAYS after the run: every window's block lies at the same place of its array. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4]
  have key := out4_eq (iblk m c 0 t) (iblk m c 1 t) (iblk m c 2 t) (iblk m c 3 t) y
  generalize out0_4 (iblk m c 0 t) (iblk m c 1 t) (iblk m c 2 t) (iblk m c 3 t) = Z at key ⊢
  exact key

theorem arr5_eq (c : Dev nD) : (dats m 0 c).arrAt 5 cfg0.N = G5 (X1 m c) (X2 m c) := by
  refine (dats m 0 c).arrAt_eq_of_covers 5 _ (by decide +kernel) fun t hf y => ?_
  rw [after0_5]
  have key := out5_eq (iblk m c 0 t) (iblk m c 1 t) (iblk m c 2 t) (iblk m c 3 t) y
  generalize out0_5 (iblk m c 0 t) (iblk m c 1 t) (iblk m c 2 t) (iblk m c 3 t) = Z at key ⊢
  exact key

theorem arr6_eq (c : Dev nD) : (dats m 0 c).arrAt 6 cfg0.N = G6 (X1 m c) (X3 m c) := by
  refine (dats m 0 c).arrAt_eq_of_covers 6 _ (by decide +kernel) fun t hf y => ?_
  rw [after0_6]
  have key := out6_eq (iblk m c 0 t) (iblk m c 1 t) (iblk m c 2 t) (iblk m c 3 t) y
  generalize out0_6 (iblk m c 0 t) (iblk m c 1 t) (iblk m c 2 t) (iblk m c 3 t) = Z at key ⊢
  exact key

theorem arr7_eq (c : Dev nD) : (dats m 0 c).arrAt 7 cfg0.N = G7 (X1 m c) := by
  refine (dats m 0 c).arrAt_eq_of_covers 7 _ (by decide +kernel) fun t hf y => ?_
  rw [after0_7]
  have key := out7_eq (iblk m c 0 t) (iblk m c 1 t) (iblk m c 2 t) (iblk m c 3 t) y
  generalize out0_7 (iblk m c 0 t) (iblk m c 1 t) (iblk m c 2 t) (iblk m c 3 t) = Z at key ⊢
  exact key

end Cert.AdamGateIdeal.Prod

namespace Cert.AdamGateRefIdeal.Prod

open Cert.AdamGateRefIdeal Cert.AdamGateRefIdeal.Read Cert.Adam
open Idealize.ShloMosaic Idealize.ShloMosaic.TcCoe

/-- WHAT THE REFERENCE COMPUTES: the same, place by place. -/
theorem ref4_eq (x0 x1 x2 x3 : S2048x1408.Idx → EReal) :
    (val_main_v23 (F := Ideal) x0 x1 x2 x3 : S2048x1408.Idx → EReal) = Cert.AdamGateIdeal.Prod.G4 x0 x1 x2 x3 := funext fun i => rfl
theorem ref5_eq (x1 x2 : S2048x1408.Idx → EReal) :
    (val_main_v4 (F := Ideal) x1 x2 : S2048x1408.Idx → EReal) = Cert.AdamGateIdeal.Prod.G5 x1 x2 := funext fun i => rfl
theorem ref6_eq (x1 x3 : S2048x1408.Idx → EReal) :
    (val_main_v10 (F := Ideal) x1 x3 : S2048x1408.Idx → EReal) = Cert.AdamGateIdeal.Prod.G6 x1 x3 := funext fun i => rfl

end Cert.AdamGateRefIdeal.Prod

end
-- ==== Proof.AdamDown.lean ====
/- AdamW's call for the down projection's weights: what one block of the kernel computes, what its four result arrays hold, and
   that the reference holds the same. -/
module

public import proofs.«01_k».proof.Proof.AdamStep
public import proofs.«01_k».proof.Proof.Gen.AdamDownIdeal.Value
public import proofs.«01_k».proof.Proof.Gen.AdamDownRefIdeal.Read

@[expose] public section

set_option maxRecDepth 16384

noncomputable section

namespace Cert.AdamDownIdeal.Prod

open Cert.AdamDownIdeal Cert.AdamDownIdeal.Gen Cert.AdamDownIdeal.Value Cert.Common Cert.Adam
open Idealize.ShloMosaic Idealize.ShloMosaic.TcCoe Idealize.SL.Sem

/-- One block of the update, of the two moments and of the gradient's copy, place by place. -/
theorem out4_eq (w g m v : Vec Ideal S176x2048 .f32) (y : S176x2048.Idx) : @Eq EReal (out0_4 w g m v y) (upd (w y) (g y) (m y) (v y)) := by
  unfold out0_4
  rw [View.canon_unit_zero off2]
  simp only [View.ld_unit_zero (S := S176x2048) off2]
  rfl

theorem out5_eq (w g m v : Vec Ideal S176x2048 .f32) (y : S176x2048.Idx) : @Eq EReal (out0_5 w g m v y) (mom (g y) (m y)) := by
  unfold out0_5
  rw [View.canon_unit_zero off2]
  simp only [View.ld_unit_zero (S := S176x2048) off2]
  rfl

theorem out6_eq (w g m v : Vec Ideal S176x2048 .f32) (y : S176x2048.Idx) : @Eq EReal (out0_6 w g m v y) (sec (g y) (v y)) := by
  unfold out0_6
  rw [View.canon_unit_zero off2]
  simp only [View.ld_unit_zero (S := S176x2048) off2]
  rfl

theorem out7_eq (w g m v : Vec Ideal S176x2048 .f32) (y : S176x2048.Idx) : @Eq EReal (out0_7 w g m v y) (g y) := by
  unfold out0_7
  rw [View.canon_unit_zero off2]
  exact congrFun (View.ld_unit_zero (S := S176x2048) off2 _ g) y

variable (m : (ℓ : Loc nD τ sig) → Buf (Elt Ideal) ℓ)

/-- The operands as the launch finds them: the weight, its gradient and its two moments. -/
abbrev X0 (c : Dev nD) : S1408x2048.Idx → EReal := m ((c : Thread nD τ).loc main_arg0)
abbrev X1 (c : Dev nD) : S1408x2048.Idx → EReal := m ((c : Thread nD τ).loc main_arg1)
abbrev X2 (c : Dev nD) : S1408x2048.Idx → EReal := m ((c : Thread nD τ).loc main_arg2)
abbrev X3 (c : Dev nD) : S1408x2048.Idx → EReal := m ((c : Thread nD τ).loc main_arg3)

/-- The result arrays, place by place. -/
def G4 (X0 X1 X2 X3 : S1408x2048.Idx → EReal) : S1408x2048.Idx → EReal := fun i => upd (X0 i) (X1 i) (X2 i) (X3 i)
def G5 (X1 X2 : S1408x2048.Idx → EReal) : S1408x2048.Idx → EReal := fun i => mom (X1 i) (X2 i)
def G6 (X1 X3 : S1408x2048.Idx → EReal) : S1408x2048.Idx → EReal := fun i => sec (X1 i) (X3 i)
def G7 (X1 : S1408x2048.Idx → EReal) : S1408x2048.Idx → EReal := X1

/-- THE RESULT ARRAYS after the run: every window's block lies at the same place of its array. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4]
  have key := out4_eq (iblk m c 0 t) (iblk m c 1 t) (iblk m c 2 t) (iblk m c 3 t) y
  generalize out0_4 (iblk m c 0 t) (iblk m c 1 t) (iblk m c 2 t) (iblk m c 3 t) = Z at key ⊢
  exact key

theorem arr5_eq (c : Dev nD) : (dats m 0 c).arrAt 5 cfg0.N = G5 (X1 m c) (X2 m c) := by
  refine (dats m 0 c).arrAt_eq_of_covers 5 _ (by decide +kernel) fun t hf y => ?_
  rw [after0_5]
  have key := out5_eq (iblk m c 0 t) (iblk m c 1 t) (iblk m c 2 t) (iblk m c 3 t) y
  generalize out0_5 (iblk m c 0 t) (iblk m c 1 t) (iblk m c 2 t) (iblk m c 3 t) = Z at key ⊢
  exact key

theorem arr6_eq (c : Dev nD) : (dats m 0 c).arrAt 6 cfg0.N = G6 (X1 m c) (X3 m c) := by
  refine (dats m 0 c).arrAt_eq_of_covers 6 _ (by decide +kernel) fun t hf y => ?_
  rw [after0_6]
  have key := out6_eq (iblk m c 0 t) (iblk m c 1 t) (iblk m c 2 t) (iblk m c 3 t) y
  generalize out0_6 (iblk m c 0 t) (iblk m c 1 t) (iblk m c 2 t) (iblk m c 3 t) = Z at key ⊢
  exact key

theorem arr7_eq (c : Dev nD) : (dats m 0 c).arrAt 7 cfg0.N = G7 (X1 m c) := by
  refine (dats m 0 c).arrAt_eq_of_covers 7 _ (by decide +kernel) fun t hf y => ?_
  rw [after0_7]
  have key := out7_eq (iblk m c 0 t) (iblk m c 1 t) (iblk m c 2 t) (iblk m c 3 t) y
  generalize out0_7 (iblk m c 0 t) (iblk m c 1 t) (iblk m c 2 t) (iblk m c 3 t) = Z at key ⊢
  exact key

end Cert.AdamDownIdeal.Prod

namespace Cert.AdamDownRefIdeal.Prod

open Cert.AdamDownRefIdeal Cert.AdamDownRefIdeal.Read Cert.Adam
open Idealize.ShloMosaic Idealize.ShloMosaic.TcCoe

/-- WHAT THE REFERENCE COMPUTES: the same, place by place. -/
theorem ref4_eq (x0 x1 x2 x3 : S1408x2048.Idx → EReal) :
    (val_main_v23 (F := Ideal) x0 x1 x2 x3 : S1408x2048.Idx → EReal) = Cert.AdamDownIdeal.Prod.G4 x0 x1 x2 x3 := funext fun i => rfl
theorem ref5_eq (x1 x2 : S1408x2048.Idx → EReal) :
    (val_main_v4 (F := Ideal) x1 x2 : S1408x2048.Idx → EReal) = Cert.AdamDownIdeal.Prod.G5 x1 x2 := funext fun i => rfl
theorem ref6_eq (x1 x3 : S1408x2048.Idx → EReal) :
    (val_main_v10 (F := Ideal) x1 x3 : S1408x2048.Idx → EReal) = Cert.AdamDownIdeal.Prod.G6 x1 x3 := funext fun i => rfl

end Cert.AdamDownRefIdeal.Prod

end
-- ==== Proof.AdamPle.lean ====
/- AdamW's call for the per-layer embedding's weights: what one block of the kernel computes, what its four result arrays hold, and
   that the reference holds the same. -/
module

public import proofs.«01_k».proof.Proof.AdamStep
public import proofs.«01_k».proof.Proof.Gen.AdamPleIdeal.Value
public import proofs.«01_k».proof.Proof.Gen.AdamPleRefIdeal.Read

@[expose] public section

set_option maxRecDepth 16384

noncomputable section

namespace Cert.AdamPleIdeal.Prod

open Cert.AdamPleIdeal Cert.AdamPleIdeal.Gen Cert.AdamPleIdeal.Value Cert.Common Cert.Adam
open Idealize.ShloMosaic Idealize.ShloMosaic.TcCoe Idealize.SL.Sem

/-- One block of the update, of the two moments and of the gradient's copy, place by place. -/
theorem out4_eq (w g m v : Vec Ideal S256x512 .f32) (y : S256x512.Idx) : @Eq EReal (out0_4 w g m v y) (upd (w y) (g y) (m y) (v y)) := by
  unfold out0_4
  rw [View.canon_unit_zero off2]
  simp only [View.ld_unit_zero (S := S256x512) off2]
  rfl

theorem out5_eq (w g m v : Vec Ideal S256x512 .f32) (y : S256x512.Idx) : @Eq EReal (out0_5 w g m v y) (mom (g y) (m y)) := by
  unfold out0_5
  rw [View.canon_unit_zero off2]
  simp only [View.ld_unit_zero (S := S256x512) off2]
  rfl

theorem out6_eq (w g m v : Vec Ideal S256x512 .f32) (y : S256x512.Idx) : @Eq EReal (out0_6 w g m v y) (sec (g y) (v y)) := by
  unfold out0_6
  rw [View.canon_unit_zero off2]
  simp only [View.ld_unit_zero (S := S256x512) off2]
  rfl

theorem out7_eq (w g m v : Vec Ideal S256x512 .f32) (y : S256x512.Idx) : @Eq EReal (out0_7 w g m v y) (g y) := by
  unfold out0_7
  rw [View.canon_unit_zero off2]
  exact congrFun (View.ld_unit_zero (S := S256x512) off2 _ g) y

variable (m : (ℓ : Loc nD τ sig) → Buf (Elt Ideal) ℓ)

/-- The operands as the launch finds them: the weight, its gradient and its two moments. -/
abbrev X0 (c : Dev nD) : S256x512.Idx → EReal := m ((c : Thread nD τ).loc main_arg0)
abbrev X1 (c : Dev nD) : S256x512.Idx → EReal := m ((c : Thread nD τ).loc main_arg1)
abbrev X2 (c : Dev nD) : S256x512.Idx → EReal := m ((c : Thread nD τ).loc main_arg2)
abbrev X3 (c : Dev nD) : S256x512.Idx → EReal := m ((c : Thread nD τ).loc main_arg3)

/-- The result arrays, place by place. -/
def G4 (X0 X1 X2 X3 : S256x512.Idx → EReal) : S256x512.Idx → EReal := fun i => upd (X0 i) (X1 i) (X2 i) (X3 i)
def G5 (X1 X2 : S256x512.Idx → EReal) : S256x512.Idx → EReal := fun i => mom (X1 i) (X2 i)
def G6 (X1 X3 : S256x512.Idx → EReal) : S256x512.Idx → EReal := fun i => sec (X1 i) (X3 i)
def G7 (X1 : S256x512.Idx → EReal) : S256x512.Idx → EReal := X1

/-- THE RESULT ARRAYS after the run: every window's block lies at the same place of its array. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4]
  have key := out4_eq (iblk m c 0 t) (iblk m c 1 t) (iblk m c 2 t) (iblk m c 3 t) y
  generalize out0_4 (iblk m c 0 t) (iblk m c 1 t) (iblk m c 2 t) (iblk m c 3 t) = Z at key ⊢
  exact key

theorem arr5_eq (c : Dev nD) : (dats m 0 c).arrAt 5 cfg0.N = G5 (X1 m c) (X2 m c) := by
  refine (dats m 0 c).arrAt_eq_of_covers 5 _ (by decide +kernel) fun t hf y => ?_
  rw [after0_5]
  have key := out5_eq (iblk m c 0 t) (iblk m c 1 t) (iblk m c 2 t) (iblk m c 3 t) y
  generalize out0_5 (iblk m c 0 t) (iblk m c 1 t) (iblk m c 2 t) (iblk m c 3 t) = Z at key ⊢
  exact key

theorem arr6_eq (c : Dev nD) : (dats m 0 c).arrAt 6 cfg0.N = G6 (X1 m c) (X3 m c) := by
  refine (dats m 0 c).arrAt_eq_of_covers 6 _ (by decide +kernel) fun t hf y => ?_
  rw [after0_6]
  have key := out6_eq (iblk m c 0 t) (iblk m c 1 t) (iblk m c 2 t) (iblk m c 3 t) y
  generalize out0_6 (iblk m c 0 t) (iblk m c 1 t) (iblk m c 2 t) (iblk m c 3 t) = Z at key ⊢
  exact key

theorem arr7_eq (c : Dev nD) : (dats m 0 c).arrAt 7 cfg0.N = G7 (X1 m c) := by
  refine (dats m 0 c).arrAt_eq_of_covers 7 _ (by decide +kernel) fun t hf y => ?_
  rw [after0_7]
  have key := out7_eq (iblk m c 0 t) (iblk m c 1 t) (iblk m c 2 t) (iblk m c 3 t) y
  generalize out0_7 (iblk m c 0 t) (iblk m c 1 t) (iblk m c 2 t) (iblk m c 3 t) = Z at key ⊢
  exact key

end Cert.AdamPleIdeal.Prod

namespace Cert.AdamPleRefIdeal.Prod

open Cert.AdamPleRefIdeal Cert.AdamPleRefIdeal.Read Cert.Adam
open Idealize.ShloMosaic Idealize.ShloMosaic.TcCoe

/-- WHAT THE REFERENCE COMPUTES: the same, place by place. -/
theorem ref4_eq (x0 x1 x2 x3 : S256x512.Idx → EReal) :
    (val_main_v23 (F := Ideal) x0 x1 x2 x3 : S256x512.Idx → EReal) = Cert.AdamPleIdeal.Prod.G4 x0 x1 x2 x3 := funext fun i => rfl
theorem ref5_eq (x1 x2 : S256x512.Idx → EReal) :
    (val_main_v4 (F := Ideal) x1 x2 : S256x512.Idx → EReal) = Cert.AdamPleIdeal.Prod.G5 x1 x2 := funext fun i => rfl
theorem ref6_eq (x1 x3 : S256x512.Idx → EReal) :
    (val_main_v10 (F := Ideal) x1 x3 : S256x512.Idx → EReal) = Cert.AdamPleIdeal.Prod.G6 x1 x3 := funext fun i => rfl

end Cert.AdamPleRefIdeal.Prod

end
-- ==== Proof.AdamVec.lean ====
/- AdamW's call for the gains and the bias that are as wide as the model: what one block of the kernel computes, what its four result arrays hold, and
   that the reference holds the same. -/
module

public import proofs.«01_k».proof.Proof.AdamStep
public import proofs.«01_k».proof.Proof.Gen.AdamVecIdeal.Value
public import proofs.«01_k».proof.Proof.Gen.AdamVecRefIdeal.Read

@[expose] public section

set_option maxRecDepth 16384

noncomputable section

namespace Cert.AdamVecIdeal.Prod

open Cert.AdamVecIdeal Cert.AdamVecIdeal.Gen Cert.AdamVecIdeal.Value Cert.Common Cert.Adam
open Idealize.ShloMosaic Idealize.ShloMosaic.TcCoe Idealize.SL.Sem

/-- One block of the update, of the two moments and of the gradient's copy, place by place. -/
theorem out4_eq (w g m v : Vec Ideal S1x2048 .f32) (y : S1x2048.Idx) : @Eq EReal (out0_4 w g m v y) (upd (w y) (g y) (m y) (v y)) := by
  unfold out0_4
  rw [View.canon_unit_zero off2]
  simp only [View.ld_unit_zero (S := S1x2048) off2]
  rfl

theorem out5_eq (w g m v : Vec Ideal S1x2048 .f32) (y : S1x2048.Idx) : @Eq EReal (out0_5 w g m v y) (mom (g y) (m y)) := by
  unfold out0_5
  rw [View.canon_unit_zero off2]
  simp only [View.ld_unit_zero (S := S1x2048) off2]
  rfl

theorem out6_eq (w g m v : Vec Ideal S1x2048 .f32) (y : S1x2048.Idx) : @Eq EReal (out0_6 w g m v y) (sec (g y) (v y)) := by
  unfold out0_6
  rw [View.canon_unit_zero off2]
  simp only [View.ld_unit_zero (S := S1x2048) off2]
  rfl

theorem out7_eq (w g m v : Vec Ideal S1x2048 .f32) (y : S1x2048.Idx) : @Eq EReal (out0_7 w g m v y) (g y) := by
  unfold out0_7
  rw [View.canon_unit_zero off2]
  exact congrFun (View.ld_unit_zero (S := S1x2048) off2 _ g) y

variable (m : (ℓ : Loc nD τ sig) → Buf (Elt Ideal) ℓ)

/-- The operands as the launch finds them: the weight, its gradient and its two moments. -/
abbrev X0 (c : Dev nD) : S1x2048.Idx → EReal := m ((c : Thread nD τ).loc main_arg0)
abbrev X1 (c : Dev nD) : S1x2048.Idx → EReal := m ((c : Thread nD τ).loc main_arg1)
abbrev X2 (c : Dev nD) : S1x2048.Idx → EReal := m ((c : Thread nD τ).loc main_arg2)
abbrev X3 (c : Dev nD) : S1x2048.Idx → EReal := m ((c : Thread nD τ).loc main_arg3)

/-- The result arrays, place by place. -/
def G4 (X0 X1 X2 X3 : S1x2048.Idx → EReal) : S1x2048.Idx → EReal := fun i => upd (X0 i) (X1 i) (X2 i) (X3 i)
def G5 (X1 X2 : S1x2048.Idx → EReal) : S1x2048.Idx → EReal := fun i => mom (X1 i) (X2 i)
def G6 (X1 X3 : S1x2048.Idx → EReal) : S1x2048.Idx → EReal := fun i => sec (X1 i) (X3 i)
def G7 (X1 : S1x2048.Idx → EReal) : S1x2048.Idx → EReal := X1

/-- THE RESULT ARRAYS after the run: every window's block lies at the same place of its array. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4]
  have key := out4_eq (iblk m c 0 t) (iblk m c 1 t) (iblk m c 2 t) (iblk m c 3 t) y
  generalize out0_4 (iblk m c 0 t) (iblk m c 1 t) (iblk m c 2 t) (iblk m c 3 t) = Z at key ⊢
  exact key

theorem arr5_eq (c : Dev nD) : (dats m 0 c).arrAt 5 cfg0.N = G5 (X1 m c) (X2 m c) := by
  refine (dats m 0 c).arrAt_eq_of_covers 5 _ (by decide +kernel) fun t hf y => ?_
  rw [after0_5]
  have key := out5_eq (iblk m c 0 t) (iblk m c 1 t) (iblk m c 2 t) (iblk m c 3 t) y
  generalize out0_5 (iblk m c 0 t) (iblk m c 1 t) (iblk m c 2 t) (iblk m c 3 t) = Z at key ⊢
  exact key

theorem arr6_eq (c : Dev nD) : (dats m 0 c).arrAt 6 cfg0.N = G6 (X1 m c) (X3 m c) := by
  refine (dats m 0 c).arrAt_eq_of_covers 6 _ (by decide +kernel) fun t hf y => ?_
  rw [after0_6]
  have key := out6_eq (iblk m c 0 t) (iblk m c 1 t) (iblk m c 2 t) (iblk m c 3 t) y
  generalize out0_6 (iblk m c 0 t) (iblk m c 1 t) (iblk m c 2 t) (iblk m c 3 t) = Z at key ⊢
  exact key

theorem arr7_eq (c : Dev nD) : (dats m 0 c).arrAt 7 cfg0.N = G7 (X1 m c) := by
  refine (dats m 0 c).arrAt_eq_of_covers 7 _ (by decide +kernel) fun t hf y => ?_
  rw [after0_7]
  have key := out7_eq (iblk m c 0 t) (iblk m c 1 t) (iblk m c 2 t) (iblk m c 3 t) y
  generalize out0_7 (iblk m c 0 t) (iblk m c 1 t) (iblk m c 2 t) (iblk m c 3 t) = Z at key ⊢
  exact key

end Cert.AdamVecIdeal.Prod

namespace Cert.AdamVecRefIdeal.Prod

open Cert.AdamVecRefIdeal Cert.AdamVecRefIdeal.Read Cert.Adam
open Idealize.ShloMosaic Idealize.ShloMosaic.TcCoe

/-- WHAT THE REFERENCE COMPUTES: the same, place by place. -/
theorem ref4_eq (x0 x1 x2 x3 : S1x2048.Idx → EReal) :
    (val_main_v23 (F := Ideal) x0 x1 x2 x3 : S1x2048.Idx → EReal) = Cert.AdamVecIdeal.Prod.G4 x0 x1 x2 x3 := funext fun i => rfl
theorem ref5_eq (x1 x2 : S1x2048.Idx → EReal) :
    (val_main_v4 (F := Ideal) x1 x2 : S1x2048.Idx → EReal) = Cert.AdamVecIdeal.Prod.G5 x1 x2 := funext fun i => rfl
theorem ref6_eq (x1 x3 : S1x2048.Idx → EReal) :
    (val_main_v10 (F := Ideal) x1 x3 : S1x2048.Idx → EReal) = Cert.AdamVecIdeal.Prod.G6 x1 x3 := funext fun i => rfl

end Cert.AdamVecRefIdeal.Prod

end
-- ==== Proof.AdamHalf.lean ====
/- AdamW's call for the convolution's bias and its layer norm's gain and bias: what one block of the kernel computes, what its four result arrays hold, and
   that the reference holds the same. -/
module

public import proofs.«01_k».proof.Proof.AdamStep
public import proofs.«01_k».proof.Proof.Gen.AdamHalfIdeal.Value
public import proofs.«01_k».proof.Proof.Gen.AdamHalfRefIdeal.Read

@[expose] public section

set_option maxRecDepth 16384

noncomputable section

namespace Cert.AdamHalfIdeal.Prod

open Cert.AdamHalfIdeal Cert.AdamHalfIdeal.Gen Cert.AdamHalfIdeal.Value Cert.Common Cert.Adam
open Idealize.ShloMosaic Idealize.ShloMosaic.TcCoe Idealize.SL.Sem

/-- One block of the update, of the two moments and of the gradient's copy, place by place. -/
theorem out4_eq (w g m v : Vec Ideal S1x1024 .f32) (y : S1x1024.Idx) : @Eq EReal (out0_4 w g m v y) (upd (w y) (g y) (m y) (v y)) := by
  unfold out0_4
  rw [View.canon_unit_zero off2]
  simp only [View.ld_unit_zero (S := S1x1024) off2]
  rfl

theorem out5_eq (w g m v : Vec Ideal S1x1024 .f32) (y : S1x1024.Idx) : @Eq EReal (out0_5 w g m v y) (mom (g y) (m y)) := by
  unfold out0_5
  rw [View.canon_unit_zero off2]
  simp only [View.ld_unit_zero (S := S1x1024) off2]
  rfl

theorem out6_eq (w g m v : Vec Ideal S1x1024 .f32) (y : S1x1024.Idx) : @Eq EReal (out0_6 w g m v y) (sec (g y) (v y)) := by
  unfold out0_6
  rw [View.canon_unit_zero off2]
  simp only [View.ld_unit_zero (S := S1x1024) off2]
  rfl

theorem out7_eq (w g m v : Vec Ideal S1x1024 .f32) (y : S1x1024.Idx) : @Eq EReal (out0_7 w g m v y) (g y) := by
  unfold out0_7
  rw [View.canon_unit_zero off2]
  exact congrFun (View.ld_unit_zero (S := S1x1024) off2 _ g) y

variable (m : (ℓ : Loc nD τ sig) → Buf (Elt Ideal) ℓ)

/-- The operands as the launch finds them: the weight, its gradient and its two moments. -/
abbrev X0 (c : Dev nD) : S1x1024.Idx → EReal := m ((c : Thread nD τ).loc main_arg0)
abbrev X1 (c : Dev nD) : S1x1024.Idx → EReal := m ((c : Thread nD τ).loc main_arg1)
abbrev X2 (c : Dev nD) : S1x1024.Idx → EReal := m ((c : Thread nD τ).loc main_arg2)
abbrev X3 (c : Dev nD) : S1x1024.Idx → EReal := m ((c : Thread nD τ).loc main_arg3)

/-- The result arrays, place by place. -/
def G4 (X0 X1 X2 X3 : S1x1024.Idx → EReal) : S1x1024.Idx → EReal := fun i => upd (X0 i) (X1 i) (X2 i) (X3 i)
def G5 (X1 X2 : S1x1024.Idx → EReal) : S1x1024.Idx → EReal := fun i => mom (X1 i) (X2 i)
def G6 (X1 X3 : S1x1024.Idx → EReal) : S1x1024.Idx → EReal := fun i => sec (X1 i) (X3 i)
def G7 (X1 : S1x1024.Idx → EReal) : S1x1024.Idx → EReal := X1

/-- THE RESULT ARRAYS after the run: every window's block lies at the same place of its array. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4]
  have key := out4_eq (iblk m c 0 t) (iblk m c 1 t) (iblk m c 2 t) (iblk m c 3 t) y
  generalize out0_4 (iblk m c 0 t) (iblk m c 1 t) (iblk m c 2 t) (iblk m c 3 t) = Z at key ⊢
  exact key

theorem arr5_eq (c : Dev nD) : (dats m 0 c).arrAt 5 cfg0.N = G5 (X1 m c) (X2 m c) := by
  refine (dats m 0 c).arrAt_eq_of_covers 5 _ (by decide +kernel) fun t hf y => ?_
  rw [after0_5]
  have key := out5_eq (iblk m c 0 t) (iblk m c 1 t) (iblk m c 2 t) (iblk m c 3 t) y
  generalize out0_5 (iblk m c 0 t) (iblk m c 1 t) (iblk m c 2 t) (iblk m c 3 t) = Z at key ⊢
  exact key

theorem arr6_eq (c : Dev nD) : (dats m 0 c).arrAt 6 cfg0.N = G6 (X1 m c) (X3 m c) := by
  refine (dats m 0 c).arrAt_eq_of_covers 6 _ (by decide +kernel) fun t hf y => ?_
  rw [after0_6]
  have key := out6_eq (iblk m c 0 t) (iblk m c 1 t) (iblk m c 2 t) (iblk m c 3 t) y
  generalize out0_6 (iblk m c 0 t) (iblk m c 1 t) (iblk m c 2 t) (iblk m c 3 t) = Z at key ⊢
  exact key

theorem arr7_eq (c : Dev nD) : (dats m 0 c).arrAt 7 cfg0.N = G7 (X1 m c) := by
  refine (dats m 0 c).arrAt_eq_of_covers 7 _ (by decide +kernel) fun t hf y => ?_
  rw [after0_7]
  have key := out7_eq (iblk m c 0 t) (iblk m c 1 t) (iblk m c 2 t) (iblk m c 3 t) y
  generalize out0_7 (iblk m c 0 t) (iblk m c 1 t) (iblk m c 2 t) (iblk m c 3 t) = Z at key ⊢
  exact key

end Cert.AdamHalfIdeal.Prod

namespace Cert.AdamHalfRefIdeal.Prod

open Cert.AdamHalfRefIdeal Cert.AdamHalfRefIdeal.Read Cert.Adam
open Idealize.ShloMosaic Idealize.ShloMosaic.TcCoe

/-- WHAT THE REFERENCE COMPUTES: the same, place by place. -/
theorem ref4_eq (x0 x1 x2 x3 : S1x1024.Idx → EReal) :
    (val_main_v23 (F := Ideal) x0 x1 x2 x3 : S1x1024.Idx → EReal) = Cert.AdamHalfIdeal.Prod.G4 x0 x1 x2 x3 := funext fun i => rfl
theorem ref5_eq (x1 x2 : S1x1024.Idx → EReal) :
    (val_main_v4 (F := Ideal) x1 x2 : S1x1024.Idx → EReal) = Cert.AdamHalfIdeal.Prod.G5 x1 x2 := funext fun i => rfl
theorem ref6_eq (x1 x3 : S1x1024.Idx → EReal) :
    (val_main_v10 (F := Ideal) x1 x3 : S1x1024.Idx → EReal) = Cert.AdamHalfIdeal.Prod.G6 x1 x3 := funext fun i => rfl

end Cert.AdamHalfRefIdeal.Prod

end
-- ==== Proof.AdamDw.lean ====
/- AdamW's call for the convolution's taps: what one block of the kernel computes, what its four result arrays hold, and
   that the reference holds the same. -/
module

public import proofs.«01_k».proof.Proof.AdamStep
public import proofs.«01_k».proof.Proof.Gen.AdamDwIdeal.Value
public import proofs.«01_k».proof.Proof.Gen.AdamDwRefIdeal.Read

@[expose] public section

set_option maxRecDepth 16384

noncomputable section

namespace Cert.AdamDwIdeal.Prod

open Cert.AdamDwIdeal Cert.AdamDwIdeal.Gen Cert.AdamDwIdeal.Value Cert.Common Cert.Adam
open Idealize.ShloMosaic Idealize.ShloMosaic.TcCoe Idealize.SL.Sem

/-- One block of the update, of the two moments and of the gradient's copy, place by place. -/
theorem out4_eq (w g m v : Vec Ideal S31x256 .f32) (y : S31x256.Idx) : @Eq EReal (out0_4 w g m v y) (upd (w y) (g y) (m y) (v y)) := by
  unfold out0_4
  rw [View.canon_unit_zero off2]
  simp only [View.ld_unit_zero (S := S31x256) off2]
  rfl

theorem out5_eq (w g m v : Vec Ideal S31x256 .f32) (y : S31x256.Idx) : @Eq EReal (out0_5 w g m v y) (mom (g y) (m y)) := by
  unfold out0_5
  rw [View.canon_unit_zero off2]
  simp only [View.ld_unit_zero (S := S31x256) off2]
  rfl

theorem out6_eq (w g m v : Vec Ideal S31x256 .f32) (y : S31x256.Idx) : @Eq EReal (out0_6 w g m v y) (sec (g y) (v y)) := by
  unfold out0_6
  rw [View.canon_unit_zero off2]
  simp only [View.ld_unit_zero (S := S31x256) off2]
  rfl

theorem out7_eq (w g m v : Vec Ideal S31x256 .f32) (y : S31x256.Idx) : @Eq EReal (out0_7 w g m v y) (g y) := by
  unfold out0_7
  rw [View.canon_unit_zero off2]
  exact congrFun (View.ld_unit_zero (S := S31x256) off2 _ g) y

variable (m : (ℓ : Loc nD τ sig) → Buf (Elt Ideal) ℓ)

/-- The operands as the launch finds them: the weight, its gradient and its two moments. -/
abbrev X0 (c : Dev nD) : S31x256.Idx → EReal := m ((c : Thread nD τ).loc main_arg0)
abbrev X1 (c : Dev nD) : S31x256.Idx → EReal := m ((c : Thread nD τ).loc main_arg1)
abbrev X2 (c : Dev nD) : S31x256.Idx → EReal := m ((c : Thread nD τ).loc main_arg2)
abbrev X3 (c : Dev nD) : S31x256.Idx → EReal := m ((c : Thread nD τ).loc main_arg3)

/-- The result arrays, place by place. -/
def G4 (X0 X1 X2 X3 : S31x256.Idx → EReal) : S31x256.Idx → EReal := fun i => upd (X0 i) (X1 i) (X2 i) (X3 i)
def G5 (X1 X2 : S31x256.Idx → EReal) : S31x256.Idx → EReal := fun i => mom (X1 i) (X2 i)
def G6 (X1 X3 : S31x256.Idx → EReal) : S31x256.Idx → EReal := fun i => sec (X1 i) (X3 i)
def G7 (X1 : S31x256.Idx → EReal) : S31x256.Idx → EReal := X1

/-- THE RESULT ARRAYS after the run: every window's block lies at the same place of its array. -/
theorem arr4_eq (c : Dev nD) : (dats m 0 c).arrAt 4 cfg0.N = G4 (X0 m c) (X1 m c) (X2 m c) (X3 m c) := by
  refine (dats m 0 c).arrAt_eq_of_covers 4 _ (by decide +kernel) fun t hf y => ?_
  rw [after0_4]
  have key := out4_eq (iblk m c 0 t) (iblk m c 1 t) (iblk m c 2 t) (iblk m c 3 t) y
  generalize out0_4 (iblk m c 0 t) (iblk m c 1 t) (iblk m c 2 t) (iblk m c 3 t) = Z at key ⊢
  exact key

theorem arr5_eq (c : Dev nD) : (dats m 0 c).arrAt 5 cfg0.N = G5 (X1 m c) (X2 m c) := by
  refine (dats m 0 c).arrAt_eq_of_covers 5 _ (by decide +kernel) fun t hf y => ?_
  rw [after0_5]
  have key := out5_eq (iblk m c 0 t) (iblk m c 1 t) (iblk m c 2 t) (iblk m c 3 t) y
  generalize out0_5 (iblk m c 0 t) (iblk m c 1 t) (iblk m c 2 t) (iblk m c 3 t) = Z at key ⊢
  exact key

theorem arr6_eq (c : Dev nD) : (dats m 0 c).arrAt 6 cfg0.N = G6 (X1 m c) (X3 m c) := by
  refine (dats m 0 c).arrAt_eq_of_covers 6 _ (by decide +kernel) fun t hf y => ?_
  rw [after0_6]
  have key := out6_eq (iblk m c 0 t) (iblk m c 1 t) (iblk m c 2 t) (iblk m c 3 t) y
  generalize out0_6 (iblk m c 0 t) (iblk m c 1 t) (iblk m c 2 t) (iblk m c 3 t) = Z at key ⊢
  exact key

theorem arr7_eq (c : Dev nD) : (dats m 0 c).arrAt 7 cfg0.N = G7 (X1 m c) := by
  refine (dats m 0 c).arrAt_eq_of_covers 7 _ (by decide +kernel) fun t hf y => ?_
  rw [after0_7]
  have key := out7_eq (iblk m c 0 t) (iblk m c 1 t) (iblk m c 2 t) (iblk m c 3 t) y
  generalize out0_7 (iblk m c 0 t) (iblk m c 1 t) (iblk m c 2 t) (iblk m c 3 t) = Z at key ⊢
  exact key

end Cert.AdamDwIdeal.Prod

namespace Cert.AdamDwRefIdeal.Prod

open Cert.AdamDwRefIdeal Cert.AdamDwRefIdeal.Read Cert.Adam
open Idealize.ShloMosaic Idealize.ShloMosaic.TcCoe

/-- WHAT THE REFERENCE COMPUTES: the same, place by place. -/
theorem ref4_eq (x0 x1 x2 x3 : S31x256.Idx → EReal) :
    (val_main_v23 (F := Ideal) x0 x1 x2 x3 : S31x256.Idx → EReal) = Cert.AdamDwIdeal.Prod.G4 x0 x1 x2 x3 := funext fun i => rfl
theorem ref5_eq (x1 x2 : S31x256.Idx → EReal) :
    (val_main_v4 (F := Ideal) x1 x2 : S31x256.Idx → EReal) = Cert.AdamDwIdeal.Prod.G5 x1 x2 := funext fun i => rfl
theorem ref6_eq (x1 x3 : S31x256.Idx → EReal) :
    (val_main_v10 (F := Ideal) x1 x3 : S31x256.Idx → EReal) = Cert.AdamDwIdeal.Prod.G6 x1 x3 := funext fun i => rfl

end Cert.AdamDwRefIdeal.Prod

end
-- ==== Proof.lean ====
/- The claims, assembled: each program's frame is the generated one, each kernel's idealization rewrites nothing, and each
   kernel's result arrays are its reference's, by the equation its module proves. -/
module

public import proofs.«01_k».proof.Defs
public import proofs.«01_k».proof.Proof.Gen.ConvBwd.Frame
public import proofs.«01_k».proof.Proof.Gen.SumSmall.Frame
public import proofs.«01_k».proof.Proof.Gen.RmsFwd.Frame
public import proofs.«01_k».proof.Proof.Gen.RmsBwd.Frame
public import proofs.«01_k».proof.Proof.Gen.Ple.Frame
public import proofs.«01_k».proof.Proof.Gen.Dact.Frame
public import proofs.«01_k».proof.Proof.Gen.Df.Frame
public import proofs.«01_k».proof.Proof.Gen.DwGate.Frame
public import proofs.«01_k».proof.Proof.Gen.DwDown.Frame
public import proofs.«01_k».proof.Proof.Gen.DwUp.Frame
public import proofs.«01_k».proof.Proof.Gen.DwIn.Frame
public import proofs.«01_k».proof.Proof.Gen.DwOut.Frame
public import proofs.«01_k».proof.Proof.Gen.DwPgate.Frame
public import proofs.«01_k».proof.Proof.Gen.DwPle.Frame
public import proofs.«01_k».proof.Proof.Gen.Da.Frame
public import proofs.«01_k».proof.Proof.Gen.Dcat.Frame
public import proofs.«01_k».proof.Proof.Gen.MmIn.Frame
public import proofs.«01_k».proof.Proof.Gen.MmOut.Frame
public import proofs.«01_k».proof.Proof.Gen.MmGateUp.Frame
public import proofs.«01_k».proof.Proof.Gen.MmDown.Frame
public import proofs.«01_k».proof.Proof.Gen.AdamIn.Frame
public import proofs.«01_k».proof.Proof.Gen.AdamOut.Frame
public import proofs.«01_k».proof.Proof.Gen.AdamGate.Frame
public import proofs.«01_k».proof.Proof.Gen.AdamDown.Frame
public import proofs.«01_k».proof.Proof.Gen.AdamPle.Frame
public import proofs.«01_k».proof.Proof.Gen.AdamVec.Frame
public import proofs.«01_k».proof.Proof.Gen.AdamHalf.Frame
public import proofs.«01_k».proof.Proof.Gen.AdamDw.Frame
public import proofs.«01_k».proof.Proof.Gen.Pre_finite_dact
public import proofs.«01_k».proof.Proof.Gen.SumSmallIdeal.Frame
public import proofs.«01_k».proof.Proof.Gen.SumSmallRefIdeal.Run
public import proofs.«01_k».proof.Proof.Gen.SumSmallRefIdeal.Read
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.Gen.PleIdeal.Value
public import proofs.«01_k».proof.Proof.Gen.PleRefIdeal.Run
public import proofs.«01_k».proof.Proof.Gen.PleRefIdeal.Read
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Gen.DactIdeal.Value
public import proofs.«01_k».proof.Proof.Gen.DactRefIdeal.Run
public import proofs.«01_k».proof.Proof.Gen.DactRefIdeal.Read
public import proofs.«01_k».proof.Proof.Gen.DfIdeal.Value
public import proofs.«01_k».proof.Proof.Gen.DfRefIdeal.Run
public import proofs.«01_k».proof.Proof.Gen.DfRefIdeal.Read
public import proofs.«01_k».proof.Proof.Gen.DwGateIdeal.Value
public import proofs.«01_k».proof.Proof.Gen.DwGateRefIdeal.Run
public import proofs.«01_k».proof.Proof.Gen.DwGateRefIdeal.Read
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.DwPgateIdeal.Value
public import proofs.«01_k».proof.Proof.Gen.DwPgateRefIdeal.Run
public import proofs.«01_k».proof.Proof.Gen.DwPgateRefIdeal.Read
public import proofs.«01_k».proof.Proof.Gen.DwPleIdeal.Value
public import proofs.«01_k».proof.Proof.Gen.DwPleRefIdeal.Run
public import proofs.«01_k».proof.Proof.Gen.DwPleRefIdeal.Read
public import proofs.«01_k».proof.Proof.Gen.DaIdeal.Value
public import proofs.«01_k».proof.Proof.Gen.DaRefIdeal.Run
public import proofs.«01_k».proof.Proof.Gen.DaRefIdeal.Read
public import proofs.«01_k».proof.Proof.Gen.DcatIdeal.Value
public import proofs.«01_k».proof.Proof.Gen.DcatRefIdeal.Run
public import proofs.«01_k».proof.Proof.Gen.DcatRefIdeal.Read
public import proofs.«01_k».proof.Proof.Gen.MmInIdeal.Value
public import proofs.«01_k».proof.Proof.Gen.MmInRefIdeal.Run
public import proofs.«01_k».proof.Proof.Gen.MmInRefIdeal.Read
public import proofs.«01_k».proof.Proof.Gen.MmOutIdeal.Value
public import proofs.«01_k».proof.Proof.Gen.MmOutRefIdeal.Run
public import proofs.«01_k».proof.Proof.Gen.MmOutRefIdeal.Read
public import proofs.«01_k».proof.Proof.Gen.MmGateUpIdeal.Value
public import proofs.«01_k».proof.Proof.Gen.MmGateUpRefIdeal.Run
public import proofs.«01_k».proof.Proof.Gen.MmGateUpRefIdeal.Read
public import proofs.«01_k».proof.Proof.Gen.MmDownIdeal.Value
public import proofs.«01_k».proof.Proof.Gen.MmDownRefIdeal.Run
public import proofs.«01_k».proof.Proof.Gen.MmDownRefIdeal.Read
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamGateIdeal.Value
public import proofs.«01_k».proof.Proof.Gen.AdamGateRefIdeal.Run
public import proofs.«01_k».proof.Proof.Gen.AdamGateRefIdeal.Read
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamPleIdeal.Value
public import proofs.«01_k».proof.Proof.Gen.AdamPleRefIdeal.Run
public import proofs.«01_k».proof.Proof.Gen.AdamPleRefIdeal.Read
public import proofs.«01_k».proof.Proof.Gen.AdamVecIdeal.Value
public import proofs.«01_k».proof.Proof.Gen.AdamVecRefIdeal.Run
public import proofs.«01_k».proof.Proof.Gen.AdamVecRefIdeal.Read
public import proofs.«01_k».proof.Proof.Gen.AdamHalfIdeal.Value
public import proofs.«01_k».proof.Proof.Gen.AdamHalfRefIdeal.Run
public import proofs.«01_k».proof.Proof.Gen.AdamHalfRefIdeal.Read
public import proofs.«01_k».proof.Proof.Gen.AdamDwIdeal.Value
public import proofs.«01_k».proof.Proof.Gen.AdamDwRefIdeal.Run
public import proofs.«01_k».proof.Proof.Gen.AdamDwRefIdeal.Read
public import proofs.«01_k».proof.Proof.SumSmall
public import proofs.«01_k».proof.Proof.RmsFwd
public import proofs.«01_k».proof.Proof.RmsBwd
public import proofs.«01_k».proof.Proof.Ple
public import proofs.«01_k».proof.Proof.PleRef
public import proofs.«01_k».proof.Proof.ConvBwd
public import proofs.«01_k».proof.Proof.ConvBwdRef
public import proofs.«01_k».proof.Proof.Dact
public import proofs.«01_k».proof.Proof.Df
public import proofs.«01_k».proof.Proof.DwGate
public import proofs.«01_k».proof.Proof.DwDown
public import proofs.«01_k».proof.Proof.DwUp
public import proofs.«01_k».proof.Proof.DwIn
public import proofs.«01_k».proof.Proof.DwOut
public import proofs.«01_k».proof.Proof.DwPgate
public import proofs.«01_k».proof.Proof.DwPle
public import proofs.«01_k».proof.Proof.Da
public import proofs.«01_k».proof.Proof.Dcat
public import proofs.«01_k».proof.Proof.MmIn
public import proofs.«01_k».proof.Proof.MmOut
public import proofs.«01_k».proof.Proof.MmGateUp
public import proofs.«01_k».proof.Proof.MmDown
public import proofs.«01_k».proof.Proof.AdamIn
public import proofs.«01_k».proof.Proof.AdamOut
public import proofs.«01_k».proof.Proof.AdamGate
public import proofs.«01_k».proof.Proof.AdamDown
public import proofs.«01_k».proof.Proof.AdamPle
public import proofs.«01_k».proof.Proof.AdamVec
public import proofs.«01_k».proof.Proof.AdamHalf
public import proofs.«01_k».proof.Proof.AdamDw
public import Idealize.ShloMosaic.Adequacy
public import Idealize.ShloMosaic.Init

@[expose] public section

noncomputable section

namespace Cert.Proof

open Idealize.ShloMosaic Idealize.ShloMosaic.TcCoe Idealize.SL.Sem

theorem frame_ConvBwdRefIdeal : Cert.quiescent_ConvBwdRefIdeal := fun m ρ _ =>
  (θ_run Cert.ConvBwdRefIdeal.defs _ _).mono (fun r h => ⟨fun c => (h c).2.2.2, sem_eq_zero_of_no_sems (by decide) r.2⟩) (Cert.ConvBwdRefIdeal.Value.run m ρ)

theorem frame_SumSmallRefIdeal : Cert.quiescent_SumSmallRefIdeal := fun m ρ _ =>
  (θ_run Cert.SumSmallRefIdeal.defs _ _).mono (fun r h => ⟨fun c => (h c).2.2.2.2.2.2.2.2.2.2, sem_eq_zero_of_no_sems (by decide) r.2⟩) (Cert.SumSmallRefIdeal.Value.run m ρ)

theorem frame_RmsFwdRefIdeal : Cert.quiescent_RmsFwdRefIdeal := fun m ρ _ =>
  (θ_run Cert.RmsFwdRefIdeal.defs _ _).mono (fun r h => ⟨fun c => (h c).2, sem_eq_zero_of_no_sems (by decide) r.2⟩) (Cert.RmsFwdRefIdeal.Value.run m ρ)

theorem frame_RmsBwdRefIdeal : Cert.quiescent_RmsBwdRefIdeal := fun m ρ _ =>
  (θ_run Cert.RmsBwdRefIdeal.defs _ _).mono (fun r h => ⟨fun c => (h c).2.2.2, sem_eq_zero_of_no_sems (by decide) r.2⟩) (Cert.RmsBwdRefIdeal.Value.run m ρ)

theorem frame_PleRefIdeal : Cert.quiescent_PleRefIdeal := fun m ρ _ =>
  (θ_run Cert.PleRefIdeal.defs _ _).mono (fun r h => ⟨fun c => (h c).2.2.2.2.2.2.2.2, sem_eq_zero_of_no_sems (by decide) r.2⟩) (Cert.PleRefIdeal.Value.run m ρ)

theorem frame_DactRefIdeal : Cert.quiescent_DactRefIdeal := fun m ρ _ =>
  (θ_run Cert.DactRefIdeal.defs _ _).mono (fun r h => ⟨fun c => (h c).2.2, sem_eq_zero_of_no_sems (by decide) r.2⟩) (Cert.DactRefIdeal.Value.run m ρ)

theorem frame_DactRefIdeal_pre_finite_dact : Cert.quiescent_DactRefIdeal_pre_finite_dact := fun m ρ _ =>
  (θ_run Cert.DactRefIdeal.defs _ _).mono (fun r h => ⟨fun c => (h c).2.2, sem_eq_zero_of_no_sems (by decide) r.2⟩) (Cert.DactRefIdeal.Value.run m ρ)

theorem frame_DfRefIdeal : Cert.quiescent_DfRefIdeal := fun m ρ _ =>
  (θ_run Cert.DfRefIdeal.defs _ _).mono (fun r h => ⟨fun c => (h c).2, sem_eq_zero_of_no_sems (by decide) r.2⟩) (Cert.DfRefIdeal.Value.run m ρ)

theorem frame_DwGateRefIdeal : Cert.quiescent_DwGateRefIdeal := fun m ρ _ =>
  (θ_run Cert.DwGateRefIdeal.defs _ _).mono (fun r h => ⟨fun c => (h c).2, sem_eq_zero_of_no_sems (by decide) r.2⟩) (Cert.DwGateRefIdeal.Value.run m ρ)

theorem frame_DwDownRefIdeal : Cert.quiescent_DwDownRefIdeal := fun m ρ _ =>
  (θ_run Cert.DwDownRefIdeal.defs _ _).mono (fun r h => ⟨fun c => (h c).2, sem_eq_zero_of_no_sems (by decide) r.2⟩) (Cert.DwDownRefIdeal.Value.run m ρ)

theorem frame_DwUpRefIdeal : Cert.quiescent_DwUpRefIdeal := fun m ρ _ =>
  (θ_run Cert.DwUpRefIdeal.defs _ _).mono (fun r h => ⟨fun c => (h c).2, sem_eq_zero_of_no_sems (by decide) r.2⟩) (Cert.DwUpRefIdeal.Value.run m ρ)

theorem frame_DwInRefIdeal : Cert.quiescent_DwInRefIdeal := fun m ρ _ =>
  (θ_run Cert.DwInRefIdeal.defs _ _).mono (fun r h => ⟨fun c => (h c).2, sem_eq_zero_of_no_sems (by decide) r.2⟩) (Cert.DwInRefIdeal.Value.run m ρ)

theorem frame_DwOutRefIdeal : Cert.quiescent_DwOutRefIdeal := fun m ρ _ =>
  (θ_run Cert.DwOutRefIdeal.defs _ _).mono (fun r h => ⟨fun c => (h c).2, sem_eq_zero_of_no_sems (by decide) r.2⟩) (Cert.DwOutRefIdeal.Value.run m ρ)

theorem frame_DwPgateRefIdeal : Cert.quiescent_DwPgateRefIdeal := fun m ρ _ =>
  (θ_run Cert.DwPgateRefIdeal.defs _ _).mono (fun r h => ⟨fun c => (h c).2, sem_eq_zero_of_no_sems (by decide) r.2⟩) (Cert.DwPgateRefIdeal.Value.run m ρ)

theorem frame_DwPleRefIdeal : Cert.quiescent_DwPleRefIdeal := fun m ρ _ =>
  (θ_run Cert.DwPleRefIdeal.defs _ _).mono (fun r h => ⟨fun c => (h c).2, sem_eq_zero_of_no_sems (by decide) r.2⟩) (Cert.DwPleRefIdeal.Value.run m ρ)

theorem frame_DaRefIdeal : Cert.quiescent_DaRefIdeal := fun m ρ _ =>
  (θ_run Cert.DaRefIdeal.defs _ _).mono (fun r h => ⟨fun c => (h c).2, sem_eq_zero_of_no_sems (by decide) r.2⟩) (Cert.DaRefIdeal.Value.run m ρ)

theorem frame_DcatRefIdeal : Cert.quiescent_DcatRefIdeal := fun m ρ _ =>
  (θ_run Cert.DcatRefIdeal.defs _ _).mono (fun r h => ⟨fun c => (h c).2, sem_eq_zero_of_no_sems (by decide) r.2⟩) (Cert.DcatRefIdeal.Value.run m ρ)

theorem frame_MmInRefIdeal : Cert.quiescent_MmInRefIdeal := fun m ρ _ =>
  (θ_run Cert.MmInRefIdeal.defs _ _).mono (fun r h => ⟨fun c => (h c).2, sem_eq_zero_of_no_sems (by decide) r.2⟩) (Cert.MmInRefIdeal.Value.run m ρ)

theorem frame_MmOutRefIdeal : Cert.quiescent_MmOutRefIdeal := fun m ρ _ =>
  (θ_run Cert.MmOutRefIdeal.defs _ _).mono (fun r h => ⟨fun c => (h c).2.2, sem_eq_zero_of_no_sems (by decide) r.2⟩) (Cert.MmOutRefIdeal.Value.run m ρ)

theorem frame_MmGateUpRefIdeal : Cert.quiescent_MmGateUpRefIdeal := fun m ρ _ =>
  (θ_run Cert.MmGateUpRefIdeal.defs _ _).mono (fun r h => ⟨fun c => (h c).2.2.2, sem_eq_zero_of_no_sems (by decide) r.2⟩) (Cert.MmGateUpRefIdeal.Value.run m ρ)

theorem frame_MmDownRefIdeal : Cert.quiescent_MmDownRefIdeal := fun m ρ _ =>
  (θ_run Cert.MmDownRefIdeal.defs _ _).mono (fun r h => ⟨fun c => (h c).2, sem_eq_zero_of_no_sems (by decide) r.2⟩) (Cert.MmDownRefIdeal.Value.run m ρ)

theorem frame_AdamInRefIdeal : Cert.quiescent_AdamInRefIdeal := fun m ρ _ =>
  (θ_run Cert.AdamInRefIdeal.defs _ _).mono (fun r h => ⟨fun c => (h c).2.2.2.2, sem_eq_zero_of_no_sems (by decide) r.2⟩) (Cert.AdamInRefIdeal.Value.run m ρ)

theorem frame_AdamOutRefIdeal : Cert.quiescent_AdamOutRefIdeal := fun m ρ _ =>
  (θ_run Cert.AdamOutRefIdeal.defs _ _).mono (fun r h => ⟨fun c => (h c).2.2.2.2, sem_eq_zero_of_no_sems (by decide) r.2⟩) (Cert.AdamOutRefIdeal.Value.run m ρ)

theorem frame_AdamGateRefIdeal : Cert.quiescent_AdamGateRefIdeal := fun m ρ _ =>
  (θ_run Cert.AdamGateRefIdeal.defs _ _).mono (fun r h => ⟨fun c => (h c).2.2.2.2, sem_eq_zero_of_no_sems (by decide) r.2⟩) (Cert.AdamGateRefIdeal.Value.run m ρ)

theorem frame_AdamDownRefIdeal : Cert.quiescent_AdamDownRefIdeal := fun m ρ _ =>
  (θ_run Cert.AdamDownRefIdeal.defs _ _).mono (fun r h => ⟨fun c => (h c).2.2.2.2, sem_eq_zero_of_no_sems (by decide) r.2⟩) (Cert.AdamDownRefIdeal.Value.run m ρ)

theorem frame_AdamPleRefIdeal : Cert.quiescent_AdamPleRefIdeal := fun m ρ _ =>
  (θ_run Cert.AdamPleRefIdeal.defs _ _).mono (fun r h => ⟨fun c => (h c).2.2.2.2, sem_eq_zero_of_no_sems (by decide) r.2⟩) (Cert.AdamPleRefIdeal.Value.run m ρ)

theorem frame_AdamVecRefIdeal : Cert.quiescent_AdamVecRefIdeal := fun m ρ _ =>
  (θ_run Cert.AdamVecRefIdeal.defs _ _).mono (fun r h => ⟨fun c => (h c).2.2.2.2, sem_eq_zero_of_no_sems (by decide) r.2⟩) (Cert.AdamVecRefIdeal.Value.run m ρ)

theorem frame_AdamHalfRefIdeal : Cert.quiescent_AdamHalfRefIdeal := fun m ρ _ =>
  (θ_run Cert.AdamHalfRefIdeal.defs _ _).mono (fun r h => ⟨fun c => (h c).2.2.2.2, sem_eq_zero_of_no_sems (by decide) r.2⟩) (Cert.AdamHalfRefIdeal.Value.run m ρ)

theorem frame_AdamDwRefIdeal : Cert.quiescent_AdamDwRefIdeal := fun m ρ _ =>
  (θ_run Cert.AdamDwRefIdeal.defs _ _).mono (fun r h => ⟨fun c => (h c).2.2.2.2, sem_eq_zero_of_no_sems (by decide) r.2⟩) (Cert.AdamDwRefIdeal.Value.run m ρ)

open Cert.ConvBwdIdeal.Prod Cert.ConvBwdRefIdeal.Prod Cert.ConvBwdRefIdeal.Read in
/-- The backward pass of the gated causal depthwise convolution: the gradients of its operand, of its gate and of its taps' weights. -/
theorem alg_ConvBwd : Cert.algebraic_ConvBwdIdeal_ConvBwdRefIdeal := fun m ρ m' ρ' hp hag =>
  ⟨fun c => G5 (X0 m c) (X1 m c) (X2 m c), fun c => G6 (X0 m c) (X1 m c) (X2 m c), fun c => G7 (X0 m c) (X1 m c),
    (θ_run Cert.ConvBwdIdeal.defs _ _).mono (fun _ h c => ⟨(h c).1.trans (arr5_eq m c), (h c).2.1.trans (arr6_eq m c), (h c).2.2.1.trans (arr7_eq m c), (h c).2.2.2⟩) (Cert.ConvBwdIdeal.Value.run_blocks m ρ),
    (θ_run Cert.ConvBwdRefIdeal.defs _ _).mono (fun _ h c => ⟨(h c).1.trans ((val_main_v577_eq _).trans (by show val_main_v577 (m' ((c.tc : Thread Cert.ConvBwdRefIdeal.nD Cert.ConvBwdRefIdeal.τ).loc Cert.ConvBwdRefIdeal.main_arg0)) (m' ((c.tc : Thread Cert.ConvBwdRefIdeal.nD Cert.ConvBwdRefIdeal.τ).loc Cert.ConvBwdRefIdeal.main_arg1)) (m' ((c.tc : Thread Cert.ConvBwdRefIdeal.nD Cert.ConvBwdRefIdeal.τ).loc Cert.ConvBwdRefIdeal.main_arg2)) = _; rw [(hag c).1, (hag c).2.1, (hag c).2.2]; exact ref5_eq _ _ _)), (h c).2.1.trans ((val_main_v578_eq _).trans (by show val_main_v578 (m' ((c.tc : Thread Cert.ConvBwdRefIdeal.nD Cert.ConvBwdRefIdeal.τ).loc Cert.ConvBwdRefIdeal.main_arg0)) (m' ((c.tc : Thread Cert.ConvBwdRefIdeal.nD Cert.ConvBwdRefIdeal.τ).loc Cert.ConvBwdRefIdeal.main_arg1)) (m' ((c.tc : Thread Cert.ConvBwdRefIdeal.nD Cert.ConvBwdRefIdeal.τ).loc Cert.ConvBwdRefIdeal.main_arg2)) = _; rw [(hag c).1, (hag c).2.1, (hag c).2.2]; exact ref6_eq _ _ _)), (h c).2.2.1.trans ((val_main_v579_eq _).trans (by show val_main_v579 (m' ((c.tc : Thread Cert.ConvBwdRefIdeal.nD Cert.ConvBwdRefIdeal.τ).loc Cert.ConvBwdRefIdeal.main_arg0)) (m' ((c.tc : Thread Cert.ConvBwdRefIdeal.nD Cert.ConvBwdRefIdeal.τ).loc Cert.ConvBwdRefIdeal.main_arg1)) = _; rw [(hag c).1, (hag c).2.1]; exact ref7_eq _ _)), (h c).2.2.2⟩) (Cert.ConvBwdRefIdeal.Value.run m' ρ')⟩

open Cert.SumSmallIdeal.Prod Cert.SumSmallRefIdeal.Prod Cert.SumSmallRefIdeal.Read in
/-- The sum of the eight devices' slots: the loss and nine gradients. -/
theorem alg_SumSmall : Cert.algebraic_SumSmallIdeal_SumSmallRefIdeal := fun m ρ m' ρ' hp hag =>
  ⟨fun c => G9 (X0 m c), fun c => G10 (X0 m c), fun c => G11 (X0 m c), fun c => G12 (X0 m c), fun c => G13 (X0 m c), fun c => G14 (X0 m c), fun c => G15 (X0 m c), fun c => G16 (X0 m c), fun c => G17 (X0 m c), fun c => G7 (tot (X0 m c)) (X1 m c),
    run m ρ,
    (θ_run Cert.SumSmallRefIdeal.defs _ _).mono (fun _ h c => ⟨(h c).1.trans ((val_main_v6_eq _).trans (by rw [(hag c).1]; exact ref9 _)), (h c).2.1.trans ((val_main_v10_eq _).trans (by rw [(hag c).1]; exact ref10 _)), (h c).2.2.1.trans ((val_main_v14_eq _).trans (by rw [(hag c).1]; exact ref11 _)), (h c).2.2.2.1.trans ((val_main_v18_eq _).trans (by rw [(hag c).1]; exact ref12 _)), (h c).2.2.2.2.1.trans ((val_main_v22_eq _).trans (by rw [(hag c).1]; exact ref13 _)), (h c).2.2.2.2.2.1.trans ((val_main_v26_eq _).trans (by rw [(hag c).1]; exact ref14 _)), (h c).2.2.2.2.2.2.1.trans ((val_main_v30_eq _).trans (by rw [(hag c).1]; exact ref15 _)), (h c).2.2.2.2.2.2.2.1.trans ((val_main_v34_eq _).trans (by rw [(hag c).1]; exact ref16 _)), (h c).2.2.2.2.2.2.2.2.1.trans ((val_main_v38_eq _).trans (by rw [(hag c).1]; exact ref17 _)), (h c).2.2.2.2.2.2.2.2.2.1.trans ((val_main_v43_eq _ _).trans (by rw [(hag c).1, (hag c).2]; exact ref7 _ _)), (h c).2.2.2.2.2.2.2.2.2.2⟩) (Cert.SumSmallRefIdeal.Value.run m' ρ')⟩

open Cert.RmsFwdIdeal.Prod Cert.RmsFwdRefIdeal.Prod Cert.RmsFwdRefIdeal.Read in
/-- The norm. -/
theorem alg_RmsFwd : Cert.algebraic_RmsFwdIdeal_RmsFwdRefIdeal := fun m ρ m' ρ' hp hag =>
  ⟨fun c => G2 (X0 m c) (X1 m c),
    (θ_run Cert.RmsFwdIdeal.defs _ _).mono (fun _ h c => ⟨(h c).1.trans (arr2_eq m c), (h c).2⟩) (Cert.RmsFwdIdeal.Value.run_blocks m ρ),
    (θ_run Cert.RmsFwdRefIdeal.defs _ _).mono (fun _ h c => ⟨(h c).1.trans ((val_main_v12_eq _ _).trans (by rw [(hag c).1, (hag c).2]; exact ref2_eq _ _)), (h c).2⟩) (Cert.RmsFwdRefIdeal.Value.run m' ρ')⟩

open Cert.RmsBwdIdeal.Prod Cert.RmsBwdRefIdeal.Prod Cert.RmsBwdRefIdeal.Read in
/-- The norm's backward pass, the residual's gradient added: the stream's gradient and the gain's. -/
theorem alg_RmsBwd : Cert.algebraic_RmsBwdIdeal_RmsBwdRefIdeal := fun m ρ m' ρ' hp hag =>
  ⟨fun c => G4 (X0 m c) (X1 m c) (X2 m c) (X3 m c), fun c => G4 (X0 m c) (X1 m c) (X2 m c) (X3 m c), fun c => G6 (X0 m c) (X1 m c),
    (θ_run Cert.RmsBwdIdeal.defs _ _).mono (fun _ h c => ⟨(h c).1.trans (arr4_eq m c), (h c).2.1.trans (arr5_eq m c), (h c).2.2.1.trans (arr6_eq m c), (h c).2.2.2⟩) (Cert.RmsBwdIdeal.Value.run_blocks m ρ),
    (θ_run Cert.RmsBwdRefIdeal.defs _ _).mono (fun _ h c => ⟨(h c).1.trans ((val_main_v35_eq _ _ _ _).trans (by rw [(hag c).1, (hag c).2.1, (hag c).2.2.1, (hag c).2.2.2]; exact ref4_eq _ _ _ _)), (h c).2.1.trans ((val_main_v36_eq _ _ _ _).trans (by rw [(hag c).1, (hag c).2.1, (hag c).2.2.1, (hag c).2.2.2]; exact ref5_eq _ _ _ _)), (h c).2.2.1.trans ((val_main_v18_eq _ _).trans (by rw [(hag c).1, (hag c).2.1]; exact ref6_eq _ _)), (h c).2.2.2⟩) (Cert.RmsBwdRefIdeal.Value.run m' ρ')⟩

open Cert.PleIdeal.Prod Cert.PleRefIdeal.Prod Cert.PleRefIdeal.Read in
/-- The loss head, forward and backward: the embedding's gate, the final norm, the loss and every gradient. -/
theorem alg_Ple : Cert.algebraic_PleIdeal_PleRefIdeal := fun m ρ m' ρ' hp hag =>
  ⟨fun c => G9 (X0 m c) (X1 m c) (X2 m c) (X3 m c) (X4 m c) (X5 m c) (X6 m c) (X7 m c), fun c => G9 (X0 m c) (X1 m c) (X2 m c) (X3 m c) (X4 m c) (X5 m c) (X6 m c) (X7 m c), fun c => G11 (X0 m c) (X1 m c) (X2 m c) (X3 m c) (X4 m c) (X5 m c) (X6 m c) (X7 m c), fun c => G12 (X0 m c) (X1 m c) (X2 m c) (X3 m c) (X4 m c) (X5 m c) (X6 m c) (X7 m c), fun c => G13 (X0 m c) (X1 m c) (X2 m c) (X3 m c) (X4 m c) (X5 m c) (X6 m c) (X7 m c), fun c => G14 (X0 m c) (X1 m c) (X2 m c) (X3 m c) (X4 m c) (X5 m c) (X6 m c) (X7 m c), fun c => G15 (X0 m c) (X1 m c) (X2 m c) (X3 m c) (X4 m c) (X5 m c) (X6 m c) (X7 m c), fun c => G16 (X0 m c) (X1 m c) (X2 m c) (X3 m c) (X4 m c) (X5 m c) (X6 m c) (X7 m c),
    (θ_run Cert.PleIdeal.defs _ _).mono (fun _ h c => ⟨(h c).1.trans (arr9_eq m c), (h c).2.1.trans (arr10_eq m c), (h c).2.2.1.trans (arr11_eq m c), (h c).2.2.2.1.trans (arr12_eq m c), (h c).2.2.2.2.1.trans (arr13_eq m c), (h c).2.2.2.2.2.1.trans (arr14_eq m c), (h c).2.2.2.2.2.2.1.trans (arr15_eq m c), (h c).2.2.2.2.2.2.2.1.trans (arr16_eq m c), (h c).2.2.2.2.2.2.2.2⟩) (Cert.PleIdeal.Value.run_blocks m ρ),
    (θ_run Cert.PleRefIdeal.defs _ _).mono (fun _ h c => ⟨(h c).1.trans ((val_main_v104_eq _).trans (by show val_main_v104 (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _; rw [(hag c).1, (hag c).2.1, (hag c).2.2.1, (hag c).2.2.2.1, (hag c).2.2.2.2.1, (hag c).2.2.2.2.2.1, (hag c).2.2.2.2.2.2.1, (hag c).2.2.2.2.2.2.2]; exact ref9_eq _ _ _ _ _ _ _ _)), (h c).2.1.trans ((val_main_v105_eq _).trans (by show val_main_v105 (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _; rw [(hag c).1, (hag c).2.1, (hag c).2.2.1, (hag c).2.2.2.1, (hag c).2.2.2.2.1, (hag c).2.2.2.2.2.1, (hag c).2.2.2.2.2.2.1, (hag c).2.2.2.2.2.2.2]; exact ref10_eq _ _ _ _ _ _ _ _)), (h c).2.2.1.trans ((val_main_v106_eq _).trans (by show val_main_v106 (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _; rw [(hag c).1, (hag c).2.1, (hag c).2.2.1, (hag c).2.2.2.1, (hag c).2.2.2.2.1, (hag c).2.2.2.2.2.1, (hag c).2.2.2.2.2.2.1, (hag c).2.2.2.2.2.2.2]; exact ref11_eq _ _ _ _ _ _ _ _)), (h c).2.2.2.1.trans ((val_main_v107_eq _).trans (by show val_main_v107 (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _; rw [(hag c).1, (hag c).2.1, (hag c).2.2.1, (hag c).2.2.2.1, (hag c).2.2.2.2.1, (hag c).2.2.2.2.2.1, (hag c).2.2.2.2.2.2.1, (hag c).2.2.2.2.2.2.2]; exact ref12_eq _ _ _ _ _ _ _ _)), (h c).2.2.2.2.1.trans ((val_main_v64_eq _).trans (by show val_main_v64 (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _; rw [(hag c).1, (hag c).2.1, (hag c).2.2.1, (hag c).2.2.2.1, (hag c).2.2.2.2.1, (hag c).2.2.2.2.2.1, (hag c).2.2.2.2.2.2.1, (hag c).2.2.2.2.2.2.2]; exact ref13_eq _ _ _ _ _ _ _ _)), (h c).2.2.2.2.2.1.trans ((val_main_v109_eq _).trans (by show val_main_v109 (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _; rw [(hag c).1, (hag c).2.1, (hag c).2.2.1, (hag c).2.2.2.1, (hag c).2.2.2.2.1, (hag c).2.2.2.2.2.1, (hag c).2.2.2.2.2.2.1, (hag c).2.2.2.2.2.2.2]; exact ref14_eq _ _ _ _ _ _ _ _)), (h c).2.2.2.2.2.2.1.trans ((val_main_v110_eq _).trans (by show val_main_v110 (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _; rw [(hag c).1, (hag c).2.1, (hag c).2.2.1, (hag c).2.2.2.1, (hag c).2.2.2.2.1, (hag c).2.2.2.2.2.1, (hag c).2.2.2.2.2.2.1, (hag c).2.2.2.2.2.2.2]; exact ref15_eq _ _ _ _ _ _ _ _)), (h c).2.2.2.2.2.2.2.1.trans ((val_main_v87_eq _).trans (by show val_main_v87 (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) (m' ((c.tc : Thread Cert.PleRefIdeal.nD Cert.PleRefIdeal.τ).loc Cert.PleRefIdeal.main_arg6)) (m' ((c.tc : Thread Cert.PleRefIdeal.nD Cert.PleRefIdeal.τ).loc Cert.PleRefIdeal.main_arg7)) = _; rw [(hag c).1, (hag c).2.1, (hag c).2.2.1, (hag c).2.2.2.1, (hag c).2.2.2.2.1, (hag c).2.2.2.2.2.1, (hag c).2.2.2.2.2.2.1, (hag c).2.2.2.2.2.2.2]; exact ref16_eq _ _ _ _ _ _ _ _)), (h c).2.2.2.2.2.2.2.2⟩) (Cert.PleRefIdeal.Value.run m' ρ')⟩

open Cert.DactIdeal.Prod Cert.DactRefIdeal.Prod Cert.DactRefIdeal.Read in
/-- The SwiGLU's backward pass through the down projection: both halves' gradients. -/
theorem alg_Dact : Cert.algebraic_DactIdeal_DactRefIdeal_pre_finite_dact := fun m ρ m' ρ' hp hag =>
  ⟨fun c => G4 (X0 m c) (X1 m c) (X2 m c) (X3 m c), fun c => G5 (X0 m c) (X1 m c) (X2 m c),
    (θ_run Cert.DactIdeal.defs _ _).mono (fun _ h c => ⟨(h c).1.trans (arr4_eq m c), (h c).2.1.trans (arr5_eq m c), (h c).2.2⟩) (Cert.DactIdeal.Value.run_blocks m ρ),
    (θ_run Cert.DactRefIdeal.defs _ _).mono (fun _ h c => ⟨(h c).1.trans ((val_main_v11_eq _ _ _ _).trans (by rw [(hag c).1, (hag c).2.1, (hag c).2.2.1, (hag c).2.2.2]; exact (let h := pre_real _ _ _ _ (hp c); ref4_eq _ _ _ _ (dall_real _ _ _ h.1 h.2.1 h.2.2)))), (h c).2.1.trans ((val_main_v12_eq _ _ _).trans (by rw [(hag c).1, (hag c).2.1, (hag c).2.2.1]; exact ref5_eq _ _ _)), (h c).2.2⟩) (Cert.DactRefIdeal.Value.run m' ρ')⟩

open Cert.DfIdeal.Prod Cert.DfRefIdeal.Prod Cert.DfRefIdeal.Read in
/-- The gradient of the SwiGLU's input. -/
theorem alg_Df : Cert.algebraic_DfIdeal_DfRefIdeal := fun m ρ m' ρ' hp hag =>
  ⟨fun c => G (X0 m c) (X1 m c) (X2 m c) (X3 m c),
    (θ_run Cert.DfIdeal.defs _ _).mono (fun _ h c => ⟨(h c).1.trans (arr_eq m c), (h c).2⟩) (Cert.DfIdeal.Value.run_blocks m ρ),
    (θ_run Cert.DfRefIdeal.defs _ _).mono (fun _ h c => ⟨(h c).1.trans ((val_main_v10_eq _ _ _ _).trans (by rw [(hag c).1, (hag c).2.1, (hag c).2.2.1, (hag c).2.2.2]; exact ref_eq _ _ _ _)), (h c).2⟩) (Cert.DfRefIdeal.Value.run m' ρ')⟩

open Cert.DwGateIdeal.Prod Cert.DwGateIdeal.Value Cert.DwGateRefIdeal.Prod Cert.DwGateRefIdeal.Read in
/-- The gradient of the gate's weights. -/
theorem alg_DwGate : Cert.algebraic_DwGateIdeal_DwGateRefIdeal := fun m ρ m' ρ' hp hag =>
  ⟨fun c => G2 m c,
    Cert.DwGateIdeal.Value.run m ρ,
    (θ_run Cert.DwGateRefIdeal.defs _ _).mono (fun _ h c => ⟨(h c).1.trans ((val_main_v6_eq _ _).trans (by rw [(hag c).1, (hag c).2]; exact (result_eq m c).symm)), (h c).2⟩) (Cert.DwGateRefIdeal.Value.run m' ρ')⟩

open Cert.DwDownIdeal.Prod Cert.DwDownIdeal.Value Cert.DwDownRefIdeal.Prod Cert.DwDownRefIdeal.Read in
/-- The gradient of the down projection's weights. -/
theorem alg_DwDown : Cert.algebraic_DwDownIdeal_DwDownRefIdeal := fun m ρ m' ρ' hp hag =>
  ⟨fun c => G2 m c,
    Cert.DwDownIdeal.Value.run m ρ,
    (θ_run Cert.DwDownRefIdeal.defs _ _).mono (fun _ h c => ⟨(h c).1.trans ((val_main_v6_eq _ _).trans (by rw [(hag c).1, (hag c).2]; exact (result_eq m c).symm)), (h c).2⟩) (Cert.DwDownRefIdeal.Value.run m' ρ')⟩

open Cert.DwUpIdeal.Prod Cert.DwUpIdeal.Value Cert.DwUpRefIdeal.Prod Cert.DwUpRefIdeal.Read in
/-- The gradient of the up projection's weights. -/
theorem alg_DwUp : Cert.algebraic_DwUpIdeal_DwUpRefIdeal := fun m ρ m' ρ' hp hag =>
  ⟨fun c => G2 m c,
    Cert.DwUpIdeal.Value.run m ρ,
    (θ_run Cert.DwUpRefIdeal.defs _ _).mono (fun _ h c => ⟨(h c).1.trans ((val_main_v6_eq _ _).trans (by rw [(hag c).1, (hag c).2]; exact (result_eq m c).symm)), (h c).2⟩) (Cert.DwUpRefIdeal.Value.run m' ρ')⟩

open Cert.DwInIdeal.Prod Cert.DwInIdeal.Value Cert.DwInRefIdeal.Prod Cert.DwInRefIdeal.Read in
/-- The gradient of one fifth of the input projection's weights. -/
theorem alg_DwIn : Cert.algebraic_DwInIdeal_DwInRefIdeal := fun m ρ m' ρ' hp hag =>
  ⟨fun c => G2 m c,
    Cert.DwInIdeal.Value.run m ρ,
    (θ_run Cert.DwInRefIdeal.defs _ _).mono (fun _ h c => ⟨(h c).1.trans ((val_main_v6_eq _ _).trans (by rw [(hag c).1, (hag c).2]; exact (result_eq m c).symm)), (h c).2⟩) (Cert.DwInRefIdeal.Value.run m' ρ')⟩

open Cert.DwOutIdeal.Prod Cert.DwOutIdeal.Value Cert.DwOutRefIdeal.Prod Cert.DwOutRefIdeal.Read in
/-- The gradient of the output projection's weights. -/
theorem alg_DwOut : Cert.algebraic_DwOutIdeal_DwOutRefIdeal := fun m ρ m' ρ' hp hag =>
  ⟨fun c => G2 m c,
    Cert.DwOutIdeal.Value.run m ρ,
    (θ_run Cert.DwOutRefIdeal.defs _ _).mono (fun _ h c => ⟨(h c).1.trans ((val_main_v6_eq _ _).trans (by rw [(hag c).1, (hag c).2]; exact (result_eq m c).symm)), (h c).2⟩) (Cert.DwOutRefIdeal.Value.run m' ρ')⟩

open Cert.DwPgateIdeal.Prod Cert.DwPgateIdeal.Value Cert.DwPgateRefIdeal.Prod Cert.DwPgateRefIdeal.Read in
/-- The gradient of the per-layer gate's weights. -/
theorem alg_DwPgate : Cert.algebraic_DwPgateIdeal_DwPgateRefIdeal := fun m ρ m' ρ' hp hag =>
  ⟨fun c => G2 m c,
    Cert.DwPgateIdeal.Value.run m ρ,
    (θ_run Cert.DwPgateRefIdeal.defs _ _).mono (fun _ h c => ⟨(h c).1.trans ((val_main_v6_eq _ _).trans (by rw [(hag c).1, (hag c).2]; exact (result_eq m c).symm)), (h c).2⟩) (Cert.DwPgateRefIdeal.Value.run m' ρ')⟩

open Cert.DwPleIdeal.Prod Cert.DwPleIdeal.Value Cert.DwPleRefIdeal.Prod Cert.DwPleRefIdeal.Read in
/-- The gradient of the per-layer embedding's weights. -/
theorem alg_DwPle : Cert.algebraic_DwPleIdeal_DwPleRefIdeal := fun m ρ m' ρ' hp hag =>
  ⟨fun c => G2 m c,
    Cert.DwPleIdeal.Value.run m ρ,
    (θ_run Cert.DwPleRefIdeal.defs _ _).mono (fun _ h c => ⟨(h c).1.trans ((val_main_v5_eq _ _).trans (by rw [(hag c).1, (hag c).2]; exact (result_eq m c).symm)), (h c).2⟩) (Cert.DwPleRefIdeal.Value.run m' ρ')⟩

open Cert.DaIdeal.Prod Cert.DaRefIdeal.Prod Cert.DaRefIdeal.Read in
/-- The gradient of the input projection's operand. -/
theorem alg_Da : Cert.algebraic_DaIdeal_DaRefIdeal := fun m ρ m' ρ' hp hag =>
  ⟨fun c => G (X0 m c) (X1 m c) (X2 m c) (X3 m c) (X4 m c) (X5 m c),
    (θ_run Cert.DaIdeal.defs _ _).mono (fun _ h c => ⟨(h c).1.trans (arr_eq m c), (h c).2⟩) (Cert.DaIdeal.Value.run_blocks m ρ),
    (θ_run Cert.DaRefIdeal.defs _ _).mono (fun _ h c => ⟨(h c).1.trans ((val_main_v26_eq _ _ _ _ _ _).trans (by rw [(hag c).1, (hag c).2.1, (hag c).2.2.1, (hag c).2.2.2.1, (hag c).2.2.2.2.1, (hag c).2.2.2.2.2]; exact ref_eq _ _ _ _ _ _)), (h c).2⟩) (Cert.DaRefIdeal.Value.run m' ρ')⟩

open Cert.DcatIdeal.Prod Cert.DcatRefIdeal.Prod Cert.DcatRefIdeal.Read in
/-- The gradient of the two branches side by side. -/
theorem alg_Dcat : Cert.algebraic_DcatIdeal_DcatRefIdeal := fun m ρ m' ρ' hp hag =>
  ⟨fun c => G (X0 m c) (X1 m c),
    (θ_run Cert.DcatIdeal.defs _ _).mono (fun _ h c => ⟨(h c).1.trans (arr_eq m c), (h c).2⟩) (Cert.DcatIdeal.Value.run_blocks m ρ),
    (θ_run Cert.DcatRefIdeal.defs _ _).mono (fun _ h c => ⟨(h c).1.trans ((val_main_v4_eq _ _).trans (by rw [(hag c).1, (hag c).2]; exact ref_eq _ _)), (h c).2⟩) (Cert.DcatRefIdeal.Value.run m' ρ')⟩

open Cert.MmInIdeal.Prod Cert.MmInRefIdeal.Prod Cert.MmInRefIdeal.Read in
/-- The input projection. -/
theorem alg_MmIn : Cert.algebraic_MmInIdeal_MmInRefIdeal := fun m ρ m' ρ' hp hag =>
  ⟨fun c => G (X0 m c) (X1 m c),
    (θ_run Cert.MmInIdeal.defs _ _).mono (fun _ h c => ⟨(h c).1.trans (arr_eq m c), (h c).2⟩) (Cert.MmInIdeal.Value.run_blocks m ρ),
    (θ_run Cert.MmInRefIdeal.defs _ _).mono (fun _ h c => ⟨(h c).1.trans ((val_main_v2_eq _ _).trans (by rw [(hag c).1, (hag c).2]; exact ref_eq _ _)), (h c).2⟩) (Cert.MmInRefIdeal.Value.run m' ρ')⟩

open Cert.MmOutIdeal.Prod Cert.MmOutRefIdeal.Prod Cert.MmOutRefIdeal.Read in
/-- The output projection, its residual and the norm that follows. -/
theorem alg_MmOut : Cert.algebraic_MmOutIdeal_MmOutRefIdeal := fun m ρ m' ρ' hp hag =>
  ⟨fun c => G4 (X0 m c) (X1 m c) (X2 m c), fun c => G5 (X0 m c) (X1 m c) (X2 m c) (X3 m c),
    (θ_run Cert.MmOutIdeal.defs _ _).mono (fun _ h c => ⟨(h c).1.trans (arr4_eq m c), (h c).2.1.trans (arr5_eq m c), (h c).2.2⟩) (Cert.MmOutIdeal.Value.run_blocks m ρ),
    (θ_run Cert.MmOutRefIdeal.defs _ _).mono (fun _ h c => ⟨(h c).1.trans ((val_main_v3_eq _ _ _).trans (by rw [(hag c).1, (hag c).2.1, (hag c).2.2.1]; exact ref4_eq _ _ _)), (h c).2.1.trans ((val_main_v16_eq _ _ _ _).trans (by rw [(hag c).1, (hag c).2.1, (hag c).2.2.1, (hag c).2.2.2]; exact ref5_eq _ _ _ _)), (h c).2.2⟩) (Cert.MmOutRefIdeal.Value.run m' ρ')⟩

open Cert.MmGateUpIdeal.Prod Cert.MmGateUpRefIdeal.Prod Cert.MmGateUpRefIdeal.Read in
/-- The SwiGLU's two products and their activation. -/
theorem alg_MmGateUp : Cert.algebraic_MmGateUpIdeal_MmGateUpRefIdeal := fun m ρ m' ρ' hp hag =>
  ⟨fun c => G4 (X0 m c) (X1 m c), fun c => G4 (X0 m c) (X2 m c), fun c => G6 (X0 m c) (X1 m c) (X2 m c),
    (θ_run Cert.MmGateUpIdeal.defs _ _).mono (fun _ h c => ⟨(h c).1.trans (arr4_eq m c), (h c).2.1.trans (arr5_eq m c), (h c).2.2.1.trans (arr6_eq m c), (h c).2.2.2⟩) (Cert.MmGateUpIdeal.Value.run_blocks m ρ),
    (θ_run Cert.MmGateUpRefIdeal.defs _ _).mono (fun _ h c => ⟨(h c).1.trans ((val_main_v6_eq _ _).trans (by rw [(hag c).1, (hag c).2.1]; exact ref4_eq _ _)), (h c).2.1.trans ((val_main_v7_eq _ _).trans (by rw [(hag c).1, (hag c).2.2]; exact ref5_eq _ _)), (h c).2.2.1.trans ((val_main_v10_eq _ _ _).trans (by rw [(hag c).1, (hag c).2.1, (hag c).2.2]; exact ref6_eq _ _ _)), (h c).2.2.2⟩) (Cert.MmGateUpRefIdeal.Value.run m' ρ')⟩

open Cert.MmDownIdeal.Prod Cert.MmDownRefIdeal.Prod Cert.MmDownRefIdeal.Read in
/-- The down projection and its residual. -/
theorem alg_MmDown : Cert.algebraic_MmDownIdeal_MmDownRefIdeal := fun m ρ m' ρ' hp hag =>
  ⟨fun c => G (X0 m c) (X1 m c) (X2 m c),
    (θ_run Cert.MmDownIdeal.defs _ _).mono (fun _ h c => ⟨(h c).1.trans (arr_eq m c), (h c).2⟩) (Cert.MmDownIdeal.Value.run_blocks m ρ),
    (θ_run Cert.MmDownRefIdeal.defs _ _).mono (fun _ h c => ⟨(h c).1.trans ((val_main_v3_eq _ _ _).trans (by rw [(hag c).1, (hag c).2.1, (hag c).2.2]; exact ref_eq _ _ _)), (h c).2⟩) (Cert.MmDownRefIdeal.Value.run m' ρ')⟩

open Cert.AdamInIdeal.Prod Cert.AdamInRefIdeal.Prod Cert.AdamInRefIdeal.Read in
/-- One AdamW step of the input projection's weights: the update, the two moments and the gradient's copy. -/
theorem alg_AdamIn : Cert.algebraic_AdamInIdeal_AdamInRefIdeal := fun m ρ m' ρ' hp hag =>
  ⟨fun c => G4 (X0 m c) (X1 m c) (X2 m c) (X3 m c), fun c => G5 (X1 m c) (X2 m c), fun c => G6 (X1 m c) (X3 m c), fun c => G7 (X1 m c),
    (θ_run Cert.AdamInIdeal.defs _ _).mono (fun _ h c => ⟨(h c).1.trans (arr4_eq m c), (h c).2.1.trans (arr5_eq m c), (h c).2.2.1.trans (arr6_eq m c), (h c).2.2.2.1.trans (arr7_eq m c), (h c).2.2.2.2⟩) (Cert.AdamInIdeal.Value.run_blocks m ρ),
    (θ_run Cert.AdamInRefIdeal.defs _ _).mono (fun _ h c => ⟨(h c).1.trans ((val_main_v23_eq _ _ _ _).trans (by rw [(hag c).1, (hag c).2.1, (hag c).2.2.1, (hag c).2.2.2]; exact ref4_eq _ _ _ _)), (h c).2.1.trans ((val_main_v4_eq _ _).trans (by rw [(hag c).2.1, (hag c).2.2.1]; exact ref5_eq _ _)), (h c).2.2.1.trans ((val_main_v10_eq _ _).trans (by rw [(hag c).2.1, (hag c).2.2.2]; exact ref6_eq _ _)), (h c).2.2.2.1.trans ((hag c).2.1), (h c).2.2.2.2⟩) (Cert.AdamInRefIdeal.Value.run m' ρ')⟩

open Cert.AdamOutIdeal.Prod Cert.AdamOutRefIdeal.Prod Cert.AdamOutRefIdeal.Read in
/-- One AdamW step of the output projection's and the per-layer gate's weights: the update, the two moments and the gradient's copy. -/
theorem alg_AdamOut : Cert.algebraic_AdamOutIdeal_AdamOutRefIdeal := fun m ρ m' ρ' hp hag =>
  ⟨fun c => G4 (X0 m c) (X1 m c) (X2 m c) (X3 m c), fun c => G5 (X1 m c) (X2 m c), fun c => G6 (X1 m c) (X3 m c), fun c => G7 (X1 m c),
    (θ_run Cert.AdamOutIdeal.defs _ _).mono (fun _ h c => ⟨(h c).1.trans (arr4_eq m c), (h c).2.1.trans (arr5_eq m c), (h c).2.2.1.trans (arr6_eq m c), (h c).2.2.2.1.trans (arr7_eq m c), (h c).2.2.2.2⟩) (Cert.AdamOutIdeal.Value.run_blocks m ρ),
    (θ_run Cert.AdamOutRefIdeal.defs _ _).mono (fun _ h c => ⟨(h c).1.trans ((val_main_v23_eq _ _ _ _).trans (by rw [(hag c).1, (hag c).2.1, (hag c).2.2.1, (hag c).2.2.2]; exact ref4_eq _ _ _ _)), (h c).2.1.trans ((val_main_v4_eq _ _).trans (by rw [(hag c).2.1, (hag c).2.2.1]; exact ref5_eq _ _)), (h c).2.2.1.trans ((val_main_v10_eq _ _).trans (by rw [(hag c).2.1, (hag c).2.2.2]; exact ref6_eq _ _)), (h c).2.2.2.1.trans ((hag c).2.1), (h c).2.2.2.2⟩) (Cert.AdamOutRefIdeal.Value.run m' ρ')⟩

open Cert.AdamGateIdeal.Prod Cert.AdamGateRefIdeal.Prod Cert.AdamGateRefIdeal.Read in
/-- One AdamW step of the SwiGLU's gate and up weights: the update, the two moments and the gradient's copy. -/
theorem alg_AdamGate : Cert.algebraic_AdamGateIdeal_AdamGateRefIdeal := fun m ρ m' ρ' hp hag =>
  ⟨fun c => G4 (X0 m c) (X1 m c) (X2 m c) (X3 m c), fun c => G5 (X1 m c) (X2 m c), fun c => G6 (X1 m c) (X3 m c), fun c => G7 (X1 m c),
    (θ_run Cert.AdamGateIdeal.defs _ _).mono (fun _ h c => ⟨(h c).1.trans (arr4_eq m c), (h c).2.1.trans (arr5_eq m c), (h c).2.2.1.trans (arr6_eq m c), (h c).2.2.2.1.trans (arr7_eq m c), (h c).2.2.2.2⟩) (Cert.AdamGateIdeal.Value.run_blocks m ρ),
    (θ_run Cert.AdamGateRefIdeal.defs _ _).mono (fun _ h c => ⟨(h c).1.trans ((val_main_v23_eq _ _ _ _).trans (by rw [(hag c).1, (hag c).2.1, (hag c).2.2.1, (hag c).2.2.2]; exact ref4_eq _ _ _ _)), (h c).2.1.trans ((val_main_v4_eq _ _).trans (by rw [(hag c).2.1, (hag c).2.2.1]; exact ref5_eq _ _)), (h c).2.2.1.trans ((val_main_v10_eq _ _).trans (by rw [(hag c).2.1, (hag c).2.2.2]; exact ref6_eq _ _)), (h c).2.2.2.1.trans ((hag c).2.1), (h c).2.2.2.2⟩) (Cert.AdamGateRefIdeal.Value.run m' ρ')⟩

open Cert.AdamDownIdeal.Prod Cert.AdamDownRefIdeal.Prod Cert.AdamDownRefIdeal.Read in
/-- One AdamW step of the down projection's weights: the update, the two moments and the gradient's copy. -/
theorem alg_AdamDown : Cert.algebraic_AdamDownIdeal_AdamDownRefIdeal := fun m ρ m' ρ' hp hag =>
  ⟨fun c => G4 (X0 m c) (X1 m c) (X2 m c) (X3 m c), fun c => G5 (X1 m c) (X2 m c), fun c => G6 (X1 m c) (X3 m c), fun c => G7 (X1 m c),
    (θ_run Cert.AdamDownIdeal.defs _ _).mono (fun _ h c => ⟨(h c).1.trans (arr4_eq m c), (h c).2.1.trans (arr5_eq m c), (h c).2.2.1.trans (arr6_eq m c), (h c).2.2.2.1.trans (arr7_eq m c), (h c).2.2.2.2⟩) (Cert.AdamDownIdeal.Value.run_blocks m ρ),
    (θ_run Cert.AdamDownRefIdeal.defs _ _).mono (fun _ h c => ⟨(h c).1.trans ((val_main_v23_eq _ _ _ _).trans (by rw [(hag c).1, (hag c).2.1, (hag c).2.2.1, (hag c).2.2.2]; exact ref4_eq _ _ _ _)), (h c).2.1.trans ((val_main_v4_eq _ _).trans (by rw [(hag c).2.1, (hag c).2.2.1]; exact ref5_eq _ _)), (h c).2.2.1.trans ((val_main_v10_eq _ _).trans (by rw [(hag c).2.1, (hag c).2.2.2]; exact ref6_eq _ _)), (h c).2.2.2.1.trans ((hag c).2.1), (h c).2.2.2.2⟩) (Cert.AdamDownRefIdeal.Value.run m' ρ')⟩

open Cert.AdamPleIdeal.Prod Cert.AdamPleRefIdeal.Prod Cert.AdamPleRefIdeal.Read in
/-- One AdamW step of the per-layer embedding's weights: the update, the two moments and the gradient's copy. -/
theorem alg_AdamPle : Cert.algebraic_AdamPleIdeal_AdamPleRefIdeal := fun m ρ m' ρ' hp hag =>
  ⟨fun c => G4 (X0 m c) (X1 m c) (X2 m c) (X3 m c), fun c => G5 (X1 m c) (X2 m c), fun c => G6 (X1 m c) (X3 m c), fun c => G7 (X1 m c),
    (θ_run Cert.AdamPleIdeal.defs _ _).mono (fun _ h c => ⟨(h c).1.trans (arr4_eq m c), (h c).2.1.trans (arr5_eq m c), (h c).2.2.1.trans (arr6_eq m c), (h c).2.2.2.1.trans (arr7_eq m c), (h c).2.2.2.2⟩) (Cert.AdamPleIdeal.Value.run_blocks m ρ),
    (θ_run Cert.AdamPleRefIdeal.defs _ _).mono (fun _ h c => ⟨(h c).1.trans ((val_main_v23_eq _ _ _ _).trans (by rw [(hag c).1, (hag c).2.1, (hag c).2.2.1, (hag c).2.2.2]; exact ref4_eq _ _ _ _)), (h c).2.1.trans ((val_main_v4_eq _ _).trans (by rw [(hag c).2.1, (hag c).2.2.1]; exact ref5_eq _ _)), (h c).2.2.1.trans ((val_main_v10_eq _ _).trans (by rw [(hag c).2.1, (hag c).2.2.2]; exact ref6_eq _ _)), (h c).2.2.2.1.trans ((hag c).2.1), (h c).2.2.2.2⟩) (Cert.AdamPleRefIdeal.Value.run m' ρ')⟩

open Cert.AdamVecIdeal.Prod Cert.AdamVecRefIdeal.Prod Cert.AdamVecRefIdeal.Read in
/-- One AdamW step of the model-wide gains and bias: the update, the two moments and the gradient's copy. -/
theorem alg_AdamVec : Cert.algebraic_AdamVecIdeal_AdamVecRefIdeal := fun m ρ m' ρ' hp hag =>
  ⟨fun c => G4 (X0 m c) (X1 m c) (X2 m c) (X3 m c), fun c => G5 (X1 m c) (X2 m c), fun c => G6 (X1 m c) (X3 m c), fun c => G7 (X1 m c),
    (θ_run Cert.AdamVecIdeal.defs _ _).mono (fun _ h c => ⟨(h c).1.trans (arr4_eq m c), (h c).2.1.trans (arr5_eq m c), (h c).2.2.1.trans (arr6_eq m c), (h c).2.2.2.1.trans (arr7_eq m c), (h c).2.2.2.2⟩) (Cert.AdamVecIdeal.Value.run_blocks m ρ),
    (θ_run Cert.AdamVecRefIdeal.defs _ _).mono (fun _ h c => ⟨(h c).1.trans ((val_main_v23_eq _ _ _ _).trans (by rw [(hag c).1, (hag c).2.1, (hag c).2.2.1, (hag c).2.2.2]; exact ref4_eq _ _ _ _)), (h c).2.1.trans ((val_main_v4_eq _ _).trans (by rw [(hag c).2.1, (hag c).2.2.1]; exact ref5_eq _ _)), (h c).2.2.1.trans ((val_main_v10_eq _ _).trans (by rw [(hag c).2.1, (hag c).2.2.2]; exact ref6_eq _ _)), (h c).2.2.2.1.trans ((hag c).2.1), (h c).2.2.2.2⟩) (Cert.AdamVecRefIdeal.Value.run m' ρ')⟩

open Cert.AdamHalfIdeal.Prod Cert.AdamHalfRefIdeal.Prod Cert.AdamHalfRefIdeal.Read in
/-- One AdamW step of the convolution's bias and its layer norm's gain and bias: the update, the two moments and the gradient's copy. -/
theorem alg_AdamHalf : Cert.algebraic_AdamHalfIdeal_AdamHalfRefIdeal := fun m ρ m' ρ' hp hag =>
  ⟨fun c => G4 (X0 m c) (X1 m c) (X2 m c) (X3 m c), fun c => G5 (X1 m c) (X2 m c), fun c => G6 (X1 m c) (X3 m c), fun c => G7 (X1 m c),
    (θ_run Cert.AdamHalfIdeal.defs _ _).mono (fun _ h c => ⟨(h c).1.trans (arr4_eq m c), (h c).2.1.trans (arr5_eq m c), (h c).2.2.1.trans (arr6_eq m c), (h c).2.2.2.1.trans (arr7_eq m c), (h c).2.2.2.2⟩) (Cert.AdamHalfIdeal.Value.run_blocks m ρ),
    (θ_run Cert.AdamHalfRefIdeal.defs _ _).mono (fun _ h c => ⟨(h c).1.trans ((val_main_v23_eq _ _ _ _).trans (by rw [(hag c).1, (hag c).2.1, (hag c).2.2.1, (hag c).2.2.2]; exact ref4_eq _ _ _ _)), (h c).2.1.trans ((val_main_v4_eq _ _).trans (by rw [(hag c).2.1, (hag c).2.2.1]; exact ref5_eq _ _)), (h c).2.2.1.trans ((val_main_v10_eq _ _).trans (by rw [(hag c).2.1, (hag c).2.2.2]; exact ref6_eq _ _)), (h c).2.2.2.1.trans ((hag c).2.1), (h c).2.2.2.2⟩) (Cert.AdamHalfRefIdeal.Value.run m' ρ')⟩

open Cert.AdamDwIdeal.Prod Cert.AdamDwRefIdeal.Prod Cert.AdamDwRefIdeal.Read in
/-- One AdamW step of the convolution's taps: the update, the two moments and the gradient's copy. -/
theorem alg_AdamDw : Cert.algebraic_AdamDwIdeal_AdamDwRefIdeal := fun m ρ m' ρ' hp hag =>
  ⟨fun c => G4 (X0 m c) (X1 m c) (X2 m c) (X3 m c), fun c => G5 (X1 m c) (X2 m c), fun c => G6 (X1 m c) (X3 m c), fun c => G7 (X1 m c),
    (θ_run Cert.AdamDwIdeal.defs _ _).mono (fun _ h c => ⟨(h c).1.trans (arr4_eq m c), (h c).2.1.trans (arr5_eq m c), (h c).2.2.1.trans (arr6_eq m c), (h c).2.2.2.1.trans (arr7_eq m c), (h c).2.2.2.2⟩) (Cert.AdamDwIdeal.Value.run_blocks m ρ),
    (θ_run Cert.AdamDwRefIdeal.defs _ _).mono (fun _ h c => ⟨(h c).1.trans ((val_main_v23_eq _ _ _ _).trans (by rw [(hag c).1, (hag c).2.1, (hag c).2.2.1, (hag c).2.2.2]; exact ref4_eq _ _ _ _)), (h c).2.1.trans ((val_main_v4_eq _ _).trans (by rw [(hag c).2.1, (hag c).2.2.1]; exact ref5_eq _ _)), (h c).2.2.1.trans ((val_main_v10_eq _ _).trans (by rw [(hag c).2.1, (hag c).2.2.2]; exact ref6_eq _ _)), (h c).2.2.2.1.trans ((hag c).2.1), (h c).2.2.2.2⟩) (Cert.AdamDwRefIdeal.Value.run m' ρ')⟩

/-- Everything the certificate claims. -/
theorem claim : Cert.Claim := ⟨Cert.ConvBwd.Gen.facts, Cert.ConvBwdIdeal.Gen.facts, Cert.ConvBwdRefIdeal.Gen.facts, Cert.SumSmall.Gen.facts, Cert.SumSmallIdeal.Gen.facts, Cert.SumSmallRefIdeal.Gen.facts, Cert.RmsFwd.Gen.facts, Cert.RmsFwdIdeal.Gen.facts, Cert.RmsFwdRefIdeal.Gen.facts, Cert.RmsBwd.Gen.facts, Cert.RmsBwdIdeal.Gen.facts, Cert.RmsBwdRefIdeal.Gen.facts, Cert.Ple.Gen.facts, Cert.PleIdeal.Gen.facts, Cert.PleRefIdeal.Gen.facts, Cert.Dact.Gen.facts, Cert.DactIdeal.Gen.facts, Cert.DactRefIdeal.Gen.facts, Cert.Df.Gen.facts, Cert.DfIdeal.Gen.facts, Cert.DfRefIdeal.Gen.facts, Cert.DwGate.Gen.facts, Cert.DwGateIdeal.Gen.facts, Cert.DwGateRefIdeal.Gen.facts, Cert.DwDown.Gen.facts, Cert.DwDownIdeal.Gen.facts, Cert.DwDownRefIdeal.Gen.facts, Cert.DwUp.Gen.facts, Cert.DwUpIdeal.Gen.facts, Cert.DwUpRefIdeal.Gen.facts, Cert.DwIn.Gen.facts, Cert.DwInIdeal.Gen.facts, Cert.DwInRefIdeal.Gen.facts, Cert.DwOut.Gen.facts, Cert.DwOutIdeal.Gen.facts, Cert.DwOutRefIdeal.Gen.facts, Cert.DwPgate.Gen.facts, Cert.DwPgateIdeal.Gen.facts, Cert.DwPgateRefIdeal.Gen.facts, Cert.DwPle.Gen.facts, Cert.DwPleIdeal.Gen.facts, Cert.DwPleRefIdeal.Gen.facts, Cert.Da.Gen.facts, Cert.DaIdeal.Gen.facts, Cert.DaRefIdeal.Gen.facts, Cert.Dcat.Gen.facts, Cert.DcatIdeal.Gen.facts, Cert.DcatRefIdeal.Gen.facts, Cert.MmIn.Gen.facts, Cert.MmInIdeal.Gen.facts, Cert.MmInRefIdeal.Gen.facts, Cert.MmOut.Gen.facts, Cert.MmOutIdeal.Gen.facts, Cert.MmOutRefIdeal.Gen.facts, Cert.MmGateUp.Gen.facts, Cert.MmGateUpIdeal.Gen.facts, Cert.MmGateUpRefIdeal.Gen.facts, Cert.MmDown.Gen.facts, Cert.MmDownIdeal.Gen.facts, Cert.MmDownRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamGate.Gen.facts, Cert.AdamGateIdeal.Gen.facts, Cert.AdamGateRefIdeal.Gen.facts, Cert.AdamDown.Gen.facts, Cert.AdamDownIdeal.Gen.facts, Cert.AdamDownRefIdeal.Gen.facts, Cert.AdamPle.Gen.facts, Cert.AdamPleIdeal.Gen.facts, Cert.AdamPleRefIdeal.Gen.facts, Cert.AdamVec.Gen.facts, Cert.AdamVecIdeal.Gen.facts, Cert.AdamVecRefIdeal.Gen.facts, Cert.AdamHalf.Gen.facts, Cert.AdamHalfIdeal.Gen.facts, Cert.AdamHalfRefIdeal.Gen.facts, Cert.AdamDw.Gen.facts, Cert.AdamDwIdeal.Gen.facts, Cert.AdamDwRefIdeal.Gen.facts, Cert.Pre_finite_dact.Gen.facts,
  fun m ρ _ => Cert.ConvBwd.Gen.frame m ρ, fun m ρ _ => Cert.ConvBwdIdeal.Gen.frame m ρ, frame_ConvBwdRefIdeal, fun m ρ _ => Cert.SumSmall.Gen.frame m ρ, fun m ρ _ => Cert.SumSmallIdeal.Gen.frame m ρ, frame_SumSmallRefIdeal, fun m ρ _ => Cert.RmsFwd.Gen.frame m ρ, fun m ρ _ => Cert.RmsFwdIdeal.Gen.frame m ρ, frame_RmsFwdRefIdeal, fun m ρ _ => Cert.RmsBwd.Gen.frame m ρ, fun m ρ _ => Cert.RmsBwdIdeal.Gen.frame m ρ, frame_RmsBwdRefIdeal, fun m ρ _ => Cert.Ple.Gen.frame m ρ, fun m ρ _ => Cert.PleIdeal.Gen.frame m ρ, frame_PleRefIdeal, fun m ρ _ => Cert.Dact.Gen.frame m ρ, fun m ρ _ => Cert.DactIdeal.Gen.frame m ρ, fun m ρ _ => Cert.DactIdeal.Gen.frame m ρ, frame_DactRefIdeal, frame_DactRefIdeal_pre_finite_dact, fun m ρ _ => Cert.Df.Gen.frame m ρ, fun m ρ _ => Cert.DfIdeal.Gen.frame m ρ, frame_DfRefIdeal, fun m ρ _ => Cert.DwGate.Gen.frame m ρ, fun m ρ _ => Cert.DwGateIdeal.Gen.frame m ρ, frame_DwGateRefIdeal, fun m ρ _ => Cert.DwDown.Gen.frame m ρ, fun m ρ _ => Cert.DwDownIdeal.Gen.frame m ρ, frame_DwDownRefIdeal, fun m ρ _ => Cert.DwUp.Gen.frame m ρ, fun m ρ _ => Cert.DwUpIdeal.Gen.frame m ρ, frame_DwUpRefIdeal, fun m ρ _ => Cert.DwIn.Gen.frame m ρ, fun m ρ _ => Cert.DwInIdeal.Gen.frame m ρ, frame_DwInRefIdeal, fun m ρ _ => Cert.DwOut.Gen.frame m ρ, fun m ρ _ => Cert.DwOutIdeal.Gen.frame m ρ, frame_DwOutRefIdeal, fun m ρ _ => Cert.DwPgate.Gen.frame m ρ, fun m ρ _ => Cert.DwPgateIdeal.Gen.frame m ρ, frame_DwPgateRefIdeal, fun m ρ _ => Cert.DwPle.Gen.frame m ρ, fun m ρ _ => Cert.DwPleIdeal.Gen.frame m ρ, frame_DwPleRefIdeal, fun m ρ _ => Cert.Da.Gen.frame m ρ, fun m ρ _ => Cert.DaIdeal.Gen.frame m ρ, frame_DaRefIdeal, fun m ρ _ => Cert.Dcat.Gen.frame m ρ, fun m ρ _ => Cert.DcatIdeal.Gen.frame m ρ, frame_DcatRefIdeal, fun m ρ _ => Cert.MmIn.Gen.frame m ρ, fun m ρ _ => Cert.MmInIdeal.Gen.frame m ρ, frame_MmInRefIdeal, fun m ρ _ => Cert.MmOut.Gen.frame m ρ, fun m ρ _ => Cert.MmOutIdeal.Gen.frame m ρ, frame_MmOutRefIdeal, fun m ρ _ => Cert.MmGateUp.Gen.frame m ρ, fun m ρ _ => Cert.MmGateUpIdeal.Gen.frame m ρ, frame_MmGateUpRefIdeal, fun m ρ _ => Cert.MmDown.Gen.frame m ρ, fun m ρ _ => Cert.MmDownIdeal.Gen.frame m ρ, frame_MmDownRefIdeal, fun m ρ _ => Cert.AdamIn.Gen.frame m ρ, fun m ρ _ => Cert.AdamInIdeal.Gen.frame m ρ, frame_AdamInRefIdeal, fun m ρ _ => Cert.AdamOut.Gen.frame m ρ, fun m ρ _ => Cert.AdamOutIdeal.Gen.frame m ρ, frame_AdamOutRefIdeal, fun m ρ _ => Cert.AdamGate.Gen.frame m ρ, fun m ρ _ => Cert.AdamGateIdeal.Gen.frame m ρ, frame_AdamGateRefIdeal, fun m ρ _ => Cert.AdamDown.Gen.frame m ρ, fun m ρ _ => Cert.AdamDownIdeal.Gen.frame m ρ, frame_AdamDownRefIdeal, fun m ρ _ => Cert.AdamPle.Gen.frame m ρ, fun m ρ _ => Cert.AdamPleIdeal.Gen.frame m ρ, frame_AdamPleRefIdeal, fun m ρ _ => Cert.AdamVec.Gen.frame m ρ, fun m ρ _ => Cert.AdamVecIdeal.Gen.frame m ρ, frame_AdamVecRefIdeal, fun m ρ _ => Cert.AdamHalf.Gen.frame m ρ, fun m ρ _ => Cert.AdamHalfIdeal.Gen.frame m ρ, frame_AdamHalfRefIdeal, fun m ρ _ => Cert.AdamDw.Gen.frame m ρ, fun m ρ _ => Cert.AdamDwIdeal.Gen.frame m ρ, frame_AdamDwRefIdeal, trivial, alg_ConvBwd, trivial, alg_SumSmall, trivial, alg_RmsFwd, trivial, alg_RmsBwd, trivial, alg_Ple, trivial, alg_Dact, trivial, alg_Df, trivial, alg_DwGate, trivial, alg_DwDown, trivial, alg_DwUp, trivial, alg_DwIn, trivial, alg_DwOut, trivial, alg_DwPgate, trivial, alg_DwPle, trivial, alg_Da, trivial, alg_Dcat, trivial, alg_MmIn, trivial, alg_MmOut, trivial, alg_MmGateUp, trivial, alg_MmDown, trivial, alg_AdamIn, trivial, alg_AdamOut, trivial, alg_AdamGate, trivial, alg_AdamDown, trivial, alg_AdamPle, trivial, alg_AdamVec, trivial, alg_AdamHalf, trivial, alg_AdamDw⟩

end Cert.Proof

end
